-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scaled [hPre_scaled : Cert.Pre_scaled.Facts] (m : (ℓ : Loc Cert.KernelIdeal.nD Cert.KernelIdeal.τ Cert.KernelIdeal.sig) → Buf (Elt Ideal) ℓ) : Prop :=
  ∀ c : Dev Cert.KernelIdeal.nD,
    (Cert.Pre_scaled.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_KernelIdeal_bounded [hPre_bounded : Cert.Pre_bounded.Facts] (m : (ℓ : Loc Cert.KernelIdeal.nD Cert.KernelIdeal.τ Cert.KernelIdeal.sig) → Buf (Elt Ideal) ℓ) : Prop :=
  ∀ c : Dev Cert.KernelIdeal.nD,
    (Cert.Pre_bounded.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scaled [hPre_scaled : Cert.Pre_scaled.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scaled.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def Pre_ReferenceIdeal_bounded [hPre_bounded : Cert.Pre_bounded.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_bounded.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_scaled [hKernelIdeal : Cert.KernelIdeal.Facts] [hPre_scaled : Cert.Pre_scaled.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scaled m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_bounded [hKernelIdeal : Cert.KernelIdeal.Facts] [hPre_bounded : Cert.Pre_bounded.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_bounded m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_scaled [hReferenceIdeal : Cert.ReferenceIdeal.Facts] [hPre_scaled : Cert.Pre_scaled.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scaled m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_bounded [hReferenceIdeal : Cert.ReferenceIdeal.Facts] [hPre_bounded : Cert.Pre_bounded.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_bounded m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal_on_only_dbeta_pre_scaled [hKernelIdeal : Cert.KernelIdeal.Facts] [hReferenceIdeal : Cert.ReferenceIdeal.Facts] [hPre_scaled : Cert.Pre_scaled.Facts] [hOn_only_dbeta : Cert.On_only_dbeta.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scaled m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v15)) (v1 : (c : Dev Cert.KernelIdeal.nD) → Buf (Elt Ideal) ((c.tc : Thread Cert.KernelIdeal.nD Cert.KernelIdeal.τ).loc Cert.KernelIdeal.main_v16)) (v2 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨3, ![1024, 49, 2048]⟩ : Shape).Idx, (Cert.On_only_dbeta.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 i = 1#1 → r.2.mem ((c.tc : Thread Cert.KernelIdeal.nD Cert.KernelIdeal.τ).loc Cert.KernelIdeal.main_v15) i = v0 c i)
          ∧ (∀ i : (⟨1, ![2048]⟩ : Shape).Idx, (Cert.On_only_dbeta.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 i = 1#1 → r.2.mem ((c.tc : Thread Cert.KernelIdeal.nD Cert.KernelIdeal.τ).loc Cert.KernelIdeal.main_v16) i = v1 c i)
          ∧ (∀ i : (⟨1, ![2048]⟩ : Shape).Idx, (Cert.On_only_dbeta.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2 i = 1#1 → r.2.mem ((c.tc : Thread Cert.KernelIdeal.nD Cert.KernelIdeal.τ).loc Cert.KernelIdeal.main_v17) i = v2 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨3, ![1024, 49, 2048]⟩ : Shape).Idx, (Cert.On_only_dbeta.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 i = 1#1 → r.2.mem ((c.tc : Thread Cert.ReferenceIdeal.nD Cert.ReferenceIdeal.τ).loc Cert.ReferenceIdeal.main_v44) i = v0 c i)
          ∧ (∀ i : (⟨1, ![2048]⟩ : Shape).Idx, (Cert.On_only_dbeta.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 i = 1#1 → r.2.mem ((c.tc : Thread Cert.ReferenceIdeal.nD Cert.ReferenceIdeal.τ).loc Cert.ReferenceIdeal.main_v28) i = v1 c i)
          ∧ (∀ i : (⟨1, ![2048]⟩ : Shape).Idx, (Cert.On_only_dbeta.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2 i = 1#1 → r.2.mem ((c.tc : Thread Cert.ReferenceIdeal.nD Cert.ReferenceIdeal.τ).loc Cert.ReferenceIdeal.main_v26) i = v2 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def algebraic_KernelIdeal_ReferenceIdeal_on_only_dgamma_pre_finite [hKernelIdeal : Cert.KernelIdeal.Facts] [hReferenceIdeal : Cert.ReferenceIdeal.Facts] [hPre_finite : Cert.Pre_finite.Facts] [hOn_only_dgamma : Cert.On_only_dgamma.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v15)) (v1 : (c : Dev Cert.KernelIdeal.nD) → Buf (Elt Ideal) ((c.tc : Thread Cert.KernelIdeal.nD Cert.KernelIdeal.τ).loc Cert.KernelIdeal.main_v16)) (v2 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨3, ![1024, 49, 2048]⟩ : Shape).Idx, (Cert.On_only_dgamma.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 i = 1#1 → r.2.mem ((c.tc : Thread Cert.KernelIdeal.nD Cert.KernelIdeal.τ).loc Cert.KernelIdeal.main_v15) i = v0 c i)
          ∧ (∀ i : (⟨1, ![2048]⟩ : Shape).Idx, (Cert.On_only_dgamma.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 i = 1#1 → r.2.mem ((c.tc : Thread Cert.KernelIdeal.nD Cert.KernelIdeal.τ).loc Cert.KernelIdeal.main_v16) i = v1 c i)
          ∧ (∀ i : (⟨1, ![2048]⟩ : Shape).Idx, (Cert.On_only_dgamma.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2 i = 1#1 → r.2.mem ((c.tc : Thread Cert.KernelIdeal.nD Cert.KernelIdeal.τ).loc Cert.KernelIdeal.main_v17) i = v2 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨3, ![1024, 49, 2048]⟩ : Shape).Idx, (Cert.On_only_dgamma.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 i = 1#1 → r.2.mem ((c.tc : Thread Cert.ReferenceIdeal.nD Cert.ReferenceIdeal.τ).loc Cert.ReferenceIdeal.main_v44) i = v0 c i)
          ∧ (∀ i : (⟨1, ![2048]⟩ : Shape).Idx, (Cert.On_only_dgamma.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 i = 1#1 → r.2.mem ((c.tc : Thread Cert.ReferenceIdeal.nD Cert.ReferenceIdeal.τ).loc Cert.ReferenceIdeal.main_v28) i = v1 c i)
          ∧ (∀ i : (⟨1, ![2048]⟩ : Shape).Idx, (Cert.On_only_dgamma.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2 i = 1#1 → r.2.mem ((c.tc : Thread Cert.ReferenceIdeal.nD Cert.ReferenceIdeal.τ).loc Cert.ReferenceIdeal.main_v26) i = v2 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def algebraic_KernelIdeal_ReferenceIdeal_on_only_dx_pre_bounded [hKernelIdeal : Cert.KernelIdeal.Facts] [hReferenceIdeal : Cert.ReferenceIdeal.Facts] [hPre_bounded : Cert.Pre_bounded.Facts] [hOn_only_dx : Cert.On_only_dx.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_bounded m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v15)) (v1 : (c : Dev Cert.KernelIdeal.nD) → Buf (Elt Ideal) ((c.tc : Thread Cert.KernelIdeal.nD Cert.KernelIdeal.τ).loc Cert.KernelIdeal.main_v16)) (v2 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨3, ![1024, 49, 2048]⟩ : Shape).Idx, (Cert.On_only_dx.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 i = 1#1 → r.2.mem ((c.tc : Thread Cert.KernelIdeal.nD Cert.KernelIdeal.τ).loc Cert.KernelIdeal.main_v15) i = v0 c i)
          ∧ (∀ i : (⟨1, ![2048]⟩ : Shape).Idx, (Cert.On_only_dx.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 i = 1#1 → r.2.mem ((c.tc : Thread Cert.KernelIdeal.nD Cert.KernelIdeal.τ).loc Cert.KernelIdeal.main_v16) i = v1 c i)
          ∧ (∀ i : (⟨1, ![2048]⟩ : Shape).Idx, (Cert.On_only_dx.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2 i = 1#1 → r.2.mem ((c.tc : Thread Cert.KernelIdeal.nD Cert.KernelIdeal.τ).loc Cert.KernelIdeal.main_v17) i = v2 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨3, ![1024, 49, 2048]⟩ : Shape).Idx, (Cert.On_only_dx.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 i = 1#1 → r.2.mem ((c.tc : Thread Cert.ReferenceIdeal.nD Cert.ReferenceIdeal.τ).loc Cert.ReferenceIdeal.main_v44) i = v0 c i)
          ∧ (∀ i : (⟨1, ![2048]⟩ : Shape).Idx, (Cert.On_only_dx.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 i = 1#1 → r.2.mem ((c.tc : Thread Cert.ReferenceIdeal.nD Cert.ReferenceIdeal.τ).loc Cert.ReferenceIdeal.main_v28) i = v1 c i)
          ∧ (∀ i : (⟨1, ![2048]⟩ : Shape).Idx, (Cert.On_only_dx.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2 i = 1#1 → r.2.mem ((c.tc : Thread Cert.ReferenceIdeal.nD Cert.ReferenceIdeal.τ).loc Cert.ReferenceIdeal.main_v26) i = v2 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_scaled : Cert.Pre_scaled.Facts) (hPre_finite : Cert.Pre_finite.Facts) (hPre_bounded : Cert.Pre_bounded.Facts) (hOn_only_dbeta : Cert.On_only_dbeta.Facts) (hOn_only_dgamma : Cert.On_only_dgamma.Facts) (hOn_only_dx : Cert.On_only_dx.Facts),
    quiescent_Kernel (hKernel := hKernel)
    ∧ quiescent_KernelIdeal (hKernelIdeal := hKernelIdeal)
    ∧ quiescent_KernelIdeal_pre_scaled (hKernelIdeal := hKernelIdeal) (hPre_scaled := hPre_scaled)
    ∧ quiescent_KernelIdeal_pre_finite (hKernelIdeal := hKernelIdeal) (hPre_finite := hPre_finite)
    ∧ quiescent_KernelIdeal_pre_bounded (hKernelIdeal := hKernelIdeal) (hPre_bounded := hPre_bounded)
    ∧ quiescent_ReferenceIdeal (hReferenceIdeal := hReferenceIdeal)
    ∧ quiescent_ReferenceIdeal_pre_scaled (hReferenceIdeal := hReferenceIdeal) (hPre_scaled := hPre_scaled)
    ∧ quiescent_ReferenceIdeal_pre_finite (hReferenceIdeal := hReferenceIdeal) (hPre_finite := hPre_finite)
    ∧ quiescent_ReferenceIdeal_pre_bounded (hReferenceIdeal := hReferenceIdeal) (hPre_bounded := hPre_bounded)
    ∧ preserves_Kernel_KernelIdeal
    ∧ algebraic_KernelIdeal_ReferenceIdeal_on_only_dbeta_pre_scaled (hKernelIdeal := hKernelIdeal) (hReferenceIdeal := hReferenceIdeal) (hPre_scaled := hPre_scaled) (hOn_only_dbeta := hOn_only_dbeta)
    ∧ algebraic_KernelIdeal_ReferenceIdeal_on_only_dgamma_pre_finite (hKernelIdeal := hKernelIdeal) (hReferenceIdeal := hReferenceIdeal) (hPre_finite := hPre_finite) (hOn_only_dgamma := hOn_only_dgamma)
    ∧ algebraic_KernelIdeal_ReferenceIdeal_on_only_dx_pre_bounded (hKernelIdeal := hKernelIdeal) (hReferenceIdeal := hReferenceIdeal) (hPre_bounded := hPre_bounded) (hOn_only_dx := hOn_only_dx)
-- ==== On_only_dbeta.lean ====
abbrev S1024x49x2048 : Shape := ⟨3, ![1024, 49, 2048]⟩
abbrev S_ : Shape := ⟨0, ![]⟩
abbrev S1024x49x256 : Shape := ⟨3, ![1024, 49, 256]⟩
abbrev S2048 : Shape := ⟨1, ![2048]⟩

class Facts : Prop where
  bcast_S_S1024x49x2048 : S_.BroadcastsInDim S1024x49x2048 (![] : Fin 0 → Fin S1024x49x2048.rank)
  bcast_S_S2048 : S_.BroadcastsInDim S2048 (![] : Fin 0 → Fin S2048.rank)

variable [Facts]

def fn {F : FTy → Type} [FloatOps F] (main_arg0 : IVec S1024x49x2048 8) (main_arg1 : FVec F S_ .f32) (main_arg2 : IVec S1024x49x2048 8) (main_arg3 : FVec F S_ .f32) (main_arg4 : IVec S1024x49x256 8) (main_arg5 : FVec F S2048 .f32) (main_arg6 : FVec F S2048 .f32) (main_arg7 : FVec F S2048 .f32) : IVec S1024x49x2048 1 × IVec S2048 1 × IVec S2048 1 :=
  let main_c : IVec S_ 1 := constantI S_ 1 0#1
  let main_v0 : IVec S1024x49x2048 1 := broadcastInDim S1024x49x2048 ![] bcast_S_S1024x49x2048 main_c
  let main_c_0 : IVec S_ 1 := constantI S_ 1 0#1
  let main_v1 : IVec S2048 1 := broadcastInDim S2048 ![] bcast_S_S2048 main_c_0
  let main_c_1 : IVec S_ 1 := constantI S_ 1 1#1
  let main_v2 : IVec S2048 1 := broadcastInDim S2048 ![] bcast_S_S2048 main_c_1
  (main_v0, main_v1, main_v2)
-- ==== On_only_dgamma.lean ====
abbrev S1024x49x2048 : Shape := ⟨3, ![1024, 49, 2048]⟩
abbrev S_ : Shape := ⟨0, ![]⟩
abbrev S1024x49x256 : Shape := ⟨3, ![1024, 49, 256]⟩
abbrev S2048 : Shape := ⟨1, ![2048]⟩

class Facts : Prop where
  bcast_S_S1024x49x2048 : S_.BroadcastsInDim S1024x49x2048 (![] : Fin 0 → Fin S1024x49x2048.rank)
  bcast_S_S2048 : S_.BroadcastsInDim S2048 (![] : Fin 0 → Fin S2048.rank)

variable [Facts]

def fn {F : FTy → Type} [FloatOps F] (main_arg0 : IVec S1024x49x2048 8) (main_arg1 : FVec F S_ .f32) (main_arg2 : IVec S1024x49x2048 8) (main_arg3 : FVec F S_ .f32) (main_arg4 : IVec S1024x49x256 8) (main_arg5 : FVec F S2048 .f32) (main_arg6 : FVec F S2048 .f32) (main_arg7 : FVec F S2048 .f32) : IVec S1024x49x2048 1 × IVec S2048 1 × IVec S2048 1 :=
  let main_c : IVec S_ 1 := constantI S_ 1 0#1
  let main_v0 : IVec S1024x49x2048 1 := broadcastInDim S1024x49x2048 ![] bcast_S_S1024x49x2048 main_c
  let main_c_0 : IVec S_ 1 := constantI S_ 1 1#1
  let main_v1 : IVec S2048 1 := broadcastInDim S2048 ![] bcast_S_S2048 main_c_0
  let main_c_1 : IVec S_ 1 := constantI S_ 1 0#1
  let main_v2 : IVec S2048 1 := broadcastInDim S2048 ![] bcast_S_S2048 main_c_1
  (main_v0, main_v1, main_v2)
-- ==== On_only_dx.lean ====
abbrev S1024x49x2048 : Shape := ⟨3, ![1024, 49, 2048]⟩
abbrev S_ : Shape := ⟨0, ![]⟩
abbrev S1024x49x256 : Shape := ⟨3, ![1024, 49, 256]⟩
abbrev S2048 : Shape := ⟨1, ![2048]⟩

class Facts : Prop where
  bcast_S_S1024x49x2048 : S_.BroadcastsInDim S1024x49x2048 (![] : Fin 0 → Fin S1024x49x2048.rank)
  bcast_S_S2048 : S_.BroadcastsInDim S2048 (![] : Fin 0 → Fin S2048.rank)

variable [Facts]

def fn {F : FTy → Type} [FloatOps F] (main_arg0 : IVec S1024x49x2048 8) (main_arg1 : FVec F S_ .f32) (main_arg2 : IVec S1024x49x2048 8) (main_arg3 : FVec F S_ .f32) (main_arg4 : IVec S1024x49x256 8) (main_arg5 : FVec F S2048 .f32) (main_arg6 : FVec F S2048 .f32) (main_arg7 : FVec F S2048 .f32) : IVec S1024x49x2048 1 × IVec S2048 1 × IVec S2048 1 :=
  let main_c : IVec S_ 1 := constantI S_ 1 1#1
  let main_v0 : IVec S1024x49x2048 1 := broadcastInDim S1024x49x2048 ![] bcast_S_S1024x49x2048 main_c
  let main_c_0 : IVec S_ 1 := constantI S_ 1 0#1
  let main_v1 : IVec S2048 1 := broadcastInDim S2048 ![] bcast_S_S2048 main_c_0
  let main_c_1 : IVec S_ 1 := constantI S_ 1 0#1
  let main_v2 : IVec S2048 1 := broadcastInDim S2048 ![] bcast_S_S2048 main_c_1
  (main_v0, main_v1, main_v2)
-- ==== Pre_bounded.lean ====
abbrev S1024x49x2048 : Shape := ⟨3, ![1024, 49, 2048]⟩
abbrev S_ : Shape := ⟨0, ![]⟩
abbrev S1024x49x256 : Shape := ⟨3, ![1024, 49, 256]⟩
abbrev S2048 : Shape := ⟨1, ![2048]⟩

class Facts : Prop where
  natLt_8_32 : 8 < 32
  bcast_S_S1024x49x2048 : S_.BroadcastsInDim S1024x49x2048 (![] : Fin 0 → Fin S1024x49x2048.rank)
  reducesTo_S1024x49x2048_S_d0_1_2 : S1024x49x2048.ReducesTo [0, 1, 2] S_
  h_S_ : 0 < S_.numel
  bcast_S_S2048 : S_.BroadcastsInDim S2048 (![] : Fin 0 → Fin S2048.rank)
  reducesTo_S2048_S_d0 : S2048.ReducesTo [0] S_

variable [Facts]

def fn_part1 {F : FTy → Type} [FloatOps F] (main_arg5 : FVec F S2048 .f32) (main_arg6 : FVec F S2048 .f32) (main_arg7 : FVec F S2048 .f32) (main_v15 : IVec S_ 1) (main_v16 : FVec F S_ .f32) : IVec S_ 1 :=
  let main_cst_5 : FVec F S_ .f32 := constant S_ .f32 0x7F800000#32
  let main_v17 : IVec S_ 1 := cmpf .olt main_v16 main_cst_5
  let main_v18 : IVec S_ 1 := andi main_v15 main_v17
  let main_v19 : FVec F S2048 .f32 := Host.absf main_arg5
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  let main_v24 : FVec F S2048 .f32 := Host.absf main_arg6
  let main_cst_8 : FVec F S_ .f32 := constant S_ .f32 0x7F800000#32
  let main_v25 : FVec F S2048 .f32 := broadcastInDim S2048 ![] bcast_S_S2048 main_cst_8
  let main_v26 : IVec S2048 1 := cmpf .olt main_v24 main_v25
  let main_c_9 : IVec S_ 1 := constantI S_ 1 1#1
  let main_v27 : IVec S_ 1 := (fun x v => Host.reduce IntOp.andi x v reducesTo_S2048_S_d0 h_S_) main_v26 main_c_9
  let main_v28 : IVec S_ 1 := andi main_v23 main_v27
  let main_v29 : FVec F S2048 .f32 := Host.absf main_arg7
  let main_cst_10 : FVec F S_ .f32 := constant S_ .f32 0x7F800000#32
  let main_v30 : FVec F S2048 .f32 := broadcastInDim S2048 ![] bcast_S_S2048 main_cst_10
  let main_v31 : IVec S2048 1 := cmpf .olt main_v29 main_v30
  let main_c_11 : IVec S_ 1 := constantI S_ 1 1#1
  let main_v32 : IVec S_ 1 := (fun x v => Host.reduce IntOp.andi x v reducesTo_S2048_S_d0 h_S_) main_v31 main_c_11
  let main_v33 : IVec S_ 1 := andi main_v28 main_v32
  main_v33

def fn {F : FTy → Type} [FloatOps F] (main_arg0 : IVec S1024x49x2048 8) (main_arg1 : FVec F S_ .f32) (main_arg2 : IVec S1024x49x2048 8) (main_arg3 : FVec F S_ .f32) (main_arg4 : IVec S1024x49x256 8) (main_arg5 : FVec F S2048 .f32) (main_arg6 : FVec F S2048 .f32) (main_arg7 : FVec F S2048 .f32) : IVec S_ 1 :=
  let main_v0 : IVec S1024x49x2048 32 := (extui 32 · natLt_8_32) main_arg0
  let main_c : IVec S_ 32 := constantI S_ 32 127#32
  let main_v1 : IVec S1024x49x2048 32 := broadcastInDim S1024x49x2048 ![] bcast_S_S1024x49x2048 main_c
  let main_v2 : IVec S1024x49x2048 32 := andi main_v0 main_v1
  let main_c_0 : IVec S_ 32 := constantI S_ 32 127#32
  let main_v3 : IVec S1024x49x2048 32 := broadcastInDim S1024x49x2048 ![] bcast_S_S1024x49x2048 main_c_0
  let main_v4 : IVec S1024x49x2048 1 := cmpi .ne main_v2 main_v3
  let main_c_1 : IVec S_ 1 := constantI S_ 1 1#1
  let main_v5 : IVec S_ 1 := (fun x v => Host.reduce IntOp.andi x v reducesTo_S1024x49x2048_S_d0_1_2 h_S_) main_v4 main_c_1
  let main_v6 : IVec S1024x49x2048 32 := (extui 32 · natLt_8_32) main_arg2
  let main_c_2 : IVec S_ 32 := constantI S_ 32 124#32
  let main_v7 : IVec S1024x49x2048 32 := broadcastInDim S1024x49x2048 ![] bcast_S_S1024x49x2048 main_c_2
  let main_v8 : IVec S1024x49x2048 32 := andi main_v6 main_v7
  let main_c_3 : IVec S_ 32 := constantI S_ 32 124#32
  let main_v9 : IVec S1024x49x2048 32 := broadcastInDim S1024x49x2048 ![] bcast_S_S1024x49x2048 main_c_3
  let main_v10 : IVec S1024x49x2048 1 := cmpi .ne main_v8 main_v9
  let main_c_4 : IVec S_ 1 := constantI S_ 1 1#1
  let main_v11 : IVec S_ 1 := (fun x v => Host.reduce IntOp.andi x v reducesTo_S1024x49x2048_S_d0_1_2 h_S_) main_v10 main_c_4
  let main_v12 : IVec S_ 1 := andi main_v5 main_v11
  let main_v13 : FVec F S_ .f32 := Host.absf main_arg1
  let main_cst : FVec F S_ .f32 := constant S_ .f32 0x7F800000#32
  let main_v14 : IVec S_ 1 := cmpf .olt main_v13 main_cst
  let main_v15 : IVec S_ 1 := andi main_v12 main_v14
  let main_v16 : FVec F S_ .f32 := Host.absf main_arg3
  fn_part1 (F := F) main_arg5 main_arg6 main_arg7 main_v15 main_v16
-- ==== Pre_finite.lean ====
abbrev S1024x49x2048 : Shape := ⟨3, ![1024, 49, 2048]⟩
abbrev S_ : Shape := ⟨0, ![]⟩
abbrev S1024x49x256 : Shape := ⟨3, ![1024, 49, 256]⟩
abbrev S2048 : Shape := ⟨1, ![2048]⟩

class Facts : Prop where
  natLt_8_32 : 8 < 32
  bcast_S_S1024x49x2048 : S_.BroadcastsInDim S1024x49x2048 (![] : Fin 0 → Fin S1024x49x2048.rank)
  reducesTo_S1024x49x2048_S_d0_1_2 : S1024x49x2048.ReducesTo [0, 1, 2] S_
  h_S_ : 0 < S_.numel
  bcast_S_S2048 : S_.BroadcastsInDim S2048 (![] : Fin 0 → Fin S2048.rank)
  reducesTo_S2048_S_d0 : S2048.ReducesTo [0] S_

variable [Facts]

def fn_part1 {F : FTy → Type} [FloatOps F] (main_arg5 : FVec F S2048 .f32) (main_arg6 : FVec F S2048 .f32) (main_v15 : IVec S_ 1) (main_v16 : FVec F S_ .f32) : IVec S_ 1 :=
  let main_cst_5 : FVec F S_ .f32 := constant S_ .f32 0x7F800000#32
  let main_v17 : IVec S_ 1 := cmpf .olt main_v16 main_cst_5
  let main_v18 : IVec S_ 1 := andi main_v15 main_v17
  let main_v19 : FVec F S2048 .f32 := Host.absf main_arg5
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  let main_v24 : FVec F S2048 .f32 := Host.absf main_arg6
  let main_cst_8 : FVec F S_ .f32 := constant S_ .f32 0x7F800000#32
  let main_v25 : FVec F S2048 .f32 := broadcastInDim S2048 ![] bcast_S_S2048 main_cst_8
  let main_v26 : IVec S2048 1 := cmpf .olt main_v24 main_v25
  let main_c_9 : IVec S_ 1 := constantI S_ 1 1#1
  let main_v27 : IVec S_ 1 := (fun x v => Host.reduce IntOp.andi x v reducesTo_S2048_S_d0 h_S_) main_v26 main_c_9
  let main_v28 : IVec S_ 1 := andi main_v23 main_v27
  main_v28

def fn {F : FTy → Type} [FloatOps F] (main_arg0 : IVec S1024x49x2048 8) (main_arg1 : FVec F S_ .f32) (main_arg2 : IVec S1024x49x2048 8) (main_arg3 : FVec F S_ .f32) (main_arg4 : IVec S1024x49x256 8) (main_arg5 : FVec F S2048 .f32) (main_arg6 : FVec F S2048 .f32) (main_arg7 : FVec F S2048 .f32) : IVec S_ 1 :=
  let main_v0 : IVec S1024x49x2048 32 := (extui 32 · natLt_8_32) main_arg0
  let main_c : IVec S_ 32 := constantI S_ 32 127#32
  let main_v1 : IVec S1024x49x2048 32 := broadcastInDim S1024x49x2048 ![] bcast_S_S1024x49x2048 main_c
  let main_v2 : IVec S1024x49x2048 32 := andi main_v0 main_v1
  let main_c_0 : IVec S_ 32 := constantI S_ 32 127#32
  let main_v3 : IVec S1024x49x2048 32 := broadcastInDim S1024x49x2048 ![] bcast_S_S1024x49x2048 main_c_0
  let main_v4 : IVec S1024x49x2048 1 := cmpi .ne main_v2 main_v3
  let main_c_1 : IVec S_ 1 := constantI S_ 1 1#1
  let main_v5 : IVec S_ 1 := (fun x v => Host.reduce IntOp.andi x v reducesTo_S1024x49x2048_S_d0_1_2 h_S_) main_v4 main_c_1
  let main_v6 : IVec S1024x49x2048 32 := (extui 32 · natLt_8_32) main_arg2
  let main_c_2 : IVec S_ 32 := constantI S_ 32 124#32
  let main_v7 : IVec S1024x49x2048 32 := broadcastInDim S1024x49x2048 ![] bcast_S_S1024x49x2048 main_c_2
  let main_v8 : IVec S1024x49x2048 32 := andi main_v6 main_v7
  let main_c_3 : IVec S_ 32 := constantI S_ 32 124#32
  let main_v9 : IVec S1024x49x2048 32 := broadcastInDim S1024x49x2048 ![] bcast_S_S1024x49x2048 main_c_3
  let main_v10 : IVec S1024x49x2048 1 := cmpi .ne main_v8 main_v9
  let main_c_4 : IVec S_ 1 := constantI S_ 1 1#1
  let main_v11 : IVec S_ 1 := (fun x v => Host.reduce IntOp.andi x v reducesTo_S1024x49x2048_S_d0_1_2 h_S_) main_v10 main_c_4
  let main_v12 : IVec S_ 1 := andi main_v5 main_v11
  let main_v13 : FVec F S_ .f32 := Host.absf main_arg1
  let main_cst : FVec F S_ .f32 := constant S_ .f32 0x7F800000#32
  let main_v14 : IVec S_ 1 := cmpf .olt main_v13 main_cst
  let main_v15 : IVec S_ 1 := andi main_v12 main_v14
  let main_v16 : FVec F S_ .f32 := Host.absf main_arg3
  fn_part1 (F := F) main_arg5 main_arg6 main_v15 main_v16
-- ==== Pre_scaled.lean ====
abbrev S1024x49x2048 : Shape := ⟨3, ![1024, 49, 2048]⟩
abbrev S_ : Shape := ⟨0, ![]⟩
abbrev S1024x49x256 : Shape := ⟨3, ![1024, 49, 256]⟩
abbrev S2048 : Shape := ⟨1, ![2048]⟩

class Facts : Prop where

variable [Facts]

def fn {F : FTy → Type} [FloatOps F] (main_arg0 : IVec S1024x49x2048 8) (main_arg1 : FVec F S_ .f32) (main_arg2 : IVec S1024x49x2048 8) (main_arg3 : FVec F S_ .f32) (main_arg4 : IVec S1024x49x256 8) (main_arg5 : FVec F S2048 .f32) (main_arg6 : FVec F S2048 .f32) (main_arg7 : FVec F S2048 .f32) : IVec S_ 1 :=
  let main_cst : FVec F S_ .f32 := constant S_ .f32 0x00000000#32
  let main_v0 : IVec S_ 1 := cmpf .oge main_arg3 main_cst
  let main_cst_0 : FVec F S_ .f32 := constant S_ .f32 0x7F800000#32
  let main_v1 : IVec S_ 1 := cmpf .olt main_arg3 main_cst_0
  let main_v2 : IVec S_ 1 := andi main_v0 main_v1
  main_v2
-- ==== Kernel.lean ====
abbrev S1024x49x2048 : Shape := ⟨3, ![1024, 49, 2048]⟩
abbrev S_ : Shape := ⟨0, ![]⟩
abbrev S1024x49x256 : Shape := ⟨3, ![1024, 49, 256]⟩
abbrev S2048 : Shape := ⟨1, ![2048]⟩
abbrev S1 : Shape := ⟨1, ![1]⟩
abbrev S49x1024x2048 : Shape := ⟨3, ![49, 1024, 2048]⟩
abbrev S50176x2048 : Shape := ⟨2, ![50176, 2048]⟩
abbrev S49x1024x256 : Shape := ⟨3, ![49, 1024, 256]⟩
abbrev S50176x256 : Shape := ⟨2, ![50176, 256]⟩
abbrev S16x128 : Shape := ⟨2, ![16, 128]⟩
abbrev S31x1792x256 : Shape := ⟨3, ![31, 1792, 256]⟩
abbrev S28x1792x128 : Shape := ⟨3, ![28, 1792, 128]⟩
abbrev S2x2x1792x128 : Shape := ⟨4, ![2, 2, 1792, 128]⟩
abbrev S2x8x128 : Shape := ⟨3, ![2, 8, 128]⟩
abbrev S6x8x128 : Shape := ⟨3, ![6, 8, 128]⟩
abbrev S3 : Shape := ⟨1, ![3]⟩
abbrev S28 : Shape := ⟨1, ![28]⟩
abbrev S2 : Shape := ⟨1, ![2]⟩
abbrev S8x128 : Shape := ⟨2, ![8, 128]⟩
abbrev S1x1792x256 : Shape := ⟨3, ![1, 1792, 256]⟩
abbrev S1792x256 : Shape := ⟨2, ![1792, 256]⟩
abbrev S1x1792x128 : Shape := ⟨3, ![1, 1792, 128]⟩
abbrev S1792x128 : Shape := ⟨2, ![1792, 128]⟩
abbrev S1x32x128 : Shape := ⟨3, ![1, 32, 128]⟩
abbrev S32x128 : Shape := ⟨2, ![32, 128]⟩
abbrev S8x128x1 : Shape := ⟨3, ![8, 128, 1]⟩
abbrev S1x8x128 : Shape := ⟨3, ![1, 8, 128]⟩
abbrev S1x128 : Shape := ⟨2, ![1, 128]⟩
abbrev S128 : Shape := ⟨1, ![128]⟩
abbrev S1x1x1792x128 : Shape := ⟨4, ![1, 1, 1792, 128]⟩
abbrev S1x1x128 : Shape := ⟨3, ![1, 1, 128]⟩
abbrev S1x1x32x128 : Shape := ⟨4, ![1, 1, 32, 128]⟩

abbrev nBuf : Space → Nat
  | .hbm => 28
  | .vmem => 12
  | .smem => 2
  | _ => 0

abbrev bufTy : (tb : Table) → Fin (tcTables nBuf tb) → BufTy
  | .hbm, ⟨0, _⟩ => ⟨S1024x49x2048, .i8⟩
  | .hbm, ⟨1, _⟩ => ⟨S_, .f32⟩
  | .hbm, ⟨2, _⟩ => ⟨S1024x49x2048, .i8⟩
  | .hbm, ⟨3, _⟩ => ⟨S_, .f32⟩
  | .hbm, ⟨4, _⟩ => ⟨S1024x49x256, .i8⟩
  | .hbm, ⟨5, _⟩ => ⟨S2048, .f32⟩
  | .hbm, ⟨6, _⟩ => ⟨S2048, .f32⟩
  | .hbm, ⟨7, _⟩ => ⟨S2048, .f32⟩
  | .hbm, ⟨8, _⟩ => ⟨S1024x49x2048, .fp8e4m3⟩
  | .hbm, ⟨9, _⟩ => ⟨S1024x49x2048, .fp8e5m2⟩
  | .hbm, ⟨10, _⟩ => ⟨S1, .f32⟩
  | .hbm, ⟨11, _⟩ => ⟨S1, .f32⟩
  | .hbm, ⟨12, _⟩ => ⟨S49x1024x2048, .fp8e4m3⟩
  | .hbm, ⟨13, _⟩ => ⟨S50176x2048, .fp8e4m3⟩
  | .hbm, ⟨14, _⟩ => ⟨S49x1024x2048, .fp8e5m2⟩
  | .hbm, ⟨15, _⟩ => ⟨S50176x2048, .fp8e5m2⟩
  | .hbm, ⟨16, _⟩ => ⟨S49x1024x256, .i8⟩
  | .hbm, ⟨17, _⟩ => ⟨S50176x256, .i8⟩
  | .hbm, ⟨18, _⟩ => ⟨S16x128, .f32⟩
  | .hbm, ⟨19, _⟩ => ⟨S16x128, .f32⟩
  | .hbm, ⟨20, _⟩ => ⟨S16x128, .f32⟩
  | .hbm, ⟨21, _⟩ => ⟨S50176x2048, .bf16⟩
  | .hbm, ⟨22, _⟩ => ⟨S16x128, .f32⟩
  | .hbm, ⟨23, _⟩ => ⟨S16x128, .f32⟩
  | .hbm, ⟨24, _⟩ => ⟨S49x1024x2048, .bf16⟩
  | .hbm, ⟨25, _⟩ => ⟨S1024x49x2048, .bf16⟩
  | .hbm, ⟨26, _⟩ => ⟨S2048, .f32⟩
  | .hbm, ⟨27, _⟩ => ⟨S2048, .f32⟩
  | .local _ .vmem, ⟨0, _⟩ => ⟨S16x128, .f32⟩
  | .local _ .vmem, ⟨1, _⟩ => ⟨S16x128, .f32⟩
  | .local _ .vmem, ⟨2, _⟩ => ⟨S16x128, .f32⟩
  | .local _ .vmem, ⟨3, _⟩ => ⟨S16x128, .f32⟩
  | .local _ .vmem, ⟨4, _⟩ => ⟨S16x128, .f32⟩
  | .local _ .vmem, ⟨5, _⟩ => ⟨S31x1792x256, .fp8e4m3⟩
  | .local _ .vmem, ⟨6, _⟩ => ⟨S31x1792x256, .fp8e5m2⟩
  | .local _ .vmem, ⟨7, _⟩ => ⟨S28x1792x128, .i8⟩
  | .local _ .vmem, ⟨8, _⟩ => ⟨S2x2x1792x128, .bf16⟩
  | .local _ .vmem, ⟨9, _⟩ => ⟨S2x8x128, .f32⟩
  | .local _ .vmem, ⟨10, _⟩ => ⟨S2x8x128, .f32⟩
  | .local _ .vmem, ⟨11, _⟩ => ⟨S6x8x128, .f32⟩
  | .local _ .smem, ⟨0, _⟩ => ⟨S1, .f32⟩
  | .local _ .smem, ⟨1, _⟩ => ⟨S1, .f32⟩
  | _, _ => ⟨S1024x49x2048, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13_0 : Ref sig .tc := ⟨.hbm, 21, rfl⟩
abbrev main_v13_1 : Ref sig .tc := ⟨.hbm, 22, rfl⟩
abbrev main_v13_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev cc0_stg2_0 : Ref sig .tc := ⟨.vmem, 0, rfl⟩
abbrev cc0_stg3_0 : Ref sig .tc := ⟨.vmem, 1, rfl⟩
abbrev cc0_stg4_0 : Ref sig .tc := ⟨.vmem, 2, rfl⟩
abbrev cc0_stg5_0 : Ref sig .tc := ⟨.vmem, 3, rfl⟩
abbrev cc0_stg6_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_scratch3 : Ref sig .tc := ⟨.vmem, 8, rfl⟩
abbrev cc0_scratch4 : Ref sig .tc := ⟨.vmem, 9, rfl⟩
abbrev cc0_scratch5 : Ref sig .tc := ⟨.vmem, 10, rfl⟩
abbrev cc0_scratch6 : Ref sig .tc := ⟨.vmem, 11, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

def k0_mult1 : BitVec 32 :=
  let c0_i32_11 : BitVec 32 := 0#32
  let c28_i32_12 : BitVec 32 := 28#32
  let v30 : BitVec 32 := Scalar.remsi c0_i32_11 c28_i32_12
  let c1792_i32 : BitVec 32 := 1792#32
  let v33 : BitVec 32 := Scalar.muli v30 c1792_i32
  v33
def k0_mult2 : BitVec 32 :=
  let c0_i32 : BitVec 32 := 0#32
  let c0_i32_6 : BitVec 32 := 0#32
  let v14 : BitVec 1 := Scalar.cmpi .sgt c0_i32 c0_i32_6
  let v15 : BitVec 32 := Scalar.extui v14
  let c0_i32_7 : BitVec 32 := 0#32
  let v16 : BitVec 1 := Scalar.cmpi .slt c0_i32 c0_i32_7
  let v17 : BitVec 32 := Scalar.extui v16
  let v18 : BitVec 32 := Scalar.subi v15 v17
  let c28_i32 : BitVec 32 := 28#32
  let c0_i32_8 : BitVec 32 := 0#32
  let v19 : BitVec 1 := Scalar.cmpi .sgt c28_i32 c0_i32_8
  let v20 : BitVec 32 := Scalar.extui v19
  let c0_i32_9 : BitVec 32 := 0#32
  let v21 : BitVec 1 := Scalar.cmpi .slt c28_i32 c0_i32_9
  let v22 : BitVec 32 := Scalar.extui v21
  let v23 : BitVec 32 := Scalar.subi v20 v22
  let v24 : BitVec 1 := Scalar.cmpi .ne v18 v23
  let v25 : BitVec 32 := Scalar.remsi c0_i32 c28_i32
  let c0_i32_10 : BitVec 32 := 0#32
  let v26 : BitVec 1 := Scalar.cmpi .ne v25 c0_i32_10
  let v27 : BitVec 1 := Scalar.andi v24 v26
  let v13 : BitVec 32 := Scalar.divsi c0_i32 c28_i32
  let c1_i32 : BitVec 32 := 1#32
  let v28 : BitVec 32 := Scalar.subi v13 c1_i32
  let v29 : BitVec 32 := Scalar.select v27 v28 v13
  let c256_i32 : BitVec 32 := 256#32
  let v35 : BitVec 32 := Scalar.muli v29 c256_i32
  v35
def k0_off1 (c0_i32_14 : BitVec 32) : Fin 1 → Nat :=
  let c3_i32_15 : BitVec 32 := 3#32
  let v32 : BitVec 32 := Scalar.remsi c0_i32_14 c3_i32_15
  ![v32.toNat]
def k0_off2 (c0_i32_13 : BitVec 32) : Fin 3 → Nat :=
  let c31_i32 : BitVec 32 := 31#32
  let v31 : BitVec 32 := Scalar.remsi c0_i32_13 c31_i32
  let c0_i32_16 : BitVec 32 := 0#32
  let c0_i32_17 : BitVec 32 := 0#32
  ![v31.toNat, 0, 0]
def k0_off3 (c0_i32_11 : BitVec 32) (c0_i32 : BitVec 32) : Fin 2 → Nat :=
  let c28_i32_12 : BitVec 32 := 28#32
  let v30 : BitVec 32 := Scalar.remsi c0_i32_11 c28_i32_12
  let c1792_i32 : BitVec 32 := 1792#32
  let v33 : BitVec 32 := Scalar.muli v30 c1792_i32
  let v34 : BitVec 32 := v33
  let c0_i32_6 : BitVec 32 := 0#32
  let v14 : BitVec 1 := Scalar.cmpi .sgt c0_i32 c0_i32_6
  let v15 : BitVec 32 := Scalar.extui v14
  let c0_i32_7 : BitVec 32 := 0#32
  let v16 : BitVec 1 := Scalar.cmpi .slt c0_i32 c0_i32_7
  let v17 : BitVec 32 := Scalar.extui v16
  let v18 : BitVec 32 := Scalar.subi v15 v17
  let c28_i32 : BitVec 32 := 28#32
  let c0_i32_8 : BitVec 32 := 0#32
  let v19 : BitVec 1 := Scalar.cmpi .sgt c28_i32 c0_i32_8
  let v20 : BitVec 32 := Scalar.extui v19
  let c0_i32_9 : BitVec 32 := 0#32
  let v21 : BitVec 1 := Scalar.cmpi .slt c28_i32 c0_i32_9
  let v22 : BitVec 32 := Scalar.extui v21
  let v23 : BitVec 32 := Scalar.subi v20 v22
  let v24 : BitVec 1 := Scalar.cmpi .ne v18 v23
  let v25 : BitVec 32 := Scalar.remsi c0_i32 c28_i32
  let c0_i32_10 : BitVec 32 := 0#32
  let v26 : BitVec 1 := Scalar.cmpi .ne v25 c0_i32_10
  let v27 : BitVec 1 := Scalar.andi v24 v26
  let v13 : BitVec 32 := Scalar.divsi c0_i32 c28_i32
  let c1_i32 : BitVec 32 := 1#32
  let v28 : BitVec 32 := Scalar.subi v13 c1_i32
  let v29 : BitVec 32 := Scalar.select v27 v28 v13
  let c256_i32 : BitVec 32 := 256#32
  let v35 : BitVec 32 := Scalar.muli v29 c256_i32
  let v36 : BitVec 32 := v35
  ![v34.toNat, v36.toNat]
def k0_off3_at (r : Fin 3) : BitVec 32 × BitVec 32 :=
  if r.val < 1 then
    (0#32, 0#32)
  else
    if r.val < 2 then
      (1#32, 1#32)
    else
      (2#32, 2#32)
def k0_mult3 : BitVec 32 :=
  let c0_i32_20 : BitVec 32 := 0#32
  let c1792_i32_21 : BitVec 32 := 1792#32
  let v47 : BitVec 32 := Scalar.muli c0_i32_20 c1792_i32_21
  v47
def k0_mult4 : BitVec 32 :=
  let c0_i32_22 : BitVec 32 := 0#32
  c0_i32_22
def k0_off4 (c0_i32_20 : BitVec 32) : Fin 2 → Nat :=
  let c1792_i32_21 : BitVec 32 := 1792#32
  let v47 : BitVec 32 := Scalar.muli c0_i32_20 c1792_i32_21
  let v48 : BitVec 32 := v47
  let c0_i32_22 : BitVec 32 := 0#32
  let v49 : BitVec 32 := c0_i32_22
  ![v48.toNat, 0]
def k0_mult5 : BitVec 32 :=
  let c1_i32_35 : BitVec 32 := 1#32
  let c28_i32_36 : BitVec 32 := 28#32
  let v72 : BitVec 32 := Scalar.remsi c1_i32_35 c28_i32_36
  let c1792_i32_41 : BitVec 32 := 1792#32
  let v75 : BitVec 32 := Scalar.muli v72 c1792_i32_41
  v75
def k0_mult6 : BitVec 32 :=
  let c1_i32_27 : BitVec 32 := 1#32
  let c0_i32_29 : BitVec 32 := 0#32
  let v56 : BitVec 1 := Scalar.cmpi .sgt c1_i32_27 c0_i32_29
  let v57 : BitVec 32 := Scalar.extui v56
  let c0_i32_30 : BitVec 32 := 0#32
  let v58 : BitVec 1 := Scalar.cmpi .slt c1_i32_27 c0_i32_30
  let v59 : BitVec 32 := Scalar.extui v58
  let v60 : BitVec 32 := Scalar.subi v57 v59
  let c28_i32_28 : BitVec 32 := 28#32
  let c0_i32_31 : BitVec 32 := 0#32
  let v61 : BitVec 1 := Scalar.cmpi .sgt c28_i32_28 c0_i32_31
  let v62 : BitVec 32 := Scalar.extui v61
  let c0_i32_32 : BitVec 32 := 0#32
  let v63 : BitVec 1 := Scalar.cmpi .slt c28_i32_28 c0_i32_32
  let v64 : BitVec 32 := Scalar.extui v63
  let v65 : BitVec 32 := Scalar.subi v62 v64
  let v66 : BitVec 1 := Scalar.cmpi .ne v60 v65
  let v67 : BitVec 32 := Scalar.remsi c1_i32_27 c28_i32_28
  let c0_i32_33 : BitVec 32 := 0#32
  let v68 : BitVec 1 := Scalar.cmpi .ne v67 c0_i32_33
  let v69 : BitVec 1 := Scalar.andi v66 v68
  let v55 : BitVec 32 := Scalar.divsi c1_i32_27 c28_i32_28
  let c1_i32_34 : BitVec 32 := 1#32
  let v70 : BitVec 32 := Scalar.subi v55 c1_i32_34
  let v71 : BitVec 32 := Scalar.select v69 v70 v55
  let c256_i32_42 : BitVec 32 := 256#32
  let v77 : BitVec 32 := Scalar.muli v71 c256_i32_42
  v77
def k0_mult7 : BitVec 32 :=
  let c1_i32_47 : BitVec 32 := 1#32
  let c1792_i32_48 : BitVec 32 := 1792#32
  let v89 : BitVec 32 := Scalar.muli c1_i32_47 c1792_i32_48
  v89
def k0_mult8 : BitVec 32 :=
  let c0_i32_49 : BitVec 32 := 0#32
  c0_i32_49
def k0_mult9 : BitVec 32 :=
  let c2_i32_61 : BitVec 32 := 2#32
  let c28_i32_62 : BitVec 32 := 28#32
  let v114 : BitVec 32 := Scalar.remsi c2_i32_61 c28_i32_62
  let c1792_i32_67 : BitVec 32 := 1792#32
  let v117 : BitVec 32 := Scalar.muli v114 c1792_i32_67
  v117
def k0_mult10 : BitVec 32 :=
  let c2_i32 : BitVec 32 := 2#32
  let c0_i32_55 : BitVec 32 := 0#32
  let v98 : BitVec 1 := Scalar.cmpi .sgt c2_i32 c0_i32_55
  let v99 : BitVec 32 := Scalar.extui v98
  let c0_i32_56 : BitVec 32 := 0#32
  let v100 : BitVec 1 := Scalar.cmpi .slt c2_i32 c0_i32_56
  let v101 : BitVec 32 := Scalar.extui v100
  let v102 : BitVec 32 := Scalar.subi v99 v101
  let c28_i32_54 : BitVec 32 := 28#32
  let c0_i32_57 : BitVec 32 := 0#32
  let v103 : BitVec 1 := Scalar.cmpi .sgt c28_i32_54 c0_i32_57
  let v104 : BitVec 32 := Scalar.extui v103
  let c0_i32_58 : BitVec 32 := 0#32
  let v105 : BitVec 1 := Scalar.cmpi .slt c28_i32_54 c0_i32_58
  let v106 : BitVec 32 := Scalar.extui v105
  let v107 : BitVec 32 := Scalar.subi v104 v106
  let v108 : BitVec 1 := Scalar.cmpi .ne v102 v107
  let v109 : BitVec 32 := Scalar.remsi c2_i32 c28_i32_54
  let c0_i32_59 : BitVec 32 := 0#32
  let v110 : BitVec 1 := Scalar.cmpi .ne v109 c0_i32_59
  let v111 : BitVec 1 := Scalar.andi v108 v110
  let v97 : BitVec 32 := Scalar.divsi c2_i32 c28_i32_54
  let c1_i32_60 : BitVec 32 := 1#32
  let v112 : BitVec 32 := Scalar.subi v97 c1_i32_60
  let v113 : BitVec 32 := Scalar.select v111 v112 v97
  let c256_i32_68 : BitVec 32 := 256#32
  let v119 : BitVec 32 := Scalar.muli v113 c256_i32_68
  v119
def k0_mult11 : BitVec 32 :=
  let c2_i32_73 : BitVec 32 := 2#32
  let c1792_i32_74 : BitVec 32 := 1792#32
  let v131 : BitVec 32 := Scalar.muli c2_i32_73 c1792_i32_74
  v131
def k0_mult12 : BitVec 32 :=
  let c0_i32_75 : BitVec 32 := 0#32
  c0_i32_75
@[reducible] def k0_t1_loop : Scf.Loop 32 :=
  let c0_i32_80 : BitVec 32 := 0#32
  let c28_i32_81 : BitVec 32 := 28#32
  let v139 : BitVec 32 := Scalar.addi c0_i32_80 c28_i32_81
  let c1_i32_82 : BitVec 32 := 1#32
  ⟨c0_i32_80, v139, c1_i32_82⟩
def k0_mult13 (k0_t1 : Fin k0_t1_loop.trips) : BitVec 32 :=
  let c0_i32_80 : BitVec 32 := 0#32
  let c1_i32_82 : BitVec 32 := 1#32
  let arg21 : BitVec 32 := Scf.iv c0_i32_80 c1_i32_82 k0_t1
  let c28_i32_194 : BitVec 32 := 28#32
  let v335 : BitVec 32 := Scalar.remsi arg21 c28_i32_194
  let c1792_i32_197 : BitVec 32 := 1792#32
  let v338 : BitVec 32 := Scalar.muli v335 c1792_i32_197
  v338
def k0_mult14 (k0_t1 : Fin k0_t1_loop.trips) : BitVec 32 :=
  let c0_i32_80 : BitVec 32 := 0#32
  let c1_i32_82 : BitVec 32 := 1#32
  let arg21 : BitVec 32 := Scf.iv c0_i32_80 c1_i32_82 k0_t1
  let c0_i32_188 : BitVec 32 := 0#32
  let v319 : BitVec 1 := Scalar.cmpi .sgt arg21 c0_i32_188
  let v320 : BitVec 32 := Scalar.extui v319
  let c0_i32_189 : BitVec 32 := 0#32
  let v321 : BitVec 1 := Scalar.cmpi .slt arg21 c0_i32_189
  let v322 : BitVec 32 := Scalar.extui v321
  let v323 : BitVec 32 := Scalar.subi v320 v322
  let c28_i32_187 : BitVec 32 := 28#32
  let c0_i32_190 : BitVec 32 := 0#32
  let v324 : BitVec 1 := Scalar.cmpi .sgt c28_i32_187 c0_i32_190
  let v325 : BitVec 32 := Scalar.extui v324
  let c0_i32_191 : BitVec 32 := 0#32
  let v326 : BitVec 1 := Scalar.cmpi .slt c28_i32_187 c0_i32_191
  let v327 : BitVec 32 := Scalar.extui v326
  let v328 : BitVec 32 := Scalar.subi v325 v327
  let v329 : BitVec 1 := Scalar.cmpi .ne v323 v328
  let v330 : BitVec 32 := Scalar.remsi arg21 c28_i32_187
  let c0_i32_192 : BitVec 32 := 0#32
  let v331 : BitVec 1 := Scalar.cmpi .ne v330 c0_i32_192
  let v332 : BitVec 1 := Scalar.andi v329 v331
  let v318 : BitVec 32 := Scalar.divsi arg21 c28_i32_187
  let c1_i32_193 : BitVec 32 := 1#32
  let v333 : BitVec 32 := Scalar.subi v318 c1_i32_193
  let v334 : BitVec 32 := Scalar.select v332 v333 v318
  let c256_i32_198 : BitVec 32 := 256#32
  let v340 : BitVec 32 := Scalar.muli v334 c256_i32_198
  v340
def k0_off5 (k0_t1 : Fin k0_t1_loop.trips) : Fin 1 → Nat :=
  let c0_i32_80 : BitVec 32 := 0#32
  let c1_i32_82 : BitVec 32 := 1#32
  let arg21 : BitVec 32 := Scf.iv c0_i32_80 c1_i32_82 k0_t1
  let c3_i32_196 : BitVec 32 := 3#32
  let v337 : BitVec 32 := Scalar.remsi arg21 c3_i32_196
  ![v337.toNat]
def k0_off6 (k0_t1 : Fin k0_t1_loop.trips) : Fin 3 → Nat :=
  let c0_i32_80 : BitVec 32 := 0#32
  let c1_i32_82 : BitVec 32 := 1#32
  let arg21 : BitVec 32 := Scf.iv c0_i32_80 c1_i32_82 k0_t1
  let c31_i32_195 : BitVec 32 := 31#32
  let v336 : BitVec 32 := Scalar.remsi arg21 c31_i32_195
  let c0_i32_199 : BitVec 32 := 0#32
  let c0_i32_200 : BitVec 32 := 0#32
  ![v336.toNat, 0, 0]
def k0_off7 (k0_t1 : Fin k0_t1_loop.trips) : Fin 2 → Nat :=
  let c0_i32_80 : BitVec 32 := 0#32
  let c1_i32_82 : BitVec 32 := 1#32
  let arg21 : BitVec 32 := Scf.iv c0_i32_80 c1_i32_82 k0_t1
  let c28_i32_194 : BitVec 32 := 28#32
  let v335 : BitVec 32 := Scalar.remsi arg21 c28_i32_194
  let c1792_i32_197 : BitVec 32 := 1792#32
  let v338 : BitVec 32 := Scalar.muli v335 c1792_i32_197
  let v339 : BitVec 32 := v338
  let c0_i32_188 : BitVec 32 := 0#32
  let v319 : BitVec 1 := Scalar.cmpi .sgt arg21 c0_i32_188
  let v320 : BitVec 32 := Scalar.extui v319
  let c0_i32_189 : BitVec 32 := 0#32
  let v321 : BitVec 1 := Scalar.cmpi .slt arg21 c0_i32_189
  let v322 : BitVec 32 := Scalar.extui v321
  let v323 : BitVec 32 := Scalar.subi v320 v322
  let c28_i32_187 : BitVec 32 := 28#32
  let c0_i32_190 : BitVec 32 := 0#32
  let v324 : BitVec 1 := Scalar.cmpi .sgt c28_i32_187 c0_i32_190
  let v325 : BitVec 32 := Scalar.extui v324
  let c0_i32_191 : BitVec 32 := 0#32
  let v326 : BitVec 1 := Scalar.cmpi .slt c28_i32_187 c0_i32_191
  let v327 : BitVec 32 := Scalar.extui v326
  let v328 : BitVec 32 := Scalar.subi v325 v327
  let v329 : BitVec 1 := Scalar.cmpi .ne v323 v328
  let v330 : BitVec 32 := Scalar.remsi arg21 c28_i32_187
  let c0_i32_192 : BitVec 32 := 0#32
  let v331 : BitVec 1 := Scalar.cmpi .ne v330 c0_i32_192
  let v332 : BitVec 1 := Scalar.andi v329 v331
  let v318 : BitVec 32 := Scalar.divsi arg21 c28_i32_187
  let c1_i32_193 : BitVec 32 := 1#32
  let v333 : BitVec 32 := Scalar.subi v318 c1_i32_193
  let v334 : BitVec 32 := Scalar.select v332 v333 v318
  let c256_i32_198 : BitVec 32 := 256#32
  let v340 : BitVec 32 := Scalar.muli v334 c256_i32_198
  let v341 : BitVec 32 := v340
  ![v339.toNat, v341.toNat]
def k0_mult15 (k0_t1 : Fin k0_t1_loop.trips) : BitVec 32 :=
  let c0_i32_80 : BitVec 32 := 0#32
  let c1_i32_82 : BitVec 32 := 1#32
  let arg21 : BitVec 32 := Scf.iv c0_i32_80 c1_i32_82 k0_t1
  let c1792_i32_203 : BitVec 32 := 1792#32
  let v352 : BitVec 32 := Scalar.muli arg21 c1792_i32_203
  v352
def k0_mult16 : BitVec 32 :=
  let c0_i32_204 : BitVec 32 := 0#32
  c0_i32_204
def k0_off8 (k0_t1 : Fin k0_t1_loop.trips) : Fin 1 → Nat :=
  let c0_i32_80 : BitVec 32 := 0#32
  let c1_i32_82 : BitVec 32 := 1#32
  let arg21 : BitVec 32 := Scf.iv c0_i32_80 c1_i32_82 k0_t1
  ![arg21.toNat]
def k0_off9 (k0_t1 : Fin k0_t1_loop.trips) : Fin 3 → Nat :=
  let c0_i32_80 : BitVec 32 := 0#32
  let c1_i32_82 : BitVec 32 := 1#32
  let arg21 : BitVec 32 := Scf.iv c0_i32_80 c1_i32_82 k0_t1
  let c0_i32_205 : BitVec 32 := 0#32
  let c0_i32_206 : BitVec 32 := 0#32
  ![arg21.toNat, 0, 0]
def k0_off10 (k0_t1 : Fin k0_t1_loop.trips) : Fin 2 → Nat :=
  let c0_i32_80 : BitVec 32 := 0#32
  let c1_i32_82 : BitVec 32 := 1#32
  let arg21 : BitVec 32 := Scf.iv c0_i32_80 c1_i32_82 k0_t1
  let c1792_i32_203 : BitVec 32 := 1792#32
  let v352 : BitVec 32 := Scalar.muli arg21 c1792_i32_203
  let v353 : BitVec 32 := v352
  let c0_i32_204 : BitVec 32 := 0#32
  let v354 : BitVec 32 := c0_i32_204
  ![v353.toNat, 0]
@[reducible] def k0_t2_loop : Scf.Loop 32 :=
  let c0_i32_209 : BitVec 32 := 0#32
  let c7_i32_210 : BitVec 32 := 7#32
  let v368 : BitVec 32 := Scalar.addi c0_i32_209 c7_i32_210
  let c1_i32_211 : BitVec 32 := 1#32
  ⟨c0_i32_209, v368, c1_i32_211⟩
def k0_off11 (k0_t1 : Fin k0_t1_loop.trips) (k0_t2 : Fin k0_t2_loop.trips) (c0_i32_235 : BitVec 32) : Fin 3 → Nat :=
  let c0_i32_80 : BitVec 32 := 0#32
  let c1_i32_82 : BitVec 32 := 1#32
  let arg21 : BitVec 32 := Scf.iv c0_i32_80 c1_i32_82 k0_t1
  let v411 : Index := Scalar.indexCast arg21
  let c0_i32_209 : BitVec 32 := 0#32
  let c1_i32_211 : BitVec 32 := 1#32
  let arg22 : BitVec 32 := Scf.iv c0_i32_209 c1_i32_211 k0_t2
  let c256_i32_234 : BitVec 32 := 256#32
  let v409 : BitVec 32 := Scalar.muli arg22 c256_i32_234
  let v410 : BitVec 32 := Scalar.addi v409 c0_i32_235
  let v412 : Index := Scalar.indexCast v410
  let c0_236 : Index := 0#32
  ![v411.toNat, v412.toNat, 0]
def k0_off12 (k0_t1 : Fin k0_t1_loop.trips) (k0_t2 : Fin k0_t2_loop.trips) (c0_i32_235 : BitVec 32) : Fin 3 → Nat :=
  let c0_i32_80 : BitVec 32 := 0#32
  let c1_i32_82 : BitVec 32 := 1#32
  let arg21 : BitVec 32 := Scf.iv c0_i32_80 c1_i32_82 k0_t1
  let c31_i32_233 : BitVec 32 := 31#32
  let v408 : BitVec 32 := Scalar.remsi arg21 c31_i32_233
  let v430 : Index := Scalar.indexCast v408
  let c0_i32_209 : BitVec 32 := 0#32
  let c1_i32_211 : BitVec 32 := 1#32
  let arg22 : BitVec 32 := Scf.iv c0_i32_209 c1_i32_211 k0_t2
  let c256_i32_234 : BitVec 32 := 256#32
  let v409 : BitVec 32 := Scalar.muli arg22 c256_i32_234
  let v410 : BitVec 32 := Scalar.addi v409 c0_i32_235
  let v431 : Index := Scalar.indexCast v410
  let c0_239 : Index := 0#32
  ![v430.toNat, v431.toNat, 0]
def k0_off13 (k0_t1 : Fin k0_t1_loop.trips) (k0_t2 : Fin k0_t2_loop.trips) (c0_i32_327 : BitVec 32) : Fin 3 → Nat :=
  let c0_i32_80 : BitVec 32 := 0#32
  let c1_i32_82 : BitVec 32 := 1#32
  let arg21 : BitVec 32 := Scf.iv c0_i32_80 c1_i32_82 k0_t1
  let c31_i32_233 : BitVec 32 := 31#32
  let v408 : BitVec 32 := Scalar.remsi arg21 c31_i32_233
  let v920 : Index := Scalar.indexCast v408
  let c0_i32_209 : BitVec 32 := 0#32
  let c1_i32_211 : BitVec 32 := 1#32
  let arg22 : BitVec 32 := Scf.iv c0_i32_209 c1_i32_211 k0_t2
  let c256_i32_234 : BitVec 32 := 256#32
  let v409 : BitVec 32 := Scalar.muli arg22 c256_i32_234
  let v900 : BitVec 32 := Scalar.addi v409 c0_i32_327
  let v921 : Index := Scalar.indexCast v900
  let c128 : Index := 128#32
  ![v920.toNat, v921.toNat, 128]
def k0_mult17 (k0_t1 : Fin k0_t1_loop.trips) : BitVec 32 :=
  let c0_i32_80 : BitVec 32 := 0#32
  let c1_i32_82 : BitVec 32 := 1#32
  let arg21 : BitVec 32 := Scf.iv c0_i32_80 c1_i32_82 k0_t1
  let c3_i32_213 : BitVec 32 := 3#32
  let v369 : BitVec 32 := Scalar.addi arg21 c3_i32_213
  let c28_i32_221 : BitVec 32 := 28#32
  let v387 : BitVec 32 := Scalar.remsi v369 c28_i32_221
  let c1792_i32_224 : BitVec 32 := 1792#32
  let v390 : BitVec 32 := Scalar.muli v387 c1792_i32_224
  v390
def k0_mult18 (k0_t1 : Fin k0_t1_loop.trips) : BitVec 32 :=
  let c0_i32_80 : BitVec 32 := 0#32
  let c1_i32_82 : BitVec 32 := 1#32
  let arg21 : BitVec 32 := Scf.iv c0_i32_80 c1_i32_82 k0_t1
  let c3_i32_213 : BitVec 32 := 3#32
  let v369 : BitVec 32 := Scalar.addi arg21 c3_i32_213
  let c0_i32_215 : BitVec 32 := 0#32
  let v371 : BitVec 1 := Scalar.cmpi .sgt v369 c0_i32_215
  let v372 : BitVec 32 := Scalar.extui v371
  let c0_i32_216 : BitVec 32 := 0#32
  let v373 : BitVec 1 := Scalar.cmpi .slt v369 c0_i32_216
  let v374 : BitVec 32 := Scalar.extui v373
  let v375 : BitVec 32 := Scalar.subi v372 v374
  let c28_i32_214 : BitVec 32 := 28#32
  let c0_i32_217 : BitVec 32 := 0#32
  let v376 : BitVec 1 := Scalar.cmpi .sgt c28_i32_214 c0_i32_217
  let v377 : BitVec 32 := Scalar.extui v376
  let c0_i32_218 : BitVec 32 := 0#32
  let v378 : BitVec 1 := Scalar.cmpi .slt c28_i32_214 c0_i32_218
  let v379 : BitVec 32 := Scalar.extui v378
  let v380 : BitVec 32 := Scalar.subi v377 v379
  let v381 : BitVec 1 := Scalar.cmpi .ne v375 v380
  let v382 : BitVec 32 := Scalar.remsi v369 c28_i32_214
  let c0_i32_219 : BitVec 32 := 0#32
  let v383 : BitVec 1 := Scalar.cmpi .ne v382 c0_i32_219
  let v384 : BitVec 1 := Scalar.andi v381 v383
  let v370 : BitVec 32 := Scalar.divsi v369 c28_i32_214
  let c1_i32_220 : BitVec 32 := 1#32
  let v385 : BitVec 32 := Scalar.subi v370 c1_i32_220
  let v386 : BitVec 32 := Scalar.select v384 v385 v370
  let c256_i32_225 : BitVec 32 := 256#32
  let v392 : BitVec 32 := Scalar.muli v386 c256_i32_225
  v392
def k0_off14 (k0_t1 : Fin k0_t1_loop.trips) : Fin 1 → Nat :=
  let c0_i32_80 : BitVec 32 := 0#32
  let c1_i32_82 : BitVec 32 := 1#32
  let arg21 : BitVec 32 := Scf.iv c0_i32_80 c1_i32_82 k0_t1
  let c3_i32_213 : BitVec 32 := 3#32
  let v369 : BitVec 32 := Scalar.addi arg21 c3_i32_213
  let c3_i32_223 : BitVec 32 := 3#32
  let v389 : BitVec 32 := Scalar.remsi v369 c3_i32_223
  ![v389.toNat]
def k0_off15 (k0_t1 : Fin k0_t1_loop.trips) : Fin 3 → Nat :=
  let c0_i32_80 : BitVec 32 := 0#32
  let c1_i32_82 : BitVec 32 := 1#32
  let arg21 : BitVec 32 := Scf.iv c0_i32_80 c1_i32_82 k0_t1
  let c3_i32_213 : BitVec 32 := 3#32
  let v369 : BitVec 32 := Scalar.addi arg21 c3_i32_213
  let c31_i32_222 : BitVec 32 := 31#32
  let v388 : BitVec 32 := Scalar.remsi v369 c31_i32_222
  let c0_i32_226 : BitVec 32 := 0#32
  let c0_i32_227 : BitVec 32 := 0#32
  ![v388.toNat, 0, 0]
def k0_off16 (k0_t1 : Fin k0_t1_loop.trips) : Fin 2 → Nat :=
  let c0_i32_80 : BitVec 32 := 0#32
  let c1_i32_82 : BitVec 32 := 1#32
  let arg21 : BitVec 32 := Scf.iv c0_i32_80 c1_i32_82 k0_t1
  let c3_i32_213 : BitVec 32 := 3#32
  let v369 : BitVec 32 := Scalar.addi arg21 c3_i32_213
  let c28_i32_221 : BitVec 32 := 28#32
  let v387 : BitVec 32 := Scalar.remsi v369 c28_i32_221
  let c1792_i32_224 : BitVec 32 := 1792#32
  let v390 : BitVec 32 := Scalar.muli v387 c1792_i32_224
  let v391 : BitVec 32 := v390
  let c0_i32_215 : BitVec 32 := 0#32
  let v371 : BitVec 1 := Scalar.cmpi .sgt v369 c0_i32_215
  let v372 : BitVec 32 := Scalar.extui v371
  let c0_i32_216 : BitVec 32 := 0#32
  let v373 : BitVec 1 := Scalar.cmpi .slt v369 c0_i32_216
  let v374 : BitVec 32 := Scalar.extui v373
  let v375 : BitVec 32 := Scalar.subi v372 v374
  let c28_i32_214 : BitVec 32 := 28#32
  let c0_i32_217 : BitVec 32 := 0#32
  let v376 : BitVec 1 := Scalar.cmpi .sgt c28_i32_214 c0_i32_217
  let v377 : BitVec 32 := Scalar.extui v376
  let c0_i32_218 : BitVec 32 := 0#32
  let v378 : BitVec 1 := Scalar.cmpi .slt c28_i32_214 c0_i32_218
  let v379 : BitVec 32 := Scalar.extui v378
  let v380 : BitVec 32 := Scalar.subi v377 v379
  let v381 : BitVec 1 := Scalar.cmpi .ne v375 v380
  let v382 : BitVec 32 := Scalar.remsi v369 c28_i32_214
  let c0_i32_219 : BitVec 32 := 0#32
  let v383 : BitVec 1 := Scalar.cmpi .ne v382 c0_i32_219
  let v384 : BitVec 1 := Scalar.andi v381 v383
  let v370 : BitVec 32 := Scalar.divsi v369 c28_i32_214
  let c1_i32_220 : BitVec 32 := 1#32
  let v385 : BitVec 32 := Scalar.subi v370 c1_i32_220
  let v386 : BitVec 32 := Scalar.select v384 v385 v370
  let c256_i32_225 : BitVec 32 := 256#32
  let v392 : BitVec 32 := Scalar.muli v386 c256_i32_225
  let v393 : BitVec 32 := v392
  ![v391.toNat, v393.toNat]
def k0_cond1 (k0_t1 : Fin k0_t1_loop.trips) : BitVec 1 :=
  let c0_i32_80 : BitVec 32 := 0#32
  let c1_i32_82 : BitVec 32 := 1#32
  let arg21 : BitVec 32 := Scf.iv c0_i32_80 c1_i32_82 k0_t1
  let c3_i32_230 : BitVec 32 := 3#32
  let v404 : BitVec 32 := Scalar.addi arg21 c3_i32_230
  let c28_i32_231 : BitVec 32 := 28#32
  let v405 : BitVec 1 := Scalar.cmpi .slt v404 c28_i32_231
  let v406 : BitVec 32 := Scalar.extui v405
  let c0_i32_232 : BitVec 32 := 0#32
  let v407 : BitVec 1 := Scalar.cmpi .ne v406 c0_i32_232
  v407

def k0_mult19 (k0_t1 : Fin k0_t1_loop.trips) : BitVec 32 :=
  let c0_i32_80 : BitVec 32 := 0#32
  let c1_i32_82 : BitVec 32 := 1#32
  let arg21 : BitVec 32 := Scf.iv c0_i32_80 c1_i32_82 k0_t1
  let c3_i32_233 : BitVec 32 := 3#32
  let v408 : BitVec 32 := Scalar.addi arg21 c3_i32_233
  let c1792_i32_234 : BitVec 32 := 1792#32
  let v409 : BitVec 32 := Scalar.muli v408 c1792_i32_234
  v409
def k0_mult20 : BitVec 32 :=
  let c0_i32_235 : BitVec 32 := 0#32
  c0_i32_235
def k0_off17 (k0_t1 : Fin k0_t1_loop.trips) : Fin 1 → Nat :=
  let c0_i32_80 : BitVec 32 := 0#32
  let c1_i32_82 : BitVec 32 := 1#32
  let arg21 : BitVec 32 := Scf.iv c0_i32_80 c1_i32_82 k0_t1
  let c3_i32_233 : BitVec 32 := 3#32
  let v408 : BitVec 32 := Scalar.addi arg21 c3_i32_233
  ![v408.toNat]
def k0_off18 (k0_t1 : Fin k0_t1_loop.trips) : Fin 3 → Nat :=
  let c0_i32_80 : BitVec 32 := 0#32
  let c1_i32_82 : BitVec 32 := 1#32
  let arg21 : BitVec 32 := Scf.iv c0_i32_80 c1_i32_82 k0_t1
  let c3_i32_233 : BitVec 32 := 3#32
  let v408 : BitVec 32 := Scalar.addi arg21 c3_i32_233
  let c0_i32_236 : BitVec 32 := 0#32
  let c0_i32_237 : BitVec 32 := 0#32
  ![v408.toNat, 0, 0]
def k0_off19 (k0_t1 : Fin k0_t1_loop.trips) : Fin 2 → Nat :=
  let c0_i32_80 : BitVec 32 := 0#32
  let c1_i32_82 : BitVec 32 := 1#32
  let arg21 : BitVec 32 := Scf.iv c0_i32_80 c1_i32_82 k0_t1
  let c3_i32_233 : BitVec 32 := 3#32
  let v408 : BitVec 32 := Scalar.addi arg21 c3_i32_233
  let c1792_i32_234 : BitVec 32 := 1792#32
  let v409 : BitVec 32 := Scalar.muli v408 c1792_i32_234
  let v410 : BitVec 32 := v409
  let c0_i32_235 : BitVec 32 := 0#32
  let v411 : BitVec 32 := c0_i32_235
  ![v410.toNat, 0]
def k0_off20 (c0_i32_88 : BitVec 32) : Fin 2 → Nat :=
  let c0_i32_86 : BitVec 32 := 0#32
  let c2_i32_87 : BitVec 32 := 2#32
  let v142 : BitVec 32 := Scalar.muli c0_i32_86 c2_i32_87
  let v143 : BitVec 32 := Scalar.addi v142 c0_i32_88
  let v144 : Index := Scalar.indexCast v143
  let c0_89 : Index := 0#32
  ![v144.toNat, 0]
@[reducible] def k0_t3_loop : Scf.Loop 32 :=
  let c0_i32_147 : BitVec 32 := 0#32
  let c196_i32 : BitVec 32 := 196#32
  let v280 : BitVec 32 := Scalar.addi c0_i32_147 c196_i32
  let c1_i32_148 : BitVec 32 := 1#32
  ⟨c0_i32_147, v280, c1_i32_148⟩
def k0_mult21 (k0_t3 : Fin k0_t3_loop.trips) : BitVec 32 :=
  let c0_i32_147 : BitVec 32 := 0#32
  let c1_i32_148 : BitVec 32 := 1#32
  let arg21 : BitVec 32 := Scf.iv c0_i32_147 c1_i32_148 k0_t3
  let c28_i32_208 : BitVec 32 := 28#32
  let v360 : BitVec 32 := Scalar.addi arg21 c28_i32_208
  let c28_i32_216 : BitVec 32 := 28#32
  let v378 : BitVec 32 := Scalar.remsi v360 c28_i32_216
  let c1792_i32_219 : BitVec 32 := 1792#32
  let v381 : BitVec 32 := Scalar.muli v378 c1792_i32_219
  v381
def k0_mult22 (k0_t3 : Fin k0_t3_loop.trips) : BitVec 32 :=
  let c0_i32_147 : BitVec 32 := 0#32
  let c1_i32_148 : BitVec 32 := 1#32
  let arg21 : BitVec 32 := Scf.iv c0_i32_147 c1_i32_148 k0_t3
  let c28_i32_208 : BitVec 32 := 28#32
  let v360 : BitVec 32 := Scalar.addi arg21 c28_i32_208
  let c0_i32_210 : BitVec 32 := 0#32
  let v362 : BitVec 1 := Scalar.cmpi .sgt v360 c0_i32_210
  let v363 : BitVec 32 := Scalar.extui v362
  let c0_i32_211 : BitVec 32 := 0#32
  let v364 : BitVec 1 := Scalar.cmpi .slt v360 c0_i32_211
  let v365 : BitVec 32 := Scalar.extui v364
  let v366 : BitVec 32 := Scalar.subi v363 v365
  let c28_i32_209 : BitVec 32 := 28#32
  let c0_i32_212 : BitVec 32 := 0#32
  let v367 : BitVec 1 := Scalar.cmpi .sgt c28_i32_209 c0_i32_212
  let v368 : BitVec 32 := Scalar.extui v367
  let c0_i32_213 : BitVec 32 := 0#32
  let v369 : BitVec 1 := Scalar.cmpi .slt c28_i32_209 c0_i32_213
  let v370 : BitVec 32 := Scalar.extui v369
  let v371 : BitVec 32 := Scalar.subi v368 v370
  let v372 : BitVec 1 := Scalar.cmpi .ne v366 v371
  let v373 : BitVec 32 := Scalar.remsi v360 c28_i32_209
  let c0_i32_214 : BitVec 32 := 0#32
  let v374 : BitVec 1 := Scalar.cmpi .ne v373 c0_i32_214
  let v375 : BitVec 1 := Scalar.andi v372 v374
  let v361 : BitVec 32 := Scalar.divsi v360 c28_i32_209
  let c1_i32_215 : BitVec 32 := 1#32
  let v376 : BitVec 32 := Scalar.subi v361 c1_i32_215
  let v377 : BitVec 32 := Scalar.select v375 v376 v361
  let c256_i32_220 : BitVec 32 := 256#32
  let v383 : BitVec 32 := Scalar.muli v377 c256_i32_220
  v383
def k0_off21 (k0_t3 : Fin k0_t3_loop.trips) : Fin 1 → Nat :=
  let c0_i32_147 : BitVec 32 := 0#32
  let c1_i32_148 : BitVec 32 := 1#32
  let arg21 : BitVec 32 := Scf.iv c0_i32_147 c1_i32_148 k0_t3
  let c28_i32_208 : BitVec 32 := 28#32
  let v360 : BitVec 32 := Scalar.addi arg21 c28_i32_208
  let c3_i32_218 : BitVec 32 := 3#32
  let v380 : BitVec 32 := Scalar.remsi v360 c3_i32_218
  ![v380.toNat]
def k0_off22 (k0_t3 : Fin k0_t3_loop.trips) : Fin 3 → Nat :=
  let c0_i32_147 : BitVec 32 := 0#32
  let c1_i32_148 : BitVec 32 := 1#32
  let arg21 : BitVec 32 := Scf.iv c0_i32_147 c1_i32_148 k0_t3
  let c28_i32_208 : BitVec 32 := 28#32
  let v360 : BitVec 32 := Scalar.addi arg21 c28_i32_208
  let c31_i32_217 : BitVec 32 := 31#32
  let v379 : BitVec 32 := Scalar.remsi v360 c31_i32_217
  let c0_i32_221 : BitVec 32 := 0#32
  let c0_i32_222 : BitVec 32 := 0#32
  ![v379.toNat, 0, 0]
def k0_off23 (k0_t3 : Fin k0_t3_loop.trips) : Fin 2 → Nat :=
  let c0_i32_147 : BitVec 32 := 0#32
  let c1_i32_148 : BitVec 32 := 1#32
  let arg21 : BitVec 32 := Scf.iv c0_i32_147 c1_i32_148 k0_t3
  let c28_i32_208 : BitVec 32 := 28#32
  let v360 : BitVec 32 := Scalar.addi arg21 c28_i32_208
  let c28_i32_216 : BitVec 32 := 28#32
  let v378 : BitVec 32 := Scalar.remsi v360 c28_i32_216
  let c1792_i32_219 : BitVec 32 := 1792#32
  let v381 : BitVec 32 := Scalar.muli v378 c1792_i32_219
  let v382 : BitVec 32 := v381
  let c0_i32_210 : BitVec 32 := 0#32
  let v362 : BitVec 1 := Scalar.cmpi .sgt v360 c0_i32_210
  let v363 : BitVec 32 := Scalar.extui v362
  let c0_i32_211 : BitVec 32 := 0#32
  let v364 : BitVec 1 := Scalar.cmpi .slt v360 c0_i32_211
  let v365 : BitVec 32 := Scalar.extui v364
  let v366 : BitVec 32 := Scalar.subi v363 v365
  let c28_i32_209 : BitVec 32 := 28#32
  let c0_i32_212 : BitVec 32 := 0#32
  let v367 : BitVec 1 := Scalar.cmpi .sgt c28_i32_209 c0_i32_212
  let v368 : BitVec 32 := Scalar.extui v367
  let c0_i32_213 : BitVec 32 := 0#32
  let v369 : BitVec 1 := Scalar.cmpi .slt c28_i32_209 c0_i32_213
  let v370 : BitVec 32 := Scalar.extui v369
  let v371 : BitVec 32 := Scalar.subi v368 v370
  let v372 : BitVec 1 := Scalar.cmpi .ne v366 v371
  let v373 : BitVec 32 := Scalar.remsi v360 c28_i32_209
  let c0_i32_214 : BitVec 32 := 0#32
  let v374 : BitVec 1 := Scalar.cmpi .ne v373 c0_i32_214
  let v375 : BitVec 1 := Scalar.andi v372 v374
  let v361 : BitVec 32 := Scalar.divsi v360 c28_i32_209
  let c1_i32_215 : BitVec 32 := 1#32
  let v376 : BitVec 32 := Scalar.subi v361 c1_i32_215
  let v377 : BitVec 32 := Scalar.select v375 v376 v361
  let c256_i32_220 : BitVec 32 := 256#32
  let v383 : BitVec 32 := Scalar.muli v377 c256_i32_220
  let v384 : BitVec 32 := v383
  ![v382.toNat, v384.toNat]
def k0_cond2 (k0_t3 : Fin k0_t3_loop.trips) : BitVec 1 :=
  let c0_i32_147 : BitVec 32 := 0#32
  let c1_i32_148 : BitVec 32 := 1#32
  let arg21 : BitVec 32 := Scf.iv c0_i32_147 c1_i32_148 k0_t3
  let c0_i32_188 : BitVec 32 := 0#32
  let v319 : BitVec 1 := Scalar.cmpi .sgt arg21 c0_i32_188
  let v320 : BitVec 32 := Scalar.extui v319
  let c0_i32_189 : BitVec 32 := 0#32
  let v321 : BitVec 1 := Scalar.cmpi .slt arg21 c0_i32_189
  let v322 : BitVec 32 := Scalar.extui v321
  let v323 : BitVec 32 := Scalar.subi v320 v322
  let c28_i32_187 : BitVec 32 := 28#32
  let c0_i32_190 : BitVec 32 := 0#32
  let v324 : BitVec 1 := Scalar.cmpi .sgt c28_i32_187 c0_i32_190
  let v325 : BitVec 32 := Scalar.extui v324
  let c0_i32_191 : BitVec 32 := 0#32
  let v326 : BitVec 1 := Scalar.cmpi .slt c28_i32_187 c0_i32_191
  let v327 : BitVec 32 := Scalar.extui v326
  let v328 : BitVec 32 := Scalar.subi v325 v327
  let v329 : BitVec 1 := Scalar.cmpi .ne v323 v328
  let v330 : BitVec 32 := Scalar.remsi arg21 c28_i32_187
  let c0_i32_192 : BitVec 32 := 0#32
  let v331 : BitVec 1 := Scalar.cmpi .ne v330 c0_i32_192
  let v332 : BitVec 1 := Scalar.andi v329 v331
  let v318 : BitVec 32 := Scalar.divsi arg21 c28_i32_187
  let c1_i32_193 : BitVec 32 := 1#32
  let v333 : BitVec 32 := Scalar.subi v318 c1_i32_193
  let v334 : BitVec 32 := Scalar.select v332 v333 v318
  let c1_i32_195 : BitVec 32 := 1#32
  let v336 : BitVec 32 := Scalar.addi v334 c1_i32_195
  let c4_i32_206 : BitVec 32 := 4#32
  let v358 : BitVec 32 := Scalar.remsi v336 c4_i32_206
  let c0_i32_207 : BitVec 32 := 0#32
  let v359 : BitVec 1 := Scalar.cmpi .eq v358 c0_i32_207
  let v395 : BitVec 32 := Scalar.extui v359
  let c0_i32_225 : BitVec 32 := 0#32
  let v396 : BitVec 1 := Scalar.cmpi .ne v395 c0_i32_225
  v396

def k0_mult23 (k0_t3 : Fin k0_t3_loop.trips) : BitVec 32 :=
  let c0_i32_147 : BitVec 32 := 0#32
  let c1_i32_148 : BitVec 32 := 1#32
  let arg21 : BitVec 32 := Scf.iv c0_i32_147 c1_i32_148 k0_t3
  let c28_i32_194 : BitVec 32 := 28#32
  let v335 : BitVec 32 := Scalar.remsi arg21 c28_i32_194
  let c1792_i32_273 : BitVec 32 := 1792#32
  let v467 : BitVec 32 := Scalar.muli v335 c1792_i32_273
  v467
def k0_mult24 (k0_t3 : Fin k0_t3_loop.trips) : BitVec 32 :=
  let c0_i32_147 : BitVec 32 := 0#32
  let c1_i32_148 : BitVec 32 := 1#32
  let arg21 : BitVec 32 := Scf.iv c0_i32_147 c1_i32_148 k0_t3
  let c0_i32_188 : BitVec 32 := 0#32
  let v319 : BitVec 1 := Scalar.cmpi .sgt arg21 c0_i32_188
  let v320 : BitVec 32 := Scalar.extui v319
  let c0_i32_189 : BitVec 32 := 0#32
  let v321 : BitVec 1 := Scalar.cmpi .slt arg21 c0_i32_189
  let v322 : BitVec 32 := Scalar.extui v321
  let v323 : BitVec 32 := Scalar.subi v320 v322
  let c28_i32_187 : BitVec 32 := 28#32
  let c0_i32_190 : BitVec 32 := 0#32
  let v324 : BitVec 1 := Scalar.cmpi .sgt c28_i32_187 c0_i32_190
  let v325 : BitVec 32 := Scalar.extui v324
  let c0_i32_191 : BitVec 32 := 0#32
  let v326 : BitVec 1 := Scalar.cmpi .slt c28_i32_187 c0_i32_191
  let v327 : BitVec 32 := Scalar.extui v326
  let v328 : BitVec 32 := Scalar.subi v325 v327
  let v329 : BitVec 1 := Scalar.cmpi .ne v323 v328
  let v330 : BitVec 32 := Scalar.remsi arg21 c28_i32_187
  let c0_i32_192 : BitVec 32 := 0#32
  let v331 : BitVec 1 := Scalar.cmpi .ne v330 c0_i32_192
  let v332 : BitVec 1 := Scalar.andi v329 v331
  let v318 : BitVec 32 := Scalar.divsi arg21 c28_i32_187
  let c1_i32_193 : BitVec 32 := 1#32
  let v333 : BitVec 32 := Scalar.subi v318 c1_i32_193
  let v334 : BitVec 32 := Scalar.select v332 v333 v318
  let c1_i32_195 : BitVec 32 := 1#32
  let v336 : BitVec 32 := Scalar.addi v334 c1_i32_195
  let c0_i32_200 : BitVec 32 := 0#32
  let v342 : BitVec 1 := Scalar.cmpi .sgt v336 c0_i32_200
  let v343 : BitVec 32 := Scalar.extui v342
  let c0_i32_201 : BitVec 32 := 0#32
  let v344 : BitVec 1 := Scalar.cmpi .slt v336 c0_i32_201
  let v345 : BitVec 32 := Scalar.extui v344
  let v346 : BitVec 32 := Scalar.subi v343 v345
  let c4_i32 : BitVec 32 := 4#32
  let c0_i32_202 : BitVec 32 := 0#32
  let v347 : BitVec 1 := Scalar.cmpi .sgt c4_i32 c0_i32_202
  let v348 : BitVec 32 := Scalar.extui v347
  let c0_i32_203 : BitVec 32 := 0#32
  let v349 : BitVec 1 := Scalar.cmpi .slt c4_i32 c0_i32_203
  let v350 : BitVec 32 := Scalar.extui v349
  let v351 : BitVec 32 := Scalar.subi v348 v350
  let v352 : BitVec 1 := Scalar.cmpi .ne v346 v351
  let v353 : BitVec 32 := Scalar.remsi v336 c4_i32
  let c0_i32_204 : BitVec 32 := 0#32
  let v354 : BitVec 1 := Scalar.cmpi .ne v353 c0_i32_204
  let v355 : BitVec 1 := Scalar.andi v352 v354
  let v341 : BitVec 32 := Scalar.divsi v336 c4_i32
  let c1_i32_205 : BitVec 32 := 1#32
  let v356 : BitVec 32 := Scalar.subi v341 c1_i32_205
  let v357 : BitVec 32 := Scalar.select v355 v356 v341
  let c128_i32_274 : BitVec 32 := 128#32
  let v469 : BitVec 32 := Scalar.muli v357 c128_i32_274
  v469
def k0_off24 (k0_t3 : Fin k0_t3_loop.trips) : Fin 1 → Nat :=
  let c0_i32_147 : BitVec 32 := 0#32
  let c1_i32_148 : BitVec 32 := 1#32
  let arg21 : BitVec 32 := Scf.iv c0_i32_147 c1_i32_148 k0_t3
  let c28_i32_194 : BitVec 32 := 28#32
  let v335 : BitVec 32 := Scalar.remsi arg21 c28_i32_194
  ![v335.toNat]
def k0_off25 (k0_t3 : Fin k0_t3_loop.trips) : Fin 3 → Nat :=
  let c0_i32_147 : BitVec 32 := 0#32
  let c1_i32_148 : BitVec 32 := 1#32
  let arg21 : BitVec 32 := Scf.iv c0_i32_147 c1_i32_148 k0_t3
  let c28_i32_194 : BitVec 32 := 28#32
  let v335 : BitVec 32 := Scalar.remsi arg21 c28_i32_194
  let c0_i32_275 : BitVec 32 := 0#32
  let c0_i32_276 : BitVec 32 := 0#32
  ![v335.toNat, 0, 0]
def k0_off26 (k0_t3 : Fin k0_t3_loop.trips) : Fin 2 → Nat :=
  let c0_i32_147 : BitVec 32 := 0#32
  let c1_i32_148 : BitVec 32 := 1#32
  let arg21 : BitVec 32 := Scf.iv c0_i32_147 c1_i32_148 k0_t3
  let c28_i32_194 : BitVec 32 := 28#32
  let v335 : BitVec 32 := Scalar.remsi arg21 c28_i32_194
  let c1792_i32_273 : BitVec 32 := 1792#32
  let v467 : BitVec 32 := Scalar.muli v335 c1792_i32_273
  let v468 : BitVec 32 := v467
  let c0_i32_188 : BitVec 32 := 0#32
  let v319 : BitVec 1 := Scalar.cmpi .sgt arg21 c0_i32_188
  let v320 : BitVec 32 := Scalar.extui v319
  let c0_i32_189 : BitVec 32 := 0#32
  let v321 : BitVec 1 := Scalar.cmpi .slt arg21 c0_i32_189
  let v322 : BitVec 32 := Scalar.extui v321
  let v323 : BitVec 32 := Scalar.subi v320 v322
  let c28_i32_187 : BitVec 32 := 28#32
  let c0_i32_190 : BitVec 32 := 0#32
  let v324 : BitVec 1 := Scalar.cmpi .sgt c28_i32_187 c0_i32_190
  let v325 : BitVec 32 := Scalar.extui v324
  let c0_i32_191 : BitVec 32 := 0#32
  let v326 : BitVec 1 := Scalar.cmpi .slt c28_i32_187 c0_i32_191
  let v327 : BitVec 32 := Scalar.extui v326
  let v328 : BitVec 32 := Scalar.subi v325 v327
  let v329 : BitVec 1 := Scalar.cmpi .ne v323 v328
  let v330 : BitVec 32 := Scalar.remsi arg21 c28_i32_187
  let c0_i32_192 : BitVec 32 := 0#32
  let v331 : BitVec 1 := Scalar.cmpi .ne v330 c0_i32_192
  let v332 : BitVec 1 := Scalar.andi v329 v331
  let v318 : BitVec 32 := Scalar.divsi arg21 c28_i32_187
  let c1_i32_193 : BitVec 32 := 1#32
  let v333 : BitVec 32 := Scalar.subi v318 c1_i32_193
  let v334 : BitVec 32 := Scalar.select v332 v333 v318
  let c1_i32_195 : BitVec 32 := 1#32
  let v336 : BitVec 32 := Scalar.addi v334 c1_i32_195
  let c0_i32_200 : BitVec 32 := 0#32
  let v342 : BitVec 1 := Scalar.cmpi .sgt v336 c0_i32_200
  let v343 : BitVec 32 := Scalar.extui v342
  let c0_i32_201 : BitVec 32 := 0#32
  let v344 : BitVec 1 := Scalar.cmpi .slt v336 c0_i32_201
  let v345 : BitVec 32 := Scalar.extui v344
  let v346 : BitVec 32 := Scalar.subi v343 v345
  let c4_i32 : BitVec 32 := 4#32
  let c0_i32_202 : BitVec 32 := 0#32
  let v347 : BitVec 1 := Scalar.cmpi .sgt c4_i32 c0_i32_202
  let v348 : BitVec 32 := Scalar.extui v347
  let c0_i32_203 : BitVec 32 := 0#32
  let v349 : BitVec 1 := Scalar.cmpi .slt c4_i32 c0_i32_203
  let v350 : BitVec 32 := Scalar.extui v349
  let v351 : BitVec 32 := Scalar.subi v348 v350
  let v352 : BitVec 1 := Scalar.cmpi .ne v346 v351
  let v353 : BitVec 32 := Scalar.remsi v336 c4_i32
  let c0_i32_204 : BitVec 32 := 0#32
  let v354 : BitVec 1 := Scalar.cmpi .ne v353 c0_i32_204
  let v355 : BitVec 1 := Scalar.andi v352 v354
  let v341 : BitVec 32 := Scalar.divsi v336 c4_i32
  let c1_i32_205 : BitVec 32 := 1#32
  let v356 : BitVec 32 := Scalar.subi v341 c1_i32_205
  let v357 : BitVec 32 := Scalar.select v355 v356 v341
  let c128_i32_274 : BitVec 32 := 128#32
  let v469 : BitVec 32 := Scalar.muli v357 c128_i32_274
  let v470 : BitVec 32 := v469
  ![v468.toNat, v470.toNat]
def k0_cond3 (k0_t3 : Fin k0_t3_loop.trips) : BitVec 1 :=
  let c0_i32_147 : BitVec 32 := 0#32
  let c1_i32_148 : BitVec 32 := 1#32
  let arg21 : BitVec 32 := Scf.iv c0_i32_147 c1_i32_148 k0_t3
  let c2_i32_226 : BitVec 32 := 2#32
  let v397 : BitVec 1 := Scalar.cmpi .sge arg21 c2_i32_226
  let v398 : BitVec 32 := Scalar.extui v397
  let c0_i32_227 : BitVec 32 := 0#32
  let v399 : BitVec 1 := Scalar.cmpi .ne v398 c0_i32_227
  v399

def k0_mult25 (k0_t3 : Fin k0_t3_loop.trips) : BitVec 32 :=
  let c0_i32_147 : BitVec 32 := 0#32
  let c1_i32_148 : BitVec 32 := 1#32
  let arg21 : BitVec 32 := Scf.iv c0_i32_147 c1_i32_148 k0_t3
  let c28_i32_194 : BitVec 32 := 28#32
  let v335 : BitVec 32 := Scalar.remsi arg21 c28_i32_194
  let c1792_i32_273 : BitVec 32 := 1792#32
  let v467 : BitVec 32 := Scalar.muli v335 c1792_i32_273
  v467
def k0_mult26 (k0_t3 : Fin k0_t3_loop.trips) : BitVec 32 :=
  let c0_i32_147 : BitVec 32 := 0#32
  let c1_i32_148 : BitVec 32 := 1#32
  let arg21 : BitVec 32 := Scf.iv c0_i32_147 c1_i32_148 k0_t3
  let c0_i32_188 : BitVec 32 := 0#32
  let v319 : BitVec 1 := Scalar.cmpi .sgt arg21 c0_i32_188
  let v320 : BitVec 32 := Scalar.extui v319
  let c0_i32_189 : BitVec 32 := 0#32
  let v321 : BitVec 1 := Scalar.cmpi .slt arg21 c0_i32_189
  let v322 : BitVec 32 := Scalar.extui v321
  let v323 : BitVec 32 := Scalar.subi v320 v322
  let c28_i32_187 : BitVec 32 := 28#32
  let c0_i32_190 : BitVec 32 := 0#32
  let v324 : BitVec 1 := Scalar.cmpi .sgt c28_i32_187 c0_i32_190
  let v325 : BitVec 32 := Scalar.extui v324
  let c0_i32_191 : BitVec 32 := 0#32
  let v326 : BitVec 1 := Scalar.cmpi .slt c28_i32_187 c0_i32_191
  let v327 : BitVec 32 := Scalar.extui v326
  let v328 : BitVec 32 := Scalar.subi v325 v327
  let v329 : BitVec 1 := Scalar.cmpi .ne v323 v328
  let v330 : BitVec 32 := Scalar.remsi arg21 c28_i32_187
  let c0_i32_192 : BitVec 32 := 0#32
  let v331 : BitVec 1 := Scalar.cmpi .ne v330 c0_i32_192
  let v332 : BitVec 1 := Scalar.andi v329 v331
  let v318 : BitVec 32 := Scalar.divsi arg21 c28_i32_187
  let c1_i32_193 : BitVec 32 := 1#32
  let v333 : BitVec 32 := Scalar.subi v318 c1_i32_193
  let v334 : BitVec 32 := Scalar.select v332 v333 v318
  let c256_i32_274 : BitVec 32 := 256#32
  let v469 : BitVec 32 := Scalar.muli v334 c256_i32_274
  let c0_i32_275 : BitVec 32 := 0#32
  let v470 : BitVec 32 := Scalar.addi v469 c0_i32_275
  v470
def k0_mult27 (k0_t3 : Fin k0_t3_loop.trips) : BitVec 32 :=
  let c0_i32_147 : BitVec 32 := 0#32
  let c1_i32_148 : BitVec 32 := 1#32
  let arg21 : BitVec 32 := Scf.iv c0_i32_147 c1_i32_148 k0_t3
  let c0_i32_188 : BitVec 32 := 0#32
  let v319 : BitVec 1 := Scalar.cmpi .sgt arg21 c0_i32_188
  let v320 : BitVec 32 := Scalar.extui v319
  let c0_i32_189 : BitVec 32 := 0#32
  let v321 : BitVec 1 := Scalar.cmpi .slt arg21 c0_i32_189
  let v322 : BitVec 32 := Scalar.extui v321
  let v323 : BitVec 32 := Scalar.subi v320 v322
  let c28_i32_187 : BitVec 32 := 28#32
  let c0_i32_190 : BitVec 32 := 0#32
  let v324 : BitVec 1 := Scalar.cmpi .sgt c28_i32_187 c0_i32_190
  let v325 : BitVec 32 := Scalar.extui v324
  let c0_i32_191 : BitVec 32 := 0#32
  let v326 : BitVec 1 := Scalar.cmpi .slt c28_i32_187 c0_i32_191
  let v327 : BitVec 32 := Scalar.extui v326
  let v328 : BitVec 32 := Scalar.subi v325 v327
  let v329 : BitVec 1 := Scalar.cmpi .ne v323 v328
  let v330 : BitVec 32 := Scalar.remsi arg21 c28_i32_187
  let c0_i32_192 : BitVec 32 := 0#32
  let v331 : BitVec 1 := Scalar.cmpi .ne v330 c0_i32_192
  let v332 : BitVec 1 := Scalar.andi v329 v331
  let v318 : BitVec 32 := Scalar.divsi arg21 c28_i32_187
  let c1_i32_193 : BitVec 32 := 1#32
  let v333 : BitVec 32 := Scalar.subi v318 c1_i32_193
  let v334 : BitVec 32 := Scalar.select v332 v333 v318
  let c256_i32_276 : BitVec 32 := 256#32
  let v472 : BitVec 32 := Scalar.muli v334 c256_i32_276
  let c128_i32_277 : BitVec 32 := 128#32
  let v473 : BitVec 32 := Scalar.addi v472 c128_i32_277
  v473
def k0_off27 (k0_t3 : Fin k0_t3_loop.trips) : Fin 1 → Nat :=
  let c0_i32_147 : BitVec 32 := 0#32
  let c1_i32_148 : BitVec 32 := 1#32
  let arg21 : BitVec 32 := Scf.iv c0_i32_147 c1_i32_148 k0_t3
  let c2_i32_196 : BitVec 32 := 2#32
  let v337 : BitVec 32 := Scalar.remsi arg21 c2_i32_196
  ![v337.toNat]
def k0_off28 (k0_t3 : Fin k0_t3_loop.trips) (c0_i32_275 : BitVec 32) : Fin 2 → Nat :=
  let c0_i32_147 : BitVec 32 := 0#32
  let c1_i32_148 : BitVec 32 := 1#32
  let arg21 : BitVec 32 := Scf.iv c0_i32_147 c1_i32_148 k0_t3
  let c28_i32_194 : BitVec 32 := 28#32
  let v335 : BitVec 32 := Scalar.remsi arg21 c28_i32_194
  let c1792_i32_273 : BitVec 32 := 1792#32
  let v467 : BitVec 32 := Scalar.muli v335 c1792_i32_273
  let v468 : BitVec 32 := v467
  let c0_i32_188 : BitVec 32 := 0#32
  let v319 : BitVec 1 := Scalar.cmpi .sgt arg21 c0_i32_188
  let v320 : BitVec 32 := Scalar.extui v319
  let c0_i32_189 : BitVec 32 := 0#32
  let v321 : BitVec 1 := Scalar.cmpi .slt arg21 c0_i32_189
  let v322 : BitVec 32 := Scalar.extui v321
  let v323 : BitVec 32 := Scalar.subi v320 v322
  let c28_i32_187 : BitVec 32 := 28#32
  let c0_i32_190 : BitVec 32 := 0#32
  let v324 : BitVec 1 := Scalar.cmpi .sgt c28_i32_187 c0_i32_190
  let v325 : BitVec 32 := Scalar.extui v324
  let c0_i32_191 : BitVec 32 := 0#32
  let v326 : BitVec 1 := Scalar.cmpi .slt c28_i32_187 c0_i32_191
  let v327 : BitVec 32 := Scalar.extui v326
  let v328 : BitVec 32 := Scalar.subi v325 v327
  let v329 : BitVec 1 := Scalar.cmpi .ne v323 v328
  let v330 : BitVec 32 := Scalar.remsi arg21 c28_i32_187
  let c0_i32_192 : BitVec 32 := 0#32
  let v331 : BitVec 1 := Scalar.cmpi .ne v330 c0_i32_192
  let v332 : BitVec 1 := Scalar.andi v329 v331
  let v318 : BitVec 32 := Scalar.divsi arg21 c28_i32_187
  let c1_i32_193 : BitVec 32 := 1#32
  let v333 : BitVec 32 := Scalar.subi v318 c1_i32_193
  let v334 : BitVec 32 := Scalar.select v332 v333 v318
  let c256_i32_274 : BitVec 32 := 256#32
  let v469 : BitVec 32 := Scalar.muli v334 c256_i32_274
  let v470 : BitVec 32 := Scalar.addi v469 c0_i32_275
  let v471 : BitVec 32 := v470
  ![v468.toNat, v471.toNat]
def k0_off29 (k0_t3 : Fin k0_t3_loop.trips) : Fin 4 → Nat :=
  let c0_i32_147 : BitVec 32 := 0#32
  let c1_i32_148 : BitVec 32 := 1#32
  let arg21 : BitVec 32 := Scf.iv c0_i32_147 c1_i32_148 k0_t3
  let c2_i32_196 : BitVec 32 := 2#32
  let v337 : BitVec 32 := Scalar.remsi arg21 c2_i32_196
  let c0_i32_278 : BitVec 32 := 0#32
  let c0_i32_279 : BitVec 32 := 0#32
  let c0_i32_280 : BitVec 32 := 0#32
  ![v337.toNat, 0, 0, 0]
def k0_off30 (k0_t3 : Fin k0_t3_loop.trips) : Fin 4 → Nat :=
  let c0_i32_147 : BitVec 32 := 0#32
  let c1_i32_148 : BitVec 32 := 1#32
  let arg21 : BitVec 32 := Scf.iv c0_i32_147 c1_i32_148 k0_t3
  let c2_i32_196 : BitVec 32 := 2#32
  let v337 : BitVec 32 := Scalar.remsi arg21 c2_i32_196
  let c1_i32_281 : BitVec 32 := 1#32
  let c0_i32_282 : BitVec 32 := 0#32
  let c0_i32_283 : BitVec 32 := 0#32
  ![v337.toNat, 1, 0, 0]
@[reducible] def k0_t4_loop : Scf.Loop 32 :=
  let c0_i32_248 : BitVec 32 := 0#32
  let c7_i32_249 : BitVec 32 := 7#32
  let v432 : BitVec 32 := Scalar.addi c0_i32_248 c7_i32_249
  let c1_i32_250 : BitVec 32 := 1#32
  ⟨c0_i32_248, v432, c1_i32_250⟩
def k0_off31 (k0_t3 : Fin k0_t3_loop.trips) (k0_t4 : Fin k0_t4_loop.trips) (c0_i32_274 : BitVec 32) : Fin 3 → Nat :=
  let c0_i32_147 : BitVec 32 := 0#32
  let c1_i32_148 : BitVec 32 := 1#32
  let arg21 : BitVec 32 := Scf.iv c0_i32_147 c1_i32_148 k0_t3
  let c31_i32_197 : BitVec 32 := 31#32
  let v338 : BitVec 32 := Scalar.remsi arg21 c31_i32_197
  let v469 : Index := Scalar.indexCast v338
  let c0_i32_248 : BitVec 32 := 0#32
  let c1_i32_250 : BitVec 32 := 1#32
  let arg22 : BitVec 32 := Scf.iv c0_i32_248 c1_i32_250 k0_t4
  let c256_i32_273 : BitVec 32 := 256#32
  let v467 : BitVec 32 := Scalar.muli arg22 c256_i32_273
  let v468 : BitVec 32 := Scalar.addi v467 c0_i32_274
  let v470 : Index := Scalar.indexCast v468
  let c0_275 : Index := 0#32
  ![v469.toNat, v470.toNat, 0]
def k0_off32 (k0_t3 : Fin k0_t3_loop.trips) (k0_t4 : Fin k0_t4_loop.trips) (c0_i32_274 : BitVec 32) : Fin 4 → Nat :=
  let c0_i32_147 : BitVec 32 := 0#32
  let c1_i32_148 : BitVec 32 := 1#32
  let arg21 : BitVec 32 := Scf.iv c0_i32_147 c1_i32_148 k0_t3
  let c2_i32_196 : BitVec 32 := 2#32
  let v337 : BitVec 32 := Scalar.remsi arg21 c2_i32_196
  let v484 : Index := Scalar.indexCast v337
  let c0_277 : Index := 0#32
  let c0_i32_248 : BitVec 32 := 0#32
  let c1_i32_250 : BitVec 32 := 1#32
  let arg22 : BitVec 32 := Scf.iv c0_i32_248 c1_i32_250 k0_t4
  let c256_i32_273 : BitVec 32 := 256#32
  let v467 : BitVec 32 := Scalar.muli arg22 c256_i32_273
  let v468 : BitVec 32 := Scalar.addi v467 c0_i32_274
  let v485 : Index := Scalar.indexCast v468
  let c0_278 : Index := 0#32
  ![v484.toNat, 0, v485.toNat, 0]
def k0_off33 (k0_t3 : Fin k0_t3_loop.trips) (k0_t4 : Fin k0_t4_loop.trips) (c0_i32_310 : BitVec 32) : Fin 3 → Nat :=
  let c0_i32_147 : BitVec 32 := 0#32
  let c1_i32_148 : BitVec 32 := 1#32
  let arg21 : BitVec 32 := Scf.iv c0_i32_147 c1_i32_148 k0_t3
  let c31_i32_197 : BitVec 32 := 31#32
  let v338 : BitVec 32 := Scalar.remsi arg21 c31_i32_197
  let v637 : Index := Scalar.indexCast v338
  let c0_i32_248 : BitVec 32 := 0#32
  let c1_i32_250 : BitVec 32 := 1#32
  let arg22 : BitVec 32 := Scf.iv c0_i32_248 c1_i32_250 k0_t4
  let c256_i32_273 : BitVec 32 := 256#32
  let v467 : BitVec 32 := Scalar.muli arg22 c256_i32_273
  let v636 : BitVec 32 := Scalar.addi v467 c0_i32_310
  let v638 : Index := Scalar.indexCast v636
  let c128 : Index := 128#32
  ![v637.toNat, v638.toNat, 128]
def k0_off34 (k0_t3 : Fin k0_t3_loop.trips) (k0_t4 : Fin k0_t4_loop.trips) (c0_i32_310 : BitVec 32) : Fin 4 → Nat :=
  let c0_i32_147 : BitVec 32 := 0#32
  let c1_i32_148 : BitVec 32 := 1#32
  let arg21 : BitVec 32 := Scf.iv c0_i32_147 c1_i32_148 k0_t3
  let c2_i32_196 : BitVec 32 := 2#32
  let v337 : BitVec 32 := Scalar.remsi arg21 c2_i32_196
  let v652 : Index := Scalar.indexCast v337
  let c1_312 : Index := 1#32
  let c0_i32_248 : BitVec 32 := 0#32
  let c1_i32_250 : BitVec 32 := 1#32
  let arg22 : BitVec 32 := Scf.iv c0_i32_248 c1_i32_250 k0_t4
  let c256_i32_273 : BitVec 32 := 256#32
  let v467 : BitVec 32 := Scalar.muli arg22 c256_i32_273
  let v636 : BitVec 32 := Scalar.addi v467 c0_i32_310
  let v653 : Index := Scalar.indexCast v636
  let c0_313 : Index := 0#32
  ![v652.toNat, 1, v653.toNat, 0]
def k0_off35 (k0_t3 : Fin k0_t3_loop.trips) (k0_t4 : Fin k0_t4_loop.trips) (c0_i32_350 : BitVec 32) : Fin 3 → Nat :=
  let c0_i32_147 : BitVec 32 := 0#32
  let c1_i32_148 : BitVec 32 := 1#32
  let arg21 : BitVec 32 := Scf.iv c0_i32_147 c1_i32_148 k0_t3
  let c28_i32_194 : BitVec 32 := 28#32
  let v335 : BitVec 32 := Scalar.remsi arg21 c28_i32_194
  let v806 : Index := Scalar.indexCast v335
  let c0_i32_248 : BitVec 32 := 0#32
  let c1_i32_250 : BitVec 32 := 1#32
  let arg22 : BitVec 32 := Scf.iv c0_i32_248 c1_i32_250 k0_t4
  let c256_i32_349 : BitVec 32 := 256#32
  let v804 : BitVec 32 := Scalar.muli arg22 c256_i32_349
  let v805 : BitVec 32 := Scalar.addi v804 c0_i32_350
  let v807 : Index := Scalar.indexCast v805
  let c0_351 : Index := 0#32
  ![v806.toNat, v807.toNat, 0]
def k0_off36 (k0_t3 : Fin k0_t3_loop.trips) (k0_t4 : Fin k0_t4_loop.trips) (c0_i32_350 : BitVec 32) : Fin 3 → Nat :=
  let c0_i32_147 : BitVec 32 := 0#32
  let c1_i32_148 : BitVec 32 := 1#32
  let arg21 : BitVec 32 := Scf.iv c0_i32_147 c1_i32_148 k0_t3
  let c28_i32_198 : BitVec 32 := 28#32
  let v339 : BitVec 32 := Scalar.addi arg21 c28_i32_198
  let c31_i32_199 : BitVec 32 := 31#32
  let v340 : BitVec 32 := Scalar.remsi v339 c31_i32_199
  let v825 : Index := Scalar.indexCast v340
  let c0_i32_248 : BitVec 32 := 0#32
  let c1_i32_250 : BitVec 32 := 1#32
  let arg22 : BitVec 32 := Scf.iv c0_i32_248 c1_i32_250 k0_t4
  let c256_i32_349 : BitVec 32 := 256#32
  let v804 : BitVec 32 := Scalar.muli arg22 c256_i32_349
  let v805 : BitVec 32 := Scalar.addi v804 c0_i32_350
  let v826 : Index := Scalar.indexCast v805
  let c0_355 : Index := 0#32
  ![v825.toNat, v826.toNat, 0]
def k0_off37 (k0_t3 : Fin k0_t3_loop.trips) (k0_t4 : Fin k0_t4_loop.trips) (c0_i32_448 : BitVec 32) : Fin 3 → Nat :=
  let c0_i32_147 : BitVec 32 := 0#32
  let c1_i32_148 : BitVec 32 := 1#32
  let arg21 : BitVec 32 := Scf.iv c0_i32_147 c1_i32_148 k0_t3
  let c28_i32_198 : BitVec 32 := 28#32
  let v339 : BitVec 32 := Scalar.addi arg21 c28_i32_198
  let c31_i32_199 : BitVec 32 := 31#32
  let v340 : BitVec 32 := Scalar.remsi v339 c31_i32_199
  let v1315 : Index := Scalar.indexCast v340
  let c0_i32_248 : BitVec 32 := 0#32
  let c1_i32_250 : BitVec 32 := 1#32
  let arg22 : BitVec 32 := Scf.iv c0_i32_248 c1_i32_250 k0_t4
  let c256_i32_349 : BitVec 32 := 256#32
  let v804 : BitVec 32 := Scalar.muli arg22 c256_i32_349
  let v1295 : BitVec 32 := Scalar.addi v804 c0_i32_448
  let v1316 : Index := Scalar.indexCast v1295
  let c128_454 : Index := 128#32
  ![v1315.toNat, v1316.toNat, 128]
def k0_cond4 (k0_t3 : Fin k0_t3_loop.trips) : BitVec 1 :=
  let c0_i32_147 : BitVec 32 := 0#32
  let c1_i32_148 : BitVec 32 := 1#32
  let arg21 : BitVec 32 := Scf.iv c0_i32_147 c1_i32_148 k0_t3
  let c28_i32_252 : BitVec 32 := 28#32
  let v433 : BitVec 32 := Scalar.addi arg21 c28_i32_252
  let c3_i32_253 : BitVec 32 := 3#32
  let v434 : BitVec 32 := Scalar.addi v433 c3_i32_253
  let c224_i32 : BitVec 32 := 224#32
  let v435 : BitVec 1 := Scalar.cmpi .slt v434 c224_i32
  let v436 : BitVec 32 := Scalar.extui v435
  let c0_i32_254 : BitVec 32 := 0#32
  let v437 : BitVec 1 := Scalar.cmpi .ne v436 c0_i32_254
  v437

def k0_mult28 (k0_t3 : Fin k0_t3_loop.trips) : BitVec 32 :=
  let c0_i32_147 : BitVec 32 := 0#32
  let c1_i32_148 : BitVec 32 := 1#32
  let arg21 : BitVec 32 := Scf.iv c0_i32_147 c1_i32_148 k0_t3
  let c28_i32_273 : BitVec 32 := 28#32
  let v467 : BitVec 32 := Scalar.addi arg21 c28_i32_273
  let c3_i32_274 : BitVec 32 := 3#32
  let v468 : BitVec 32 := Scalar.addi v467 c3_i32_274
  let c28_i32_282 : BitVec 32 := 28#32
  let v486 : BitVec 32 := Scalar.remsi v468 c28_i32_282
  let c1792_i32_285 : BitVec 32 := 1792#32
  let v489 : BitVec 32 := Scalar.muli v486 c1792_i32_285
  v489
def k0_mult29 (k0_t3 : Fin k0_t3_loop.trips) : BitVec 32 :=
  let c0_i32_147 : BitVec 32 := 0#32
  let c1_i32_148 : BitVec 32 := 1#32
  let arg21 : BitVec 32 := Scf.iv c0_i32_147 c1_i32_148 k0_t3
  let c28_i32_273 : BitVec 32 := 28#32
  let v467 : BitVec 32 := Scalar.addi arg21 c28_i32_273
  let c3_i32_274 : BitVec 32 := 3#32
  let v468 : BitVec 32 := Scalar.addi v467 c3_i32_274
  let c0_i32_276 : BitVec 32 := 0#32
  let v470 : BitVec 1 := Scalar.cmpi .sgt v468 c0_i32_276
  let v471 : BitVec 32 := Scalar.extui v470
  let c0_i32_277 : BitVec 32 := 0#32
  let v472 : BitVec 1 := Scalar.cmpi .slt v468 c0_i32_277
  let v473 : BitVec 32 := Scalar.extui v472
  let v474 : BitVec 32 := Scalar.subi v471 v473
  let c28_i32_275 : BitVec 32 := 28#32
  let c0_i32_278 : BitVec 32 := 0#32
  let v475 : BitVec 1 := Scalar.cmpi .sgt c28_i32_275 c0_i32_278
  let v476 : BitVec 32 := Scalar.extui v475
  let c0_i32_279 : BitVec 32 := 0#32
  let v477 : BitVec 1 := Scalar.cmpi .slt c28_i32_275 c0_i32_279
  let v478 : BitVec 32 := Scalar.extui v477
  let v479 : BitVec 32 := Scalar.subi v476 v478
  let v480 : BitVec 1 := Scalar.cmpi .ne v474 v479
  let v481 : BitVec 32 := Scalar.remsi v468 c28_i32_275
  let c0_i32_280 : BitVec 32 := 0#32
  let v482 : BitVec 1 := Scalar.cmpi .ne v481 c0_i32_280
  let v483 : BitVec 1 := Scalar.andi v480 v482
  let v469 : BitVec 32 := Scalar.divsi v468 c28_i32_275
  let c1_i32_281 : BitVec 32 := 1#32
  let v484 : BitVec 32 := Scalar.subi v469 c1_i32_281
  let v485 : BitVec 32 := Scalar.select v483 v484 v469
  let c256_i32_286 : BitVec 32 := 256#32
  let v491 : BitVec 32 := Scalar.muli v485 c256_i32_286
  v491
def k0_off38 (k0_t3 : Fin k0_t3_loop.trips) : Fin 1 → Nat :=
  let c0_i32_147 : BitVec 32 := 0#32
  let c1_i32_148 : BitVec 32 := 1#32
  let arg21 : BitVec 32 := Scf.iv c0_i32_147 c1_i32_148 k0_t3
  let c28_i32_273 : BitVec 32 := 28#32
  let v467 : BitVec 32 := Scalar.addi arg21 c28_i32_273
  let c3_i32_274 : BitVec 32 := 3#32
  let v468 : BitVec 32 := Scalar.addi v467 c3_i32_274
  let c3_i32_284 : BitVec 32 := 3#32
  let v488 : BitVec 32 := Scalar.remsi v468 c3_i32_284
  ![v488.toNat]
def k0_off39 (k0_t3 : Fin k0_t3_loop.trips) : Fin 3 → Nat :=
  let c0_i32_147 : BitVec 32 := 0#32
  let c1_i32_148 : BitVec 32 := 1#32
  let arg21 : BitVec 32 := Scf.iv c0_i32_147 c1_i32_148 k0_t3
  let c28_i32_273 : BitVec 32 := 28#32
  let v467 : BitVec 32 := Scalar.addi arg21 c28_i32_273
  let c3_i32_274 : BitVec 32 := 3#32
  let v468 : BitVec 32 := Scalar.addi v467 c3_i32_274
  let c31_i32_283 : BitVec 32 := 31#32
  let v487 : BitVec 32 := Scalar.remsi v468 c31_i32_283
  let c0_i32_287 : BitVec 32 := 0#32
  let c0_i32_288 : BitVec 32 := 0#32
  ![v487.toNat, 0, 0]
def k0_off40 (k0_t3 : Fin k0_t3_loop.trips) : Fin 2 → Nat :=
  let c0_i32_147 : BitVec 32 := 0#32
  let c1_i32_148 : BitVec 32 := 1#32
  let arg21 : BitVec 32 := Scf.iv c0_i32_147 c1_i32_148 k0_t3
  let c28_i32_273 : BitVec 32 := 28#32
  let v467 : BitVec 32 := Scalar.addi arg21 c28_i32_273
  let c3_i32_274 : BitVec 32 := 3#32
  let v468 : BitVec 32 := Scalar.addi v467 c3_i32_274
  let c28_i32_282 : BitVec 32 := 28#32
  let v486 : BitVec 32 := Scalar.remsi v468 c28_i32_282
  let c1792_i32_285 : BitVec 32 := 1792#32
  let v489 : BitVec 32 := Scalar.muli v486 c1792_i32_285
  let v490 : BitVec 32 := v489
  let c0_i32_276 : BitVec 32 := 0#32
  let v470 : BitVec 1 := Scalar.cmpi .sgt v468 c0_i32_276
  let v471 : BitVec 32 := Scalar.extui v470
  let c0_i32_277 : BitVec 32 := 0#32
  let v472 : BitVec 1 := Scalar.cmpi .slt v468 c0_i32_277
  let v473 : BitVec 32 := Scalar.extui v472
  let v474 : BitVec 32 := Scalar.subi v471 v473
  let c28_i32_275 : BitVec 32 := 28#32
  let c0_i32_278 : BitVec 32 := 0#32
  let v475 : BitVec 1 := Scalar.cmpi .sgt c28_i32_275 c0_i32_278
  let v476 : BitVec 32 := Scalar.extui v475
  let c0_i32_279 : BitVec 32 := 0#32
  let v477 : BitVec 1 := Scalar.cmpi .slt c28_i32_275 c0_i32_279
  let v478 : BitVec 32 := Scalar.extui v477
  let v479 : BitVec 32 := Scalar.subi v476 v478
  let v480 : BitVec 1 := Scalar.cmpi .ne v474 v479
  let v481 : BitVec 32 := Scalar.remsi v468 c28_i32_275
  let c0_i32_280 : BitVec 32 := 0#32
  let v482 : BitVec 1 := Scalar.cmpi .ne v481 c0_i32_280
  let v483 : BitVec 1 := Scalar.andi v480 v482
  let v469 : BitVec 32 := Scalar.divsi v468 c28_i32_275
  let c1_i32_281 : BitVec 32 := 1#32
  let v484 : BitVec 32 := Scalar.subi v469 c1_i32_281
  let v485 : BitVec 32 := Scalar.select v483 v484 v469
  let c256_i32_286 : BitVec 32 := 256#32
  let v491 : BitVec 32 := Scalar.muli v485 c256_i32_286
  let v492 : BitVec 32 := v491
  ![v490.toNat, v492.toNat]
def k0_cond5 (k0_t3 : Fin k0_t3_loop.trips) : BitVec 1 :=
  let c0_i32_147 : BitVec 32 := 0#32
  let c1_i32_148 : BitVec 32 := 1#32
  let arg21 : BitVec 32 := Scf.iv c0_i32_147 c1_i32_148 k0_t3
  let c0_i32_188 : BitVec 32 := 0#32
  let v319 : BitVec 1 := Scalar.cmpi .sgt arg21 c0_i32_188
  let v320 : BitVec 32 := Scalar.extui v319
  let c0_i32_189 : BitVec 32 := 0#32
  let v321 : BitVec 1 := Scalar.cmpi .slt arg21 c0_i32_189
  let v322 : BitVec 32 := Scalar.extui v321
  let v323 : BitVec 32 := Scalar.subi v320 v322
  let c28_i32_187 : BitVec 32 := 28#32
  let c0_i32_190 : BitVec 32 := 0#32
  let v324 : BitVec 1 := Scalar.cmpi .sgt c28_i32_187 c0_i32_190
  let v325 : BitVec 32 := Scalar.extui v324
  let c0_i32_191 : BitVec 32 := 0#32
  let v326 : BitVec 1 := Scalar.cmpi .slt c28_i32_187 c0_i32_191
  let v327 : BitVec 32 := Scalar.extui v326
  let v328 : BitVec 32 := Scalar.subi v325 v327
  let v329 : BitVec 1 := Scalar.cmpi .ne v323 v328
  let v330 : BitVec 32 := Scalar.remsi arg21 c28_i32_187
  let c0_i32_192 : BitVec 32 := 0#32
  let v331 : BitVec 1 := Scalar.cmpi .ne v330 c0_i32_192
  let v332 : BitVec 1 := Scalar.andi v329 v331
  let v318 : BitVec 32 := Scalar.divsi arg21 c28_i32_187
  let c1_i32_193 : BitVec 32 := 1#32
  let v333 : BitVec 32 := Scalar.subi v318 c1_i32_193
  let v334 : BitVec 32 := Scalar.select v332 v333 v318
  let c1_i32_195 : BitVec 32 := 1#32
  let v336 : BitVec 32 := Scalar.addi v334 c1_i32_195
  let c1_i32_255 : BitVec 32 := 1#32
  let v438 : BitVec 32 := Scalar.addi v336 c1_i32_255
  let c4_i32_256 : BitVec 32 := 4#32
  let v439 : BitVec 32 := Scalar.remsi v438 c4_i32_256
  let c0_i32_257 : BitVec 32 := 0#32
  let v440 : BitVec 1 := Scalar.cmpi .eq v439 c0_i32_257
  let c1_i32_258 : BitVec 32 := 1#32
  let v441 : BitVec 32 := Scalar.addi v336 c1_i32_258
  let c8_i32 : BitVec 32 := 8#32
  let v442 : BitVec 1 := Scalar.cmpi .slt v441 c8_i32
  let v443 : BitVec 1 := Scalar.andi v440 v442
  let v444 : BitVec 32 := Scalar.extui v443
  let c0_i32_259 : BitVec 32 := 0#32
  let v445 : BitVec 1 := Scalar.cmpi .ne v444 c0_i32_259
  v445

def k0_mult30 (k0_t3 : Fin k0_t3_loop.trips) : BitVec 32 :=
  let c0_i32_147 : BitVec 32 := 0#32
  let c1_i32_148 : BitVec 32 := 1#32
  let arg21 : BitVec 32 := Scf.iv c0_i32_147 c1_i32_148 k0_t3
  let c28_i32_194 : BitVec 32 := 28#32
  let v335 : BitVec 32 := Scalar.remsi arg21 c28_i32_194
  let c1792_i32_274 : BitVec 32 := 1792#32
  let v468 : BitVec 32 := Scalar.muli v335 c1792_i32_274
  v468
def k0_mult31 (k0_t3 : Fin k0_t3_loop.trips) : BitVec 32 :=
  let c0_i32_147 : BitVec 32 := 0#32
  let c1_i32_148 : BitVec 32 := 1#32
  let arg21 : BitVec 32 := Scf.iv c0_i32_147 c1_i32_148 k0_t3
  let c0_i32_188 : BitVec 32 := 0#32
  let v319 : BitVec 1 := Scalar.cmpi .sgt arg21 c0_i32_188
  let v320 : BitVec 32 := Scalar.extui v319
  let c0_i32_189 : BitVec 32 := 0#32
  let v321 : BitVec 1 := Scalar.cmpi .slt arg21 c0_i32_189
  let v322 : BitVec 32 := Scalar.extui v321
  let v323 : BitVec 32 := Scalar.subi v320 v322
  let c28_i32_187 : BitVec 32 := 28#32
  let c0_i32_190 : BitVec 32 := 0#32
  let v324 : BitVec 1 := Scalar.cmpi .sgt c28_i32_187 c0_i32_190
  let v325 : BitVec 32 := Scalar.extui v324
  let c0_i32_191 : BitVec 32 := 0#32
  let v326 : BitVec 1 := Scalar.cmpi .slt c28_i32_187 c0_i32_191
  let v327 : BitVec 32 := Scalar.extui v326
  let v328 : BitVec 32 := Scalar.subi v325 v327
  let v329 : BitVec 1 := Scalar.cmpi .ne v323 v328
  let v330 : BitVec 32 := Scalar.remsi arg21 c28_i32_187
  let c0_i32_192 : BitVec 32 := 0#32
  let v331 : BitVec 1 := Scalar.cmpi .ne v330 c0_i32_192
  let v332 : BitVec 1 := Scalar.andi v329 v331
  let v318 : BitVec 32 := Scalar.divsi arg21 c28_i32_187
  let c1_i32_193 : BitVec 32 := 1#32
  let v333 : BitVec 32 := Scalar.subi v318 c1_i32_193
  let v334 : BitVec 32 := Scalar.select v332 v333 v318
  let c1_i32_195 : BitVec 32 := 1#32
  let v336 : BitVec 32 := Scalar.addi v334 c1_i32_195
  let c0_i32_200 : BitVec 32 := 0#32
  let v342 : BitVec 1 := Scalar.cmpi .sgt v336 c0_i32_200
  let v343 : BitVec 32 := Scalar.extui v342
  let c0_i32_201 : BitVec 32 := 0#32
  let v344 : BitVec 1 := Scalar.cmpi .slt v336 c0_i32_201
  let v345 : BitVec 32 := Scalar.extui v344
  let v346 : BitVec 32 := Scalar.subi v343 v345
  let c4_i32 : BitVec 32 := 4#32
  let c0_i32_202 : BitVec 32 := 0#32
  let v347 : BitVec 1 := Scalar.cmpi .sgt c4_i32 c0_i32_202
  let v348 : BitVec 32 := Scalar.extui v347
  let c0_i32_203 : BitVec 32 := 0#32
  let v349 : BitVec 1 := Scalar.cmpi .slt c4_i32 c0_i32_203
  let v350 : BitVec 32 := Scalar.extui v349
  let v351 : BitVec 32 := Scalar.subi v348 v350
  let v352 : BitVec 1 := Scalar.cmpi .ne v346 v351
  let v353 : BitVec 32 := Scalar.remsi v336 c4_i32
  let c0_i32_204 : BitVec 32 := 0#32
  let v354 : BitVec 1 := Scalar.cmpi .ne v353 c0_i32_204
  let v355 : BitVec 1 := Scalar.andi v352 v354
  let v341 : BitVec 32 := Scalar.divsi v336 c4_i32
  let c1_i32_205 : BitVec 32 := 1#32
  let v356 : BitVec 32 := Scalar.subi v341 c1_i32_205
  let v357 : BitVec 32 := Scalar.select v355 v356 v341
  let c1_i32_273 : BitVec 32 := 1#32
  let v467 : BitVec 32 := Scalar.addi v357 c1_i32_273
  let c128_i32_275 : BitVec 32 := 128#32
  let v470 : BitVec 32 := Scalar.muli v467 c128_i32_275
  v470
def k0_off41 (k0_t3 : Fin k0_t3_loop.trips) : Fin 1 → Nat :=
  let c0_i32_147 : BitVec 32 := 0#32
  let c1_i32_148 : BitVec 32 := 1#32
  let arg21 : BitVec 32 := Scf.iv c0_i32_147 c1_i32_148 k0_t3
  let c28_i32_194 : BitVec 32 := 28#32
  let v335 : BitVec 32 := Scalar.remsi arg21 c28_i32_194
  ![v335.toNat]
def k0_off42 (k0_t3 : Fin k0_t3_loop.trips) : Fin 3 → Nat :=
  let c0_i32_147 : BitVec 32 := 0#32
  let c1_i32_148 : BitVec 32 := 1#32
  let arg21 : BitVec 32 := Scf.iv c0_i32_147 c1_i32_148 k0_t3
  let c28_i32_194 : BitVec 32 := 28#32
  let v335 : BitVec 32 := Scalar.remsi arg21 c28_i32_194
  let c0_i32_276 : BitVec 32 := 0#32
  let c0_i32_277 : BitVec 32 := 0#32
  ![v335.toNat, 0, 0]
def k0_off43 (k0_t3 : Fin k0_t3_loop.trips) : Fin 2 → Nat :=
  let c0_i32_147 : BitVec 32 := 0#32
  let c1_i32_148 : BitVec 32 := 1#32
  let arg21 : BitVec 32 := Scf.iv c0_i32_147 c1_i32_148 k0_t3
  let c28_i32_194 : BitVec 32 := 28#32
  let v335 : BitVec 32 := Scalar.remsi arg21 c28_i32_194
  let c1792_i32_274 : BitVec 32 := 1792#32
  let v468 : BitVec 32 := Scalar.muli v335 c1792_i32_274
  let v469 : BitVec 32 := v468
  let c0_i32_188 : BitVec 32 := 0#32
  let v319 : BitVec 1 := Scalar.cmpi .sgt arg21 c0_i32_188
  let v320 : BitVec 32 := Scalar.extui v319
  let c0_i32_189 : BitVec 32 := 0#32
  let v321 : BitVec 1 := Scalar.cmpi .slt arg21 c0_i32_189
  let v322 : BitVec 32 := Scalar.extui v321
  let v323 : BitVec 32 := Scalar.subi v320 v322
  let c28_i32_187 : BitVec 32 := 28#32
  let c0_i32_190 : BitVec 32 := 0#32
  let v324 : BitVec 1 := Scalar.cmpi .sgt c28_i32_187 c0_i32_190
  let v325 : BitVec 32 := Scalar.extui v324
  let c0_i32_191 : BitVec 32 := 0#32
  let v326 : BitVec 1 := Scalar.cmpi .slt c28_i32_187 c0_i32_191
  let v327 : BitVec 32 := Scalar.extui v326
  let v328 : BitVec 32 := Scalar.subi v325 v327
  let v329 : BitVec 1 := Scalar.cmpi .ne v323 v328
  let v330 : BitVec 32 := Scalar.remsi arg21 c28_i32_187
  let c0_i32_192 : BitVec 32 := 0#32
  let v331 : BitVec 1 := Scalar.cmpi .ne v330 c0_i32_192
  let v332 : BitVec 1 := Scalar.andi v329 v331
  let v318 : BitVec 32 := Scalar.divsi arg21 c28_i32_187
  let c1_i32_193 : BitVec 32 := 1#32
  let v333 : BitVec 32 := Scalar.subi v318 c1_i32_193
  let v334 : BitVec 32 := Scalar.select v332 v333 v318
  let c1_i32_195 : BitVec 32 := 1#32
  let v336 : BitVec 32 := Scalar.addi v334 c1_i32_195
  let c0_i32_200 : BitVec 32 := 0#32
  let v342 : BitVec 1 := Scalar.cmpi .sgt v336 c0_i32_200
  let v343 : BitVec 32 := Scalar.extui v342
  let c0_i32_201 : BitVec 32 := 0#32
  let v344 : BitVec 1 := Scalar.cmpi .slt v336 c0_i32_201
  let v345 : BitVec 32 := Scalar.extui v344
  let v346 : BitVec 32 := Scalar.subi v343 v345
  let c4_i32 : BitVec 32 := 4#32
  let c0_i32_202 : BitVec 32 := 0#32
  let v347 : BitVec 1 := Scalar.cmpi .sgt c4_i32 c0_i32_202
  let v348 : BitVec 32 := Scalar.extui v347
  let c0_i32_203 : BitVec 32 := 0#32
  let v349 : BitVec 1 := Scalar.cmpi .slt c4_i32 c0_i32_203
  let v350 : BitVec 32 := Scalar.extui v349
  let v351 : BitVec 32 := Scalar.subi v348 v350
  let v352 : BitVec 1 := Scalar.cmpi .ne v346 v351
  let v353 : BitVec 32 := Scalar.remsi v336 c4_i32
  let c0_i32_204 : BitVec 32 := 0#32
  let v354 : BitVec 1 := Scalar.cmpi .ne v353 c0_i32_204
  let v355 : BitVec 1 := Scalar.andi v352 v354
  let v341 : BitVec 32 := Scalar.divsi v336 c4_i32
  let c1_i32_205 : BitVec 32 := 1#32
  let v356 : BitVec 32 := Scalar.subi v341 c1_i32_205
  let v357 : BitVec 32 := Scalar.select v355 v356 v341
  let c1_i32_273 : BitVec 32 := 1#32
  let v467 : BitVec 32 := Scalar.addi v357 c1_i32_273
  let c128_i32_275 : BitVec 32 := 128#32
  let v470 : BitVec 32 := Scalar.muli v467 c128_i32_275
  let v471 : BitVec 32 := v470
  ![v469.toNat, v471.toNat]
def k0_mult32 (k0_t3 : Fin k0_t3_loop.trips) : BitVec 32 :=
  let c0_i32_147 : BitVec 32 := 0#32
  let c1_i32_148 : BitVec 32 := 1#32
  let arg21 : BitVec 32 := Scf.iv c0_i32_147 c1_i32_148 k0_t3
  let c28_i32_194 : BitVec 32 := 28#32
  let v335 : BitVec 32 := Scalar.remsi arg21 c28_i32_194
  let c1792_i32_260 : BitVec 32 := 1792#32
  let v446 : BitVec 32 := Scalar.muli v335 c1792_i32_260
  v446
def k0_mult33 (k0_t3 : Fin k0_t3_loop.trips) : BitVec 32 :=
  let c0_i32_147 : BitVec 32 := 0#32
  let c1_i32_148 : BitVec 32 := 1#32
  let arg21 : BitVec 32 := Scf.iv c0_i32_147 c1_i32_148 k0_t3
  let c0_i32_188 : BitVec 32 := 0#32
  let v319 : BitVec 1 := Scalar.cmpi .sgt arg21 c0_i32_188
  let v320 : BitVec 32 := Scalar.extui v319
  let c0_i32_189 : BitVec 32 := 0#32
  let v321 : BitVec 1 := Scalar.cmpi .slt arg21 c0_i32_189
  let v322 : BitVec 32 := Scalar.extui v321
  let v323 : BitVec 32 := Scalar.subi v320 v322
  let c28_i32_187 : BitVec 32 := 28#32
  let c0_i32_190 : BitVec 32 := 0#32
  let v324 : BitVec 1 := Scalar.cmpi .sgt c28_i32_187 c0_i32_190
  let v325 : BitVec 32 := Scalar.extui v324
  let c0_i32_191 : BitVec 32 := 0#32
  let v326 : BitVec 1 := Scalar.cmpi .slt c28_i32_187 c0_i32_191
  let v327 : BitVec 32 := Scalar.extui v326
  let v328 : BitVec 32 := Scalar.subi v325 v327
  let v329 : BitVec 1 := Scalar.cmpi .ne v323 v328
  let v330 : BitVec 32 := Scalar.remsi arg21 c28_i32_187
  let c0_i32_192 : BitVec 32 := 0#32
  let v331 : BitVec 1 := Scalar.cmpi .ne v330 c0_i32_192
  let v332 : BitVec 1 := Scalar.andi v329 v331
  let v318 : BitVec 32 := Scalar.divsi arg21 c28_i32_187
  let c1_i32_193 : BitVec 32 := 1#32
  let v333 : BitVec 32 := Scalar.subi v318 c1_i32_193
  let v334 : BitVec 32 := Scalar.select v332 v333 v318
  let c256_i32_261 : BitVec 32 := 256#32
  let v448 : BitVec 32 := Scalar.muli v334 c256_i32_261
  let c0_i32_262 : BitVec 32 := 0#32
  let v449 : BitVec 32 := Scalar.addi v448 c0_i32_262
  v449
def k0_mult34 (k0_t3 : Fin k0_t3_loop.trips) : BitVec 32 :=
  let c0_i32_147 : BitVec 32 := 0#32
  let c1_i32_148 : BitVec 32 := 1#32
  let arg21 : BitVec 32 := Scf.iv c0_i32_147 c1_i32_148 k0_t3
  let c0_i32_188 : BitVec 32 := 0#32
  let v319 : BitVec 1 := Scalar.cmpi .sgt arg21 c0_i32_188
  let v320 : BitVec 32 := Scalar.extui v319
  let c0_i32_189 : BitVec 32 := 0#32
  let v321 : BitVec 1 := Scalar.cmpi .slt arg21 c0_i32_189
  let v322 : BitVec 32 := Scalar.extui v321
  let v323 : BitVec 32 := Scalar.subi v320 v322
  let c28_i32_187 : BitVec 32 := 28#32
  let c0_i32_190 : BitVec 32 := 0#32
  let v324 : BitVec 1 := Scalar.cmpi .sgt c28_i32_187 c0_i32_190
  let v325 : BitVec 32 := Scalar.extui v324
  let c0_i32_191 : BitVec 32 := 0#32
  let v326 : BitVec 1 := Scalar.cmpi .slt c28_i32_187 c0_i32_191
  let v327 : BitVec 32 := Scalar.extui v326
  let v328 : BitVec 32 := Scalar.subi v325 v327
  let v329 : BitVec 1 := Scalar.cmpi .ne v323 v328
  let v330 : BitVec 32 := Scalar.remsi arg21 c28_i32_187
  let c0_i32_192 : BitVec 32 := 0#32
  let v331 : BitVec 1 := Scalar.cmpi .ne v330 c0_i32_192
  let v332 : BitVec 1 := Scalar.andi v329 v331
  let v318 : BitVec 32 := Scalar.divsi arg21 c28_i32_187
  let c1_i32_193 : BitVec 32 := 1#32
  let v333 : BitVec 32 := Scalar.subi v318 c1_i32_193
  let v334 : BitVec 32 := Scalar.select v332 v333 v318
  let c256_i32_263 : BitVec 32 := 256#32
  let v451 : BitVec 32 := Scalar.muli v334 c256_i32_263
  let c128_i32_264 : BitVec 32 := 128#32
  let v452 : BitVec 32 := Scalar.addi v451 c128_i32_264
  v452
def k0_off44 (k0_t3 : Fin k0_t3_loop.trips) : Fin 1 → Nat :=
  let c0_i32_147 : BitVec 32 := 0#32
  let c1_i32_148 : BitVec 32 := 1#32
  let arg21 : BitVec 32 := Scf.iv c0_i32_147 c1_i32_148 k0_t3
  let c2_i32_196 : BitVec 32 := 2#32
  let v337 : BitVec 32 := Scalar.remsi arg21 c2_i32_196
  ![v337.toNat]
def k0_off45 (k0_t3 : Fin k0_t3_loop.trips) (c0_i32_262 : BitVec 32) : Fin 2 → Nat :=
  let c0_i32_147 : BitVec 32 := 0#32
  let c1_i32_148 : BitVec 32 := 1#32
  let arg21 : BitVec 32 := Scf.iv c0_i32_147 c1_i32_148 k0_t3
  let c28_i32_194 : BitVec 32 := 28#32
  let v335 : BitVec 32 := Scalar.remsi arg21 c28_i32_194
  let c1792_i32_260 : BitVec 32 := 1792#32
  let v446 : BitVec 32 := Scalar.muli v335 c1792_i32_260
  let v447 : BitVec 32 := v446
  let c0_i32_188 : BitVec 32 := 0#32
  let v319 : BitVec 1 := Scalar.cmpi .sgt arg21 c0_i32_188
  let v320 : BitVec 32 := Scalar.extui v319
  let c0_i32_189 : BitVec 32 := 0#32
  let v321 : BitVec 1 := Scalar.cmpi .slt arg21 c0_i32_189
  let v322 : BitVec 32 := Scalar.extui v321
  let v323 : BitVec 32 := Scalar.subi v320 v322
  let c28_i32_187 : BitVec 32 := 28#32
  let c0_i32_190 : BitVec 32 := 0#32
  let v324 : BitVec 1 := Scalar.cmpi .sgt c28_i32_187 c0_i32_190
  let v325 : BitVec 32 := Scalar.extui v324
  let c0_i32_191 : BitVec 32 := 0#32
  let v326 : BitVec 1 := Scalar.cmpi .slt c28_i32_187 c0_i32_191
  let v327 : BitVec 32 := Scalar.extui v326
  let v328 : BitVec 32 := Scalar.subi v325 v327
  let v329 : BitVec 1 := Scalar.cmpi .ne v323 v328
  let v330 : BitVec 32 := Scalar.remsi arg21 c28_i32_187
  let c0_i32_192 : BitVec 32 := 0#32
  let v331 : BitVec 1 := Scalar.cmpi .ne v330 c0_i32_192
  let v332 : BitVec 1 := Scalar.andi v329 v331
  let v318 : BitVec 32 := Scalar.divsi arg21 c28_i32_187
  let c1_i32_193 : BitVec 32 := 1#32
  let v333 : BitVec 32 := Scalar.subi v318 c1_i32_193
  let v334 : BitVec 32 := Scalar.select v332 v333 v318
  let c256_i32_261 : BitVec 32 := 256#32
  let v448 : BitVec 32 := Scalar.muli v334 c256_i32_261
  let v449 : BitVec 32 := Scalar.addi v448 c0_i32_262
  let v450 : BitVec 32 := v449
  ![v447.toNat, v450.toNat]
def k0_off46 (k0_t3 : Fin k0_t3_loop.trips) : Fin 4 → Nat :=
  let c0_i32_147 : BitVec 32 := 0#32
  let c1_i32_148 : BitVec 32 := 1#32
  let arg21 : BitVec 32 := Scf.iv c0_i32_147 c1_i32_148 k0_t3
  let c2_i32_196 : BitVec 32 := 2#32
  let v337 : BitVec 32 := Scalar.remsi arg21 c2_i32_196
  let c0_i32_265 : BitVec 32 := 0#32
  let c0_i32_266 : BitVec 32 := 0#32
  let c0_i32_267 : BitVec 32 := 0#32
  ![v337.toNat, 0, 0, 0]
def k0_off47 (k0_t3 : Fin k0_t3_loop.trips) : Fin 4 → Nat :=
  let c0_i32_147 : BitVec 32 := 0#32
  let c1_i32_148 : BitVec 32 := 1#32
  let arg21 : BitVec 32 := Scf.iv c0_i32_147 c1_i32_148 k0_t3
  let c2_i32_196 : BitVec 32 := 2#32
  let v337 : BitVec 32 := Scalar.remsi arg21 c2_i32_196
  let c1_i32_268 : BitVec 32 := 1#32
  let c0_i32_269 : BitVec 32 := 0#32
  let c0_i32_270 : BitVec 32 := 0#32
  ![v337.toNat, 1, 0, 0]
def k0_cond6 (k0_t3 : Fin k0_t3_loop.trips) : BitVec 1 :=
  let c0_i32_147 : BitVec 32 := 0#32
  let c1_i32_148 : BitVec 32 := 1#32
  let arg21 : BitVec 32 := Scf.iv c0_i32_147 c1_i32_148 k0_t3
  let c28_i32_194 : BitVec 32 := 28#32
  let v335 : BitVec 32 := Scalar.remsi arg21 c28_i32_194
  let c27_i32_271 : BitVec 32 := 27#32
  let v464 : BitVec 1 := Scalar.cmpi .eq v335 c27_i32_271
  let v465 : BitVec 32 := Scalar.extui v464
  let c0_i32_272 : BitVec 32 := 0#32
  let v466 : BitVec 1 := Scalar.cmpi .ne v465 c0_i32_272
  v466

def k0_off48 (k0_t3 : Fin k0_t3_loop.trips) (c0_i32_276 : BitVec 32) : Fin 2 → Nat :=
  let c0_i32_147 : BitVec 32 := 0#32
  let c1_i32_148 : BitVec 32 := 1#32
  let arg21 : BitVec 32 := Scf.iv c0_i32_147 c1_i32_148 k0_t3
  let c0_i32_188 : BitVec 32 := 0#32
  let v319 : BitVec 1 := Scalar.cmpi .sgt arg21 c0_i32_188
  let v320 : BitVec 32 := Scalar.extui v319
  let c0_i32_189 : BitVec 32 := 0#32
  let v321 : BitVec 1 := Scalar.cmpi .slt arg21 c0_i32_189
  let v322 : BitVec 32 := Scalar.extui v321
  let v323 : BitVec 32 := Scalar.subi v320 v322
  let c28_i32_187 : BitVec 32 := 28#32
  let c0_i32_190 : BitVec 32 := 0#32
  let v324 : BitVec 1 := Scalar.cmpi .sgt c28_i32_187 c0_i32_190
  let v325 : BitVec 32 := Scalar.extui v324
  let c0_i32_191 : BitVec 32 := 0#32
  let v326 : BitVec 1 := Scalar.cmpi .slt c28_i32_187 c0_i32_191
  let v327 : BitVec 32 := Scalar.extui v326
  let v328 : BitVec 32 := Scalar.subi v325 v327
  let v329 : BitVec 1 := Scalar.cmpi .ne v323 v328
  let v330 : BitVec 32 := Scalar.remsi arg21 c28_i32_187
  let c0_i32_192 : BitVec 32 := 0#32
  let v331 : BitVec 1 := Scalar.cmpi .ne v330 c0_i32_192
  let v332 : BitVec 1 := Scalar.andi v329 v331
  let v318 : BitVec 32 := Scalar.divsi arg21 c28_i32_187
  let c1_i32_193 : BitVec 32 := 1#32
  let v333 : BitVec 32 := Scalar.subi v318 c1_i32_193
  let v334 : BitVec 32 := Scalar.select v332 v333 v318
  let c1_i32_195 : BitVec 32 := 1#32
  let v336 : BitVec 32 := Scalar.addi v334 c1_i32_195
  let c2_i32_275 : BitVec 32 := 2#32
  let v469 : BitVec 32 := Scalar.muli v336 c2_i32_275
  let v470 : BitVec 32 := Scalar.addi v469 c0_i32_276
  let v471 : Index := Scalar.indexCast v470
  let c0_277 : Index := 0#32
  ![v471.toNat, 0]
@[reducible] def k0_t5_loop : Scf.Loop 32 :=
  let c0_i32_150 : BitVec 32 := 0#32
  let c28_i32_151 : BitVec 32 := 28#32
  let v281 : BitVec 32 := Scalar.addi c0_i32_150 c28_i32_151
  let c1_i32_152 : BitVec 32 := 1#32
  ⟨c0_i32_150, v281, c1_i32_152⟩
def k0_mult35 (k0_t5 : Fin k0_t5_loop.trips) : BitVec 32 :=
  let c0_i32_150 : BitVec 32 := 0#32
  let c1_i32_152 : BitVec 32 := 1#32
  let arg21 : BitVec 32 := Scf.iv c0_i32_150 c1_i32_152 k0_t5
  let c1792_i32_189 : BitVec 32 := 1792#32
  let v320 : BitVec 32 := Scalar.muli arg21 c1792_i32_189
  v320
def k0_mult36 : BitVec 32 :=
  let c7_i32_190 : BitVec 32 := 7#32
  let c256_i32_191 : BitVec 32 := 256#32
  let v322 : BitVec 32 := Scalar.muli c7_i32_190 c256_i32_191
  let c0_i32_192 : BitVec 32 := 0#32
  let v323 : BitVec 32 := Scalar.addi v322 c0_i32_192
  v323
def k0_mult37 : BitVec 32 :=
  let c7_i32_193 : BitVec 32 := 7#32
  let c256_i32_194 : BitVec 32 := 256#32
  let v325 : BitVec 32 := Scalar.muli c7_i32_193 c256_i32_194
  let c128_i32_195 : BitVec 32 := 128#32
  let v326 : BitVec 32 := Scalar.addi v325 c128_i32_195
  v326
def k0_off49 (k0_t5 : Fin k0_t5_loop.trips) : Fin 1 → Nat :=
  let c0_i32_150 : BitVec 32 := 0#32
  let c1_i32_152 : BitVec 32 := 1#32
  let arg21 : BitVec 32 := Scf.iv c0_i32_150 c1_i32_152 k0_t5
  let c196_i32_187 : BitVec 32 := 196#32
  let v318 : BitVec 32 := Scalar.addi arg21 c196_i32_187
  let c2_i32_188 : BitVec 32 := 2#32
  let v319 : BitVec 32 := Scalar.remsi v318 c2_i32_188
  ![v319.toNat]
def k0_off50 (k0_t5 : Fin k0_t5_loop.trips) (c0_i32_192 : BitVec 32) : Fin 2 → Nat :=
  let c0_i32_150 : BitVec 32 := 0#32
  let c1_i32_152 : BitVec 32 := 1#32
  let arg21 : BitVec 32 := Scf.iv c0_i32_150 c1_i32_152 k0_t5
  let c1792_i32_189 : BitVec 32 := 1792#32
  let v320 : BitVec 32 := Scalar.muli arg21 c1792_i32_189
  let v321 : BitVec 32 := v320
  let c7_i32_190 : BitVec 32 := 7#32
  let c256_i32_191 : BitVec 32 := 256#32
  let v322 : BitVec 32 := Scalar.muli c7_i32_190 c256_i32_191
  let v323 : BitVec 32 := Scalar.addi v322 c0_i32_192
  let v324 : BitVec 32 := v323
  ![v321.toNat, v324.toNat]
def k0_off51 (k0_t5 : Fin k0_t5_loop.trips) : Fin 4 → Nat :=
  let c0_i32_150 : BitVec 32 := 0#32
  let c1_i32_152 : BitVec 32 := 1#32
  let arg21 : BitVec 32 := Scf.iv c0_i32_150 c1_i32_152 k0_t5
  let c196_i32_187 : BitVec 32 := 196#32
  let v318 : BitVec 32 := Scalar.addi arg21 c196_i32_187
  let c2_i32_188 : BitVec 32 := 2#32
  let v319 : BitVec 32 := Scalar.remsi v318 c2_i32_188
  let c0_i32_196 : BitVec 32 := 0#32
  let c0_i32_197 : BitVec 32 := 0#32
  let c0_i32_198 : BitVec 32 := 0#32
  ![v319.toNat, 0, 0, 0]
def k0_off52 (k0_t5 : Fin k0_t5_loop.trips) : Fin 4 → Nat :=
  let c0_i32_150 : BitVec 32 := 0#32
  let c1_i32_152 : BitVec 32 := 1#32
  let arg21 : BitVec 32 := Scf.iv c0_i32_150 c1_i32_152 k0_t5
  let c196_i32_187 : BitVec 32 := 196#32
  let v318 : BitVec 32 := Scalar.addi arg21 c196_i32_187
  let c2_i32_188 : BitVec 32 := 2#32
  let v319 : BitVec 32 := Scalar.remsi v318 c2_i32_188
  let c1_i32_199 : BitVec 32 := 1#32
  let c0_i32_200 : BitVec 32 := 0#32
  let c0_i32_201 : BitVec 32 := 0#32
  ![v319.toNat, 1, 0, 0]
@[reducible] def k0_t6_loop : Scf.Loop 32 :=
  let c0_i32_220 : BitVec 32 := 0#32
  let c7_i32_221 : BitVec 32 := 7#32
  let v362 : BitVec 32 := Scalar.addi c0_i32_220 c7_i32_221
  let c1_i32_222 : BitVec 32 := 1#32
  ⟨c0_i32_220, v362, c1_i32_222⟩
def k0_off53 (k0_t5 : Fin k0_t5_loop.trips) (k0_t6 : Fin k0_t6_loop.trips) (c0_i32_239 : BitVec 32) : Fin 3 → Nat :=
  let c0_i32_150 : BitVec 32 := 0#32
  let c1_i32_152 : BitVec 32 := 1#32
  let arg21 : BitVec 32 := Scf.iv c0_i32_150 c1_i32_152 k0_t5
  let c196_i32_187 : BitVec 32 := 196#32
  let v318 : BitVec 32 := Scalar.addi arg21 c196_i32_187
  let c31_i32_237 : BitVec 32 := 31#32
  let v381 : BitVec 32 := Scalar.remsi v318 c31_i32_237
  let v384 : Index := Scalar.indexCast v381
  let c0_i32_220 : BitVec 32 := 0#32
  let c1_i32_222 : BitVec 32 := 1#32
  let arg22 : BitVec 32 := Scf.iv c0_i32_220 c1_i32_222 k0_t6
  let c256_i32_238 : BitVec 32 := 256#32
  let v382 : BitVec 32 := Scalar.muli arg22 c256_i32_238
  let v383 : BitVec 32 := Scalar.addi v382 c0_i32_239
  let v385 : Index := Scalar.indexCast v383
  let c0_240 : Index := 0#32
  ![v384.toNat, v385.toNat, 0]
def k0_off54 (k0_t5 : Fin k0_t5_loop.trips) (k0_t6 : Fin k0_t6_loop.trips) (c0_i32_239 : BitVec 32) : Fin 4 → Nat :=
  let c0_i32_150 : BitVec 32 := 0#32
  let c1_i32_152 : BitVec 32 := 1#32
  let arg21 : BitVec 32 := Scf.iv c0_i32_150 c1_i32_152 k0_t5
  let c196_i32_187 : BitVec 32 := 196#32
  let v318 : BitVec 32 := Scalar.addi arg21 c196_i32_187
  let c2_i32_188 : BitVec 32 := 2#32
  let v319 : BitVec 32 := Scalar.remsi v318 c2_i32_188
  let v399 : Index := Scalar.indexCast v319
  let c0_242 : Index := 0#32
  let c0_i32_220 : BitVec 32 := 0#32
  let c1_i32_222 : BitVec 32 := 1#32
  let arg22 : BitVec 32 := Scf.iv c0_i32_220 c1_i32_222 k0_t6
  let c256_i32_238 : BitVec 32 := 256#32
  let v382 : BitVec 32 := Scalar.muli arg22 c256_i32_238
  let v383 : BitVec 32 := Scalar.addi v382 c0_i32_239
  let v400 : Index := Scalar.indexCast v383
  let c0_243 : Index := 0#32
  ![v399.toNat, 0, v400.toNat, 0]
def k0_off55 (k0_t5 : Fin k0_t5_loop.trips) (k0_t6 : Fin k0_t6_loop.trips) (c0_i32_273 : BitVec 32) : Fin 3 → Nat :=
  let c0_i32_150 : BitVec 32 := 0#32
  let c1_i32_152 : BitVec 32 := 1#32
  let arg21 : BitVec 32 := Scf.iv c0_i32_150 c1_i32_152 k0_t5
  let c196_i32_187 : BitVec 32 := 196#32
  let v318 : BitVec 32 := Scalar.addi arg21 c196_i32_187
  let c31_i32_237 : BitVec 32 := 31#32
  let v381 : BitVec 32 := Scalar.remsi v318 c31_i32_237
  let v552 : Index := Scalar.indexCast v381
  let c0_i32_220 : BitVec 32 := 0#32
  let c1_i32_222 : BitVec 32 := 1#32
  let arg22 : BitVec 32 := Scf.iv c0_i32_220 c1_i32_222 k0_t6
  let c256_i32_238 : BitVec 32 := 256#32
  let v382 : BitVec 32 := Scalar.muli arg22 c256_i32_238
  let v551 : BitVec 32 := Scalar.addi v382 c0_i32_273
  let v553 : Index := Scalar.indexCast v551
  let c128 : Index := 128#32
  ![v552.toNat, v553.toNat, 128]
def k0_off56 (k0_t5 : Fin k0_t5_loop.trips) (k0_t6 : Fin k0_t6_loop.trips) (c0_i32_273 : BitVec 32) : Fin 4 → Nat :=
  let c0_i32_150 : BitVec 32 := 0#32
  let c1_i32_152 : BitVec 32 := 1#32
  let arg21 : BitVec 32 := Scf.iv c0_i32_150 c1_i32_152 k0_t5
  let c196_i32_187 : BitVec 32 := 196#32
  let v318 : BitVec 32 := Scalar.addi arg21 c196_i32_187
  let c2_i32_188 : BitVec 32 := 2#32
  let v319 : BitVec 32 := Scalar.remsi v318 c2_i32_188
  let v567 : Index := Scalar.indexCast v319
  let c1_275 : Index := 1#32
  let c0_i32_220 : BitVec 32 := 0#32
  let c1_i32_222 : BitVec 32 := 1#32
  let arg22 : BitVec 32 := Scf.iv c0_i32_220 c1_i32_222 k0_t6
  let c256_i32_238 : BitVec 32 := 256#32
  let v382 : BitVec 32 := Scalar.muli arg22 c256_i32_238
  let v551 : BitVec 32 := Scalar.addi v382 c0_i32_273
  let v568 : Index := Scalar.indexCast v551
  let c0_276 : Index := 0#32
  ![v567.toNat, 1, v568.toNat, 0]
def k0_mult38 (k0_t5 : Fin k0_t5_loop.trips) : BitVec 32 :=
  let c0_i32_150 : BitVec 32 := 0#32
  let c1_i32_152 : BitVec 32 := 1#32
  let arg21 : BitVec 32 := Scf.iv c0_i32_150 c1_i32_152 k0_t5
  let c1792_i32_224 : BitVec 32 := 1792#32
  let v363 : BitVec 32 := Scalar.muli arg21 c1792_i32_224
  v363
def k0_mult39 : BitVec 32 :=
  let c7_i32_225 : BitVec 32 := 7#32
  let c256_i32_226 : BitVec 32 := 256#32
  let v365 : BitVec 32 := Scalar.muli c7_i32_225 c256_i32_226
  let c0_i32_227 : BitVec 32 := 0#32
  let v366 : BitVec 32 := Scalar.addi v365 c0_i32_227
  v366
def k0_mult40 : BitVec 32 :=
  let c7_i32_228 : BitVec 32 := 7#32
  let c256_i32_229 : BitVec 32 := 256#32
  let v368 : BitVec 32 := Scalar.muli c7_i32_228 c256_i32_229
  let c128_i32_230 : BitVec 32 := 128#32
  let v369 : BitVec 32 := Scalar.addi v368 c128_i32_230
  v369
def k0_mult41 : BitVec 32 :=
  let c26_i32 : BitVec 32 := 26#32
  let c1792_i32_154 : BitVec 32 := 1792#32
  let v282 : BitVec 32 := Scalar.muli c26_i32 c1792_i32_154
  v282
def k0_mult42 : BitVec 32 :=
  let c7_i32_155 : BitVec 32 := 7#32
  let c256_i32_156 : BitVec 32 := 256#32
  let v284 : BitVec 32 := Scalar.muli c7_i32_155 c256_i32_156
  let c0_i32_157 : BitVec 32 := 0#32
  let v285 : BitVec 32 := Scalar.addi v284 c0_i32_157
  v285
def k0_mult43 : BitVec 32 :=
  let c7_i32_158 : BitVec 32 := 7#32
  let c256_i32_159 : BitVec 32 := 256#32
  let v287 : BitVec 32 := Scalar.muli c7_i32_158 c256_i32_159
  let c128_i32 : BitVec 32 := 128#32
  let v288 : BitVec 32 := Scalar.addi v287 c128_i32
  v288
def k0_off57 (c26_i32 : BitVec 32) (c0_i32_157 : BitVec 32) : Fin 2 → Nat :=
  let c1792_i32_154 : BitVec 32 := 1792#32
  let v282 : BitVec 32 := Scalar.muli c26_i32 c1792_i32_154
  let v283 : BitVec 32 := v282
  let c7_i32_155 : BitVec 32 := 7#32
  let c256_i32_156 : BitVec 32 := 256#32
  let v284 : BitVec 32 := Scalar.muli c7_i32_155 c256_i32_156
  let v285 : BitVec 32 := Scalar.addi v284 c0_i32_157
  let v286 : BitVec 32 := v285
  ![v283.toNat, v286.toNat]
def k0_mult44 : BitVec 32 :=
  let c27_i32 : BitVec 32 := 27#32
  let c1792_i32_170 : BitVec 32 := 1792#32
  let v300 : BitVec 32 := Scalar.muli c27_i32 c1792_i32_170
  v300
def k0_mult45 : BitVec 32 :=
  let c7_i32_171 : BitVec 32 := 7#32
  let c256_i32_172 : BitVec 32 := 256#32
  let v302 : BitVec 32 := Scalar.muli c7_i32_171 c256_i32_172
  let c0_i32_173 : BitVec 32 := 0#32
  let v303 : BitVec 32 := Scalar.addi v302 c0_i32_173
  v303
def k0_mult46 : BitVec 32 :=
  let c7_i32_174 : BitVec 32 := 7#32
  let c256_i32_175 : BitVec 32 := 256#32
  let v305 : BitVec 32 := Scalar.muli c7_i32_174 c256_i32_175
  let c128_i32_176 : BitVec 32 := 128#32
  let v306 : BitVec 32 := Scalar.addi v305 c128_i32_176
  v306
abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S16x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S16x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== ReferenceIdeal.lean ====
abbrev S1024x49x2048 : Shape := ⟨3, ![1024, 49, 2048]⟩
abbrev S_ : Shape := ⟨0, ![]⟩
abbrev S1024x49x256 : Shape := ⟨3, ![1024, 49, 256]⟩
abbrev S2048 : Shape := ⟨1, ![2048]⟩
abbrev S1024x49x256x1 : Shape := ⟨4, ![1024, 49, 256, 1]⟩
abbrev S8 : Shape := ⟨1, ![8]⟩
abbrev S1x1x1x8 : Shape := ⟨4, ![1, 1, 1, 8]⟩
abbrev S1024x49x256x8 : Shape := ⟨4, ![1024, 49, 256, 8]⟩
abbrev S1x1x2048 : Shape := ⟨3, ![1, 1, 2048]⟩

abbrev nBuf : Space → Nat
  | .hbm => 63
  | .vmem => 4
  | .smem => 0
  | _ => 0

abbrev bufTy : (tb : Table) → Fin (tcTables nBuf tb) → BufTy
  | .hbm, ⟨0, _⟩ => ⟨S1024x49x2048, .i8⟩
  | .hbm, ⟨1, _⟩ => ⟨S_, .f32⟩
  | .hbm, ⟨2, _⟩ => ⟨S1024x49x2048, .i8⟩
  | .hbm, ⟨3, _⟩ => ⟨S_, .f32⟩
  | .hbm, ⟨4, _⟩ => ⟨S1024x49x256, .i8⟩
  | .hbm, ⟨5, _⟩ => ⟨S2048, .f32⟩
  | .hbm, ⟨6, _⟩ => ⟨S2048, .f32⟩
  | .hbm, ⟨7, _⟩ => ⟨S2048, .f32⟩
  | .hbm, ⟨8, _⟩ => ⟨S1024x49x2048, .fp8e4m3⟩
  | .hbm, ⟨9, _⟩ => ⟨S1024x49x2048, .fp8e5m2⟩
  | .hbm, ⟨10, _⟩ => ⟨S1024x49x2048, .f32⟩
  | .hbm, ⟨11, _⟩ => ⟨S1024x49x2048, .f32⟩
  | .hbm, ⟨12, _⟩ => ⟨S1024x49x256, .i32⟩
  | .hbm, ⟨13, _⟩ => ⟨S1024x49x256x1, .i32⟩
  | .hbm, ⟨14, _⟩ => ⟨S8, .i32⟩
  | .hbm, ⟨15, _⟩ => ⟨S1x1x1x8, .i32⟩
  | .hbm, ⟨16, _⟩ => ⟨S1024x49x256x8, .i32⟩
  | .hbm, ⟨17, _⟩ => ⟨S1024x49x256x8, .i32⟩
  | .hbm, ⟨18, _⟩ => ⟨S1024x49x256x8, .i32⟩
  | .hbm, ⟨19, _⟩ => ⟨S_, .i32⟩
  | .hbm, ⟨20, _⟩ => ⟨S1024x49x256x8, .i32⟩
  | .hbm, ⟨21, _⟩ => ⟨S1024x49x256x8, .i32⟩
  | .hbm, ⟨22, _⟩ => ⟨S1024x49x2048, .i32⟩
  | .hbm, ⟨23, _⟩ => ⟨S1024x49x2048, .f32⟩
  | .hbm, ⟨24, _⟩ => ⟨S1024x49x2048, .f32⟩
  | .hbm, ⟨25, _⟩ => ⟨S1x1x2048, .f32⟩
  | .hbm, ⟨26, _⟩ => ⟨S1024x49x2048, .f32⟩
  | .hbm, ⟨27, _⟩ => ⟨S1024x49x2048, .f32⟩
  | .hbm, ⟨28, _⟩ => ⟨S1x1x2048, .f32⟩
  | .hbm, ⟨29, _⟩ => ⟨S1024x49x2048, .f32⟩
  | .hbm, ⟨30, _⟩ => ⟨S1024x49x2048, .f32⟩
  | .hbm, ⟨31, _⟩ => ⟨S_, .i32⟩
  | .hbm, ⟨32, _⟩ => ⟨S1024x49x2048, .i32⟩
  | .hbm, ⟨33, _⟩ => ⟨S1024x49x2048, .i1⟩
  | .hbm, ⟨34, _⟩ => ⟨S1024x49x2048, .f32⟩
  | .hbm, ⟨35, _⟩ => ⟨S1024x49x2048, .f32⟩
  | .hbm, ⟨36, _⟩ => ⟨S_, .f32⟩
  | .hbm, ⟨37, _⟩ => ⟨S_, .f32⟩
  | .hbm, ⟨38, _⟩ => ⟨S1024x49x2048, .f32⟩
  | .hbm, ⟨39, _⟩ => ⟨S1024x49x2048, .f32⟩
  | .hbm, ⟨40, _⟩ => ⟨S_, .f32⟩
  | .hbm, ⟨41, _⟩ => ⟨S2048, .f32⟩
  | .hbm, ⟨42, _⟩ => ⟨S1024x49x2048, .f32⟩
  | .hbm, ⟨43, _⟩ => ⟨S_, .f32⟩
  | .hbm, ⟨44, _⟩ => ⟨S2048, .f32⟩
  | .hbm, ⟨45, _⟩ => ⟨S2048, .f32⟩
  | .hbm, ⟨46, _⟩ => ⟨S_, .f32⟩
  | .hbm, ⟨47, _⟩ => ⟨S2048, .f32⟩
  | .hbm, ⟨48, _⟩ => ⟨S2048, .f32⟩
  | .hbm, ⟨49, _⟩ => ⟨S1x1x2048, .f32⟩
  | .hbm, ⟨50, _⟩ => ⟨S1024x49x2048, .f32⟩
  | .hbm, ⟨51, _⟩ => ⟨S1024x49x2048, .f32⟩
  | .hbm, ⟨52, _⟩ => ⟨S_, .f32⟩
  | .hbm, ⟨53, _⟩ => ⟨S2048, .f32⟩
  | .hbm, ⟨54, _⟩ => ⟨S2048, .f32⟩
  | .hbm, ⟨55, _⟩ => ⟨S1x1x2048, .f32⟩
  | .hbm, ⟨56, _⟩ => ⟨S1024x49x2048, .f32⟩
  | .hbm, ⟨57, _⟩ => ⟨S1024x49x2048, .f32⟩
  | .hbm, ⟨58, _⟩ => ⟨S1024x49x2048, .f32⟩
  | .hbm, ⟨59, _⟩ => ⟨S1x1x2048, .f32⟩
  | .hbm, ⟨60, _⟩ => ⟨S1024x49x2048, .f32⟩
  | .hbm, ⟨61, _⟩ => ⟨S1024x49x2048, .f32⟩
  | .hbm, ⟨62, _⟩ => ⟨S1024x49x2048, .bf16⟩
  | .local _ .vmem, ⟨0, _⟩ => ⟨S1024x49x2048, .fp8e4m3⟩
  | .local _ .vmem, ⟨1, _⟩ => ⟨S1024x49x2048, .fp8e5m2⟩
  | .local _ .vmem, ⟨2, _⟩ => ⟨S1024x49x2048, .f32⟩
  | .local _ .vmem, ⟨3, _⟩ => ⟨S1024x49x2048, .f32⟩
  | _, _ => ⟨S1024x49x2048, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2_0 : Ref sig .tc := ⟨.hbm, 10, rfl⟩
abbrev main_v2_1 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_c : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_c_0 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst : Ref sig .tc := ⟨.hbm, 36, rfl⟩
abbrev main_call0_v0 : Ref sig .tc := ⟨.hbm, 37, rfl⟩
abbrev main_call0_v1 : Ref sig .tc := ⟨.hbm, 38, rfl⟩
abbrev main_v25 : Ref sig .tc := ⟨.hbm, 39, rfl⟩
abbrev main_cst_1 : Ref sig .tc := ⟨.hbm, 40, rfl⟩
abbrev main_v26 : Ref sig .tc := ⟨.hbm, 41, rfl⟩
abbrev main_v27 : Ref sig .tc := ⟨.hbm, 42, rfl⟩
abbrev main_cst_2 : Ref sig .tc := ⟨.hbm, 43, rfl⟩
abbrev main_v28 : Ref sig .tc := ⟨.hbm, 44, rfl⟩
abbrev main_v29 : Ref sig .tc := ⟨.hbm, 45, rfl⟩
abbrev main_cst_3 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_4 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S1024x49x2048 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x49x2048 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x49x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x49x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.Model.lean ====
/-
  The kernel's row groups as programs of eight tiles. The printed loop bodies list every load and store of a
  256-row group one after the other; the programs here say the same in one tile and eight calls of it, and the printed
  bodies are these programs by definitional unfolding.
-/
module

public import proofs.«01_k».proof.Proof.Gen.Kernel.Skeleton

@[expose] public section

noncomputable section

namespace Cert.Kernel.Hand

open Cert.Kernel Cert.Kernel.Gen
open Idealize.ShloMosaic Idealize.SL.Sem

variable {F : FTy → Type} [FloatOps F]

/-- One tile of the masked reduction: the mask's bytes, the cotangents and the inputs are read, and the cotangents are
    written back masked. -/
def redTile (mM : Memref sig .tc .vmem S28x1792x128 .i8) (dM : Memref sig .tc .vmem S31x1792x256 .fp8e5m2)
    (xM : Memref sig .tc .vmem S31x1792x256 .fp8e4m3) (v2 lb : IVec S8x128 32) (oM oD : Fin 3 → Nat)
    (hM : ∀ a, oM a + S1x32x128.size a ≤ S28x1792x128.size a) (hD : ∀ a, oD a + S1x32x128.size a ≤ S31x1792x256.size a)
    (hst : (dM.access (Rect.unit (s := S31x1792x256) oD S1x32x128.size hD)).Stores Finset.univ) :
    Prog (TpuEff nD τ sig (Elt F) Λ₀ .tc) (Σ' (_ : FVec F S32x128 .fp8e5m2), Vec F S1x32x128 .fp8e4m3) := do
  let m : Vec F S1x32x128 .i8 ← Prog.lift (.load mM (Rect.unit (s := S28x1792x128) oM S1x32x128.size hM).toLoadRect (View.loadsAt_vmem h_S1x32x128))
  let d : Vec F S1x32x128 .fp8e5m2 ← Prog.lift (.load dM (Rect.unit (s := S31x1792x256) oD S1x32x128.size hD).toLoadRect (View.loadsAt_vmem h_S1x32x128))
  let _ : Vec F S1x32x128 .fp8e5m2 ← Prog.lift (.load dM (Rect.unit (s := S31x1792x256) oD S1x32x128.size hD).toLoadRect (View.loadsAt_vmem h_S1x32x128))
  Prog.lift (.store dM (Rect.unit (s := S31x1792x256) oD S1x32x128.size hD) (k0_pay2 v2 lb m d) Finset.univ hst (.inl rfl))
  let x : Vec F S1x32x128 .fp8e4m3 ← Prog.lift (.load xM (Rect.unit (s := S31x1792x256) oD S1x32x128.size hD).toLoadRect (View.loadsAt_vmem h_S1x32x128))
  pure ⟨k0_pay1 v2 lb m d, x⟩

/-- A tile's products, at f32. -/
def prodT (md : FVec F S32x128 .fp8e5m2) (x : Vec F S1x32x128 .fp8e4m3) : FVec F S32x128 .f32 :=
  mulf (extf .f32 (k0_pay9 md) bitsLt_bf16_f32)
    (extf .f32 (extf .bf16 (shapeCast S32x128 x shapeCasts_S1x32x128_S32x128) bitsLt_fp8e4m3_bf16) bitsLt_bf16_f32)

/-- One row of a running block of eight sums added to what the array of sums holds. -/
def addS (q : FVec F S8x128 .f32) (v : Vec F S1x8x128 .f32) : FVec F S1x8x128 .f32 :=
  shapeCast S1x8x128 (addf (shapeCast S8x128 v shapeCasts_S1x8x128_S8x128) q) shapeCasts_S8x128_S1x8x128

/-- The masked reduction of one group of 256 rows of 128 channels: eight tiles, their sums added to the two arrays. -/
def redCol (mM : Memref sig .tc .vmem S28x1792x128 .i8) (dM : Memref sig .tc .vmem S31x1792x256 .fp8e5m2)
    (xM : Memref sig .tc .vmem S31x1792x256 .fp8e4m3) (s1M s2M : Memref sig .tc .vmem S2x8x128 .f32)
    (v2 lb : IVec S8x128 32) (oM oD : BitVec 32 → Fin 3 → Nat) (oS : Fin 3 → Nat)
    (hM : ∀ r : Fin 8, ∀ a, oM (BitVec.ofNat 32 (32 * r.val)) a + S1x32x128.size a ≤ S28x1792x128.size a)
    (hD : ∀ r : Fin 8, ∀ a, oD (BitVec.ofNat 32 (32 * r.val)) a + S1x32x128.size a ≤ S31x1792x256.size a)
    (hS : ∀ a, oS a + S1x8x128.size a ≤ S2x8x128.size a)
    (hst : ∀ r : Fin 8, (dM.access (Rect.unit (s := S31x1792x256) (oD (BitVec.ofNat 32 (32 * r.val))) S1x32x128.size (hD r))).Stores Finset.univ) :
    Prog (TpuEff nD τ sig (Elt F) Λ₀ .tc) Unit := do
  let ⟨d0, x0⟩ ← redTile mM dM xM v2 lb (oM 0#32) (oD 0#32) (hM 0) (hD 0) (hst 0)
  let ⟨d1, x1⟩ ← redTile mM dM xM v2 lb (oM 32#32) (oD 32#32) (hM 1) (hD 1) (hst 1)
  let ⟨d2, x2⟩ ← redTile mM dM xM v2 lb (oM 64#32) (oD 64#32) (hM 2) (hD 2) (hst 2)
  let ⟨d3, x3⟩ ← redTile mM dM xM v2 lb (oM 96#32) (oD 96#32) (hM 3) (hD 3) (hst 3)
  let ⟨d4, x4⟩ ← redTile mM dM xM v2 lb (oM 128#32) (oD 128#32) (hM 4) (hD 4) (hst 4)
  let ⟨d5, x5⟩ ← redTile mM dM xM v2 lb (oM 160#32) (oD 160#32) (hM 5) (hD 5) (hst 5)
  let ⟨d6, x6⟩ ← redTile mM dM xM v2 lb (oM 192#32) (oD 192#32) (hM 6) (hD 6) (hst 6)
  let ⟨d7, x7⟩ ← redTile mM dM xM v2 lb (oM 224#32) (oD 224#32) (hM 7) (hD 7) (hst 7)
  let a : Vec F S1x8x128 .f32 ← Prog.lift (.load s1M (Rect.unit (s := S2x8x128) oS S1x8x128.size hS).toLoadRect (View.loadsAt_vmem h_S1x8x128))
  let _ : Vec F S1x8x128 .f32 ← Prog.lift (.load s1M (Rect.unit (s := S2x8x128) oS S1x8x128.size hS).toLoadRect (View.loadsAt_vmem h_S1x8x128))
  Prog.lift (.store s1M (Rect.unit (s := S2x8x128) oS S1x8x128.size hS)
    (addS (k0_pay11 (k0_pay11 (k0_pay11 (k0_pay11 (k0_pay11 (k0_pay11 (k0_pay11 (k0_pay6 (k0_pay9 d0)) d1) d2) d3) d4) d5) d6) d7) a) Finset.univ (View.stores_vmem_bits_univ h_S1x8x128 rfl) (.inl rfl))
  let b : Vec F S1x8x128 .f32 ← Prog.lift (.load s2M (Rect.unit (s := S2x8x128) oS S1x8x128.size hS).toLoadRect (View.loadsAt_vmem h_S1x8x128))
  let _ : Vec F S1x8x128 .f32 ← Prog.lift (.load s2M (Rect.unit (s := S2x8x128) oS S1x8x128.size hS).toLoadRect (View.loadsAt_vmem h_S1x8x128))
  Prog.lift (.store s2M (Rect.unit (s := S2x8x128) oS S1x8x128.size hS)
    (addS (k0_pay10 (k0_pay10 (k0_pay10 (k0_pay10 (k0_pay10 (k0_pay10 (k0_pay10 (k0_pay5 (prodT d0 x0)) d1 x1) d2 x2) d3 x3) d4 x4) d5 x5) d6 x6) d7 x7) b) Finset.univ (View.stores_vmem_bits_univ h_S1x8x128 rfl) (.inl rfl))
  pure ⟨⟩

/-- One tile of the input gradient. -/
def dxTile (dM : Memref sig .tc .vmem S31x1792x256 .fp8e5m2) (xM : Memref sig .tc .vmem S31x1792x256 .fp8e4m3)
    (oMr : Memref sig .tc .vmem S2x2x1792x128 .bf16) (a b e : FVec F S32x128 .f32) (oD : Fin 3 → Nat) (oO : Fin 4 → Nat)
    (hD : ∀ a, oD a + S1x32x128.size a ≤ S31x1792x256.size a) (hO : ∀ a, oO a + S1x1x32x128.size a ≤ S2x2x1792x128.size a)
    (hst : (oMr.access (Rect.unit (s := S2x2x1792x128) oO S1x1x32x128.size hO)).Stores Finset.univ) : Prog (TpuEff nD τ sig (Elt F) Λ₀ .tc) Unit := do
  let d : Vec F S1x32x128 .fp8e5m2 ← Prog.lift (.load dM (Rect.unit (s := S31x1792x256) oD S1x32x128.size hD).toLoadRect (View.loadsAt_vmem h_S1x32x128))
  let x : Vec F S1x32x128 .fp8e4m3 ← Prog.lift (.load xM (Rect.unit (s := S31x1792x256) oD S1x32x128.size hD).toLoadRect (View.loadsAt_vmem h_S1x32x128))
  let _ : Vec F S1x1x32x128 .bf16 ← Prog.lift (.load oMr (Rect.unit (s := S2x2x1792x128) oO S1x1x32x128.size hO).toLoadRect (View.loadsAt_vmem h_S1x1x32x128))
  Prog.lift (.store oMr (Rect.unit (s := S2x2x1792x128) oO S1x1x32x128.size hO) (k0_pay284 a b e d x) Finset.univ hst (.inl rfl))

/-- The input gradient of one group of 256 rows of 128 channels. -/
def dxCol (dM : Memref sig .tc .vmem S31x1792x256 .fp8e5m2) (xM : Memref sig .tc .vmem S31x1792x256 .fp8e4m3)
    (oMr : Memref sig .tc .vmem S2x2x1792x128 .bf16) (a b e : FVec F S32x128 .f32) (oD : BitVec 32 → Fin 3 → Nat) (oO : BitVec 32 → Fin 4 → Nat)
    (hD : ∀ r : Fin 8, ∀ a, oD (BitVec.ofNat 32 (32 * r.val)) a + S1x32x128.size a ≤ S31x1792x256.size a)
    (hO : ∀ r : Fin 8, ∀ a, oO (BitVec.ofNat 32 (32 * r.val)) a + S1x1x32x128.size a ≤ S2x2x1792x128.size a)
    (hst : ∀ r : Fin 8, (oMr.access (Rect.unit (s := S2x2x1792x128) (oO (BitVec.ofNat 32 (32 * r.val))) S1x1x32x128.size (hO r))).Stores Finset.univ) :
    Prog (TpuEff nD τ sig (Elt F) Λ₀ .tc) Unit := do
  dxTile dM xM oMr a b e (oD 0#32) (oO 0#32) (hD 0) (hO 0) (hst 0)
  dxTile dM xM oMr a b e (oD 32#32) (oO 32#32) (hD 1) (hO 1) (hst 1)
  dxTile dM xM oMr a b e (oD 64#32) (oO 64#32) (hD 2) (hO 2) (hst 2)
  dxTile dM xM oMr a b e (oD 96#32) (oO 96#32) (hD 3) (hO 3) (hst 3)
  dxTile dM xM oMr a b e (oD 128#32) (oO 128#32) (hD 4) (hO 4) (hst 4)
  dxTile dM xM oMr a b e (oD 160#32) (oO 160#32) (hD 5) (hO 5) (hst 5)
  dxTile dM xM oMr a b e (oD 192#32) (oO 192#32) (hD 6) (hO 6) (hst 6)
  dxTile dM xM oMr a b e (oD 224#32) (oO 224#32) (hD 7) (hO 7) (hst 7)

end Cert.Kernel.Hand
-- ==== Proof.Bodies.lean ====
/-
  The printed bodies of the kernel's three inner loops are the programs of eight tiles of the model.
-/
module

public import proofs.«01_k».proof.Proof.Model

@[expose] public section

noncomputable section

namespace Cert.Kernel.Hand

open Cert.Kernel Cert.Kernel.Gen
open Idealize.ShloMosaic Idealize.SL.Sem

variable {F : FTy → Type} [FloatOps F]

set_option maxRecDepth 65536 in
theorem k0_t6_body_eq (arg0 : Memref sig .tc .smem S1 .f32) (harg0 : arg0.IsWhole) (arg1 : Memref sig .tc .smem S1 .f32) (harg1 : arg1.IsWhole) (arg2 : Memref sig .tc .hbm S50176x2048 .fp8e4m3) (harg2 : arg2.IsWhole) (arg3 : Memref sig .tc .hbm S50176x2048 .fp8e5m2) (harg3 : arg3.IsWhole) (arg4 : Memref sig .tc .hbm S50176x256 .i8) (harg4 : arg4.IsWhole) (arg5 : Memref sig .tc .vmem S16x128 .f32) (harg5 : arg5.IsWhole) (arg6 : Memref sig .tc .vmem S16x128 .f32) (harg6 : arg6.IsWhole) (arg7 : Memref sig .tc .vmem S16x128 .f32) (harg7 : arg7.IsWhole) (arg8 : Memref sig .tc .hbm S50176x2048 .bf16) (harg8 : arg8.IsWhole) (arg9 : Memref sig .tc .vmem S16x128 .f32) (harg9 : arg9.IsWhole) (arg10 : Memref sig .tc .vmem S16x128 .f32) (harg10 : arg10.IsWhole) (arg11 : Memref sig .tc .vmem S31x1792x256 .fp8e4m3) (harg11 : arg11.IsWhole) (arg12 : Memref sig .tc .vmem S31x1792x256 .fp8e5m2) (harg12 : arg12.IsWhole) (arg13 : Memref sig .tc .vmem S28x1792x128 .i8) (harg13 : arg13.IsWhole) (arg14 : Memref sig .tc .vmem S2x2x1792x128 .bf16) (harg14 : arg14.IsWhole) (arg15 : Memref sig .tc .vmem S2x8x128 .f32) (harg15 : arg15.IsWhole) (arg16 : Memref sig .tc .vmem S2x8x128 .f32) (harg16 : arg16.IsWhole) (arg17 : Memref sig .tc .vmem S6x8x128 .f32) (harg17 : arg17.IsWhole) (arg18 : DmaSems sig S3) (arg19 : DmaSems sig S28) (arg20 : DmaSems sig S2) (c0_i32_150 : BitVec 32) (c1_i32_152 : BitVec 32) (k0_t5 : Fin k0_t5_loop.trips) (v318 : BitVec 32) (v319 : BitVec 32) (v341 : FVec F S32x128 .f32) (v345 : FVec F S32x128 .f32) (v349 : FVec F S32x128 .f32) (v350 : Vec F S1x1x128 .f32) (v354 : Vec F S1x1x128 .f32) (v358 : Vec F S1x1x128 .f32) (u : Fin k0_t6_loop.trips) :
    k0_t6_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 c0_i32_150 c1_i32_152 k0_t5 v318 v319 v341 v345 v349 v350 v354 v358 u () = (do
      dxCol arg12 arg11 arg14 (v341) (v345) (v349) (k0_off53 k0_t5 u) (k0_off54 k0_t5 u) (k0_off53_inb k0_t5 u) (k0_off54_inb k0_t5 u)
        fun r => View.stores_vmem h_S1x1x32x128 (harg14.storeExact_slice rfl _ (k0_off54_packedbf16 k0_t5 u r)) (fun _ => rfl)
      dxCol arg12 arg11 arg14 (k0_pay308 v350) (k0_pay309 v354) (k0_pay310 v358) (k0_off55 k0_t5 u) (k0_off56 k0_t5 u) (k0_off55_inb k0_t5 u) (k0_off56_inb k0_t5 u)
        fun r => View.stores_vmem h_S1x1x32x128 (harg14.storeExact_slice rfl _ (k0_off56_packedbf16 k0_t5 u r)) (fun _ => rfl)) := rfl

set_option maxRecDepth 65536 in
theorem k0_t2_body_eq (arg0 : Memref sig .tc .smem S1 .f32) (harg0 : arg0.IsWhole) (arg1 : Memref sig .tc .smem S1 .f32) (harg1 : arg1.IsWhole) (arg2 : Memref sig .tc .hbm S50176x2048 .fp8e4m3) (harg2 : arg2.IsWhole) (arg3 : Memref sig .tc .hbm S50176x2048 .fp8e5m2) (harg3 : arg3.IsWhole) (arg4 : Memref sig .tc .hbm S50176x256 .i8) (harg4 : arg4.IsWhole) (arg5 : Memref sig .tc .vmem S16x128 .f32) (harg5 : arg5.IsWhole) (arg6 : Memref sig .tc .vmem S16x128 .f32) (harg6 : arg6.IsWhole) (arg7 : Memref sig .tc .vmem S16x128 .f32) (harg7 : arg7.IsWhole) (arg8 : Memref sig .tc .hbm S50176x2048 .bf16) (harg8 : arg8.IsWhole) (arg9 : Memref sig .tc .vmem S16x128 .f32) (harg9 : arg9.IsWhole) (arg10 : Memref sig .tc .vmem S16x128 .f32) (harg10 : arg10.IsWhole) (arg11 : Memref sig .tc .vmem S31x1792x256 .fp8e4m3) (harg11 : arg11.IsWhole) (arg12 : Memref sig .tc .vmem S31x1792x256 .fp8e5m2) (harg12 : arg12.IsWhole) (arg13 : Memref sig .tc .vmem S28x1792x128 .i8) (harg13 : arg13.IsWhole) (arg14 : Memref sig .tc .vmem S2x2x1792x128 .bf16) (harg14 : arg14.IsWhole) (arg15 : Memref sig .tc .vmem S2x8x128 .f32) (harg15 : arg15.IsWhole) (arg16 : Memref sig .tc .vmem S2x8x128 .f32) (harg16 : arg16.IsWhole) (arg17 : Memref sig .tc .vmem S6x8x128 .f32) (harg17 : arg17.IsWhole) (arg18 : DmaSems sig S3) (arg19 : DmaSems sig S28) (arg20 : DmaSems sig S2) (v2 : IVec S8x128 32) (v4 : IVec S8x128 32) (k0_t1 : Fin k0_t1_loop.trips) (arg21 : BitVec 32) (u : Fin k0_t2_loop.trips) :
    k0_t2_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 v2 v4 k0_t1 arg21 u () = (do
      redCol arg13 arg12 arg11 arg15 arg16 v2 (k0_pay114 v4) (k0_off11 k0_t1 u) (k0_off12 k0_t1 u) ![0, 0, 0] (k0_off11_inb k0_t1 u) (k0_off12_inb k0_t1 u) inb_S2x8x128_S1x8x128_0_0_0
        fun r => View.stores_vmem h_S1x32x128 (harg12.storeExact_slice rfl _ (k0_off12_packedfp8e5m2 k0_t1 u r)) (fun _ => rfl)
      redCol arg13 arg12 arg11 arg15 arg16 v2 (k0_pay115 v4) (k0_off11 k0_t1 u) (k0_off13 k0_t1 u) ![1, 0, 0] (k0_off11_inb k0_t1 u) (k0_off13_inb k0_t1 u) inb_S2x8x128_S1x8x128_1_0_0
        fun r => View.stores_vmem h_S1x32x128 (harg12.storeExact_slice rfl _ (k0_off13_packedfp8e5m2 k0_t1 u r)) (fun _ => rfl)) := rfl

set_option maxRecDepth 65536 in
theorem k0_t4_body_eq (arg0 : Memref sig .tc .smem S1 .f32) (harg0 : arg0.IsWhole) (arg1 : Memref sig .tc .smem S1 .f32) (harg1 : arg1.IsWhole) (arg2 : Memref sig .tc .hbm S50176x2048 .fp8e4m3) (harg2 : arg2.IsWhole) (arg3 : Memref sig .tc .hbm S50176x2048 .fp8e5m2) (harg3 : arg3.IsWhole) (arg4 : Memref sig .tc .hbm S50176x256 .i8) (harg4 : arg4.IsWhole) (arg5 : Memref sig .tc .vmem S16x128 .f32) (harg5 : arg5.IsWhole) (arg6 : Memref sig .tc .vmem S16x128 .f32) (harg6 : arg6.IsWhole) (arg7 : Memref sig .tc .vmem S16x128 .f32) (harg7 : arg7.IsWhole) (arg8 : Memref sig .tc .hbm S50176x2048 .bf16) (harg8 : arg8.IsWhole) (arg9 : Memref sig .tc .vmem S16x128 .f32) (harg9 : arg9.IsWhole) (arg10 : Memref sig .tc .vmem S16x128 .f32) (harg10 : arg10.IsWhole) (arg11 : Memref sig .tc .vmem S31x1792x256 .fp8e4m3) (harg11 : arg11.IsWhole) (arg12 : Memref sig .tc .vmem S31x1792x256 .fp8e5m2) (harg12 : arg12.IsWhole) (arg13 : Memref sig .tc .vmem S28x1792x128 .i8) (harg13 : arg13.IsWhole) (arg14 : Memref sig .tc .vmem S2x2x1792x128 .bf16) (harg14 : arg14.IsWhole) (arg15 : Memref sig .tc .vmem S2x8x128 .f32) (harg15 : arg15.IsWhole) (arg16 : Memref sig .tc .vmem S2x8x128 .f32) (harg16 : arg16.IsWhole) (arg17 : Memref sig .tc .vmem S6x8x128 .f32) (harg17 : arg17.IsWhole) (arg18 : DmaSems sig S3) (arg19 : DmaSems sig S28) (arg20 : DmaSems sig S2) (v2 : IVec S8x128 32) (k0_t3 : Fin k0_t3_loop.trips) (arg21 : BitVec 32) (v334 : BitVec 32) (v335 : BitVec 32) (v336 : BitVec 32) (v337 : BitVec 32) (v338 : BitVec 32) (v340 : BitVec 32) (v357 : BitVec 32) (v404 : IVec S8x128 32) (v407 : IVec S8x128 32) (v411 : FVec F S32x128 .f32) (v415 : FVec F S32x128 .f32) (v419 : FVec F S32x128 .f32) (v423 : FVec F S32x128 .f32) (v427 : FVec F S32x128 .f32) (v428 : Vec F S1x1x128 .f32) (u : Fin k0_t4_loop.trips) :
    k0_t4_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 v2 k0_t3 arg21 v334 v335 v336 v337 v338 v340 v357 v404 v407 v411 v415 v419 v423 v427 v428 u () = (do
      dxCol arg12 arg11 arg14 (v411) (v415) (v419) (k0_off31 k0_t3 u) (k0_off32 k0_t3 u) (k0_off31_inb k0_t3 u) (k0_off32_inb k0_t3 u)
        fun r => View.stores_vmem h_S1x1x32x128 (harg14.storeExact_slice rfl _ (k0_off32_packedbf16 k0_t3 u r)) (fun _ => rfl)
      dxCol arg12 arg11 arg14 (v423) (v427) (k0_pay281 v428) (k0_off33 k0_t3 u) (k0_off34 k0_t3 u) (k0_off33_inb k0_t3 u) (k0_off34_inb k0_t3 u)
        fun r => View.stores_vmem h_S1x1x32x128 (harg14.storeExact_slice rfl _ (k0_off34_packedbf16 k0_t3 u r)) (fun _ => rfl)
      redCol arg13 arg12 arg11 arg15 arg16 v2 (v404) (k0_off35 k0_t3 u) (k0_off36 k0_t3 u) ![0, 0, 0] (k0_off35_inb k0_t3 u) (k0_off36_inb k0_t3 u) inb_S2x8x128_S1x8x128_0_0_0
        fun r => View.stores_vmem h_S1x32x128 (harg12.storeExact_slice rfl _ (k0_off36_packedfp8e5m2 k0_t3 u r)) (fun _ => rfl)
      redCol arg13 arg12 arg11 arg15 arg16 v2 (v407) (k0_off35 k0_t3 u) (k0_off37 k0_t3 u) ![1, 0, 0] (k0_off35_inb k0_t3 u) (k0_off37_inb k0_t3 u) inb_S2x8x128_S1x8x128_1_0_0
        fun r => View.stores_vmem h_S1x32x128 (harg12.storeExact_slice rfl _ (k0_off37_packedfp8e5m2 k0_t3 u r)) (fun _ => rfl)) := rfl

end Cert.Kernel.Hand
-- ==== Proof.Base.lean ====
/-
  Part of a memref owned at named contents, and the kernel's operations on it. `own c m T w` is the full share of the
  elements of the memref `m` under the indices `T`, holding `w` there. A load, a store, a copy issued and a copy
  awaited each have one rule over `own`.
-/
module

public import proofs.«01_k».proof.Proof.Gen.Kernel.Launch
public import proofs.«01_k».proof.Proof.Gen.Kernel.Skeleton
public import proofs.«01_k».proof.Proof.Gen.Kernel.Points
public import proofs.«01_k».proof.Proof.Bodies
public import Idealize.ShloMosaic.Lib.Pipeline.FrameBody
public import Idealize.ShloMosaic.Lib.MixedBatch
public import Idealize.ShloMosaic.Lib.Ring
public import Idealize.ShloMosaic.Lib.Tactic
public import Idealize.ShloMosaic.Lib.WordCmp

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-- What is stored through a rectangle, over what was there before. -/
def upd {α : Type} {s : Shape} (r : Rect s) (v : r.shape.Idx → α) (w : s.Idx → α) : s.Idx → α :=
  fun i => match preimage? r.emb i with
    | some x => v x
    | none => w i

theorem upd_emb {α : Type} {s : Shape} (r : Rect s) (v : r.shape.Idx → α) (w : s.Idx → α) (x : r.shape.Idx) :
    upd r v w (r.emb x) = v x := by
  simp [upd, preimage?_emb]

theorem upd_of_not_mem {α : Type} {s : Shape} (r : Rect s) (v : r.shape.Idx → α) (w : s.Idx → α) {i : s.Idx}
    (h : i ∉ r.set) : upd r v w i = w i := by
  unfold upd
  rw [preimage?_eq_none_of_not_mem (by rwa [Rect.map_emb_univ])]

/-- The full share of the elements of `m` under the indices `T`, holding `w`. -/
def own (c : Dev nD) {sp : Space} {s : Shape} {e : EltTy} (m : Memref sig .tc sp s e) (T : Finset s.Idx)
    (w : s.Idx → Elt F e) : sProp 𝕄 :=
  iprop(∃ f, ⌜∀ x ∈ T, m.view.read (Elt F) f x = w x⌝ ∗ (m.view.loc (c : Thread nD τ) ↦[m.view.setOn T]{fullShare} f))

instance own_storable (c : Dev nD) {sp : Space} {s : Shape} {e : EltTy} (m : Memref sig .tc sp s e) (T : Finset s.Idx)
    (w : s.Idx → Elt F e) : BI.Storable (upEmb : UEmb _ 𝕄) (own c m T w) := by
  unfold own; infer_instance

section Own
variable (c : Dev nD) {sp sp' : Space} {s s' : Shape} {e : EltTy} (m : Memref sig .tc sp s e)

theorem own_congr {T : Finset s.Idx} {w w' : s.Idx → Elt F e} (h : ∀ x ∈ T, w x = w' x) : own c m T w ⊢ own c m T w' := by
  unfold own
  iintro ⟨%f, %hf, H⟩
  iexists f; isplitr
  · ipureintro; exact fun x hx => (hf x hx).trans (h x hx)
  iexact H

theorem own_set {T T' : Finset s.Idx} (w : s.Idx → Elt F e) (h : T = T') : own c m T w ⊢ own c m T' w := by
  subst h; exact .rfl

theorem own_split {I T : Finset s.Idx} (w : s.Idx → Elt F e) (h : I ⊆ T) :
    own c m T w ⊢ iprop(own c m I w ∗ own c m (T \ I) w) := by
  unfold own
  iintro ⟨%f, %hf, H⟩
  ihave H' := (pointsTo_split_subset (I := m.view.setOn I) (Finset.map_subset_map.mpr h)).1 $$ H
  icases H' with ⟨H1, H2⟩
  isplitl [H1]
  · iexists f; isplitr
    · ipureintro; exact fun x hx => hf x (h hx)
    iexact H1
  · iexists f; isplitr
    · ipureintro; exact fun x hx => hf x (Finset.mem_sdiff.mp hx).1
    rw [show m.view.setOn (T \ I) = m.view.setOn T \ m.view.setOn I from Finset.map_sdiff _ _]
    iexact H2

theorem own_join {I T : Finset s.Idx} (w w' : s.Idx → Elt F e) (h : I ⊆ T) :
    iprop(own c m I w ∗ own c m (T \ I) w') ⊢ own c m T (I.piecewise w w') := by
  unfold own
  iintro ⟨⟨%f, %hf, H1⟩, ⟨%g, %hg, H2⟩⟩
  iexists ((m.view.setOn I).piecewise f g)
  isplitr
  · ipureintro
    intro x hx
    by_cases hI : x ∈ I
    · rw [Finset.piecewise_eq_of_mem _ _ _ hI, ← hf x hI]
      refine View.read_congr_at _ ?_
      rw [Finset.piecewise_eq_of_mem _ _ _ (m.view.mem_setOn.mpr hI)]
    · rw [Finset.piecewise_eq_of_notMem _ _ _ hI, ← hg x (Finset.mem_sdiff.mpr ⟨hx, hI⟩)]
      refine View.read_congr_at _ ?_
      rw [Finset.piecewise_eq_of_notMem _ _ _ (mt m.view.mem_setOn.mp hI)]
  rw [show m.view.setOn (T \ I) = m.view.setOn T \ m.view.setOn I from Finset.map_sdiff _ _]
  iapply (pointsTo_join_subset (I := m.view.setOn I) (Finset.map_subset_map.mpr h))
  isplitl [H1]; · iexact H1
  iexact H2

/-- A slice owned whole is the rectangle's part of the memref. -/
theorem own_slice (r : Rect s) (hr : ∀ a, r.stride a = 1) (w : s.Idx → Elt F e) :
    own c m r.set w ⊢ own c (m.slice r hr) Finset.univ (fun j => w (r.emb j)) := by
  unfold own
  iintro ⟨%f, %hf, H⟩
  iexists f; isplitr
  · ipureintro
    intro x _
    exact hf (r.emb x) (by rw [← Rect.map_emb_univ]; exact Finset.mem_map_of_mem _ (Finset.mem_univ _))
  rw [show (m.slice r hr).view.setOn Finset.univ = m.view.setOn r.set from View.set_slice m.view r]
  iexact H

theorem own_unslice (r : Rect s) (hr : ∀ a, r.stride a = 1) (w : s.Idx → Elt F e) (w' : r.shape.Idx → Elt F e)
    (h : ∀ j, w' j = w (r.emb j)) :
    own c (m.slice r hr) Finset.univ w' ⊢ own c m r.set w := by
  unfold own
  iintro ⟨%f, %hf, H⟩
  iexists f; isplitr
  · ipureintro
    intro x hx
    rw [← Rect.map_emb_univ] at hx
    obtain ⟨j, _, rfl⟩ := Finset.mem_map.mp hx
    rw [← h]
    exact hf j (Finset.mem_univ _)
  rw [show (m.slice r hr).view.setOn Finset.univ = m.view.setOn r.set from View.set_slice m.view r]
  iexact H

theorem own_squeeze (h : s.Squeezes s') (w : s.Idx → Elt F e) :
    own c m Finset.univ w ⊢ own c (m.squeeze s' h) Finset.univ (fun j => w (Shape.reshapeEquiv h.numel_eq j)) := by
  unfold own
  iintro ⟨%f, %hf, H⟩
  iexists f; isplitr
  · ipureintro
    intro x _
    exact hf _ (Finset.mem_univ _)
  rw [show (m.squeeze s' h).view.setOn Finset.univ = m.view.setOn Finset.univ from View.set_reshape m.view h.numel_eq]
  iexact H

theorem own_unsqueeze (h : s.Squeezes s') (w : s.Idx → Elt F e) (w' : s'.Idx → Elt F e)
    (hw : ∀ j, w' j = w (Shape.reshapeEquiv h.numel_eq j)) :
    own c (m.squeeze s' h) Finset.univ w' ⊢ own c m Finset.univ w := by
  unfold own
  iintro ⟨%f, %hf, H⟩
  iexists f; isplitr
  · ipureintro
    intro x _
    obtain ⟨j, rfl⟩ := (Shape.reshapeEquiv h.numel_eq).surjective x
    rw [← hw]
    exact hf j (Finset.mem_univ _)
  rw [show (m.squeeze s' h).view.setOn Finset.univ = m.view.setOn Finset.univ from View.set_reshape m.view h.numel_eq]
  iexact H

end Own

/-! ## The kernel's operations -/

/-- The kernel's programs run with nothing assumed of a named procedure. -/
abbrev WP (c : Dev nD) {α : Type} (p : Prog (TpuEff nD τ sig (Elt F) Λ₀ .tc) α) (Q : α → sProp 𝕄) : sProp 𝕄 :=
  wp frame (wpE (defs₀ (F := F)) Variants.none (c : Thread nD τ) none) Set.univ p Q

section Ops
variable (c : Dev nD) {s : Shape} {e : EltTy}

theorem wp_ld {cs : CoreSpace} (m : Memref sig .tc cs s e) (r : Rect s) (hl : m.view.LoadsAt r.toLoadRect) {T : Finset s.Idx}
    (w : s.Idx → Elt F e) (hT : r.set ⊆ T) {Q : (r.shape.Idx → Elt F e) → sProp 𝕄} :
    own c m T w ⊢ iprop((own c m T w -∗ Q (fun j => w (r.emb j))) -∗ WP c (Prog.lift (.load m r.toLoadRect hl)) Q) := by
  unfold own
  iintro ⟨%f, %hf, H⟩ Hk
  iapply (Idealize.ShloMosaic.wp_load (k := fun v => .ret v) (Q := Q) Variants.none (c : Thread nD τ) none Set.univ (m := m) (r := r.toLoadRect) (hl := hl) (S := m.view.setOn T) (q := fullShare) (f := f)
    (Finset.map_subset_map.mpr hT)) $$ H
  iintro H
  rw [wp_ret]
  imodintro
  rw [show (m.view.readAt (Elt F) r.toLoadRect f) = fun j => w (r.emb j) from funext fun j =>
    hf (r.emb j) (hT (by rw [← Rect.map_emb_univ]; exact Finset.mem_map_of_mem _ (Finset.mem_univ _)))]
  iapply Hk
  iexists f; isplitr
  · ipureintro; exact hf
  iexact H

theorem wp_st {cs : CoreSpace} (m : Memref sig .tc cs s e) (r : Rect s) (v : r.shape.Idx → Elt F e) (hx : (m.access r).Stores Finset.univ)
    (hm : (Finset.univ : Finset r.shape.Idx) = Finset.univ ∨ ∀ a, r.stride a = 1) {T : Finset s.Idx}
    (w : s.Idx → Elt F e) (hT : r.set ⊆ T) {Q : PUnit → sProp 𝕄} :
    own c m T w ⊢ iprop((own c m T (upd r v w) -∗ Q ⟨⟩) -∗ WP c (Prog.lift (.store m r v Finset.univ hx hm)) Q) := by
  unfold own
  iintro ⟨%f, %hf, H⟩ Hk
  iapply (Idealize.ShloMosaic.wp_store (k := fun v => .ret v) (Q := Q) Variants.none (c : Thread nD τ) none Set.univ (m := m) (r := r) (w := v) (hx := hx) (hm := hm) (S := m.view.setOn T) (f := f)
    (by rw [View.setOn_univ, View.set_slice]; exact Finset.map_subset_map.mpr hT)) $$ H
  iintro H
  rw [wp_ret]
  imodintro
  iapply Hk
  iexists _; isplitr; swap
  · iexact H
  · ipureintro
    intro x hx
    by_cases hr : x ∈ r.set
    · rw [← Rect.map_emb_univ] at hr
      obtain ⟨j, _, rfl⟩ := Finset.mem_map.mp hr
      rw [upd_emb, View.read_slice_write_emb r f v (Finset.mem_univ _)]
    · rw [upd_of_not_mem r v w hr, ← hf x hx]
      refine View.read_congr_at _ (View.write_of_not_mem _ _ _ ?_)
      rw [View.setOn_univ, View.set_slice]
      exact fun h => hr (by simpa using h)

end Ops

/-- What the core has waited for so far; nothing is owed. -/
def owing (c : Dev nD) : sProp 𝕄 := iprop(∃ W, owes (c : Thread nD τ) 0 W)

/-- `k` of the copies that deliver `D` issued on a cell, `N` units each, `u` units awaited. -/
abbrev Fly (c : Dev nD) (sm : DmaSem sig) (N : ℕ) {n : ℕ} (D : Fin n → sProp 𝕄) (k u : ℕ) : sProp 𝕄 :=
  Transfers.Batch (countersEmb (U := Pipeline.UD sig nD τ)) (c : Thread nD τ) (.dma sm) () N D k u

theorem fly_start (c : Dev nD) (sm : DmaSem sig) (N : ℕ) {n : ℕ} (D : Fin n → sProp 𝕄)
    [∀ t, BI.Storable (upEmb : UEmb _ 𝕄) (D t)] :
    (semVal ((c : Thread nD τ), .dma sm) 0 : sProp 𝕄) ⊢ |={Set.univ}=> Fly c sm N D 0 0 :=
  Transfers.batch_alloc' (countersEmb (U := Pipeline.UD sig nD τ)) (c : Thread nD τ) () N D

section Dma
variable (c : Dev nD) {sp sp' : Space} {s s' : Shape} {e : EltTy}

theorem wp_enq (src : Memref sig .tc sp s e) (dst : Memref sig .tc sp' s e) (sm : DmaSem sig)
    (hsrc : src.view.WordExact) (hdst : dst.view.WordExact)
    (hsem : DmaTarget.Typed (nD := nD) (τ := τ) (p := .tc) sp (.dma sm) (.here dst))
    (ws wd : s.Idx → Elt F e) {n : ℕ} (D : Fin n → sProp 𝕄) (j u N : ℕ)
    (hN : dst.view.dmaCredit = N) (hj : j < n) (hu : u ≤ j * N)
    (hD : iprop(own c dst Finset.univ ws ∗ own c src Finset.univ ws) ⊢ D ⟨j, hj⟩) {Q : PUnit → sProp 𝕄} :
    iprop(own c src Finset.univ ws ∗ own c dst Finset.univ wd ∗ Fly c sm N D j u)
      ⊢ iprop((Fly c sm N D (j + 1) u -∗ Q ⟨⟩)
          -∗ WP c (Prog.lift (.enqueueDma src (.here dst) (.dma sm) hsrc hdst hsem)) Q) := by
  unfold own
  iintro ⟨⟨%f, %hf, Hs⟩, ⟨%g, %hg, Hd⟩, HB⟩ Hk
  iapply (Transfers.wp_dmaBatch (k := fun v => .ret v) (Q := Q) (countersEmb (U := Pipeline.UD sig nD τ)) Variants.none (c : Thread nD τ) none
    (src := src) (dst := dst) (via := .same) (sm := .dma sm) (hsrc := hsrc) (hdst := hdst) (hsem := hsem) (fs := f) (fd := g)
    (Sd := dst.view.set) (q := fullShare) () N hN (Finset.Subset.refl _) hj hu ?_) $$ [Hs Hd HB]
  · refine BIBase.Entails.trans ?_ hD
    unfold own
    iintro ⟨H1, H2⟩
    isplitl [H1]
    · iexists _; isplitr; swap
      · iexact H1
      · ipureintro
        intro x _
        rw [View.read_write_univ]
        exact hf x (Finset.mem_univ _)
    · iexists f; isplitr
      · ipureintro; exact hf
      · iexact H2
  · isplitl [Hs]; · iexact Hs
    isplitl [Hd]; · iexact Hd
    iexact HB
  iintro HB
  rw [wp_ret]
  imodintro
  iapply Hk
  iexact HB

/-- A window of `src` copied into a window of `dst` that drops axes of size one. -/
theorem wp_enq_in {sd : Shape} (src : Memref sig .tc sp s e) (dst : Memref sig .tc sp' sd e) (rs : Rect s) (hrs : ∀ a, rs.stride a = 1)
    (rd : Rect sd) (hrd : ∀ a, rd.stride a = 1) (hq : rd.shape.Squeezes rs.shape) (sm : DmaSem sig)
    (hsrc : (src.slice rs hrs).view.WordExact) (hdst : ((dst.slice rd hrd).squeeze rs.shape hq).view.WordExact)
    (hsem : DmaTarget.Typed (nD := nD) (τ := τ) (p := .tc) sp (.dma sm) (.here ((dst.slice rd hrd).squeeze rs.shape hq)))
    (ws : s.Idx → Elt F e) (wd land : sd.Idx → Elt F e) {n : ℕ} (D : Fin n → sProp 𝕄) (j N : ℕ)
    (hN : ((dst.slice rd hrd).squeeze rs.shape hq).view.dmaCredit = N) (hj : j < n)
    (hland : ∀ i, land (rd.emb (Shape.reshapeEquiv hq.numel_eq i)) = ws (rs.emb i))
    (hD : iprop(own c dst rd.set land ∗ own c src rs.set ws) ⊢ D ⟨j, hj⟩) {Q : PUnit → sProp 𝕄} :
    iprop(own c src rs.set ws ∗ own c dst rd.set wd ∗ Fly c sm N D j 0)
      ⊢ iprop((Fly c sm N D (j + 1) 0 -∗ Q ⟨⟩)
          -∗ WP c (Prog.lift (.enqueueDma (src.slice rs hrs) (.here ((dst.slice rd hrd).squeeze rs.shape hq)) (.dma sm) hsrc hdst hsem)) Q) := by
  iintro ⟨Hs, Hd, HB⟩
  ihave Hs' := (own_slice c src rs hrs ws) $$ Hs
  ihave Hd' := (own_slice c dst rd hrd wd) $$ Hd
  ihave Hd'' := (own_squeeze c (dst.slice rd hrd) hq _) $$ Hd'
  iapply (wp_enq c (src.slice rs hrs) ((dst.slice rd hrd).squeeze rs.shape hq) sm hsrc hdst hsem (fun i => ws (rs.emb i)) _ D j 0 N hN hj (Nat.zero_le _) ?_)
  · refine BIBase.Entails.trans ?_ hD
    iintro ⟨H1, H2⟩
    isplitl [H1]
    · iapply (own_unslice c dst rd hrd land (fun i => land (rd.emb i)) (fun _ => rfl))
      iapply (own_unsqueeze c (dst.slice rd hrd) hq (fun i => land (rd.emb i)) (fun i => ws (rs.emb i)) (fun i => (hland i).symm))
      iexact H1
    · iapply (own_unslice c src rs hrs ws (fun i => ws (rs.emb i)) (fun _ => rfl))
      iexact H2
  isplitl [Hs']; · iexact Hs'
  isplitl [Hd'']; · iexact Hd''
  iexact HB

/-- A window of `src` that drops axes of size one copied into a window of `dst`. -/
theorem wp_enq_out {sd : Shape} (src : Memref sig .tc sp s e) (dst : Memref sig .tc sp' sd e) (rs : Rect s) (hrs : ∀ a, rs.stride a = 1)
    (rd : Rect sd) (hrd : ∀ a, rd.stride a = 1) (hq : rs.shape.Squeezes rd.shape) (sm : DmaSem sig)
    (hsrc : ((src.slice rs hrs).squeeze rd.shape hq).view.WordExact) (hdst : (dst.slice rd hrd).view.WordExact)
    (hsem : DmaTarget.Typed (nD := nD) (τ := τ) (p := .tc) sp (.dma sm) (.here (dst.slice rd hrd)))
    (ws : s.Idx → Elt F e) (wd land : sd.Idx → Elt F e) {n : ℕ} (D : Fin n → sProp 𝕄) (j N : ℕ)
    (hN : (dst.slice rd hrd).view.dmaCredit = N) (hj : j < n)
    (hland : ∀ i, land (rd.emb i) = ws (rs.emb (Shape.reshapeEquiv hq.numel_eq i)))
    (hD : iprop(own c dst rd.set land ∗ own c src rs.set ws) ⊢ D ⟨j, hj⟩) {Q : PUnit → sProp 𝕄} :
    iprop(own c src rs.set ws ∗ own c dst rd.set wd ∗ Fly c sm N D j 0)
      ⊢ iprop((Fly c sm N D (j + 1) 0 -∗ Q ⟨⟩)
          -∗ WP c (Prog.lift (.enqueueDma ((src.slice rs hrs).squeeze rd.shape hq) (.here (dst.slice rd hrd)) (.dma sm) hsrc hdst hsem)) Q) := by
  iintro ⟨Hs, Hd, HB⟩
  ihave Hs' := (own_slice c src rs hrs ws) $$ Hs
  ihave Hs'' := (own_squeeze c (src.slice rs hrs) hq _) $$ Hs'
  ihave Hd' := (own_slice c dst rd hrd wd) $$ Hd
  iapply (wp_enq c ((src.slice rs hrs).squeeze rd.shape hq) (dst.slice rd hrd) sm hsrc hdst hsem
    (fun i => ws (rs.emb (Shape.reshapeEquiv hq.numel_eq i))) _ D j 0 N hN hj (Nat.zero_le _) ?_)
  · refine BIBase.Entails.trans ?_ hD
    iintro ⟨H1, H2⟩
    isplitl [H1]
    · iapply (own_unslice c dst rd hrd land _ (fun i => (hland i).symm))
      iexact H1
    · iapply (own_unslice c src rs hrs ws (fun i => ws (rs.emb i)) (fun _ => rfl))
      iapply (own_unsqueeze c (src.slice rs hrs) hq (fun i => ws (rs.emb i)) _ (fun i => rfl))
      iexact H2
  isplitl [Hs'']; · iexact Hs''
  isplitl [Hd']; · iexact Hd'
  iexact HB

/-- A wait for all but the last of the copies on a cell. -/
theorem wp_wait (src : Memref sig .tc sp s e) {s₂ : Shape} {e₂ : EltTy} (dst : Memref sig .tc sp' s₂ e₂) (sm : DmaSem sig)
    (hsrc : src.view.WordExact) (hdst : dst.view.WordExact) {n : ℕ} (D : Fin n → sProp 𝕄) (u N : ℕ)
    (hN : dst.view.dmaCredit = N) (hu : u + N < N * n) {Q : PUnit → sProp 𝕄} :
    iprop(Fly c sm N D n u ∗ owing (F := F) c)
      ⊢ iprop((iprop(Fly c sm N D n (u + N) ∗ owing (F := F) c) -∗ Q ⟨⟩)
          -∗ WP c (Prog.lift (.waitDma2 sm src dst hsrc hdst)) Q) := by
  unfold owing
  iintro ⟨HB, ⟨%W, HW⟩⟩ Hk
  iapply (Transfers.wp_waitBatch (k := fun v => .ret v) (Q := Q) (countersEmb (U := Pipeline.UD sig nD τ)) Variants.none (c : Thread nD τ) none
    (srcw := src) (dstw := dst) (hsrc := hsrc) (hdst := hdst) () hN hu (W := W)) $$ [HB HW]
  · isplitl [HB]; · iexact HB
    iexact HW
  iintro ⟨HB, HW⟩
  rw [wp_ret]
  imodintro
  iapply Hk
  isplitl [HB]; · iexact HB
  iexists _; iexact HW

/-- The last wait: every delivery arrives and the cell is free. -/
theorem wp_waitLast (src : Memref sig .tc sp s e) {s₂ : Shape} {e₂ : EltTy} (dst : Memref sig .tc sp' s₂ e₂) (sm : DmaSem sig)
    (hsrc : src.view.WordExact) (hdst : dst.view.WordExact) {n : ℕ} (D : Fin n → sProp 𝕄) (u N : ℕ)
    (hN : dst.view.dmaCredit = N) (hN0 : 0 < N) (hu : u + N = N * n) {Q : PUnit → sProp 𝕄} :
    iprop(Fly c sm N D n u ∗ owing (F := F) c)
      ⊢ iprop((iprop(bigSep Finset.univ D ∗ semVal ((c : Thread nD τ), .dma sm) 0 ∗ owing (F := F) c) -∗ Q ⟨⟩)
          -∗ WP c (Prog.lift (.waitDma2 sm src dst hsrc hdst)) Q) := by
  unfold owing
  iintro ⟨HB, ⟨%W, HW⟩⟩ Hk
  iapply (Transfers.wp_waitBatchLast (k := fun v => .ret v) (Q := Q) (countersEmb (U := Pipeline.UD sig nD τ)) Variants.none (c : Thread nD τ) none
    (srcw := src) (dstw := dst) (hsrc := hsrc) (hdst := hdst) () hN hN0 hu (W := W)) $$ [HB HW]
  · isplitl [HB]; · iexact HB
    iexact HW
  iintro ⟨HD, HS, HW⟩
  rw [wp_ret]
  imodintro
  iapply Hk
  isplitl [HD]; · iexact HD
  isplitl [HS]; · iexact HS
  iexists _; iexact HW

end Dma

/-- The one element of an SMEM array, loaded. -/
theorem wp_smem (c : Dev nD) {s : Shape} {e : EltTy} (m : Memref sig .tc .smem s e) (r : Rect s) (h1 : r.shape.numel = 1) (hp : e.packing = 1)
    {T : Finset s.Idx} (w : s.Idx → Elt F e) (hT : r.set ⊆ T) {Q : Elt F e → sProp 𝕄} :
    own c m T w ⊢ iprop((own c m T w -∗ Q (w (r.emb (Shape.Idx.first (h1.symm ▸ Nat.one_pos))))) -∗ WP c (smemLoad m r h1 hp) Q) := by
  unfold smemLoad own
  iintro ⟨%f, %hf, H⟩ Hk
  iapply (wp_smemLoadElt (k := fun v => .ret v) (Q := Q) Variants.none (c : Thread nD τ) none Set.univ (m := m) (r := r) (hw := View.loads_smem_one hp h1)
    (x := Shape.Idx.first (h1.symm ▸ Nat.one_pos)) (S := m.view.setOn T) (q := fullShare) (f := f)
    (show (m.access r).set ⊆ m.view.setOn T from by rw [show (m.access r).set = r.set.map m.view.emb from View.set_slice m.view r]; exact Finset.map_subset_map.mpr hT)) $$ H
  iintro H
  rw [wp_ret]
  imodintro
  rw [show (m.access r).read (Elt F) f (Shape.Idx.first (h1.symm ▸ Nat.one_pos)) = w (r.emb (Shape.Idx.first (h1.symm ▸ Nat.one_pos))) from
    hf (r.emb _) (hT (by rw [← Rect.map_emb_univ]; exact Finset.mem_map_of_mem _ (Finset.mem_univ _)))]
  iapply Hk
  iexists f; isplitr
  · ipureintro; exact hf
  iexact H

end Cert.Kernel.Hand

end
-- ==== Proof.Ghost.lean ====
/-
  What the kernel's buffers hold, as functions: the tiles of the scratch buffers and what the row groups write over
  them.
-/
module

public import proofs.«01_k».proof.Proof.Base

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-- Tile `q` (32 rows) of column half `j` of ring slot `t`. -/
def rT (t q j : ℕ) : Rect S31x1792x256 :=
  Rect.unit (s := S31x1792x256) ![t % 31, 32 * (q % 56), 128 * (j % 2)] S1x32x128.size
    (by intro a; fin_cases a <;> simp <;> omega)
/-- Tile `q` of mask chunk `i`. -/
def rM (i q : ℕ) : Rect S28x1792x128 :=
  Rect.unit (s := S28x1792x128) ![i % 28, 32 * (q % 56), 0] S1x32x128.size (by intro a; fin_cases a <;> simp <;> omega)
/-- Tile `q` of column half `j` of output slot `t`. -/
def rO (t q j : ℕ) : Rect S2x2x1792x128 :=
  Rect.unit (s := S2x2x1792x128) ![t % 2, j % 2, 32 * (q % 56), 0] S1x1x32x128.size
    (by intro a; fin_cases a <;> simp <;> omega)
/-- Block `j` of a running array of sums. -/
def rS (j : ℕ) : Rect S2x8x128 :=
  Rect.unit (s := S2x8x128) ![j % 2, 0, 0] S1x8x128.size (by intro a; fin_cases a <;> simp <;> omega)

/-- What is read through a rectangle. -/
abbrev at' {α : Type} {s : Shape} (r : Rect s) (w : s.Idx → α) : r.shape.Idx → α := fun i => w (r.emb i)

abbrev BufD (F : FTy → Type) := S31x1792x256.Idx → Elt F .fp8e5m2
abbrev BufX (F : FTy → Type) := S31x1792x256.Idx → Elt F .fp8e4m3
abbrev BufM (F : FTy → Type) := S28x1792x128.Idx → Elt F .i8
abbrev BufO (F : FTy → Type) := S2x2x1792x128.Idx → Elt F .bf16
abbrev BufS (F : FTy → Type) := S2x8x128.Idx → Elt F .f32

/-- The masked cotangents of one tile. -/
abbrev mdT (v2 lb : IVec S8x128 32) (M : BufM F) (i t q j : ℕ) (D : BufD F) : FVec F S32x128 .fp8e5m2 :=
  k0_pay1 v2 lb (at' (rM i q) M) (at' (rT t q j) D)
/-- The cotangents after one tile was masked. -/
abbrev tileD (v2 lb : IVec S8x128 32) (M : BufM F) (i t q j : ℕ) (D : BufD F) : BufD F :=
  upd (rT t q j) (k0_pay2 v2 lb (at' (rM i q) M) (at' (rT t q j) D)) D
/-- The cotangents after the first `k` tiles of group `u`. -/
def grpD (v2 lb : IVec S8x128 32) (M : BufM F) (i t u j : ℕ) (D : BufD F) : ℕ → BufD F
  | 0 => D
  | k + 1 => tileD v2 lb M i t (8 * u + k) j (grpD v2 lb M i t u j D k)
/-- Tile `k` of group `u`, masked. -/
def mdK (v2 lb : IVec S8x128 32) (M : BufM F) (i t u j : ℕ) (D : BufD F) (k : ℕ) : FVec F S32x128 .fp8e5m2 :=
  mdT v2 lb M i t (8 * u + k) j (grpD v2 lb M i t u j D k)

/-- The first running sum after one group. -/
def grpS1 (v2 lb : IVec S8x128 32) (M : BufM F) (i t u j : ℕ) (D : BufD F) (S : BufS F) : BufS F :=
  let d := mdK v2 lb M i t u j D
  upd (rS j) (addS (k0_pay11 (k0_pay11 (k0_pay11 (k0_pay11 (k0_pay11 (k0_pay11 (k0_pay11 (k0_pay6 (k0_pay9 (d 0))) (d 1)) (d 2)) (d 3)) (d 4)) (d 5)) (d 6)) (d 7)) (at' (rS j) S)) S
/-- The second running sum after one group. -/
def grpS2 (v2 lb : IVec S8x128 32) (M : BufM F) (X : BufX F) (i t u j : ℕ) (D : BufD F) (S : BufS F) : BufS F :=
  let d := mdK v2 lb M i t u j D
  let x := fun k : ℕ => at' (rT t (8 * u + k) j) X
  upd (rS j) (addS (k0_pay10 (k0_pay10 (k0_pay10 (k0_pay10 (k0_pay10 (k0_pay10 (k0_pay10 (k0_pay5 (prodT (d 0) (x 0))) (d 1) (x 1)) (d 2) (x 2)) (d 3) (x 3)) (d 4) (x 4)) (d 5) (x 5)) (d 6) (x 6)) (d 7) (x 7)) (at' (rS j) S)) S

/-- The output slot after the first `k` tiles of group `u`. -/
def grpO (a b e : FVec F S32x128 .f32) (D : BufD F) (X : BufX F) (t o u j : ℕ) (O : BufO F) : ℕ → BufO F
  | 0 => O
  | k + 1 => upd (rO o (8 * u + k) j) (k0_pay284 a b e (at' (rT t (8 * u + k) j) D) (at' (rT t (8 * u + k) j) X)) (grpO a b e D X t o u j O k)

theorem WP_bind (c : Dev nD) {α β : Type} (p : Prog (TpuEff nD τ sig (Elt F) Λ₀ .tc) α) (k : α → Prog (TpuEff nD τ sig (Elt F) Λ₀ .tc) β)
    (Q : β → sProp 𝕄) : WP c (p >>= k) Q = WP c p (fun a => WP c (k a) Q) := wp_bind ..

theorem WP_pure (c : Dev nD) {α : Type} (a : α) (Q : α → sProp 𝕄) : Q a ⊢ WP c (pure a) Q := by
  show Q a ⊢ wp frame _ _ (.ret a) Q
  rw [wp_ret]
  iintro H; imodintro; iexact H

section Groups
variable (c : Dev nD) (mM : Memref sig .tc .vmem S28x1792x128 .i8) (dM : Memref sig .tc .vmem S31x1792x256 .fp8e5m2)
    (xM : Memref sig .tc .vmem S31x1792x256 .fp8e4m3) (s1M s2M : Memref sig .tc .vmem S2x8x128 .f32)
    (oMr : Memref sig .tc .vmem S2x2x1792x128 .bf16)

theorem wp_redTile (v2 lb : IVec S8x128 32) (oM oD : Fin 3 → Nat) (hM hD hst) (i t q j : ℕ)
    (eM : oM = (rM i q).off) (eD : oD = (rT t q j).off) {TM : Finset S28x1792x128.Idx} {TD TX : Finset S31x1792x256.Idx}
    (M : BufM F) (D : BufD F) (X : BufX F)
    (sM : (rM i q).set ⊆ TM) (sD : (rT t q j).set ⊆ TD) (sX : (rT t q j).set ⊆ TX)
    {Q : (Σ' (_ : FVec F S32x128 .fp8e5m2), Vec F S1x32x128 .fp8e4m3) → sProp 𝕄} :
    iprop(own c mM TM M ∗ own c dM TD D ∗ own c xM TX X)
      ⊢ iprop((iprop(own c mM TM M ∗ own c dM TD (tileD v2 lb M i t q j D) ∗ own c xM TX X) -∗ Q ⟨mdT v2 lb M i t q j D, at' (rT t q j) X⟩)
        -∗ WP c (redTile mM dM xM v2 lb oM oD hM hD hst) Q) := by
  subst eM eD
  unfold redTile
  iintro ⟨HM, HD, HX⟩ Hk
  rw [WP_bind]
  iapply (wp_ld c mM (rM i q) (View.loadsAt_vmem h_S1x32x128) M sM) $$ HM
  iintro HM
  rw [WP_bind]
  iapply (wp_ld c dM (rT t q j) (View.loadsAt_vmem h_S1x32x128) D sD) $$ HD
  iintro HD
  rw [WP_bind]
  iapply (wp_ld c dM (rT t q j) (View.loadsAt_vmem h_S1x32x128) D sD) $$ HD
  iintro HD
  rw [WP_bind]
  iapply (wp_st c dM (rT t q j) _ hst (.inl rfl) D sD) $$ HD
  iintro HD
  rw [WP_bind]
  iapply (wp_ld c xM (rT t q j) (View.loadsAt_vmem h_S1x32x128) X sX) $$ HX
  iintro HX
  iapply (WP_pure c)
  iapply Hk
  isplitl [HM]; · iexact HM
  isplitl [HD]; · iexact HD
  iexact HX

set_option maxHeartbeats 2000000 in
theorem wp_redCol (v2 lb : IVec S8x128 32) (oM oD : BitVec 32 → Fin 3 → Nat) (oS : Fin 3 → Nat) (hM hD hS hst) (i t u j : ℕ)
    (eM : ∀ r : Fin 8, oM (BitVec.ofNat 32 (32 * r.val)) = (rM i (8 * u + r.val)).off)
    (eD : ∀ r : Fin 8, oD (BitVec.ofNat 32 (32 * r.val)) = (rT t (8 * u + r.val) j).off) (eS : oS = (rS j).off)
    {TM : Finset S28x1792x128.Idx} {TD TX : Finset S31x1792x256.Idx}
    (M : BufM F) (D : BufD F) (X : BufX F) (A B : BufS F)
    (sM : ∀ q, (rM i q).set ⊆ TM) (sD : ∀ q, (rT t q j).set ⊆ TD) (sX : ∀ q, (rT t q j).set ⊆ TX) {Q : Unit → sProp 𝕄} :
    iprop(own c mM TM M ∗ own c dM TD D ∗ own c xM TX X ∗ own c s1M Finset.univ A ∗ own c s2M Finset.univ B)
      ⊢ iprop((iprop(own c mM TM M ∗ own c dM TD (grpD v2 lb M i t u j D 8) ∗ own c xM TX X ∗ own c s1M Finset.univ (grpS1 v2 lb M i t u j D A)
            ∗ own c s2M Finset.univ (grpS2 v2 lb M X i t u j D B)) -∗ Q ⟨⟩)
        -∗ WP c (redCol mM dM xM s1M s2M v2 lb oM oD oS hM hD hS hst) Q) := by
  subst eS
  unfold redCol
  iintro ⟨HM, HD, HX, HA, HB⟩ Hk
  rw [WP_bind]
  iapply (wp_redTile c mM dM xM v2 lb _ _ _ _ _ i t (8 * u + 0) j (eM 0) (eD 0) M (grpD v2 lb M i t u j D 0) X (sM _) (sD _) (sX _)) $$ [HM HD HX]
  · isplitl [HM]; · iexact HM
    isplitl [HD]; · iexact HD
    iexact HX
  iintro ⟨HM, HD, HX⟩
  rw [WP_bind]
  iapply (wp_redTile c mM dM xM v2 lb _ _ _ _ _ i t (8 * u + 1) j (eM 1) (eD 1) M (grpD v2 lb M i t u j D 1) X (sM _) (sD _) (sX _)) $$ [HM HD HX]
  · isplitl [HM]; · iexact HM
    isplitl [HD]; · iexact HD
    iexact HX
  iintro ⟨HM, HD, HX⟩
  rw [WP_bind]
  iapply (wp_redTile c mM dM xM v2 lb _ _ _ _ _ i t (8 * u + 2) j (eM 2) (eD 2) M (grpD v2 lb M i t u j D 2) X (sM _) (sD _) (sX _)) $$ [HM HD HX]
  · isplitl [HM]; · iexact HM
    isplitl [HD]; · iexact HD
    iexact HX
  iintro ⟨HM, HD, HX⟩
  rw [WP_bind]
  iapply (wp_redTile c mM dM xM v2 lb _ _ _ _ _ i t (8 * u + 3) j (eM 3) (eD 3) M (grpD v2 lb M i t u j D 3) X (sM _) (sD _) (sX _)) $$ [HM HD HX]
  · isplitl [HM]; · iexact HM
    isplitl [HD]; · iexact HD
    iexact HX
  iintro ⟨HM, HD, HX⟩
  rw [WP_bind]
  iapply (wp_redTile c mM dM xM v2 lb _ _ _ _ _ i t (8 * u + 4) j (eM 4) (eD 4) M (grpD v2 lb M i t u j D 4) X (sM _) (sD _) (sX _)) $$ [HM HD HX]
  · isplitl [HM]; · iexact HM
    isplitl [HD]; · iexact HD
    iexact HX
  iintro ⟨HM, HD, HX⟩
  rw [WP_bind]
  iapply (wp_redTile c mM dM xM v2 lb _ _ _ _ _ i t (8 * u + 5) j (eM 5) (eD 5) M (grpD v2 lb M i t u j D 5) X (sM _) (sD _) (sX _)) $$ [HM HD HX]
  · isplitl [HM]; · iexact HM
    isplitl [HD]; · iexact HD
    iexact HX
  iintro ⟨HM, HD, HX⟩
  rw [WP_bind]
  iapply (wp_redTile c mM dM xM v2 lb _ _ _ _ _ i t (8 * u + 6) j (eM 6) (eD 6) M (grpD v2 lb M i t u j D 6) X (sM _) (sD _) (sX _)) $$ [HM HD HX]
  · isplitl [HM]; · iexact HM
    isplitl [HD]; · iexact HD
    iexact HX
  iintro ⟨HM, HD, HX⟩
  rw [WP_bind]
  iapply (wp_redTile c mM dM xM v2 lb _ _ _ _ _ i t (8 * u + 7) j (eM 7) (eD 7) M (grpD v2 lb M i t u j D 7) X (sM _) (sD _) (sX _)) $$ [HM HD HX]
  · isplitl [HM]; · iexact HM
    isplitl [HD]; · iexact HD
    iexact HX
  iintro ⟨HM, HD, HX⟩
  rw [WP_bind]
  iapply (wp_ld c s1M (rS j) (View.loadsAt_vmem h_S1x8x128) A (Finset.subset_univ _)) $$ HA
  iintro HA
  rw [WP_bind]
  iapply (wp_ld c s1M (rS j) (View.loadsAt_vmem h_S1x8x128) A (Finset.subset_univ _)) $$ HA
  iintro HA
  rw [WP_bind]
  iapply (wp_st c s1M (rS j) _ _ (.inl rfl) A (Finset.subset_univ _)) $$ HA
  iintro HA
  rw [WP_bind]
  iapply (wp_ld c s2M (rS j) (View.loadsAt_vmem h_S1x8x128) B (Finset.subset_univ _)) $$ HB
  iintro HB
  rw [WP_bind]
  iapply (wp_ld c s2M (rS j) (View.loadsAt_vmem h_S1x8x128) B (Finset.subset_univ _)) $$ HB
  iintro HB
  rw [WP_bind]
  iapply (wp_st c s2M (rS j) _ _ (.inl rfl) B (Finset.subset_univ _)) $$ HB
  iintro HB
  iapply (WP_pure c)
  iapply Hk
  isplitl [HM]; · iexact HM
  isplitl [HD]; · iexact HD
  isplitl [HX]; · iexact HX
  isplitl [HA]; · iexact HA
  iexact HB

theorem wp_dxTile (a b e : FVec F S32x128 .f32) (oD : Fin 3 → Nat) (oO : Fin 4 → Nat) (hD hO hst) (t o q j : ℕ)
    (eD : oD = (rT t q j).off) (eO : oO = (rO o q j).off) {TD TX : Finset S31x1792x256.Idx} {TO : Finset S2x2x1792x128.Idx}
    (D : BufD F) (X : BufX F) (O : BufO F) (sD : (rT t q j).set ⊆ TD) (sX : (rT t q j).set ⊆ TX) (sO : (rO o q j).set ⊆ TO)
    {Q : Unit → sProp 𝕄} :
    iprop(own c dM TD D ∗ own c xM TX X ∗ own c oMr TO O)
      ⊢ iprop((iprop(own c dM TD D ∗ own c xM TX X ∗ own c oMr TO (upd (rO o q j) (k0_pay284 a b e (at' (rT t q j) D) (at' (rT t q j) X)) O)) -∗ Q ⟨⟩)
        -∗ WP c (dxTile dM xM oMr a b e oD oO hD hO hst) Q) := by
  subst eD eO
  unfold dxTile
  iintro ⟨HD, HX, HO⟩ Hk
  rw [WP_bind]
  iapply (wp_ld c dM (rT t q j) (View.loadsAt_vmem h_S1x32x128) D sD) $$ HD
  iintro HD
  rw [WP_bind]
  iapply (wp_ld c xM (rT t q j) (View.loadsAt_vmem h_S1x32x128) X sX) $$ HX
  iintro HX
  rw [WP_bind]
  iapply (wp_ld c oMr (rO o q j) (View.loadsAt_vmem h_S1x1x32x128) O sO) $$ HO
  iintro HO
  iapply (wp_st c oMr (rO o q j) _ hst (.inl rfl) O sO) $$ HO
  iintro HO
  iapply Hk
  isplitl [HD]; · iexact HD
  isplitl [HX]; · iexact HX
  iexact HO

set_option maxHeartbeats 2000000 in
theorem wp_dxCol (a b e : FVec F S32x128 .f32) (oD : BitVec 32 → Fin 3 → Nat) (oO : BitVec 32 → Fin 4 → Nat) (hD hO hst) (t o u j : ℕ)
    (eD : ∀ r : Fin 8, oD (BitVec.ofNat 32 (32 * r.val)) = (rT t (8 * u + r.val) j).off)
    (eO : ∀ r : Fin 8, oO (BitVec.ofNat 32 (32 * r.val)) = (rO o (8 * u + r.val) j).off)
    {TD TX : Finset S31x1792x256.Idx} {TO : Finset S2x2x1792x128.Idx}
    (D : BufD F) (X : BufX F) (O : BufO F) (sD : ∀ q, (rT t q j).set ⊆ TD) (sX : ∀ q, (rT t q j).set ⊆ TX) (sO : ∀ q, (rO o q j).set ⊆ TO)
    {Q : Unit → sProp 𝕄} :
    iprop(own c dM TD D ∗ own c xM TX X ∗ own c oMr TO O)
      ⊢ iprop((iprop(own c dM TD D ∗ own c xM TX X ∗ own c oMr TO (grpO a b e D X t o u j O 8)) -∗ Q ⟨⟩)
        -∗ WP c (dxCol dM xM oMr a b e oD oO hD hO hst) Q) := by
  unfold dxCol
  iintro ⟨HD, HX, HO⟩ Hk
  rw [WP_bind]
  iapply (wp_dxTile c dM xM oMr a b e _ _ _ _ _ t o (8 * u + 0) j (eD 0) (eO 0) D X (grpO a b e D X t o u j O 0) (sD _) (sX _) (sO _)) $$ [HD HX HO]
  · isplitl [HD]; · iexact HD
    isplitl [HX]; · iexact HX
    iexact HO
  iintro ⟨HD, HX, HO⟩
  rw [WP_bind]
  iapply (wp_dxTile c dM xM oMr a b e _ _ _ _ _ t o (8 * u + 1) j (eD 1) (eO 1) D X (grpO a b e D X t o u j O 1) (sD _) (sX _) (sO _)) $$ [HD HX HO]
  · isplitl [HD]; · iexact HD
    isplitl [HX]; · iexact HX
    iexact HO
  iintro ⟨HD, HX, HO⟩
  rw [WP_bind]
  iapply (wp_dxTile c dM xM oMr a b e _ _ _ _ _ t o (8 * u + 2) j (eD 2) (eO 2) D X (grpO a b e D X t o u j O 2) (sD _) (sX _) (sO _)) $$ [HD HX HO]
  · isplitl [HD]; · iexact HD
    isplitl [HX]; · iexact HX
    iexact HO
  iintro ⟨HD, HX, HO⟩
  rw [WP_bind]
  iapply (wp_dxTile c dM xM oMr a b e _ _ _ _ _ t o (8 * u + 3) j (eD 3) (eO 3) D X (grpO a b e D X t o u j O 3) (sD _) (sX _) (sO _)) $$ [HD HX HO]
  · isplitl [HD]; · iexact HD
    isplitl [HX]; · iexact HX
    iexact HO
  iintro ⟨HD, HX, HO⟩
  rw [WP_bind]
  iapply (wp_dxTile c dM xM oMr a b e _ _ _ _ _ t o (8 * u + 4) j (eD 4) (eO 4) D X (grpO a b e D X t o u j O 4) (sD _) (sX _) (sO _)) $$ [HD HX HO]
  · isplitl [HD]; · iexact HD
    isplitl [HX]; · iexact HX
    iexact HO
  iintro ⟨HD, HX, HO⟩
  rw [WP_bind]
  iapply (wp_dxTile c dM xM oMr a b e _ _ _ _ _ t o (8 * u + 5) j (eD 5) (eO 5) D X (grpO a b e D X t o u j O 5) (sD _) (sX _) (sO _)) $$ [HD HX HO]
  · isplitl [HD]; · iexact HD
    isplitl [HX]; · iexact HX
    iexact HO
  iintro ⟨HD, HX, HO⟩
  rw [WP_bind]
  iapply (wp_dxTile c dM xM oMr a b e _ _ _ _ _ t o (8 * u + 6) j (eD 6) (eO 6) D X (grpO a b e D X t o u j O 6) (sD _) (sX _) (sO _)) $$ [HD HX HO]
  · isplitl [HD]; · iexact HD
    isplitl [HX]; · iexact HX
    iexact HO
  iintro ⟨HD, HX, HO⟩
  iapply (wp_dxTile c dM xM oMr a b e _ _ _ _ _ t o (8 * u + 7) j (eD 7) (eO 7) D X (grpO a b e D X t o u j O 7) (sD _) (sX _) (sO _)) $$ [HD HX HO]
  · isplitl [HD]; · iexact HD
    isplitl [HX]; · iexact HX
    iexact HO
  iintro ⟨HD, HX, HO⟩
  iapply Hk
  isplitl [HD]; · iexact HD
  isplitl [HX]; · iexact HX
  iexact HO

end Groups

end Cert.Kernel.Hand

end
-- ==== Proof.Ring.lean ====
/-
  The windows of the copies in flight, and one rule for each copy issued and each copy awaited. A family of windows `R` is
  used in order: with the copies `a ≤ t < b` in flight, the core owns what lies outside their windows.
-/
module

public import proofs.«01_k».proof.Proof.Ghost
public import Idealize.ShloMosaic.Lib.ValueLayout

@[expose] public section

noncomputable section

namespace Cert.Kernel.Hand

open Cert.Kernel Cert.Kernel.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-! ## Families of windows -/

section Family
variable {s : Shape} (R : ℕ → Finset s.Idx)

/-- What lies outside the windows `a ≤ t < b`. -/
def out (a b : ℕ) : Finset s.Idx := Finset.univ.filter fun i => ∀ t, a ≤ t → t < b → i ∉ R t

theorem mem_out {a b : ℕ} {i : s.Idx} : i ∈ out R a b ↔ ∀ t, a ≤ t → t < b → i ∉ R t := by simp [out]

theorem out_self (a : ℕ) : out R a a = Finset.univ := by
  ext i; simp only [mem_out, Finset.mem_univ, iff_true]; intro t h1 h2; omega

theorem sub_out {W : Finset s.Idx} {a b : ℕ} (h : ∀ t, a ≤ t → t < b → Disjoint W (R t)) : W ⊆ out R a b := by
  intro i hi
  rw [mem_out]
  intro t h1 h2 h3
  exact Finset.disjoint_left.mp (h t h1 h2) hi h3

theorem out_succ {a b : ℕ} (h : a ≤ b) : out R a b \ R b = out R a (b + 1) := by
  ext i
  simp only [Finset.mem_sdiff, mem_out]
  constructor
  · rintro ⟨h1, h2⟩ t ha hb
    rcases Nat.lt_succ_iff_lt_or_eq.mp hb with hb | rfl
    · exact h1 t ha hb
    · exact h2
  · intro h1
    exact ⟨fun t ha hb => h1 t ha (by omega), h1 b h (by omega)⟩

theorem out_tail {a b : ℕ} (h : a < b) : out R (a + 1) b \ R a = out R a b := by
  ext i
  simp only [Finset.mem_sdiff, mem_out]
  constructor
  · rintro ⟨h1, h2⟩ t ha hb
    rcases Nat.lt_or_eq_of_le ha with ha | rfl
    · exact h1 t (by omega) hb
    · exact h2
  · intro h1
    exact ⟨fun t ha hb => h1 t (by omega) hb, h1 a le_rfl h⟩

variable (c : Dev nD) {sp : Space} {e : EltTy} (m : Memref sig .tc sp s e)

theorem own_issue {a b : ℕ} (h : a ≤ b) (hd : ∀ t, a ≤ t → t < b → Disjoint (R b) (R t)) (w : s.Idx → Elt F e) :
    own c m (out R a b) w ⊢ iprop(own c m (R b) w ∗ own c m (out R a (b + 1)) w) := by
  rw [← out_succ R h]
  exact own_split c m w (sub_out R hd)

theorem own_wait {a b : ℕ} (h : a < b) (hd : ∀ t, a < t → t < b → Disjoint (R a) (R t)) (w w' : s.Idx → Elt F e) :
    iprop(own c m (R a) w ∗ own c m (out R a b) w') ⊢ own c m (out R (a + 1) b) ((R a).piecewise w w') := by
  rw [← out_tail R h]
  exact own_join c m w w' (sub_out R fun t h1 h2 => hd t h1 h2)

end Family

section Own
variable (c : Dev nD) {sp : Space} {s : Shape} {e : EltTy} (m : Memref sig .tc sp s e)

/-- Ownership depends on the contents only under the indices owned. -/
theorem own_eq {T : Finset s.Idx} {w w' : s.Idx → Elt F e} (h : ∀ x ∈ T, w x = w' x) : own c m T w = own c m T w' := by
  unfold own
  have e1 : (fun f : Buf (Elt F) (m.view.loc (c : Thread nD τ)) => (iprop(⌜∀ x ∈ T, m.view.read (Elt F) f x = w x⌝ ∗ (m.view.loc (c : Thread nD τ) ↦[m.view.setOn T]{fullShare} f)) : sProp 𝕄))
      = fun f => iprop(⌜∀ x ∈ T, m.view.read (Elt F) f x = w' x⌝ ∗ (m.view.loc (c : Thread nD τ) ↦[m.view.setOn T]{fullShare} f)) := by
    funext f
    have : (∀ x ∈ T, m.view.read (Elt F) f x = w x) = (∀ x ∈ T, m.view.read (Elt F) f x = w' x) :=
      propext ⟨fun H x hx => (H x hx).trans (h x hx), fun H x hx => (H x hx).trans (h x hx).symm⟩
    rw [this]
  exact congrArg _ e1

theorem own_two {I J : Finset s.Idx} (hd : Disjoint I J) (w : s.Idx → Elt F e) :
    own c m (I ∪ J) w ⊢ iprop(own c m I w ∗ own c m J w) := by
  have : (I ∪ J) \ I = J := by rw [Finset.union_sdiff_left]; exact Finset.sdiff_eq_self_of_disjoint hd.symm
  refine (own_split c m w (Finset.subset_union_left : I ⊆ I ∪ J)).trans ?_
  rw [this]

theorem own_one {I J : Finset s.Idx} (hd : Disjoint I J) (w : s.Idx → Elt F e) :
    iprop(own c m I w ∗ own c m J w) ⊢ own c m (I ∪ J) w := by
  have : (I ∪ J) \ I = J := by rw [Finset.union_sdiff_left]; exact Finset.sdiff_eq_self_of_disjoint hd.symm
  have h := own_join c m w w (Finset.subset_union_left : I ⊆ I ∪ J)
  rw [this, Finset.piecewise_same] at h
  exact h

end Own

/-! ## The kernel's windows -/

/-- Ring slot of step `t`. -/
def rX (t : ℕ) : Rect S31x1792x256 :=
  Rect.unit (s := S31x1792x256) ![t % 31, 0, 0] S1x1792x256.size (by intro a; fin_cases a <;> simp <;> omega)
/-- Rows and columns of step `t` in the operands. -/
def rH (t : ℕ) : Rect S50176x2048 :=
  Rect.unit (s := S50176x2048) ![1792 * (t % 28), 256 * (t / 28 % 8)] S1792x256.size (by intro a; fin_cases a <;> simp <;> omega)
/-- Mask chunk of mask copy `m`. -/
def rK (m : ℕ) : Rect S28x1792x128 :=
  Rect.unit (s := S28x1792x128) ![m % 28, 0, 0] S1x1792x128.size (by intro a; fin_cases a <;> simp <;> omega)
/-- Rows and bytes of mask copy `m` in the mask. -/
def rL (m : ℕ) : Rect S50176x256 :=
  Rect.unit (s := S50176x256) ![1792 * (m % 28), 128 * (m / 28 % 2)] S1792x128.size (by intro a; fin_cases a <;> simp <;> omega)
/-- Column half `h` of the output slot of step `t`. -/
def rY (t h : ℕ) : Rect S2x2x1792x128 :=
  Rect.unit (s := S2x2x1792x128) ![t % 2, h % 2, 0, 0] S1x1x1792x128.size (by intro a; fin_cases a <;> simp <;> omega)
/-- Where column half `h` of step `t` goes in the result. -/
def rW (t h : ℕ) : Rect S50176x2048 :=
  Rect.unit (s := S50176x2048) ![1792 * (t % 28), 128 * ((2 * (t / 28) + h) % 16)] S1792x128.size (by intro a; fin_cases a <;> simp <;> omega)

theorem emb_val {s : Shape} (off size inb) (j : (Rect.unit (s := s) off size inb).shape.Idx) (a : Fin s.rank) :
    ((Rect.unit (s := s) off size inb).emb j a).val = off a + (j a).val := by
  rw [Rect.emb_apply]; show off a + 1 * _ = _; rw [Nat.one_mul]

abbrev RX (t : ℕ) : Finset S31x1792x256.Idx := (rX t).set
abbrev RH (t : ℕ) : Finset S50176x2048.Idx := (rH t).set
abbrev RK (m : ℕ) : Finset S28x1792x128.Idx := (rK m).set
abbrev RL (m : ℕ) : Finset S50176x256.Idx := (rL m).set
abbrev RY (t : ℕ) : Finset S2x2x1792x128.Idx := (rY t 0).set ∪ (rY t 1).set
abbrev RW (t : ℕ) : Finset S50176x2048.Idx := (rW t 0).set ∪ (rW t 1).set

theorem mem_rX {t : ℕ} {i : S31x1792x256.Idx} : i ∈ (rX t).set ↔ (i 0).val = t % 31 := by
  unfold rX
  rw [Rect.mem_set_unit]
  constructor
  · intro h; have := h 0; simp at this; omega
  · intro h a
    have h1 : (i 1).val < 1792 := (i 1).isLt
    have h2 : (i 2).val < 256 := (i 2).isLt
    fin_cases a <;> simp <;> omega
theorem mem_rH {t : ℕ} {i : S50176x2048.Idx} :
    i ∈ (rH t).set ↔ (i 0).val / 1792 = t % 28 ∧ (i 1).val / 256 = t / 28 % 8 := by
  unfold rH
  rw [Rect.mem_set_unit]
  constructor
  · intro h; have h0 := h 0; have h1 := h 1; simp at h0 h1; omega
  · rintro ⟨h0, h1⟩ a
    fin_cases a <;> simp <;> omega
theorem mem_rK {m : ℕ} {i : S28x1792x128.Idx} : i ∈ (rK m).set ↔ (i 0).val = m % 28 := by
  unfold rK
  rw [Rect.mem_set_unit]
  constructor
  · intro h; have := h 0; simp at this; omega
  · intro h a
    have h1 : (i 1).val < 1792 := (i 1).isLt
    have h2 : (i 2).val < 128 := (i 2).isLt
    fin_cases a <;> simp <;> omega
theorem mem_rL {m : ℕ} {i : S50176x256.Idx} :
    i ∈ (rL m).set ↔ (i 0).val / 1792 = m % 28 ∧ (i 1).val / 128 = m / 28 % 2 := by
  unfold rL
  rw [Rect.mem_set_unit]
  constructor
  · intro h; have h0 := h 0; have h1 := h 1; simp at h0 h1; omega
  · rintro ⟨h0, h1⟩ a
    fin_cases a <;> simp <;> omega
theorem mem_rY {t h : ℕ} {i : S2x2x1792x128.Idx} : i ∈ (rY t h).set ↔ (i 0).val = t % 2 ∧ (i 1).val = h % 2 := by
  unfold rY
  rw [Rect.mem_set_unit]
  constructor
  · intro h; have h0 := h 0; have h1 := h 1; simp at h0 h1; omega
  · rintro ⟨h0, h1⟩ a
    have h2 : (i 2).val < 1792 := (i 2).isLt
    have h3 : (i 3).val < 128 := (i 3).isLt
    fin_cases a <;> simp <;> omega
theorem mem_rW {t h : ℕ} {i : S50176x2048.Idx} :
    i ∈ (rW t h).set ↔ (i 0).val / 1792 = t % 28 ∧ (i 1).val / 128 = (2 * (t / 28) + h) % 16 := by
  unfold rW
  rw [Rect.mem_set_unit]
  constructor
  · intro h; have h0 := h 0; have h1 := h 1; simp at h0 h1; omega
  · rintro ⟨h0, h1⟩ a
    fin_cases a <;> simp <;> omega

theorem mem_rT {t q j : ℕ} {i : S31x1792x256.Idx} :
    i ∈ (rT t q j).set ↔ (i 0).val = t % 31 ∧ (i 1).val / 32 = q % 56 ∧ (i 2).val / 128 = j % 2 := by
  unfold rT
  rw [Rect.mem_set_unit]
  constructor
  · intro h; have h0 := h 0; have h1 := h 1; have h2 := h 2; simp at h0 h1 h2; omega
  · rintro ⟨h0, h1, h2⟩ a
    fin_cases a <;> simp <;> omega
theorem mem_rM {t q : ℕ} {i : S28x1792x128.Idx} :
    i ∈ (rM t q).set ↔ (i 0).val = t % 28 ∧ (i 1).val / 32 = q % 56 := by
  unfold rM
  rw [Rect.mem_set_unit]
  constructor
  · intro h; have h0 := h 0; have h1 := h 1; have h2 := h 2; simp at h0 h1 h2; omega
  · rintro ⟨h0, h1⟩ a
    have h2 : (i 2).val < 128 := (i 2).isLt
    fin_cases a <;> simp <;> omega
theorem mem_rO {t q j : ℕ} {i : S2x2x1792x128.Idx} :
    i ∈ (rO t q j).set ↔ (i 0).val = t % 2 ∧ (i 1).val = j % 2 ∧ (i 2).val / 32 = q % 56 := by
  unfold rO
  rw [Rect.mem_set_unit]
  constructor
  · intro h; have h0 := h 0; have h1 := h 1; have h2 := h 2; simp at h0 h1 h2; omega
  · rintro ⟨h0, h1, h2⟩ a
    have h3 : (i 3).val < 128 := (i 3).isLt
    fin_cases a <;> simp <;> omega

theorem disj_RX {t t' : ℕ} (h : t % 31 ≠ t' % 31) : Disjoint (RX t) (RX t') :=
  Finset.disjoint_left.mpr fun i hi hj => h ((mem_rX.mp hi).symm.trans (mem_rX.mp hj))
theorem disj_RK {t t' : ℕ} (h : t % 28 ≠ t' % 28) : Disjoint (RK t) (RK t') :=
  Finset.disjoint_left.mpr fun i hi hj => h ((mem_rK.mp hi).symm.trans (mem_rK.mp hj))
theorem disj_RH {t t' : ℕ} (h : t % 224 ≠ t' % 224) : Disjoint (RH t) (RH t') :=
  Finset.disjoint_left.mpr fun i hi hj => by
    have h1 := mem_rH.mp hi; have h2 := mem_rH.mp hj; omega
theorem disj_RL {t t' : ℕ} (h : t % 56 ≠ t' % 56) : Disjoint (RL t) (RL t') :=
  Finset.disjoint_left.mpr fun i hi hj => by
    have h1 := mem_rL.mp hi; have h2 := mem_rL.mp hj; omega
theorem disj_RY {t t' : ℕ} (h : t % 2 ≠ t' % 2) : Disjoint (RY t) (RY t') :=
  Finset.disjoint_left.mpr fun i hi hj => by
    simp only [Finset.mem_union, mem_rY] at hi hj; omega
theorem disj_RW {t t' : ℕ} (h : t % 224 ≠ t' % 224) : Disjoint (RW t) (RW t') :=
  Finset.disjoint_left.mpr fun i hi hj => by
    simp only [Finset.mem_union, mem_rW] at hi hj; omega
theorem disj_rY (t : ℕ) : Disjoint (rY t 0).set (rY t 1).set :=
  Finset.disjoint_left.mpr fun i hi hj => by
    simp only [mem_rY] at hi hj; omega
theorem disj_rW (t : ℕ) : Disjoint (rW t 0).set (rW t 1).set :=
  Finset.disjoint_left.mpr fun i hi hj => by
    simp only [mem_rW] at hi hj; omega

theorem rT_sub {t q j a b : ℕ} (h : ∀ t', a ≤ t' → t' < b → t % 31 ≠ t' % 31) : (rT t q j).set ⊆ out RX a b :=
  sub_out RX fun t' h1 h2 => Finset.disjoint_left.mpr fun i hi hj =>
    h t' h1 h2 ((mem_rT.mp hi).1.symm.trans (mem_rX.mp hj))
theorem rM_sub {t q a b : ℕ} (h : ∀ t', a ≤ t' → t' < b → t % 28 ≠ t' % 28) : (rM t q).set ⊆ out RK a b :=
  sub_out RK fun t' h1 h2 => Finset.disjoint_left.mpr fun i hi hj =>
    h t' h1 h2 ((mem_rM.mp hi).1.symm.trans (mem_rK.mp hj))
theorem rO_sub {t q j a b : ℕ} (h : ∀ t', a ≤ t' → t' < b → t % 2 ≠ t' % 2) : (rO t q j).set ⊆ out RY a b :=
  sub_out RY fun t' h1 h2 => Finset.disjoint_left.mpr fun i hi hj => by
    simp only [Finset.mem_union, mem_rY] at hj
    exact h t' h1 h2 ((mem_rO.mp hi).1.symm.trans (by omega))

/-! ## The kernel's operands -/

/-- The memrefs the kernel runs on. -/
structure Args where
  a0 : Memref sig .tc .smem S1 .f32
  h0 : a0.IsWhole
  a1 : Memref sig .tc .smem S1 .f32
  h1 : a1.IsWhole
  a2 : Memref sig .tc .hbm S50176x2048 .fp8e4m3
  h2 : a2.IsWhole
  a3 : Memref sig .tc .hbm S50176x2048 .fp8e5m2
  h3 : a3.IsWhole
  a4 : Memref sig .tc .hbm S50176x256 .i8
  h4 : a4.IsWhole
  a5 : Memref sig .tc .vmem S16x128 .f32
  h5 : a5.IsWhole
  a6 : Memref sig .tc .vmem S16x128 .f32
  h6 : a6.IsWhole
  a7 : Memref sig .tc .vmem S16x128 .f32
  h7 : a7.IsWhole
  a8 : Memref sig .tc .hbm S50176x2048 .bf16
  h8 : a8.IsWhole
  a9 : Memref sig .tc .vmem S16x128 .f32
  h9 : a9.IsWhole
  a10 : Memref sig .tc .vmem S16x128 .f32
  h10 : a10.IsWhole
  a11 : Memref sig .tc .vmem S31x1792x256 .fp8e4m3
  h11 : a11.IsWhole
  a12 : Memref sig .tc .vmem S31x1792x256 .fp8e5m2
  h12 : a12.IsWhole
  a13 : Memref sig .tc .vmem S28x1792x128 .i8
  h13 : a13.IsWhole
  a14 : Memref sig .tc .vmem S2x2x1792x128 .bf16
  h14 : a14.IsWhole
  a15 : Memref sig .tc .vmem S2x8x128 .f32
  h15 : a15.IsWhole
  a16 : Memref sig .tc .vmem S2x8x128 .f32
  h16 : a16.IsWhole
  a17 : Memref sig .tc .vmem S6x8x128 .f32
  h17 : a17.IsWhole
  a18 : DmaSems sig S3
  a19 : DmaSems sig S28
  a20 : DmaSems sig S2
  credit : sig.dmaCredit .tc (Kind.tc.table .vmem) a12.view.buf S1792x256 .fp8e5m2
    = sig.dmaCredit .tc (Kind.tc.table .vmem) a11.view.buf S1792x256 .fp8e4m3

/-- What the operands hold. -/
structure Ins (F : FTy → Type) where
  xs : S1.Idx → Elt F .f32
  ys : S1.Idx → Elt F .f32
  x : S50176x2048.Idx → Elt F .fp8e4m3
  y : S50176x2048.Idx → Elt F .fp8e5m2
  km : S50176x256.Idx → Elt F .i8
  mean : S16x128.Idx → Elt F .f32
  rstd : S16x128.Idx → Elt F .f32
  gam : S16x128.Idx → Elt F .f32

variable (A : Args) (I : Ins F) (c : Dev nD)

def rsem (t : ℕ) : DmaSem sig :=
  ((A.a18.slice (Rect.unit (s := S3) ![t % 3] S1.size (by intro a; fin_cases a; simp; omega))).squeeze S_ squeezes_S1_S_).sem
def msem (m : ℕ) : DmaSem sig :=
  ((A.a19.slice (Rect.unit (s := S28) ![m % 28] S1.size (by intro a; fin_cases a; simp; omega))).squeeze S_ squeezes_S1_S_).sem
def wsem (t : ℕ) : DmaSem sig :=
  ((A.a20.slice (Rect.unit (s := S2) ![t % 2] S1.size (by intro a; fin_cases a; simp; omega))).squeeze S_ squeezes_S1_S_).sem

def NR : ℕ := sig.dmaCredit .tc (Kind.tc.table .vmem) A.a11.view.buf S1792x256 .fp8e4m3
def NM : ℕ := sig.dmaCredit .tc (Kind.tc.table .vmem) A.a13.view.buf S1792x128 .i8
def NW : ℕ := sig.dmaCredit .tc (Kind.tc.table .hbm) A.a8.view.buf S1792x128 .bf16

theorem NR_pos : 0 < NR A := sig.dmaCredit_pos _ _ _ _ _ (by decide)
theorem NM_pos : 0 < NM A := sig.dmaCredit_pos _ _ _ _ _ (by decide)
theorem NW_pos : 0 < NW A := sig.dmaCredit_pos _ _ _ _ _ (by decide)

/-- Where element `i` of the slot of step `t` comes from. -/
def srcI (t : ℕ) (i : S31x1792x256.Idx) : S50176x2048.Idx :=
  ix2 ⟨1792 * (t % 28) + (i 1).val, by have h : (i 1).val < 1792 := (i 1).isLt; omega⟩ ⟨256 * (t / 28 % 8) + (i 2).val, by have h : (i 2).val < 256 := (i 2).isLt; omega⟩
/-- Where element `i` of the chunk of mask copy `m` comes from. -/
def srcK (m : ℕ) (i : S28x1792x128.Idx) : S50176x256.Idx :=
  ix2 ⟨1792 * (m % 28) + (i 1).val, by have h : (i 1).val < 1792 := (i 1).isLt; omega⟩ ⟨128 * (m / 28 % 2) + (i 2).val, by have h : (i 2).val < 128 := (i 2).isLt; omega⟩
/-- Where element `i` of the result's window of step `t` comes from. -/
def srcW (t h : ℕ) (i : S50176x2048.Idx) : S2x2x1792x128.Idx :=
  ix4 ⟨t % 2, by omega⟩ ⟨h % 2, by omega⟩ ⟨(i 0).val % 1792, by omega⟩ ⟨(i 1).val % 128, by omega⟩

/-- The result after a half of step `t` was copied out. -/
def dxStep (t h : ℕ) (O : BufO F) (w : S50176x2048.Idx → Elt F .bf16) : S50176x2048.Idx → Elt F .bf16 :=
  (rW t h).set.piecewise (fun i => O (srcW t h i)) w

theorem srcI_emb (t : ℕ) (i : S1792x256.Idx) :
    srcI t ((rX t).emb (Shape.reshapeEquiv squeezes_S1x1792x256_S1792x256.numel_eq i)) = (rH t).emb i := by
  obtain ⟨x, y, rfl⟩ : ∃ (x : Fin 1792) (y : Fin 256), i = ix2 x y := ⟨i 0, i 1, eq_ix2 i⟩
  have e : Shape.reshapeEquiv squeezes_S1x1792x256_S1792x256.numel_eq (ix2 x y) = ix3 0 x y := reshapeEquiv_ix2_1ab _ _ _
  rw [e]
  have e1 : ((rX t).emb (ix3 0 x y) 1).val = 0 + x.val := emb_val ..
  have e2 : ((rX t).emb (ix3 0 x y) 2).val = 0 + y.val := emb_val ..
  have f0 : ((rH t).emb (ix2 x y) 0).val = 1792 * (t % 28) + x.val := emb_val ..
  have f1 : ((rH t).emb (ix2 x y) 1).val = 256 * (t / 28 % 8) + y.val := emb_val ..
  funext a
  apply Fin.ext
  match a with
  | ⟨0, _⟩ => exact (congrArg (1792 * (t % 28) + ·) (e1.trans (Nat.zero_add _))).trans f0.symm
  | ⟨1, _⟩ => exact (congrArg (256 * (t / 28 % 8) + ·) (e2.trans (Nat.zero_add _))).trans f1.symm

theorem srcK_emb (t : ℕ) (i : S1792x128.Idx) :
    srcK t ((rK t).emb (Shape.reshapeEquiv squeezes_S1x1792x128_S1792x128.numel_eq i)) = (rL t).emb i := by
  obtain ⟨x, y, rfl⟩ : ∃ (x : Fin 1792) (y : Fin 128), i = ix2 x y := ⟨i 0, i 1, eq_ix2 i⟩
  have e : Shape.reshapeEquiv squeezes_S1x1792x128_S1792x128.numel_eq (ix2 x y) = ix3 0 x y := reshapeEquiv_ix2_1ab _ _ _
  rw [e]
  have e1 : ((rK t).emb (ix3 0 x y) 1).val = 0 + x.val := emb_val ..
  have e2 : ((rK t).emb (ix3 0 x y) 2).val = 0 + y.val := emb_val ..
  have f0 : ((rL t).emb (ix2 x y) 0).val = 1792 * (t % 28) + x.val := emb_val ..
  have f1 : ((rL t).emb (ix2 x y) 1).val = 128 * (t / 28 % 2) + y.val := emb_val ..
  funext a
  apply Fin.ext
  match a with
  | ⟨0, _⟩ => exact (congrArg (1792 * (t % 28) + ·) (e1.trans (Nat.zero_add _))).trans f0.symm
  | ⟨1, _⟩ => exact (congrArg (128 * (t / 28 % 2) + ·) (e2.trans (Nat.zero_add _))).trans f1.symm

theorem srcW_emb (t h : ℕ) (i : S1792x128.Idx) :
    srcW t h ((rW t h).emb i) = (rY t h).emb (Shape.reshapeEquiv squeezes_S1x1x1792x128_S1792x128.numel_eq i) := by
  obtain ⟨x, y, rfl⟩ : ∃ (x : Fin 1792) (y : Fin 128), i = ix2 x y := ⟨i 0, i 1, eq_ix2 i⟩
  have e : Shape.reshapeEquiv squeezes_S1x1x1792x128_S1792x128.numel_eq (ix2 x y) = ix4 0 0 x y := reshapeEquiv_ix2_11ab _ _ _
  rw [e]
  have h0 : x.val < 1792 := x.isLt
  have h1 : y.val < 128 := y.isLt
  have e0 : ((rY t h).emb (ix4 0 0 x y) 0).val = t % 2 + 0 := emb_val ..
  have e1 : ((rY t h).emb (ix4 0 0 x y) 1).val = h % 2 + 0 := emb_val ..
  have e2 : ((rY t h).emb (ix4 0 0 x y) 2).val = 0 + x.val := emb_val ..
  have e3 : ((rY t h).emb (ix4 0 0 x y) 3).val = 0 + y.val := emb_val ..
  have f0 : ((rW t h).emb (ix2 x y) 0).val = 1792 * (t % 28) + x.val := emb_val ..
  have f1 : ((rW t h).emb (ix2 x y) 1).val = 128 * ((2 * (t / 28) + h) % 16) + y.val := emb_val ..
  funext a
  apply Fin.ext
  match a with
  | ⟨0, _⟩ => exact e0.symm
  | ⟨1, _⟩ => exact e1.symm
  | ⟨2, _⟩ => exact (congrArg (· % 1792) f0).trans ((by show (1792 * (t % 28) + x.val) % 1792 = 0 + x.val; omega : _ = 0 + x.val).trans e2.symm)
  | ⟨3, _⟩ => exact (congrArg (· % 128) f1).trans ((by show (128 * ((2 * (t / 28) + h) % 16) + y.val) % 128 = 0 + y.val; omega : _ = 0 + y.val).trans e3.symm)

end Cert.Kernel.Hand

end
-- ==== Proof.Flight.lean ====
/-
  The copies the kernel keeps in flight: what each delivers, and the rules for issuing and awaiting them.
-/
module

public import proofs.«01_k».proof.Proof.Ring

@[expose] public section

noncomputable section

namespace Cert.Kernel.Hand

open Cert.Kernel Cert.Kernel.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

variable (A : Args) (I : Ins F) (c : Dev nD)

/-! ## What is delivered -/

def XG (t : ℕ) : BufX F := fun i => I.x (srcI t i)
def DG (t : ℕ) : BufD F := fun i => I.y (srcI t i)
def MG (m : ℕ) : BufM F := fun i => I.km (srcK m i)

/-- The two reads of step `t`. -/
abbrev DR (t : ℕ) : Fin 2 → sProp 𝕄 :=
  ![iprop(own c A.a11 (RX t) (XG I t) ∗ own c A.a2 (RH t) I.x), iprop(own c A.a12 (RX t) (DG I t) ∗ own c A.a3 (RH t) I.y)]
/-- Mask copy `m`. -/
abbrev DM (m : ℕ) : Fin 1 → sProp 𝕄 := ![iprop(own c A.a13 (RK m) (MG I m) ∗ own c A.a4 (RL m) I.km)]
/-- The two writes of step `t`. -/
abbrev DW (t : ℕ) (w : S50176x2048.Idx → Elt F .bf16) (O : BufO F) : Fin 2 → sProp 𝕄 :=
  ![iprop(own c A.a8 (rW t 0).set w ∗ own c A.a14 (rY t 0).set O), iprop(own c A.a8 (rW t 1).set w ∗ own c A.a14 (rY t 1).set O)]

instance DR_storable (t : ℕ) (k : Fin 2) : BI.Storable (upEmb : UEmb _ 𝕄) (DR A I c t k) := by
  fin_cases k
  · show BI.Storable _ (iprop(own c A.a11 (RX t) (XG I t) ∗ own c A.a2 (RH t) I.x)); infer_instance
  · show BI.Storable _ (iprop(own c A.a12 (RX t) (DG I t) ∗ own c A.a3 (RH t) I.y)); infer_instance
instance DM_storable (m : ℕ) (k : Fin 1) : BI.Storable (upEmb : UEmb _ 𝕄) (DM A I c m k) := by
  fin_cases k
  show BI.Storable _ (iprop(own c A.a13 (RK m) (MG I m) ∗ own c A.a4 (RL m) I.km)); infer_instance
instance DW_storable (t : ℕ) (w : S50176x2048.Idx → Elt F .bf16) (O : BufO F) (k : Fin 2) : BI.Storable (upEmb : UEmb _ 𝕄) (DW A c t w O k) := by
  fin_cases k
  · show BI.Storable _ (iprop(own c A.a8 (rW t 0).set w ∗ own c A.a14 (rY t 0).set O)); infer_instance
  · show BI.Storable _ (iprop(own c A.a8 (rW t 1).set w ∗ own c A.a14 (rY t 1).set O)); infer_instance

theorem DW_congr {t : ℕ} {w w' : S50176x2048.Idx → Elt F .bf16} {O O' : BufO F} (hw : ∀ i ∈ RW t, w i = w' i)
    (hO : ∀ i ∈ RY t, O i = O' i) : DW A c t w O = DW A c t w' O' := by
  have e0 : own c A.a8 (rW t 0).set w = own c A.a8 (rW t 0).set w' := own_eq c _ fun i hi => hw i (Finset.mem_union_left _ hi)
  have e1 : own c A.a8 (rW t 1).set w = own c A.a8 (rW t 1).set w' := own_eq c _ fun i hi => hw i (Finset.mem_union_right _ hi)
  have e2 : own c A.a14 (rY t 0).set O = own c A.a14 (rY t 0).set O' := own_eq c _ fun i hi => hO i (Finset.mem_union_left _ hi)
  have e3 : own c A.a14 (rY t 1).set O = own c A.a14 (rY t 1).set O' := own_eq c _ fun i hi => hO i (Finset.mem_union_right _ hi)
  unfold DW
  rw [e0, e1, e2, e3]

/-! ## Cells -/

/-- The reads of step `t` in flight. -/
abbrev FlyR (t k u : ℕ) : sProp 𝕄 := Fly c (rsem A t) (NR A) (DR A I c t) k u
abbrev FlyM (m k u : ℕ) : sProp 𝕄 := Fly c (msem A m) (NM A) (DM A I c m) k u
abbrev FlyW (t : ℕ) (w : S50176x2048.Idx → Elt F .bf16) (O : BufO F) (k u : ℕ) : sProp 𝕄 := Fly c (wsem A t) (NW A) (DW A c t w O) k u

/-- The read operands and buffers outside the reads `a ≤ t < b`. -/
def Rd (a b : ℕ) (X : BufX F) (D : BufD F) : sProp 𝕄 :=
  iprop(own c A.a2 (out RH a b) I.x ∗ own c A.a11 (out RX a b) X ∗ own c A.a3 (out RH a b) I.y ∗ own c A.a12 (out RX a b) D)

/-- The mask operand and buffer outside the mask copies `a ≤ m < b`. -/
def Mk (a b : ℕ) (M : BufM F) : sProp 𝕄 := iprop(own c A.a4 (out RL a b) I.km ∗ own c A.a13 (out RK a b) M)

/-- The result and the output buffer outside the writes `a ≤ t < b`. -/
def Wr (a b : ℕ) (w : S50176x2048.Idx → Elt F .bf16) (O : BufO F) : sProp 𝕄 :=
  iprop(own c A.a8 (out RW a b) w ∗ own c A.a14 (out RY a b) O)

/-- The next read out of the ring goes out. -/
theorem wp_readX {a t : ℕ} (h : a ≤ t) (ht : t < a + 3) (X : BufX F) (D : BufD F) (os ob oh) (is ib ih)
    (es : os = ![t % 3]) (eb : ob = ![t % 31, 0, 0]) (eh : oh = ![1792 * (t % 28), 256 * (t / 28 % 8)]) (hs hd ht')
    {Q : PUnit → sProp 𝕄} :
    iprop(own c A.a2 (out RH a t) I.x ∗ own c A.a11 (out RX a t) X ∗ semVal ((c : Thread nD τ), .dma (rsem A t)) 0)
      ⊢ iprop((iprop(own c A.a2 (out RH a (t + 1)) I.x ∗ own c A.a11 (out RX a (t + 1)) X ∗ FlyR A I c t 1 0) -∗ Q ⟨⟩)
        -∗ WP c (Prog.lift (.enqueueDma (A.a2.slice (Rect.unit (s := S50176x2048) oh S1792x256.size ih) (fun _ => rfl))
            (.here ((A.a11.slice (Rect.unit (s := S31x1792x256) ob S1x1792x256.size ib) (fun _ => rfl)).squeeze S1792x256 squeezes_S1x1792x256_S1792x256))
            (.dma ((A.a18.slice (Rect.unit (s := S3) os S1.size is)).squeeze S_ squeezes_S1_S_).sem) hs hd ht')) Q) := by
  subst es eb eh
  iintro ⟨Hh, Hb, Hs⟩ Hk
  ihave Hh' := (own_issue RH c A.a2 h (fun t' h1 h2 => disj_RH (by omega)) I.x) $$ Hh
  icases Hh' with ⟨Hh1, Hh2⟩
  ihave Hb' := (own_issue RX c A.a11 h (fun t' h1 h2 => disj_RX (by omega)) X) $$ Hb
  icases Hb' with ⟨Hb1, Hb2⟩
  imod (fly_start c (rsem A t) (NR A) (DR A I c t)) $$ Hs with HF
  iapply (wp_enq_in c A.a2 A.a11 (rH t) (fun _ => rfl) (rX t) (fun _ => rfl) squeezes_S1x1792x256_S1792x256 (rsem A t) hs hd ht'
    I.x X (XG I t) (DR A I c t) 0 (NR A) rfl (by decide) (fun i => congrArg I.x (srcI_emb t i)) .rfl) $$ [Hh1 Hb1 HF]
  · isplitl [Hh1]; · iexact Hh1
    isplitl [Hb1]; · iexact Hb1
    iexact HF
  iintro HF
  iapply Hk
  isplitl [Hh2]; · iexact Hh2
  isplitl [Hb2]; · iexact Hb2
  iexact HF

theorem wp_readD {a t : ℕ} (h : a ≤ t) (ht : t < a + 3) (X : BufX F) (D : BufD F) (os ob oh) (is ib ih)
    (es : os = ![t % 3]) (eb : ob = ![t % 31, 0, 0]) (eh : oh = ![1792 * (t % 28), 256 * (t / 28 % 8)]) (hs hd ht')
    {Q : PUnit → sProp 𝕄} :
    iprop(own c A.a3 (out RH a t) I.y ∗ own c A.a12 (out RX a t) D ∗ FlyR A I c t 1 0)
      ⊢ iprop((iprop(own c A.a3 (out RH a (t + 1)) I.y ∗ own c A.a12 (out RX a (t + 1)) D ∗ FlyR A I c t 2 0) -∗ Q ⟨⟩)
        -∗ WP c (Prog.lift (.enqueueDma (A.a3.slice (Rect.unit (s := S50176x2048) oh S1792x256.size ih) (fun _ => rfl))
            (.here ((A.a12.slice (Rect.unit (s := S31x1792x256) ob S1x1792x256.size ib) (fun _ => rfl)).squeeze S1792x256 squeezes_S1x1792x256_S1792x256))
            (.dma ((A.a18.slice (Rect.unit (s := S3) os S1.size is)).squeeze S_ squeezes_S1_S_).sem) hs hd ht')) Q) := by
  subst es eb eh
  iintro ⟨Hh, Hb, HF⟩ Hk
  ihave Hh' := (own_issue RH c A.a3 h (fun t' h1 h2 => disj_RH (by omega)) I.y) $$ Hh
  icases Hh' with ⟨Hh1, Hh2⟩
  ihave Hb' := (own_issue RX c A.a12 h (fun t' h1 h2 => disj_RX (by omega)) D) $$ Hb
  icases Hb' with ⟨Hb1, Hb2⟩
  iapply (wp_enq_in c A.a3 A.a12 (rH t) (fun _ => rfl) (rX t) (fun _ => rfl) squeezes_S1x1792x256_S1792x256 (rsem A t) hs hd ht'
    I.y D (DG I t) (DR A I c t) 1 (NR A) A.credit (by decide) (fun i => congrArg I.y (srcI_emb t i)) .rfl) $$ [Hh1 Hb1 HF]
  · isplitl [Hh1]; · iexact Hh1
    isplitl [Hb1]; · iexact Hb1
    iexact HF
  iintro HF
  iapply Hk
  isplitl [Hh2]; · iexact Hh2
  isplitl [Hb2]; · iexact Hb2
  iexact HF

theorem wp_readM {a m : ℕ} (h : a ≤ m) (hm : m < a + 28) (M : BufM F) (os ob oh) (is ib ih)
    (es : os = ![m % 28]) (eb : ob = ![m % 28, 0, 0]) (eh : oh = ![1792 * (m % 28), 128 * (m / 28 % 2)]) (hs hd ht')
    {Q : PUnit → sProp 𝕄} :
    iprop(Mk A I c a m M ∗ semVal ((c : Thread nD τ), .dma (msem A m)) 0)
      ⊢ iprop((iprop(Mk A I c a (m + 1) M ∗ FlyM A I c m 1 0) -∗ Q ⟨⟩)
        -∗ WP c (Prog.lift (.enqueueDma (A.a4.slice (Rect.unit (s := S50176x256) oh S1792x128.size ih) (fun _ => rfl))
            (.here ((A.a13.slice (Rect.unit (s := S28x1792x128) ob S1x1792x128.size ib) (fun _ => rfl)).squeeze S1792x128 squeezes_S1x1792x128_S1792x128))
            (.dma ((A.a19.slice (Rect.unit (s := S28) os S1.size is)).squeeze S_ squeezes_S1_S_).sem) hs hd ht')) Q) := by
  subst es eb eh
  unfold Mk
  iintro ⟨⟨Hh, Hb⟩, Hs⟩ Hk
  ihave Hh' := (own_issue RL c A.a4 h (fun t' h1 h2 => disj_RL (by omega)) I.km) $$ Hh
  icases Hh' with ⟨Hh1, Hh2⟩
  ihave Hb' := (own_issue RK c A.a13 h (fun t' h1 h2 => disj_RK (by omega)) M) $$ Hb
  icases Hb' with ⟨Hb1, Hb2⟩
  imod (fly_start c (msem A m) (NM A) (DM A I c m)) $$ Hs with HF
  iapply (wp_enq_in c A.a4 A.a13 (rL m) (fun _ => rfl) (rK m) (fun _ => rfl) squeezes_S1x1792x128_S1792x128 (msem A m) hs hd ht'
    I.km M (MG I m) (DM A I c m) 0 (NM A) rfl (by decide) (fun i => congrArg I.km (srcK_emb m i)) .rfl) $$ [Hh1 Hb1 HF]
  · isplitl [Hh1]; · iexact Hh1
    isplitl [Hb1]; · iexact Hb1
    iexact HF
  iintro HF
  iapply Hk
  isplitr [HF]
  · isplitl [Hh2]; · iexact Hh2
    iexact Hb2
  iexact HF

theorem wp_waitX (t : ℕ) (os ob oh) (is ib ih) (es : os = ![t % 3]) (hs hd) {Q : PUnit → sProp 𝕄} :
    iprop(FlyR A I c t 2 0 ∗ owing (F := F) c)
      ⊢ iprop((iprop(FlyR A I c t 2 (0 + NR A) ∗ owing (F := F) c) -∗ Q ⟨⟩)
        -∗ WP c (Prog.lift (.waitDma2 ((A.a18.slice (Rect.unit (s := S3) os S1.size is)).squeeze S_ squeezes_S1_S_).sem
            (A.a2.slice (Rect.unit (s := S50176x2048) oh S1792x256.size ih) (fun _ => rfl))
            ((A.a11.slice (Rect.unit (s := S31x1792x256) ob S1x1792x256.size ib) (fun _ => rfl)).squeeze S1792x256 squeezes_S1x1792x256_S1792x256) hs hd)) Q) := by
  subst es
  exact wp_wait c _ _ (rsem A t) hs hd (DR A I c t) 0 (NR A) rfl (by have := NR_pos A; omega)

theorem wp_waitD {a b : ℕ} (h : a < b) (hb : b ≤ a + 3) (X : BufX F) (D : BufD F) (os ob oh) (is ib ih) (es : os = ![a % 3]) (hs hd) {Q : PUnit → sProp 𝕄} :
    iprop(FlyR A I c a 2 (0 + NR A) ∗ owing (F := F) c ∗ Rd A I c a b X D)
      ⊢ iprop((iprop(Rd A I c (a + 1) b ((RX a).piecewise (XG I a) X) ((RX a).piecewise (DG I a) D)
            ∗ semVal ((c : Thread nD τ), .dma (rsem A a)) 0 ∗ owing (F := F) c) -∗ Q ⟨⟩)
        -∗ WP c (Prog.lift (.waitDma2 ((A.a18.slice (Rect.unit (s := S3) os S1.size is)).squeeze S_ squeezes_S1_S_).sem
            (A.a3.slice (Rect.unit (s := S50176x2048) oh S1792x256.size ih) (fun _ => rfl))
            ((A.a12.slice (Rect.unit (s := S31x1792x256) ob S1x1792x256.size ib) (fun _ => rfl)).squeeze S1792x256 squeezes_S1x1792x256_S1792x256) hs hd)) Q) := by
  subst es
  unfold Rd
  iintro ⟨HF, HO, ⟨H2, H11, H3, H12⟩⟩ Hk
  iapply (wp_waitLast c _ _ (rsem A a) hs hd (DR A I c a) (0 + NR A) (NR A) A.credit (NR_pos A) (by omega)) $$ [HF HO]
  · isplitl [HF]; · iexact HF
    iexact HO
  rw [bigSep_univ_two]
  iintro ⟨HD, HS, HO⟩
  icases HD with ⟨H0, H1⟩
  ihave H0' := (show DR A I c a 0 ⊢ iprop(own c A.a11 (RX a) (XG I a) ∗ own c A.a2 (RH a) I.x) from .rfl) $$ H0
  ihave H1' := (show DR A I c a 1 ⊢ iprop(own c A.a12 (RX a) (DG I a) ∗ own c A.a3 (RH a) I.y) from .rfl) $$ H1
  icases H0' with ⟨G11, G2⟩
  icases H1' with ⟨G12, G3⟩
  iapply Hk
  isplitr [HS HO]; swap
  · isplitl [HS]; · iexact HS
    iexact HO
  isplitl [H2 G2]
  · ihave E := (own_wait RH c A.a2 h (fun t' h1 h2 => disj_RH (by omega)) I.x I.x) $$ [H2 G2]
    · isplitl [G2]; · iexact G2
      iexact H2
    rw [Finset.piecewise_same]
    iexact E
  isplitl [H11 G11]
  · iapply (own_wait RX c A.a11 h (fun t' h1 h2 => disj_RX (by omega)) (XG I a) X)
    isplitl [G11]; · iexact G11
    iexact H11
  isplitl [H3 G3]
  · ihave E := (own_wait RH c A.a3 h (fun t' h1 h2 => disj_RH (by omega)) I.y I.y) $$ [H3 G3]
    · isplitl [G3]; · iexact G3
      iexact H3
    rw [Finset.piecewise_same]
    iexact E
  · iapply (own_wait RX c A.a12 h (fun t' h1 h2 => disj_RX (by omega)) (DG I a) D)
    isplitl [G12]; · iexact G12
    iexact H12

theorem wp_waitM {a b : ℕ} (h : a < b) (hb : b ≤ a + 28) (M : BufM F) (os ob oh) (is ib ih) (es : os = ![a % 28]) (hs hd) {Q : PUnit → sProp 𝕄} :
    iprop(FlyM A I c a 1 0 ∗ owing (F := F) c ∗ Mk A I c a b M)
      ⊢ iprop((iprop(Mk A I c (a + 1) b ((RK a).piecewise (MG I a) M)
            ∗ semVal ((c : Thread nD τ), .dma (msem A a)) 0 ∗ owing (F := F) c) -∗ Q ⟨⟩)
        -∗ WP c (Prog.lift (.waitDma2 ((A.a19.slice (Rect.unit (s := S28) os S1.size is)).squeeze S_ squeezes_S1_S_).sem
            (A.a4.slice (Rect.unit (s := S50176x256) oh S1792x128.size ih) (fun _ => rfl))
            ((A.a13.slice (Rect.unit (s := S28x1792x128) ob S1x1792x128.size ib) (fun _ => rfl)).squeeze S1792x128 squeezes_S1x1792x128_S1792x128) hs hd)) Q) := by
  subst es
  unfold Mk
  iintro ⟨HF, HO, ⟨H2, H11⟩⟩ Hk
  iapply (wp_waitLast c _ _ (msem A a) hs hd (DM A I c a) 0 (NM A) rfl (NM_pos A) (by omega)) $$ [HF HO]
  · isplitl [HF]; · iexact HF
    iexact HO
  rw [show (Finset.univ : Finset (Fin 1)) = {0} from rfl, bigSep_singleton]
  iintro ⟨HD, HS, HO⟩
  ihave H0' := (show DM A I c a 0 ⊢ iprop(own c A.a13 (RK a) (MG I a) ∗ own c A.a4 (RL a) I.km) from .rfl) $$ HD
  icases H0' with ⟨G11, G2⟩
  iapply Hk
  isplitr [HS HO]; swap
  · isplitl [HS]; · iexact HS
    iexact HO
  isplitl [H2 G2]
  · ihave E := (own_wait RL c A.a4 h (fun t' h1 h2 => disj_RL (by omega)) I.km I.km) $$ [H2 G2]
    · isplitl [G2]; · iexact G2
      iexact H2
    rw [Finset.piecewise_same]
    iexact E
  · iapply (own_wait RK c A.a13 h (fun t' h1 h2 => disj_RK (by omega)) (MG I a) M)
    isplitl [G11]; · iexact G11
    iexact H11

/-! ## The writes -/

/-- The result after both halves of step `t` were copied out. -/
def dxW (t : ℕ) (O : BufO F) (w : S50176x2048.Idx → Elt F .bf16) : S50176x2048.Idx → Elt F .bf16 :=
  dxStep t 1 O (dxStep t 0 O w)

theorem dxStep_in {t h : ℕ} (O : BufO F) (w : S50176x2048.Idx → Elt F .bf16) {i : S50176x2048.Idx} (hi : i ∈ (rW t h).set) :
    dxStep t h O w i = O (srcW t h i) := Finset.piecewise_eq_of_mem _ _ _ hi
theorem dxStep_out {t h : ℕ} (O : BufO F) (w : S50176x2048.Idx → Elt F .bf16) {i : S50176x2048.Idx} (hi : i ∉ (rW t h).set) :
    dxStep t h O w i = w i := Finset.piecewise_eq_of_notMem _ _ _ hi
theorem dxW_out {t : ℕ} (O : BufO F) (w : S50176x2048.Idx → Elt F .bf16) {i : S50176x2048.Idx} (hi : i ∉ RW t) :
    dxW t O w i = w i := by
  rw [dxW, dxStep_out _ _ (fun h => hi (Finset.mem_union_right _ h)), dxStep_out _ _ (fun h => hi (Finset.mem_union_left _ h))]

theorem dxW_emb (t : ℕ) (O : BufO F) (w : S50176x2048.Idx → Elt F .bf16) (h : Fin 2) (i : S1792x128.Idx) :
    dxW t O w ((rW t h.val).emb i) = O ((rY t h.val).emb (Shape.reshapeEquiv squeezes_S1x1x1792x128_S1792x128.numel_eq i)) := by
  have hm : (rW t h.val).emb i ∈ (rW t h.val).set := by rw [← Rect.map_emb_univ]; exact Finset.mem_map_of_mem _ (Finset.mem_univ _)
  refine Eq.trans ?_ (congrArg O (srcW_emb t h.val i))
  generalize (rW t h.val).emb i = k at hm ⊢
  obtain ⟨h, hh⟩ := h
  rcases (by omega : h = 0 ∨ h = 1) with rfl | rfl
  · rw [dxW, dxStep_out _ _ (Finset.disjoint_left.mp (disj_rW t) hm)]
    exact dxStep_in O w hm
  · exact dxStep_in O _ hm

/-- A step's windows leave the core's hands, in two halves. -/
theorem wr_split {a t : ℕ} (h : a ≤ t) (ht : t < a + 2) (w : S50176x2048.Idx → Elt F .bf16) (O : BufO F) :
    Wr A c a t w O ⊢ iprop((own c A.a8 (rW t 0).set w ∗ own c A.a14 (rY t 0).set O) ∗ (own c A.a8 (rW t 1).set w ∗ own c A.a14 (rY t 1).set O)
      ∗ Wr A c a (t + 1) (dxW t O w) O) := by
  unfold Wr
  iintro ⟨Hh, Hb⟩
  ihave Hh' := (own_issue RW c A.a8 h (fun t' h1 h2 => disj_RW (by omega)) w) $$ Hh
  icases Hh' with ⟨Hh1, Hh2⟩
  ihave Hb' := (own_issue RY c A.a14 h (fun t' h1 h2 => disj_RY (by omega)) O) $$ Hb
  icases Hb' with ⟨Hb1, Hb2⟩
  ihave Hh1' := (own_two c A.a8 (disj_rW t) w) $$ Hh1
  icases Hh1' with ⟨HhA, HhB⟩
  ihave Hb1' := (own_two c A.a14 (disj_rY t) O) $$ Hb1
  icases Hb1' with ⟨HbA, HbB⟩
  isplitl [HhA HbA]
  · isplitl [HhA]; · iexact HhA
    iexact HbA
  isplitl [HhB HbB]
  · isplitl [HhB]; · iexact HhB
    iexact HbB
  isplitl [Hh2]
  · iapply (own_congr c A.a8 (T := out RW a (t + 1)) (w := w) (w' := dxW t O w) (fun i hi => (dxW_out O w (mem_out RW |>.mp hi t h (Nat.lt_succ_self t))).symm))
    iexact Hh2
  iexact Hb2

theorem wp_write (t : ℕ) (h : Fin 2) (w : S50176x2048.Idx → Elt F .bf16) (O : BufO F) (os ob oh) (is ib ih)
    (es : os = ![t % 2]) (eb : ob = ![t % 2, h.val % 2, 0, 0]) (eh : oh = ![1792 * (t % 28), 128 * ((2 * (t / 28) + h.val) % 16)]) (hs hd ht')
    {Q : PUnit → sProp 𝕄} :
    iprop(own c A.a8 (rW t h.val).set w ∗ own c A.a14 (rY t h.val).set O ∗ FlyW A c t (dxW t O w) O h.val 0)
      ⊢ iprop((FlyW A c t (dxW t O w) O (h.val + 1) 0 -∗ Q ⟨⟩)
        -∗ WP c (Prog.lift (.enqueueDma
            ((A.a14.slice (Rect.unit (s := S2x2x1792x128) ob S1x1x1792x128.size ib) (fun _ => rfl)).squeeze S1792x128 squeezes_S1x1x1792x128_S1792x128)
            (.here (A.a8.slice (Rect.unit (s := S50176x2048) oh S1792x128.size ih) (fun _ => rfl)))
            (.dma ((A.a20.slice (Rect.unit (s := S2) os S1.size is)).squeeze S_ squeezes_S1_S_).sem) hs hd ht')) Q) := by
  subst es eb eh
  iintro ⟨Hw, Hb, HF⟩
  iapply (wp_enq_out c A.a14 A.a8 (rY t h.val) (fun _ => rfl) (rW t h.val) (fun _ => rfl) squeezes_S1x1x1792x128_S1792x128 (wsem A t) hs hd ht'
    O w (dxW t O w) (DW A c t (dxW t O w) O) h.val (NW A) rfl h.isLt (dxW_emb t O w h) ?_)
  · match h with
    | 0 => exact .rfl
    | 1 => exact .rfl
  isplitl [Hb]; · iexact Hb
  isplitl [Hw]; · iexact Hw
  iexact HF

theorem wp_waitW0 (t : ℕ) (w : S50176x2048.Idx → Elt F .bf16) (O : BufO F) (os ob oh) (is ib ih) (es : os = ![t % 2]) (hs hd) {Q : PUnit → sProp 𝕄} :
    iprop(FlyW A c t w O 2 0 ∗ owing (F := F) c)
      ⊢ iprop((iprop(FlyW A c t w O 2 (0 + NW A) ∗ owing (F := F) c) -∗ Q ⟨⟩)
        -∗ WP c (Prog.lift (.waitDma2 ((A.a20.slice (Rect.unit (s := S2) os S1.size is)).squeeze S_ squeezes_S1_S_).sem
            ((A.a14.slice (Rect.unit (s := S2x2x1792x128) ob S1x1x1792x128.size ib) (fun _ => rfl)).squeeze S1792x128 squeezes_S1x1x1792x128_S1792x128)
            (A.a8.slice (Rect.unit (s := S50176x2048) oh S1792x128.size ih) (fun _ => rfl)) hs hd)) Q) := by
  subst es
  exact wp_wait c _ _ (wsem A t) hs hd (DW A c t w O) 0 (NW A) rfl (by have := NW_pos A; omega)

theorem wp_waitW1 {a b : ℕ} (h : a < b) (hb : b ≤ a + 2) (w : S50176x2048.Idx → Elt F .bf16) (O : BufO F) (os ob oh) (is ib ih) (es : os = ![a % 2]) (hs hd) {Q : PUnit → sProp 𝕄} :
    iprop(FlyW A c a w O 2 (0 + NW A) ∗ owing (F := F) c ∗ Wr A c a b w O)
      ⊢ iprop((iprop(Wr A c (a + 1) b w O ∗ semVal ((c : Thread nD τ), .dma (wsem A a)) 0 ∗ owing (F := F) c) -∗ Q ⟨⟩)
        -∗ WP c (Prog.lift (.waitDma2 ((A.a20.slice (Rect.unit (s := S2) os S1.size is)).squeeze S_ squeezes_S1_S_).sem
            ((A.a14.slice (Rect.unit (s := S2x2x1792x128) ob S1x1x1792x128.size ib) (fun _ => rfl)).squeeze S1792x128 squeezes_S1x1x1792x128_S1792x128)
            (A.a8.slice (Rect.unit (s := S50176x2048) oh S1792x128.size ih) (fun _ => rfl)) hs hd)) Q) := by
  subst es
  unfold Wr
  iintro ⟨HF, HO, ⟨H8, H14⟩⟩ Hk
  iapply (wp_waitLast c _ _ (wsem A a) hs hd (DW A c a w O) (0 + NW A) (NW A) rfl (NW_pos A) (by omega)) $$ [HF HO]
  · isplitl [HF]; · iexact HF
    iexact HO
  rw [bigSep_univ_two]
  iintro ⟨HD, HS, HO⟩
  icases HD with ⟨H0, H1⟩
  ihave H0' := (show DW A c a w O 0 ⊢ iprop(own c A.a8 (rW a 0).set w ∗ own c A.a14 (rY a 0).set O) from .rfl) $$ H0
  ihave H1' := (show DW A c a w O 1 ⊢ iprop(own c A.a8 (rW a 1).set w ∗ own c A.a14 (rY a 1).set O) from .rfl) $$ H1
  icases H0' with ⟨G0, K0⟩
  icases H1' with ⟨G1, K1⟩
  ihave G := (own_one c A.a8 (disj_rW a) w) $$ [G0 G1]
  · isplitl [G0]; · iexact G0
    iexact G1
  ihave K := (own_one c A.a14 (disj_rY a) O) $$ [K0 K1]
  · isplitl [K0]; · iexact K0
    iexact K1
  iapply Hk
  isplitr [HS HO]; swap
  · isplitl [HS]; · iexact HS
    iexact HO
  isplitl [H8 G]
  · ihave E := (own_wait RW c A.a8 h (fun t' h1 h2 => disj_RW (by omega)) w w) $$ [H8 G]
    · isplitl [G]; · iexact G
      iexact H8
    rw [Finset.piecewise_same]
    iexact E
  · ihave E := (own_wait RY c A.a14 h (fun t' h1 h2 => disj_RY (by omega)) O O) $$ [H14 K]
    · isplitl [K]; · iexact K
      iexact H14
    rw [Finset.piecewise_same]
    iexact E

end Cert.Kernel.Hand

end
-- ==== Proof.Offs.lean ====
/-
  The offsets and the conditions the kernel computes at 32 bits, in closed form.
-/
module

public import proofs.«01_k».proof.Proof.Gen.Kernel

@[expose] public section

namespace Cert.Kernel.Hand

open Cert.Kernel Cert.Kernel.Gen
open Idealize.ShloMosaic

theorem trips1 : k0_t1_loop.trips = 28 := by decide +kernel
theorem trips2 : k0_t2_loop.trips = 7 := by decide +kernel
theorem trips3 : k0_t3_loop.trips = 196 := by decide +kernel
theorem trips4 : k0_t4_loop.trips = 7 := by decide +kernel
theorem trips5 : k0_t5_loop.trips = 28 := by decide +kernel
theorem trips6 : k0_t6_loop.trips = 7 := by decide +kernel

theorem off1_eq : ∀ k : Fin 3, k0_off1 (BitVec.ofNat 32 k.val) = ![(k.val) % 3] := by decide +kernel
theorem off2_eq : ∀ k : Fin 3, k0_off2 (BitVec.ofNat 32 k.val) = ![(k.val) % 31, 0, 0] := by decide +kernel
theorem off3_eq : ∀ k : Fin 3, k0_off3 (BitVec.ofNat 32 k.val) (BitVec.ofNat 32 k.val) = ![1792 * ((k.val) % 28), 256 * ((k.val) / 28 % 8)] := by decide +kernel
theorem off4_eq : ∀ k : Fin 3, k0_off4 (BitVec.ofNat 32 k.val) = ![1792 * ((k.val) % 28), 128 * ((k.val) / 28 % 2)] := by decide +kernel
theorem off5_eq : ∀ t : Fin k0_t1_loop.trips, k0_off5 t = ![(t.val) % 3] := by decide +kernel
theorem off6_eq : ∀ t : Fin k0_t1_loop.trips, k0_off6 t = ![(t.val) % 31, 0, 0] := by decide +kernel
theorem off7_eq : ∀ t : Fin k0_t1_loop.trips, k0_off7 t = ![1792 * ((t.val) % 28), 256 * ((t.val) / 28 % 8)] := by decide +kernel
theorem off8_eq : ∀ t : Fin k0_t1_loop.trips, k0_off8 t = ![(t.val) % 28] := by decide +kernel
theorem off9_eq : ∀ t : Fin k0_t1_loop.trips, k0_off9 t = ![(t.val) % 28, 0, 0] := by decide +kernel
theorem off10_eq : ∀ t : Fin k0_t1_loop.trips, k0_off10 t = ![1792 * ((t.val) % 28), 128 * ((t.val) / 28 % 2)] := by decide +kernel
theorem off14_eq : ∀ t : Fin k0_t1_loop.trips, k0_off14 t = ![(t.val + 3) % 3] := by decide +kernel
theorem off15_eq : ∀ t : Fin k0_t1_loop.trips, k0_off15 t = ![(t.val + 3) % 31, 0, 0] := by decide +kernel
theorem off16_eq : ∀ t : Fin k0_t1_loop.trips, k0_off16 t = ![1792 * ((t.val + 3) % 28), 256 * ((t.val + 3) / 28 % 8)] := by decide +kernel
theorem off17_eq : ∀ t : Fin k0_t1_loop.trips, k0_cond1 t = 1#1 → k0_off17 t = ![(t.val + 3) % 28] := by decide +kernel
theorem off18_eq : ∀ t : Fin k0_t1_loop.trips, k0_cond1 t = 1#1 → k0_off18 t = ![(t.val + 3) % 28, 0, 0] := by decide +kernel
theorem off19_eq : ∀ t : Fin k0_t1_loop.trips, k0_cond1 t = 1#1 → k0_off19 t = ![1792 * ((t.val + 3) % 28), 128 * ((t.val + 3) / 28 % 2)] := by decide +kernel
theorem cond1_eq : ∀ t : Fin k0_t1_loop.trips, k0_cond1 t = 1#1 ↔ t.val + 3 < 28 := by decide +kernel
theorem off11_eq : ∀ (t : Fin k0_t1_loop.trips) (u : Fin k0_t2_loop.trips) (r : Fin 8), k0_off11 t u (BitVec.ofNat 32 (32 * r.val)) = ![t.val % 28, 32 * ((8 * u.val + r.val) % 56), 0] := by decide +kernel
theorem off12_eq : ∀ (t : Fin k0_t1_loop.trips) (u : Fin k0_t2_loop.trips) (r : Fin 8), k0_off12 t u (BitVec.ofNat 32 (32 * r.val)) = ![t.val % 31, 32 * ((8 * u.val + r.val) % 56), 0] := by decide +kernel
theorem off13_eq : ∀ (t : Fin k0_t1_loop.trips) (u : Fin k0_t2_loop.trips) (r : Fin 8), k0_off13 t u (BitVec.ofNat 32 (32 * r.val)) = ![t.val % 31, 32 * ((8 * u.val + r.val) % 56), 128] := by decide +kernel
theorem off21_eq : ∀ t : Fin k0_t3_loop.trips, k0_off21 t = ![(t.val + 28) % 3] := by decide +kernel
theorem off22_eq : ∀ t : Fin k0_t3_loop.trips, k0_off22 t = ![(t.val + 28) % 31, 0, 0] := by decide +kernel
theorem off23_eq : ∀ t : Fin k0_t3_loop.trips, k0_off23 t = ![1792 * ((t.val + 28) % 28), 256 * ((t.val + 28) / 28 % 8)] := by decide +kernel
theorem off27_eq : ∀ t : Fin k0_t3_loop.trips, k0_off27 t = ![(t.val) % 2] := by decide +kernel
theorem off44_eq : ∀ t : Fin k0_t3_loop.trips, k0_off44 t = ![(t.val) % 2] := by decide +kernel
theorem off46_eq : ∀ t : Fin k0_t3_loop.trips, k0_off46 t = ![(t.val) % 2, 0, 0, 0] := by decide +kernel
theorem off47_eq : ∀ t : Fin k0_t3_loop.trips, k0_off47 t = ![(t.val) % 2, 1, 0, 0] := by decide +kernel
theorem off24_eq : ∀ t : Fin k0_t3_loop.trips, k0_cond2 t = 1#1 → k0_off24 t = ![(t.val - 56) % 28] := by decide +kernel
theorem off25_eq : ∀ t : Fin k0_t3_loop.trips, k0_cond2 t = 1#1 → k0_off25 t = ![(t.val - 56) % 28, 0, 0] := by decide +kernel
theorem off26_eq : ∀ t : Fin k0_t3_loop.trips, k0_cond2 t = 1#1 → k0_off26 t = ![1792 * ((t.val - 56) % 28), 128 * ((t.val - 56) / 28 % 2)] := by decide +kernel
theorem off38_eq : ∀ t : Fin k0_t3_loop.trips, k0_cond4 t = 1#1 → k0_off38 t = ![(t.val + 31) % 3] := by decide +kernel
theorem off39_eq : ∀ t : Fin k0_t3_loop.trips, k0_cond4 t = 1#1 → k0_off39 t = ![(t.val + 31) % 31, 0, 0] := by decide +kernel
theorem off40_eq : ∀ t : Fin k0_t3_loop.trips, k0_cond4 t = 1#1 → k0_off40 t = ![1792 * ((t.val + 31) % 28), 256 * ((t.val + 31) / 28 % 8)] := by decide +kernel
theorem off41_eq : ∀ t : Fin k0_t3_loop.trips, k0_cond5 t = 1#1 → k0_off41 t = ![(t.val - 28) % 28] := by decide +kernel
theorem off42_eq : ∀ t : Fin k0_t3_loop.trips, k0_cond5 t = 1#1 → k0_off42 t = ![(t.val - 28) % 28, 0, 0] := by decide +kernel
theorem off43_eq : ∀ t : Fin k0_t3_loop.trips, k0_cond5 t = 1#1 → k0_off43 t = ![1792 * ((t.val - 28) % 28), 128 * ((t.val - 28) / 28 % 2)] := by decide +kernel
theorem cond2_eq : ∀ t : Fin k0_t3_loop.trips, k0_cond2 t = 1#1 ↔ 84 ≤ t.val ∧ t.val < 112 := by decide +kernel
theorem cond3_eq : ∀ t : Fin k0_t3_loop.trips, k0_cond3 t = 1#1 ↔ 2 ≤ t.val := by decide +kernel
theorem cond4_eq : ∀ t : Fin k0_t3_loop.trips, k0_cond4 t = 1#1 ↔ t.val + 31 < 224 := by decide +kernel
theorem cond5_eq : ∀ t : Fin k0_t3_loop.trips, k0_cond5 t = 1#1 ↔ 56 ≤ t.val ∧ t.val < 84 := by decide +kernel
theorem cond6_eq : ∀ t : Fin k0_t3_loop.trips, k0_cond6 t = 1#1 ↔ t.val % 28 = 27 := by decide +kernel
theorem off31_eq : ∀ (t : Fin k0_t3_loop.trips) (u : Fin k0_t4_loop.trips) (r : Fin 8), k0_off31 t u (BitVec.ofNat 32 (32 * r.val)) = ![t.val % 31, 32 * ((8 * u.val + r.val) % 56), 0] := by decide +kernel
theorem off32_eq : ∀ (t : Fin k0_t3_loop.trips) (u : Fin k0_t4_loop.trips) (r : Fin 8), k0_off32 t u (BitVec.ofNat 32 (32 * r.val)) = ![t.val % 2, 0, 32 * ((8 * u.val + r.val) % 56), 0] := by decide +kernel
theorem off33_eq : ∀ (t : Fin k0_t3_loop.trips) (u : Fin k0_t4_loop.trips) (r : Fin 8), k0_off33 t u (BitVec.ofNat 32 (32 * r.val)) = ![t.val % 31, 32 * ((8 * u.val + r.val) % 56), 128] := by decide +kernel
theorem off34_eq : ∀ (t : Fin k0_t3_loop.trips) (u : Fin k0_t4_loop.trips) (r : Fin 8), k0_off34 t u (BitVec.ofNat 32 (32 * r.val)) = ![t.val % 2, 1, 32 * ((8 * u.val + r.val) % 56), 0] := by decide +kernel
theorem off35_eq : ∀ (t : Fin k0_t3_loop.trips) (u : Fin k0_t4_loop.trips) (r : Fin 8), k0_off35 t u (BitVec.ofNat 32 (32 * r.val)) = ![t.val % 28, 32 * ((8 * u.val + r.val) % 56), 0] := by decide +kernel
theorem off36_eq : ∀ (t : Fin k0_t3_loop.trips) (u : Fin k0_t4_loop.trips) (r : Fin 8), k0_off36 t u (BitVec.ofNat 32 (32 * r.val)) = ![(t.val + 28) % 31, 32 * ((8 * u.val + r.val) % 56), 0] := by decide +kernel
theorem off37_eq : ∀ (t : Fin k0_t3_loop.trips) (u : Fin k0_t4_loop.trips) (r : Fin 8), k0_off37 t u (BitVec.ofNat 32 (32 * r.val)) = ![(t.val + 28) % 31, 32 * ((8 * u.val + r.val) % 56), 128] := by decide +kernel
theorem off45_eq : ∀ (t : Fin k0_t3_loop.trips) (h : Fin 2), k0_off45 t (BitVec.ofNat 32 (128 * h.val)) = ![1792 * ((t.val) % 28), 128 * ((2 * ((t.val) / 28) + h.val) % 16)] := by decide +kernel
theorem off48_eq : ∀ (t : Fin k0_t3_loop.trips) (j : Fin 2), k0_off48 t (BitVec.ofNat 32 j.val) = ![(2 * (t.val / 28 + 1) + j.val) % 16, 0] := by decide +kernel
theorem off20_eq : ∀ (j : Fin 2), k0_off20 (BitVec.ofNat 32 j.val) = ![j.val, 0] := by decide +kernel
theorem off49_eq : ∀ t : Fin k0_t5_loop.trips, k0_off49 t = ![(t.val + 196) % 2] := by decide +kernel
theorem off51_eq : ∀ t : Fin k0_t5_loop.trips, k0_off51 t = ![(t.val + 196) % 2, 0, 0, 0] := by decide +kernel
theorem off52_eq : ∀ t : Fin k0_t5_loop.trips, k0_off52 t = ![(t.val + 196) % 2, 1, 0, 0] := by decide +kernel
theorem off50_eq : ∀ (t : Fin k0_t5_loop.trips) (h : Fin 2), k0_off50 t (BitVec.ofNat 32 (128 * h.val)) = ![1792 * ((t.val + 196) % 28), 128 * ((2 * ((t.val + 196) / 28) + h.val) % 16)] := by decide +kernel
theorem off53_eq : ∀ (t : Fin k0_t5_loop.trips) (u : Fin k0_t6_loop.trips) (r : Fin 8), k0_off53 t u (BitVec.ofNat 32 (32 * r.val)) = ![(t.val + 196) % 31, 32 * ((8 * u.val + r.val) % 56), 0] := by decide +kernel
theorem off54_eq : ∀ (t : Fin k0_t5_loop.trips) (u : Fin k0_t6_loop.trips) (r : Fin 8), k0_off54 t u (BitVec.ofNat 32 (32 * r.val)) = ![(t.val + 196) % 2, 0, 32 * ((8 * u.val + r.val) % 56), 0] := by decide +kernel
theorem off55_eq : ∀ (t : Fin k0_t5_loop.trips) (u : Fin k0_t6_loop.trips) (r : Fin 8), k0_off55 t u (BitVec.ofNat 32 (32 * r.val)) = ![(t.val + 196) % 31, 32 * ((8 * u.val + r.val) % 56), 128] := by decide +kernel
theorem off56_eq : ∀ (t : Fin k0_t5_loop.trips) (u : Fin k0_t6_loop.trips) (r : Fin 8), k0_off56 t u (BitVec.ofNat 32 (32 * r.val)) = ![(t.val + 196) % 2, 1, 32 * ((8 * u.val + r.val) % 56), 0] := by decide +kernel

end Cert.Kernel.Hand
-- ==== Proof.State.lean ====
/-
  What the kernel's buffers hold, step by step, as functions; and the kernel's two inner loops over a ring slot.
-/
module

public import proofs.«01_k».proof.Proof.Flight
public import proofs.«01_k».proof.Proof.Offs

@[expose] public section

noncomputable section

namespace Cert.Kernel.Hand

open Cert.Kernel Cert.Kernel.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-- What the buffers hold. -/
structure St (F : FTy → Type) where
  X : BufX F
  D : BufD F
  M : BufM F
  O : BufO F
  s1 : BufS F
  s2 : BufS F
  cf : S6x8x128.Idx → Elt F .f32
  dg : S16x128.Idx → Elt F .f32
  db : S16x128.Idx → Elt F .f32
  dx : S50176x2048.Idx → Elt F .bf16

/-- One group of rows summed: mask chunk `i`, ring slot `t`, group `u`, both column halves. -/
def redSt (v2 la lb : IVec S8x128 32) (i t u : ℕ) (σ : St F) : St F :=
  { σ with
    D := grpD v2 lb σ.M i t u 1 (grpD v2 la σ.M i t u 0 σ.D 8) 8
    s1 := grpS1 v2 lb σ.M i t u 1 (grpD v2 la σ.M i t u 0 σ.D 8) (grpS1 v2 la σ.M i t u 0 σ.D σ.s1)
    s2 := grpS2 v2 lb σ.M σ.X i t u 1 (grpD v2 la σ.M i t u 0 σ.D 8) (grpS2 v2 la σ.M σ.X i t u 0 σ.D σ.s2) }

/-- The first `n` groups summed. -/
def redN (v2 la lb : IVec S8x128 32) (i t : ℕ) (σ : St F) : ℕ → St F
  | 0 => σ
  | u + 1 => redSt v2 la lb i t u (redN v2 la lb i t σ u)

/-- The six broadcast coefficients of a step. -/
structure Co (F : FTy → Type) where
  a : FVec F S32x128 .f32
  b : FVec F S32x128 .f32
  e : FVec F S32x128 .f32
  a' : FVec F S32x128 .f32
  b' : FVec F S32x128 .f32
  e' : FVec F S32x128 .f32

/-- One group of rows of the result computed: ring slot `t`, group `u`. -/
def outSt (k : Co F) (t u : ℕ) (σ : St F) : St F :=
  { σ with O := grpO k.a' k.b' k.e' σ.D σ.X t t u 1 (grpO k.a k.b k.e σ.D σ.X t t u 0 σ.O 8) 8 }

/-- The first `n` groups computed, and those of the next block summed. -/
def outRedN (k : Co F) (v2 la lb : IVec S8x128 32) (t : ℕ) (σ : St F) : ℕ → St F
  | 0 => σ
  | u + 1 => redSt v2 la lb t (t + 28) u (outSt k t u (outRedN k v2 la lb t σ u))

/-- The first `n` groups of the last block computed; `t` counts from the whole kernel's first output step. -/
def outN (k : Co F) (t : ℕ) (σ : St F) : ℕ → St F
  | 0 => σ
  | u + 1 => outSt k t u (outN k t σ u)

theorem WP_unfold {α : Type} {c : Dev nD} {p q : Prog (TpuEff nD τ sig (Elt F) Λ₀ .tc) α} (h : p = q) {Q : α → sProp 𝕄} : WP c p Q = WP c q Q := by
  rw [h]

theorem WP_seq (c : Dev nD) {α β : Type} (p : Prog (TpuEff nD τ sig (Elt F) Λ₀ .tc) α) (k : α → Prog (TpuEff nD τ sig (Elt F) Λ₀ .tc) β)
    (Q : β → sProp 𝕄) : WP c p (fun a => WP c (k a) Q) ⊢ WP c (p >>= k) Q := by rw [WP_bind]

theorem wp_ldu (c : Dev nD) {s : Shape} {e : EltTy} {cs : CoreSpace} (m : Memref sig .tc cs s e) (off off' size) (inb) (inb')
    (h : off = off') (hl : m.view.LoadsAt (Rect.unit (s := s) off size inb).toLoadRect) (w : s.Idx → Elt F e)
    {Q : ((Rect.unit (s := s) off size inb).shape.Idx → Elt F e) → sProp 𝕄} :
    own c m Finset.univ w ⊢ iprop((own c m Finset.univ w -∗ Q (at' (Rect.unit (s := s) off' size inb') w))
      -∗ WP c (Prog.lift (.load m (Rect.unit (s := s) off size inb).toLoadRect hl)) Q) := by
  subst h
  exact wp_ld c m _ hl w (Finset.subset_univ _)

theorem wp_stu (c : Dev nD) {s : Shape} {e : EltTy} {cs : CoreSpace} (m : Memref sig .tc cs s e) (off off' size) (inb) (inb')
    (h : off = off') (v : (Rect.unit (s := s) off size inb).shape.Idx → Elt F e)
    (hx : (m.access (Rect.unit (s := s) off size inb)).Stores Finset.univ) (hm) (w : s.Idx → Elt F e)
    {Q : PUnit → sProp 𝕄} :
    own c m Finset.univ w ⊢ iprop((own c m Finset.univ (upd (Rect.unit (s := s) off' size inb') v w) -∗ Q ⟨⟩)
      -∗ WP c (Prog.lift (.store m (Rect.unit (s := s) off size inb) v Finset.univ hx hm)) Q) := by
  subst h
  exact wp_st c m _ v hx hm w (Finset.subset_univ _)

attribute [local irreducible] grpD grpO grpS1 grpS2

variable (A : Args) (I : Ins F) (c : Dev nD)

/-- The buffers an inner loop works on. -/
abbrev Buf5 (TM : Finset S28x1792x128.Idx) (TD TX : Finset S31x1792x256.Idx) (σ : St F) : sProp 𝕄 :=
  iprop(own c A.a13 TM σ.M ∗ own c A.a12 TD σ.D ∗ own c A.a11 TX σ.X ∗ own c A.a15 Finset.univ σ.s1 ∗ own c A.a16 Finset.univ σ.s2)

theorem redN_M (v2 la lb : IVec S8x128 32) (i t : ℕ) (σ : St F) (n : ℕ) : (redN v2 la lb i t σ n).M = σ.M := by
  induction n with
  | zero => rfl
  | succ n ih => exact ih
theorem redN_X (v2 la lb : IVec S8x128 32) (i t : ℕ) (σ : St F) (n : ℕ) : (redN v2 la lb i t σ n).X = σ.X := by
  induction n with
  | zero => rfl
  | succ n ih => exact ih

theorem wp_t2 (v2 v4 : IVec S8x128 32) (t : Fin k0_t1_loop.trips) (b : BitVec 32) {TM : Finset S28x1792x128.Idx} {TD TX : Finset S31x1792x256.Idx} (σ : St F)
    (sM : ∀ q, (rM t.val q).set ⊆ TM) (sD : ∀ q j, (rT t.val q j).set ⊆ TD) (sX : ∀ q j, (rT t.val q j).set ⊆ TX) {Q : Unit → sProp 𝕄} :
    Buf5 A c TM TD TX σ ⊢ iprop((Buf5 A c TM TD TX (redN v2 (k0_pay114 v4) (k0_pay115 v4) t.val t.val σ 7) -∗ Q ⟨⟩)
      -∗ WP c (Scf.Loop.for k0_t2_loop k0_t2_ok ⟨⟩ (k0_t2_body (F := F) A.a0 A.h0 A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.a19 A.a20 v2 v4 t b)) Q) := by
  iintro H Hk
  iapply (Scf.wp_for frame (wpE (defs₀ (F := F)) Variants.none (c : Thread nD τ) none) Set.univ _ _ _ k0_t2_ok () _
    (fun k _ => Buf5 A c TM TD TX (redN v2 (k0_pay114 v4) (k0_pay115 v4) t.val t.val σ k)) ?_)
  · intro u _
    rw [show redN v2 (k0_pay114 v4) (k0_pay115 v4) t.val t.val σ (u.val + 1) = redSt v2 (k0_pay114 v4) (k0_pay115 v4) t.val t.val u.val (redN v2 (k0_pay114 v4) (k0_pay115 v4) t.val t.val σ u.val) from rfl]
    generalize redN v2 (k0_pay114 v4) (k0_pay115 v4) t.val t.val σ u.val = ρ
    rw [k0_t2_body_eq]
    iintro ⟨HM, HD, HX, HA, HB⟩
    iapply (WP_seq c)
    iapply (wp_redCol c A.a13 A.a12 A.a11 A.a15 A.a16 v2 (k0_pay114 v4) _ _ _ _ _ _ _ t.val t.val u.val 0 (off11_eq t u) (off12_eq t u) rfl
      ρ.M ρ.D ρ.X ρ.s1 ρ.s2 sM (fun q => sD q 0) (fun q => sX q 0)) $$ [HM HD HX HA HB]
    · isplitl [HM]; · iexact HM
      isplitl [HD]; · iexact HD
      isplitl [HX]; · iexact HX
      isplitl [HA]; · iexact HA
      iexact HB
    iintro ⟨HM, HD, HX, HA, HB⟩
    iapply (wp_redCol c A.a13 A.a12 A.a11 A.a15 A.a16 v2 (k0_pay115 v4) _ _ _ _ _ _ _ t.val t.val u.val 1 (off11_eq t u) (off13_eq t u) rfl
      ρ.M _ ρ.X _ _ sM (fun q => sD q 1) (fun q => sX q 1)) $$ [HM HD HX HA HB]
    · isplitl [HM]; · iexact HM
      isplitl [HD]; · iexact HD
      isplitl [HX]; · iexact HX
      isplitl [HA]; · iexact HA
      iexact HB
    iintro ⟨HM, HD, HX, HA, HB⟩
    isplitl [HM]; · iexact HM
    isplitl [HD]; · iexact HD
    isplitl [HX]; · iexact HX
    isplitl [HA]; · iexact HA
    iexact HB
  isplitl [H]; · iexact H
  iintro %_ H
  iapply Hk
  iexact H

/-- The buffers of an inner loop that also computes the result. -/
abbrev Buf6 (TM : Finset S28x1792x128.Idx) (TD TX : Finset S31x1792x256.Idx) (TO : Finset S2x2x1792x128.Idx) (σ : St F) : sProp 𝕄 :=
  iprop(own c A.a13 TM σ.M ∗ own c A.a12 TD σ.D ∗ own c A.a11 TX σ.X ∗ own c A.a15 Finset.univ σ.s1 ∗ own c A.a16 Finset.univ σ.s2 ∗ own c A.a14 TO σ.O)

set_option maxHeartbeats 1000000 in
theorem wp_t4 (v2 la lb : IVec S8x128 32) (t : Fin k0_t3_loop.trips) (b0 b1 b2 b3 b4 b5 b6 b7 : BitVec 32) (v411 v415 v419 v423 v427 : FVec F S32x128 .f32) (v428 : Vec F S1x1x128 .f32)
    {TM : Finset S28x1792x128.Idx} {TD TX : Finset S31x1792x256.Idx} {TO : Finset S2x2x1792x128.Idx} (σ : St F)
    (sM : ∀ q, (rM t.val q).set ⊆ TM) (sD : ∀ q j, (rT t.val q j).set ⊆ TD) (sX : ∀ q j, (rT t.val q j).set ⊆ TX)
    (sD' : ∀ q j, (rT (t.val + 28) q j).set ⊆ TD) (sX' : ∀ q j, (rT (t.val + 28) q j).set ⊆ TX) (sO : ∀ q j, (rO t.val q j).set ⊆ TO) {Q : Unit → sProp 𝕄} :
    Buf6 A c TM TD TX TO σ ⊢ iprop((Buf6 A c TM TD TX TO (outRedN ⟨v411, v415, v419, v423, v427, k0_pay281 v428⟩ v2 la lb t.val σ 7) -∗ Q ⟨⟩)
      -∗ WP c (Scf.Loop.for k0_t4_loop k0_t4_ok ⟨⟩ (k0_t4_body (F := F) A.a0 A.h0 A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.a19 A.a20 v2 t b0 b1 b2 b3 b4 b5 b6 b7 la lb v411 v415 v419 v423 v427 v428)) Q) := by
  generalize hk : (⟨v411, v415, v419, v423, v427, k0_pay281 v428⟩ : Co F) = kk
  iintro H Hk
  iapply (Scf.wp_for frame (wpE (defs₀ (F := F)) Variants.none (c : Thread nD τ) none) Set.univ _ _ _ k0_t4_ok () _
    (fun k _ => Buf6 A c TM TD TX TO (outRedN kk v2 la lb t.val σ k)) ?_)
  · intro u _
    rw [show outRedN kk v2 la lb t.val σ (u.val + 1) = redSt v2 la lb t.val (t.val + 28) u.val (outSt kk t.val u.val (outRedN kk v2 la lb t.val σ u.val)) from rfl]
    generalize outRedN kk v2 la lb t.val σ u.val = ρ
    subst hk
    rw [k0_t4_body_eq]
    iintro ⟨HM, HD, HX, HA, HB, HO⟩
    iapply (WP_seq c)
    iapply (wp_dxCol c A.a12 A.a11 A.a14 v411 v415 v419 _ _ _ _ _ t.val t.val u.val 0 (off31_eq t u) (off32_eq t u)
      ρ.D ρ.X ρ.O (fun q => sD q 0) (fun q => sX q 0) (fun q => sO q 0)) $$ [HD HX HO]
    · isplitl [HD]; · iexact HD
      isplitl [HX]; · iexact HX
      iexact HO
    iintro ⟨HD, HX, HO⟩
    iapply (WP_seq c)
    iapply (wp_dxCol c A.a12 A.a11 A.a14 v423 v427 (k0_pay281 v428) _ _ _ _ _ t.val t.val u.val 1 (off33_eq t u) (off34_eq t u)
      ρ.D ρ.X _ (fun q => sD q 1) (fun q => sX q 1) (fun q => sO q 1)) $$ [HD HX HO]
    · isplitl [HD]; · iexact HD
      isplitl [HX]; · iexact HX
      iexact HO
    iintro ⟨HD, HX, HO⟩
    iapply (WP_seq c)
    iapply (wp_redCol c A.a13 A.a12 A.a11 A.a15 A.a16 v2 la _ _ _ _ _ _ _ t.val (t.val + 28) u.val 0 (off35_eq t u) (off36_eq t u) rfl
      ρ.M ρ.D ρ.X ρ.s1 ρ.s2 sM (fun q => sD' q 0) (fun q => sX' q 0)) $$ [HM HD HX HA HB]
    · isplitl [HM]; · iexact HM
      isplitl [HD]; · iexact HD
      isplitl [HX]; · iexact HX
      isplitl [HA]; · iexact HA
      iexact HB
    iintro ⟨HM, HD, HX, HA, HB⟩
    iapply (wp_redCol c A.a13 A.a12 A.a11 A.a15 A.a16 v2 lb _ _ _ _ _ _ _ t.val (t.val + 28) u.val 1 (off35_eq t u) (off37_eq t u) rfl
      ρ.M _ ρ.X _ _ sM (fun q => sD' q 1) (fun q => sX' q 1)) $$ [HM HD HX HA HB]
    · isplitl [HM]; · iexact HM
      isplitl [HD]; · iexact HD
      isplitl [HX]; · iexact HX
      isplitl [HA]; · iexact HA
      iexact HB
    iintro ⟨HM, HD, HX, HA, HB⟩
    isplitl [HM]; · iexact HM
    isplitl [HD]; · iexact HD
    isplitl [HX]; · iexact HX
    isplitl [HA]; · iexact HA
    isplitl [HB]; · iexact HB
    iexact HO
  isplitl [H]; · iexact H
  iintro %_ H
  iapply Hk
  iexact H

/-- The buffers of the last block's inner loop. -/
abbrev Buf3 (TD TX : Finset S31x1792x256.Idx) (TO : Finset S2x2x1792x128.Idx) (σ : St F) : sProp 𝕄 :=
  iprop(own c A.a12 TD σ.D ∗ own c A.a11 TX σ.X ∗ own c A.a14 TO σ.O)

theorem wp_t6 (z o : BitVec 32) (t : Fin k0_t5_loop.trips) (b0 b1 : BitVec 32) (v341 v345 v349 : FVec F S32x128 .f32) (v350 v354 v358 : Vec F S1x1x128 .f32)
    {TD TX : Finset S31x1792x256.Idx} {TO : Finset S2x2x1792x128.Idx} (σ : St F)
    (sD : ∀ q j, (rT (t.val + 196) q j).set ⊆ TD) (sX : ∀ q j, (rT (t.val + 196) q j).set ⊆ TX) (sO : ∀ q j, (rO (t.val + 196) q j).set ⊆ TO) {Q : Unit → sProp 𝕄} :
    Buf3 A c TD TX TO σ ⊢ iprop((Buf3 A c TD TX TO (outN ⟨v341, v345, v349, k0_pay308 v350, k0_pay309 v354, k0_pay310 v358⟩ (t.val + 196) σ 7) -∗ Q ⟨⟩)
      -∗ WP c (Scf.Loop.for k0_t6_loop k0_t6_ok ⟨⟩ (k0_t6_body (F := F) A.a0 A.h0 A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.a19 A.a20 z o t b0 b1 v341 v345 v349 v350 v354 v358)) Q) := by
  generalize hk : (⟨v341, v345, v349, k0_pay308 v350, k0_pay309 v354, k0_pay310 v358⟩ : Co F) = kk
  iintro H Hk
  iapply (Scf.wp_for frame (wpE (defs₀ (F := F)) Variants.none (c : Thread nD τ) none) Set.univ _ _ _ k0_t6_ok () _
    (fun k _ => Buf3 A c TD TX TO (outN kk (t.val + 196) σ k)) ?_)
  · intro u _
    rw [show outN kk (t.val + 196) σ (u.val + 1) = outSt kk (t.val + 196) u.val (outN kk (t.val + 196) σ u.val) from rfl]
    generalize outN kk (t.val + 196) σ u.val = ρ
    subst hk
    rw [k0_t6_body_eq]
    iintro ⟨HD, HX, HO⟩
    iapply (WP_seq c)
    iapply (wp_dxCol c A.a12 A.a11 A.a14 v341 v345 v349 _ _ _ _ _ (t.val + 196) (t.val + 196) u.val 0 (off53_eq t u) (off54_eq t u)
      ρ.D ρ.X ρ.O (fun q => sD q 0) (fun q => sX q 0) (fun q => sO q 0)) $$ [HD HX HO]
    · isplitl [HD]; · iexact HD
      isplitl [HX]; · iexact HX
      iexact HO
    iintro ⟨HD, HX, HO⟩
    iapply (wp_dxCol c A.a12 A.a11 A.a14 (k0_pay308 v350) (k0_pay309 v354) (k0_pay310 v358) _ _ _ _ _ (t.val + 196) (t.val + 196) u.val 1 (off55_eq t u) (off56_eq t u)
      ρ.D ρ.X _ (fun q => sD q 1) (fun q => sX q 1) (fun q => sO q 1)) $$ [HD HX HO]
    · isplitl [HD]; · iexact HD
      isplitl [HX]; · iexact HX
      iexact HO
    iintro ⟨HD, HX, HO⟩
    isplitl [HD]; · iexact HD
    isplitl [HX]; · iexact HX
    iexact HO
  isplitl [H]; · iexact H
  iintro %_ H
  iapply Hk
  iexact H

end Cert.Kernel.Hand

end
-- ==== Proof.Body1.lean ====
/-
  The kernel's first loop: the sums of block 0, with three reads kept in flight.
-/
module

public import proofs.«01_k».proof.Proof.State

@[expose] public section

noncomputable section

namespace Cert.Kernel.Hand

open Cert.Kernel Cert.Kernel.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

variable (A : Args) (I : Ins F) (c : Dev nD)

theorem rsem_congr {t t' : ℕ} (h : t % 3 = t' % 3) : rsem A t = rsem A t' := by
  have e : ∀ (k k' : ℕ) (hk hk'), k = k' → ((A.a18.slice (Rect.unit (s := S3) ![k] S1.size hk)).squeeze S_ squeezes_S1_S_).sem
      = ((A.a18.slice (Rect.unit (s := S3) ![k'] S1.size hk')).squeeze S_ squeezes_S1_S_).sem := by
    rintro k k' hk hk' rfl; rfl
  exact e _ _ _ _ h
theorem msem_congr {t t' : ℕ} (h : t % 28 = t' % 28) : msem A t = msem A t' := by
  have e : ∀ (k k' : ℕ) (hk hk'), k = k' → ((A.a19.slice (Rect.unit (s := S28) ![k] S1.size hk)).squeeze S_ squeezes_S1_S_).sem
      = ((A.a19.slice (Rect.unit (s := S28) ![k'] S1.size hk')).squeeze S_ squeezes_S1_S_).sem := by
    rintro k k' hk hk' rfl; rfl
  exact e _ _ _ _ h
theorem wsem_congr {t t' : ℕ} (h : t % 2 = t' % 2) : wsem A t = wsem A t' := by
  have e : ∀ (k k' : ℕ) (hk hk'), k = k' → ((A.a20.slice (Rect.unit (s := S2) ![k] S1.size hk)).squeeze S_ squeezes_S1_S_).sem
      = ((A.a20.slice (Rect.unit (s := S2) ![k'] S1.size hk')).squeeze S_ squeezes_S1_S_).sem := by
    rintro k k' hk hk' rfl; rfl
  exact e _ _ _ _ h

/-- The cell of the reads of step `t`. -/
def rcell (t : ℕ) : sProp 𝕄 := if t < 224 then FlyR A I c t 2 0 else iprop(semVal ((c : Thread nD τ), .dma (rsem A t)) 0)

/-- The cell of mask copy `m` while the copies `a ≤ m < b` are in flight. -/
def mcell (a b m : ℕ) : sProp 𝕄 := if a ≤ m ∧ m < b then FlyM A I c m 1 0 else iprop(semVal ((c : Thread nD τ), .dma (msem A m)) 0)

/-- The 28 mask cells, for the mask copies from `g` on. -/
def MC (g a b : ℕ) : sProp 𝕄 := bigSep Finset.univ fun j : Fin 28 => mcell A I c a b (g + j.val)

theorem MC_issue {g a b : ℕ} (h1 : a ≤ b) (h2 : g ≤ b) (h3 : b < g + 28) :
    MC A I c g a b ⊢ iprop(semVal ((c : Thread nD τ), .dma (msem A b)) 0 ∗ (FlyM A I c b 1 0 -∗ MC A I c g a (b + 1))) := by
  unfold MC
  have e0 : mcell A I c a b (g + (⟨b - g, by omega⟩ : Fin 28).val) = iprop(semVal ((c : Thread nD τ), .dma (msem A b)) 0) := by
    have : g + (b - g) = b := by omega
    simp only [mcell, this]
    rw [if_neg (by omega)]
  have e1 : mcell A I c a (b + 1) (g + (⟨b - g, by omega⟩ : Fin 28).val) = FlyM A I c b 1 0 := by
    have : g + (b - g) = b := by omega
    simp only [mcell, this]
    rw [if_pos (by omega)]
  refine BIBase.Entails.trans (bigSep_univ_update (Φ := fun j : Fin 28 => mcell A I c a b (g + j.val)) (Ψ := fun j : Fin 28 => mcell A I c a (b + 1) (g + j.val)) ⟨b - g, by omega⟩ ?_) ?_
  · intro j hj
    have : g + j.val ≠ b := fun h => hj (Fin.ext (by simp; omega))
    simp only [mcell]
    congr 1
    simp only [eq_iff_iff]; omega
  · simp only [e0, e1]
    exact .rfl

theorem MC_wait {g a b : ℕ} (h1 : a < b) (h2 : g ≤ a) (h3 : a < g + 28) :
    MC A I c g a b ⊢ iprop(FlyM A I c a 1 0 ∗ (semVal ((c : Thread nD τ), .dma (msem A a)) 0 -∗ MC A I c g (a + 1) b)) := by
  unfold MC
  have e0 : mcell A I c a b (g + (⟨a - g, by omega⟩ : Fin 28).val) = FlyM A I c a 1 0 := by
    have : g + (a - g) = a := by omega
    simp only [mcell, this]
    rw [if_pos (by omega)]
  have e1 : mcell A I c (a + 1) b (g + (⟨a - g, by omega⟩ : Fin 28).val) = iprop(semVal ((c : Thread nD τ), .dma (msem A a)) 0) := by
    have : g + (a - g) = a := by omega
    simp only [mcell, this]
    rw [if_neg (by omega)]
  refine BIBase.Entails.trans (bigSep_univ_update (Φ := fun j : Fin 28 => mcell A I c a b (g + j.val)) (Ψ := fun j : Fin 28 => mcell A I c (a + 1) b (g + j.val)) ⟨a - g, by omega⟩ ?_) ?_
  · intro j hj
    have : g + j.val ≠ a := fun h => hj (Fin.ext (by simp; omega))
    simp only [mcell]
    congr 1
    simp only [eq_iff_iff]; omega
  · simp only [e0, e1]
    exact .rfl

/-- The reads of step `T` have arrived. -/
def waitSt (T : ℕ) (σ : St F) : St F :=
  { σ with X := (RX T).piecewise (XG I T) σ.X, D := (RX T).piecewise (DG I T) σ.D }
/-- Mask copy `m` has arrived. -/
def maskSt (m : ℕ) (σ : St F) : St F := { σ with M := (RK m).piecewise (MG I m) σ.M }

/-- The state of the reads after `T` of them: the next three in flight, and the mask copies `a ≤ m < b` of those from `g` on. -/
def J (T g a b : ℕ) (σ : St F) : sProp 𝕄 :=
  iprop(owing (F := F) c ∗ Rd A I c T (min (T + 3) 224) σ.X σ.D ∗ rcell A I c T ∗ rcell A I c (T + 1) ∗ rcell A I c (T + 2)
    ∗ Mk A I c a b σ.M ∗ MC A I c g a b ∗ own c A.a15 Finset.univ σ.s1 ∗ own c A.a16 Finset.univ σ.s2)

/-- One step of the first loop. -/
def step1 (v2 v4 : IVec S8x128 32) (t : ℕ) (σ : St F) : St F :=
  redN v2 (k0_pay114 v4) (k0_pay115 v4) t t (maskSt I t (waitSt I t σ)) 7

theorem wp_part21 (z o : BitVec 32) (t : Fin k0_t1_loop.trips) {b : ℕ} (h : t.val < b) (hb : b ≤ t.val + 3) (X : BufX F) (D : BufD F) {Q : BitVec 32 → sProp 𝕄} :
    iprop(owing (F := F) c ∗ Rd A I c t.val b X D ∗ FlyR A I c t.val 2 0)
      ⊢ iprop((∀ r, iprop(Rd A I c (t.val + 1) b ((RX t.val).piecewise (XG I t.val) X) ((RX t.val).piecewise (DG I t.val) D)
            ∗ semVal ((c : Thread nD τ), .dma (rsem A t.val)) 0 ∗ owing (F := F) c) -∗ Q r)
        -∗ WP c (k0_part21 (F := F) A.a0 A.h0 A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.a19 A.a20 z o t) Q) := by
  rw [k0_part21_eq_skeleton]
  unfold k0_part21_skel
  dsimp only
  iintro ⟨HO, HR, HF⟩ Hk
  iapply (WP_seq c)
  iapply (wp_waitX A I c t.val _ _ _ _ _ _ (off5_eq t)) $$ [HF HO]
  · isplitl [HF]; · iexact HF
    iexact HO
  iintro ⟨HF, HO⟩
  iapply (WP_seq c)
  iapply (wp_waitD A I c h hb X D _ _ _ _ _ _ (off5_eq t)) $$ [HF HO HR]
  · isplitl [HF]; · iexact HF
    isplitl [HO]; · iexact HO
    iexact HR
  iintro H
  iapply (WP_pure c)
  iapply Hk
  iexact H

theorem wp_part22 (v2 v4 : IVec S8x128 32) (t : Fin k0_t1_loop.trips) (x : BitVec 32) {b : ℕ} (h : t.val < b) (hb : b ≤ t.val + 28) {TD TX : Finset S31x1792x256.Idx} (σ : St F)
    (sD : ∀ q j, (rT t.val q j).set ⊆ TD) (sX : ∀ q j, (rT t.val q j).set ⊆ TX) {Q : BitVec 32 → sProp 𝕄} :
    iprop(owing (F := F) c ∗ Mk A I c t.val b σ.M ∗ FlyM A I c t.val 1 0
        ∗ own c A.a12 TD σ.D ∗ own c A.a11 TX σ.X ∗ own c A.a15 Finset.univ σ.s1 ∗ own c A.a16 Finset.univ σ.s2)
      ⊢ iprop((∀ r, iprop(owing (F := F) c ∗ own c A.a4 (out RL (t.val + 1) b) I.km ∗ semVal ((c : Thread nD τ), .dma (msem A t.val)) 0
          ∗ Buf5 A c (out RK (t.val + 1) b) TD TX (redN v2 (k0_pay114 v4) (k0_pay115 v4) t.val t.val (maskSt I t.val σ) 7)) -∗ Q r)
        -∗ WP c (k0_part22 (F := F) A.a0 A.h0 A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.a19 A.a20 v2 v4 t x) Q) := by
  rw [k0_part22_eq_skeleton]
  unfold k0_part22_skel
  dsimp only
  iintro ⟨HO, HM, HF, HD, HX, HA, HB⟩ Hk
  iapply (WP_seq c)
  iapply (wp_waitM A I c h hb σ.M _ _ _ _ _ _ (off8_eq t)) $$ [HF HO HM]
  · isplitl [HF]; · iexact HF
    isplitl [HO]; · iexact HO
    iexact HM
  unfold Mk
  iintro ⟨⟨H4, H13⟩, HS, HO⟩
  iapply (WP_seq c)
  iapply (wp_t2 A c v2 v4 t x (TM := out RK (t.val + 1) b) (maskSt I t.val σ) (fun q => rM_sub fun t' h1 h2 => by omega) sD sX) $$ [H13 HD HX HA HB]
  · isplitl [H13]; · iexact H13
    isplitl [HD]; · iexact HD
    isplitl [HX]; · iexact HX
    isplitl [HA]; · iexact HA
    iexact HB
  iintro H
  iapply (WP_pure c)
  iapply Hk
  isplitl [HO]; · iexact HO
  isplitl [H4]; · iexact H4
  isplitl [HS]; · iexact HS
  iexact H

set_option maxHeartbeats 1000000 in
theorem wp_t1body (v2 v4 : IVec S8x128 32) (t : Fin k0_t1_loop.trips) (σ : St F) :
    J A I c t.val 0 t.val (min (t.val + 3) 28) σ
      ⊢ WP c (k0_t1_body (F := F) A.a0 A.h0 A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.a19 A.a20 v2 v4 t ()) (fun _ => J A I c (t.val + 1) 0 (t.val + 1) (min (t.val + 1 + 3) 28) (step1 I v2 v4 t.val σ)) := by
  have ht : t.val < 28 := lt_of_lt_of_eq t.isLt trips1
  unfold k0_t1_body J
  dsimp only
  rw [show min (t.val + 3) 224 = t.val + 3 by omega, show min (t.val + 1 + 3) 224 = t.val + 3 + 1 by omega]
  iintro ⟨HO, HR, HC0, HC1, HC2, HM, HMC, HA, HB⟩
  iapply (WP_seq c)
  ihave HF := (show rcell A I c t.val ⊢ FlyR A I c t.val 2 0 from by rw [rcell, if_pos (by omega)]) $$ HC0
  iapply (wp_part21 A I c _ _ t (b := t.val + 3) (by omega) le_rfl σ.X σ.D) $$ [HO HR HF]
  · isplitl [HO]; · iexact HO
    isplitl [HR]; · iexact HR
    iexact HF
  iintro %x ⟨HR, HS, HO⟩
  unfold Rd
  icases HR with ⟨H2, H11, H3, H12⟩
  ihave HMC' := (MC_wait A I c (a := t.val) (b := min (t.val + 3) 28) (by omega) (by omega) (by omega)) $$ HMC
  icases HMC' with ⟨HMF, HMC⟩
  iapply (WP_seq c)
  iapply (wp_part22 A I c v2 v4 t x (b := min (t.val + 3) 28) (by omega) (by omega) (TD := out RX (t.val + 1) (t.val + 3)) (TX := out RX (t.val + 1) (t.val + 3)) (waitSt I t.val σ)
    (fun q j => rT_sub fun t' h1 h2 => by omega) (fun q j => rT_sub fun t' h1 h2 => by omega)) $$ [HO HM HMF H12 H11 HA HB]
  · isplitl [HO]; · iexact HO
    isplitl [HM]; · iexact HM
    isplitl [HMF]; · iexact HMF
    isplitl [H12]; · iexact H12
    isplitl [H11]; · iexact H11
    isplitl [HA]; · iexact HA
    iexact HB
  iintro %y ⟨HO, H4, HMS, H13, H12, H11, HA, HB⟩
  ihave HMC' := HMC $$ HMS
  ihave HS' := (show semVal ((c : Thread nD τ), .dma (rsem A t.val)) 0 ⊢ (semVal ((c : Thread nD τ), .dma (rsem A (t.val + 3))) 0 : sProp 𝕄) from by
    rw [rsem_congr A (show t.val % 3 = (t.val + 3) % 3 by omega)]) $$ HS
  rw [← step1]
  generalize hρ : step1 I v2 v4 t.val σ = ρ
  iapply (WP_seq c)
  iapply (wp_readX A I c (a := t.val + 1) (t := t.val + 3) (by omega) (by omega) _ ρ.D _ _ _ _ _ _ (off14_eq t) (off15_eq t) (off16_eq t)) $$ [H2 H11 HS']
  · isplitl [H2]; · iexact H2
    isplitl [H11]; · iexact H11
    iexact HS'
  iintro ⟨H2, H11, HF⟩
  iapply (WP_seq c)
  iapply (wp_readD A I c (a := t.val + 1) (t := t.val + 3) (by omega) (by omega) ρ.X _ _ _ _ _ _ _ (off14_eq t) (off15_eq t) (off16_eq t)) $$ [H3 H12 HF]
  · isplitl [H3]; · iexact H3
    isplitl [H12]; · iexact H12
    iexact HF
  iintro ⟨H3, H12, HF⟩
  by_cases h1 : k0_cond1 t = 1#1
  · have hlt := (cond1_eq t).mp h1
    rw [dif_pos h1]
    rw [show min (t.val + 3) 28 = t.val + 3 by omega, show min (t.val + 1 + 3) 28 = t.val + 3 + 1 by omega]
    ihave HMC'' := (MC_issue A I c (a := t.val + 1) (b := t.val + 3) (by omega) (by omega) (by omega)) $$ HMC'
    icases HMC'' with ⟨HMS, HMC⟩
    iapply (WP_seq c)
    iapply (wp_readM A I c (a := t.val + 1) (m := t.val + 3) (by omega) (by omega) ρ.M _ _ _ _ _ _ (off17_eq t h1) (off18_eq t h1) (off19_eq t h1)) $$ [H4 H13 HMS]
    · unfold Mk
      isplitr [HMS]
      · isplitl [H4]; · iexact H4
        iexact H13
      iexact HMS
    iintro ⟨HM, HF2⟩
    ihave HMC := HMC $$ HF2
    iapply (WP_pure c)
    isplitl [HO]; · iexact HO
    isplitl [H2 H11 H3 H12]
    · isplitl [H2]; · iexact H2
      isplitl [H11]; · iexact H11
      isplitl [H3]; · iexact H3
      iexact H12
    isplitl [HC1]; · iexact HC1
    isplitl [HC2]; · iexact HC2
    isplitl [HF]
    · rw [rcell, if_pos (by omega)]; iexact HF
    isplitl [HM]; · iexact HM
    isplitl [HMC]; · iexact HMC
    isplitl [HA]; · iexact HA
    iexact HB
  · have hlt := mt (cond1_eq t).mpr h1
    rw [dif_neg h1]
    rw [show min (t.val + 3) 28 = min (t.val + 1 + 3) 28 by omega]
    iapply (WP_pure c)
    isplitl [HO]; · iexact HO
    isplitl [H2 H11 H3 H12]
    · isplitl [H2]; · iexact H2
      isplitl [H11]; · iexact H11
      isplitl [H3]; · iexact H3
      iexact H12
    isplitl [HC1]; · iexact HC1
    isplitl [HC2]; · iexact HC2
    isplitl [HF]
    · rw [rcell, if_pos (by omega)]; iexact HF
    isplitl [H4 H13]
    · unfold Mk
      isplitl [H4]; · iexact H4
      iexact H13
    isplitl [HMC']; · iexact HMC'
    isplitl [HA]; · iexact HA
    iexact HB

end Cert.Kernel.Hand

end
-- ==== Proof.Final.lean ====
/-
  The end of a block's sums: its gradients and coefficients.
-/
module

public import proofs.«01_k».proof.Proof.Body1

@[expose] public section

noncomputable section

namespace Cert.Kernel.Hand

open Cert.Kernel Cert.Kernel.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

variable (A : Args) (I : Ins F) (c : Dev nD)

theorem rR_inb (n : ℕ) : ∀ a, (![n % 16, 0] : Fin 2 → ℕ) a + S1x128.size a ≤ S16x128.size a := by intro a; fin_cases a <;> simp; omega
theorem rC_inb (n : ℕ) : ∀ a, (![n % 6, 0, 0] : Fin 3 → ℕ) a + S1x8x128.size a ≤ S6x8x128.size a := by intro a; fin_cases a <;> simp; omega
theorem rC1_inb (n : ℕ) : ∀ a, (![n % 6, 0, 0] : Fin 3 → ℕ) a + S1x1x128.size a ≤ S6x8x128.size a := by intro a; fin_cases a <;> simp; omega
theorem rS_inb (n : ℕ) : ∀ a, (![n % 2, 0, 0] : Fin 3 → ℕ) a + S1x8x128.size a ≤ S2x8x128.size a := by intro a; fin_cases a <;> simp; omega

/-- Row `n` of a vector of channels. -/
abbrev rR (n : ℕ) : Rect S16x128 := Rect.unit (s := S16x128) ![n % 16, 0] S1x128.size (rR_inb n)
/-- Coefficient `n`. -/
abbrev rC (n : ℕ) : Rect S6x8x128 := Rect.unit (s := S6x8x128) ![n % 6, 0, 0] S1x8x128.size (rC_inb n)
/-- The first sublane of coefficient `n`. -/
abbrev rC1 (n : ℕ) : Rect S6x8x128 := Rect.unit (s := S6x8x128) ![n % 6, 0, 0] S1x1x128.size (rC1_inb n)
/-- Column half `n` of a running array of sums. -/
abbrev rS' (n : ℕ) : Rect S2x8x128 := Rect.unit (s := S2x8x128) ![n % 2, 0, 0] S1x8x128.size (rS_inb n)
/-- A running array of sums, whole. -/
abbrev rSA : Rect S2x8x128 := Rect.unit (s := S2x8x128) ![0, 0, 0] S2x8x128.size inb_S2x8x128_S2x8x128_0_0_0

/-- The one element of a scalar operand. -/
abbrev sc (w : S1.Idx → Elt F .f32) : Elt F .f32 :=
  w ((Rect.unit (s := S1) ![0] S1.size inb_S1_S1_0).emb (Shape.Idx.first (numel1_S1.symm ▸ Nat.one_pos)))

/-- The coefficients of block `k`, from the sums `a` and `b` of the two column halves. -/
def finCf (k : ℕ) (s1 s2 : BufS F) (cf : S6x8x128.Idx → Elt F .f32) : S6x8x128.Idx → Elt F .f32 :=
  let xs := sc I.xs; let ys := sc I.ys
  let m := at' (rR (2 * k + 0)) I.mean; let r := at' (rR (2 * k + 0)) I.rstd; let g := at' (rR (2 * k + 0)) I.gam
  let m' := at' (rR (2 * k + 1)) I.mean; let r' := at' (rR (2 * k + 1)) I.rstd; let g' := at' (rR (2 * k + 1)) I.gam
  let a := at' (rS' 0) s1; let b := at' (rS' 0) s2; let a' := at' (rS' 1) s1; let b' := at' (rS' 1) s2
  upd (rC 5) (k0_pay338 (k0_pay265 m') (k0_pay268 ys a') (k0_pay270 (k0_pay266 r') (k0_pay267 g')) (k0_pay271 xs ys (k0_pay265 m') (k0_pay266 r') (k0_pay267 g') a' b'))
    (upd (rC 4) (k0_pay337 (k0_pay273 xs ys (k0_pay265 m') (k0_pay266 r') (k0_pay267 g') a' b'))
    (upd (rC 3) (k0_pay272 ys (k0_pay266 r') (k0_pay267 g'))
    (upd (rC 2) (k0_pay264 (k0_pay254 m) (k0_pay256 ys a) (k0_pay257 xs ys m r a b) (k0_pay258 r g) (k0_pay259 r g) k0_pay260)
    (upd (rC 1) (k0_pay263 xs (k0_pay257 xs ys m r a b) (k0_pay259 r g) k0_pay260)
    (upd (rC 0) (k0_pay262 ys (k0_pay258 r g)) cf)))))

/-- A vector of channels after block `k`'s two rows of `dgamma` were written. -/
def finDg (k : ℕ) (s1 s2 : BufS F) (dg : S16x128.Idx → Elt F .f32) : S16x128.Idx → Elt F .f32 :=
  upd (rR (2 * k + 1)) (k0_pay269 (sc I.xs) (sc I.ys) (k0_pay265 (at' (rR (2 * k + 1)) I.mean)) (k0_pay266 (at' (rR (2 * k + 1)) I.rstd)) (at' (rS' 1) s1) (at' (rS' 1) s2))
    (upd (rR (2 * k + 0)) (k0_pay257 (sc I.xs) (sc I.ys) (at' (rR (2 * k + 0)) I.mean) (at' (rR (2 * k + 0)) I.rstd) (at' (rS' 0) s1) (at' (rS' 0) s2)) dg)

/-- A vector of channels after block `k`'s two rows of `dbeta` were written. -/
def finDb (k : ℕ) (s1 : BufS F) (db : S16x128.Idx → Elt F .f32) : S16x128.Idx → Elt F .f32 :=
  upd (rR (2 * k + 1)) (k0_pay268 (sc I.ys) (at' (rS' 1) s1)) (upd (rR (2 * k + 0)) (k0_pay256 (sc I.ys) (at' (rS' 0) s1)) db)

/-- Block `k`'s sums are done: its gradients and coefficients written, the sums zeroed. -/
def fin (k : ℕ) (σ : St F) : St F :=
  { σ with
    cf := finCf I k σ.s1 σ.s2 σ.cf
    dg := finDg I k σ.s1 σ.s2 σ.dg
    db := finDb I k σ.s1 σ.db
    s1 := upd rSA k0_pay339 σ.s1
    s2 := upd rSA k0_pay340 σ.s2 }

/-- The operands that stay whole. -/
def Inp : sProp 𝕄 :=
  iprop(own c A.a0 Finset.univ I.xs ∗ own c A.a1 Finset.univ I.ys ∗ own c A.a5 Finset.univ I.mean ∗ own c A.a6 Finset.univ I.rstd ∗ own c A.a7 Finset.univ I.gam)

/-- What a block's end works on. -/
def Fs (s1 s2 : BufS F) (cf : S6x8x128.Idx → Elt F .f32) (dg db : S16x128.Idx → Elt F .f32) : sProp 𝕄 :=
  iprop(own c A.a15 Finset.univ s1 ∗ own c A.a16 Finset.univ s2 ∗ own c A.a17 Finset.univ cf ∗ own c A.a9 Finset.univ dg ∗ own c A.a10 Finset.univ db)

/-- A program by what it leaves. -/
theorem wp_cut {α : Type} (p : Prog (TpuEff nD τ sig (Elt F) Λ₀ .tc) α) (P : sProp 𝕄) {Q : α → sProp 𝕄} :
    WP c p (fun _ => P) ⊢ iprop((∀ r, P -∗ Q r) -∗ WP c p Q) := by
  iintro H Hk
  iapply wp_wand $$ H
  iintro %r HP
  iapply Hk $$ HP

theorem wp_part50 (t : Fin k0_t3_loop.trips) (x : BitVec 32) (h6 : k0_cond6 t = 1#1) (s1 s2 : BufS F) (cf : S6x8x128.Idx → Elt F .f32) (dg db : S16x128.Idx → Elt F .f32)
    {Q} :
    iprop(Inp A I c ∗ Fs A c s1 s2 cf dg db)
      ⊢ iprop((iprop(Inp A I c ∗ Fs A c s1 s2 cf
            (upd (rR (2 * (t.val / 28 + 1) + 0)) (k0_pay257 (sc I.xs) (sc I.ys) (at' (rR (2 * (t.val / 28 + 1) + 0)) I.mean) (at' (rR (2 * (t.val / 28 + 1) + 0)) I.rstd) (at' (rS' 0) s1) (at' (rS' 0) s2)) dg)
            (upd (rR (2 * (t.val / 28 + 1) + 0)) (k0_pay256 (sc I.ys) (at' (rS' 0) s1)) db)) -∗
          Q ⟨sc I.xs, sc I.ys, k0_pay254 (at' (rR (2 * (t.val / 28 + 1) + 0)) I.mean), k0_pay256 (sc I.ys) (at' (rS' 0) s1),
            k0_pay257 (sc I.xs) (sc I.ys) (at' (rR (2 * (t.val / 28 + 1) + 0)) I.mean) (at' (rR (2 * (t.val / 28 + 1) + 0)) I.rstd) (at' (rS' 0) s1) (at' (rS' 0) s2),
            k0_pay258 (at' (rR (2 * (t.val / 28 + 1) + 0)) I.rstd) (at' (rR (2 * (t.val / 28 + 1) + 0)) I.gam), k0_pay259 (at' (rR (2 * (t.val / 28 + 1) + 0)) I.rstd) (at' (rR (2 * (t.val / 28 + 1) + 0)) I.gam), k0_pay260⟩)
        -∗ WP c (k0_part50 (F := F) A.a0 A.h0 A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.a19 A.a20 t x h6) Q) := by
  rw [k0_part50_eq_skeleton]
  unfold k0_part50_skel
  dsimp only
  unfold Inp Fs
  iintro ⟨⟨H0, H1, H5, H6, H7⟩, HA, HB, HC, HG, HE⟩ Hk
  iapply (WP_seq c)
  iapply (wp_smem c A.a0 _ _ _ I.xs (Finset.subset_univ _)) $$ H0
  iintro H0
  iapply (WP_seq c)
  iapply (wp_smem c A.a1 _ _ _ I.ys (Finset.subset_univ _)) $$ H1
  iintro H1
  iapply (WP_seq c)
  iapply (wp_ldu c A.a5 _ ![(2 * (t.val / 28 + 1) + 0) % 16, 0] _ _ (rR_inb _) (off48_eq t 0) _ I.mean) $$ H5
  iintro H5
  iapply (WP_seq c)
  iapply (wp_ldu c A.a6 _ ![(2 * (t.val / 28 + 1) + 0) % 16, 0] _ _ (rR_inb _) (off48_eq t 0) _ I.rstd) $$ H6
  iintro H6
  iapply (WP_seq c)
  iapply (wp_ldu c A.a7 _ ![(2 * (t.val / 28 + 1) + 0) % 16, 0] _ _ (rR_inb _) (off48_eq t 0) _ I.gam) $$ H7
  iintro H7
  iapply (WP_seq c)
  iapply (wp_ldu c A.a15 _ ![0 % 2, 0, 0] _ _ (rS_inb 0) rfl _ s1) $$ HA
  iintro HA
  iapply (WP_seq c)
  iapply (wp_ldu c A.a16 _ ![0 % 2, 0, 0] _ _ (rS_inb 0) rfl _ s2) $$ HB
  iintro HB
  iapply (WP_seq c)
  iapply (wp_ldu c A.a10 _ ![(2 * (t.val / 28 + 1) + 0) % 16, 0] _ _ (rR_inb _) (off48_eq t 0) _ _) $$ HE
  iintro HE
  iapply (WP_seq c)
  iapply (wp_stu c A.a10 _ ![(2 * (t.val / 28 + 1) + 0) % 16, 0] _ _ (rR_inb _) (off48_eq t 0) _ _ _ _) $$ HE
  iintro HE
  iapply (WP_seq c)
  iapply (wp_ldu c A.a9 _ ![(2 * (t.val / 28 + 1) + 0) % 16, 0] _ _ (rR_inb _) (off48_eq t 0) _ _) $$ HG
  iintro HG
  iapply (WP_seq c)
  iapply (wp_stu c A.a9 _ ![(2 * (t.val / 28 + 1) + 0) % 16, 0] _ _ (rR_inb _) (off48_eq t 0) _ _ _ _) $$ HG
  iintro HG
  iapply (WP_pure c)
  iapply Hk
  isplitl [H0 H1 H5 H6 H7]
  · isplitl [H0]; · iexact H0
    isplitl [H1]; · iexact H1
    isplitl [H5]; · iexact H5
    isplitl [H6]; · iexact H6
    iexact H7
  isplitl [HA]; · iexact HA
  isplitl [HB]; · iexact HB
  isplitl [HC]; · iexact HC
  isplitl [HG]; · iexact HG
  iexact HE

theorem wp_part51 (t : Fin k0_t3_loop.trips) (x : BitVec 32) (h6 : k0_cond6 t = 1#1) (v467 v468 : Elt F .f32) (v473 v485 v496 v501 v504 v505 : FVec F S1x128 .f32)
    (s1 s2 : BufS F) (cf : S6x8x128.Idx → Elt F .f32) (dg db : S16x128.Idx → Elt F .f32) {Q} :
    iprop(Inp A I c ∗ Fs A c s1 s2 cf dg db)
      ⊢ iprop((∀ y, iprop(Inp A I c ∗ Fs A c s1 s2
            (upd (rC 2) (k0_pay264 v473 v485 v496 v501 v504 v505) (upd (rC 1) (k0_pay263 v467 v496 v504 v505) (upd (rC 0) (k0_pay262 v468 v501) cf))) dg db) -∗
          Q ⟨y, k0_pay265 (at' (rR (2 * (t.val / 28 + 1) + 1)) I.mean), k0_pay266 (at' (rR (2 * (t.val / 28 + 1) + 1)) I.rstd), k0_pay267 (at' (rR (2 * (t.val / 28 + 1) + 1)) I.gam)⟩)
        -∗ WP c (k0_part51 (F := F) A.a0 A.h0 A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.a19 A.a20 t x h6 v467 v468 v473 v485 v496 v501 v504 v505) Q) := by
  rw [k0_part51_eq_skeleton]
  unfold k0_part51_skel
  dsimp only
  unfold Inp Fs
  iintro ⟨⟨H0, H1, H5, H6, H7⟩, HA, HB, HC, HG, HE⟩ Hk
  iapply (WP_seq c)
  iapply (wp_ldu c A.a17 _ ![0 % 6, 0, 0] _ _ (rC_inb 0) rfl _ _) $$ HC
  iintro HC
  iapply (WP_seq c)
  iapply (wp_stu c A.a17 _ ![0 % 6, 0, 0] _ _ (rC_inb 0) rfl _ _ _ _) $$ HC
  iintro HC
  iapply (WP_seq c)
  iapply (wp_ldu c A.a17 _ ![1 % 6, 0, 0] _ _ (rC_inb 1) rfl _ _) $$ HC
  iintro HC
  iapply (WP_seq c)
  iapply (wp_stu c A.a17 _ ![1 % 6, 0, 0] _ _ (rC_inb 1) rfl _ _ _ _) $$ HC
  iintro HC
  iapply (WP_seq c)
  iapply (wp_ldu c A.a17 _ ![2 % 6, 0, 0] _ _ (rC_inb 2) rfl _ _) $$ HC
  iintro HC
  iapply (WP_seq c)
  iapply (wp_stu c A.a17 _ ![2 % 6, 0, 0] _ _ (rC_inb 2) rfl _ _ _ _) $$ HC
  iintro HC
  iapply (WP_seq c)
  iapply (wp_ldu c A.a5 _ ![(2 * (t.val / 28 + 1) + 1) % 16, 0] _ _ (rR_inb _) (off48_eq t 1) _ I.mean) $$ H5
  iintro H5
  iapply (WP_seq c)
  iapply (wp_ldu c A.a6 _ ![(2 * (t.val / 28 + 1) + 1) % 16, 0] _ _ (rR_inb _) (off48_eq t 1) _ I.rstd) $$ H6
  iintro H6
  iapply (WP_seq c)
  iapply (wp_ldu c A.a7 _ ![(2 * (t.val / 28 + 1) + 1) % 16, 0] _ _ (rR_inb _) (off48_eq t 1) _ I.gam) $$ H7
  iintro H7
  iapply (WP_pure c)
  iapply Hk
  isplitl [H0 H1 H5 H6 H7]
  · isplitl [H0]; · iexact H0
    isplitl [H1]; · iexact H1
    isplitl [H5]; · iexact H5
    isplitl [H6]; · iexact H6
    iexact H7
  isplitl [HA]; · iexact HA
  isplitl [HB]; · iexact HB
  isplitl [HC]; · iexact HC
  isplitl [HG]; · iexact HG
  iexact HE

theorem wp_part52 (t : Fin k0_t3_loop.trips) (h6 : k0_cond6 t = 1#1) (v467 v468 : Elt F .f32) (y : BitVec 32) (v538 v541 v544 : FVec F S1x128 .f32)
    (s1 s2 : BufS F) (cf : S6x8x128.Idx → Elt F .f32) (dg db : S16x128.Idx → Elt F .f32) {Q} :
    iprop(Inp A I c ∗ Fs A c s1 s2 cf dg db)
      ⊢ iprop((iprop(Inp A I c ∗ Fs A c s1 s2 (upd (rC 3) (k0_pay272 v468 v541 v544) cf)
            (upd (rR (2 * (t.val / 28 + 1) + 1)) (k0_pay269 v467 v468 v538 v541 (at' (rS' 1) s1) (at' (rS' 1) s2)) dg)
            (upd (rR (2 * (t.val / 28 + 1) + 1)) (k0_pay268 v468 (at' (rS' 1) s1)) db)) -∗
          Q ⟨k0_pay268 v468 (at' (rS' 1) s1), k0_pay270 v541 v544, k0_pay271 v467 v468 v538 v541 v544 (at' (rS' 1) s1) (at' (rS' 1) s2),
            k0_pay273 v467 v468 v538 v541 v544 (at' (rS' 1) s1) (at' (rS' 1) s2)⟩)
        -∗ WP c (k0_part52 (F := F) A.a0 A.h0 A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.a19 A.a20 t h6 v467 v468 y v538 v541 v544) Q) := by
  rw [k0_part52_eq_skeleton]
  unfold k0_part52_skel
  dsimp only
  unfold Inp Fs
  iintro ⟨⟨H0, H1, H5, H6, H7⟩, HA, HB, HC, HG, HE⟩ Hk
  iapply (WP_seq c)
  iapply (wp_ldu c A.a15 _ ![1 % 2, 0, 0] _ _ (rS_inb 1) rfl _ s1) $$ HA
  iintro HA
  iapply (WP_seq c)
  iapply (wp_ldu c A.a16 _ ![1 % 2, 0, 0] _ _ (rS_inb 1) rfl _ s2) $$ HB
  iintro HB
  iapply (WP_seq c)
  iapply (wp_ldu c A.a10 _ ![(2 * (t.val / 28 + 1) + 1) % 16, 0] _ _ (rR_inb _) (off48_eq t 1) _ _) $$ HE
  iintro HE
  iapply (WP_seq c)
  iapply (wp_stu c A.a10 _ ![(2 * (t.val / 28 + 1) + 1) % 16, 0] _ _ (rR_inb _) (off48_eq t 1) _ _ _ _) $$ HE
  iintro HE
  iapply (WP_seq c)
  iapply (wp_ldu c A.a9 _ ![(2 * (t.val / 28 + 1) + 1) % 16, 0] _ _ (rR_inb _) (off48_eq t 1) _ _) $$ HG
  iintro HG
  iapply (WP_seq c)
  iapply (wp_stu c A.a9 _ ![(2 * (t.val / 28 + 1) + 1) % 16, 0] _ _ (rR_inb _) (off48_eq t 1) _ _ _ _) $$ HG
  iintro HG
  iapply (WP_seq c)
  iapply (wp_ldu c A.a17 _ ![3 % 6, 0, 0] _ _ (rC_inb 3) rfl _ _) $$ HC
  iintro HC
  iapply (WP_seq c)
  iapply (wp_stu c A.a17 _ ![3 % 6, 0, 0] _ _ (rC_inb 3) rfl _ _ _ _) $$ HC
  iintro HC
  iapply (WP_seq c)
  iapply (wp_ldu c A.a17 _ ![4 % 6, 0, 0] _ _ (rC_inb 4) rfl _ _) $$ HC
  iintro HC
  iapply (WP_pure c)
  iapply Hk
  isplitl [H0 H1 H5 H6 H7]
  · isplitl [H0]; · iexact H0
    isplitl [H1]; · iexact H1
    isplitl [H5]; · iexact H5
    isplitl [H6]; · iexact H6
    iexact H7
  isplitl [HA]; · iexact HA
  isplitl [HB]; · iexact HB
  isplitl [HC]; · iexact HC
  isplitl [HG]; · iexact HG
  iexact HE

end Cert.Kernel.Hand

end
-- ==== Proof.Body3.lean ====
/-
  The kernel's middle loop: each block's result while the next block is summed.
-/
module

public import proofs.«01_k».proof.Proof.Final

@[expose] public section

noncomputable section

namespace Cert.Kernel.Hand

open Cert.Kernel Cert.Kernel.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

variable (A : Args) (I : Ins F) (c : Dev nD)

/-- A conditional effect before the rest of a program. -/
theorem wp_dite1 {cnd : Prop} [Decidable cnd] {β : Type} (a : cnd → Prog (TpuEff nD τ sig (Elt F) Λ₀ .tc) PUnit) (k : Prog (TpuEff nD τ sig (Elt F) Λ₀ .tc) β)
    (R P : sProp 𝕄) (h1 : ∀ h, R ⊢ WP c (a h) (fun _ => P)) (h2 : ¬cnd → R ⊢ P) {Q : β → sProp 𝕄} :
    R ⊢ iprop((P -∗ WP c k Q) -∗ WP c (if h : cnd then a h >>= fun _ => k else k) Q) := by
  iintro H Hk
  by_cases h : cnd
  · rw [dif_pos h]
    iapply (WP_seq c)
    ihave H := (h1 h) $$ H
    iapply (wp_cut c _ P) $$ H
    iintro %_ H
    iapply Hk $$ H
  · rw [dif_neg h]
    ihave H := (h2 h) $$ H
    iapply Hk $$ H

/-- Two conditional effects before the rest of a program. -/
theorem wp_dite2 {cnd : Prop} [Decidable cnd] {β : Type} (a b : cnd → Prog (TpuEff nD τ sig (Elt F) Λ₀ .tc) PUnit) (k : Prog (TpuEff nD τ sig (Elt F) Λ₀ .tc) β)
    (R P : sProp 𝕄) (h1 : ∀ h, R ⊢ WP c (a h) (fun _ => WP c (b h) (fun _ => P))) (h2 : ¬cnd → R ⊢ P) {Q : β → sProp 𝕄} :
    R ⊢ iprop((P -∗ WP c k Q) -∗ WP c (if h : cnd then a h >>= fun _ => b h >>= fun _ => k else k) Q) := by
  have h1' : ∀ h, R ⊢ WP c (a h >>= fun _ => b h) (fun _ => P) := fun h => (h1 h).trans (WP_seq c _ _ _)
  have e : (if h : cnd then a h >>= fun _ => b h >>= fun _ => k else k) = (if h : cnd then (a h >>= fun _ => b h) >>= fun _ => k else k) := by
    split
    · rw [bind_assoc]
    · rfl
  rw [e]
  exact wp_dite1 c _ k R P h1' h2

attribute [local irreducible] grpD grpO grpS1 grpS2

/-- The number of the block summed at step `t`. -/
def cnE (t : Fin k0_t3_loop.trips) : BitVec 32 :=
  let arg21 : BitVec 32 := Scf.iv 0#32 1#32 t
  let v318 := Scalar.divsi arg21 28#32
  let v323 := Scalar.subi (Scalar.extui (Scalar.cmpi .sgt arg21 0#32)) (Scalar.extui (Scalar.cmpi .slt arg21 0#32))
  let v328 := Scalar.subi (Scalar.extui (Scalar.cmpi .sgt 28#32 0#32)) (Scalar.extui (Scalar.cmpi .slt 28#32 0#32))
  let v332 := Scalar.andi (Scalar.cmpi .ne v323 v328) (Scalar.cmpi .ne (Scalar.remsi arg21 28#32) 0#32)
  Scalar.addi (Scalar.select v332 (Scalar.subi v318 1#32) v318) 1#32
/-- The number of the block summed at step `t`. -/
def cnOf (t : ℕ) : BitVec 32 := BitVec.ofNat 32 (t / 28 + 1)
theorem cnE_eq : ∀ t : Fin k0_t3_loop.trips, cnE t = cnOf t.val := by decide +kernel

theorem wp_part53 (t : Fin k0_t3_loop.trips) {Q} :
    iprop(∀ x0 x1 x2 x3 x4 x5 x6 x7 x8, Q ⟨x0, x1, x2, cnOf t.val, x3, x4, x5, x6, x7, x8⟩) ⊢ WP c (k0_part53 (F := F) A.a0 A.h0 A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.a19 A.a20 0#32 1#32 t) Q := by
  rw [k0_part53_eq_skeleton]
  unfold k0_part53_skel
  dsimp only
  rw [← cnE_eq]
  unfold cnE
  dsimp only
  iintro Hk
  iapply (WP_pure c)
  iapply Hk

theorem wp_part54 (t : Fin k0_t3_loop.trips) (x0 x1 x2 : BitVec 32) (x3 : BitVec 1) (x4 : BitVec 32) {b : ℕ} (h : t.val + 28 < b) (hb : b ≤ t.val + 28 + 3) (X : BufX F) (D : BufD F) {Q} :
    iprop(owing (F := F) c ∗ Rd A I c (t.val + 28) b X D ∗ FlyR A I c (t.val + 28) 2 0)
      ⊢ iprop((∀ y0 y1, iprop(Rd A I c (t.val + 28 + 1) b ((RX (t.val + 28)).piecewise (XG I (t.val + 28)) X) ((RX (t.val + 28)).piecewise (DG I (t.val + 28)) D)
            ∗ semVal ((c : Thread nD τ), .dma (rsem A (t.val + 28))) 0 ∗ owing (F := F) c) -∗ Q ⟨y0, y1⟩)
        -∗ WP c (k0_part54 (F := F) A.a0 A.h0 A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.a19 A.a20 t x0 x1 x2 x3 x4) Q) := by
  rw [k0_part54_eq_skeleton]
  unfold k0_part54_skel
  dsimp only
  iintro ⟨HO, HR, HF⟩ Hk
  iapply (WP_seq c)
  iapply (wp_waitX A I c (t.val + 28) _ _ _ _ _ _ (off21_eq t)) $$ [HF HO]
  · isplitl [HF]; · iexact HF
    iexact HO
  iintro ⟨HF, HO⟩
  iapply (WP_seq c)
  iapply (wp_waitD A I c h hb X D _ _ _ _ _ _ (off21_eq t)) $$ [HF HO HR]
  · isplitl [HF]; · iexact HF
    isplitl [HO]; · iexact HO
    iexact HR
  iintro H
  iapply (WP_pure c)
  iapply Hk
  iexact H

/-- The coefficients a step of the middle loop reads. -/
def co3 (cf : S6x8x128.Idx → Elt F .f32) : Co F :=
  ⟨k0_pay276 (at' (rC1 0) cf), k0_pay277 (at' (rC1 1) cf), k0_pay278 (at' (rC1 2) cf), k0_pay279 (at' (rC1 3) cf), k0_pay280 (at' (rC1 4) cf), k0_pay281 (at' (rC1 5) cf)⟩

/-- The cell of the writes of step `t - 2`, awaited at step `t`. -/
def WC (t : ℕ) (w : S50176x2048.Idx → Elt F .bf16) (O : BufO F) : sProp 𝕄 :=
  if 2 ≤ t then FlyW A c (t - 2) w O 2 0 else iprop(semVal ((c : Thread nD τ), .dma (wsem A t)) 0)

/-- Step `t` of the middle loop after the reads it awaits. -/
def mst (t : ℕ) (σ : St F) : St F := if 84 ≤ t ∧ t < 112 then maskSt I (t - 56) σ else σ

theorem WC_step {t : ℕ} (w w' : S50176x2048.Idx → Elt F .bf16) (O O' : BufO F) (hw : ∀ i ∉ RW t, w' i = w i) (hO : ∀ i ∉ RY t, O' i = O i) :
    WC A c (t + 1) w O = WC A c (t + 1) w' O' := by
  unfold WC
  split
  · unfold FlyW
    rw [DW_congr A c (fun i hi => (hw i ?_).symm) (fun i hi => (hO i ?_).symm)]
    · exact fun h => Finset.disjoint_left.mp (disj_RW (t := t + 1 - 2) (t' := t) (by omega)) hi h
    · exact fun h => Finset.disjoint_left.mp (disj_RY (t := t + 1 - 2) (t' := t) (by omega)) hi h
  · rfl

set_option maxHeartbeats 1000000 in
theorem wp_part55 (v4 : IVec S8x128 32) (t : Fin k0_t3_loop.trips) (x0 x1 x2 x4 x5 : BitVec 32) (σ : St F) {Q} :
    iprop(owing (F := F) c ∗ Mk A I c (28 + min (t.val - 84) 28) (28 + min (t.val - 56) 28) σ.M ∗ MC A I c 28 (28 + min (t.val - 84) 28) (28 + min (t.val - 56) 28)
        ∗ Wr A c (t.val - 2) t.val σ.dx σ.O ∗ WC A c t.val σ.dx σ.O ∗ own c A.a17 Finset.univ σ.cf)
      ⊢ iprop((iprop(owing (F := F) c ∗ Mk A I c (28 + min (t.val + 1 - 84) 28) (28 + min (t.val - 56) 28) (mst I t.val σ).M ∗ MC A I c 28 (28 + min (t.val + 1 - 84) 28) (28 + min (t.val - 56) 28)
            ∗ Wr A c (t.val - 1) t.val σ.dx σ.O ∗ semVal ((c : Thread nD τ), .dma (wsem A t.val)) 0 ∗ own c A.a17 Finset.univ σ.cf) -∗
          Q ⟨k0_pay274 v4 (cnOf t.val), k0_pay275 v4 (cnOf t.val), (co3 σ.cf).a, (co3 σ.cf).b, (co3 σ.cf).e, (co3 σ.cf).a', (co3 σ.cf).b', at' (rC1 5) σ.cf⟩)
        -∗ WP c (k0_part55 (F := F) A.a0 A.h0 A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.a19 A.a20 v4 t x0 x1 x2 (cnOf t.val) x4 x5) Q) := by
  rw [k0_part55_eq_skeleton]
  unfold k0_part55_skel
  dsimp only [co3]
  iintro ⟨HO, HM, HMC, HW, HC, HA⟩ Hk
  iapply (wp_dite1 c _ _ iprop(owing (F := F) c ∗ Mk A I c (28 + min (t.val - 84) 28) (28 + min (t.val - 56) 28) σ.M ∗ MC A I c 28 (28 + min (t.val - 84) 28) (28 + min (t.val - 56) 28))
    iprop(owing (F := F) c ∗ Mk A I c (28 + min (t.val + 1 - 84) 28) (28 + min (t.val - 56) 28) (mst I t.val σ).M
      ∗ MC A I c 28 (28 + min (t.val + 1 - 84) 28) (28 + min (t.val - 56) 28)) ?_ ?_) $$ [HO HM HMC]
  · intro h2
    have h := (cond2_eq t).mp h2
    rw [mst, if_pos h, show 28 + min (t.val - 84) 28 = t.val - 56 by omega, show 28 + min (t.val + 1 - 84) 28 = t.val - 56 + 1 by omega]
    iintro ⟨HO, HM, HMC⟩
    ihave HMC' := (MC_wait A I c (a := t.val - 56) (b := 28 + min (t.val - 56) 28) (by omega) (by omega) (by omega)) $$ HMC
    icases HMC' with ⟨HMF, HMC⟩
    iapply (wp_waitM A I c (a := t.val - 56) (b := 28 + min (t.val - 56) 28) (by omega) (by omega) σ.M _ _ _ _ _ _ (off24_eq t h2)) $$ [HMF HO HM]
    · isplitl [HMF]; · iexact HMF
      isplitl [HO]; · iexact HO
      iexact HM
    iintro ⟨HM, HS, HO⟩
    ihave HMC := HMC $$ HS
    isplitl [HO]; · iexact HO
    isplitl [HM]; · iexact HM
    iexact HMC
  · intro h2
    have h := mt (cond2_eq t).mpr h2
    rw [mst, if_neg h, show 28 + min (t.val + 1 - 84) 28 = 28 + min (t.val - 84) 28 by omega]
  · isplitl [HO]; · iexact HO
    isplitl [HM]; · iexact HM
    iexact HMC
  iintro ⟨HO, HM, HMC⟩
  iapply (wp_dite2 c _ _ _ iprop(owing (F := F) c ∗ Wr A c (t.val - 2) t.val σ.dx σ.O ∗ WC A c t.val σ.dx σ.O)
    iprop(owing (F := F) c ∗ Wr A c (t.val - 1) t.val σ.dx σ.O ∗ semVal ((c : Thread nD τ), .dma (wsem A t.val)) 0) ?_ ?_) $$ [HO HW HC]
  · intro h3
    have h := (cond3_eq t).mp h3
    rw [WC, if_pos h, show t.val - 1 = t.val - 2 + 1 by omega, wsem_congr A (show t.val % 2 = (t.val - 2) % 2 by omega)]
    have hs : k0_off27 t = ![(t.val - 2) % 2] := (off27_eq t).trans (by rw [show t.val % 2 = (t.val - 2) % 2 by omega])
    iintro ⟨HO, HW, HC⟩
    iapply (wp_waitW0 A c (t.val - 2) σ.dx σ.O _ _ _ _ _ _ hs) $$ [HC HO]
    · isplitl [HC]; · iexact HC
      iexact HO
    iintro ⟨HC, HO⟩
    iapply (wp_waitW1 A c (a := t.val - 2) (b := t.val) (by omega) (by omega) σ.dx σ.O _ _ _ _ _ _ hs) $$ [HC HO HW]
    · isplitl [HC]; · iexact HC
      isplitl [HO]; · iexact HO
      iexact HW
    iintro ⟨HW, HC, HO⟩
    isplitl [HO]; · iexact HO
    isplitl [HW]; · iexact HW
    iexact HC
  · intro h3
    have h := mt (cond3_eq t).mpr h3
    rw [WC, if_neg h, show t.val - 2 = t.val - 1 by omega]
  · isplitl [HO]; · iexact HO
    isplitl [HW]; · iexact HW
    iexact HC
  iintro ⟨HO, HW, HC⟩
  iapply (WP_seq c)
  iapply (wp_ldu c A.a17 _ ![0 % 6, 0, 0] _ _ (rC1_inb 0) rfl _ σ.cf) $$ HA
  iintro HA
  iapply (WP_seq c)
  iapply (wp_ldu c A.a17 _ ![1 % 6, 0, 0] _ _ (rC1_inb 1) rfl _ σ.cf) $$ HA
  iintro HA
  iapply (WP_seq c)
  iapply (wp_ldu c A.a17 _ ![2 % 6, 0, 0] _ _ (rC1_inb 2) rfl _ σ.cf) $$ HA
  iintro HA
  iapply (WP_seq c)
  iapply (wp_ldu c A.a17 _ ![3 % 6, 0, 0] _ _ (rC1_inb 3) rfl _ σ.cf) $$ HA
  iintro HA
  iapply (WP_seq c)
  iapply (wp_ldu c A.a17 _ ![4 % 6, 0, 0] _ _ (rC1_inb 4) rfl _ σ.cf) $$ HA
  iintro HA
  iapply (WP_seq c)
  iapply (wp_ldu c A.a17 _ ![5 % 6, 0, 0] _ _ (rC1_inb 5) rfl _ σ.cf) $$ HA
  iintro HA
  iapply (WP_pure c)
  iapply Hk
  isplitl [HO]; · iexact HO
  isplitl [HM]; · iexact HM
  isplitl [HMC]; · iexact HMC
  isplitl [HW]; · iexact HW
  isplitl [HC]; · iexact HC
  iexact HA

set_option maxHeartbeats 1000000 in
theorem wp_part56 (v2 la lb : IVec S8x128 32) (t : Fin k0_t3_loop.trips) (x0 x1 x2 x3 x4 x5 x6 x7 : BitVec 32) (v411 v415 v419 v423 v427 : FVec F S32x128 .f32) (v428 : Vec F S1x1x128 .f32) (σ : St F)
    {Q : PUnit → sProp 𝕄} :
    iprop(Rd A I c (t.val + 28 + 1) (min (t.val + 28 + 3) 224) σ.X σ.D ∗ semVal ((c : Thread nD τ), .dma (rsem A (t.val + 28))) 0
        ∗ Mk A I c (28 + min (t.val + 1 - 84) 28) (28 + min (t.val - 56) 28) σ.M ∗ MC A I c 28 (28 + min (t.val + 1 - 84) 28) (28 + min (t.val - 56) 28)
        ∗ own c A.a15 Finset.univ σ.s1 ∗ own c A.a16 Finset.univ σ.s2
        ∗ Wr A c (t.val - 1) t.val σ.dx σ.O ∗ semVal ((c : Thread nD τ), .dma (wsem A t.val)) 0)
      ⊢ iprop((∀ ρ, ⌜ρ = outRedN ⟨v411, v415, v419, v423, v427, k0_pay281 v428⟩ v2 la lb t.val σ 7⌝ -∗
          iprop(Rd A I c (t.val + 28 + 1) (min (t.val + 28 + 1 + 3) 224) ρ.X ρ.D ∗ rcell A I c (t.val + 28 + 3)
            ∗ Mk A I c (28 + min (t.val + 1 - 84) 28) (28 + min (t.val + 1 - 56) 28) ρ.M ∗ MC A I c 28 (28 + min (t.val + 1 - 84) 28) (28 + min (t.val + 1 - 56) 28)
            ∗ own c A.a15 Finset.univ ρ.s1 ∗ own c A.a16 Finset.univ ρ.s2
            ∗ Wr A c (t.val - 1) (t.val + 1) (dxW t.val ρ.O σ.dx) ρ.O ∗ own c A.a8 (rW t.val 1).set σ.dx ∗ own c A.a14 (rY t.val 1).set ρ.O
            ∗ FlyW A c t.val (dxW t.val ρ.O σ.dx) ρ.O 1 0) -∗ Q ⟨⟩)
        -∗ WP c (k0_part56 (F := F) A.a0 A.h0 A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.a19 A.a20 v2 t x0 x1 x2 (x3) x4 x5 x6 x7 la lb v411 v415 v419 v423 v427 v428) Q) := by
  rw [k0_part56_eq_skeleton]
  unfold k0_part56_skel
  dsimp only
  have ht : t.val < 196 := lt_of_lt_of_eq t.isLt trips3
  iintro ⟨HR, HRS, HM, HMC, HA, HB, HW, HWS⟩ Hk
  unfold Rd Mk Wr
  icases HR with ⟨H2, H11, H3, H12⟩
  icases HM with ⟨H4, H13⟩
  icases HW with ⟨H8, H14⟩
  iapply (WP_seq c)
  iapply (wp_t4 A c v2 la lb t _ _ _ _ _ _ _ _ v411 v415 v419 v423 v427 v428 (TM := out RK (28 + min (t.val + 1 - 84) 28) (28 + min (t.val - 56) 28)) (TD := out RX (t.val + 28 + 1) (min (t.val + 28 + 3) 224)) (TX := out RX (t.val + 28 + 1) (min (t.val + 28 + 3) 224)) (TO := out RY (t.val - 1) t.val) σ
    (fun q => rM_sub fun t' h1 h2 => by omega) (fun q j => rT_sub fun t' h1 h2 => by omega) (fun q j => rT_sub fun t' h1 h2 => by omega)
    (fun q j => rT_sub fun t' h1 h2 => by omega) (fun q j => rT_sub fun t' h1 h2 => by omega) (fun q j => rO_sub fun t' h1 h2 => by omega)) $$ [H13 H12 H11 HA HB H14]
  · isplitl [H13]; · iexact H13
    isplitl [H12]; · iexact H12
    isplitl [H11]; · iexact H11
    isplitl [HA]; · iexact HA
    isplitl [HB]; · iexact HB
    iexact H14
  iintro ⟨H13, H12, H11, HA, HB, H14⟩
  generalize hρ : outRedN ⟨v411, v415, v419, v423, v427, k0_pay281 v428⟩ v2 la lb t.val σ 7 = ρ
  iapply (wp_dite2 c _ _ _ iprop((own c A.a2 (out RH (t.val + 28 + 1) (min (t.val + 28 + 3) 224)) I.x ∗ own c A.a11 (out RX (t.val + 28 + 1) (min (t.val + 28 + 3) 224)) ρ.X ∗ own c A.a3 (out RH (t.val + 28 + 1) (min (t.val + 28 + 3) 224)) I.y ∗ own c A.a12 (out RX (t.val + 28 + 1) (min (t.val + 28 + 3) 224)) ρ.D) ∗ semVal ((c : Thread nD τ), .dma (rsem A (t.val + 28))) 0)
    iprop((own c A.a2 (out RH (t.val + 28 + 1) (min (t.val + 28 + 1 + 3) 224)) I.x ∗ own c A.a11 (out RX (t.val + 28 + 1) (min (t.val + 28 + 1 + 3) 224)) ρ.X ∗ own c A.a3 (out RH (t.val + 28 + 1) (min (t.val + 28 + 1 + 3) 224)) I.y ∗ own c A.a12 (out RX (t.val + 28 + 1) (min (t.val + 28 + 1 + 3) 224)) ρ.D) ∗ rcell A I c (t.val + 28 + 3)) ?_ ?_) $$ [H2 H11 H3 H12 HRS]
  · intro h4
    rw [rsem_congr A (show (t.val + 28) % 3 = (t.val + 28 + 3) % 3 by omega)]
    have h := (cond4_eq t).mp h4
    rw [rcell, if_pos (by omega), show min (t.val + 28 + 3) 224 = t.val + 28 + 3 by omega, show min (t.val + 28 + 1 + 3) 224 = t.val + 28 + 3 + 1 by omega]
    iintro ⟨⟨H2, H11, H3, H12⟩, HRS⟩
    iapply (wp_readX A I c (a := t.val + 28 + 1) (t := t.val + 28 + 3) (by omega) (by omega) ρ.X ρ.D _ _ _ _ _ _ (off38_eq t h4) (off39_eq t h4) (off40_eq t h4)) $$ [H2 H11 HRS]
    · isplitl [H2]; · iexact H2
      isplitl [H11]; · iexact H11
      iexact HRS
    iintro ⟨H2, H11, HF⟩
    iapply (wp_readD A I c (a := t.val + 28 + 1) (t := t.val + 28 + 3) (by omega) (by omega) ρ.X ρ.D _ _ _ _ _ _ (off38_eq t h4) (off39_eq t h4) (off40_eq t h4)) $$ [H3 H12 HF]
    · isplitl [H3]; · iexact H3
      isplitl [H12]; · iexact H12
      iexact HF
    iintro ⟨H3, H12, HF⟩
    isplitr [HF]
    · isplitl [H2]; · iexact H2
      isplitl [H11]; · iexact H11
      isplitl [H3]; · iexact H3
      iexact H12
    iexact HF
  · intro h4
    rw [rsem_congr A (show (t.val + 28) % 3 = (t.val + 28 + 3) % 3 by omega)]
    have h := mt (cond4_eq t).mpr h4
    rw [rcell, if_neg (by omega), show min (t.val + 28 + 1 + 3) 224 = min (t.val + 28 + 3) 224 by omega]
  · isplitr [HRS]
    · isplitl [H2]; · iexact H2
      isplitl [H11]; · iexact H11
      isplitl [H3]; · iexact H3
      iexact H12
    iexact HRS
  iintro ⟨HR, HRC⟩
  iapply (wp_dite1 c _ _ iprop(Mk A I c (28 + min (t.val + 1 - 84) 28) (28 + min (t.val - 56) 28) ρ.M ∗ MC A I c 28 (28 + min (t.val + 1 - 84) 28) (28 + min (t.val - 56) 28))
    iprop(Mk A I c (28 + min (t.val + 1 - 84) 28) (28 + min (t.val + 1 - 56) 28) ρ.M ∗ MC A I c 28 (28 + min (t.val + 1 - 84) 28) (28 + min (t.val + 1 - 56) 28)) ?_ ?_) $$ [H4 H13 HMC]
  · intro h5
    have h := (cond5_eq t).mp h5
    rw [show 28 + min (t.val - 56) 28 = t.val - 28 by omega, show 28 + min (t.val + 1 - 56) 28 = t.val - 28 + 1 by omega]
    iintro ⟨HM, HMC⟩
    ihave HMC' := (MC_issue A I c (a := (28 + min (t.val + 1 - 84) 28)) (b := t.val - 28) (by omega) (by omega) (by omega)) $$ HMC
    icases HMC' with ⟨HMS, HMC⟩
    iapply (wp_readM A I c (a := (28 + min (t.val + 1 - 84) 28)) (m := t.val - 28) (by omega) (by omega) ρ.M _ _ _ _ _ _ (off41_eq t h5) (off42_eq t h5) (off43_eq t h5)) $$ [HM HMS]
    · isplitl [HM]; · iexact HM
      iexact HMS
    iintro ⟨HM, HF2⟩
    ihave HMC := HMC $$ HF2
    isplitl [HM]; · iexact HM
    iexact HMC
  · intro h5
    have h := mt (cond5_eq t).mpr h5
    rw [show 28 + min (t.val + 1 - 56) 28 = 28 + min (t.val - 56) 28 by omega]
  · unfold Mk
    isplitr [HMC]
    · isplitl [H4]; · iexact H4
      iexact H13
    iexact HMC
  unfold Mk
  iintro ⟨HM, HMC⟩
  ihave HW := (wr_split A c (a := t.val - 1) (t := t.val) (by omega) (by omega) σ.dx ρ.O) $$ [H8 H14]
  · unfold Wr
    isplitl [H8]; · iexact H8
    iexact H14
  unfold Wr
  icases HW with ⟨⟨H80, H140⟩, ⟨H81, H141⟩, HW⟩
  imod (fly_start c (wsem A t.val) (NW A) (DW A c t.val (dxW t.val ρ.O σ.dx) ρ.O)) $$ HWS with HWF
  iapply (WP_seq c)
  iapply (wp_write A c t.val 0 σ.dx ρ.O _ _ _ _ _ _ (off44_eq t) (off46_eq t) (off45_eq t 0)) $$ [H80 H140 HWF]
  · isplitl [H80]; · iexact H80
    isplitl [H140]; · iexact H140
    iexact HWF
  iintro HWF
  iapply (WP_pure c)
  iapply Hk $$ %ρ %rfl
  isplitl [HR]; · iexact HR
  isplitl [HRC]; · iexact HRC
  isplitl [HM]; · iexact HM
  isplitl [HMC]; · iexact HMC
  isplitl [HA]; · iexact HA
  isplitl [HB]; · iexact HB
  isplitl [HW]; · iexact HW
  isplitl [H81]; · iexact H81
  isplitl [H141]; · iexact H141
  iexact HWF

end Cert.Kernel.Hand

end
-- ==== Proof.Loop3.lean ====
/-
  One step of the kernel's middle loop.
-/
module

public import proofs.«01_k».proof.Proof.Body3

@[expose] public section

noncomputable section

namespace Cert.Kernel.Hand

open Cert.Kernel Cert.Kernel.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

variable (A : Args) (I : Ins F) (c : Dev nD)

theorem grpO_out (a b e : FVec F S32x128 .f32) (D : BufD F) (X : BufX F) (t o u j : ℕ) (O : BufO F) (n : ℕ) {i : S2x2x1792x128.Idx} (h : i ∉ RY o) :
    grpO a b e D X t o u j O n i = O i := by
  induction n with
  | zero => rfl
  | succ n ih =>
    refine (upd_of_not_mem (rO o (8 * u + n) j) _ _ ?_).trans ih
    intro hi
    have h1 := mem_rO.mp hi
    apply h
    simp only [Finset.mem_union, mem_rY]
    omega

attribute [local irreducible] grpD grpO grpS1 grpS2

theorem outSt_O (k : Co F) (t u : ℕ) (σ : St F) {i : S2x2x1792x128.Idx} (h : i ∉ RY t) : (outSt k t u σ).O i = σ.O i := by
  rw [outSt]
  dsimp only
  rw [grpO_out _ _ _ _ _ _ _ _ _ _ _ h, grpO_out _ _ _ _ _ _ _ _ _ _ _ h]

theorem outRedN_O (k : Co F) (v2 la lb : IVec S8x128 32) (t : ℕ) (σ : St F) (n : ℕ) {i : S2x2x1792x128.Idx} (h : i ∉ RY t) :
    (outRedN k v2 la lb t σ n).O i = σ.O i := by
  induction n with
  | zero => rfl
  | succ n ih => exact (outSt_O k t n (outRedN k v2 la lb t σ n) h).trans ih
theorem outN_O (k : Co F) (t : ℕ) (σ : St F) (n : ℕ) {i : S2x2x1792x128.Idx} (h : i ∉ RY t) : (outN k t σ n).O i = σ.O i := by
  induction n with
  | zero => rfl
  | succ n ih => exact (outSt_O k t n (outN k t σ n) h).trans ih
theorem outRedN_cf (k : Co F) (v2 la lb : IVec S8x128 32) (t : ℕ) (σ : St F) (n : ℕ) : (outRedN k v2 la lb t σ n).cf = σ.cf := by
  induction n with
  | zero => rfl
  | succ n ih => exact ih
theorem outRedN_dg (k : Co F) (v2 la lb : IVec S8x128 32) (t : ℕ) (σ : St F) (n : ℕ) : (outRedN k v2 la lb t σ n).dg = σ.dg := by
  induction n with
  | zero => rfl
  | succ n ih => exact ih
theorem outRedN_db (k : Co F) (v2 la lb : IVec S8x128 32) (t : ℕ) (σ : St F) (n : ℕ) : (outRedN k v2 la lb t σ n).db = σ.db := by
  induction n with
  | zero => rfl
  | succ n ih => exact ih
theorem outRedN_dx (k : Co F) (v2 la lb : IVec S8x128 32) (t : ℕ) (σ : St F) (n : ℕ) : (outRedN k v2 la lb t σ n).dx = σ.dx := by
  induction n with
  | zero => rfl
  | succ n ih => exact ih
theorem mst_X (t : ℕ) (σ : St F) : (mst I t σ).X = σ.X := by unfold mst; split <;> rfl
theorem mst_D (t : ℕ) (σ : St F) : (mst I t σ).D = σ.D := by unfold mst; split <;> rfl
theorem mst_cf (t : ℕ) (σ : St F) : (mst I t σ).cf = σ.cf := by unfold mst; split <;> rfl
theorem mst_dg (t : ℕ) (σ : St F) : (mst I t σ).dg = σ.dg := by unfold mst; split <;> rfl
theorem mst_db (t : ℕ) (σ : St F) : (mst I t σ).db = σ.db := by unfold mst; split <;> rfl
theorem mst_dx (t : ℕ) (σ : St F) : (mst I t σ).dx = σ.dx := by unfold mst; split <;> rfl
theorem mst_O (t : ℕ) (σ : St F) : (mst I t σ).O = σ.O := by unfold mst; split <;> rfl
theorem mst_s1 (t : ℕ) (σ : St F) : (mst I t σ).s1 = σ.s1 := by unfold mst; split <;> rfl
theorem mst_s2 (t : ℕ) (σ : St F) : (mst I t σ).s2 = σ.s2 := by unfold mst; split <;> rfl

/-- The result of step `t` in the buffer, and the sums of step `t + 28`. -/
def mid3 (v2 v4 : IVec S8x128 32) (t : ℕ) (σ : St F) : St F :=
  outRedN (co3 σ.cf) v2 (k0_pay274 v4 (cnOf t)) (k0_pay275 v4 (cnOf t)) t (mst I t (waitSt I (t + 28) σ)) 7
/-- The result of step `t` written. -/
def wr3 (v2 v4 : IVec S8x128 32) (t : ℕ) (σ : St F) : St F :=
  { mid3 I v2 v4 t σ with dx := dxW t (mid3 I v2 v4 t σ).O σ.dx }
/-- One step of the middle loop. -/
def step3 (v2 v4 : IVec S8x128 32) (t : ℕ) (σ : St F) : St F :=
  if t % 28 = 27 then fin I (t / 28 + 1) (wr3 I v2 v4 t σ) else wr3 I v2 v4 t σ

/-- The state before step `t` of the middle loop. -/
def J3 (t : ℕ) (σ : St F) : sProp 𝕄 :=
  iprop(J A I c (t + 28) 28 (28 + min (t - 84) 28) (28 + min (t - 56) 28) σ ∗ Wr A c (t - 2) t σ.dx σ.O ∗ WC A c t σ.dx σ.O ∗ WC A c (t + 1) σ.dx σ.O
    ∗ own c A.a17 Finset.univ σ.cf ∗ own c A.a9 Finset.univ σ.dg ∗ own c A.a10 Finset.univ σ.db ∗ Inp A I c)

set_option maxHeartbeats 1000000 in
theorem wp_t3body (v2 v4 : IVec S8x128 32) (z0 : Elt F .f32) (z1 z2 z3 z4 : FVec F S1x128 .f32) (t : Fin k0_t3_loop.trips) (σ : St F) :
    J3 A I c t.val σ
      ⊢ WP c (k0_t3_body (F := F) A.a0 A.h0 A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.a19 A.a20 v2 v4 z0 z1 z2 z3 z4 t ()) (fun _ => J3 A I c (t.val + 1) (step3 I v2 v4 t.val σ)) := by
  have ht : t.val < 196 := lt_of_lt_of_eq t.isLt trips3
  unfold k0_t3_body J3 J
  dsimp only
  rw [show t.val + 1 + 28 = t.val + 28 + 1 by omega, show t.val + 1 - 2 = t.val - 1 by omega]
  iintro ⟨⟨HO, HR, HC0, HC1, HC2, HM, HMC, HA, HB⟩, HW, HWC, HWD, HK, HG, HE, HI⟩
  ihave HF := (show rcell A I c (t.val + 28) ⊢ FlyR A I c (t.val + 28) 2 0 from by rw [rcell, if_pos (by omega)]) $$ HC0
  iapply (WP_seq c)
  iapply (wp_part53 A c t)
  iintro %x0 %x1 %x2 %x3 %x4 %x5 %x6 %x7 %x8
  dsimp only
  iapply (WP_seq c)
  iapply (wp_part54 A I c t _ _ _ _ _ (b := min (t.val + 28 + 3) 224) (by omega) (by omega) σ.X σ.D) $$ [HO HR HF]
  · isplitl [HO]; · iexact HO
    isplitl [HR]; · iexact HR
    iexact HF
  iintro %y0 %y1 ⟨HR, HS, HO⟩
  dsimp only
  iapply (WP_seq c)
  iapply (wp_part55 A I c v4 t _ _ _ _ _ (waitSt I (t.val + 28) σ)) $$ [HO HM HMC HW HWC HK]
  · isplitl [HO]; · iexact HO
    isplitl [HM]; · iexact HM
    isplitl [HMC]; · iexact HMC
    isplitl [HW]; · iexact HW
    isplitl [HWC]; · iexact HWC
    iexact HK
  iintro ⟨HO, HM, HMC, HW, HWS, HK⟩
  dsimp only
  iapply (WP_seq c)
  iapply (wp_part56 A I c v2 _ _ t _ _ _ _ _ _ _ _ _ _ _ _ _ _ (mst I t.val (waitSt I (t.val + 28) σ))) $$ [HR HS HM HMC HA HB HW HWS]
  · isplitl [HR]
    · rw [mst_X, mst_D]; iexact HR
    isplitl [HS]; · iexact HS
    isplitl [HM]; · iexact HM
    isplitl [HMC]; · iexact HMC
    isplitl [HA]
    · rw [mst_s1]; iexact HA
    isplitl [HB]
    · rw [mst_s2]; iexact HB
    isplitl [HW]
    · rw [mst_dx, mst_O]; iexact HW
    iexact HWS
  iintro %ρ %hρ ⟨HR, HRC, HM, HMC, HA, HB, HW, H8, H14, HWF⟩
  have hm : ρ = mid3 I v2 v4 t.val σ := hρ
  have hcf : ρ.cf = σ.cf := by rw [hm, mid3, outRedN_cf, mst_cf]; rfl
  have hdg : ρ.dg = σ.dg := by rw [hm, mid3, outRedN_dg, mst_dg]; rfl
  have hdb : ρ.db = σ.db := by rw [hm, mid3, outRedN_db, mst_db]; rfl
  have hdx : (mst I t.val (waitSt I (t.val + 28) σ)).dx = σ.dx := by rw [mst_dx]; rfl
  have hO : ∀ i ∉ RY t.val, ρ.O i = σ.O i := fun i hi => by rw [hm, mid3, outRedN_O _ _ _ _ _ _ _ hi, mst_O]; rfl
  rw [hdx]
  have hs : step3 I v2 v4 t.val σ = if t.val % 28 = 27 then fin I (t.val / 28 + 1) { ρ with dx := dxW t.val ρ.O σ.dx } else { ρ with dx := dxW t.val ρ.O σ.dx } := by
    rw [hm]; rfl
  rw [hs]
  clear hs hm
  clear hρ
  iapply (WP_seq c)
  iapply (wp_write A c t.val 1 σ.dx ρ.O _ _ _ _ _ _ (off44_eq t) (off47_eq t) (off45_eq t 1)) $$ [H8 H14 HWF]
  · isplitl [H8]; · iexact H8
    isplitl [H14]; · iexact H14
    iexact HWF
  iintro HWF
  ihave HWD' := (show WC A c (t.val + 1) σ.dx σ.O ⊢ WC A c (t.val + 1) (dxW t.val ρ.O σ.dx) ρ.O from by
    rw [WC_step A c σ.dx (dxW t.val ρ.O σ.dx) σ.O ρ.O (fun i hi => dxW_out _ _ hi) hO]) $$ HWD
  ihave HWF' := (show FlyW A c t.val (dxW t.val ρ.O σ.dx) ρ.O ((1 : Fin 2).val + 1) 0 ⊢ WC A c (t.val + 1 + 1) (dxW t.val ρ.O σ.dx) ρ.O from by
    rw [WC, if_pos (by omega)]; rfl) $$ HWF
  by_cases h6 : k0_cond6 t = 1#1
  · have h := (cond6_eq t).mp h6
    rw [dif_pos h6, if_pos h]
    iapply (WP_seq c)
    iapply (wp_part50 A I c t _ h6 ρ.s1 ρ.s2 σ.cf σ.dg σ.db) $$ [HI HA HB HK HG HE]
    · isplitl [HI]; · iexact HI
      unfold Fs
      isplitl [HA]; · iexact HA
      isplitl [HB]; · iexact HB
      isplitl [HK]; · iexact HK
      isplitl [HG]; · iexact HG
      iexact HE
    iintro ⟨HI, HF⟩
    dsimp only
    iapply (WP_seq c)
    iapply (wp_part51 A I c t _ h6 _ _ _ _ _ _ _ _ ρ.s1 ρ.s2 σ.cf _ _) $$ [HI HF]
    · isplitl [HI]; · iexact HI
      iexact HF
    iintro %y2 ⟨HI, HF⟩
    dsimp only
    iapply (WP_seq c)
    iapply (wp_part52 A I c t h6 _ _ _ _ _ _ ρ.s1 ρ.s2 _ _ _) $$ [HI HF]
    · isplitl [HI]; · iexact HI
      iexact HF
    iintro ⟨HI, HF⟩
    dsimp only
    unfold Fs
    icases HF with ⟨HA, HB, HK, HG, HE⟩
    iapply (WP_seq c)
    iapply (wp_stu c A.a17 _ ![4 % 6, 0, 0] _ _ (rC_inb 4) rfl _ _ _ _) $$ HK
    iintro HK
    iapply (WP_seq c)
    iapply (wp_ldu c A.a17 _ ![5 % 6, 0, 0] _ _ (rC_inb 5) rfl _ _) $$ HK
    iintro HK
    iapply (WP_seq c)
    iapply (wp_stu c A.a17 _ ![5 % 6, 0, 0] _ _ (rC_inb 5) rfl _ _ _ _) $$ HK
    iintro HK
    iapply (WP_seq c)
    iapply (wp_ldu c A.a15 _ ![0, 0, 0] _ _ inb_S2x8x128_S2x8x128_0_0_0 rfl _ _) $$ HA
    iintro HA
    iapply (WP_seq c)
    iapply (wp_stu c A.a15 _ ![0, 0, 0] _ _ inb_S2x8x128_S2x8x128_0_0_0 rfl _ _ _ _) $$ HA
    iintro HA
    iapply (WP_seq c)
    iapply (wp_ldu c A.a16 _ ![0, 0, 0] _ _ inb_S2x8x128_S2x8x128_0_0_0 rfl _ _) $$ HB
    iintro HB
    iapply (WP_seq c)
    iapply (wp_stu c A.a16 _ ![0, 0, 0] _ _ inb_S2x8x128_S2x8x128_0_0_0 rfl _ _ _ _) $$ HB
    iintro HB
    dsimp only [fin]
    iapply (WP_pure c)
    isplitl [HO HR HC1 HC2 HRC HM HMC HA HB]
    · isplitl [HO]; · iexact HO
      isplitl [HR]; · iexact HR
      isplitl [HC1]; · iexact HC1
      isplitl [HC2]; · iexact HC2
      isplitl [HRC]; · iexact HRC
      isplitl [HM]; · iexact HM
      isplitl [HMC]; · iexact HMC
      isplitl [HA]; · iexact HA
      iexact HB
    isplitl [HW]; · iexact HW
    isplitl [HWD']; · iexact HWD'
    isplitl [HWF']; · iexact HWF'
    isplitl [HK]
    · dsimp only [finCf]; rw [hcf]; iexact HK
    isplitl [HG]
    · dsimp only [finDg]; rw [hdg]; iexact HG
    isplitl [HE]
    · dsimp only [finDb]; rw [hdb]; iexact HE
    iexact HI
  · have h := mt (cond6_eq t).mpr h6
    rw [dif_neg h6, if_neg h]
    iapply (WP_pure c)
    isplitl [HO HR HC1 HC2 HRC HM HMC HA HB]
    · isplitl [HO]; · iexact HO
      isplitl [HR]; · iexact HR
      isplitl [HC1]; · iexact HC1
      isplitl [HC2]; · iexact HC2
      isplitl [HRC]; · iexact HRC
      isplitl [HM]; · iexact HM
      isplitl [HMC]; · iexact HMC
      isplitl [HA]; · iexact HA
      iexact HB
    isplitl [HW]; · iexact HW
    isplitl [HWD']; · iexact HWD'
    isplitl [HWF']; · iexact HWF'
    isplitl [HK]
    · dsimp only; rw [hcf]; iexact HK
    isplitl [HG]
    · dsimp only; rw [hdg]; iexact HG
    isplitl [HE]
    · dsimp only; rw [hdb]; iexact HE
    iexact HI

end Cert.Kernel.Hand

end
-- ==== Proof.Loop5.lean ====
/-
  One step of the kernel's last loop.
-/
module

public import proofs.«01_k».proof.Proof.Loop3

@[expose] public section

noncomputable section

namespace Cert.Kernel.Hand

open Cert.Kernel Cert.Kernel.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

variable (A : Args) (I : Ins F) (c : Dev nD)

attribute [local irreducible] grpD grpO grpS1 grpS2

theorem outN_cf (k : Co F) (t : ℕ) (σ : St F) (n : ℕ) : (outN k t σ n).cf = σ.cf := by
  induction n with
  | zero => rfl
  | succ n ih => exact ih
theorem outN_dg (k : Co F) (t : ℕ) (σ : St F) (n : ℕ) : (outN k t σ n).dg = σ.dg := by
  induction n with
  | zero => rfl
  | succ n ih => exact ih
theorem outN_db (k : Co F) (t : ℕ) (σ : St F) (n : ℕ) : (outN k t σ n).db = σ.db := by
  induction n with
  | zero => rfl
  | succ n ih => exact ih
theorem outN_dx (k : Co F) (t : ℕ) (σ : St F) (n : ℕ) : (outN k t σ n).dx = σ.dx := by
  induction n with
  | zero => rfl
  | succ n ih => exact ih
theorem outN_D (k : Co F) (t : ℕ) (σ : St F) (n : ℕ) : (outN k t σ n).D = σ.D := by
  induction n with
  | zero => rfl
  | succ n ih => exact ih
theorem outN_X (k : Co F) (t : ℕ) (σ : St F) (n : ℕ) : (outN k t σ n).X = σ.X := by
  induction n with
  | zero => rfl
  | succ n ih => exact ih

/-- The coefficients a step of the last loop reads. -/
def co5 (cf : S6x8x128.Idx → Elt F .f32) : Co F :=
  ⟨k0_pay305 (at' (rC1 0) cf), k0_pay306 (at' (rC1 1) cf), k0_pay307 (at' (rC1 2) cf), k0_pay308 (at' (rC1 3) cf), k0_pay309 (at' (rC1 4) cf), k0_pay310 (at' (rC1 5) cf)⟩

/-- One step of the last loop; `t` counts from the first result step of the kernel. -/
def step5 (t : ℕ) (σ : St F) : St F :=
  { outN (co5 σ.cf) t σ 7 with dx := dxW t (outN (co5 σ.cf) t σ 7).O σ.dx }

/-- The state before step `t` of the last loop; `t` counts from the first result step of the kernel. -/
def J5 (t : ℕ) (σ : St F) : sProp 𝕄 :=
  iprop(owing (F := F) c ∗ own c A.a12 Finset.univ σ.D ∗ own c A.a11 Finset.univ σ.X ∗ Wr A c (t - 2) t σ.dx σ.O ∗ FlyW A c (t - 2) σ.dx σ.O 2 0
    ∗ FlyW A c (t - 1) σ.dx σ.O 2 0 ∗ own c A.a17 Finset.univ σ.cf)

set_option maxHeartbeats 1000000 in
theorem wp_part64 (z o : BitVec 32) (t : Fin k0_t5_loop.trips) (σ : St F) {Q} :
    iprop(owing (F := F) c ∗ Wr A c (t.val + 196 - 2) (t.val + 196) σ.dx σ.O ∗ FlyW A c (t.val + 196 - 2) σ.dx σ.O 2 0 ∗ own c A.a17 Finset.univ σ.cf)
      ⊢ iprop((∀ x0 x1 x2, iprop(owing (F := F) c ∗ Wr A c (t.val + 196 - 1) (t.val + 196) σ.dx σ.O ∗ semVal ((c : Thread nD τ), .dma (wsem A (t.val + 196))) 0 ∗ own c A.a17 Finset.univ σ.cf) -∗
          Q ⟨x0, x1, x2, (co5 σ.cf).a, (co5 σ.cf).b, (co5 σ.cf).e⟩)
        -∗ WP c (k0_part64 (F := F) A.a0 A.h0 A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.a19 A.a20 z o t) Q) := by
  rw [k0_part64_eq_skeleton]
  unfold k0_part64_skel
  dsimp only [co5]
  have hs : k0_off49 t = ![(t.val + 196 - 2) % 2] := (off49_eq t).trans (by rw [show (t.val + 196) % 2 = (t.val + 196 - 2) % 2 by omega])
  rw [show t.val + 196 - 1 = t.val + 196 - 2 + 1 by omega, wsem_congr A (show (t.val + 196) % 2 = (t.val + 196 - 2) % 2 by omega)]
  iintro ⟨HO, HW, HC, HK⟩ Hk
  iapply (WP_seq c)
  iapply (wp_waitW0 A c (t.val + 196 - 2) σ.dx σ.O _ _ _ _ _ _ hs) $$ [HC HO]
  · isplitl [HC]; · iexact HC
    iexact HO
  iintro ⟨HC, HO⟩
  iapply (WP_seq c)
  iapply (wp_waitW1 A c (a := t.val + 196 - 2) (b := t.val + 196) (by omega) (by omega) σ.dx σ.O _ _ _ _ _ _ hs) $$ [HC HO HW]
  · isplitl [HC]; · iexact HC
    isplitl [HO]; · iexact HO
    iexact HW
  iintro ⟨HW, HC, HO⟩
  iapply (WP_seq c)
  iapply (wp_ldu c A.a17 _ ![0 % 6, 0, 0] _ _ (rC1_inb 0) rfl _ σ.cf) $$ HK
  iintro HK
  iapply (WP_seq c)
  iapply (wp_ldu c A.a17 _ ![1 % 6, 0, 0] _ _ (rC1_inb 1) rfl _ σ.cf) $$ HK
  iintro HK
  iapply (WP_seq c)
  iapply (wp_ldu c A.a17 _ ![2 % 6, 0, 0] _ _ (rC1_inb 2) rfl _ σ.cf) $$ HK
  iintro HK
  iapply (WP_pure c)
  iapply Hk
  isplitl [HO]; · iexact HO
  isplitl [HW]; · iexact HW
  isplitl [HC]; · iexact HC
  iexact HK

set_option maxHeartbeats 1000000 in
theorem wp_t5body (v2 v4 : IVec S8x128 32) (z0 : Elt F .f32) (z1 z2 z3 z4 : FVec F S1x128 .f32) (t : Fin k0_t5_loop.trips) (σ : St F) :
    J5 A c (t.val + 196) σ
      ⊢ WP c (k0_t5_body (F := F) A.a0 A.h0 A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.a19 A.a20 v2 v4 z0 z1 z2 z3 z4 t ()) (fun _ => J5 A c (t.val + 1 + 196) (step5 (t.val + 196) σ)) := by
  have ht : t.val < 28 := lt_of_lt_of_eq t.isLt trips5
  unfold k0_t5_body
  rw [k0_part65_eq_skeleton]
  unfold k0_part65_skel J5
  dsimp only
  rw [show t.val + 1 + 196 - 2 = t.val + 196 - 1 by omega, show t.val + 1 + 196 - 1 = t.val + 196 by omega, show t.val + 1 + 196 = t.val + 196 + 1 by omega]
  iintro ⟨HO, HD, HX, HW, HC, HC1, HK⟩
  iapply (WP_seq c)
  iapply (WP_seq c)
  iapply (wp_part64 A c _ _ t σ) $$ [HO HW HC HK]
  · isplitl [HO]; · iexact HO
    isplitl [HW]; · iexact HW
    isplitl [HC]; · iexact HC
    iexact HK
  iintro %x0 %x1 %x2 ⟨HO, HW, HS, HK⟩
  dsimp only
  iapply (WP_seq c)
  iapply (wp_ldu c A.a17 _ ![3 % 6, 0, 0] _ _ (rC1_inb 3) rfl _ σ.cf) $$ HK
  iintro HK
  iapply (WP_seq c)
  iapply (wp_ldu c A.a17 _ ![4 % 6, 0, 0] _ _ (rC1_inb 4) rfl _ σ.cf) $$ HK
  iintro HK
  iapply (WP_seq c)
  iapply (wp_ldu c A.a17 _ ![5 % 6, 0, 0] _ _ (rC1_inb 5) rfl _ σ.cf) $$ HK
  iintro HK
  unfold Wr
  icases HW with ⟨H8, H14⟩
  iapply (WP_seq c)
  iapply (wp_t6 A c _ _ t _ _ (co5 σ.cf).a (co5 σ.cf).b (co5 σ.cf).e _ _ _ (TD := Finset.univ) (TX := Finset.univ) (TO := out RY (t.val + 196 - 1) (t.val + 196)) σ
    (fun q j => Finset.subset_univ _) (fun q j => Finset.subset_univ _) (fun q j => rO_sub fun t' h1 h2 => by omega)) $$ [HD HX H14]
  · isplitl [HD]; · iexact HD
    isplitl [HX]; · iexact HX
    iexact H14
  iintro ⟨HD, HX, H14⟩
  have hO : ∀ i ∉ RY (t.val + 196), (outN (co5 σ.cf) (t.val + 196) σ 7).O i = σ.O i := fun i hi => outN_O _ _ _ _ hi
  have hcf : (outN (co5 σ.cf) (t.val + 196) σ 7).cf = σ.cf := outN_cf _ _ _ _
  have hs : step5 (t.val + 196) σ = { outN (co5 σ.cf) (t.val + 196) σ 7 with dx := dxW (t.val + 196) (outN (co5 σ.cf) (t.val + 196) σ 7).O σ.dx } := rfl
  rw [hs]
  clear hs
  have hρ : outN ⟨(co5 σ.cf).a, (co5 σ.cf).b, (co5 σ.cf).e, k0_pay308 (at' (rC1 3) σ.cf), k0_pay309 (at' (rC1 4) σ.cf), k0_pay310 (at' (rC1 5) σ.cf)⟩ (t.val + 196) σ 7 = outN (co5 σ.cf) (t.val + 196) σ 7 := rfl
  rw [hρ]
  clear hρ
  generalize outN (co5 σ.cf) (t.val + 196) σ 7 = ρ at hO hcf ⊢
  ihave HW := (wr_split A c (a := t.val + 196 - 1) (t := t.val + 196) (by omega) (by omega) σ.dx ρ.O) $$ [H8 H14]
  · unfold Wr
    isplitl [H8]; · iexact H8
    iexact H14
  unfold Wr
  icases HW with ⟨⟨H80, H140⟩, ⟨H81, H141⟩, HW⟩
  imod (fly_start c (wsem A (t.val + 196)) (NW A) (DW A c (t.val + 196) (dxW (t.val + 196) ρ.O σ.dx) ρ.O)) $$ HS with HWF
  iapply (WP_seq c)
  iapply (wp_write A c (t.val + 196) 0 σ.dx ρ.O _ _ _ _ _ _ (off49_eq t) (off51_eq t) (off50_eq t 0)) $$ [H80 H140 HWF]
  · isplitl [H80]; · iexact H80
    isplitl [H140]; · iexact H140
    iexact HWF
  iintro HWF
  iapply (WP_seq c)
  iapply (wp_write A c (t.val + 196) 1 σ.dx ρ.O _ _ _ _ _ _ (off49_eq t) (off52_eq t) (off50_eq t 1)) $$ [H81 H141 HWF]
  · isplitl [H81]; · iexact H81
    isplitl [H141]; · iexact H141
    iexact HWF
  iintro HWF
  ihave HC1' := (show FlyW A c (t.val + 196 - 1) σ.dx σ.O 2 0 ⊢ FlyW A c (t.val + 196 - 1) (dxW (t.val + 196) ρ.O σ.dx) ρ.O 2 0 from by
    unfold FlyW
    rw [DW_congr A c (fun i hi => (dxW_out (t := t.val + 196) ρ.O σ.dx ?_).symm) (fun i hi => (hO i ?_).symm)]
    · exact fun h => Finset.disjoint_left.mp (disj_RW (t := t.val + 196 - 1) (t' := t.val + 196) (by omega)) hi h
    · exact fun h => Finset.disjoint_left.mp (disj_RY (t := t.val + 196 - 1) (t' := t.val + 196) (by omega)) hi h) $$ HC1
  iapply (WP_pure c)
  iapply (WP_pure c)
  dsimp only
  isplitl [HO]; · iexact HO
  isplitl [HD]; · iexact HD
  isplitl [HX]; · iexact HX
  isplitl [HW]; · iexact HW
  isplitl [HC1']; · iexact HC1'
  isplitl [HWF]; · iexact HWF
  rw [hcf]
  iexact HK

end Cert.Kernel.Hand

end
-- ==== Proof.Pays.lean ====
/-
  The two spellings of the kernel's block end are the same arithmetic.
-/
module

public import proofs.«01_k».proof.Proof.Final

@[expose] public section

noncomputable section

namespace Cert.Kernel.Hand

open Cert.Kernel Cert.Kernel.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

variable (A : Args) (I : Ins F) (c : Dev nD)

theorem pz1 : (k0_pay314 : FVec F S2x8x128 .f32) = k0_pay339 := rfl
theorem pz2 : (k0_pay315 : FVec F S2x8x128 .f32) = k0_pay340 := rfl
theorem pz3 : (k0_pay335 : FVec F S2x8x128 .f32) = k0_pay339 := rfl
theorem pz4 : (k0_pay336 : FVec F S2x8x128 .f32) = k0_pay340 := rfl
theorem pf1 : @k0_pay319 F _ = k0_pay256 := rfl
theorem pf2 : @k0_pay320 F _ = k0_pay257 := rfl
theorem pf3 (ys : Elt F .f32) (r g : FVec F S1x128 .f32) : k0_pay323 ys (k0_pay317 r) (k0_pay318 g) = k0_pay262 ys (k0_pay258 r g) := rfl
theorem pf4 (xs : Elt F .f32) (r g d : FVec F S1x128 .f32) : k0_pay324 xs (k0_pay317 r) (k0_pay318 g) d = k0_pay263 xs d (k0_pay259 r g) k0_pay260 := rfl
theorem pf5 (m b r g d : FVec F S1x128 .f32) : k0_pay325 (k0_pay316 m) (k0_pay317 r) (k0_pay318 g) b d = k0_pay264 (k0_pay254 m) b d (k0_pay258 r g) (k0_pay259 r g) k0_pay260 := rfl
theorem pf6 : @k0_pay328 F _ = k0_pay268 := rfl
theorem pf7 (xs ys : Elt F .f32) (m r : FVec F S1x128 .f32) (a b : FVec F S1x8x128 .f32) : k0_pay329 xs ys (k0_pay326 m) r a b = k0_pay269 xs ys (k0_pay265 m) (k0_pay266 r) a b := rfl
theorem pf8 (ys : Elt F .f32) (r g : FVec F S1x128 .f32) : k0_pay332 ys r g = k0_pay272 ys (k0_pay266 r) (k0_pay267 g) := rfl
theorem pf9 (xs ys : Elt F .f32) (m r g : FVec F S1x128 .f32) (a b : FVec F S1x8x128 .f32) :
    k0_pay333 xs (k0_pay331 xs ys (k0_pay326 m) r g a b) = k0_pay337 (k0_pay273 xs ys (k0_pay265 m) (k0_pay266 r) (k0_pay267 g) a b) := rfl
theorem pf10 (xs ys : Elt F .f32) (m r g : FVec F S1x128 .f32) (a b : FVec F S1x8x128 .f32) :
    k0_pay334 (k0_pay326 m) (k0_pay328 ys a) (k0_pay330 r g) (k0_pay331 xs ys (k0_pay326 m) r g a b)
      = k0_pay338 (k0_pay265 m) (k0_pay268 ys a) (k0_pay270 (k0_pay266 r) (k0_pay267 g)) (k0_pay271 xs ys (k0_pay265 m) (k0_pay266 r) (k0_pay267 g) a b) := rfl

end Cert.Kernel.Hand

end
-- ==== Proof.Prologue.lean ====
/-
  The kernel's start, and its three outer loops.
-/
module

public import proofs.«01_k».proof.Proof.Loop5
public import proofs.«01_k».proof.Proof.Pays

@[expose] public section

noncomputable section

namespace Cert.Kernel.Hand

open Cert.Kernel Cert.Kernel.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

variable (A : Args) (I : Ins F) (c : Dev nD)

attribute [local irreducible] grpD grpO grpS1 grpS2

theorem wp_part66 (s1 s2 : BufS F) {Q} :
    iprop(own c A.a15 Finset.univ s1 ∗ own c A.a16 Finset.univ s2)
      ⊢ iprop((∀ x0 x1 x2, iprop(own c A.a15 Finset.univ (upd rSA k0_pay339 s1) ∗ own c A.a16 Finset.univ (upd rSA k0_pay340 s2)) -∗ Q ⟨k0_pay312, k0_pay313, x0, x1, x2⟩)
        -∗ WP c (k0_part66 (F := F) A.a0 A.h0 A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.a19 A.a20) Q) := by
  rw [k0_part66_eq_skeleton]
  unfold k0_part66_skel
  dsimp only
  rw [← pz1, ← pz2]
  iintro ⟨HA, HB⟩ Hk
  iapply (WP_seq c)
  iapply (wp_ldu c A.a15 _ ![0, 0, 0] _ _ inb_S2x8x128_S2x8x128_0_0_0 rfl _ _) $$ HA
  iintro HA
  iapply (WP_seq c)
  iapply (wp_stu c A.a15 _ ![0, 0, 0] _ _ inb_S2x8x128_S2x8x128_0_0_0 rfl _ _ _ _) $$ HA
  iintro HA
  iapply (WP_seq c)
  iapply (wp_ldu c A.a16 _ ![0, 0, 0] _ _ inb_S2x8x128_S2x8x128_0_0_0 rfl _ _) $$ HB
  iintro HB
  iapply (WP_seq c)
  iapply (wp_stu c A.a16 _ ![0, 0, 0] _ _ inb_S2x8x128_S2x8x128_0_0_0 rfl _ _ _ _) $$ HB
  iintro HB
  iapply (WP_pure c)
  iapply Hk
  isplitl [HA]; · iexact HA
  iexact HB

theorem wp_part67 (x0 x1 x2 : BitVec 32) (X : BufX F) (D : BufD F) (M : BufM F) {Q} :
    iprop(Rd A I c 0 0 X D ∗ semVal ((c : Thread nD τ), .dma (rsem A 0)) 0 ∗ Mk A I c 0 0 M ∗ semVal ((c : Thread nD τ), .dma (msem A 0)) 0)
      ⊢ iprop((∀ y0 y1 y2, iprop(Rd A I c 0 (0 + 1) X D ∗ FlyR A I c 0 2 0 ∗ Mk A I c 0 (0 + 1) M ∗ FlyM A I c 0 1 0) -∗ Q ⟨y0, y1, y2⟩)
        -∗ WP c (k0_part67 (F := F) A.a0 A.h0 A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.a19 A.a20 x0 x1 x2) Q) := by
  rw [k0_part67_eq_skeleton]
  unfold k0_part67_skel Rd
  dsimp only
  iintro ⟨⟨H2, H11, H3, H12⟩, HS, HM, HMS⟩ Hk
  iapply (WP_seq c)
  iapply (wp_readX A I c (a := 0) (t := 0) (by omega) (by omega) X D _ _ _ _ _ _ (off1_eq 0) (off2_eq 0) (off3_eq 0)) $$ [H2 H11 HS]
  · isplitl [H2]; · iexact H2
    isplitl [H11]; · iexact H11
    iexact HS
  iintro ⟨H2, H11, HF⟩
  iapply (WP_seq c)
  iapply (wp_readD A I c (a := 0) (t := 0) (by omega) (by omega) X D _ _ _ _ _ _ (off1_eq 0) (off2_eq 0) (off3_eq 0)) $$ [H3 H12 HF]
  · isplitl [H3]; · iexact H3
    isplitl [H12]; · iexact H12
    iexact HF
  iintro ⟨H3, H12, HF⟩
  iapply (WP_seq c)
  iapply (wp_readM A I c (a := 0) (m := 0) (by omega) (by omega) M _ _ _ _ _ _ rfl rfl (off4_eq 0)) $$ [HM HMS]
  · isplitl [HM]; · iexact HM
    iexact HMS
  iintro ⟨HM, HG⟩
  iapply (WP_pure c)
  iapply Hk
  isplitl [H2 H11 H3 H12]
  · isplitl [H2]; · iexact H2
    isplitl [H11]; · iexact H11
    isplitl [H3]; · iexact H3
    iexact H12
  isplitl [HF]; · iexact HF
  isplitl [HM]; · iexact HM
  iexact HG

theorem wp_part68 (x0 : BitVec 32) (x1 : BitVec 1) (x2 : BitVec 32) (X : BufX F) (D : BufD F) (M : BufM F) {Q} :
    iprop(Rd A I c 0 1 X D ∗ semVal ((c : Thread nD τ), .dma (rsem A 1)) 0 ∗ Mk A I c 0 1 M ∗ semVal ((c : Thread nD τ), .dma (msem A 1)) 0)
      ⊢ iprop((∀ y0 y1 y2 y3 y4, iprop(Rd A I c 0 (1 + 1) X D ∗ FlyR A I c 1 2 0 ∗ Mk A I c 0 (1 + 1) M ∗ FlyM A I c 1 1 0) -∗ Q ⟨y0, y1, y2, y3, y4⟩)
        -∗ WP c (k0_part68 (F := F) A.a0 A.h0 A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.a19 A.a20 x0 x1 x2) Q) := by
  rw [k0_part68_eq_skeleton]
  unfold k0_part68_skel Rd
  dsimp only
  iintro ⟨⟨H2, H11, H3, H12⟩, HS, HM, HMS⟩ Hk
  iapply (WP_seq c)
  iapply (wp_readX A I c (a := 0) (t := 1) (by omega) (by omega) X D _ _ _ _ _ _ (off1_eq 1) (off2_eq 1) (off3_eq 1)) $$ [H2 H11 HS]
  · isplitl [H2]; · iexact H2
    isplitl [H11]; · iexact H11
    iexact HS
  iintro ⟨H2, H11, HF⟩
  iapply (WP_seq c)
  iapply (wp_readD A I c (a := 0) (t := 1) (by omega) (by omega) X D _ _ _ _ _ _ (off1_eq 1) (off2_eq 1) (off3_eq 1)) $$ [H3 H12 HF]
  · isplitl [H3]; · iexact H3
    isplitl [H12]; · iexact H12
    iexact HF
  iintro ⟨H3, H12, HF⟩
  iapply (WP_seq c)
  iapply (wp_readM A I c (a := 0) (m := 1) (by omega) (by omega) M _ _ _ _ _ _ rfl rfl (off4_eq 1)) $$ [HM HMS]
  · isplitl [HM]; · iexact HM
    iexact HMS
  iintro ⟨HM, HG⟩
  iapply (WP_pure c)
  iapply Hk
  isplitl [H2 H11 H3 H12]
  · isplitl [H2]; · iexact H2
    isplitl [H11]; · iexact H11
    isplitl [H3]; · iexact H3
    iexact H12
  isplitl [HF]; · iexact HF
  isplitl [HM]; · iexact HM
  iexact HG

theorem wp_part69 (x0 x1 x2 x3 x4 : BitVec 32) (X : BufX F) (D : BufD F) {Q : PUnit → sProp 𝕄} :
    iprop(Rd A I c 0 2 X D ∗ semVal ((c : Thread nD τ), .dma (rsem A 2)) 0)
      ⊢ iprop((iprop(Rd A I c 0 (2 + 1) X D ∗ FlyR A I c 2 2 0) -∗ Q ⟨⟩) -∗ WP c (k0_part69 (F := F) A.a0 A.h0 A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.a19 A.a20 x0 x1 x2 x3 x4) Q) := by
  rw [k0_part69_eq_skeleton]
  unfold k0_part69_skel Rd
  dsimp only
  iintro ⟨⟨H2, H11, H3, H12⟩, HS⟩ Hk
  iapply (WP_seq c)
  iapply (wp_readX A I c (a := 0) (t := 2) (by omega) (by omega) X D _ _ _ _ _ _ (off1_eq 2) (off2_eq 2) (off3_eq 2)) $$ [H2 H11 HS]
  · isplitl [H2]; · iexact H2
    isplitl [H11]; · iexact H11
    iexact HS
  iintro ⟨H2, H11, HF⟩
  iapply (WP_seq c)
  iapply (wp_readD A I c (a := 0) (t := 2) (by omega) (by omega) X D _ _ _ _ _ _ (off1_eq 2) (off2_eq 2) (off3_eq 2)) $$ [H3 H12 HF]
  · isplitl [H3]; · iexact H3
    isplitl [H12]; · iexact H12
    iexact HF
  iintro ⟨H3, H12, HF⟩
  iapply (WP_pure c)
  iapply Hk
  isplitl [H2 H11 H3 H12]
  · isplitl [H2]; · iexact H2
    isplitl [H11]; · iexact H11
    isplitl [H3]; · iexact H3
    iexact H12
  iexact HF

/-- The states of the first loop. -/
def it1 (v2 v4 : IVec S8x128 32) (σ : St F) : ℕ → St F
  | 0 => σ
  | n + 1 => step1 I v2 v4 n (it1 v2 v4 σ n)
/-- The states of the middle loop. -/
def it3 (v2 v4 : IVec S8x128 32) (σ : St F) : ℕ → St F
  | 0 => σ
  | n + 1 => step3 I v2 v4 n (it3 v2 v4 σ n)
/-- The states of the last loop. -/
def it5 (σ : St F) : ℕ → St F
  | 0 => σ
  | n + 1 => step5 (n + 196) (it5 σ n)

theorem wp_loop1 (v2 v4 : IVec S8x128 32) (σ : St F) {Q : Unit → sProp 𝕄} :
    J A I c 0 0 0 3 σ
      ⊢ iprop((J A I c 28 0 28 28 (it1 I v2 v4 σ 28) -∗ Q ⟨⟩) -∗ WP c (Scf.Loop.for k0_t1_loop k0_t1_ok ⟨⟩ (k0_t1_body (F := F) A.a0 A.h0 A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.a19 A.a20 v2 v4)) Q) := by
  iintro H Hk
  iapply (Scf.wp_for frame (wpE (defs₀ (F := F)) Variants.none (c : Thread nD τ) none) Set.univ _ _ _ k0_t1_ok () _
    (fun k _ => J A I c k 0 k (min (k + 3) 28) (it1 I v2 v4 σ k)) ?_)
  · intro t _
    exact wp_t1body A I c v2 v4 t (it1 I v2 v4 σ t.val)
  isplitl [H]; · iexact H
  iintro %_ H
  iapply Hk
  ihave H' := (show (J A I c k0_t1_loop.trips 0 k0_t1_loop.trips (min (k0_t1_loop.trips + 3) 28) (it1 I v2 v4 σ k0_t1_loop.trips)) ⊢ J A I c 28 0 28 28 (it1 I v2 v4 σ 28) from by
    rw [trips1]; exact .rfl) $$ H
  iexact H'

theorem wp_loop3 (v2 v4 : IVec S8x128 32) (z0 : Elt F .f32) (z1 z2 z3 z4 : FVec F S1x128 .f32) (σ : St F) {Q : Unit → sProp 𝕄} :
    J3 A I c 0 σ
      ⊢ iprop((J3 A I c 196 (it3 I v2 v4 σ 196) -∗ Q ⟨⟩) -∗ WP c (Scf.Loop.for k0_t3_loop k0_t3_ok ⟨⟩ (k0_t3_body (F := F) A.a0 A.h0 A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.a19 A.a20 v2 v4 z0 z1 z2 z3 z4)) Q) := by
  iintro H Hk
  iapply (Scf.wp_for frame (wpE (defs₀ (F := F)) Variants.none (c : Thread nD τ) none) Set.univ _ _ _ k0_t3_ok () _
    (fun k _ => J3 A I c k (it3 I v2 v4 σ k)) ?_)
  · intro t _
    exact wp_t3body A I c v2 v4 z0 z1 z2 z3 z4 t (it3 I v2 v4 σ t.val)
  isplitl [H]; · iexact H
  iintro %_ H
  iapply Hk
  ihave H' := (show J3 A I c k0_t3_loop.trips (it3 I v2 v4 σ k0_t3_loop.trips) ⊢ J3 A I c 196 (it3 I v2 v4 σ 196) from by
    rw [trips3]) $$ H
  iexact H'

theorem wp_loop5 (v2 v4 : IVec S8x128 32) (z0 : Elt F .f32) (z1 z2 z3 z4 : FVec F S1x128 .f32) (σ : St F) {Q : Unit → sProp 𝕄} :
    J5 A c 196 σ
      ⊢ iprop((J5 A c 224 (it5 σ 28) -∗ Q ⟨⟩) -∗ WP c (Scf.Loop.for k0_t5_loop k0_t5_ok ⟨⟩ (k0_t5_body (F := F) A.a0 A.h0 A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.a19 A.a20 v2 v4 z0 z1 z2 z3 z4)) Q) := by
  iintro H Hk
  iapply (Scf.wp_for frame (wpE (defs₀ (F := F)) Variants.none (c : Thread nD τ) none) Set.univ _ _ _ k0_t5_ok () _
    (fun k _ => J5 A c (k + 196) (it5 σ k)) ?_)
  · intro t _
    exact wp_t5body A c v2 v4 z0 z1 z2 z3 z4 t (it5 σ t.val)
  isplitl [H]; · iexact H
  iintro %_ H
  iapply Hk
  ihave H' := (show J5 A c (k0_t5_loop.trips + 196) (it5 σ k0_t5_loop.trips) ⊢ J5 A c 224 (it5 σ 28) from by
    rw [trips5]) $$ H
  iexact H'

end Cert.Kernel.Hand

end
-- ==== Proof.Whole.lean ====
/-
  The kernel's body, whole.
-/
module

public import proofs.«01_k».proof.Proof.Prologue

@[expose] public section

noncomputable section

namespace Cert.Kernel.Hand

open Cert.Kernel Cert.Kernel.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

variable (A : Args) (I : Ins F) (c : Dev nD)

attribute [local irreducible] grpD grpO grpS1 grpS2

theorem outN_M (k : Co F) (t : ℕ) (σ : St F) (n : ℕ) : (outN k t σ n).M = σ.M := by
  induction n with
  | zero => rfl
  | succ n ih => exact ih
theorem outN_s1 (k : Co F) (t : ℕ) (σ : St F) (n : ℕ) : (outN k t σ n).s1 = σ.s1 := by
  induction n with
  | zero => rfl
  | succ n ih => exact ih
theorem outN_s2 (k : Co F) (t : ℕ) (σ : St F) (n : ℕ) : (outN k t σ n).s2 = σ.s2 := by
  induction n with
  | zero => rfl
  | succ n ih => exact ih
attribute [local irreducible] outN

theorem step5_M (t : ℕ) (σ : St F) : (step5 t σ).M = σ.M := by
  unfold step5
  dsimp only
  rw [outN_M]
theorem it5_M (σ : St F) (n : ℕ) : (it5 σ n).M = σ.M := by
  induction n with
  | zero => rfl
  | succ n ih => rw [it5, step5_M, ih]
theorem step5_s1 (t : ℕ) (σ : St F) : (step5 t σ).s1 = σ.s1 := by
  unfold step5
  dsimp only
  rw [outN_s1]
theorem it5_s1 (σ : St F) (n : ℕ) : (it5 σ n).s1 = σ.s1 := by
  induction n with
  | zero => rfl
  | succ n ih => rw [it5, step5_s1, ih]
theorem step5_s2 (t : ℕ) (σ : St F) : (step5 t σ).s2 = σ.s2 := by
  unfold step5
  dsimp only
  rw [outN_s2]
theorem it5_s2 (σ : St F) (n : ℕ) : (it5 σ n).s2 = σ.s2 := by
  induction n with
  | zero => rfl
  | succ n ih => rw [it5, step5_s2, ih]
theorem step5_cf (t : ℕ) (σ : St F) : (step5 t σ).cf = σ.cf := by
  unfold step5
  dsimp only
  rw [outN_cf]
theorem it5_cf (σ : St F) (n : ℕ) : (it5 σ n).cf = σ.cf := by
  induction n with
  | zero => rfl
  | succ n ih => rw [it5, step5_cf, ih]
theorem step5_dg (t : ℕ) (σ : St F) : (step5 t σ).dg = σ.dg := by
  unfold step5
  dsimp only
  rw [outN_dg]
theorem it5_dg (σ : St F) (n : ℕ) : (it5 σ n).dg = σ.dg := by
  induction n with
  | zero => rfl
  | succ n ih => rw [it5, step5_dg, ih]
theorem step5_db (t : ℕ) (σ : St F) : (step5 t σ).db = σ.db := by
  unfold step5
  dsimp only
  rw [outN_db]
theorem it5_db (σ : St F) (n : ℕ) : (it5 σ n).db = σ.db := by
  induction n with
  | zero => rfl
  | succ n ih => rw [it5, step5_db, ih]
theorem redN_O (v2 la lb : IVec S8x128 32) (i t : ℕ) (σ : St F) (n : ℕ) : (redN v2 la lb i t σ n).O = σ.O := by
  induction n with
  | zero => rfl
  | succ n ih => exact ih
theorem redN_cf (v2 la lb : IVec S8x128 32) (i t : ℕ) (σ : St F) (n : ℕ) : (redN v2 la lb i t σ n).cf = σ.cf := by
  induction n with
  | zero => rfl
  | succ n ih => exact ih
theorem redN_dg (v2 la lb : IVec S8x128 32) (i t : ℕ) (σ : St F) (n : ℕ) : (redN v2 la lb i t σ n).dg = σ.dg := by
  induction n with
  | zero => rfl
  | succ n ih => exact ih
theorem redN_db (v2 la lb : IVec S8x128 32) (i t : ℕ) (σ : St F) (n : ℕ) : (redN v2 la lb i t σ n).db = σ.db := by
  induction n with
  | zero => rfl
  | succ n ih => exact ih
theorem redN_dx (v2 la lb : IVec S8x128 32) (i t : ℕ) (σ : St F) (n : ℕ) : (redN v2 la lb i t σ n).dx = σ.dx := by
  induction n with
  | zero => rfl
  | succ n ih => exact ih
attribute [local irreducible] redN

theorem step1_O (v2 v4 : IVec S8x128 32) (t : ℕ) (σ : St F) : (step1 I v2 v4 t σ).O = σ.O := by
  unfold step1
  rw [redN_O]
  rfl
theorem it1_O (v2 v4 : IVec S8x128 32) (σ : St F) (n : ℕ) : (it1 I v2 v4 σ n).O = σ.O := by
  induction n with
  | zero => rfl
  | succ n ih => rw [it1, step1_O, ih]
theorem step1_cf (v2 v4 : IVec S8x128 32) (t : ℕ) (σ : St F) : (step1 I v2 v4 t σ).cf = σ.cf := by
  unfold step1
  rw [redN_cf]
  rfl
theorem it1_cf (v2 v4 : IVec S8x128 32) (σ : St F) (n : ℕ) : (it1 I v2 v4 σ n).cf = σ.cf := by
  induction n with
  | zero => rfl
  | succ n ih => rw [it1, step1_cf, ih]
theorem step1_dg (v2 v4 : IVec S8x128 32) (t : ℕ) (σ : St F) : (step1 I v2 v4 t σ).dg = σ.dg := by
  unfold step1
  rw [redN_dg]
  rfl
theorem it1_dg (v2 v4 : IVec S8x128 32) (σ : St F) (n : ℕ) : (it1 I v2 v4 σ n).dg = σ.dg := by
  induction n with
  | zero => rfl
  | succ n ih => rw [it1, step1_dg, ih]
theorem step1_db (v2 v4 : IVec S8x128 32) (t : ℕ) (σ : St F) : (step1 I v2 v4 t σ).db = σ.db := by
  unfold step1
  rw [redN_db]
  rfl
theorem it1_db (v2 v4 : IVec S8x128 32) (σ : St F) (n : ℕ) : (it1 I v2 v4 σ n).db = σ.db := by
  induction n with
  | zero => rfl
  | succ n ih => rw [it1, step1_db, ih]
theorem step1_dx (v2 v4 : IVec S8x128 32) (t : ℕ) (σ : St F) : (step1 I v2 v4 t σ).dx = σ.dx := by
  unfold step1
  rw [redN_dx]
  rfl
theorem it1_dx (v2 v4 : IVec S8x128 32) (σ : St F) (n : ℕ) : (it1 I v2 v4 σ n).dx = σ.dx := by
  induction n with
  | zero => rfl
  | succ n ih => rw [it1, step1_dx, ih]

attribute [local irreducible] it1 it3 it5 outRedN fin

theorem MC_idle {g a g' a' : ℕ} (h : g % 28 = g' % 28) : MC A I c g a a = MC A I c g' a' a' := by
  unfold MC
  congr 1
  funext j
  unfold mcell
  rw [if_neg (by omega), if_neg (by omega), msem_congr A (show (g + j.val) % 28 = (g' + j.val) % 28 by omega)]

/-- The gradients of block 0's first row, from the sums. -/
theorem wp_part70 (v2 v4 : IVec S8x128 32) (σ : St F) (dg db : S16x128.Idx → Elt F .f32) {Q} :
    iprop(owing (F := F) c ∗ Rd A I c 0 3 σ.X σ.D ∗ FlyR A I c 0 2 0 ∗ FlyR A I c 1 2 0 ∗ FlyR A I c 2 2 0 ∗ Mk A I c 0 2 σ.M ∗ MC A I c 0 0 2
        ∗ own c A.a15 Finset.univ σ.s1 ∗ own c A.a16 Finset.univ σ.s2 ∗ Inp A I c ∗ own c A.a9 Finset.univ dg ∗ own c A.a10 Finset.univ db)
      ⊢ iprop((∀ τ, ⌜τ = it1 I v2 v4 σ 28⌝ -∗ iprop(J A I c 28 0 28 28 τ ∗ Inp A I c ∗ own c A.a9 Finset.univ dg
            ∗ own c A.a10 Finset.univ (upd (rR (2 * 0 + 0)) (k0_pay319 (sc I.ys) (at' (rS' 0) τ.s1)) db)) -∗
          Q ⟨sc I.xs, sc I.ys, k0_pay316 (at' (rR (2 * 0 + 0)) I.mean), k0_pay317 (at' (rR (2 * 0 + 0)) I.rstd), k0_pay318 (at' (rR (2 * 0 + 0)) I.gam),
            k0_pay319 (sc I.ys) (at' (rS' 0) τ.s1), k0_pay320 (sc I.xs) (sc I.ys) (at' (rR (2 * 0 + 0)) I.mean) (at' (rR (2 * 0 + 0)) I.rstd) (at' (rS' 0) τ.s1) (at' (rS' 0) τ.s2)⟩)
        -∗ WP c (k0_part70 (F := F) A.a0 A.h0 A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.a19 A.a20 v2 v4) Q) := by
  rw [k0_part70_eq_skeleton]
  unfold k0_part70_skel
  dsimp only
  iintro ⟨HO, HR, HF0, HF1, HF2, HM, HMC, HA, HB, HI, HG, HE⟩ Hk
  ihave HMC' := (MC_issue A I c (g := 0) (a := 0) (b := 2) (by omega) (by omega) (by omega)) $$ HMC
  icases HMC' with ⟨HMS, HMC⟩
  iapply (WP_seq c)
  iapply (wp_readM A I c (a := 0) (m := 2) (by omega) (by omega) σ.M _ _ _ _ _ _ rfl rfl (off4_eq 2)) $$ [HM HMS]
  · isplitl [HM]; · iexact HM
    iexact HMS
  iintro ⟨HM, HMF⟩
  ihave HMC := HMC $$ HMF
  iapply (WP_seq c)
  iapply (wp_loop1 A I c v2 v4 σ) $$ [HO HR HF0 HF1 HF2 HM HMC HA HB]
  · unfold J
    isplitl [HO]; · iexact HO
    isplitl [HR]; · iexact HR
    isplitl [HF0]
    · rw [rcell, if_pos (by omega)]; iexact HF0
    isplitl [HF1]
    · rw [rcell, if_pos (by omega)]; iexact HF1
    isplitl [HF2]
    · rw [rcell, if_pos (by omega)]; iexact HF2
    isplitl [HM]; · iexact HM
    isplitl [HMC]; · iexact HMC
    isplitl [HA]; · iexact HA
    iexact HB
  iintro HJ
  generalize hτ : it1 I v2 v4 σ 28 = τ
  unfold J Inp
  icases HJ with ⟨HO, HR, HC0, HC1, HC2, HM, HMC, HA, HB⟩
  icases HI with ⟨H0, H1, H5, H6, H7⟩
  iapply (WP_seq c)
  iapply (wp_smem c A.a0 _ _ _ I.xs (Finset.subset_univ _)) $$ H0
  iintro H0
  iapply (WP_seq c)
  iapply (wp_smem c A.a1 _ _ _ I.ys (Finset.subset_univ _)) $$ H1
  iintro H1
  iapply (WP_seq c)
  iapply (wp_ldu c A.a5 _ ![(2 * 0 + 0) % 16, 0] _ _ (rR_inb (2 * 0 + 0)) (off20_eq 0) _ _) $$ H5
  iintro H5
  iapply (WP_seq c)
  iapply (wp_ldu c A.a6 _ ![(2 * 0 + 0) % 16, 0] _ _ (rR_inb (2 * 0 + 0)) (off20_eq 0) _ _) $$ H6
  iintro H6
  iapply (WP_seq c)
  iapply (wp_ldu c A.a7 _ ![(2 * 0 + 0) % 16, 0] _ _ (rR_inb (2 * 0 + 0)) (off20_eq 0) _ _) $$ H7
  iintro H7
  iapply (WP_seq c)
  iapply (wp_ldu c A.a15 _ ![0 % 2, 0, 0] _ _ (rS_inb 0) rfl _ _) $$ HA
  iintro HA
  iapply (WP_seq c)
  iapply (wp_ldu c A.a16 _ ![0 % 2, 0, 0] _ _ (rS_inb 0) rfl _ _) $$ HB
  iintro HB
  iapply (WP_seq c)
  iapply (wp_ldu c A.a10 _ ![(2 * 0 + 0) % 16, 0] _ _ (rR_inb (2 * 0 + 0)) (off20_eq 0) _ _) $$ HE
  iintro HE
  iapply (WP_seq c)
  iapply (wp_stu c A.a10 _ ![(2 * 0 + 0) % 16, 0] _ _ (rR_inb (2 * 0 + 0)) (off20_eq 0) _ _ _ _) $$ HE
  iintro HE
  iapply (WP_seq c)
  iapply (wp_ldu c A.a9 _ ![(2 * 0 + 0) % 16, 0] _ _ (rR_inb (2 * 0 + 0)) (off20_eq 0) _ _) $$ HG
  iintro HG
  iapply (WP_pure c)
  iapply Hk $$ %τ %rfl
  isplitl [HO HR HC0 HC1 HC2 HM HMC HA HB]
  · isplitl [HO]; · iexact HO
    isplitl [HR]; · iexact HR
    isplitl [HC0]; · iexact HC0
    isplitl [HC1]; · iexact HC1
    isplitl [HC2]; · iexact HC2
    isplitl [HM]; · iexact HM
    isplitl [HMC]; · iexact HMC
    isplitl [HA]; · iexact HA
    iexact HB
  isplitl [H0 H1 H5 H6 H7]
  · isplitl [H0]; · iexact H0
    isplitl [H1]; · iexact H1
    isplitl [H5]; · iexact H5
    isplitl [H6]; · iexact H6
    iexact H7
  isplitl [HG]; · iexact HG
  iexact HE

theorem wp_part71 (v140 v141 : Elt F .f32) (v146 v149 v152 v158 v169 : FVec F S1x128 .f32) (dg : S16x128.Idx → Elt F .f32) (cf : S6x8x128.Idx → Elt F .f32) {Q} :
    iprop(own c A.a9 Finset.univ dg ∗ own c A.a17 Finset.univ cf ∗ Inp A I c)
      ⊢ iprop((∀ y, iprop(own c A.a9 Finset.univ (upd (rR (2 * 0 + 0)) v169 dg)
            ∗ own c A.a17 Finset.univ (upd (rC 2) (k0_pay325 v146 v149 v152 v158 v169) (upd (rC 1) (k0_pay324 v140 v149 v152 v169) (upd (rC 0) (k0_pay323 v141 v149 v152) cf))) ∗ Inp A I c) -∗
          Q ⟨y, k0_pay326 (at' (rR (2 * 0 + 1)) I.mean)⟩)
        -∗ WP c (k0_part71 (F := F) A.a0 A.h0 A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.a19 A.a20 v140 v141 v146 v149 v152 v158 v169) Q) := by
  rw [k0_part71_eq_skeleton]
  unfold k0_part71_skel Inp
  dsimp only
  iintro ⟨HG, HK, ⟨H0, H1, H5, H6, H7⟩⟩ Hk
  iapply (WP_seq c)
  iapply (wp_stu c A.a9 _ ![(2 * 0 + 0) % 16, 0] _ _ (rR_inb (2 * 0 + 0)) (off20_eq 0) _ _ _ _) $$ HG
  iintro HG
  iapply (WP_seq c)
  iapply (wp_ldu c A.a17 _ ![0 % 6, 0, 0] _ _ (rC_inb 0) rfl _ _) $$ HK
  iintro HK
  iapply (WP_seq c)
  iapply (wp_stu c A.a17 _ ![0 % 6, 0, 0] _ _ (rC_inb 0) rfl _ _ _ _) $$ HK
  iintro HK
  iapply (WP_seq c)
  iapply (wp_ldu c A.a17 _ ![1 % 6, 0, 0] _ _ (rC_inb 1) rfl _ _) $$ HK
  iintro HK
  iapply (WP_seq c)
  iapply (wp_stu c A.a17 _ ![1 % 6, 0, 0] _ _ (rC_inb 1) rfl _ _ _ _) $$ HK
  iintro HK
  iapply (WP_seq c)
  iapply (wp_ldu c A.a17 _ ![2 % 6, 0, 0] _ _ (rC_inb 2) rfl _ _) $$ HK
  iintro HK
  iapply (WP_seq c)
  iapply (wp_stu c A.a17 _ ![2 % 6, 0, 0] _ _ (rC_inb 2) rfl _ _ _ _) $$ HK
  iintro HK
  iapply (WP_seq c)
  iapply (wp_ldu c A.a5 _ ![(2 * 0 + 1) % 16, 0] _ _ (rR_inb (2 * 0 + 1)) (off20_eq 1) _ _) $$ H5
  iintro H5
  iapply (WP_pure c)
  iapply Hk
  isplitl [HG]; · iexact HG
  isplitl [HK]; · iexact HK
  isplitl [H0]; · iexact H0
  isplitl [H1]; · iexact H1
  isplitl [H5]; · iexact H5
  isplitl [H6]; · iexact H6
  iexact H7

theorem wp_part72 (v140 v141 : Elt F .f32) (x : BitVec 32) (v211 : FVec F S1x128 .f32) (s1 s2 : BufS F) (dg db : S16x128.Idx → Elt F .f32) (cf : S6x8x128.Idx → Elt F .f32) {Q} :
    iprop(Fs A c s1 s2 cf dg db ∗ Inp A I c)
      ⊢ iprop((iprop(Fs A c s1 s2 (upd (rC 3) (k0_pay332 v141 (at' (rR (2 * 0 + 1)) I.rstd) (at' (rR (2 * 0 + 1)) I.gam)) cf)
            (upd (rR (2 * 0 + 1)) (k0_pay329 v140 v141 v211 (at' (rR (2 * 0 + 1)) I.rstd) (at' (rS' 1) s1) (at' (rS' 1) s2)) dg)
            (upd (rR (2 * 0 + 1)) (k0_pay328 v141 (at' (rS' 1) s1)) db) ∗ Inp A I c) -∗
          Q ⟨k0_pay328 v141 (at' (rS' 1) s1), k0_pay330 (at' (rR (2 * 0 + 1)) I.rstd) (at' (rR (2 * 0 + 1)) I.gam),
            k0_pay331 v140 v141 v211 (at' (rR (2 * 0 + 1)) I.rstd) (at' (rR (2 * 0 + 1)) I.gam) (at' (rS' 1) s1) (at' (rS' 1) s2)⟩)
        -∗ WP c (k0_part72 (F := F) A.a0 A.h0 A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.a19 A.a20 v140 v141 x v211) Q) := by
  rw [k0_part72_eq_skeleton]
  unfold k0_part72_skel Inp Fs
  dsimp only
  iintro ⟨⟨HA, HB, HK, HG, HE⟩, ⟨H0, H1, H5, H6, H7⟩⟩ Hk
  iapply (WP_seq c)
  iapply (wp_ldu c A.a6 _ ![(2 * 0 + 1) % 16, 0] _ _ (rR_inb (2 * 0 + 1)) (off20_eq 1) _ _) $$ H6
  iintro H6
  iapply (WP_seq c)
  iapply (wp_ldu c A.a7 _ ![(2 * 0 + 1) % 16, 0] _ _ (rR_inb (2 * 0 + 1)) (off20_eq 1) _ _) $$ H7
  iintro H7
  iapply (WP_seq c)
  iapply (wp_ldu c A.a15 _ ![1 % 2, 0, 0] _ _ (rS_inb 1) rfl _ _) $$ HA
  iintro HA
  iapply (WP_seq c)
  iapply (wp_ldu c A.a16 _ ![1 % 2, 0, 0] _ _ (rS_inb 1) rfl _ _) $$ HB
  iintro HB
  iapply (WP_seq c)
  iapply (wp_ldu c A.a10 _ ![(2 * 0 + 1) % 16, 0] _ _ (rR_inb (2 * 0 + 1)) (off20_eq 1) _ _) $$ HE
  iintro HE
  iapply (WP_seq c)
  iapply (wp_stu c A.a10 _ ![(2 * 0 + 1) % 16, 0] _ _ (rR_inb (2 * 0 + 1)) (off20_eq 1) _ _ _ _) $$ HE
  iintro HE
  iapply (WP_seq c)
  iapply (wp_ldu c A.a9 _ ![(2 * 0 + 1) % 16, 0] _ _ (rR_inb (2 * 0 + 1)) (off20_eq 1) _ _) $$ HG
  iintro HG
  iapply (WP_seq c)
  iapply (wp_stu c A.a9 _ ![(2 * 0 + 1) % 16, 0] _ _ (rR_inb (2 * 0 + 1)) (off20_eq 1) _ _ _ _) $$ HG
  iintro HG
  iapply (WP_seq c)
  iapply (wp_ldu c A.a17 _ ![3 % 6, 0, 0] _ _ (rC_inb 3) rfl _ _) $$ HK
  iintro HK
  iapply (WP_seq c)
  iapply (wp_stu c A.a17 _ ![3 % 6, 0, 0] _ _ (rC_inb 3) rfl _ _ _ _) $$ HK
  iintro HK
  iapply (WP_pure c)
  iapply Hk
  isplitl [HA HB HK HG HE]
  · isplitl [HA]; · iexact HA
    isplitl [HB]; · iexact HB
    isplitl [HK]; · iexact HK
    isplitl [HG]; · iexact HG
    iexact HE
  isplitl [H0]; · iexact H0
  isplitl [H1]; · iexact H1
  isplitl [H5]; · iexact H5
  isplitl [H6]; · iexact H6
  iexact H7

/-- Everything but the writes in flight, between the loops. -/
def Idle (σ : St F) : sProp 𝕄 :=
  iprop(own c A.a2 Finset.univ I.x ∗ own c A.a3 Finset.univ I.y ∗ own c A.a4 Finset.univ I.km ∗ own c A.a13 Finset.univ σ.M
    ∗ semVal ((c : Thread nD τ), .dma (rsem A 0)) 0 ∗ semVal ((c : Thread nD τ), .dma (rsem A 1)) 0 ∗ semVal ((c : Thread nD τ), .dma (rsem A 2)) 0 ∗ MC A I c 0 0 0
    ∗ own c A.a15 Finset.univ σ.s1 ∗ own c A.a16 Finset.univ σ.s2 ∗ own c A.a9 Finset.univ σ.dg ∗ own c A.a10 Finset.univ σ.db ∗ Inp A I c)

set_option maxHeartbeats 1000000 in
theorem wp_part73 (v2 v4 : IVec S8x128 32) (v140 : Elt F .f32) (v211 v223 v239 v245 : FVec F S1x128 .f32) (σ : St F) {Q} :
    iprop(J A I c 28 0 28 28 σ ∗ own c A.a17 Finset.univ σ.cf ∗ own c A.a9 Finset.univ σ.dg ∗ own c A.a10 Finset.univ σ.db ∗ Inp A I c
        ∗ own c A.a8 Finset.univ σ.dx ∗ own c A.a14 Finset.univ σ.O ∗ semVal ((c : Thread nD τ), .dma (wsem A 0)) 0 ∗ semVal ((c : Thread nD τ), .dma (wsem A 1)) 0)
      ⊢ iprop((∀ τ, ⌜τ = it5 (it3 I v2 v4 { σ with cf := upd (rC 5) (k0_pay334 v211 v223 v239 v245) (upd (rC 4) (k0_pay333 v140 v245) σ.cf), s1 := upd rSA k0_pay339 σ.s1, s2 := upd rSA k0_pay340 σ.s2 } 196) 28⌝ -∗
          iprop(J5 A c 224 τ ∗ Idle A I c τ) -∗ Q 26#32)
        -∗ WP c (k0_part73 (F := F) A.a0 A.h0 A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.a19 A.a20 v2 v4 v140 v211 v223 v239 v245) Q) := by
  rw [k0_part73_eq_skeleton]
  unfold k0_part73_skel J
  dsimp only
  rw [← pz3, ← pz4]
  iintro ⟨⟨HO, HR, HC0, HC1, HC2, HM, HMC, HA, HB⟩, HK, HG, HE, HI, H8, H14, HW0, HW1⟩ Hk
  iapply (WP_seq c)
  iapply (wp_ldu c A.a17 _ ![4 % 6, 0, 0] _ _ (rC_inb 4) rfl _ _) $$ HK
  iintro HK
  iapply (WP_seq c)
  iapply (wp_stu c A.a17 _ ![4 % 6, 0, 0] _ _ (rC_inb 4) rfl _ _ _ _) $$ HK
  iintro HK
  iapply (WP_seq c)
  iapply (wp_ldu c A.a17 _ ![5 % 6, 0, 0] _ _ (rC_inb 5) rfl _ _) $$ HK
  iintro HK
  iapply (WP_seq c)
  iapply (wp_stu c A.a17 _ ![5 % 6, 0, 0] _ _ (rC_inb 5) rfl _ _ _ _) $$ HK
  iintro HK
  iapply (WP_seq c)
  iapply (wp_ldu c A.a15 _ ![0, 0, 0] _ _ inb_S2x8x128_S2x8x128_0_0_0 rfl _ _) $$ HA
  iintro HA
  iapply (WP_seq c)
  iapply (wp_stu c A.a15 _ ![0, 0, 0] _ _ inb_S2x8x128_S2x8x128_0_0_0 rfl _ _ _ _) $$ HA
  iintro HA
  iapply (WP_seq c)
  iapply (wp_ldu c A.a16 _ ![0, 0, 0] _ _ inb_S2x8x128_S2x8x128_0_0_0 rfl _ _) $$ HB
  iintro HB
  iapply (WP_seq c)
  iapply (wp_stu c A.a16 _ ![0, 0, 0] _ _ inb_S2x8x128_S2x8x128_0_0_0 rfl _ _ _ _) $$ HB
  iintro HB
  ihave HMC' := (show MC A I c 0 28 28 ⊢ MC A I c 28 28 28 from by rw [MC_idle A I c (g := 0) (g' := 28) (a := 28) (a' := 28) (by omega)]) $$ HMC
  iapply (WP_seq c)
  iapply (wp_loop3 A I c v2 v4 v140 v211 v223 v239 v245 { σ with cf := upd (rC 5) (k0_pay334 v211 v223 v239 v245) (upd (rC 4) (k0_pay333 v140 v245) σ.cf), s1 := upd rSA k0_pay335 σ.s1, s2 := upd rSA k0_pay336 σ.s2 })
    $$ [HO HR HC0 HC1 HC2 HM HMC' HA HB HK HG HE HI H8 H14 HW0 HW1]
  · unfold J3 J
    dsimp only
    isplitl [HO HR HC0 HC1 HC2 HM HMC' HA HB]
    · isplitl [HO]; · iexact HO
      isplitl [HR]; · iexact HR
      isplitl [HC0]; · iexact HC0
      isplitl [HC1]; · iexact HC1
      isplitl [HC2]; · iexact HC2
      isplitl [HM]; · iexact HM
      isplitl [HMC']; · iexact HMC'
      isplitl [HA]; · iexact HA
      iexact HB
    isplitl [H8 H14]
    · unfold Wr
      rw [out_self, out_self]
      isplitl [H8]; · iexact H8
      iexact H14
    isplitl [HW0]
    · rw [WC, if_neg (by omega)]; iexact HW0
    isplitl [HW1]
    · rw [WC, if_neg (by omega)]; iexact HW1
    isplitl [HK]; · iexact HK
    isplitl [HG]; · iexact HG
    isplitl [HE]; · iexact HE
    iexact HI
  iintro HJ
  generalize it3 I v2 v4 { σ with cf := upd (rC 5) (k0_pay334 v211 v223 v239 v245) (upd (rC 4) (k0_pay333 v140 v245) σ.cf), s1 := upd rSA k0_pay335 σ.s1, s2 := upd rSA k0_pay336 σ.s2 } 196 = ρ
  unfold J3 J Rd Mk
  icases HJ with ⟨⟨HO, ⟨H2, H11, H3, H12⟩, HC0, HC1, HC2, ⟨H4, H13⟩, HMC, HA, HB⟩, HW, HW0, HW1, HK, HG, HE, HI⟩
  iapply (WP_seq c)
  iapply (wp_loop5 A c v2 v4 v140 v211 v223 v239 v245 ρ) $$ [HO H12 H11 HW HW0 HW1 HK]
  · unfold J5
    isplitl [HO]; · iexact HO
    isplitl [H12]
    · ihave H12' := (show own c A.a12 (out RX (196 + 28) (min (196 + 28 + 3) 224)) ρ.D ⊢ own c A.a12 Finset.univ ρ.D from by
        rw [show min (196 + 28 + 3) 224 = 196 + 28 by omega, out_self]) $$ H12
      iexact H12'
    isplitl [H11]
    · ihave H11' := (show own c A.a11 (out RX (196 + 28) (min (196 + 28 + 3) 224)) ρ.X ⊢ own c A.a11 Finset.univ ρ.X from by
        rw [show min (196 + 28 + 3) 224 = 196 + 28 by omega, out_self]) $$ H11
      iexact H11'
    isplitl [HW]; · iexact HW
    isplitl [HW0]
    · ihave HW0' := (show WC A c 196 ρ.dx ρ.O ⊢ FlyW A c (196 - 2) ρ.dx ρ.O 2 0 from by rw [WC, if_pos (by omega)]) $$ HW0
      iexact HW0'
    isplitl [HW1]
    · ihave HW1' := (show WC A c (196 + 1) ρ.dx ρ.O ⊢ FlyW A c (196 - 1) ρ.dx ρ.O 2 0 from by rw [WC, if_pos (by omega)]) $$ HW1
      iexact HW1'
    iexact HK
  iintro HJ
  iapply (WP_pure c)
  iapply Hk $$ %_ %rfl
  isplitl [HJ]; · iexact HJ
  unfold Idle
  rw [it5_M, it5_s1, it5_s2, it5_dg, it5_db]
  isplitl [H2]
  · ihave H2' := (show own c A.a2 (out RH (196 + 28) (min (196 + 28 + 3) 224)) I.x ⊢ own c A.a2 Finset.univ I.x from by
      rw [show min (196 + 28 + 3) 224 = 196 + 28 by omega, out_self]) $$ H2
    iexact H2'
  isplitl [H3]
  · ihave H3' := (show own c A.a3 (out RH (196 + 28) (min (196 + 28 + 3) 224)) I.y ⊢ own c A.a3 Finset.univ I.y from by
      rw [show min (196 + 28 + 3) 224 = 196 + 28 by omega, out_self]) $$ H3
    iexact H3'
  isplitl [H4]
  · ihave H4' := (show own c A.a4 (out RL (28 + min (196 - 84) 28) (28 + min (196 - 56) 28)) I.km ⊢ own c A.a4 Finset.univ I.km from by
      rw [show 28 + min (196 - 84) 28 = 28 + min (196 - 56) 28 by omega, out_self]) $$ H4
    iexact H4'
  isplitl [H13]
  · ihave H13' := (show own c A.a13 (out RK (28 + min (196 - 84) 28) (28 + min (196 - 56) 28)) ρ.M ⊢ own c A.a13 Finset.univ ρ.M from by
      rw [show 28 + min (196 - 84) 28 = 28 + min (196 - 56) 28 by omega, out_self]) $$ H13
    iexact H13'
  isplitl [HC1]
  · ihave H := (show rcell A I c (196 + 28 + 1) ⊢ iprop(semVal ((c : Thread nD τ), .dma (rsem A 0)) 0) from by
      rw [rcell, if_neg (by omega), rsem_congr A (show (196 + 28 + 1) % 3 = 0 % 3 by omega)]) $$ HC1
    iexact H
  isplitl [HC2]
  · ihave H := (show rcell A I c (196 + 28 + 2) ⊢ iprop(semVal ((c : Thread nD τ), .dma (rsem A 1)) 0) from by
      rw [rcell, if_neg (by omega), rsem_congr A (show (196 + 28 + 2) % 3 = 1 % 3 by omega)]) $$ HC2
    iexact H
  isplitl [HC0]
  · ihave H := (show rcell A I c (196 + 28) ⊢ iprop(semVal ((c : Thread nD τ), .dma (rsem A 2)) 0) from by
      rw [rcell, if_neg (by omega), rsem_congr A (show (196 + 28) % 3 = 2 % 3 by omega)]) $$ HC0
    iexact H
  isplitl [HMC]
  · ihave H := (show MC A I c 28 (28 + min (196 - 84) 28) (28 + min (196 - 56) 28) ⊢ MC A I c 0 0 0 from by
      rw [show 28 + min (196 - 84) 28 = 28 + min (196 - 56) 28 by omega, MC_idle A I c (g := 28) (g' := 0) (a' := 0) (by omega)]) $$ HMC
    iexact H
  isplitl [HA]; · iexact HA
  isplitl [HB]; · iexact HB
  isplitl [HG]; · iexact HG
  isplitl [HE]; · iexact HE
  iexact HI

/-- Everything the kernel holds while no copy is in flight. -/
def Res (σ : St F) : sProp 𝕄 :=
  iprop(owing (F := F) c ∗ Idle A I c σ ∗ own c A.a12 Finset.univ σ.D ∗ own c A.a11 Finset.univ σ.X ∗ own c A.a8 Finset.univ σ.dx ∗ own c A.a14 Finset.univ σ.O
    ∗ semVal ((c : Thread nD τ), .dma (wsem A 0)) 0 ∗ semVal ((c : Thread nD τ), .dma (wsem A 1)) 0 ∗ own c A.a17 Finset.univ σ.cf)

/-- The kernel, from the buffers' first contents. -/
def run (σ : St F) : St F :=
  it5 (it3 I k0_pay312 k0_pay313 (fin I 0 (it1 I k0_pay312 k0_pay313 { σ with s1 := upd rSA k0_pay339 σ.s1, s2 := upd rSA k0_pay340 σ.s2 } 28)) 196) 28

theorem fin_start (σ : St F) :
    ({ σ with
      cf := upd (rC 5) (k0_pay334 (k0_pay326 (at' (rR (2 * 0 + 1)) I.mean)) (k0_pay328 (sc I.ys) (at' (rS' 1) σ.s1)) (k0_pay330 (at' (rR (2 * 0 + 1)) I.rstd) (at' (rR (2 * 0 + 1)) I.gam))
            (k0_pay331 (sc I.xs) (sc I.ys) (k0_pay326 (at' (rR (2 * 0 + 1)) I.mean)) (at' (rR (2 * 0 + 1)) I.rstd) (at' (rR (2 * 0 + 1)) I.gam) (at' (rS' 1) σ.s1) (at' (rS' 1) σ.s2)))
          (upd (rC 4) (k0_pay333 (sc I.xs) (k0_pay331 (sc I.xs) (sc I.ys) (k0_pay326 (at' (rR (2 * 0 + 1)) I.mean)) (at' (rR (2 * 0 + 1)) I.rstd) (at' (rR (2 * 0 + 1)) I.gam) (at' (rS' 1) σ.s1) (at' (rS' 1) σ.s2)))
          (upd (rC 3) (k0_pay332 (sc I.ys) (at' (rR (2 * 0 + 1)) I.rstd) (at' (rR (2 * 0 + 1)) I.gam))
          (upd (rC 2) (k0_pay325 (k0_pay316 (at' (rR (2 * 0 + 0)) I.mean)) (k0_pay317 (at' (rR (2 * 0 + 0)) I.rstd)) (k0_pay318 (at' (rR (2 * 0 + 0)) I.gam)) (k0_pay319 (sc I.ys) (at' (rS' 0) σ.s1))
            (k0_pay320 (sc I.xs) (sc I.ys) (at' (rR (2 * 0 + 0)) I.mean) (at' (rR (2 * 0 + 0)) I.rstd) (at' (rS' 0) σ.s1) (at' (rS' 0) σ.s2)))
          (upd (rC 1) (k0_pay324 (sc I.xs) (k0_pay317 (at' (rR (2 * 0 + 0)) I.rstd)) (k0_pay318 (at' (rR (2 * 0 + 0)) I.gam))
            (k0_pay320 (sc I.xs) (sc I.ys) (at' (rR (2 * 0 + 0)) I.mean) (at' (rR (2 * 0 + 0)) I.rstd) (at' (rS' 0) σ.s1) (at' (rS' 0) σ.s2)))
          (upd (rC 0) (k0_pay323 (sc I.ys) (k0_pay317 (at' (rR (2 * 0 + 0)) I.rstd)) (k0_pay318 (at' (rR (2 * 0 + 0)) I.gam))) σ.cf)))))
      dg := upd (rR (2 * 0 + 1)) (k0_pay329 (sc I.xs) (sc I.ys) (k0_pay326 (at' (rR (2 * 0 + 1)) I.mean)) (at' (rR (2 * 0 + 1)) I.rstd) (at' (rS' 1) σ.s1) (at' (rS' 1) σ.s2))
        (upd (rR (2 * 0 + 0)) (k0_pay320 (sc I.xs) (sc I.ys) (at' (rR (2 * 0 + 0)) I.mean) (at' (rR (2 * 0 + 0)) I.rstd) (at' (rS' 0) σ.s1) (at' (rS' 0) σ.s2)) σ.dg)
      db := upd (rR (2 * 0 + 1)) (k0_pay328 (sc I.ys) (at' (rS' 1) σ.s1)) (upd (rR (2 * 0 + 0)) (k0_pay319 (sc I.ys) (at' (rS' 0) σ.s1)) σ.db)
      s1 := upd rSA k0_pay339 σ.s1
      s2 := upd rSA k0_pay340 σ.s2 } : St F) = fin I 0 σ := by
  delta fin finCf finDg finDb
  rw [pf10, pf9, pf8, pf5, pf4, pf3, pf7, pf1, pf2, pf6]

set_option maxHeartbeats 2000000 in
theorem wp_kernel (σ : St F) :
    Res A I c σ ⊢ WP c (cc0_bn_relu_bwd (F := F) A.a0 A.h0 A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.a19 A.a20) (fun _ => Res A I c (run I σ)) := by
  rw [cc0_bn_relu_bwd_eq_skeleton]
  unfold cc0_bn_relu_bwd_skel Res Idle
  dsimp only
  iintro ⟨HO, ⟨H2, H3, H4, H13, HR0, HR1, HR2, HMC, HA, HB, HG, HE, HI⟩, H12, H11, H8, H14, HW0, HW1, HK⟩
  iapply (WP_seq c)
  iapply (wp_part66 A c σ.s1 σ.s2) $$ [HA HB]
  · isplitl [HA]; · iexact HA
    iexact HB
  iintro %a0 %a1 %a2 ⟨HA, HB⟩
  dsimp only
  ihave HMC' := (MC_issue A I c (g := 0) (a := 0) (b := 0) (by omega) (by omega) (by omega)) $$ HMC
  icases HMC' with ⟨HMS, HMC⟩
  iapply (WP_seq c)
  iapply (wp_part67 A I c _ _ _ σ.X σ.D σ.M) $$ [H2 H11 H3 H12 HR0 H4 H13 HMS]
  · isplitl [H2 H11 H3 H12]
    · unfold Rd
      rw [out_self, out_self]
      isplitl [H2]; · iexact H2
      isplitl [H11]; · iexact H11
      isplitl [H3]; · iexact H3
      iexact H12
    isplitl [HR0]; · iexact HR0
    isplitl [H4 H13]
    · unfold Mk
      rw [out_self, out_self]
      isplitl [H4]; · iexact H4
      iexact H13
    iexact HMS
  iintro %b0 %b1 %b2 ⟨HR, HF0, HM, HMF⟩
  dsimp only
  ihave HMC := HMC $$ HMF
  ihave HMC' := (MC_issue A I c (g := 0) (a := 0) (b := 0 + 1) (by omega) (by omega) (by omega)) $$ HMC
  icases HMC' with ⟨HMS, HMC⟩
  iapply (WP_seq c)
  iapply (wp_part68 A I c _ _ _ σ.X σ.D σ.M) $$ [HR HR1 HM HMS]
  · isplitl [HR]; · iexact HR
    isplitl [HR1]; · iexact HR1
    isplitl [HM]; · iexact HM
    iexact HMS
  iintro %c0 %c1 %c2 %c3 %c4 ⟨HR, HF1, HM, HMF⟩
  dsimp only
  ihave HMC := HMC $$ HMF
  iapply (WP_seq c)
  iapply (wp_part69 A I c _ _ _ _ _ σ.X σ.D) $$ [HR HR2]
  · isplitl [HR]; · iexact HR
    iexact HR2
  iintro ⟨HR, HF2⟩
  iapply (WP_seq c)
  iapply (wp_part70 A I c k0_pay312 k0_pay313 { σ with s1 := upd rSA k0_pay339 σ.s1, s2 := upd rSA k0_pay340 σ.s2 } σ.dg σ.db) $$ [HO HR HF0 HF1 HF2 HM HMC HA HB HI HG HE]
  · isplitl [HO]; · iexact HO
    isplitl [HR]; · iexact HR
    isplitl [HF0]; · iexact HF0
    isplitl [HF1]; · iexact HF1
    isplitl [HF2]; · iexact HF2
    isplitl [HM]; · iexact HM
    isplitl [HMC]; · iexact HMC
    isplitl [HA]; · iexact HA
    isplitl [HB]; · iexact HB
    isplitl [HI]; · iexact HI
    isplitl [HG]; · iexact HG
    iexact HE
  iintro %τ %hτ ⟨HJ, HI, HG, HE⟩
  dsimp only
  iapply (WP_seq c)
  iapply (wp_part71 A I c _ _ _ _ _ _ _ σ.dg σ.cf) $$ [HG HK HI]
  · isplitl [HG]; · iexact HG
    isplitl [HK]; · iexact HK
    iexact HI
  iintro %d0 ⟨HG, HK, HI⟩
  dsimp only
  unfold J
  icases HJ with ⟨HO, HR, HC0, HC1, HC2, HM, HMC, HA, HB⟩
  iapply (WP_seq c)
  iapply (wp_part72 A I c _ _ _ _ τ.s1 τ.s2 _ _ _) $$ [HA HB HK HG HE HI]
  · unfold Fs
    isplitr [HI]
    · isplitl [HA]; · iexact HA
      isplitl [HB]; · iexact HB
      isplitl [HK]; · iexact HK
      isplitl [HG]; · iexact HG
      iexact HE
    iexact HI
  iintro ⟨HF, HI⟩
  dsimp only
  unfold Fs
  icases HF with ⟨HA, HB, HK, HG, HE⟩
  have ecf : σ.cf = τ.cf := by rw [hτ, it1_cf]
  have edg : σ.dg = τ.dg := by rw [hτ, it1_dg]
  have edb : σ.db = τ.db := by rw [hτ, it1_db]
  have edx : σ.dx = τ.dx := by rw [hτ, it1_dx]
  have eO : σ.O = τ.O := by rw [hτ, it1_O]
  generalize hz : run I σ = ζ
  rw [run, ← hτ] at hz
  rw [ecf, edg, edb, edx, eO]
  iapply (WP_seq c)
  iapply (wp_part73 A I c _ _ _ _ _ _ _ { τ with
      cf := upd (rC 3) (k0_pay332 (sc I.ys) (at' (rR (2 * 0 + 1)) I.rstd) (at' (rR (2 * 0 + 1)) I.gam))
          (upd (rC 2) (k0_pay325 (k0_pay316 (at' (rR (2 * 0 + 0)) I.mean)) (k0_pay317 (at' (rR (2 * 0 + 0)) I.rstd)) (k0_pay318 (at' (rR (2 * 0 + 0)) I.gam)) (k0_pay319 (sc I.ys) (at' (rS' 0) τ.s1))
            (k0_pay320 (sc I.xs) (sc I.ys) (at' (rR (2 * 0 + 0)) I.mean) (at' (rR (2 * 0 + 0)) I.rstd) (at' (rS' 0) τ.s1) (at' (rS' 0) τ.s2)))
          (upd (rC 1) (k0_pay324 (sc I.xs) (k0_pay317 (at' (rR (2 * 0 + 0)) I.rstd)) (k0_pay318 (at' (rR (2 * 0 + 0)) I.gam))
            (k0_pay320 (sc I.xs) (sc I.ys) (at' (rR (2 * 0 + 0)) I.mean) (at' (rR (2 * 0 + 0)) I.rstd) (at' (rS' 0) τ.s1) (at' (rS' 0) τ.s2)))
          (upd (rC 0) (k0_pay323 (sc I.ys) (k0_pay317 (at' (rR (2 * 0 + 0)) I.rstd)) (k0_pay318 (at' (rR (2 * 0 + 0)) I.gam))) τ.cf)))
      dg := upd (rR (2 * 0 + 1)) (k0_pay329 (sc I.xs) (sc I.ys) (k0_pay326 (at' (rR (2 * 0 + 1)) I.mean)) (at' (rR (2 * 0 + 1)) I.rstd) (at' (rS' 1) τ.s1) (at' (rS' 1) τ.s2))
        (upd (rR (2 * 0 + 0)) (k0_pay320 (sc I.xs) (sc I.ys) (at' (rR (2 * 0 + 0)) I.mean) (at' (rR (2 * 0 + 0)) I.rstd) (at' (rS' 0) τ.s1) (at' (rS' 0) τ.s2)) τ.dg)
      db := upd (rR (2 * 0 + 1)) (k0_pay328 (sc I.ys) (at' (rS' 1) τ.s1)) (upd (rR (2 * 0 + 0)) (k0_pay319 (sc I.ys) (at' (rS' 0) τ.s1)) τ.db) })
    $$ [HO HR HC0 HC1 HC2 HM HMC HA HB HK HG HE HI H8 H14 HW0 HW1]
  · dsimp only
    isplitl [HO HR HC0 HC1 HC2 HM HMC HA HB]
    · unfold J
      dsimp only
      isplitl [HO]; · iexact HO
      isplitl [HR]; · iexact HR
      isplitl [HC0]; · iexact HC0
      isplitl [HC1]; · iexact HC1
      isplitl [HC2]; · iexact HC2
      isplitl [HM]; · iexact HM
      isplitl [HMC]; · iexact HMC
      isplitl [HA]; · iexact HA
      iexact HB
    isplitl [HK]; · iexact HK
    isplitl [HG]; · iexact HG
    isplitl [HE]; · iexact HE
    isplitl [HI]; · iexact HI
    isplitl [H8]; · iexact H8
    isplitl [H14]; · iexact H14
    isplitl [HW0]; · iexact HW0
    iexact HW1
  iintro %ρ %hρ ⟨HJ, HI⟩
  dsimp only at hρ
  rw [fin_start I τ] at hρ
  obtain rfl : ρ = ζ := hρ.trans hz
  unfold J5
  icases HJ with ⟨HO, H12, H11, HW, HC0, HC1, HK⟩
  rw [k0_part74_eq_skeleton]
  unfold k0_part74_skel
  dsimp only
  iapply (WP_seq c)
  iapply (WP_seq c)
  iapply (wp_waitW0 A c 222 ρ.dx ρ.O _ _ _ _ _ _ rfl) $$ [HC0 HO]
  · isplitl [HC0]; · iexact HC0
    iexact HO
  iintro ⟨HC0, HO⟩
  iapply (WP_seq c)
  iapply (wp_waitW1 A c (a := 222) (b := 224) (by omega) (by omega) ρ.dx ρ.O _ _ _ _ _ _ rfl) $$ [HC0 HO HW]
  · isplitl [HC0]; · iexact HC0
    isplitl [HO]; · iexact HO
    iexact HW
  iintro ⟨HW, HC0, HO⟩
  iapply (WP_pure c)
  iapply (WP_seq c)
  iapply (wp_waitW0 A c 223 ρ.dx ρ.O _ _ _ _ _ _ rfl) $$ [HC1 HO]
  · isplitl [HC1]; · iexact HC1
    iexact HO
  iintro ⟨HC1, HO⟩
  iapply (WP_seq c)
  iapply (wp_waitW1 A c (a := 222 + 1) (b := 224) (by omega) (by omega) ρ.dx ρ.O _ _ _ _ _ _ rfl) $$ [HC1 HO HW]
  · isplitl [HC1]; · iexact HC1
    isplitl [HO]; · iexact HO
    iexact HW
  iintro ⟨HW, HC1, HO⟩
  iapply (WP_pure c)
  unfold Idle Wr
  icases HW with ⟨H8, H14⟩
  isplitl [HO]; · iexact HO
  isplitl [HI]; · iexact HI
  isplitl [H12]; · iexact H12
  isplitl [H11]; · iexact H11
  isplitl [H8]
  · ihave H := (show own c A.a8 (out RW (222 + 1 + 1) 224) ρ.dx ⊢ own c A.a8 Finset.univ ρ.dx from by rw [out_self]) $$ H8
    iexact H
  isplitl [H14]
  · ihave H := (show own c A.a14 (out RY (222 + 1 + 1) 224) ρ.O ⊢ own c A.a14 Finset.univ ρ.O from by rw [out_self]) $$ H14
    iexact H
  isplitl [HC0]
  · rw [wsem_congr A (show 0 % 2 = 222 % 2 by omega)]
    iexact HC0
  isplitl [HC1]
  · rw [wsem_congr A (show 1 % 2 = (222 + 1) % 2 by omega)]
    iexact HC1
  iexact HK

end Cert.Kernel.Hand

end
-- ==== Proof.Agree.lean ====
/-
  What the kernel leaves does not depend on what its scratch held before.
-/
module

public import proofs.«01_k».proof.Proof.Whole

@[expose] public section

set_option maxRecDepth 16384

noncomputable section

namespace Cert.Kernel.Hand

open Cert.Kernel Cert.Kernel.Gen
open Idealize.ShloMosaic Idealize.ShloMosaic.TcCoe Idealize.ShloMosaic.Tactic Idealize.ShloMosaic.ValueIdx

variable {F : FTy → Type} [FloatOps F]

variable (I : Ins F)

theorem upd_ag {α : Type} {s : Shape} (r : Rect s) (v : r.shape.Idx → α) {w w' : s.Idx → α} {i : s.Idx}
    (h : i ∉ r.set → w i = w' i) : upd r v w i = upd r v w' i := by
  by_cases hi : i ∈ r.set
  · rw [← Rect.map_emb_univ] at hi
    obtain ⟨x, -, rfl⟩ := Finset.mem_map.mp hi
    rw [upd_emb, upd_emb]
  · rw [upd_of_not_mem _ _ _ hi, upd_of_not_mem _ _ _ hi, h hi]

theorem at_ag {α : Type} {s : Shape} (r : Rect s) {w w' : s.Idx → α} (h : ∀ i ∈ r.set, w i = w' i) : at' r w = at' r w' :=
  funext fun x => h _ (by rw [← Rect.map_emb_univ]; exact Finset.mem_map_of_mem _ (Finset.mem_univ _))

theorem pw_ag {ι α : Type} [DecidableEq ι] (T : Finset ι) (v : ι → α) {w w' : ι → α} {i : ι} (h : i ∉ T → w i = w' i) :
    T.piecewise v w i = T.piecewise v w' i := by
  by_cases hi : i ∈ T
  · rw [Finset.piecewise_eq_of_mem _ _ _ hi, Finset.piecewise_eq_of_mem _ _ _ hi]
  · rw [Finset.piecewise_eq_of_notMem _ _ _ hi, Finset.piecewise_eq_of_notMem _ _ _ hi, h hi]

/-- The first `n` ring slots and `m` mask chunks, and the sums, are the same in both states. -/
structure Ag (n m : ℕ) (σ σ' : St F) : Prop where
  X : ∀ i, (i 0).val < n → σ.X i = σ'.X i
  D : ∀ i, (i 0).val < n → σ.D i = σ'.D i
  M : ∀ i, (i 0).val < m → σ.M i = σ'.M i
  s1 : σ.s1 = σ'.s1
  s2 : σ.s2 = σ'.s2

section Red

variable {n m i t u j : ℕ} (v2 lb : IVec S8x128 32) {M M' : BufM F} {D D' : BufD F} {X X' : BufX F}
  (ht : t % 31 < n) (hi : i % 28 < m) (hM : ∀ i, (i 0).val < m → M i = M' i) (hX : ∀ i, (i 0).val < n → X i = X' i)
include ht

theorem atT_ag {α : Type} {D D' : S31x1792x256.Idx → α} (hD : ∀ i, (i 0).val < n → D i = D' i) (q : ℕ) : at' (rT t q j) D = at' (rT t q j) D' :=
  at_ag _ fun x hx => hD x ((mem_rT.mp hx).1 ▸ ht)

include hi hM

theorem tile_ag (hD : ∀ i, (i 0).val < n → D i = D' i) (q : ℕ) : mdT v2 lb M i t q j D = mdT v2 lb M' i t q j D' := by
  have e1 := atT_ag (j := j) ht hD q
  have e2 : at' (rM i q) M = at' (rM i q) M' := at_ag _ fun x hx => hM x ((mem_rM.mp hx).1 ▸ hi)
  unfold mdT
  rw [e1, e2]

theorem tileD_ag (hD : ∀ i, (i 0).val < n → D i = D' i) (q : ℕ) :
    ∀ x, (x 0).val < n → tileD v2 lb M i t q j D x = tileD v2 lb M' i t q j D' x := by
  intro x hx
  have e1 := atT_ag (j := j) ht hD q
  have e2 : at' (rM i q) M = at' (rM i q) M' := at_ag _ fun x hx => hM x ((mem_rM.mp hx).1 ▸ hi)
  unfold tileD
  rw [e1, e2]
  exact upd_ag _ _ fun _ => hD x hx

theorem grpD_ag (hD : ∀ i, (i 0).val < n → D i = D' i) (k : ℕ) :
    ∀ x, (x 0).val < n → grpD v2 lb M i t u j D k x = grpD v2 lb M' i t u j D' k x := by
  induction k with
  | zero => exact hD
  | succ k ih => exact tileD_ag v2 lb ht hi hM ih _

theorem mdK_ag (hD : ∀ i, (i 0).val < n → D i = D' i) : mdK v2 lb M i t u j D = mdK v2 lb M' i t u j D' :=
  funext fun k => tile_ag v2 lb ht hi hM (grpD_ag v2 lb ht hi hM hD k) _

theorem grpS1_ag (hD : ∀ i, (i 0).val < n → D i = D' i) (S : BufS F) :
    grpS1 v2 lb M i t u j D S = grpS1 v2 lb M' i t u j D' S := by
  unfold grpS1
  rw [mdK_ag v2 lb ht hi hM hD]

include hX
theorem grpS2_ag (hD : ∀ i, (i 0).val < n → D i = D' i) (S : BufS F) :
    grpS2 v2 lb M X i t u j D S = grpS2 v2 lb M' X' i t u j D' S := by
  have e : (fun k : ℕ => at' (rT t (8 * u + k) j) X) = fun k : ℕ => at' (rT t (8 * u + k) j) X' :=
    funext fun k => atT_ag (j := j) ht hX _
  unfold grpS2
  rw [mdK_ag v2 lb ht hi hM hD, e]

end Red

section Red2

attribute [local irreducible] grpD grpO grpS1 grpS2

variable {n m : ℕ} {σ σ' : St F}

theorem redSt_ag (v2 la lb : IVec S8x128 32) {i t : ℕ} (u : ℕ) (ht : t % 31 < n) (hi : i % 28 < m) (h : Ag n m σ σ') :
    Ag n m (redSt v2 la lb i t u σ) (redSt v2 la lb i t u σ') := by
  have hD := grpD_ag (u := u) (j := 0) v2 la ht hi h.M h.D 8
  refine ⟨h.X, grpD_ag v2 lb ht hi h.M hD 8, h.M, ?_, ?_⟩
  · unfold redSt
    dsimp only
    rw [grpS1_ag v2 lb ht hi h.M hD, grpS1_ag v2 la ht hi h.M h.D, h.s1]
  · unfold redSt
    dsimp only
    rw [grpS2_ag v2 lb ht hi h.M h.X hD, grpS2_ag v2 la ht hi h.M h.X h.D, h.s2]

theorem redN_ag (v2 la lb : IVec S8x128 32) {i t : ℕ} (ht : t % 31 < n) (hi : i % 28 < m) (h : Ag n m σ σ') (k : ℕ) :
    Ag n m (redN v2 la lb i t σ k) (redN v2 la lb i t σ' k) := by
  induction k with
  | zero => exact h
  | succ k ih => exact redSt_ag v2 la lb k ht hi ih

theorem waitSt_ag {T : ℕ} (h : Ag (min T 31) m σ σ') : Ag (min (T + 1) 31) m (waitSt I T σ) (waitSt I T σ') := by
  refine ⟨fun i hi => pw_ag _ _ fun hn => h.X i ?_, fun i hi => pw_ag _ _ fun hn => h.D i ?_, h.M, h.s1, h.s2⟩ <;>
  · rw [mem_rX] at hn
    have := (i 0).isLt
    omega

theorem maskSt_ag {T : ℕ} (h : Ag n T σ σ') (hT : T < 28) : Ag n (T + 1) (maskSt I T σ) (maskSt I T σ') := by
  refine ⟨h.X, h.D, fun i hi => pw_ag _ _ fun hn => h.M i ?_, h.s1, h.s2⟩
  rw [mem_rK] at hn
  omega

theorem maskSt_ag' {T : ℕ} (h : Ag n 28 σ σ') : Ag n 28 (maskSt I T σ) (maskSt I T σ') :=
  ⟨h.X, h.D, fun i hi => pw_ag _ _ fun hn => h.M i hi, h.s1, h.s2⟩

attribute [local irreducible] redN

theorem it1_ag (v2 v4 : IVec S8x128 32) (h : Ag 0 0 σ σ') : ∀ k, k ≤ 28 → Ag (min k 31) k (it1 I v2 v4 σ k) (it1 I v2 v4 σ' k) := by
  intro k
  induction k with
  | zero => exact fun _ => h
  | succ k ih =>
    intro hk
    have a := maskSt_ag I (waitSt_ag I (ih (by omega))) (by omega)
    rw [it1, it1]
    unfold step1
    exact redN_ag v2 _ _ (by omega) (by omega) a 7

/-- The gradients' rows below `g`, the result's steps below `w`, and the output slots' elements `P` are the same in both states, and so are the coefficients. -/
structure Bg (g w : ℕ) (P : S2x2x1792x128.Idx → Prop) (σ σ' : St F) : Prop where
  cf : σ.cf = σ'.cf
  O : ∀ i, P i → σ.O i = σ'.O i
  dg : ∀ i, (i 0).val < g → σ.dg i = σ'.dg i
  db : ∀ i, (i 0).val < g → σ.db i = σ'.db i
  dx : ∀ t i, t < w → i ∈ RW t → σ.dx i = σ'.dx i

theorem grpO_ag {P : S2x2x1792x128.Idx → Prop} (a b e : FVec F S32x128 .f32) {D D' : BufD F} {X X' : BufX F} {t o u j : ℕ} {O O' : BufO F} (ht : t % 31 < n)
    (hD : ∀ i, (i 0).val < n → D i = D' i) (hX : ∀ i, (i 0).val < n → X i = X' i) (hO : ∀ i, P i → O i = O' i) (k : ℕ) :
    ∀ i, (P i ∨ ((i 0).val = o % 2 ∧ (i 1).val = j % 2 ∧ ∃ q, q < k ∧ (i 2).val / 32 = (8 * u + q) % 56)) →
      grpO a b e D X t o u j O k i = grpO a b e D' X' t o u j O' k i := by
  induction k with
  | zero =>
    rintro i (hi | ⟨_, _, q, hq, _⟩)
    · unfold grpO; exact hO i hi
    · omega
  | succ k ih =>
    intro i hi
    rw [grpO, grpO, atT_ag (j := j) ht hD, atT_ag (j := j) ht hX]
    refine upd_ag _ _ fun hn => ih i ?_
    rcases hi with hi | ⟨h0, h1, q, hq, h2⟩
    · exact Or.inl hi
    · refine Or.inr ⟨h0, h1, q, ?_, h2⟩
      rw [mem_rO] at hn
      rcases Nat.lt_succ_iff_lt_or_eq.mp hq with hq | rfl
      · exact hq
      · exact absurd ⟨h0, h1, h2⟩ hn

/-- The rows of the first `u` groups of output slot `t`. -/
abbrev Rows (t u : ℕ) (i : S2x2x1792x128.Idx) : Prop := (i 0).val = t % 2 ∧ (i 2).val / 32 < 8 * u

theorem outSt_ag {g w : ℕ} (k : Co F) {t u : ℕ} (ht : t % 31 < n) (hu : u < 7) (h : Ag n m σ σ') (hb : Bg g w (Rows t u) σ σ') :
    Bg g w (Rows t (u + 1)) (outSt k t u σ) (outSt k t u σ') := by
  refine ⟨hb.cf, ?_, hb.dg, hb.db, hb.dx⟩
  intro i hi
  unfold outSt
  dsimp only
  refine grpO_ag (n := n) k.a' k.b' k.e' ht h.D h.X (grpO_ag (n := n) k.a k.b k.e ht h.D h.X hb.O 8) 8 i ?_
  have h1 : (i 1).val < 2 := (i 1).isLt
  by_cases hl : (i 2).val / 32 < 8 * u
  · exact Or.inl (Or.inl ⟨hi.1, hl⟩)
  · have hi2 := hi.2
    have hq : ∃ q, q < 8 ∧ (i 2).val / 32 = (8 * u + q) % 56 := ⟨(i 2).val / 32 - 8 * u, by omega, by omega⟩
    rcases (by omega : (i 1).val = 0 ∨ (i 1).val = 1) with e | e
    · exact Or.inl (Or.inr ⟨hi.1, by omega, hq⟩)
    · exact Or.inr ⟨hi.1, by omega, hq⟩

theorem outSt_ag' (k : Co F) (t u : ℕ) (h : Ag n m σ σ') : Ag n m (outSt k t u σ) (outSt k t u σ') := ⟨h.X, h.D, h.M, h.s1, h.s2⟩
theorem redSt_ag' {g w : ℕ} {P : S2x2x1792x128.Idx → Prop} (v2 la lb : IVec S8x128 32) (i t u : ℕ) (h : Bg g w P σ σ') :
    Bg g w P (redSt v2 la lb i t u σ) (redSt v2 la lb i t u σ') := ⟨h.cf, h.O, h.dg, h.db, h.dx⟩

theorem Bg.weaken {g w : ℕ} {P P' : S2x2x1792x128.Idx → Prop} (h : Bg g w P σ σ') (hp : ∀ i, P' i → P i) : Bg g w P' σ σ' :=
  ⟨h.cf, fun i hi => h.O i (hp i hi), h.dg, h.db, h.dx⟩

theorem outRedN_ag {g w : ℕ} (k : Co F) (v2 la lb : IVec S8x128 32) {t : ℕ} (ht : t % 31 < n) (ht' : (t + 28) % 31 < n) (h : Ag n 28 σ σ')
    (hb : Bg g w (fun _ => False) σ σ') (u : ℕ) (hu : u ≤ 7) :
    Ag n 28 (outRedN k v2 la lb t σ u) (outRedN k v2 la lb t σ' u) ∧ Bg g w (Rows t u) (outRedN k v2 la lb t σ u) (outRedN k v2 la lb t σ' u) := by
  induction u with
  | zero => exact ⟨h, hb.weaken fun i hi => by have := hi.2; omega⟩
  | succ u ih =>
    obtain ⟨a, b⟩ := ih (by omega)
    exact ⟨redSt_ag v2 la lb u ht' (by omega) (outSt_ag' k t u a), redSt_ag' v2 la lb _ _ _ (outSt_ag k ht (by omega) a b)⟩

theorem outN_ag {g w : ℕ} (k : Co F) {t : ℕ} (ht : t % 31 < n) (h : Ag n m σ σ') (hb : Bg g w (fun _ => False) σ σ') (u : ℕ) (hu : u ≤ 7) :
    Ag n m (outN k t σ u) (outN k t σ' u) ∧ Bg g w (Rows t u) (outN k t σ u) (outN k t σ' u) := by
  induction u with
  | zero => exact ⟨h, hb.weaken fun i hi => by have := hi.2; omega⟩
  | succ u ih =>
    obtain ⟨a, b⟩ := ih (by omega)
    exact ⟨outSt_ag' k t u a, outSt_ag k ht (by omega) a b⟩

theorem dxW_ag {t : ℕ} {O O' : BufO F} (hO : ∀ i, Rows t 7 i → O i = O' i) {w w' : S50176x2048.Idx → Elt F .bf16} {i : S50176x2048.Idx}
    (h : i ∉ RW t → w i = w' i) : dxW t O w i = dxW t O' w' i := by
  have hs : ∀ h, O (srcW t h i) = O' (srcW t h i) := fun h => hO _ ⟨rfl, by show (i 0).val % 1792 / 32 < _; omega⟩
  by_cases h1 : i ∈ (rW t 1).set
  · rw [dxW, dxW, dxStep_in _ _ h1, dxStep_in _ _ h1, hs]
  · rw [dxW, dxW, dxStep_out _ _ h1, dxStep_out _ _ h1]
    by_cases h0 : i ∈ (rW t 0).set
    · rw [dxStep_in _ _ h0, dxStep_in _ _ h0, hs]
    · rw [dxStep_out _ _ h0, dxStep_out _ _ h0]
      exact h fun hu => (Finset.mem_union.mp hu).elim h0 h1

attribute [local irreducible] outN outRedN

theorem dx_ag' {O O' : BufO F} {w w' : S50176x2048.Idx → Elt F .bf16} {t t' : ℕ} (hO : ∀ i, Rows t 7 i → O i = O' i)
    (hw : ∀ t' i, t' < t → i ∈ RW t' → w i = w' i) (i : S50176x2048.Idx) (ht' : t' < t + 1) (hi : i ∈ RW t') :
    dxW t O w i = dxW t O' w' i := by
  by_cases hc : t' < t
  · exact dxW_ag hO fun _ => hw t' i hc hi
  · have e : t' = t := by omega
    rw [e] at hi
    exact dxW_ag hO fun hn => absurd hi hn

attribute [local irreducible] dxW

theorem dx_ag {g t : ℕ} (h : Bg g t (Rows t 7) σ σ') :
    Bg g (t + 1) (fun _ => False) { σ with dx := dxW t σ.O σ.dx } { σ' with dx := dxW t σ'.O σ'.dx } := by
  constructor
  · exact h.cf
  · exact fun _ hf => hf.elim
  · exact h.dg
  · exact h.db
  · have a := h.O
    have b := h.dx
    clear h
    intro t' i ht' hi
    have := dx_ag' (t' := t') a b i ht' hi
    dsimp only
    exact this

theorem mem_rR {k : ℕ} {i : S16x128.Idx} : i ∈ (rR k).set ↔ (i 0).val = k % 16 := by
  rw [Rect.mem_set_unit]
  constructor
  · intro h; have := h 0; simp at this; omega
  · intro h a
    have h1 : (i 1).val < 128 := (i 1).isLt
    fin_cases a <;> simp <;> omega
theorem mem_rC {k : ℕ} {i : S6x8x128.Idx} : i ∈ (rC k).set ↔ (i 0).val = k % 6 := by
  rw [Rect.mem_set_unit]
  constructor
  · intro h; have := h 0; simp at this; omega
  · intro h a
    have h1 : (i 1).val < 8 := (i 1).isLt
    have h2 : (i 2).val < 128 := (i 2).isLt
    fin_cases a <;> simp <;> omega
theorem mem_rSA {i : S2x8x128.Idx} : i ∈ rSA.set := by
  rw [Rect.mem_set_unit]
  intro a
  have h0 : (i 0).val < 2 := (i 0).isLt
  have h1 : (i 1).val < 8 := (i 1).isLt
  have h2 : (i 2).val < 128 := (i 2).isLt
  fin_cases a <;> simp <;> omega

theorem finCf_ag (k : ℕ) (s1 s2 : BufS F) (cf cf' : S6x8x128.Idx → Elt F .f32) : finCf I k s1 s2 cf = finCf I k s1 s2 cf' := by
  funext i
  unfold finCf
  refine upd_ag _ _ fun h5 => upd_ag _ _ fun h4 => upd_ag _ _ fun h3 => upd_ag _ _ fun h2 => upd_ag _ _ fun h1 => upd_ag _ _ fun h0 => ?_
  rw [mem_rC] at h0 h1 h2 h3 h4 h5
  have h : (i 0).val < 6 := (i 0).isLt
  omega

theorem fin_ag {w k : ℕ} {P : S2x2x1792x128.Idx → Prop} (h : Ag n m σ σ') (hO : ∀ i, P i → σ.O i = σ'.O i)
    (hg : ∀ i, (i 0).val < 2 * k → σ.dg i = σ'.dg i) (hb : ∀ i, (i 0).val < 2 * k → σ.db i = σ'.db i)
    (hx : ∀ t i, t < w → i ∈ RW t → σ.dx i = σ'.dx i) :
    Ag n m (fin I k σ) (fin I k σ') ∧ Bg (2 * (k + 1)) w P (fin I k σ) (fin I k σ') := by
  refine ⟨⟨h.X, h.D, h.M, funext fun i => upd_ag _ _ fun hn => absurd mem_rSA hn, funext fun i => upd_ag _ _ fun hn => absurd mem_rSA hn⟩, ?_, hO, ?_, ?_, hx⟩
  · show finCf I k σ.s1 σ.s2 σ.cf = finCf I k σ'.s1 σ'.s2 σ'.cf
    rw [h.s1, h.s2]
    exact finCf_ag ..
  · intro i hi
    show finDg I k σ.s1 σ.s2 σ.dg i = finDg I k σ'.s1 σ'.s2 σ'.dg i
    rw [h.s1, h.s2]
    unfold finDg
    refine upd_ag _ _ fun h1 => upd_ag _ _ fun h0 => hg i ?_
    rw [mem_rR] at h0 h1
    have h : (i 0).val < 16 := (i 0).isLt
    omega
  · intro i hi
    show finDb I k σ.s1 σ.db i = finDb I k σ'.s1 σ'.db i
    rw [h.s1]
    unfold finDb
    refine upd_ag _ _ fun h1 => upd_ag _ _ fun h0 => hb i ?_
    rw [mem_rR] at h0 h1
    have h : (i 0).val < 16 := (i 0).isLt
    omega

attribute [local irreducible] fin it1

theorem mst_ag (t : ℕ) (h : Ag n 28 σ σ') : Ag n 28 (mst I t σ) (mst I t σ') := by
  unfold mst
  split
  · exact maskSt_ag' I h
  · exact h
theorem mst_ag' {g w : ℕ} {P : S2x2x1792x128.Idx → Prop} (t : ℕ) (h : Bg g w P σ σ') : Bg g w P (mst I t σ) (mst I t σ') := by
  unfold mst
  split
  · exact ⟨h.cf, h.O, h.dg, h.db, h.dx⟩
  · exact h

theorem step3_ag (v2 v4 : IVec S8x128 32) {t : ℕ} (h : Ag (min (t + 28) 31) 28 σ σ') (hb : Bg (2 * (t / 28 + 1)) t (fun _ => False) σ σ') :
    Ag (min (t + 1 + 28) 31) 28 (step3 I v2 v4 t σ) (step3 I v2 v4 t σ')
      ∧ Bg (2 * ((t + 1) / 28 + 1)) (t + 1) (fun _ => False) (step3 I v2 v4 t σ) (step3 I v2 v4 t σ') := by
  have a := mst_ag I t (waitSt_ag I h)
  have b : Bg (2 * (t / 28 + 1)) t (fun _ => False) (mst I t (waitSt I (t + 28) σ)) (mst I t (waitSt I (t + 28) σ')) :=
    mst_ag' I t ⟨hb.cf, hb.O, hb.dg, hb.db, hb.dx⟩
  have r := outRedN_ag (co3 σ.cf) v2 (k0_pay274 v4 (cnOf t)) (k0_pay275 v4 (cnOf t)) (t := t) (by omega) (by omega) a b 7 le_rfl
  have r1 : Ag (min (t + 1 + 28) 31) 28 (mid3 I v2 v4 t σ) (mid3 I v2 v4 t σ') := by
    unfold mid3; rw [← hb.cf, show t + 1 + 28 = t + 28 + 1 by omega]; exact r.1
  have r2 : Bg (2 * (t / 28 + 1)) t (Rows t 7) (mid3 I v2 v4 t σ) (mid3 I v2 v4 t σ') := by
    unfold mid3; rw [← hb.cf]; exact r.2
  have x : Bg (2 * (t / 28 + 1)) (t + 1) (fun _ => False) (wr3 I v2 v4 t σ) (wr3 I v2 v4 t σ') := by
    have y := dx_ag r2
    unfold wr3
    rw [show σ.dx = (mid3 I v2 v4 t σ).dx by unfold mid3; rw [outRedN_dx, mst_dx]; rfl,
      show σ'.dx = (mid3 I v2 v4 t σ').dx by unfold mid3; rw [outRedN_dx, mst_dx]; rfl]
    exact y
  have x1 : Ag (min (t + 1 + 28) 31) 28 (wr3 I v2 v4 t σ) (wr3 I v2 v4 t σ') := by
    unfold wr3
    generalize mid3 I v2 v4 t σ = p at r1 ⊢
    generalize mid3 I v2 v4 t σ' = p' at r1 ⊢
    exact ⟨r1.X, r1.D, r1.M, r1.s1, r1.s2⟩
  unfold step3
  split
  · have f := fin_ag I (k := t / 28 + 1) x1 x.O x.dg x.db x.dx
    rw [show (t + 1) / 28 + 1 = t / 28 + 1 + 1 by omega]
    exact f
  · rw [show (t + 1) / 28 + 1 = t / 28 + 1 by omega]
    exact ⟨x1, x⟩

theorem it3_ag (v2 v4 : IVec S8x128 32) (h : Ag 28 28 σ σ') (hb : Bg 2 0 (fun _ => False) σ σ') (t : ℕ) :
    Ag (min (t + 28) 31) 28 (it3 I v2 v4 σ t) (it3 I v2 v4 σ' t) ∧ Bg (2 * (t / 28 + 1)) t (fun _ => False) (it3 I v2 v4 σ t) (it3 I v2 v4 σ' t) := by
  induction t with
  | zero => exact ⟨h, hb⟩
  | succ t ih => rw [it3, it3]; exact step3_ag I v2 v4 ih.1 ih.2

theorem it5_ag {g : ℕ} (h : Ag 31 28 σ σ') (hb : Bg g 196 (fun _ => False) σ σ') (t : ℕ) :
    Ag 31 28 (it5 σ t) (it5 σ' t) ∧ Bg g (t + 196) (fun _ => False) (it5 σ t) (it5 σ' t) := by
  induction t with
  | zero => exact ⟨h, hb⟩
  | succ t ih =>
    obtain ⟨a, b⟩ := ih
    rw [it5, it5]
    generalize it5 σ t = τ at a b ⊢
    generalize it5 σ' t = τ' at a b ⊢
    have r := outN_ag (co5 τ.cf) (t := t + 196) (by omega) a b 7 le_rfl
    have y := dx_ag r.2
    unfold step5
    rw [← b.cf]
    refine ⟨⟨r.1.X, r.1.D, r.1.M, r.1.s1, r.1.s2⟩, ?_⟩
    rw [outN_dx, outN_dx] at y
    rw [show t + 1 + 196 = t + 196 + 1 by omega]
    exact y

attribute [local irreducible] it3 it5

/-- The kernel's results from any scratch are those from any other. -/
theorem run_ag (σ σ' : St F) : (run I σ).dg = (run I σ').dg ∧ (run I σ).db = (run I σ').db ∧ (run I σ).dx = (run I σ').dx := by
  unfold run
  have a0 : Ag 0 0 { σ with s1 := upd rSA k0_pay339 σ.s1, s2 := upd rSA k0_pay340 σ.s2 } { σ' with s1 := upd rSA k0_pay339 σ'.s1, s2 := upd rSA k0_pay340 σ'.s2 } :=
    ⟨fun i hi => absurd hi (Nat.not_lt_zero _), fun i hi => absurd hi (Nat.not_lt_zero _), fun i hi => absurd hi (Nat.not_lt_zero _),
      funext fun i => upd_ag _ _ fun hn => absurd mem_rSA hn, funext fun i => upd_ag _ _ fun hn => absurd mem_rSA hn⟩
  have a1 := it1_ag I k0_pay312 k0_pay313 a0 28 le_rfl
  have a2 := fin_ag (w := 0) (k := 0) (P := fun _ => False) I a1 (fun _ h => h.elim) (fun _ h => absurd h (Nat.not_lt_zero _)) (fun _ h => absurd h (Nat.not_lt_zero _))
    (fun _ _ h => absurd h (Nat.not_lt_zero _))
  have a3 := it3_ag I k0_pay312 k0_pay313 a2.1 a2.2 196
  have a4 := (it5_ag a3.1 a3.2 28).2
  refine ⟨funext fun i => a4.dg i (i 0).isLt, funext fun i => a4.db i (i 0).isLt, funext fun i => ?_⟩
  have h0 : (i 0).val < 50176 := (i 0).isLt
  have h1 : (i 1).val < 2048 := (i 1).isLt
  refine a4.dx (28 * ((i 1).val / 256) + (i 0).val / 1792) i (by omega) ?_
  simp only [Finset.mem_union, mem_rW]
  omega

end Red2

end Cert.Kernel.Hand
-- ==== Proof.Run.lean ====
/-
  The whole program: what its run leaves, and that its arguments end as they were.
-/
module

public import proofs.«01_k».proof.Proof.Agree
public import proofs.«01_k».proof.Proof.Gen.Kernel.Frame
public import Idealize.ShloMosaic.Lib.Pipeline.FrameSuffixV

@[expose] public section

set_option maxRecDepth 16384

noncomputable section

namespace Cert.Kernel.Hand

open Cert.Kernel Cert.Kernel.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg) (c : Dev nD)

attribute [local irreducible] run it1 it3 it5 fin redN outN outRedN grpD grpO grpS1 grpS2

/-! ## Ownership of whole operands -/

theorem own_of_owns {sp : Space} {s : Shape} {e : EltTy} (M : Memref sig .tc sp s e) (w : s.Idx → Elt F e) :
    (owns (c : Thread nD τ) M fullShare w : sProp 𝕄) ⊢ own c M Finset.univ w := by
  unfold owns own
  iintro ⟨%f, %hf, H⟩
  iexists f; isplitr
  · ipureintro; exact fun x _ => congrFun hf x
  iexact H
theorem owns_of_own {sp : Space} {s : Shape} {e : EltTy} (M : Memref sig .tc sp s e) (w : s.Idx → Elt F e) :
    (own c M Finset.univ w : sProp 𝕄) ⊢ owns (c : Thread nD τ) M fullShare w := by
  unfold owns own
  iintro ⟨%f, %hf, H⟩
  iexists f; isplitr
  · ipureintro; exact funext fun x => hf x (Finset.mem_univ x)
  iexact H
theorem own_of_pt (b : Ref sig .tc) (w : b.ty.Contents (Elt F)) :
    (((c : Thread nD τ).loc b) ↦{fullShare} w : sProp 𝕄) ⊢ own c (Memref.whole b) Finset.univ w := by
  rw [← owns_whole]; exact own_of_owns c _ _
theorem pt_of_own (b : Ref sig .tc) (w : b.ty.Contents (Elt F)) :
    (own c (Memref.whole b) Finset.univ w : sProp 𝕄) ⊢ ((c : Thread nD τ).loc b) ↦{fullShare} w := by
  rw [← owns_whole]; exact owns_of_own c _ _

/-! ## The kernel's operands and cells -/

/-- The operands the pipeline calls the kernel with. -/
def AA (t : Fin cfg0.N) : Args where
  a0 := win0_0.stage (cfg0.slots t 0)
  h0 := hstage0_0 0
  a1 := win0_1.stage (cfg0.slots t 1)
  h1 := hstage0_1 0
  a2 := Memref.whole main_v5
  h2 := Memref.isWhole_whole _
  a3 := Memref.whole main_v7
  h3 := Memref.isWhole_whole _
  a4 := Memref.whole main_v9
  h4 := Memref.isWhole_whole _
  a5 := win0_2.stage (cfg0.slots t 2)
  h5 := hstage0_2 0
  a6 := win0_3.stage (cfg0.slots t 3)
  h6 := hstage0_3 0
  a7 := win0_4.stage (cfg0.slots t 4)
  h7 := hstage0_4 0
  a8 := Memref.whole main_v13_0
  h8 := Memref.isWhole_whole _
  a9 := win0_5.stage (cfg0.slots t 5)
  h9 := hstage0_5 0
  a10 := win0_6.stage (cfg0.slots t 6)
  h10 := hstage0_6 0
  a11 := Memref.whole cc0_scratch0
  h11 := Memref.isWhole_whole _
  a12 := Memref.whole cc0_scratch1
  h12 := Memref.isWhole_whole _
  a13 := Memref.whole cc0_scratch2
  h13 := Memref.isWhole_whole _
  a14 := Memref.whole cc0_scratch3
  h14 := Memref.isWhole_whole _
  a15 := Memref.whole cc0_scratch4
  h15 := Memref.isWhole_whole _
  a16 := Memref.whole cc0_scratch5
  h16 := Memref.isWhole_whole _
  a17 := Memref.whole cc0_scratch6
  h17 := Memref.isWhole_whole _
  a18 := cc0_scratch7
  a19 := cc0_scratch8
  a20 := cc0_scratch9
  credit := by decide

/-- The kernel's cells: of the reads, of the mask's reads, of the writes. -/
abbrev osem0 : Fin 3 ⊕ (Fin 28 ⊕ Fin 2) → SemLoc sig :=
  Sum.elim (fun j => .dma ⟨7 + j.val, by have := j.isLt; show _ < 40; omega⟩)
    (Sum.elim (fun j => .dma ⟨10 + j.val, by have := j.isLt; show _ < 40; omega⟩) (fun j => .dma ⟨38 + j.val, by have := j.isLt; show _ < 40; omega⟩))
theorem ownSemFacts0 : Pipeline.OwnSemFacts spec0 osem0 := by decide +kernel

theorem rsem_eq (t : Fin cfg0.N) : ∀ j : Fin 3, rsem (AA t) j.val = ⟨7 + j.val, by have := j.isLt; show _ < 40; omega⟩ := fun j => by fin_cases j <;> rfl
theorem msem_eq (t : Fin cfg0.N) : ∀ j : Fin 28, msem (AA t) (0 + j.val) = ⟨10 + j.val, by have := j.isLt; show _ < 40; omega⟩ := fun j => by fin_cases j <;> rfl
theorem wsem_eq (t : Fin cfg0.N) : ∀ j : Fin 2, wsem (AA t) j.val = ⟨38 + j.val, by have := j.isLt; show _ < 40; omega⟩ := fun j => by fin_cases j <;> rfl

theorem ownSems0_eq (I : Ins F) (t : Fin cfg0.N) :
    (Pipeline.ownSems0 (Ix := Unit) (Name := ℕ) (U := Pipeline.UD sig nD τ) (Lvl := ℕ) (Val := Elt F) (τ := τ) osem0 c : sProp 𝕄)
      = iprop((semVal ((c : Thread nD τ), .dma (rsem (AA t) 0)) 0 ∗ semVal ((c : Thread nD τ), .dma (rsem (AA t) 1)) 0 ∗ semVal ((c : Thread nD τ), .dma (rsem (AA t) 2)) 0)
          ∗ MC (AA t) I c 0 0 0 ∗ semVal ((c : Thread nD τ), .dma (wsem (AA t) 0)) 0 ∗ semVal ((c : Thread nD τ), .dma (wsem (AA t) 1)) 0) := by
  unfold Pipeline.ownSems0 MC
  rw [bigSep_univ_sum, bigSep_univ_sum]
  have e1 : (fun j : Fin 28 => mcell (AA t) I c 0 0 (0 + j.val)) = fun j : Fin 28 => semVal ((c : Thread nD τ), .dma (⟨10 + j.val, by have := j.isLt; show _ < 40; omega⟩ : DmaSem sig)) 0 := by
    funext j
    unfold mcell
    rw [if_neg (by omega), msem_eq]
  have e2 := rsem_eq t 0
  have e3 := rsem_eq t 1
  have e4 := rsem_eq t 2
  have e5 := wsem_eq t 0
  have e6 := wsem_eq t 1
  rw [e1, show rsem (AA t) 0 = _ from e2, show rsem (AA t) 1 = _ from e3, show rsem (AA t) 2 = _ from e4, show wsem (AA t) 0 = _ from e5, show wsem (AA t) 1 = _ from e6]
  rw [bigSep_univ_eq_bigSepL [(0 : Fin 3), 1, 2] (by decide) (by decide), bigSep_univ_eq_bigSepL [(0 : Fin 2), 1] (by decide) (by decide)]
  rfl

/-! ## What the kernel is given and leaves -/

/-- What the kernel's operands hold. -/
def II : Ins F where
  xs := iblk m c 0 t0_0
  ys := iblk m c 1 t0_0
  x := V m c main_v5
  y := V m c main_v7
  km := V m c main_v9
  mean := iblk m c 2 t0_0
  rstd := iblk m c 3 t0_0
  gam := iblk m c 4 t0_0

/-- Some contents of the scratch and the results. -/
def σ₀ : St F where
  X := V m c cc0_scratch0
  D := V m c cc0_scratch1
  M := V m c cc0_scratch2
  O := V m c cc0_scratch3
  s1 := V m c cc0_scratch4
  s2 := V m c cc0_scratch5
  cf := V m c cc0_scratch6
  dg := V m c main_v13_1
  db := V m c main_v13_2
  dx := V m c main_v13_0

/-- What the kernel leaves, from that scratch. -/
def fs : St F := run (II m c) (σ₀ m c)

/-- The operands the kernel reads itself. -/
def H0 : Finset (Ref sig .tc) := {main_v5, main_v7, main_v9}
/-- The result the kernel writes itself. -/
def R0 : Finset (Ref sig .tc) := {main_v13_0}
theorem H0_sub : H0 ⊆ Pipeline.restRefs sig spec0 := by decide
theorem R0_sub : R0 ⊆ Pipeline.restRefs sig spec0 \ H0 := by decide

/-- The arrays after the kernel. -/
def GG (c : Dev nD) : (b : Ref sig .tc) → Buf (Elt F) ((c : Thread nD τ).loc b) := Function.update (V m c) main_v13_0 (fs m c).dx

theorem hmain (𝒱₀ : Variants) : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- What is held between the kernel's start and its end. -/
abbrev PhiV (G : (c : Dev nD) → (b : Ref sig .tc) → Buf (Elt F) ((c : Thread nD τ).loc b)) : sProp 𝕄 :=
  Pipeline.ΦDRV osem0 spec0 H0 R0 (V m) G c

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (fs m c).dg
    | ⟨6, _⟩ => (fs m c).db
  Φ k := if k.val = 0 then PhiV m c (V m) else PhiV m c (GG m)
  q _ := fullShare
  owed _ := 0

theorem A_eq (c : Dev nD) (w : Fin cfg0.W) : (dats m 0 c).A w = V m c (Pipeline.arrRef spec0 w) := by
  dsimp only [dats]

theorem PhiV_eq (G : (c : Dev nD) → (b : Ref sig .tc) → Buf (Elt F) ((c : Thread nD τ).loc b)) (I : Ins F) (t : Fin cfg0.N) :
    PhiV m c G = iprop(((∃ f : BufX F, ((c : Thread nD τ).loc cc0_scratch0) ↦{fullShare} f) ∗ (∃ f : BufD F, ((c : Thread nD τ).loc cc0_scratch1) ↦{fullShare} f)
        ∗ (∃ f : BufM F, ((c : Thread nD τ).loc cc0_scratch2) ↦{fullShare} f) ∗ (∃ f : BufO F, ((c : Thread nD τ).loc cc0_scratch3) ↦{fullShare} f)
        ∗ (∃ f : BufS F, ((c : Thread nD τ).loc cc0_scratch4) ↦{fullShare} f) ∗ (∃ f : BufS F, ((c : Thread nD τ).loc cc0_scratch5) ↦{fullShare} f)
        ∗ (∃ f : S6x8x128.Idx → Elt F .f32, ((c : Thread nD τ).loc cc0_scratch6) ↦{fullShare} f))
      ∗ ((semVal ((c : Thread nD τ), .dma (rsem (AA t) 0)) 0 ∗ semVal ((c : Thread nD τ), .dma (rsem (AA t) 1)) 0 ∗ semVal ((c : Thread nD τ), .dma (rsem (AA t) 2)) 0)
          ∗ MC (AA t) I c 0 0 0 ∗ semVal ((c : Thread nD τ), .dma (wsem (AA t) 0)) 0 ∗ semVal ((c : Thread nD τ), .dma (wsem (AA t) 1)) 0)
      ∗ ((((c : Thread nD τ).loc main_v5) ↦{fullShare} V m c main_v5) ∗ (((c : Thread nD τ).loc main_v7) ↦{fullShare} V m c main_v7) ∗ (((c : Thread nD τ).loc main_v9) ↦{fullShare} V m c main_v9))
      ∗ (((c : Thread nD τ).loc main_v13_0) ↦{fullShare} G c main_v13_0)) := by
  unfold PhiV Pipeline.ΦDRV
  rw [scopedRest0_eq, ownSems0_eq c I t, show H0 = {main_v5, main_v7, main_v9} from rfl, show R0 = {main_v13_0} from rfl, bigSep_singleton,
    BI.bigSep_eq_bigSepL_of_eq [main_v5, main_v7, main_v9] (by decide) (by decide)]
  rfl

abbrev ms0 (t : Fin cfg0.N) := win0_0.stage (cfg0.slots t 0)
abbrev ms1 (t : Fin cfg0.N) := win0_1.stage (cfg0.slots t 1)
abbrev ms2 (t : Fin cfg0.N) := win0_2.stage (cfg0.slots t 2)
abbrev ms3 (t : Fin cfg0.N) := win0_3.stage (cfg0.slots t 3)
abbrev ms4 (t : Fin cfg0.N) := win0_4.stage (cfg0.slots t 4)
abbrev ms5 (t : Fin cfg0.N) := win0_5.stage (cfg0.slots t 5)
abbrev ms6 (t : Fin cfg0.N) := win0_6.stage (cfg0.slots t 6)

theorem before_0 (t : Fin cfg0.N) (d) : (dats m 0 c).before 0 t d = iblk m c 0 t :=
  ((dats m 0 c).before_in_eq_fetched 0 rfl (fun _ => rfl) (fun _ _ _ => rfl) (fun t => rfl) t d).trans rfl
theorem before_1 (t : Fin cfg0.N) (d) : (dats m 0 c).before 1 t d = iblk m c 1 t :=
  ((dats m 0 c).before_in_eq_fetched 1 rfl (fun _ => rfl) (fun _ _ _ => rfl) (fun t => rfl) t d).trans rfl
theorem before_2 (t : Fin cfg0.N) (d) : (dats m 0 c).before 2 t d = iblk m c 2 t :=
  ((dats m 0 c).before_in_eq_fetched 2 rfl (fun _ => rfl) (fun _ _ _ => rfl) (fun t => rfl) t d).trans rfl
theorem before_3 (t : Fin cfg0.N) (d) : (dats m 0 c).before 3 t d = iblk m c 3 t :=
  ((dats m 0 c).before_in_eq_fetched 3 rfl (fun _ => rfl) (fun _ _ _ => rfl) (fun t => rfl) t d).trans rfl
theorem before_4 (t : Fin cfg0.N) (d) : (dats m 0 c).before 4 t d = iblk m c 4 t :=
  ((dats m 0 c).before_in_eq_fetched 4 rfl (fun _ => rfl) (fun _ _ _ => rfl) (fun t => rfl) t d).trans rfl

def bodyPre (t : Fin cfg0.N) : sProp 𝕄 :=
  iprop((dats m 0 c).Φ t.castSucc ∗ (dats m 0 c).owesAt () t.castSucc
    ∗ (∃ d, owns (c : Thread nD τ) (ms0 t) fullShare ((dats m 0 c).before 0 t d)) ∗ (∃ d, owns (c : Thread nD τ) (ms1 t) fullShare ((dats m 0 c).before 1 t d))
    ∗ (∃ d, owns (c : Thread nD τ) (ms2 t) fullShare ((dats m 0 c).before 2 t d)) ∗ (∃ d, owns (c : Thread nD τ) (ms3 t) fullShare ((dats m 0 c).before 3 t d))
    ∗ (∃ d, owns (c : Thread nD τ) (ms4 t) fullShare ((dats m 0 c).before 4 t d)) ∗ (∃ d, owns (c : Thread nD τ) (ms5 t) fullShare ((dats m 0 c).before 5 t d))
    ∗ (∃ d, owns (c : Thread nD τ) (ms6 t) fullShare ((dats m 0 c).before 6 t d)))
def bodyPost (t : Fin cfg0.N) : sProp 𝕄 :=
  iprop((dats m 0 c).Φ t.succ ∗ (dats m 0 c).owesAt () t.succ
    ∗ owns (c : Thread nD τ) (ms0 t) fullShare ((dats m 0 c).after 0 t) ∗ owns (c : Thread nD τ) (ms1 t) fullShare ((dats m 0 c).after 1 t)
    ∗ owns (c : Thread nD τ) (ms2 t) fullShare ((dats m 0 c).after 2 t) ∗ owns (c : Thread nD τ) (ms3 t) fullShare ((dats m 0 c).after 3 t)
    ∗ owns (c : Thread nD τ) (ms4 t) fullShare ((dats m 0 c).after 4 t) ∗ owns (c : Thread nD τ) (ms5 t) fullShare ((dats m 0 c).after 5 t)
    ∗ owns (c : Thread nD τ) (ms6 t) fullShare ((dats m 0 c).after 6 t))

theorem sound_body (t : Fin cfg0.N) :
    bodyPre m c t ⊢ wp frame (wpE (defs₀ (F := F)) Variants.none c none) Set.univ (bodyAt0 t) (fun _ => bodyPost m c t) := by
  obtain rfl := fin_N0 t
  unfold bodyPre bodyPost bodyAt0
  rw [show (dats m 0 c).Φ t0_0.castSucc = PhiV m c (V m) from rfl, show (dats m 0 c).Φ t0_0.succ = PhiV m c (GG m) from rfl,
    PhiV_eq m c (V m) (II m c) t0_0, PhiV_eq m c (GG m) (II m c) t0_0]
  unfold Dat.owesAt Pipeline.owesWithin
  rw [show (dats m 0 c).owed t0_0.castSucc = 0 from rfl, show (dats m 0 c).owed t0_0.succ = 0 from rfl]
  simp only [before_0, before_1, before_2, before_3, before_4]
  iintro ⟨⟨⟨⟨%X, H11⟩, ⟨%D, H12⟩, ⟨%M, H13⟩, ⟨%O, H14⟩, ⟨%s1, H15⟩, ⟨%s2, H16⟩, ⟨%cf, H17⟩⟩, ⟨⟨R0, R1, R2⟩, HM, W0, W1⟩, ⟨H2, H3, H4⟩, H8⟩, ⟨%W, -, HW⟩,
    ⟨%d0, H0⟩, ⟨%d1, H1⟩, ⟨%d2, H5⟩, ⟨%d3, H6⟩, ⟨%d4, H7⟩, ⟨%d5, H9⟩, ⟨%d6, H10⟩⟩
  have ag := run_ag (II m c) ⟨X, D, M, O, s1, s2, cf, (dats m 0 c).before 5 t0_0 d5, (dats m 0 c).before 6 t0_0 d6, V m c main_v13_0⟩ (σ₀ m c)
  iapply (wp_cut c _ _) $$ [H11 H12 H13 H14 H15 H16 H17 R0 R1 R2 HM W0 W1 H2 H3 H4 H8 HW H0 H1 H5 H6 H7 H9 H10]
  · iapply (wp_kernel (AA t0_0) (II m c) c ⟨X, D, M, O, s1, s2, cf, (dats m 0 c).before 5 t0_0 d5, (dats m 0 c).before 6 t0_0 d6, V m c main_v13_0⟩)
    unfold Res Idle Inp owing
    dsimp only
    isplitl [HW]; · iexists W; iexact HW
    isplitl [H2 H3 H4 H13 R0 R1 R2 HM H15 H16 H9 H10 H0 H1 H5 H6 H7]
    · isplitl [H2]; · iapply (own_of_pt c main_v5 _); iexact H2
      isplitl [H3]; · iapply (own_of_pt c main_v7 _); iexact H3
      isplitl [H4]; · iapply (own_of_pt c main_v9 _); iexact H4
      isplitl [H13]; · iapply (own_of_pt c cc0_scratch2 _); iexact H13
      isplitl [R0]; · iexact R0
      isplitl [R1]; · iexact R1
      isplitl [R2]; · iexact R2
      isplitl [HM]; · iexact HM
      isplitl [H15]; · iapply (own_of_pt c cc0_scratch4 _); iexact H15
      isplitl [H16]; · iapply (own_of_pt c cc0_scratch5 _); iexact H16
      isplitl [H9]; · iapply (own_of_owns c (ms5 t0_0) _); iexact H9
      isplitl [H10]; · iapply (own_of_owns c (ms6 t0_0) _); iexact H10
      isplitl [H0]; · iapply (own_of_owns c (ms0 t0_0) _); iexact H0
      isplitl [H1]; · iapply (own_of_owns c (ms1 t0_0) _); iexact H1
      isplitl [H5]; · iapply (own_of_owns c (ms2 t0_0) _); iexact H5
      isplitl [H6]; · iapply (own_of_owns c (ms3 t0_0) _); iexact H6
      iapply (own_of_owns c (ms4 t0_0) _); iexact H7
    isplitl [H12]; · iapply (own_of_pt c cc0_scratch1 _); iexact H12
    isplitl [H11]; · iapply (own_of_pt c cc0_scratch0 _); iexact H11
    isplitl [H8]; · iapply (own_of_pt c main_v13_0 _); iexact H8
    isplitl [H14]; · iapply (own_of_pt c cc0_scratch3 _); iexact H14
    isplitl [W0]; · iexact W0
    isplitl [W1]; · iexact W1
    iapply (own_of_pt c cc0_scratch6 _); iexact H17
  iintro %r HR
  have eg : (dats m 0 c).after 5 t0_0 = (fs m c).dg := rfl
  have eb : (dats m 0 c).after 6 t0_0 = (fs m c).db := rfl
  have ex : GG m c main_v13_0 = (fs m c).dx := by unfold GG; exact Function.update_self ..
  rw [eg, eb, ex]
  unfold fs
  rw [← ag.1, ← ag.2.1, ← ag.2.2]
  generalize run (II m c) ⟨X, D, M, O, s1, s2, cf, (dats m 0 c).before 5 t0_0 d5, (dats m 0 c).before 6 t0_0 d6, V m c main_v13_0⟩ = σ
  unfold Res Idle Inp owing
  icases HR with ⟨⟨%W', HW⟩, ⟨H2, H3, H4, H13, R0, R1, R2, HM, H15, H16, H9, H10, H0, H1, H5, H6, H7⟩, H12, H11, H8, H14, W0, W1, H17⟩
  isplitl [H2 H3 H4 H13 R0 R1 R2 HM H15 H16 H12 H11 H8 H14 W0 W1 H17]
  · isplitl [H11 H12 H13 H14 H15 H16 H17]
    · isplitl [H11]; · iexists _; iapply (pt_of_own c cc0_scratch0 _); iexact H11
      isplitl [H12]; · iexists _; iapply (pt_of_own c cc0_scratch1 _); iexact H12
      isplitl [H13]; · iexists _; iapply (pt_of_own c cc0_scratch2 _); iexact H13
      isplitl [H14]; · iexists _; iapply (pt_of_own c cc0_scratch3 _); iexact H14
      isplitl [H15]; · iexists _; iapply (pt_of_own c cc0_scratch4 _); iexact H15
      isplitl [H16]; · iexists _; iapply (pt_of_own c cc0_scratch5 _); iexact H16
      iexists _; iapply (pt_of_own c cc0_scratch6 _); iexact H17
    isplitl [R0 R1 R2 HM W0 W1]
    · isplitl [R0 R1 R2]
      · isplitl [R0]; · iexact R0
        isplitl [R1]; · iexact R1
        iexact R2
      isplitl [HM]; · iexact HM
      isplitl [W0]; · iexact W0
      iexact W1
    isplitl [H2 H3 H4]
    · isplitl [H2]; · iapply (pt_of_own c main_v5 _); iexact H2
      isplitl [H3]; · iapply (pt_of_own c main_v7 _); iexact H3
      iapply (pt_of_own c main_v9 _); iexact H4
    iapply (pt_of_own c main_v13_0 _); iexact H8
  isplitl [HW]
  · iexists W'; isplitr; · ipureintro; exact fun _ _ => Or.inl trivial
    iexact HW
  isplitl [H0]; · iapply (owns_of_own c (ms0 t0_0) _); iexact H0
  isplitl [H1]; · iapply (owns_of_own c (ms1 t0_0) _); iexact H1
  isplitl [H5]; · iapply (owns_of_own c (ms2 t0_0) _); iexact H5
  isplitl [H6]; · iapply (owns_of_own c (ms3 t0_0) _); iexact H6
  isplitl [H7]; · iapply (owns_of_own c (ms4 t0_0) _); iexact H7
  isplitl [H9]; · iapply (owns_of_own c (ms5 t0_0) _); iexact H9
  iapply (owns_of_own c (ms6 t0_0) _); iexact H10

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- The arrays after the whole program. -/
def WW (c : Dev nD) : Valuation τ sig (Elt F) :=
  StableHlo.after (List.flatten [hostOps1]) (Pipeline.withArrays spec0 c (Pipeline.withR (V0 m c) R0 c (GG m c)) fun w => (dats m 0 c).arrAt w cfg0.N)

set_option maxHeartbeats 800000 in
set_option backward.isDefEq.respectTransparency.types false in
/-- What the run leaves in every array that is no window's, and in every cell. -/
theorem run_main : θ_run defs (onTc (τ := τ) (main (F := F))) (s₀ m ρ) (fun r =>
    (∀ c : Dev nD, ∀ b ∈ Pipeline.restRefs sig spec0, r.2.mem ((c.tc : Thread nD τ).loc b) = WW m c (Proc.devRef .tc b)) ∧ r.2.sem = fun _ => 0) :=
  Pipeline.θ_run_frame_dmaR_aroundV (Q' := _) cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps) (G := GG m)
    (hmain := hmain m Variants.none) (hA := A_eq m)
    (hin := fun _ => .rfl) (hout := fun c => .rfl) (hQ' := fun r h => ⟨fun c => (h.1 c).2, h.2⟩)

theorem WW_of {b : Ref sig .tc} (h0 : (hostOps0 : List (HloOp τ sig (Elt F))).Forall fun op => Proc.devRef .tc b ∉ op.writes)
    (h1 : (hostOps1 : List (HloOp τ sig (Elt F))).Forall fun op => Proc.devRef .tc b ∉ op.writes)
    (hw : ∀ w, Pipeline.arrRef spec0 w ≠ b) (hr : b ∉ R0) (c : Dev nD) :
    WW m c (Proc.devRef .tc b) = m ((c : Thread nD τ).loc b) := by
  unfold WW
  rw [StableHlo.after_of_forall_not_mem (b := Proc.devRef .tc b) _ _ (List.forall_iff_forall_mem.mp (by
      simpa only [List.flatten_cons, List.flatten_nil, List.append_nil] using h1)),
    Pipeline.withArrays_of_ne _ c _ _ b hw, Pipeline.withR_of_not_mem _ _ _ _ b hr]
  exact StableHlo.after_of_forall_not_mem (b := Proc.devRef .tc b) _ _ (List.forall_iff_forall_mem.mp (by
      simpa only [List.flatten_cons, List.flatten_nil, List.append_nil] using h0))

theorem WW_arg {b : Ref sig .tc} (hb : b ∈ [main_arg0, main_arg1, main_arg2, main_arg3, main_arg4, main_arg5, main_arg6, main_arg7]) (c : Dev nD) :
    WW m c (Proc.devRef .tc b) = m ((c : Thread nD τ).loc b) := by
  simp only [List.mem_cons, List.mem_nil_iff, or_false] at hb
  rcases hb with rfl | rfl | rfl | rfl | rfl | rfl | rfl | rfl
  all_goals
    refine WW_of m ?_ ?_ (by decide) (by decide) c
    all_goals
      simp only [hostOps0, hostOps1, List.Forall, StableHlo.unary_writes, StableHlo.reshape_writes, Finset.mem_singleton]
      repeat' apply And.intro
      all_goals exact StableHlo.devRef_ne_of_ne (by decide)

/-- The program ends, its arguments as they were, and every counter zero. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun _ h => ⟨fun c =>
      ⟨(h.1 c main_arg0 (Pipeline.mem_restRefs_of main_arg0 (by decide) (by decide))).trans (WW_arg m (by decide) c),
      (h.1 c main_arg1 (Pipeline.mem_restRefs_of main_arg1 (by decide) (by decide))).trans (WW_arg m (by decide) c),
      (h.1 c main_arg2 (Pipeline.mem_restRefs_of main_arg2 (by decide) (by decide))).trans (WW_arg m (by decide) c),
      (h.1 c main_arg3 (Pipeline.mem_restRefs_of main_arg3 (by decide) (by decide))).trans (WW_arg m (by decide) c),
      (h.1 c main_arg4 (Pipeline.mem_restRefs_of main_arg4 (by decide) (by decide))).trans (WW_arg m (by decide) c),
      (h.1 c main_arg5 (Pipeline.mem_restRefs_of main_arg5 (by decide) (by decide))).trans (WW_arg m (by decide) c),
      (h.1 c main_arg6 (Pipeline.mem_restRefs_of main_arg6 (by decide) (by decide))).trans (WW_arg m (by decide) c),
      (h.1 c main_arg7 (Pipeline.mem_restRefs_of main_arg7 (by decide) (by decide))).trans (WW_arg m (by decide) c)⟩, h.2⟩) (run_main m ρ)

end Cert.Kernel.Hand
-- ==== Proof.IdealModel.lean ====
/-
  The kernel's row groups as programs of eight tiles. The printed loop bodies list every load and store of a
  256-row group one after the other; the programs here say the same in one tile and eight calls of it, and the printed
  bodies are these programs by definitional unfolding.
-/
module

public import proofs.«01_k».proof.Proof.Gen.KernelIdeal.Skeleton

@[expose] public section

noncomputable section

namespace Cert.KernelIdeal.Hand

open Cert.KernelIdeal Cert.KernelIdeal.Gen
open Idealize.ShloMosaic Idealize.SL.Sem

variable {F : FTy → Type} [FloatOps F]

/-- One tile of the masked reduction: the mask's bytes, the cotangents and the inputs are read, and the cotangents are
    written back masked. -/
def redTile (mM : Memref sig .tc .vmem S28x1792x128 .i8) (dM : Memref sig .tc .vmem S31x1792x256 .fp8e5m2)
    (xM : Memref sig .tc .vmem S31x1792x256 .fp8e4m3) (v2 lb : IVec S8x128 32) (oM oD : Fin 3 → Nat)
    (hM : ∀ a, oM a + S1x32x128.size a ≤ S28x1792x128.size a) (hD : ∀ a, oD a + S1x32x128.size a ≤ S31x1792x256.size a)
    (hst : (dM.access (Rect.unit (s := S31x1792x256) oD S1x32x128.size hD)).Stores Finset.univ) :
    Prog (TpuEff nD τ sig (Elt F) Λ₀ .tc) (Σ' (_ : FVec F S32x128 .fp8e5m2), Vec F S1x32x128 .fp8e4m3) := do
  let m : Vec F S1x32x128 .i8 ← Prog.lift (.load mM (Rect.unit (s := S28x1792x128) oM S1x32x128.size hM).toLoadRect (View.loadsAt_vmem h_S1x32x128))
  let d : Vec F S1x32x128 .fp8e5m2 ← Prog.lift (.load dM (Rect.unit (s := S31x1792x256) oD S1x32x128.size hD).toLoadRect (View.loadsAt_vmem h_S1x32x128))
  let _ : Vec F S1x32x128 .fp8e5m2 ← Prog.lift (.load dM (Rect.unit (s := S31x1792x256) oD S1x32x128.size hD).toLoadRect (View.loadsAt_vmem h_S1x32x128))
  Prog.lift (.store dM (Rect.unit (s := S31x1792x256) oD S1x32x128.size hD) (k0_pay2 v2 lb m d) Finset.univ hst (.inl rfl))
  let x : Vec F S1x32x128 .fp8e4m3 ← Prog.lift (.load xM (Rect.unit (s := S31x1792x256) oD S1x32x128.size hD).toLoadRect (View.loadsAt_vmem h_S1x32x128))
  pure ⟨k0_pay1 v2 lb m d, x⟩

/-- A tile's products, at f32. -/
def prodT (md : FVec F S32x128 .fp8e5m2) (x : Vec F S1x32x128 .fp8e4m3) : FVec F S32x128 .f32 :=
  mulf (extf .f32 (k0_pay9 md) bitsLt_bf16_f32)
    (extf .f32 (extf .bf16 (shapeCast S32x128 x shapeCasts_S1x32x128_S32x128) bitsLt_fp8e4m3_bf16) bitsLt_bf16_f32)

/-- One row of a running block of eight sums added to what the array of sums holds. -/
def addS (q : FVec F S8x128 .f32) (v : Vec F S1x8x128 .f32) : FVec F S1x8x128 .f32 :=
  shapeCast S1x8x128 (addf (shapeCast S8x128 v shapeCasts_S1x8x128_S8x128) q) shapeCasts_S8x128_S1x8x128

/-- The masked reduction of one group of 256 rows of 128 channels: eight tiles, their sums added to the two arrays. -/
def redCol (mM : Memref sig .tc .vmem S28x1792x128 .i8) (dM : Memref sig .tc .vmem S31x1792x256 .fp8e5m2)
    (xM : Memref sig .tc .vmem S31x1792x256 .fp8e4m3) (s1M s2M : Memref sig .tc .vmem S2x8x128 .f32)
    (v2 lb : IVec S8x128 32) (oM oD : BitVec 32 → Fin 3 → Nat) (oS : Fin 3 → Nat)
    (hM : ∀ r : Fin 8, ∀ a, oM (BitVec.ofNat 32 (32 * r.val)) a + S1x32x128.size a ≤ S28x1792x128.size a)
    (hD : ∀ r : Fin 8, ∀ a, oD (BitVec.ofNat 32 (32 * r.val)) a + S1x32x128.size a ≤ S31x1792x256.size a)
    (hS : ∀ a, oS a + S1x8x128.size a ≤ S2x8x128.size a)
    (hst : ∀ r : Fin 8, (dM.access (Rect.unit (s := S31x1792x256) (oD (BitVec.ofNat 32 (32 * r.val))) S1x32x128.size (hD r))).Stores Finset.univ) :
    Prog (TpuEff nD τ sig (Elt F) Λ₀ .tc) Unit := do
  let ⟨d0, x0⟩ ← redTile mM dM xM v2 lb (oM 0#32) (oD 0#32) (hM 0) (hD 0) (hst 0)
  let ⟨d1, x1⟩ ← redTile mM dM xM v2 lb (oM 32#32) (oD 32#32) (hM 1) (hD 1) (hst 1)
  let ⟨d2, x2⟩ ← redTile mM dM xM v2 lb (oM 64#32) (oD 64#32) (hM 2) (hD 2) (hst 2)
  let ⟨d3, x3⟩ ← redTile mM dM xM v2 lb (oM 96#32) (oD 96#32) (hM 3) (hD 3) (hst 3)
  let ⟨d4, x4⟩ ← redTile mM dM xM v2 lb (oM 128#32) (oD 128#32) (hM 4) (hD 4) (hst 4)
  let ⟨d5, x5⟩ ← redTile mM dM xM v2 lb (oM 160#32) (oD 160#32) (hM 5) (hD 5) (hst 5)
  let ⟨d6, x6⟩ ← redTile mM dM xM v2 lb (oM 192#32) (oD 192#32) (hM 6) (hD 6) (hst 6)
  let ⟨d7, x7⟩ ← redTile mM dM xM v2 lb (oM 224#32) (oD 224#32) (hM 7) (hD 7) (hst 7)
  let a : Vec F S1x8x128 .f32 ← Prog.lift (.load s1M (Rect.unit (s := S2x8x128) oS S1x8x128.size hS).toLoadRect (View.loadsAt_vmem h_S1x8x128))
  let _ : Vec F S1x8x128 .f32 ← Prog.lift (.load s1M (Rect.unit (s := S2x8x128) oS S1x8x128.size hS).toLoadRect (View.loadsAt_vmem h_S1x8x128))
  Prog.lift (.store s1M (Rect.unit (s := S2x8x128) oS S1x8x128.size hS)
    (addS (k0_pay11 (k0_pay11 (k0_pay11 (k0_pay11 (k0_pay11 (k0_pay11 (k0_pay11 (k0_pay6 (k0_pay9 d0)) d1) d2) d3) d4) d5) d6) d7) a) Finset.univ (View.stores_vmem_bits_univ h_S1x8x128 rfl) (.inl rfl))
  let b : Vec F S1x8x128 .f32 ← Prog.lift (.load s2M (Rect.unit (s := S2x8x128) oS S1x8x128.size hS).toLoadRect (View.loadsAt_vmem h_S1x8x128))
  let _ : Vec F S1x8x128 .f32 ← Prog.lift (.load s2M (Rect.unit (s := S2x8x128) oS S1x8x128.size hS).toLoadRect (View.loadsAt_vmem h_S1x8x128))
  Prog.lift (.store s2M (Rect.unit (s := S2x8x128) oS S1x8x128.size hS)
    (addS (k0_pay10 (k0_pay10 (k0_pay10 (k0_pay10 (k0_pay10 (k0_pay10 (k0_pay10 (k0_pay5 (prodT d0 x0)) d1 x1) d2 x2) d3 x3) d4 x4) d5 x5) d6 x6) d7 x7) b) Finset.univ (View.stores_vmem_bits_univ h_S1x8x128 rfl) (.inl rfl))
  pure ⟨⟩

/-- One tile of the input gradient. -/
def dxTile (dM : Memref sig .tc .vmem S31x1792x256 .fp8e5m2) (xM : Memref sig .tc .vmem S31x1792x256 .fp8e4m3)
    (oMr : Memref sig .tc .vmem S2x2x1792x128 .bf16) (a b e : FVec F S32x128 .f32) (oD : Fin 3 → Nat) (oO : Fin 4 → Nat)
    (hD : ∀ a, oD a + S1x32x128.size a ≤ S31x1792x256.size a) (hO : ∀ a, oO a + S1x1x32x128.size a ≤ S2x2x1792x128.size a)
    (hst : (oMr.access (Rect.unit (s := S2x2x1792x128) oO S1x1x32x128.size hO)).Stores Finset.univ) : Prog (TpuEff nD τ sig (Elt F) Λ₀ .tc) Unit := do
  let d : Vec F S1x32x128 .fp8e5m2 ← Prog.lift (.load dM (Rect.unit (s := S31x1792x256) oD S1x32x128.size hD).toLoadRect (View.loadsAt_vmem h_S1x32x128))
  let x : Vec F S1x32x128 .fp8e4m3 ← Prog.lift (.load xM (Rect.unit (s := S31x1792x256) oD S1x32x128.size hD).toLoadRect (View.loadsAt_vmem h_S1x32x128))
  let _ : Vec F S1x1x32x128 .bf16 ← Prog.lift (.load oMr (Rect.unit (s := S2x2x1792x128) oO S1x1x32x128.size hO).toLoadRect (View.loadsAt_vmem h_S1x1x32x128))
  Prog.lift (.store oMr (Rect.unit (s := S2x2x1792x128) oO S1x1x32x128.size hO) (k0_pay284 a b e d x) Finset.univ hst (.inl rfl))

/-- The input gradient of one group of 256 rows of 128 channels. -/
def dxCol (dM : Memref sig .tc .vmem S31x1792x256 .fp8e5m2) (xM : Memref sig .tc .vmem S31x1792x256 .fp8e4m3)
    (oMr : Memref sig .tc .vmem S2x2x1792x128 .bf16) (a b e : FVec F S32x128 .f32) (oD : BitVec 32 → Fin 3 → Nat) (oO : BitVec 32 → Fin 4 → Nat)
    (hD : ∀ r : Fin 8, ∀ a, oD (BitVec.ofNat 32 (32 * r.val)) a + S1x32x128.size a ≤ S31x1792x256.size a)
    (hO : ∀ r : Fin 8, ∀ a, oO (BitVec.ofNat 32 (32 * r.val)) a + S1x1x32x128.size a ≤ S2x2x1792x128.size a)
    (hst : ∀ r : Fin 8, (oMr.access (Rect.unit (s := S2x2x1792x128) (oO (BitVec.ofNat 32 (32 * r.val))) S1x1x32x128.size (hO r))).Stores Finset.univ) :
    Prog (TpuEff nD τ sig (Elt F) Λ₀ .tc) Unit := do
  dxTile dM xM oMr a b e (oD 0#32) (oO 0#32) (hD 0) (hO 0) (hst 0)
  dxTile dM xM oMr a b e (oD 32#32) (oO 32#32) (hD 1) (hO 1) (hst 1)
  dxTile dM xM oMr a b e (oD 64#32) (oO 64#32) (hD 2) (hO 2) (hst 2)
  dxTile dM xM oMr a b e (oD 96#32) (oO 96#32) (hD 3) (hO 3) (hst 3)
  dxTile dM xM oMr a b e (oD 128#32) (oO 128#32) (hD 4) (hO 4) (hst 4)
  dxTile dM xM oMr a b e (oD 160#32) (oO 160#32) (hD 5) (hO 5) (hst 5)
  dxTile dM xM oMr a b e (oD 192#32) (oO 192#32) (hD 6) (hO 6) (hst 6)
  dxTile dM xM oMr a b e (oD 224#32) (oO 224#32) (hD 7) (hO 7) (hst 7)

end Cert.KernelIdeal.Hand
-- ==== Proof.IdealBodies.lean ====
/-
  The printed bodies of the kernel's three inner loops are the programs of eight tiles of the model.
-/
module

public import proofs.«01_k».proof.Proof.IdealModel

@[expose] public section

noncomputable section

namespace Cert.KernelIdeal.Hand

open Cert.KernelIdeal Cert.KernelIdeal.Gen
open Idealize.ShloMosaic Idealize.SL.Sem

variable {F : FTy → Type} [FloatOps F]

set_option maxRecDepth 65536 in
theorem k0_t6_body_eq (arg0 : Memref sig .tc .smem S1 .f32) (harg0 : arg0.IsWhole) (arg1 : Memref sig .tc .smem S1 .f32) (harg1 : arg1.IsWhole) (arg2 : Memref sig .tc .hbm S50176x2048 .fp8e4m3) (harg2 : arg2.IsWhole) (arg3 : Memref sig .tc .hbm S50176x2048 .fp8e5m2) (harg3 : arg3.IsWhole) (arg4 : Memref sig .tc .hbm S50176x256 .i8) (harg4 : arg4.IsWhole) (arg5 : Memref sig .tc .vmem S16x128 .f32) (harg5 : arg5.IsWhole) (arg6 : Memref sig .tc .vmem S16x128 .f32) (harg6 : arg6.IsWhole) (arg7 : Memref sig .tc .vmem S16x128 .f32) (harg7 : arg7.IsWhole) (arg8 : Memref sig .tc .hbm S50176x2048 .bf16) (harg8 : arg8.IsWhole) (arg9 : Memref sig .tc .vmem S16x128 .f32) (harg9 : arg9.IsWhole) (arg10 : Memref sig .tc .vmem S16x128 .f32) (harg10 : arg10.IsWhole) (arg11 : Memref sig .tc .vmem S31x1792x256 .fp8e4m3) (harg11 : arg11.IsWhole) (arg12 : Memref sig .tc .vmem S31x1792x256 .fp8e5m2) (harg12 : arg12.IsWhole) (arg13 : Memref sig .tc .vmem S28x1792x128 .i8) (harg13 : arg13.IsWhole) (arg14 : Memref sig .tc .vmem S2x2x1792x128 .bf16) (harg14 : arg14.IsWhole) (arg15 : Memref sig .tc .vmem S2x8x128 .f32) (harg15 : arg15.IsWhole) (arg16 : Memref sig .tc .vmem S2x8x128 .f32) (harg16 : arg16.IsWhole) (arg17 : Memref sig .tc .vmem S6x8x128 .f32) (harg17 : arg17.IsWhole) (arg18 : DmaSems sig S3) (arg19 : DmaSems sig S28) (arg20 : DmaSems sig S2) (c0_i32_150 : BitVec 32) (c1_i32_152 : BitVec 32) (k0_t5 : Fin k0_t5_loop.trips) (v318 : BitVec 32) (v319 : BitVec 32) (v341 : FVec F S32x128 .f32) (v345 : FVec F S32x128 .f32) (v349 : FVec F S32x128 .f32) (v350 : Vec F S1x1x128 .f32) (v354 : Vec F S1x1x128 .f32) (v358 : Vec F S1x1x128 .f32) (u : Fin k0_t6_loop.trips) :
    k0_t6_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 c0_i32_150 c1_i32_152 k0_t5 v318 v319 v341 v345 v349 v350 v354 v358 u () = (do
      dxCol arg12 arg11 arg14 (v341) (v345) (v349) (k0_off53 k0_t5 u) (k0_off54 k0_t5 u) (k0_off53_inb k0_t5 u) (k0_off54_inb k0_t5 u)
        fun r => View.stores_vmem h_S1x1x32x128 (harg14.storeExact_slice rfl _ (k0_off54_packedbf16 k0_t5 u r)) (fun _ => rfl)
      dxCol arg12 arg11 arg14 (k0_pay308 v350) (k0_pay309 v354) (k0_pay310 v358) (k0_off55 k0_t5 u) (k0_off56 k0_t5 u) (k0_off55_inb k0_t5 u) (k0_off56_inb k0_t5 u)
        fun r => View.stores_vmem h_S1x1x32x128 (harg14.storeExact_slice rfl _ (k0_off56_packedbf16 k0_t5 u r)) (fun _ => rfl)) := rfl

set_option maxRecDepth 65536 in
theorem k0_t2_body_eq (arg0 : Memref sig .tc .smem S1 .f32) (harg0 : arg0.IsWhole) (arg1 : Memref sig .tc .smem S1 .f32) (harg1 : arg1.IsWhole) (arg2 : Memref sig .tc .hbm S50176x2048 .fp8e4m3) (harg2 : arg2.IsWhole) (arg3 : Memref sig .tc .hbm S50176x2048 .fp8e5m2) (harg3 : arg3.IsWhole) (arg4 : Memref sig .tc .hbm S50176x256 .i8) (harg4 : arg4.IsWhole) (arg5 : Memref sig .tc .vmem S16x128 .f32) (harg5 : arg5.IsWhole) (arg6 : Memref sig .tc .vmem S16x128 .f32) (harg6 : arg6.IsWhole) (arg7 : Memref sig .tc .vmem S16x128 .f32) (harg7 : arg7.IsWhole) (arg8 : Memref sig .tc .hbm S50176x2048 .bf16) (harg8 : arg8.IsWhole) (arg9 : Memref sig .tc .vmem S16x128 .f32) (harg9 : arg9.IsWhole) (arg10 : Memref sig .tc .vmem S16x128 .f32) (harg10 : arg10.IsWhole) (arg11 : Memref sig .tc .vmem S31x1792x256 .fp8e4m3) (harg11 : arg11.IsWhole) (arg12 : Memref sig .tc .vmem S31x1792x256 .fp8e5m2) (harg12 : arg12.IsWhole) (arg13 : Memref sig .tc .vmem S28x1792x128 .i8) (harg13 : arg13.IsWhole) (arg14 : Memref sig .tc .vmem S2x2x1792x128 .bf16) (harg14 : arg14.IsWhole) (arg15 : Memref sig .tc .vmem S2x8x128 .f32) (harg15 : arg15.IsWhole) (arg16 : Memref sig .tc .vmem S2x8x128 .f32) (harg16 : arg16.IsWhole) (arg17 : Memref sig .tc .vmem S6x8x128 .f32) (harg17 : arg17.IsWhole) (arg18 : DmaSems sig S3) (arg19 : DmaSems sig S28) (arg20 : DmaSems sig S2) (v2 : IVec S8x128 32) (v4 : IVec S8x128 32) (k0_t1 : Fin k0_t1_loop.trips) (arg21 : BitVec 32) (u : Fin k0_t2_loop.trips) :
    k0_t2_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 v2 v4 k0_t1 arg21 u () = (do
      redCol arg13 arg12 arg11 arg15 arg16 v2 (k0_pay114 v4) (k0_off11 k0_t1 u) (k0_off12 k0_t1 u) ![0, 0, 0] (k0_off11_inb k0_t1 u) (k0_off12_inb k0_t1 u) inb_S2x8x128_S1x8x128_0_0_0
        fun r => View.stores_vmem h_S1x32x128 (harg12.storeExact_slice rfl _ (k0_off12_packedfp8e5m2 k0_t1 u r)) (fun _ => rfl)
      redCol arg13 arg12 arg11 arg15 arg16 v2 (k0_pay115 v4) (k0_off11 k0_t1 u) (k0_off13 k0_t1 u) ![1, 0, 0] (k0_off11_inb k0_t1 u) (k0_off13_inb k0_t1 u) inb_S2x8x128_S1x8x128_1_0_0
        fun r => View.stores_vmem h_S1x32x128 (harg12.storeExact_slice rfl _ (k0_off13_packedfp8e5m2 k0_t1 u r)) (fun _ => rfl)) := rfl

set_option maxRecDepth 65536 in
theorem k0_t4_body_eq (arg0 : Memref sig .tc .smem S1 .f32) (harg0 : arg0.IsWhole) (arg1 : Memref sig .tc .smem S1 .f32) (harg1 : arg1.IsWhole) (arg2 : Memref sig .tc .hbm S50176x2048 .fp8e4m3) (harg2 : arg2.IsWhole) (arg3 : Memref sig .tc .hbm S50176x2048 .fp8e5m2) (harg3 : arg3.IsWhole) (arg4 : Memref sig .tc .hbm S50176x256 .i8) (harg4 : arg4.IsWhole) (arg5 : Memref sig .tc .vmem S16x128 .f32) (harg5 : arg5.IsWhole) (arg6 : Memref sig .tc .vmem S16x128 .f32) (harg6 : arg6.IsWhole) (arg7 : Memref sig .tc .vmem S16x128 .f32) (harg7 : arg7.IsWhole) (arg8 : Memref sig .tc .hbm S50176x2048 .bf16) (harg8 : arg8.IsWhole) (arg9 : Memref sig .tc .vmem S16x128 .f32) (harg9 : arg9.IsWhole) (arg10 : Memref sig .tc .vmem S16x128 .f32) (harg10 : arg10.IsWhole) (arg11 : Memref sig .tc .vmem S31x1792x256 .fp8e4m3) (harg11 : arg11.IsWhole) (arg12 : Memref sig .tc .vmem S31x1792x256 .fp8e5m2) (harg12 : arg12.IsWhole) (arg13 : Memref sig .tc .vmem S28x1792x128 .i8) (harg13 : arg13.IsWhole) (arg14 : Memref sig .tc .vmem S2x2x1792x128 .bf16) (harg14 : arg14.IsWhole) (arg15 : Memref sig .tc .vmem S2x8x128 .f32) (harg15 : arg15.IsWhole) (arg16 : Memref sig .tc .vmem S2x8x128 .f32) (harg16 : arg16.IsWhole) (arg17 : Memref sig .tc .vmem S6x8x128 .f32) (harg17 : arg17.IsWhole) (arg18 : DmaSems sig S3) (arg19 : DmaSems sig S28) (arg20 : DmaSems sig S2) (v2 : IVec S8x128 32) (k0_t3 : Fin k0_t3_loop.trips) (arg21 : BitVec 32) (v334 : BitVec 32) (v335 : BitVec 32) (v336 : BitVec 32) (v337 : BitVec 32) (v338 : BitVec 32) (v340 : BitVec 32) (v357 : BitVec 32) (v404 : IVec S8x128 32) (v407 : IVec S8x128 32) (v411 : FVec F S32x128 .f32) (v415 : FVec F S32x128 .f32) (v419 : FVec F S32x128 .f32) (v423 : FVec F S32x128 .f32) (v427 : FVec F S32x128 .f32) (v428 : Vec F S1x1x128 .f32) (u : Fin k0_t4_loop.trips) :
    k0_t4_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 v2 k0_t3 arg21 v334 v335 v336 v337 v338 v340 v357 v404 v407 v411 v415 v419 v423 v427 v428 u () = (do
      dxCol arg12 arg11 arg14 (v411) (v415) (v419) (k0_off31 k0_t3 u) (k0_off32 k0_t3 u) (k0_off31_inb k0_t3 u) (k0_off32_inb k0_t3 u)
        fun r => View.stores_vmem h_S1x1x32x128 (harg14.storeExact_slice rfl _ (k0_off32_packedbf16 k0_t3 u r)) (fun _ => rfl)
      dxCol arg12 arg11 arg14 (v423) (v427) (k0_pay281 v428) (k0_off33 k0_t3 u) (k0_off34 k0_t3 u) (k0_off33_inb k0_t3 u) (k0_off34_inb k0_t3 u)
        fun r => View.stores_vmem h_S1x1x32x128 (harg14.storeExact_slice rfl _ (k0_off34_packedbf16 k0_t3 u r)) (fun _ => rfl)
      redCol arg13 arg12 arg11 arg15 arg16 v2 (v404) (k0_off35 k0_t3 u) (k0_off36 k0_t3 u) ![0, 0, 0] (k0_off35_inb k0_t3 u) (k0_off36_inb k0_t3 u) inb_S2x8x128_S1x8x128_0_0_0
        fun r => View.stores_vmem h_S1x32x128 (harg12.storeExact_slice rfl _ (k0_off36_packedfp8e5m2 k0_t3 u r)) (fun _ => rfl)
      redCol arg13 arg12 arg11 arg15 arg16 v2 (v407) (k0_off35 k0_t3 u) (k0_off37 k0_t3 u) ![1, 0, 0] (k0_off35_inb k0_t3 u) (k0_off37_inb k0_t3 u) inb_S2x8x128_S1x8x128_1_0_0
        fun r => View.stores_vmem h_S1x32x128 (harg12.storeExact_slice rfl _ (k0_off37_packedfp8e5m2 k0_t3 u r)) (fun _ => rfl)) := rfl

end Cert.KernelIdeal.Hand
-- ==== Proof.IdealBase.lean ====
/-
  Part of a memref owned at named contents, and the kernel's operations on it. `own c m T w` is the full share of the
  elements of the memref `m` under the indices `T`, holding `w` there. A load, a store, a copy issued and a copy
  awaited each have one rule over `own`.
-/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.IdealBodies
public import Idealize.ShloMosaic.Lib.Pipeline.FrameBody
public import Idealize.ShloMosaic.Lib.MixedBatch
public import Idealize.ShloMosaic.Lib.Ring
public import Idealize.ShloMosaic.Lib.Tactic
public import Idealize.ShloMosaic.Lib.WordCmp

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-- What is stored through a rectangle, over what was there before. -/
def upd {α : Type} {s : Shape} (r : Rect s) (v : r.shape.Idx → α) (w : s.Idx → α) : s.Idx → α :=
  fun i => match preimage? r.emb i with
    | some x => v x
    | none => w i

theorem upd_emb {α : Type} {s : Shape} (r : Rect s) (v : r.shape.Idx → α) (w : s.Idx → α) (x : r.shape.Idx) :
    upd r v w (r.emb x) = v x := by
  simp [upd, preimage?_emb]

theorem upd_of_not_mem {α : Type} {s : Shape} (r : Rect s) (v : r.shape.Idx → α) (w : s.Idx → α) {i : s.Idx}
    (h : i ∉ r.set) : upd r v w i = w i := by
  unfold upd
  rw [preimage?_eq_none_of_not_mem (by rwa [Rect.map_emb_univ])]

/-- The full share of the elements of `m` under the indices `T`, holding `w`. -/
def own (c : Dev nD) {sp : Space} {s : Shape} {e : EltTy} (m : Memref sig .tc sp s e) (T : Finset s.Idx)
    (w : s.Idx → Elt F e) : sProp 𝕄 :=
  iprop(∃ f, ⌜∀ x ∈ T, m.view.read (Elt F) f x = w x⌝ ∗ (m.view.loc (c : Thread nD τ) ↦[m.view.setOn T]{fullShare} f))

instance own_storable (c : Dev nD) {sp : Space} {s : Shape} {e : EltTy} (m : Memref sig .tc sp s e) (T : Finset s.Idx)
    (w : s.Idx → Elt F e) : BI.Storable (upEmb : UEmb _ 𝕄) (own c m T w) := by
  unfold own; infer_instance

section Own
variable (c : Dev nD) {sp sp' : Space} {s s' : Shape} {e : EltTy} (m : Memref sig .tc sp s e)

theorem own_congr {T : Finset s.Idx} {w w' : s.Idx → Elt F e} (h : ∀ x ∈ T, w x = w' x) : own c m T w ⊢ own c m T w' := by
  unfold own
  iintro ⟨%f, %hf, H⟩
  iexists f; isplitr
  · ipureintro; exact fun x hx => (hf x hx).trans (h x hx)
  iexact H

theorem own_set {T T' : Finset s.Idx} (w : s.Idx → Elt F e) (h : T = T') : own c m T w ⊢ own c m T' w := by
  subst h; exact .rfl

theorem own_split {I T : Finset s.Idx} (w : s.Idx → Elt F e) (h : I ⊆ T) :
    own c m T w ⊢ iprop(own c m I w ∗ own c m (T \ I) w) := by
  unfold own
  iintro ⟨%f, %hf, H⟩
  ihave H' := (pointsTo_split_subset (I := m.view.setOn I) (Finset.map_subset_map.mpr h)).1 $$ H
  icases H' with ⟨H1, H2⟩
  isplitl [H1]
  · iexists f; isplitr
    · ipureintro; exact fun x hx => hf x (h hx)
    iexact H1
  · iexists f; isplitr
    · ipureintro; exact fun x hx => hf x (Finset.mem_sdiff.mp hx).1
    rw [show m.view.setOn (T \ I) = m.view.setOn T \ m.view.setOn I from Finset.map_sdiff _ _]
    iexact H2

theorem own_join {I T : Finset s.Idx} (w w' : s.Idx → Elt F e) (h : I ⊆ T) :
    iprop(own c m I w ∗ own c m (T \ I) w') ⊢ own c m T (I.piecewise w w') := by
  unfold own
  iintro ⟨⟨%f, %hf, H1⟩, ⟨%g, %hg, H2⟩⟩
  iexists ((m.view.setOn I).piecewise f g)
  isplitr
  · ipureintro
    intro x hx
    by_cases hI : x ∈ I
    · rw [Finset.piecewise_eq_of_mem _ _ _ hI, ← hf x hI]
      refine View.read_congr_at _ ?_
      rw [Finset.piecewise_eq_of_mem _ _ _ (m.view.mem_setOn.mpr hI)]
    · rw [Finset.piecewise_eq_of_notMem _ _ _ hI, ← hg x (Finset.mem_sdiff.mpr ⟨hx, hI⟩)]
      refine View.read_congr_at _ ?_
      rw [Finset.piecewise_eq_of_notMem _ _ _ (mt m.view.mem_setOn.mp hI)]
  rw [show m.view.setOn (T \ I) = m.view.setOn T \ m.view.setOn I from Finset.map_sdiff _ _]
  iapply (pointsTo_join_subset (I := m.view.setOn I) (Finset.map_subset_map.mpr h))
  isplitl [H1]; · iexact H1
  iexact H2

/-- A slice owned whole is the rectangle's part of the memref. -/
theorem own_slice (r : Rect s) (hr : ∀ a, r.stride a = 1) (w : s.Idx → Elt F e) :
    own c m r.set w ⊢ own c (m.slice r hr) Finset.univ (fun j => w (r.emb j)) := by
  unfold own
  iintro ⟨%f, %hf, H⟩
  iexists f; isplitr
  · ipureintro
    intro x _
    exact hf (r.emb x) (by rw [← Rect.map_emb_univ]; exact Finset.mem_map_of_mem _ (Finset.mem_univ _))
  rw [show (m.slice r hr).view.setOn Finset.univ = m.view.setOn r.set from View.set_slice m.view r]
  iexact H

theorem own_unslice (r : Rect s) (hr : ∀ a, r.stride a = 1) (w : s.Idx → Elt F e) (w' : r.shape.Idx → Elt F e)
    (h : ∀ j, w' j = w (r.emb j)) :
    own c (m.slice r hr) Finset.univ w' ⊢ own c m r.set w := by
  unfold own
  iintro ⟨%f, %hf, H⟩
  iexists f; isplitr
  · ipureintro
    intro x hx
    rw [← Rect.map_emb_univ] at hx
    obtain ⟨j, _, rfl⟩ := Finset.mem_map.mp hx
    rw [← h]
    exact hf j (Finset.mem_univ _)
  rw [show (m.slice r hr).view.setOn Finset.univ = m.view.setOn r.set from View.set_slice m.view r]
  iexact H

theorem own_squeeze (h : s.Squeezes s') (w : s.Idx → Elt F e) :
    own c m Finset.univ w ⊢ own c (m.squeeze s' h) Finset.univ (fun j => w (Shape.reshapeEquiv h.numel_eq j)) := by
  unfold own
  iintro ⟨%f, %hf, H⟩
  iexists f; isplitr
  · ipureintro
    intro x _
    exact hf _ (Finset.mem_univ _)
  rw [show (m.squeeze s' h).view.setOn Finset.univ = m.view.setOn Finset.univ from View.set_reshape m.view h.numel_eq]
  iexact H

theorem own_unsqueeze (h : s.Squeezes s') (w : s.Idx → Elt F e) (w' : s'.Idx → Elt F e)
    (hw : ∀ j, w' j = w (Shape.reshapeEquiv h.numel_eq j)) :
    own c (m.squeeze s' h) Finset.univ w' ⊢ own c m Finset.univ w := by
  unfold own
  iintro ⟨%f, %hf, H⟩
  iexists f; isplitr
  · ipureintro
    intro x _
    obtain ⟨j, rfl⟩ := (Shape.reshapeEquiv h.numel_eq).surjective x
    rw [← hw]
    exact hf j (Finset.mem_univ _)
  rw [show (m.squeeze s' h).view.setOn Finset.univ = m.view.setOn Finset.univ from View.set_reshape m.view h.numel_eq]
  iexact H

end Own

/-! ## The kernel's operations -/

/-- The kernel's programs run with nothing assumed of a named procedure. -/
abbrev WP (c : Dev nD) {α : Type} (p : Prog (TpuEff nD τ sig (Elt F) Λ₀ .tc) α) (Q : α → sProp 𝕄) : sProp 𝕄 :=
  wp frame (wpE (defs₀ (F := F)) Variants.none (c : Thread nD τ) none) Set.univ p Q

section Ops
variable (c : Dev nD) {s : Shape} {e : EltTy}

theorem wp_ld {cs : CoreSpace} (m : Memref sig .tc cs s e) (r : Rect s) (hl : m.view.LoadsAt r.toLoadRect) {T : Finset s.Idx}
    (w : s.Idx → Elt F e) (hT : r.set ⊆ T) {Q : (r.shape.Idx → Elt F e) → sProp 𝕄} :
    own c m T w ⊢ iprop((own c m T w -∗ Q (fun j => w (r.emb j))) -∗ WP c (Prog.lift (.load m r.toLoadRect hl)) Q) := by
  unfold own
  iintro ⟨%f, %hf, H⟩ Hk
  iapply (Idealize.ShloMosaic.wp_load (k := fun v => .ret v) (Q := Q) Variants.none (c : Thread nD τ) none Set.univ (m := m) (r := r.toLoadRect) (hl := hl) (S := m.view.setOn T) (q := fullShare) (f := f)
    (Finset.map_subset_map.mpr hT)) $$ H
  iintro H
  rw [wp_ret]
  imodintro
  rw [show (m.view.readAt (Elt F) r.toLoadRect f) = fun j => w (r.emb j) from funext fun j =>
    hf (r.emb j) (hT (by rw [← Rect.map_emb_univ]; exact Finset.mem_map_of_mem _ (Finset.mem_univ _)))]
  iapply Hk
  iexists f; isplitr
  · ipureintro; exact hf
  iexact H

theorem wp_st {cs : CoreSpace} (m : Memref sig .tc cs s e) (r : Rect s) (v : r.shape.Idx → Elt F e) (hx : (m.access r).Stores Finset.univ)
    (hm : (Finset.univ : Finset r.shape.Idx) = Finset.univ ∨ ∀ a, r.stride a = 1) {T : Finset s.Idx}
    (w : s.Idx → Elt F e) (hT : r.set ⊆ T) {Q : PUnit → sProp 𝕄} :
    own c m T w ⊢ iprop((own c m T (upd r v w) -∗ Q ⟨⟩) -∗ WP c (Prog.lift (.store m r v Finset.univ hx hm)) Q) := by
  unfold own
  iintro ⟨%f, %hf, H⟩ Hk
  iapply (Idealize.ShloMosaic.wp_store (k := fun v => .ret v) (Q := Q) Variants.none (c : Thread nD τ) none Set.univ (m := m) (r := r) (w := v) (hx := hx) (hm := hm) (S := m.view.setOn T) (f := f)
    (by rw [View.setOn_univ, View.set_slice]; exact Finset.map_subset_map.mpr hT)) $$ H
  iintro H
  rw [wp_ret]
  imodintro
  iapply Hk
  iexists _; isplitr; swap
  · iexact H
  · ipureintro
    intro x hx
    by_cases hr : x ∈ r.set
    · rw [← Rect.map_emb_univ] at hr
      obtain ⟨j, _, rfl⟩ := Finset.mem_map.mp hr
      rw [upd_emb, View.read_slice_write_emb r f v (Finset.mem_univ _)]
    · rw [upd_of_not_mem r v w hr, ← hf x hx]
      refine View.read_congr_at _ (View.write_of_not_mem _ _ _ ?_)
      rw [View.setOn_univ, View.set_slice]
      exact fun h => hr (by simpa using h)

end Ops

/-- What the core has waited for so far; nothing is owed. -/
def owing (c : Dev nD) : sProp 𝕄 := iprop(∃ W, owes (c : Thread nD τ) 0 W)

/-- `k` of the copies that deliver `D` issued on a cell, `N` units each, `u` units awaited. -/
abbrev Fly (c : Dev nD) (sm : DmaSem sig) (N : ℕ) {n : ℕ} (D : Fin n → sProp 𝕄) (k u : ℕ) : sProp 𝕄 :=
  Transfers.Batch (countersEmb (U := Pipeline.UD sig nD τ)) (c : Thread nD τ) (.dma sm) () N D k u

theorem fly_start (c : Dev nD) (sm : DmaSem sig) (N : ℕ) {n : ℕ} (D : Fin n → sProp 𝕄)
    [∀ t, BI.Storable (upEmb : UEmb _ 𝕄) (D t)] :
    (semVal ((c : Thread nD τ), .dma sm) 0 : sProp 𝕄) ⊢ |={Set.univ}=> Fly c sm N D 0 0 :=
  Transfers.batch_alloc' (countersEmb (U := Pipeline.UD sig nD τ)) (c : Thread nD τ) () N D

section Dma
variable (c : Dev nD) {sp sp' : Space} {s s' : Shape} {e : EltTy}

theorem wp_enq (src : Memref sig .tc sp s e) (dst : Memref sig .tc sp' s e) (sm : DmaSem sig)
    (hsrc : src.view.WordExact) (hdst : dst.view.WordExact)
    (hsem : DmaTarget.Typed (nD := nD) (τ := τ) (p := .tc) sp (.dma sm) (.here dst))
    (ws wd : s.Idx → Elt F e) {n : ℕ} (D : Fin n → sProp 𝕄) (j u N : ℕ)
    (hN : dst.view.dmaCredit = N) (hj : j < n) (hu : u ≤ j * N)
    (hD : iprop(own c dst Finset.univ ws ∗ own c src Finset.univ ws) ⊢ D ⟨j, hj⟩) {Q : PUnit → sProp 𝕄} :
    iprop(own c src Finset.univ ws ∗ own c dst Finset.univ wd ∗ Fly c sm N D j u)
      ⊢ iprop((Fly c sm N D (j + 1) u -∗ Q ⟨⟩)
          -∗ WP c (Prog.lift (.enqueueDma src (.here dst) (.dma sm) hsrc hdst hsem)) Q) := by
  unfold own
  iintro ⟨⟨%f, %hf, Hs⟩, ⟨%g, %hg, Hd⟩, HB⟩ Hk
  iapply (Transfers.wp_dmaBatch (k := fun v => .ret v) (Q := Q) (countersEmb (U := Pipeline.UD sig nD τ)) Variants.none (c : Thread nD τ) none
    (src := src) (dst := dst) (via := .same) (sm := .dma sm) (hsrc := hsrc) (hdst := hdst) (hsem := hsem) (fs := f) (fd := g)
    (Sd := dst.view.set) (q := fullShare) () N hN (Finset.Subset.refl _) hj hu ?_) $$ [Hs Hd HB]
  · refine BIBase.Entails.trans ?_ hD
    unfold own
    iintro ⟨H1, H2⟩
    isplitl [H1]
    · iexists _; isplitr; swap
      · iexact H1
      · ipureintro
        intro x _
        rw [View.read_write_univ]
        exact hf x (Finset.mem_univ _)
    · iexists f; isplitr
      · ipureintro; exact hf
      · iexact H2
  · isplitl [Hs]; · iexact Hs
    isplitl [Hd]; · iexact Hd
    iexact HB
  iintro HB
  rw [wp_ret]
  imodintro
  iapply Hk
  iexact HB

/-- A window of `src` copied into a window of `dst` that drops axes of size one. -/
theorem wp_enq_in {sd : Shape} (src : Memref sig .tc sp s e) (dst : Memref sig .tc sp' sd e) (rs : Rect s) (hrs : ∀ a, rs.stride a = 1)
    (rd : Rect sd) (hrd : ∀ a, rd.stride a = 1) (hq : rd.shape.Squeezes rs.shape) (sm : DmaSem sig)
    (hsrc : (src.slice rs hrs).view.WordExact) (hdst : ((dst.slice rd hrd).squeeze rs.shape hq).view.WordExact)
    (hsem : DmaTarget.Typed (nD := nD) (τ := τ) (p := .tc) sp (.dma sm) (.here ((dst.slice rd hrd).squeeze rs.shape hq)))
    (ws : s.Idx → Elt F e) (wd land : sd.Idx → Elt F e) {n : ℕ} (D : Fin n → sProp 𝕄) (j N : ℕ)
    (hN : ((dst.slice rd hrd).squeeze rs.shape hq).view.dmaCredit = N) (hj : j < n)
    (hland : ∀ i, land (rd.emb (Shape.reshapeEquiv hq.numel_eq i)) = ws (rs.emb i))
    (hD : iprop(own c dst rd.set land ∗ own c src rs.set ws) ⊢ D ⟨j, hj⟩) {Q : PUnit → sProp 𝕄} :
    iprop(own c src rs.set ws ∗ own c dst rd.set wd ∗ Fly c sm N D j 0)
      ⊢ iprop((Fly c sm N D (j + 1) 0 -∗ Q ⟨⟩)
          -∗ WP c (Prog.lift (.enqueueDma (src.slice rs hrs) (.here ((dst.slice rd hrd).squeeze rs.shape hq)) (.dma sm) hsrc hdst hsem)) Q) := by
  iintro ⟨Hs, Hd, HB⟩
  ihave Hs' := (own_slice c src rs hrs ws) $$ Hs
  ihave Hd' := (own_slice c dst rd hrd wd) $$ Hd
  ihave Hd'' := (own_squeeze c (dst.slice rd hrd) hq _) $$ Hd'
  iapply (wp_enq c (src.slice rs hrs) ((dst.slice rd hrd).squeeze rs.shape hq) sm hsrc hdst hsem (fun i => ws (rs.emb i)) _ D j 0 N hN hj (Nat.zero_le _) ?_)
  · refine BIBase.Entails.trans ?_ hD
    iintro ⟨H1, H2⟩
    isplitl [H1]
    · iapply (own_unslice c dst rd hrd land (fun i => land (rd.emb i)) (fun _ => rfl))
      iapply (own_unsqueeze c (dst.slice rd hrd) hq (fun i => land (rd.emb i)) (fun i => ws (rs.emb i)) (fun i => (hland i).symm))
      iexact H1
    · iapply (own_unslice c src rs hrs ws (fun i => ws (rs.emb i)) (fun _ => rfl))
      iexact H2
  isplitl [Hs']; · iexact Hs'
  isplitl [Hd'']; · iexact Hd''
  iexact HB

/-- A window of `src` that drops axes of size one copied into a window of `dst`. -/
theorem wp_enq_out {sd : Shape} (src : Memref sig .tc sp s e) (dst : Memref sig .tc sp' sd e) (rs : Rect s) (hrs : ∀ a, rs.stride a = 1)
    (rd : Rect sd) (hrd : ∀ a, rd.stride a = 1) (hq : rs.shape.Squeezes rd.shape) (sm : DmaSem sig)
    (hsrc : ((src.slice rs hrs).squeeze rd.shape hq).view.WordExact) (hdst : (dst.slice rd hrd).view.WordExact)
    (hsem : DmaTarget.Typed (nD := nD) (τ := τ) (p := .tc) sp (.dma sm) (.here (dst.slice rd hrd)))
    (ws : s.Idx → Elt F e) (wd land : sd.Idx → Elt F e) {n : ℕ} (D : Fin n → sProp 𝕄) (j N : ℕ)
    (hN : (dst.slice rd hrd).view.dmaCredit = N) (hj : j < n)
    (hland : ∀ i, land (rd.emb i) = ws (rs.emb (Shape.reshapeEquiv hq.numel_eq i)))
    (hD : iprop(own c dst rd.set land ∗ own c src rs.set ws) ⊢ D ⟨j, hj⟩) {Q : PUnit → sProp 𝕄} :
    iprop(own c src rs.set ws ∗ own c dst rd.set wd ∗ Fly c sm N D j 0)
      ⊢ iprop((Fly c sm N D (j + 1) 0 -∗ Q ⟨⟩)
          -∗ WP c (Prog.lift (.enqueueDma ((src.slice rs hrs).squeeze rd.shape hq) (.here (dst.slice rd hrd)) (.dma sm) hsrc hdst hsem)) Q) := by
  iintro ⟨Hs, Hd, HB⟩
  ihave Hs' := (own_slice c src rs hrs ws) $$ Hs
  ihave Hs'' := (own_squeeze c (src.slice rs hrs) hq _) $$ Hs'
  ihave Hd' := (own_slice c dst rd hrd wd) $$ Hd
  iapply (wp_enq c ((src.slice rs hrs).squeeze rd.shape hq) (dst.slice rd hrd) sm hsrc hdst hsem
    (fun i => ws (rs.emb (Shape.reshapeEquiv hq.numel_eq i))) _ D j 0 N hN hj (Nat.zero_le _) ?_)
  · refine BIBase.Entails.trans ?_ hD
    iintro ⟨H1, H2⟩
    isplitl [H1]
    · iapply (own_unslice c dst rd hrd land _ (fun i => (hland i).symm))
      iexact H1
    · iapply (own_unslice c src rs hrs ws (fun i => ws (rs.emb i)) (fun _ => rfl))
      iapply (own_unsqueeze c (src.slice rs hrs) hq (fun i => ws (rs.emb i)) _ (fun i => rfl))
      iexact H2
  isplitl [Hs'']; · iexact Hs''
  isplitl [Hd']; · iexact Hd'
  iexact HB

/-- A wait for all but the last of the copies on a cell. -/
theorem wp_wait (src : Memref sig .tc sp s e) {s₂ : Shape} {e₂ : EltTy} (dst : Memref sig .tc sp' s₂ e₂) (sm : DmaSem sig)
    (hsrc : src.view.WordExact) (hdst : dst.view.WordExact) {n : ℕ} (D : Fin n → sProp 𝕄) (u N : ℕ)
    (hN : dst.view.dmaCredit = N) (hu : u + N < N * n) {Q : PUnit → sProp 𝕄} :
    iprop(Fly c sm N D n u ∗ owing (F := F) c)
      ⊢ iprop((iprop(Fly c sm N D n (u + N) ∗ owing (F := F) c) -∗ Q ⟨⟩)
          -∗ WP c (Prog.lift (.waitDma2 sm src dst hsrc hdst)) Q) := by
  unfold owing
  iintro ⟨HB, ⟨%W, HW⟩⟩ Hk
  iapply (Transfers.wp_waitBatch (k := fun v => .ret v) (Q := Q) (countersEmb (U := Pipeline.UD sig nD τ)) Variants.none (c : Thread nD τ) none
    (srcw := src) (dstw := dst) (hsrc := hsrc) (hdst := hdst) () hN hu (W := W)) $$ [HB HW]
  · isplitl [HB]; · iexact HB
    iexact HW
  iintro ⟨HB, HW⟩
  rw [wp_ret]
  imodintro
  iapply Hk
  isplitl [HB]; · iexact HB
  iexists _; iexact HW

/-- The last wait: every delivery arrives and the cell is free. -/
theorem wp_waitLast (src : Memref sig .tc sp s e) {s₂ : Shape} {e₂ : EltTy} (dst : Memref sig .tc sp' s₂ e₂) (sm : DmaSem sig)
    (hsrc : src.view.WordExact) (hdst : dst.view.WordExact) {n : ℕ} (D : Fin n → sProp 𝕄) (u N : ℕ)
    (hN : dst.view.dmaCredit = N) (hN0 : 0 < N) (hu : u + N = N * n) {Q : PUnit → sProp 𝕄} :
    iprop(Fly c sm N D n u ∗ owing (F := F) c)
      ⊢ iprop((iprop(bigSep Finset.univ D ∗ semVal ((c : Thread nD τ), .dma sm) 0 ∗ owing (F := F) c) -∗ Q ⟨⟩)
          -∗ WP c (Prog.lift (.waitDma2 sm src dst hsrc hdst)) Q) := by
  unfold owing
  iintro ⟨HB, ⟨%W, HW⟩⟩ Hk
  iapply (Transfers.wp_waitBatchLast (k := fun v => .ret v) (Q := Q) (countersEmb (U := Pipeline.UD sig nD τ)) Variants.none (c : Thread nD τ) none
    (srcw := src) (dstw := dst) (hsrc := hsrc) (hdst := hdst) () hN hN0 hu (W := W)) $$ [HB HW]
  · isplitl [HB]; · iexact HB
    iexact HW
  iintro ⟨HD, HS, HW⟩
  rw [wp_ret]
  imodintro
  iapply Hk
  isplitl [HD]; · iexact HD
  isplitl [HS]; · iexact HS
  iexists _; iexact HW

end Dma

/-- The one element of an SMEM array, loaded. -/
theorem wp_smem (c : Dev nD) {s : Shape} {e : EltTy} (m : Memref sig .tc .smem s e) (r : Rect s) (h1 : r.shape.numel = 1) (hp : e.packing = 1)
    {T : Finset s.Idx} (w : s.Idx → Elt F e) (hT : r.set ⊆ T) {Q : Elt F e → sProp 𝕄} :
    own c m T w ⊢ iprop((own c m T w -∗ Q (w (r.emb (Shape.Idx.first (h1.symm ▸ Nat.one_pos))))) -∗ WP c (smemLoad m r h1 hp) Q) := by
  unfold smemLoad own
  iintro ⟨%f, %hf, H⟩ Hk
  iapply (wp_smemLoadElt (k := fun v => .ret v) (Q := Q) Variants.none (c : Thread nD τ) none Set.univ (m := m) (r := r) (hw := View.loads_smem_one hp h1)
    (x := Shape.Idx.first (h1.symm ▸ Nat.one_pos)) (S := m.view.setOn T) (q := fullShare) (f := f)
    (show (m.access r).set ⊆ m.view.setOn T from by rw [show (m.access r).set = r.set.map m.view.emb from View.set_slice m.view r]; exact Finset.map_subset_map.mpr hT)) $$ H
  iintro H
  rw [wp_ret]
  imodintro
  rw [show (m.access r).read (Elt F) f (Shape.Idx.first (h1.symm ▸ Nat.one_pos)) = w (r.emb (Shape.Idx.first (h1.symm ▸ Nat.one_pos))) from
    hf (r.emb _) (hT (by rw [← Rect.map_emb_univ]; exact Finset.mem_map_of_mem _ (Finset.mem_univ _)))]
  iapply Hk
  iexists f; isplitr
  · ipureintro; exact hf
  iexact H

end Cert.KernelIdeal.Hand

end
-- ==== Proof.IdealGhost.lean ====
/-
  What the kernel's buffers hold, as functions: the tiles of the scratch buffers and what the row groups write over
  them.
-/
module

public import proofs.«01_k».proof.Proof.IdealBase

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-- Tile `q` (32 rows) of column half `j` of ring slot `t`. -/
def rT (t q j : ℕ) : Rect S31x1792x256 :=
  Rect.unit (s := S31x1792x256) ![t % 31, 32 * (q % 56), 128 * (j % 2)] S1x32x128.size
    (by intro a; fin_cases a <;> simp <;> omega)
/-- Tile `q` of mask chunk `i`. -/
def rM (i q : ℕ) : Rect S28x1792x128 :=
  Rect.unit (s := S28x1792x128) ![i % 28, 32 * (q % 56), 0] S1x32x128.size (by intro a; fin_cases a <;> simp <;> omega)
/-- Tile `q` of column half `j` of output slot `t`. -/
def rO (t q j : ℕ) : Rect S2x2x1792x128 :=
  Rect.unit (s := S2x2x1792x128) ![t % 2, j % 2, 32 * (q % 56), 0] S1x1x32x128.size
    (by intro a; fin_cases a <;> simp <;> omega)
/-- Block `j` of a running array of sums. -/
def rS (j : ℕ) : Rect S2x8x128 :=
  Rect.unit (s := S2x8x128) ![j % 2, 0, 0] S1x8x128.size (by intro a; fin_cases a <;> simp <;> omega)

/-- What is read through a rectangle. -/
abbrev at' {α : Type} {s : Shape} (r : Rect s) (w : s.Idx → α) : r.shape.Idx → α := fun i => w (r.emb i)

abbrev BufD (F : FTy → Type) := S31x1792x256.Idx → Elt F .fp8e5m2
abbrev BufX (F : FTy → Type) := S31x1792x256.Idx → Elt F .fp8e4m3
abbrev BufM (F : FTy → Type) := S28x1792x128.Idx → Elt F .i8
abbrev BufO (F : FTy → Type) := S2x2x1792x128.Idx → Elt F .bf16
abbrev BufS (F : FTy → Type) := S2x8x128.Idx → Elt F .f32

/-- The masked cotangents of one tile. -/
abbrev mdT (v2 lb : IVec S8x128 32) (M : BufM F) (i t q j : ℕ) (D : BufD F) : FVec F S32x128 .fp8e5m2 :=
  k0_pay1 v2 lb (at' (rM i q) M) (at' (rT t q j) D)
/-- The cotangents after one tile was masked. -/
abbrev tileD (v2 lb : IVec S8x128 32) (M : BufM F) (i t q j : ℕ) (D : BufD F) : BufD F :=
  upd (rT t q j) (k0_pay2 v2 lb (at' (rM i q) M) (at' (rT t q j) D)) D
/-- The cotangents after the first `k` tiles of group `u`. -/
def grpD (v2 lb : IVec S8x128 32) (M : BufM F) (i t u j : ℕ) (D : BufD F) : ℕ → BufD F
  | 0 => D
  | k + 1 => tileD v2 lb M i t (8 * u + k) j (grpD v2 lb M i t u j D k)
/-- Tile `k` of group `u`, masked. -/
def mdK (v2 lb : IVec S8x128 32) (M : BufM F) (i t u j : ℕ) (D : BufD F) (k : ℕ) : FVec F S32x128 .fp8e5m2 :=
  mdT v2 lb M i t (8 * u + k) j (grpD v2 lb M i t u j D k)

/-- The first running sum after one group. -/
def grpS1 (v2 lb : IVec S8x128 32) (M : BufM F) (i t u j : ℕ) (D : BufD F) (S : BufS F) : BufS F :=
  let d := mdK v2 lb M i t u j D
  upd (rS j) (addS (k0_pay11 (k0_pay11 (k0_pay11 (k0_pay11 (k0_pay11 (k0_pay11 (k0_pay11 (k0_pay6 (k0_pay9 (d 0))) (d 1)) (d 2)) (d 3)) (d 4)) (d 5)) (d 6)) (d 7)) (at' (rS j) S)) S
/-- The second running sum after one group. -/
def grpS2 (v2 lb : IVec S8x128 32) (M : BufM F) (X : BufX F) (i t u j : ℕ) (D : BufD F) (S : BufS F) : BufS F :=
  let d := mdK v2 lb M i t u j D
  let x := fun k : ℕ => at' (rT t (8 * u + k) j) X
  upd (rS j) (addS (k0_pay10 (k0_pay10 (k0_pay10 (k0_pay10 (k0_pay10 (k0_pay10 (k0_pay10 (k0_pay5 (prodT (d 0) (x 0))) (d 1) (x 1)) (d 2) (x 2)) (d 3) (x 3)) (d 4) (x 4)) (d 5) (x 5)) (d 6) (x 6)) (d 7) (x 7)) (at' (rS j) S)) S

/-- The output slot after the first `k` tiles of group `u`. -/
def grpO (a b e : FVec F S32x128 .f32) (D : BufD F) (X : BufX F) (t o u j : ℕ) (O : BufO F) : ℕ → BufO F
  | 0 => O
  | k + 1 => upd (rO o (8 * u + k) j) (k0_pay284 a b e (at' (rT t (8 * u + k) j) D) (at' (rT t (8 * u + k) j) X)) (grpO a b e D X t o u j O k)

theorem WP_bind (c : Dev nD) {α β : Type} (p : Prog (TpuEff nD τ sig (Elt F) Λ₀ .tc) α) (k : α → Prog (TpuEff nD τ sig (Elt F) Λ₀ .tc) β)
    (Q : β → sProp 𝕄) : WP c (p >>= k) Q = WP c p (fun a => WP c (k a) Q) := wp_bind ..

theorem WP_pure (c : Dev nD) {α : Type} (a : α) (Q : α → sProp 𝕄) : Q a ⊢ WP c (pure a) Q := by
  show Q a ⊢ wp frame _ _ (.ret a) Q
  rw [wp_ret]
  iintro H; imodintro; iexact H

section Groups
variable (c : Dev nD) (mM : Memref sig .tc .vmem S28x1792x128 .i8) (dM : Memref sig .tc .vmem S31x1792x256 .fp8e5m2)
    (xM : Memref sig .tc .vmem S31x1792x256 .fp8e4m3) (s1M s2M : Memref sig .tc .vmem S2x8x128 .f32)
    (oMr : Memref sig .tc .vmem S2x2x1792x128 .bf16)

theorem wp_redTile (v2 lb : IVec S8x128 32) (oM oD : Fin 3 → Nat) (hM hD hst) (i t q j : ℕ)
    (eM : oM = (rM i q).off) (eD : oD = (rT t q j).off) {TM : Finset S28x1792x128.Idx} {TD TX : Finset S31x1792x256.Idx}
    (M : BufM F) (D : BufD F) (X : BufX F)
    (sM : (rM i q).set ⊆ TM) (sD : (rT t q j).set ⊆ TD) (sX : (rT t q j).set ⊆ TX)
    {Q : (Σ' (_ : FVec F S32x128 .fp8e5m2), Vec F S1x32x128 .fp8e4m3) → sProp 𝕄} :
    iprop(own c mM TM M ∗ own c dM TD D ∗ own c xM TX X)
      ⊢ iprop((iprop(own c mM TM M ∗ own c dM TD (tileD v2 lb M i t q j D) ∗ own c xM TX X) -∗ Q ⟨mdT v2 lb M i t q j D, at' (rT t q j) X⟩)
        -∗ WP c (redTile mM dM xM v2 lb oM oD hM hD hst) Q) := by
  subst eM eD
  unfold redTile
  iintro ⟨HM, HD, HX⟩ Hk
  rw [WP_bind]
  iapply (wp_ld c mM (rM i q) (View.loadsAt_vmem h_S1x32x128) M sM) $$ HM
  iintro HM
  rw [WP_bind]
  iapply (wp_ld c dM (rT t q j) (View.loadsAt_vmem h_S1x32x128) D sD) $$ HD
  iintro HD
  rw [WP_bind]
  iapply (wp_ld c dM (rT t q j) (View.loadsAt_vmem h_S1x32x128) D sD) $$ HD
  iintro HD
  rw [WP_bind]
  iapply (wp_st c dM (rT t q j) _ hst (.inl rfl) D sD) $$ HD
  iintro HD
  rw [WP_bind]
  iapply (wp_ld c xM (rT t q j) (View.loadsAt_vmem h_S1x32x128) X sX) $$ HX
  iintro HX
  iapply (WP_pure c)
  iapply Hk
  isplitl [HM]; · iexact HM
  isplitl [HD]; · iexact HD
  iexact HX

set_option maxHeartbeats 2000000 in
theorem wp_redCol (v2 lb : IVec S8x128 32) (oM oD : BitVec 32 → Fin 3 → Nat) (oS : Fin 3 → Nat) (hM hD hS hst) (i t u j : ℕ)
    (eM : ∀ r : Fin 8, oM (BitVec.ofNat 32 (32 * r.val)) = (rM i (8 * u + r.val)).off)
    (eD : ∀ r : Fin 8, oD (BitVec.ofNat 32 (32 * r.val)) = (rT t (8 * u + r.val) j).off) (eS : oS = (rS j).off)
    {TM : Finset S28x1792x128.Idx} {TD TX : Finset S31x1792x256.Idx}
    (M : BufM F) (D : BufD F) (X : BufX F) (A B : BufS F)
    (sM : ∀ q, (rM i q).set ⊆ TM) (sD : ∀ q, (rT t q j).set ⊆ TD) (sX : ∀ q, (rT t q j).set ⊆ TX) {Q : Unit → sProp 𝕄} :
    iprop(own c mM TM M ∗ own c dM TD D ∗ own c xM TX X ∗ own c s1M Finset.univ A ∗ own c s2M Finset.univ B)
      ⊢ iprop((iprop(own c mM TM M ∗ own c dM TD (grpD v2 lb M i t u j D 8) ∗ own c xM TX X ∗ own c s1M Finset.univ (grpS1 v2 lb M i t u j D A)
            ∗ own c s2M Finset.univ (grpS2 v2 lb M X i t u j D B)) -∗ Q ⟨⟩)
        -∗ WP c (redCol mM dM xM s1M s2M v2 lb oM oD oS hM hD hS hst) Q) := by
  subst eS
  unfold redCol
  iintro ⟨HM, HD, HX, HA, HB⟩ Hk
  rw [WP_bind]
  iapply (wp_redTile c mM dM xM v2 lb _ _ _ _ _ i t (8 * u + 0) j (eM 0) (eD 0) M (grpD v2 lb M i t u j D 0) X (sM _) (sD _) (sX _)) $$ [HM HD HX]
  · isplitl [HM]; · iexact HM
    isplitl [HD]; · iexact HD
    iexact HX
  iintro ⟨HM, HD, HX⟩
  rw [WP_bind]
  iapply (wp_redTile c mM dM xM v2 lb _ _ _ _ _ i t (8 * u + 1) j (eM 1) (eD 1) M (grpD v2 lb M i t u j D 1) X (sM _) (sD _) (sX _)) $$ [HM HD HX]
  · isplitl [HM]; · iexact HM
    isplitl [HD]; · iexact HD
    iexact HX
  iintro ⟨HM, HD, HX⟩
  rw [WP_bind]
  iapply (wp_redTile c mM dM xM v2 lb _ _ _ _ _ i t (8 * u + 2) j (eM 2) (eD 2) M (grpD v2 lb M i t u j D 2) X (sM _) (sD _) (sX _)) $$ [HM HD HX]
  · isplitl [HM]; · iexact HM
    isplitl [HD]; · iexact HD
    iexact HX
  iintro ⟨HM, HD, HX⟩
  rw [WP_bind]
  iapply (wp_redTile c mM dM xM v2 lb _ _ _ _ _ i t (8 * u + 3) j (eM 3) (eD 3) M (grpD v2 lb M i t u j D 3) X (sM _) (sD _) (sX _)) $$ [HM HD HX]
  · isplitl [HM]; · iexact HM
    isplitl [HD]; · iexact HD
    iexact HX
  iintro ⟨HM, HD, HX⟩
  rw [WP_bind]
  iapply (wp_redTile c mM dM xM v2 lb _ _ _ _ _ i t (8 * u + 4) j (eM 4) (eD 4) M (grpD v2 lb M i t u j D 4) X (sM _) (sD _) (sX _)) $$ [HM HD HX]
  · isplitl [HM]; · iexact HM
    isplitl [HD]; · iexact HD
    iexact HX
  iintro ⟨HM, HD, HX⟩
  rw [WP_bind]
  iapply (wp_redTile c mM dM xM v2 lb _ _ _ _ _ i t (8 * u + 5) j (eM 5) (eD 5) M (grpD v2 lb M i t u j D 5) X (sM _) (sD _) (sX _)) $$ [HM HD HX]
  · isplitl [HM]; · iexact HM
    isplitl [HD]; · iexact HD
    iexact HX
  iintro ⟨HM, HD, HX⟩
  rw [WP_bind]
  iapply (wp_redTile c mM dM xM v2 lb _ _ _ _ _ i t (8 * u + 6) j (eM 6) (eD 6) M (grpD v2 lb M i t u j D 6) X (sM _) (sD _) (sX _)) $$ [HM HD HX]
  · isplitl [HM]; · iexact HM
    isplitl [HD]; · iexact HD
    iexact HX
  iintro ⟨HM, HD, HX⟩
  rw [WP_bind]
  iapply (wp_redTile c mM dM xM v2 lb _ _ _ _ _ i t (8 * u + 7) j (eM 7) (eD 7) M (grpD v2 lb M i t u j D 7) X (sM _) (sD _) (sX _)) $$ [HM HD HX]
  · isplitl [HM]; · iexact HM
    isplitl [HD]; · iexact HD
    iexact HX
  iintro ⟨HM, HD, HX⟩
  rw [WP_bind]
  iapply (wp_ld c s1M (rS j) (View.loadsAt_vmem h_S1x8x128) A (Finset.subset_univ _)) $$ HA
  iintro HA
  rw [WP_bind]
  iapply (wp_ld c s1M (rS j) (View.loadsAt_vmem h_S1x8x128) A (Finset.subset_univ _)) $$ HA
  iintro HA
  rw [WP_bind]
  iapply (wp_st c s1M (rS j) _ _ (.inl rfl) A (Finset.subset_univ _)) $$ HA
  iintro HA
  rw [WP_bind]
  iapply (wp_ld c s2M (rS j) (View.loadsAt_vmem h_S1x8x128) B (Finset.subset_univ _)) $$ HB
  iintro HB
  rw [WP_bind]
  iapply (wp_ld c s2M (rS j) (View.loadsAt_vmem h_S1x8x128) B (Finset.subset_univ _)) $$ HB
  iintro HB
  rw [WP_bind]
  iapply (wp_st c s2M (rS j) _ _ (.inl rfl) B (Finset.subset_univ _)) $$ HB
  iintro HB
  iapply (WP_pure c)
  iapply Hk
  isplitl [HM]; · iexact HM
  isplitl [HD]; · iexact HD
  isplitl [HX]; · iexact HX
  isplitl [HA]; · iexact HA
  iexact HB

theorem wp_dxTile (a b e : FVec F S32x128 .f32) (oD : Fin 3 → Nat) (oO : Fin 4 → Nat) (hD hO hst) (t o q j : ℕ)
    (eD : oD = (rT t q j).off) (eO : oO = (rO o q j).off) {TD TX : Finset S31x1792x256.Idx} {TO : Finset S2x2x1792x128.Idx}
    (D : BufD F) (X : BufX F) (O : BufO F) (sD : (rT t q j).set ⊆ TD) (sX : (rT t q j).set ⊆ TX) (sO : (rO o q j).set ⊆ TO)
    {Q : Unit → sProp 𝕄} :
    iprop(own c dM TD D ∗ own c xM TX X ∗ own c oMr TO O)
      ⊢ iprop((iprop(own c dM TD D ∗ own c xM TX X ∗ own c oMr TO (upd (rO o q j) (k0_pay284 a b e (at' (rT t q j) D) (at' (rT t q j) X)) O)) -∗ Q ⟨⟩)
        -∗ WP c (dxTile dM xM oMr a b e oD oO hD hO hst) Q) := by
  subst eD eO
  unfold dxTile
  iintro ⟨HD, HX, HO⟩ Hk
  rw [WP_bind]
  iapply (wp_ld c dM (rT t q j) (View.loadsAt_vmem h_S1x32x128) D sD) $$ HD
  iintro HD
  rw [WP_bind]
  iapply (wp_ld c xM (rT t q j) (View.loadsAt_vmem h_S1x32x128) X sX) $$ HX
  iintro HX
  rw [WP_bind]
  iapply (wp_ld c oMr (rO o q j) (View.loadsAt_vmem h_S1x1x32x128) O sO) $$ HO
  iintro HO
  iapply (wp_st c oMr (rO o q j) _ hst (.inl rfl) O sO) $$ HO
  iintro HO
  iapply Hk
  isplitl [HD]; · iexact HD
  isplitl [HX]; · iexact HX
  iexact HO

set_option maxHeartbeats 2000000 in
theorem wp_dxCol (a b e : FVec F S32x128 .f32) (oD : BitVec 32 → Fin 3 → Nat) (oO : BitVec 32 → Fin 4 → Nat) (hD hO hst) (t o u j : ℕ)
    (eD : ∀ r : Fin 8, oD (BitVec.ofNat 32 (32 * r.val)) = (rT t (8 * u + r.val) j).off)
    (eO : ∀ r : Fin 8, oO (BitVec.ofNat 32 (32 * r.val)) = (rO o (8 * u + r.val) j).off)
    {TD TX : Finset S31x1792x256.Idx} {TO : Finset S2x2x1792x128.Idx}
    (D : BufD F) (X : BufX F) (O : BufO F) (sD : ∀ q, (rT t q j).set ⊆ TD) (sX : ∀ q, (rT t q j).set ⊆ TX) (sO : ∀ q, (rO o q j).set ⊆ TO)
    {Q : Unit → sProp 𝕄} :
    iprop(own c dM TD D ∗ own c xM TX X ∗ own c oMr TO O)
      ⊢ iprop((iprop(own c dM TD D ∗ own c xM TX X ∗ own c oMr TO (grpO a b e D X t o u j O 8)) -∗ Q ⟨⟩)
        -∗ WP c (dxCol dM xM oMr a b e oD oO hD hO hst) Q) := by
  unfold dxCol
  iintro ⟨HD, HX, HO⟩ Hk
  rw [WP_bind]
  iapply (wp_dxTile c dM xM oMr a b e _ _ _ _ _ t o (8 * u + 0) j (eD 0) (eO 0) D X (grpO a b e D X t o u j O 0) (sD _) (sX _) (sO _)) $$ [HD HX HO]
  · isplitl [HD]; · iexact HD
    isplitl [HX]; · iexact HX
    iexact HO
  iintro ⟨HD, HX, HO⟩
  rw [WP_bind]
  iapply (wp_dxTile c dM xM oMr a b e _ _ _ _ _ t o (8 * u + 1) j (eD 1) (eO 1) D X (grpO a b e D X t o u j O 1) (sD _) (sX _) (sO _)) $$ [HD HX HO]
  · isplitl [HD]; · iexact HD
    isplitl [HX]; · iexact HX
    iexact HO
  iintro ⟨HD, HX, HO⟩
  rw [WP_bind]
  iapply (wp_dxTile c dM xM oMr a b e _ _ _ _ _ t o (8 * u + 2) j (eD 2) (eO 2) D X (grpO a b e D X t o u j O 2) (sD _) (sX _) (sO _)) $$ [HD HX HO]
  · isplitl [HD]; · iexact HD
    isplitl [HX]; · iexact HX
    iexact HO
  iintro ⟨HD, HX, HO⟩
  rw [WP_bind]
  iapply (wp_dxTile c dM xM oMr a b e _ _ _ _ _ t o (8 * u + 3) j (eD 3) (eO 3) D X (grpO a b e D X t o u j O 3) (sD _) (sX _) (sO _)) $$ [HD HX HO]
  · isplitl [HD]; · iexact HD
    isplitl [HX]; · iexact HX
    iexact HO
  iintro ⟨HD, HX, HO⟩
  rw [WP_bind]
  iapply (wp_dxTile c dM xM oMr a b e _ _ _ _ _ t o (8 * u + 4) j (eD 4) (eO 4) D X (grpO a b e D X t o u j O 4) (sD _) (sX _) (sO _)) $$ [HD HX HO]
  · isplitl [HD]; · iexact HD
    isplitl [HX]; · iexact HX
    iexact HO
  iintro ⟨HD, HX, HO⟩
  rw [WP_bind]
  iapply (wp_dxTile c dM xM oMr a b e _ _ _ _ _ t o (8 * u + 5) j (eD 5) (eO 5) D X (grpO a b e D X t o u j O 5) (sD _) (sX _) (sO _)) $$ [HD HX HO]
  · isplitl [HD]; · iexact HD
    isplitl [HX]; · iexact HX
    iexact HO
  iintro ⟨HD, HX, HO⟩
  rw [WP_bind]
  iapply (wp_dxTile c dM xM oMr a b e _ _ _ _ _ t o (8 * u + 6) j (eD 6) (eO 6) D X (grpO a b e D X t o u j O 6) (sD _) (sX _) (sO _)) $$ [HD HX HO]
  · isplitl [HD]; · iexact HD
    isplitl [HX]; · iexact HX
    iexact HO
  iintro ⟨HD, HX, HO⟩
  iapply (wp_dxTile c dM xM oMr a b e _ _ _ _ _ t o (8 * u + 7) j (eD 7) (eO 7) D X (grpO a b e D X t o u j O 7) (sD _) (sX _) (sO _)) $$ [HD HX HO]
  · isplitl [HD]; · iexact HD
    isplitl [HX]; · iexact HX
    iexact HO
  iintro ⟨HD, HX, HO⟩
  iapply Hk
  isplitl [HD]; · iexact HD
  isplitl [HX]; · iexact HX
  iexact HO

end Groups

end Cert.KernelIdeal.Hand

end
-- ==== Proof.IdealRing.lean ====
/-
  The windows of the copies in flight, and one rule for each copy issued and each copy awaited. A family of windows `R` is
  used in order: with the copies `a ≤ t < b` in flight, the core owns what lies outside their windows.
-/
module

public import proofs.«01_k».proof.Proof.IdealGhost
public import Idealize.ShloMosaic.Lib.ValueLayout

@[expose] public section

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-! ## Families of windows -/

section Family
variable {s : Shape} (R : ℕ → Finset s.Idx)

/-- What lies outside the windows `a ≤ t < b`. -/
def out (a b : ℕ) : Finset s.Idx := Finset.univ.filter fun i => ∀ t, a ≤ t → t < b → i ∉ R t

theorem mem_out {a b : ℕ} {i : s.Idx} : i ∈ out R a b ↔ ∀ t, a ≤ t → t < b → i ∉ R t := by simp [out]

theorem out_self (a : ℕ) : out R a a = Finset.univ := by
  ext i; simp only [mem_out, Finset.mem_univ, iff_true]; intro t h1 h2; omega

theorem sub_out {W : Finset s.Idx} {a b : ℕ} (h : ∀ t, a ≤ t → t < b → Disjoint W (R t)) : W ⊆ out R a b := by
  intro i hi
  rw [mem_out]
  intro t h1 h2 h3
  exact Finset.disjoint_left.mp (h t h1 h2) hi h3

theorem out_succ {a b : ℕ} (h : a ≤ b) : out R a b \ R b = out R a (b + 1) := by
  ext i
  simp only [Finset.mem_sdiff, mem_out]
  constructor
  · rintro ⟨h1, h2⟩ t ha hb
    rcases Nat.lt_succ_iff_lt_or_eq.mp hb with hb | rfl
    · exact h1 t ha hb
    · exact h2
  · intro h1
    exact ⟨fun t ha hb => h1 t ha (by omega), h1 b h (by omega)⟩

theorem out_tail {a b : ℕ} (h : a < b) : out R (a + 1) b \ R a = out R a b := by
  ext i
  simp only [Finset.mem_sdiff, mem_out]
  constructor
  · rintro ⟨h1, h2⟩ t ha hb
    rcases Nat.lt_or_eq_of_le ha with ha | rfl
    · exact h1 t (by omega) hb
    · exact h2
  · intro h1
    exact ⟨fun t ha hb => h1 t (by omega) hb, h1 a le_rfl h⟩

variable (c : Dev nD) {sp : Space} {e : EltTy} (m : Memref sig .tc sp s e)

theorem own_issue {a b : ℕ} (h : a ≤ b) (hd : ∀ t, a ≤ t → t < b → Disjoint (R b) (R t)) (w : s.Idx → Elt F e) :
    own c m (out R a b) w ⊢ iprop(own c m (R b) w ∗ own c m (out R a (b + 1)) w) := by
  rw [← out_succ R h]
  exact own_split c m w (sub_out R hd)

theorem own_wait {a b : ℕ} (h : a < b) (hd : ∀ t, a < t → t < b → Disjoint (R a) (R t)) (w w' : s.Idx → Elt F e) :
    iprop(own c m (R a) w ∗ own c m (out R a b) w') ⊢ own c m (out R (a + 1) b) ((R a).piecewise w w') := by
  rw [← out_tail R h]
  exact own_join c m w w' (sub_out R fun t h1 h2 => hd t h1 h2)

end Family

section Own
variable (c : Dev nD) {sp : Space} {s : Shape} {e : EltTy} (m : Memref sig .tc sp s e)

/-- Ownership depends on the contents only under the indices owned. -/
theorem own_eq {T : Finset s.Idx} {w w' : s.Idx → Elt F e} (h : ∀ x ∈ T, w x = w' x) : own c m T w = own c m T w' := by
  unfold own
  have e1 : (fun f : Buf (Elt F) (m.view.loc (c : Thread nD τ)) => (iprop(⌜∀ x ∈ T, m.view.read (Elt F) f x = w x⌝ ∗ (m.view.loc (c : Thread nD τ) ↦[m.view.setOn T]{fullShare} f)) : sProp 𝕄))
      = fun f => iprop(⌜∀ x ∈ T, m.view.read (Elt F) f x = w' x⌝ ∗ (m.view.loc (c : Thread nD τ) ↦[m.view.setOn T]{fullShare} f)) := by
    funext f
    have : (∀ x ∈ T, m.view.read (Elt F) f x = w x) = (∀ x ∈ T, m.view.read (Elt F) f x = w' x) :=
      propext ⟨fun H x hx => (H x hx).trans (h x hx), fun H x hx => (H x hx).trans (h x hx).symm⟩
    rw [this]
  exact congrArg _ e1

theorem own_two {I J : Finset s.Idx} (hd : Disjoint I J) (w : s.Idx → Elt F e) :
    own c m (I ∪ J) w ⊢ iprop(own c m I w ∗ own c m J w) := by
  have : (I ∪ J) \ I = J := by rw [Finset.union_sdiff_left]; exact Finset.sdiff_eq_self_of_disjoint hd.symm
  refine (own_split c m w (Finset.subset_union_left : I ⊆ I ∪ J)).trans ?_
  rw [this]

theorem own_one {I J : Finset s.Idx} (hd : Disjoint I J) (w : s.Idx → Elt F e) :
    iprop(own c m I w ∗ own c m J w) ⊢ own c m (I ∪ J) w := by
  have : (I ∪ J) \ I = J := by rw [Finset.union_sdiff_left]; exact Finset.sdiff_eq_self_of_disjoint hd.symm
  have h := own_join c m w w (Finset.subset_union_left : I ⊆ I ∪ J)
  rw [this, Finset.piecewise_same] at h
  exact h

end Own

/-! ## The kernel's windows -/

/-- Ring slot of step `t`. -/
def rX (t : ℕ) : Rect S31x1792x256 :=
  Rect.unit (s := S31x1792x256) ![t % 31, 0, 0] S1x1792x256.size (by intro a; fin_cases a <;> simp <;> omega)
/-- Rows and columns of step `t` in the operands. -/
def rH (t : ℕ) : Rect S50176x2048 :=
  Rect.unit (s := S50176x2048) ![1792 * (t % 28), 256 * (t / 28 % 8)] S1792x256.size (by intro a; fin_cases a <;> simp <;> omega)
/-- Mask chunk of mask copy `m`. -/
def rK (m : ℕ) : Rect S28x1792x128 :=
  Rect.unit (s := S28x1792x128) ![m % 28, 0, 0] S1x1792x128.size (by intro a; fin_cases a <;> simp <;> omega)
/-- Rows and bytes of mask copy `m` in the mask. -/
def rL (m : ℕ) : Rect S50176x256 :=
  Rect.unit (s := S50176x256) ![1792 * (m % 28), 128 * (m / 28 % 2)] S1792x128.size (by intro a; fin_cases a <;> simp <;> omega)
/-- Column half `h` of the output slot of step `t`. -/
def rY (t h : ℕ) : Rect S2x2x1792x128 :=
  Rect.unit (s := S2x2x1792x128) ![t % 2, h % 2, 0, 0] S1x1x1792x128.size (by intro a; fin_cases a <;> simp <;> omega)
/-- Where column half `h` of step `t` goes in the result. -/
def rW (t h : ℕ) : Rect S50176x2048 :=
  Rect.unit (s := S50176x2048) ![1792 * (t % 28), 128 * ((2 * (t / 28) + h) % 16)] S1792x128.size (by intro a; fin_cases a <;> simp <;> omega)

theorem emb_val {s : Shape} (off size inb) (j : (Rect.unit (s := s) off size inb).shape.Idx) (a : Fin s.rank) :
    ((Rect.unit (s := s) off size inb).emb j a).val = off a + (j a).val := by
  rw [Rect.emb_apply]; show off a + 1 * _ = _; rw [Nat.one_mul]

abbrev RX (t : ℕ) : Finset S31x1792x256.Idx := (rX t).set
abbrev RH (t : ℕ) : Finset S50176x2048.Idx := (rH t).set
abbrev RK (m : ℕ) : Finset S28x1792x128.Idx := (rK m).set
abbrev RL (m : ℕ) : Finset S50176x256.Idx := (rL m).set
abbrev RY (t : ℕ) : Finset S2x2x1792x128.Idx := (rY t 0).set ∪ (rY t 1).set
abbrev RW (t : ℕ) : Finset S50176x2048.Idx := (rW t 0).set ∪ (rW t 1).set

theorem mem_rX {t : ℕ} {i : S31x1792x256.Idx} : i ∈ (rX t).set ↔ (i 0).val = t % 31 := by
  unfold rX
  rw [Rect.mem_set_unit]
  constructor
  · intro h; have := h 0; simp at this; omega
  · intro h a
    have h1 : (i 1).val < 1792 := (i 1).isLt
    have h2 : (i 2).val < 256 := (i 2).isLt
    fin_cases a <;> simp <;> omega
theorem mem_rH {t : ℕ} {i : S50176x2048.Idx} :
    i ∈ (rH t).set ↔ (i 0).val / 1792 = t % 28 ∧ (i 1).val / 256 = t / 28 % 8 := by
  unfold rH
  rw [Rect.mem_set_unit]
  constructor
  · intro h; have h0 := h 0; have h1 := h 1; simp at h0 h1; omega
  · rintro ⟨h0, h1⟩ a
    fin_cases a <;> simp <;> omega
theorem mem_rK {m : ℕ} {i : S28x1792x128.Idx} : i ∈ (rK m).set ↔ (i 0).val = m % 28 := by
  unfold rK
  rw [Rect.mem_set_unit]
  constructor
  · intro h; have := h 0; simp at this; omega
  · intro h a
    have h1 : (i 1).val < 1792 := (i 1).isLt
    have h2 : (i 2).val < 128 := (i 2).isLt
    fin_cases a <;> simp <;> omega
theorem mem_rL {m : ℕ} {i : S50176x256.Idx} :
    i ∈ (rL m).set ↔ (i 0).val / 1792 = m % 28 ∧ (i 1).val / 128 = m / 28 % 2 := by
  unfold rL
  rw [Rect.mem_set_unit]
  constructor
  · intro h; have h0 := h 0; have h1 := h 1; simp at h0 h1; omega
  · rintro ⟨h0, h1⟩ a
    fin_cases a <;> simp <;> omega
theorem mem_rY {t h : ℕ} {i : S2x2x1792x128.Idx} : i ∈ (rY t h).set ↔ (i 0).val = t % 2 ∧ (i 1).val = h % 2 := by
  unfold rY
  rw [Rect.mem_set_unit]
  constructor
  · intro h; have h0 := h 0; have h1 := h 1; simp at h0 h1; omega
  · rintro ⟨h0, h1⟩ a
    have h2 : (i 2).val < 1792 := (i 2).isLt
    have h3 : (i 3).val < 128 := (i 3).isLt
    fin_cases a <;> simp <;> omega
theorem mem_rW {t h : ℕ} {i : S50176x2048.Idx} :
    i ∈ (rW t h).set ↔ (i 0).val / 1792 = t % 28 ∧ (i 1).val / 128 = (2 * (t / 28) + h) % 16 := by
  unfold rW
  rw [Rect.mem_set_unit]
  constructor
  · intro h; have h0 := h 0; have h1 := h 1; simp at h0 h1; omega
  · rintro ⟨h0, h1⟩ a
    fin_cases a <;> simp <;> omega

theorem mem_rT {t q j : ℕ} {i : S31x1792x256.Idx} :
    i ∈ (rT t q j).set ↔ (i 0).val = t % 31 ∧ (i 1).val / 32 = q % 56 ∧ (i 2).val / 128 = j % 2 := by
  unfold rT
  rw [Rect.mem_set_unit]
  constructor
  · intro h; have h0 := h 0; have h1 := h 1; have h2 := h 2; simp at h0 h1 h2; omega
  · rintro ⟨h0, h1, h2⟩ a
    fin_cases a <;> simp <;> omega
theorem mem_rM {t q : ℕ} {i : S28x1792x128.Idx} :
    i ∈ (rM t q).set ↔ (i 0).val = t % 28 ∧ (i 1).val / 32 = q % 56 := by
  unfold rM
  rw [Rect.mem_set_unit]
  constructor
  · intro h; have h0 := h 0; have h1 := h 1; have h2 := h 2; simp at h0 h1 h2; omega
  · rintro ⟨h0, h1⟩ a
    have h2 : (i 2).val < 128 := (i 2).isLt
    fin_cases a <;> simp <;> omega
theorem mem_rO {t q j : ℕ} {i : S2x2x1792x128.Idx} :
    i ∈ (rO t q j).set ↔ (i 0).val = t % 2 ∧ (i 1).val = j % 2 ∧ (i 2).val / 32 = q % 56 := by
  unfold rO
  rw [Rect.mem_set_unit]
  constructor
  · intro h; have h0 := h 0; have h1 := h 1; have h2 := h 2; simp at h0 h1 h2; omega
  · rintro ⟨h0, h1, h2⟩ a
    have h3 : (i 3).val < 128 := (i 3).isLt
    fin_cases a <;> simp <;> omega

theorem disj_RX {t t' : ℕ} (h : t % 31 ≠ t' % 31) : Disjoint (RX t) (RX t') :=
  Finset.disjoint_left.mpr fun i hi hj => h ((mem_rX.mp hi).symm.trans (mem_rX.mp hj))
theorem disj_RK {t t' : ℕ} (h : t % 28 ≠ t' % 28) : Disjoint (RK t) (RK t') :=
  Finset.disjoint_left.mpr fun i hi hj => h ((mem_rK.mp hi).symm.trans (mem_rK.mp hj))
theorem disj_RH {t t' : ℕ} (h : t % 224 ≠ t' % 224) : Disjoint (RH t) (RH t') :=
  Finset.disjoint_left.mpr fun i hi hj => by
    have h1 := mem_rH.mp hi; have h2 := mem_rH.mp hj; omega
theorem disj_RL {t t' : ℕ} (h : t % 56 ≠ t' % 56) : Disjoint (RL t) (RL t') :=
  Finset.disjoint_left.mpr fun i hi hj => by
    have h1 := mem_rL.mp hi; have h2 := mem_rL.mp hj; omega
theorem disj_RY {t t' : ℕ} (h : t % 2 ≠ t' % 2) : Disjoint (RY t) (RY t') :=
  Finset.disjoint_left.mpr fun i hi hj => by
    simp only [Finset.mem_union, mem_rY] at hi hj; omega
theorem disj_RW {t t' : ℕ} (h : t % 224 ≠ t' % 224) : Disjoint (RW t) (RW t') :=
  Finset.disjoint_left.mpr fun i hi hj => by
    simp only [Finset.mem_union, mem_rW] at hi hj; omega
theorem disj_rY (t : ℕ) : Disjoint (rY t 0).set (rY t 1).set :=
  Finset.disjoint_left.mpr fun i hi hj => by
    simp only [mem_rY] at hi hj; omega
theorem disj_rW (t : ℕ) : Disjoint (rW t 0).set (rW t 1).set :=
  Finset.disjoint_left.mpr fun i hi hj => by
    simp only [mem_rW] at hi hj; omega

theorem rT_sub {t q j a b : ℕ} (h : ∀ t', a ≤ t' → t' < b → t % 31 ≠ t' % 31) : (rT t q j).set ⊆ out RX a b :=
  sub_out RX fun t' h1 h2 => Finset.disjoint_left.mpr fun i hi hj =>
    h t' h1 h2 ((mem_rT.mp hi).1.symm.trans (mem_rX.mp hj))
theorem rM_sub {t q a b : ℕ} (h : ∀ t', a ≤ t' → t' < b → t % 28 ≠ t' % 28) : (rM t q).set ⊆ out RK a b :=
  sub_out RK fun t' h1 h2 => Finset.disjoint_left.mpr fun i hi hj =>
    h t' h1 h2 ((mem_rM.mp hi).1.symm.trans (mem_rK.mp hj))
theorem rO_sub {t q j a b : ℕ} (h : ∀ t', a ≤ t' → t' < b → t % 2 ≠ t' % 2) : (rO t q j).set ⊆ out RY a b :=
  sub_out RY fun t' h1 h2 => Finset.disjoint_left.mpr fun i hi hj => by
    simp only [Finset.mem_union, mem_rY] at hj
    exact h t' h1 h2 ((mem_rO.mp hi).1.symm.trans (by omega))

/-! ## The kernel's operands -/

/-- The memrefs the kernel runs on. -/
structure Args where
  a0 : Memref sig .tc .smem S1 .f32
  h0 : a0.IsWhole
  a1 : Memref sig .tc .smem S1 .f32
  h1 : a1.IsWhole
  a2 : Memref sig .tc .hbm S50176x2048 .fp8e4m3
  h2 : a2.IsWhole
  a3 : Memref sig .tc .hbm S50176x2048 .fp8e5m2
  h3 : a3.IsWhole
  a4 : Memref sig .tc .hbm S50176x256 .i8
  h4 : a4.IsWhole
  a5 : Memref sig .tc .vmem S16x128 .f32
  h5 : a5.IsWhole
  a6 : Memref sig .tc .vmem S16x128 .f32
  h6 : a6.IsWhole
  a7 : Memref sig .tc .vmem S16x128 .f32
  h7 : a7.IsWhole
  a8 : Memref sig .tc .hbm S50176x2048 .bf16
  h8 : a8.IsWhole
  a9 : Memref sig .tc .vmem S16x128 .f32
  h9 : a9.IsWhole
  a10 : Memref sig .tc .vmem S16x128 .f32
  h10 : a10.IsWhole
  a11 : Memref sig .tc .vmem S31x1792x256 .fp8e4m3
  h11 : a11.IsWhole
  a12 : Memref sig .tc .vmem S31x1792x256 .fp8e5m2
  h12 : a12.IsWhole
  a13 : Memref sig .tc .vmem S28x1792x128 .i8
  h13 : a13.IsWhole
  a14 : Memref sig .tc .vmem S2x2x1792x128 .bf16
  h14 : a14.IsWhole
  a15 : Memref sig .tc .vmem S2x8x128 .f32
  h15 : a15.IsWhole
  a16 : Memref sig .tc .vmem S2x8x128 .f32
  h16 : a16.IsWhole
  a17 : Memref sig .tc .vmem S6x8x128 .f32
  h17 : a17.IsWhole
  a18 : DmaSems sig S3
  a19 : DmaSems sig S28
  a20 : DmaSems sig S2
  credit : sig.dmaCredit .tc (Kind.tc.table .vmem) a12.view.buf S1792x256 .fp8e5m2
    = sig.dmaCredit .tc (Kind.tc.table .vmem) a11.view.buf S1792x256 .fp8e4m3

/-- What the operands hold. -/
structure Ins (F : FTy → Type) where
  xs : S1.Idx → Elt F .f32
  ys : S1.Idx → Elt F .f32
  x : S50176x2048.Idx → Elt F .fp8e4m3
  y : S50176x2048.Idx → Elt F .fp8e5m2
  km : S50176x256.Idx → Elt F .i8
  mean : S16x128.Idx → Elt F .f32
  rstd : S16x128.Idx → Elt F .f32
  gam : S16x128.Idx → Elt F .f32

variable (A : Args) (I : Ins F) (c : Dev nD)

def rsem (t : ℕ) : DmaSem sig :=
  ((A.a18.slice (Rect.unit (s := S3) ![t % 3] S1.size (by intro a; fin_cases a; simp; omega))).squeeze S_ squeezes_S1_S_).sem
def msem (m : ℕ) : DmaSem sig :=
  ((A.a19.slice (Rect.unit (s := S28) ![m % 28] S1.size (by intro a; fin_cases a; simp; omega))).squeeze S_ squeezes_S1_S_).sem
def wsem (t : ℕ) : DmaSem sig :=
  ((A.a20.slice (Rect.unit (s := S2) ![t % 2] S1.size (by intro a; fin_cases a; simp; omega))).squeeze S_ squeezes_S1_S_).sem

def NR : ℕ := sig.dmaCredit .tc (Kind.tc.table .vmem) A.a11.view.buf S1792x256 .fp8e4m3
def NM : ℕ := sig.dmaCredit .tc (Kind.tc.table .vmem) A.a13.view.buf S1792x128 .i8
def NW : ℕ := sig.dmaCredit .tc (Kind.tc.table .hbm) A.a8.view.buf S1792x128 .bf16

theorem NR_pos : 0 < NR A := sig.dmaCredit_pos _ _ _ _ _ (by decide)
theorem NM_pos : 0 < NM A := sig.dmaCredit_pos _ _ _ _ _ (by decide)
theorem NW_pos : 0 < NW A := sig.dmaCredit_pos _ _ _ _ _ (by decide)

/-- Where element `i` of the slot of step `t` comes from. -/
def srcI (t : ℕ) (i : S31x1792x256.Idx) : S50176x2048.Idx :=
  ix2 ⟨1792 * (t % 28) + (i 1).val, by have h : (i 1).val < 1792 := (i 1).isLt; omega⟩ ⟨256 * (t / 28 % 8) + (i 2).val, by have h : (i 2).val < 256 := (i 2).isLt; omega⟩
/-- Where element `i` of the chunk of mask copy `m` comes from. -/
def srcK (m : ℕ) (i : S28x1792x128.Idx) : S50176x256.Idx :=
  ix2 ⟨1792 * (m % 28) + (i 1).val, by have h : (i 1).val < 1792 := (i 1).isLt; omega⟩ ⟨128 * (m / 28 % 2) + (i 2).val, by have h : (i 2).val < 128 := (i 2).isLt; omega⟩
/-- Where element `i` of the result's window of step `t` comes from. -/
def srcW (t h : ℕ) (i : S50176x2048.Idx) : S2x2x1792x128.Idx :=
  ix4 ⟨t % 2, by omega⟩ ⟨h % 2, by omega⟩ ⟨(i 0).val % 1792, by omega⟩ ⟨(i 1).val % 128, by omega⟩

/-- The result after a half of step `t` was copied out. -/
def dxStep (t h : ℕ) (O : BufO F) (w : S50176x2048.Idx → Elt F .bf16) : S50176x2048.Idx → Elt F .bf16 :=
  (rW t h).set.piecewise (fun i => O (srcW t h i)) w

theorem srcI_emb (t : ℕ) (i : S1792x256.Idx) :
    srcI t ((rX t).emb (Shape.reshapeEquiv squeezes_S1x1792x256_S1792x256.numel_eq i)) = (rH t).emb i := by
  obtain ⟨x, y, rfl⟩ : ∃ (x : Fin 1792) (y : Fin 256), i = ix2 x y := ⟨i 0, i 1, eq_ix2 i⟩
  have e : Shape.reshapeEquiv squeezes_S1x1792x256_S1792x256.numel_eq (ix2 x y) = ix3 0 x y := reshapeEquiv_ix2_1ab _ _ _
  rw [e]
  have e1 : ((rX t).emb (ix3 0 x y) 1).val = 0 + x.val := emb_val ..
  have e2 : ((rX t).emb (ix3 0 x y) 2).val = 0 + y.val := emb_val ..
  have f0 : ((rH t).emb (ix2 x y) 0).val = 1792 * (t % 28) + x.val := emb_val ..
  have f1 : ((rH t).emb (ix2 x y) 1).val = 256 * (t / 28 % 8) + y.val := emb_val ..
  funext a
  apply Fin.ext
  match a with
  | ⟨0, _⟩ => exact (congrArg (1792 * (t % 28) + ·) (e1.trans (Nat.zero_add _))).trans f0.symm
  | ⟨1, _⟩ => exact (congrArg (256 * (t / 28 % 8) + ·) (e2.trans (Nat.zero_add _))).trans f1.symm

theorem srcK_emb (t : ℕ) (i : S1792x128.Idx) :
    srcK t ((rK t).emb (Shape.reshapeEquiv squeezes_S1x1792x128_S1792x128.numel_eq i)) = (rL t).emb i := by
  obtain ⟨x, y, rfl⟩ : ∃ (x : Fin 1792) (y : Fin 128), i = ix2 x y := ⟨i 0, i 1, eq_ix2 i⟩
  have e : Shape.reshapeEquiv squeezes_S1x1792x128_S1792x128.numel_eq (ix2 x y) = ix3 0 x y := reshapeEquiv_ix2_1ab _ _ _
  rw [e]
  have e1 : ((rK t).emb (ix3 0 x y) 1).val = 0 + x.val := emb_val ..
  have e2 : ((rK t).emb (ix3 0 x y) 2).val = 0 + y.val := emb_val ..
  have f0 : ((rL t).emb (ix2 x y) 0).val = 1792 * (t % 28) + x.val := emb_val ..
  have f1 : ((rL t).emb (ix2 x y) 1).val = 128 * (t / 28 % 2) + y.val := emb_val ..
  funext a
  apply Fin.ext
  match a with
  | ⟨0, _⟩ => exact (congrArg (1792 * (t % 28) + ·) (e1.trans (Nat.zero_add _))).trans f0.symm
  | ⟨1, _⟩ => exact (congrArg (128 * (t / 28 % 2) + ·) (e2.trans (Nat.zero_add _))).trans f1.symm

theorem srcW_emb (t h : ℕ) (i : S1792x128.Idx) :
    srcW t h ((rW t h).emb i) = (rY t h).emb (Shape.reshapeEquiv squeezes_S1x1x1792x128_S1792x128.numel_eq i) := by
  obtain ⟨x, y, rfl⟩ : ∃ (x : Fin 1792) (y : Fin 128), i = ix2 x y := ⟨i 0, i 1, eq_ix2 i⟩
  have e : Shape.reshapeEquiv squeezes_S1x1x1792x128_S1792x128.numel_eq (ix2 x y) = ix4 0 0 x y := reshapeEquiv_ix2_11ab _ _ _
  rw [e]
  have h0 : x.val < 1792 := x.isLt
  have h1 : y.val < 128 := y.isLt
  have e0 : ((rY t h).emb (ix4 0 0 x y) 0).val = t % 2 + 0 := emb_val ..
  have e1 : ((rY t h).emb (ix4 0 0 x y) 1).val = h % 2 + 0 := emb_val ..
  have e2 : ((rY t h).emb (ix4 0 0 x y) 2).val = 0 + x.val := emb_val ..
  have e3 : ((rY t h).emb (ix4 0 0 x y) 3).val = 0 + y.val := emb_val ..
  have f0 : ((rW t h).emb (ix2 x y) 0).val = 1792 * (t % 28) + x.val := emb_val ..
  have f1 : ((rW t h).emb (ix2 x y) 1).val = 128 * ((2 * (t / 28) + h) % 16) + y.val := emb_val ..
  funext a
  apply Fin.ext
  match a with
  | ⟨0, _⟩ => exact e0.symm
  | ⟨1, _⟩ => exact e1.symm
  | ⟨2, _⟩ => exact (congrArg (· % 1792) f0).trans ((by show (1792 * (t % 28) + x.val) % 1792 = 0 + x.val; omega : _ = 0 + x.val).trans e2.symm)
  | ⟨3, _⟩ => exact (congrArg (· % 128) f1).trans ((by show (128 * ((2 * (t / 28) + h) % 16) + y.val) % 128 = 0 + y.val; omega : _ = 0 + y.val).trans e3.symm)

end Cert.KernelIdeal.Hand

end
-- ==== Proof.IdealFlight.lean ====
/-
  The copies the kernel keeps in flight: what each delivers, and the rules for issuing and awaiting them.
-/
module

public import proofs.«01_k».proof.Proof.IdealRing

@[expose] public section

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

variable (A : Args) (I : Ins F) (c : Dev nD)

/-! ## What is delivered -/

def XG (t : ℕ) : BufX F := fun i => I.x (srcI t i)
def DG (t : ℕ) : BufD F := fun i => I.y (srcI t i)
def MG (m : ℕ) : BufM F := fun i => I.km (srcK m i)

/-- The two reads of step `t`. -/
abbrev DR (t : ℕ) : Fin 2 → sProp 𝕄 :=
  ![iprop(own c A.a11 (RX t) (XG I t) ∗ own c A.a2 (RH t) I.x), iprop(own c A.a12 (RX t) (DG I t) ∗ own c A.a3 (RH t) I.y)]
/-- Mask copy `m`. -/
abbrev DM (m : ℕ) : Fin 1 → sProp 𝕄 := ![iprop(own c A.a13 (RK m) (MG I m) ∗ own c A.a4 (RL m) I.km)]
/-- The two writes of step `t`. -/
abbrev DW (t : ℕ) (w : S50176x2048.Idx → Elt F .bf16) (O : BufO F) : Fin 2 → sProp 𝕄 :=
  ![iprop(own c A.a8 (rW t 0).set w ∗ own c A.a14 (rY t 0).set O), iprop(own c A.a8 (rW t 1).set w ∗ own c A.a14 (rY t 1).set O)]

instance DR_storable (t : ℕ) (k : Fin 2) : BI.Storable (upEmb : UEmb _ 𝕄) (DR A I c t k) := by
  fin_cases k
  · show BI.Storable _ (iprop(own c A.a11 (RX t) (XG I t) ∗ own c A.a2 (RH t) I.x)); infer_instance
  · show BI.Storable _ (iprop(own c A.a12 (RX t) (DG I t) ∗ own c A.a3 (RH t) I.y)); infer_instance
instance DM_storable (m : ℕ) (k : Fin 1) : BI.Storable (upEmb : UEmb _ 𝕄) (DM A I c m k) := by
  fin_cases k
  show BI.Storable _ (iprop(own c A.a13 (RK m) (MG I m) ∗ own c A.a4 (RL m) I.km)); infer_instance
instance DW_storable (t : ℕ) (w : S50176x2048.Idx → Elt F .bf16) (O : BufO F) (k : Fin 2) : BI.Storable (upEmb : UEmb _ 𝕄) (DW A c t w O k) := by
  fin_cases k
  · show BI.Storable _ (iprop(own c A.a8 (rW t 0).set w ∗ own c A.a14 (rY t 0).set O)); infer_instance
  · show BI.Storable _ (iprop(own c A.a8 (rW t 1).set w ∗ own c A.a14 (rY t 1).set O)); infer_instance

theorem DW_congr {t : ℕ} {w w' : S50176x2048.Idx → Elt F .bf16} {O O' : BufO F} (hw : ∀ i ∈ RW t, w i = w' i)
    (hO : ∀ i ∈ RY t, O i = O' i) : DW A c t w O = DW A c t w' O' := by
  have e0 : own c A.a8 (rW t 0).set w = own c A.a8 (rW t 0).set w' := own_eq c _ fun i hi => hw i (Finset.mem_union_left _ hi)
  have e1 : own c A.a8 (rW t 1).set w = own c A.a8 (rW t 1).set w' := own_eq c _ fun i hi => hw i (Finset.mem_union_right _ hi)
  have e2 : own c A.a14 (rY t 0).set O = own c A.a14 (rY t 0).set O' := own_eq c _ fun i hi => hO i (Finset.mem_union_left _ hi)
  have e3 : own c A.a14 (rY t 1).set O = own c A.a14 (rY t 1).set O' := own_eq c _ fun i hi => hO i (Finset.mem_union_right _ hi)
  unfold DW
  rw [e0, e1, e2, e3]

/-! ## Cells -/

/-- The reads of step `t` in flight. -/
abbrev FlyR (t k u : ℕ) : sProp 𝕄 := Fly c (rsem A t) (NR A) (DR A I c t) k u
abbrev FlyM (m k u : ℕ) : sProp 𝕄 := Fly c (msem A m) (NM A) (DM A I c m) k u
abbrev FlyW (t : ℕ) (w : S50176x2048.Idx → Elt F .bf16) (O : BufO F) (k u : ℕ) : sProp 𝕄 := Fly c (wsem A t) (NW A) (DW A c t w O) k u

/-- The read operands and buffers outside the reads `a ≤ t < b`. -/
def Rd (a b : ℕ) (X : BufX F) (D : BufD F) : sProp 𝕄 :=
  iprop(own c A.a2 (out RH a b) I.x ∗ own c A.a11 (out RX a b) X ∗ own c A.a3 (out RH a b) I.y ∗ own c A.a12 (out RX a b) D)

/-- The mask operand and buffer outside the mask copies `a ≤ m < b`. -/
def Mk (a b : ℕ) (M : BufM F) : sProp 𝕄 := iprop(own c A.a4 (out RL a b) I.km ∗ own c A.a13 (out RK a b) M)

/-- The result and the output buffer outside the writes `a ≤ t < b`. -/
def Wr (a b : ℕ) (w : S50176x2048.Idx → Elt F .bf16) (O : BufO F) : sProp 𝕄 :=
  iprop(own c A.a8 (out RW a b) w ∗ own c A.a14 (out RY a b) O)

/-- The next read out of the ring goes out. -/
theorem wp_readX {a t : ℕ} (h : a ≤ t) (ht : t < a + 3) (X : BufX F) (D : BufD F) (os ob oh) (is ib ih)
    (es : os = ![t % 3]) (eb : ob = ![t % 31, 0, 0]) (eh : oh = ![1792 * (t % 28), 256 * (t / 28 % 8)]) (hs hd ht')
    {Q : PUnit → sProp 𝕄} :
    iprop(own c A.a2 (out RH a t) I.x ∗ own c A.a11 (out RX a t) X ∗ semVal ((c : Thread nD τ), .dma (rsem A t)) 0)
      ⊢ iprop((iprop(own c A.a2 (out RH a (t + 1)) I.x ∗ own c A.a11 (out RX a (t + 1)) X ∗ FlyR A I c t 1 0) -∗ Q ⟨⟩)
        -∗ WP c (Prog.lift (.enqueueDma (A.a2.slice (Rect.unit (s := S50176x2048) oh S1792x256.size ih) (fun _ => rfl))
            (.here ((A.a11.slice (Rect.unit (s := S31x1792x256) ob S1x1792x256.size ib) (fun _ => rfl)).squeeze S1792x256 squeezes_S1x1792x256_S1792x256))
            (.dma ((A.a18.slice (Rect.unit (s := S3) os S1.size is)).squeeze S_ squeezes_S1_S_).sem) hs hd ht')) Q) := by
  subst es eb eh
  iintro ⟨Hh, Hb, Hs⟩ Hk
  ihave Hh' := (own_issue RH c A.a2 h (fun t' h1 h2 => disj_RH (by omega)) I.x) $$ Hh
  icases Hh' with ⟨Hh1, Hh2⟩
  ihave Hb' := (own_issue RX c A.a11 h (fun t' h1 h2 => disj_RX (by omega)) X) $$ Hb
  icases Hb' with ⟨Hb1, Hb2⟩
  imod (fly_start c (rsem A t) (NR A) (DR A I c t)) $$ Hs with HF
  iapply (wp_enq_in c A.a2 A.a11 (rH t) (fun _ => rfl) (rX t) (fun _ => rfl) squeezes_S1x1792x256_S1792x256 (rsem A t) hs hd ht'
    I.x X (XG I t) (DR A I c t) 0 (NR A) rfl (by decide) (fun i => congrArg I.x (srcI_emb t i)) .rfl) $$ [Hh1 Hb1 HF]
  · isplitl [Hh1]; · iexact Hh1
    isplitl [Hb1]; · iexact Hb1
    iexact HF
  iintro HF
  iapply Hk
  isplitl [Hh2]; · iexact Hh2
  isplitl [Hb2]; · iexact Hb2
  iexact HF

theorem wp_readD {a t : ℕ} (h : a ≤ t) (ht : t < a + 3) (X : BufX F) (D : BufD F) (os ob oh) (is ib ih)
    (es : os = ![t % 3]) (eb : ob = ![t % 31, 0, 0]) (eh : oh = ![1792 * (t % 28), 256 * (t / 28 % 8)]) (hs hd ht')
    {Q : PUnit → sProp 𝕄} :
    iprop(own c A.a3 (out RH a t) I.y ∗ own c A.a12 (out RX a t) D ∗ FlyR A I c t 1 0)
      ⊢ iprop((iprop(own c A.a3 (out RH a (t + 1)) I.y ∗ own c A.a12 (out RX a (t + 1)) D ∗ FlyR A I c t 2 0) -∗ Q ⟨⟩)
        -∗ WP c (Prog.lift (.enqueueDma (A.a3.slice (Rect.unit (s := S50176x2048) oh S1792x256.size ih) (fun _ => rfl))
            (.here ((A.a12.slice (Rect.unit (s := S31x1792x256) ob S1x1792x256.size ib) (fun _ => rfl)).squeeze S1792x256 squeezes_S1x1792x256_S1792x256))
            (.dma ((A.a18.slice (Rect.unit (s := S3) os S1.size is)).squeeze S_ squeezes_S1_S_).sem) hs hd ht')) Q) := by
  subst es eb eh
  iintro ⟨Hh, Hb, HF⟩ Hk
  ihave Hh' := (own_issue RH c A.a3 h (fun t' h1 h2 => disj_RH (by omega)) I.y) $$ Hh
  icases Hh' with ⟨Hh1, Hh2⟩
  ihave Hb' := (own_issue RX c A.a12 h (fun t' h1 h2 => disj_RX (by omega)) D) $$ Hb
  icases Hb' with ⟨Hb1, Hb2⟩
  iapply (wp_enq_in c A.a3 A.a12 (rH t) (fun _ => rfl) (rX t) (fun _ => rfl) squeezes_S1x1792x256_S1792x256 (rsem A t) hs hd ht'
    I.y D (DG I t) (DR A I c t) 1 (NR A) A.credit (by decide) (fun i => congrArg I.y (srcI_emb t i)) .rfl) $$ [Hh1 Hb1 HF]
  · isplitl [Hh1]; · iexact Hh1
    isplitl [Hb1]; · iexact Hb1
    iexact HF
  iintro HF
  iapply Hk
  isplitl [Hh2]; · iexact Hh2
  isplitl [Hb2]; · iexact Hb2
  iexact HF

theorem wp_readM {a m : ℕ} (h : a ≤ m) (hm : m < a + 28) (M : BufM F) (os ob oh) (is ib ih)
    (es : os = ![m % 28]) (eb : ob = ![m % 28, 0, 0]) (eh : oh = ![1792 * (m % 28), 128 * (m / 28 % 2)]) (hs hd ht')
    {Q : PUnit → sProp 𝕄} :
    iprop(Mk A I c a m M ∗ semVal ((c : Thread nD τ), .dma (msem A m)) 0)
      ⊢ iprop((iprop(Mk A I c a (m + 1) M ∗ FlyM A I c m 1 0) -∗ Q ⟨⟩)
        -∗ WP c (Prog.lift (.enqueueDma (A.a4.slice (Rect.unit (s := S50176x256) oh S1792x128.size ih) (fun _ => rfl))
            (.here ((A.a13.slice (Rect.unit (s := S28x1792x128) ob S1x1792x128.size ib) (fun _ => rfl)).squeeze S1792x128 squeezes_S1x1792x128_S1792x128))
            (.dma ((A.a19.slice (Rect.unit (s := S28) os S1.size is)).squeeze S_ squeezes_S1_S_).sem) hs hd ht')) Q) := by
  subst es eb eh
  unfold Mk
  iintro ⟨⟨Hh, Hb⟩, Hs⟩ Hk
  ihave Hh' := (own_issue RL c A.a4 h (fun t' h1 h2 => disj_RL (by omega)) I.km) $$ Hh
  icases Hh' with ⟨Hh1, Hh2⟩
  ihave Hb' := (own_issue RK c A.a13 h (fun t' h1 h2 => disj_RK (by omega)) M) $$ Hb
  icases Hb' with ⟨Hb1, Hb2⟩
  imod (fly_start c (msem A m) (NM A) (DM A I c m)) $$ Hs with HF
  iapply (wp_enq_in c A.a4 A.a13 (rL m) (fun _ => rfl) (rK m) (fun _ => rfl) squeezes_S1x1792x128_S1792x128 (msem A m) hs hd ht'
    I.km M (MG I m) (DM A I c m) 0 (NM A) rfl (by decide) (fun i => congrArg I.km (srcK_emb m i)) .rfl) $$ [Hh1 Hb1 HF]
  · isplitl [Hh1]; · iexact Hh1
    isplitl [Hb1]; · iexact Hb1
    iexact HF
  iintro HF
  iapply Hk
  isplitr [HF]
  · isplitl [Hh2]; · iexact Hh2
    iexact Hb2
  iexact HF

theorem wp_waitX (t : ℕ) (os ob oh) (is ib ih) (es : os = ![t % 3]) (hs hd) {Q : PUnit → sProp 𝕄} :
    iprop(FlyR A I c t 2 0 ∗ owing (F := F) c)
      ⊢ iprop((iprop(FlyR A I c t 2 (0 + NR A) ∗ owing (F := F) c) -∗ Q ⟨⟩)
        -∗ WP c (Prog.lift (.waitDma2 ((A.a18.slice (Rect.unit (s := S3) os S1.size is)).squeeze S_ squeezes_S1_S_).sem
            (A.a2.slice (Rect.unit (s := S50176x2048) oh S1792x256.size ih) (fun _ => rfl))
            ((A.a11.slice (Rect.unit (s := S31x1792x256) ob S1x1792x256.size ib) (fun _ => rfl)).squeeze S1792x256 squeezes_S1x1792x256_S1792x256) hs hd)) Q) := by
  subst es
  exact wp_wait c _ _ (rsem A t) hs hd (DR A I c t) 0 (NR A) rfl (by have := NR_pos A; omega)

theorem wp_waitD {a b : ℕ} (h : a < b) (hb : b ≤ a + 3) (X : BufX F) (D : BufD F) (os ob oh) (is ib ih) (es : os = ![a % 3]) (hs hd) {Q : PUnit → sProp 𝕄} :
    iprop(FlyR A I c a 2 (0 + NR A) ∗ owing (F := F) c ∗ Rd A I c a b X D)
      ⊢ iprop((iprop(Rd A I c (a + 1) b ((RX a).piecewise (XG I a) X) ((RX a).piecewise (DG I a) D)
            ∗ semVal ((c : Thread nD τ), .dma (rsem A a)) 0 ∗ owing (F := F) c) -∗ Q ⟨⟩)
        -∗ WP c (Prog.lift (.waitDma2 ((A.a18.slice (Rect.unit (s := S3) os S1.size is)).squeeze S_ squeezes_S1_S_).sem
            (A.a3.slice (Rect.unit (s := S50176x2048) oh S1792x256.size ih) (fun _ => rfl))
            ((A.a12.slice (Rect.unit (s := S31x1792x256) ob S1x1792x256.size ib) (fun _ => rfl)).squeeze S1792x256 squeezes_S1x1792x256_S1792x256) hs hd)) Q) := by
  subst es
  unfold Rd
  iintro ⟨HF, HO, ⟨H2, H11, H3, H12⟩⟩ Hk
  iapply (wp_waitLast c _ _ (rsem A a) hs hd (DR A I c a) (0 + NR A) (NR A) A.credit (NR_pos A) (by omega)) $$ [HF HO]
  · isplitl [HF]; · iexact HF
    iexact HO
  rw [bigSep_univ_two]
  iintro ⟨HD, HS, HO⟩
  icases HD with ⟨H0, H1⟩
  ihave H0' := (show DR A I c a 0 ⊢ iprop(own c A.a11 (RX a) (XG I a) ∗ own c A.a2 (RH a) I.x) from .rfl) $$ H0
  ihave H1' := (show DR A I c a 1 ⊢ iprop(own c A.a12 (RX a) (DG I a) ∗ own c A.a3 (RH a) I.y) from .rfl) $$ H1
  icases H0' with ⟨G11, G2⟩
  icases H1' with ⟨G12, G3⟩
  iapply Hk
  isplitr [HS HO]; swap
  · isplitl [HS]; · iexact HS
    iexact HO
  isplitl [H2 G2]
  · ihave E := (own_wait RH c A.a2 h (fun t' h1 h2 => disj_RH (by omega)) I.x I.x) $$ [H2 G2]
    · isplitl [G2]; · iexact G2
      iexact H2
    rw [Finset.piecewise_same]
    iexact E
  isplitl [H11 G11]
  · iapply (own_wait RX c A.a11 h (fun t' h1 h2 => disj_RX (by omega)) (XG I a) X)
    isplitl [G11]; · iexact G11
    iexact H11
  isplitl [H3 G3]
  · ihave E := (own_wait RH c A.a3 h (fun t' h1 h2 => disj_RH (by omega)) I.y I.y) $$ [H3 G3]
    · isplitl [G3]; · iexact G3
      iexact H3
    rw [Finset.piecewise_same]
    iexact E
  · iapply (own_wait RX c A.a12 h (fun t' h1 h2 => disj_RX (by omega)) (DG I a) D)
    isplitl [G12]; · iexact G12
    iexact H12

theorem wp_waitM {a b : ℕ} (h : a < b) (hb : b ≤ a + 28) (M : BufM F) (os ob oh) (is ib ih) (es : os = ![a % 28]) (hs hd) {Q : PUnit → sProp 𝕄} :
    iprop(FlyM A I c a 1 0 ∗ owing (F := F) c ∗ Mk A I c a b M)
      ⊢ iprop((iprop(Mk A I c (a + 1) b ((RK a).piecewise (MG I a) M)
            ∗ semVal ((c : Thread nD τ), .dma (msem A a)) 0 ∗ owing (F := F) c) -∗ Q ⟨⟩)
        -∗ WP c (Prog.lift (.waitDma2 ((A.a19.slice (Rect.unit (s := S28) os S1.size is)).squeeze S_ squeezes_S1_S_).sem
            (A.a4.slice (Rect.unit (s := S50176x256) oh S1792x128.size ih) (fun _ => rfl))
            ((A.a13.slice (Rect.unit (s := S28x1792x128) ob S1x1792x128.size ib) (fun _ => rfl)).squeeze S1792x128 squeezes_S1x1792x128_S1792x128) hs hd)) Q) := by
  subst es
  unfold Mk
  iintro ⟨HF, HO, ⟨H2, H11⟩⟩ Hk
  iapply (wp_waitLast c _ _ (msem A a) hs hd (DM A I c a) 0 (NM A) rfl (NM_pos A) (by omega)) $$ [HF HO]
  · isplitl [HF]; · iexact HF
    iexact HO
  rw [show (Finset.univ : Finset (Fin 1)) = {0} from rfl, bigSep_singleton]
  iintro ⟨HD, HS, HO⟩
  ihave H0' := (show DM A I c a 0 ⊢ iprop(own c A.a13 (RK a) (MG I a) ∗ own c A.a4 (RL a) I.km) from .rfl) $$ HD
  icases H0' with ⟨G11, G2⟩
  iapply Hk
  isplitr [HS HO]; swap
  · isplitl [HS]; · iexact HS
    iexact HO
  isplitl [H2 G2]
  · ihave E := (own_wait RL c A.a4 h (fun t' h1 h2 => disj_RL (by omega)) I.km I.km) $$ [H2 G2]
    · isplitl [G2]; · iexact G2
      iexact H2
    rw [Finset.piecewise_same]
    iexact E
  · iapply (own_wait RK c A.a13 h (fun t' h1 h2 => disj_RK (by omega)) (MG I a) M)
    isplitl [G11]; · iexact G11
    iexact H11

/-! ## The writes -/

/-- The result after both halves of step `t` were copied out. -/
def dxW (t : ℕ) (O : BufO F) (w : S50176x2048.Idx → Elt F .bf16) : S50176x2048.Idx → Elt F .bf16 :=
  dxStep t 1 O (dxStep t 0 O w)

theorem dxStep_in {t h : ℕ} (O : BufO F) (w : S50176x2048.Idx → Elt F .bf16) {i : S50176x2048.Idx} (hi : i ∈ (rW t h).set) :
    dxStep t h O w i = O (srcW t h i) := Finset.piecewise_eq_of_mem _ _ _ hi
theorem dxStep_out {t h : ℕ} (O : BufO F) (w : S50176x2048.Idx → Elt F .bf16) {i : S50176x2048.Idx} (hi : i ∉ (rW t h).set) :
    dxStep t h O w i = w i := Finset.piecewise_eq_of_notMem _ _ _ hi
theorem dxW_out {t : ℕ} (O : BufO F) (w : S50176x2048.Idx → Elt F .bf16) {i : S50176x2048.Idx} (hi : i ∉ RW t) :
    dxW t O w i = w i := by
  rw [dxW, dxStep_out _ _ (fun h => hi (Finset.mem_union_right _ h)), dxStep_out _ _ (fun h => hi (Finset.mem_union_left _ h))]

theorem dxW_emb (t : ℕ) (O : BufO F) (w : S50176x2048.Idx → Elt F .bf16) (h : Fin 2) (i : S1792x128.Idx) :
    dxW t O w ((rW t h.val).emb i) = O ((rY t h.val).emb (Shape.reshapeEquiv squeezes_S1x1x1792x128_S1792x128.numel_eq i)) := by
  have hm : (rW t h.val).emb i ∈ (rW t h.val).set := by rw [← Rect.map_emb_univ]; exact Finset.mem_map_of_mem _ (Finset.mem_univ _)
  refine Eq.trans ?_ (congrArg O (srcW_emb t h.val i))
  generalize (rW t h.val).emb i = k at hm ⊢
  obtain ⟨h, hh⟩ := h
  rcases (by omega : h = 0 ∨ h = 1) with rfl | rfl
  · rw [dxW, dxStep_out _ _ (Finset.disjoint_left.mp (disj_rW t) hm)]
    exact dxStep_in O w hm
  · exact dxStep_in O _ hm

/-- A step's windows leave the core's hands, in two halves. -/
theorem wr_split {a t : ℕ} (h : a ≤ t) (ht : t < a + 2) (w : S50176x2048.Idx → Elt F .bf16) (O : BufO F) :
    Wr A c a t w O ⊢ iprop((own c A.a8 (rW t 0).set w ∗ own c A.a14 (rY t 0).set O) ∗ (own c A.a8 (rW t 1).set w ∗ own c A.a14 (rY t 1).set O)
      ∗ Wr A c a (t + 1) (dxW t O w) O) := by
  unfold Wr
  iintro ⟨Hh, Hb⟩
  ihave Hh' := (own_issue RW c A.a8 h (fun t' h1 h2 => disj_RW (by omega)) w) $$ Hh
  icases Hh' with ⟨Hh1, Hh2⟩
  ihave Hb' := (own_issue RY c A.a14 h (fun t' h1 h2 => disj_RY (by omega)) O) $$ Hb
  icases Hb' with ⟨Hb1, Hb2⟩
  ihave Hh1' := (own_two c A.a8 (disj_rW t) w) $$ Hh1
  icases Hh1' with ⟨HhA, HhB⟩
  ihave Hb1' := (own_two c A.a14 (disj_rY t) O) $$ Hb1
  icases Hb1' with ⟨HbA, HbB⟩
  isplitl [HhA HbA]
  · isplitl [HhA]; · iexact HhA
    iexact HbA
  isplitl [HhB HbB]
  · isplitl [HhB]; · iexact HhB
    iexact HbB
  isplitl [Hh2]
  · iapply (own_congr c A.a8 (T := out RW a (t + 1)) (w := w) (w' := dxW t O w) (fun i hi => (dxW_out O w (mem_out RW |>.mp hi t h (Nat.lt_succ_self t))).symm))
    iexact Hh2
  iexact Hb2

theorem wp_write (t : ℕ) (h : Fin 2) (w : S50176x2048.Idx → Elt F .bf16) (O : BufO F) (os ob oh) (is ib ih)
    (es : os = ![t % 2]) (eb : ob = ![t % 2, h.val % 2, 0, 0]) (eh : oh = ![1792 * (t % 28), 128 * ((2 * (t / 28) + h.val) % 16)]) (hs hd ht')
    {Q : PUnit → sProp 𝕄} :
    iprop(own c A.a8 (rW t h.val).set w ∗ own c A.a14 (rY t h.val).set O ∗ FlyW A c t (dxW t O w) O h.val 0)
      ⊢ iprop((FlyW A c t (dxW t O w) O (h.val + 1) 0 -∗ Q ⟨⟩)
        -∗ WP c (Prog.lift (.enqueueDma
            ((A.a14.slice (Rect.unit (s := S2x2x1792x128) ob S1x1x1792x128.size ib) (fun _ => rfl)).squeeze S1792x128 squeezes_S1x1x1792x128_S1792x128)
            (.here (A.a8.slice (Rect.unit (s := S50176x2048) oh S1792x128.size ih) (fun _ => rfl)))
            (.dma ((A.a20.slice (Rect.unit (s := S2) os S1.size is)).squeeze S_ squeezes_S1_S_).sem) hs hd ht')) Q) := by
  subst es eb eh
  iintro ⟨Hw, Hb, HF⟩
  iapply (wp_enq_out c A.a14 A.a8 (rY t h.val) (fun _ => rfl) (rW t h.val) (fun _ => rfl) squeezes_S1x1x1792x128_S1792x128 (wsem A t) hs hd ht'
    O w (dxW t O w) (DW A c t (dxW t O w) O) h.val (NW A) rfl h.isLt (dxW_emb t O w h) ?_)
  · match h with
    | 0 => exact .rfl
    | 1 => exact .rfl
  isplitl [Hb]; · iexact Hb
  isplitl [Hw]; · iexact Hw
  iexact HF

theorem wp_waitW0 (t : ℕ) (w : S50176x2048.Idx → Elt F .bf16) (O : BufO F) (os ob oh) (is ib ih) (es : os = ![t % 2]) (hs hd) {Q : PUnit → sProp 𝕄} :
    iprop(FlyW A c t w O 2 0 ∗ owing (F := F) c)
      ⊢ iprop((iprop(FlyW A c t w O 2 (0 + NW A) ∗ owing (F := F) c) -∗ Q ⟨⟩)
        -∗ WP c (Prog.lift (.waitDma2 ((A.a20.slice (Rect.unit (s := S2) os S1.size is)).squeeze S_ squeezes_S1_S_).sem
            ((A.a14.slice (Rect.unit (s := S2x2x1792x128) ob S1x1x1792x128.size ib) (fun _ => rfl)).squeeze S1792x128 squeezes_S1x1x1792x128_S1792x128)
            (A.a8.slice (Rect.unit (s := S50176x2048) oh S1792x128.size ih) (fun _ => rfl)) hs hd)) Q) := by
  subst es
  exact wp_wait c _ _ (wsem A t) hs hd (DW A c t w O) 0 (NW A) rfl (by have := NW_pos A; omega)

theorem wp_waitW1 {a b : ℕ} (h : a < b) (hb : b ≤ a + 2) (w : S50176x2048.Idx → Elt F .bf16) (O : BufO F) (os ob oh) (is ib ih) (es : os = ![a % 2]) (hs hd) {Q : PUnit → sProp 𝕄} :
    iprop(FlyW A c a w O 2 (0 + NW A) ∗ owing (F := F) c ∗ Wr A c a b w O)
      ⊢ iprop((iprop(Wr A c (a + 1) b w O ∗ semVal ((c : Thread nD τ), .dma (wsem A a)) 0 ∗ owing (F := F) c) -∗ Q ⟨⟩)
        -∗ WP c (Prog.lift (.waitDma2 ((A.a20.slice (Rect.unit (s := S2) os S1.size is)).squeeze S_ squeezes_S1_S_).sem
            ((A.a14.slice (Rect.unit (s := S2x2x1792x128) ob S1x1x1792x128.size ib) (fun _ => rfl)).squeeze S1792x128 squeezes_S1x1x1792x128_S1792x128)
            (A.a8.slice (Rect.unit (s := S50176x2048) oh S1792x128.size ih) (fun _ => rfl)) hs hd)) Q) := by
  subst es
  unfold Wr
  iintro ⟨HF, HO, ⟨H8, H14⟩⟩ Hk
  iapply (wp_waitLast c _ _ (wsem A a) hs hd (DW A c a w O) (0 + NW A) (NW A) rfl (NW_pos A) (by omega)) $$ [HF HO]
  · isplitl [HF]; · iexact HF
    iexact HO
  rw [bigSep_univ_two]
  iintro ⟨HD, HS, HO⟩
  icases HD with ⟨H0, H1⟩
  ihave H0' := (show DW A c a w O 0 ⊢ iprop(own c A.a8 (rW a 0).set w ∗ own c A.a14 (rY a 0).set O) from .rfl) $$ H0
  ihave H1' := (show DW A c a w O 1 ⊢ iprop(own c A.a8 (rW a 1).set w ∗ own c A.a14 (rY a 1).set O) from .rfl) $$ H1
  icases H0' with ⟨G0, K0⟩
  icases H1' with ⟨G1, K1⟩
  ihave G := (own_one c A.a8 (disj_rW a) w) $$ [G0 G1]
  · isplitl [G0]; · iexact G0
    iexact G1
  ihave K := (own_one c A.a14 (disj_rY a) O) $$ [K0 K1]
  · isplitl [K0]; · iexact K0
    iexact K1
  iapply Hk
  isplitr [HS HO]; swap
  · isplitl [HS]; · iexact HS
    iexact HO
  isplitl [H8 G]
  · ihave E := (own_wait RW c A.a8 h (fun t' h1 h2 => disj_RW (by omega)) w w) $$ [H8 G]
    · isplitl [G]; · iexact G
      iexact H8
    rw [Finset.piecewise_same]
    iexact E
  · ihave E := (own_wait RY c A.a14 h (fun t' h1 h2 => disj_RY (by omega)) O O) $$ [H14 K]
    · isplitl [K]; · iexact K
      iexact H14
    rw [Finset.piecewise_same]
    iexact E

end Cert.KernelIdeal.Hand

end
-- ==== Proof.IdealOffs.lean ====
/-
  The offsets and the conditions the kernel computes at 32 bits, in closed form.
-/
module

public import proofs.«01_k».proof.Proof.Gen.KernelIdeal

@[expose] public section

namespace Cert.KernelIdeal.Hand

open Cert.KernelIdeal Cert.KernelIdeal.Gen
open Idealize.ShloMosaic

theorem trips1 : k0_t1_loop.trips = 28 := by decide +kernel
theorem trips2 : k0_t2_loop.trips = 7 := by decide +kernel
theorem trips3 : k0_t3_loop.trips = 196 := by decide +kernel
theorem trips4 : k0_t4_loop.trips = 7 := by decide +kernel
theorem trips5 : k0_t5_loop.trips = 28 := by decide +kernel
theorem trips6 : k0_t6_loop.trips = 7 := by decide +kernel

theorem off1_eq : ∀ k : Fin 3, k0_off1 (BitVec.ofNat 32 k.val) = ![(k.val) % 3] := by decide +kernel
theorem off2_eq : ∀ k : Fin 3, k0_off2 (BitVec.ofNat 32 k.val) = ![(k.val) % 31, 0, 0] := by decide +kernel
theorem off3_eq : ∀ k : Fin 3, k0_off3 (BitVec.ofNat 32 k.val) (BitVec.ofNat 32 k.val) = ![1792 * ((k.val) % 28), 256 * ((k.val) / 28 % 8)] := by decide +kernel
theorem off4_eq : ∀ k : Fin 3, k0_off4 (BitVec.ofNat 32 k.val) = ![1792 * ((k.val) % 28), 128 * ((k.val) / 28 % 2)] := by decide +kernel
theorem off5_eq : ∀ t : Fin k0_t1_loop.trips, k0_off5 t = ![(t.val) % 3] := by decide +kernel
theorem off6_eq : ∀ t : Fin k0_t1_loop.trips, k0_off6 t = ![(t.val) % 31, 0, 0] := by decide +kernel
theorem off7_eq : ∀ t : Fin k0_t1_loop.trips, k0_off7 t = ![1792 * ((t.val) % 28), 256 * ((t.val) / 28 % 8)] := by decide +kernel
theorem off8_eq : ∀ t : Fin k0_t1_loop.trips, k0_off8 t = ![(t.val) % 28] := by decide +kernel
theorem off9_eq : ∀ t : Fin k0_t1_loop.trips, k0_off9 t = ![(t.val) % 28, 0, 0] := by decide +kernel
theorem off10_eq : ∀ t : Fin k0_t1_loop.trips, k0_off10 t = ![1792 * ((t.val) % 28), 128 * ((t.val) / 28 % 2)] := by decide +kernel
theorem off14_eq : ∀ t : Fin k0_t1_loop.trips, k0_off14 t = ![(t.val + 3) % 3] := by decide +kernel
theorem off15_eq : ∀ t : Fin k0_t1_loop.trips, k0_off15 t = ![(t.val + 3) % 31, 0, 0] := by decide +kernel
theorem off16_eq : ∀ t : Fin k0_t1_loop.trips, k0_off16 t = ![1792 * ((t.val + 3) % 28), 256 * ((t.val + 3) / 28 % 8)] := by decide +kernel
theorem off17_eq : ∀ t : Fin k0_t1_loop.trips, k0_cond1 t = 1#1 → k0_off17 t = ![(t.val + 3) % 28] := by decide +kernel
theorem off18_eq : ∀ t : Fin k0_t1_loop.trips, k0_cond1 t = 1#1 → k0_off18 t = ![(t.val + 3) % 28, 0, 0] := by decide +kernel
theorem off19_eq : ∀ t : Fin k0_t1_loop.trips, k0_cond1 t = 1#1 → k0_off19 t = ![1792 * ((t.val + 3) % 28), 128 * ((t.val + 3) / 28 % 2)] := by decide +kernel
theorem cond1_eq : ∀ t : Fin k0_t1_loop.trips, k0_cond1 t = 1#1 ↔ t.val + 3 < 28 := by decide +kernel
theorem off11_eq : ∀ (t : Fin k0_t1_loop.trips) (u : Fin k0_t2_loop.trips) (r : Fin 8), k0_off11 t u (BitVec.ofNat 32 (32 * r.val)) = ![t.val % 28, 32 * ((8 * u.val + r.val) % 56), 0] := by decide +kernel
theorem off12_eq : ∀ (t : Fin k0_t1_loop.trips) (u : Fin k0_t2_loop.trips) (r : Fin 8), k0_off12 t u (BitVec.ofNat 32 (32 * r.val)) = ![t.val % 31, 32 * ((8 * u.val + r.val) % 56), 0] := by decide +kernel
theorem off13_eq : ∀ (t : Fin k0_t1_loop.trips) (u : Fin k0_t2_loop.trips) (r : Fin 8), k0_off13 t u (BitVec.ofNat 32 (32 * r.val)) = ![t.val % 31, 32 * ((8 * u.val + r.val) % 56), 128] := by decide +kernel
theorem off21_eq : ∀ t : Fin k0_t3_loop.trips, k0_off21 t = ![(t.val + 28) % 3] := by decide +kernel
theorem off22_eq : ∀ t : Fin k0_t3_loop.trips, k0_off22 t = ![(t.val + 28) % 31, 0, 0] := by decide +kernel
theorem off23_eq : ∀ t : Fin k0_t3_loop.trips, k0_off23 t = ![1792 * ((t.val + 28) % 28), 256 * ((t.val + 28) / 28 % 8)] := by decide +kernel
theorem off27_eq : ∀ t : Fin k0_t3_loop.trips, k0_off27 t = ![(t.val) % 2] := by decide +kernel
theorem off44_eq : ∀ t : Fin k0_t3_loop.trips, k0_off44 t = ![(t.val) % 2] := by decide +kernel
theorem off46_eq : ∀ t : Fin k0_t3_loop.trips, k0_off46 t = ![(t.val) % 2, 0, 0, 0] := by decide +kernel
theorem off47_eq : ∀ t : Fin k0_t3_loop.trips, k0_off47 t = ![(t.val) % 2, 1, 0, 0] := by decide +kernel
theorem off24_eq : ∀ t : Fin k0_t3_loop.trips, k0_cond2 t = 1#1 → k0_off24 t = ![(t.val - 56) % 28] := by decide +kernel
theorem off25_eq : ∀ t : Fin k0_t3_loop.trips, k0_cond2 t = 1#1 → k0_off25 t = ![(t.val - 56) % 28, 0, 0] := by decide +kernel
theorem off26_eq : ∀ t : Fin k0_t3_loop.trips, k0_cond2 t = 1#1 → k0_off26 t = ![1792 * ((t.val - 56) % 28), 128 * ((t.val - 56) / 28 % 2)] := by decide +kernel
theorem off38_eq : ∀ t : Fin k0_t3_loop.trips, k0_cond4 t = 1#1 → k0_off38 t = ![(t.val + 31) % 3] := by decide +kernel
theorem off39_eq : ∀ t : Fin k0_t3_loop.trips, k0_cond4 t = 1#1 → k0_off39 t = ![(t.val + 31) % 31, 0, 0] := by decide +kernel
theorem off40_eq : ∀ t : Fin k0_t3_loop.trips, k0_cond4 t = 1#1 → k0_off40 t = ![1792 * ((t.val + 31) % 28), 256 * ((t.val + 31) / 28 % 8)] := by decide +kernel
theorem off41_eq : ∀ t : Fin k0_t3_loop.trips, k0_cond5 t = 1#1 → k0_off41 t = ![(t.val - 28) % 28] := by decide +kernel
theorem off42_eq : ∀ t : Fin k0_t3_loop.trips, k0_cond5 t = 1#1 → k0_off42 t = ![(t.val - 28) % 28, 0, 0] := by decide +kernel
theorem off43_eq : ∀ t : Fin k0_t3_loop.trips, k0_cond5 t = 1#1 → k0_off43 t = ![1792 * ((t.val - 28) % 28), 128 * ((t.val - 28) / 28 % 2)] := by decide +kernel
theorem cond2_eq : ∀ t : Fin k0_t3_loop.trips, k0_cond2 t = 1#1 ↔ 84 ≤ t.val ∧ t.val < 112 := by decide +kernel
theorem cond3_eq : ∀ t : Fin k0_t3_loop.trips, k0_cond3 t = 1#1 ↔ 2 ≤ t.val := by decide +kernel
theorem cond4_eq : ∀ t : Fin k0_t3_loop.trips, k0_cond4 t = 1#1 ↔ t.val + 31 < 224 := by decide +kernel
theorem cond5_eq : ∀ t : Fin k0_t3_loop.trips, k0_cond5 t = 1#1 ↔ 56 ≤ t.val ∧ t.val < 84 := by decide +kernel
theorem cond6_eq : ∀ t : Fin k0_t3_loop.trips, k0_cond6 t = 1#1 ↔ t.val % 28 = 27 := by decide +kernel
theorem off31_eq : ∀ (t : Fin k0_t3_loop.trips) (u : Fin k0_t4_loop.trips) (r : Fin 8), k0_off31 t u (BitVec.ofNat 32 (32 * r.val)) = ![t.val % 31, 32 * ((8 * u.val + r.val) % 56), 0] := by decide +kernel
theorem off32_eq : ∀ (t : Fin k0_t3_loop.trips) (u : Fin k0_t4_loop.trips) (r : Fin 8), k0_off32 t u (BitVec.ofNat 32 (32 * r.val)) = ![t.val % 2, 0, 32 * ((8 * u.val + r.val) % 56), 0] := by decide +kernel
theorem off33_eq : ∀ (t : Fin k0_t3_loop.trips) (u : Fin k0_t4_loop.trips) (r : Fin 8), k0_off33 t u (BitVec.ofNat 32 (32 * r.val)) = ![t.val % 31, 32 * ((8 * u.val + r.val) % 56), 128] := by decide +kernel
theorem off34_eq : ∀ (t : Fin k0_t3_loop.trips) (u : Fin k0_t4_loop.trips) (r : Fin 8), k0_off34 t u (BitVec.ofNat 32 (32 * r.val)) = ![t.val % 2, 1, 32 * ((8 * u.val + r.val) % 56), 0] := by decide +kernel
theorem off35_eq : ∀ (t : Fin k0_t3_loop.trips) (u : Fin k0_t4_loop.trips) (r : Fin 8), k0_off35 t u (BitVec.ofNat 32 (32 * r.val)) = ![t.val % 28, 32 * ((8 * u.val + r.val) % 56), 0] := by decide +kernel
theorem off36_eq : ∀ (t : Fin k0_t3_loop.trips) (u : Fin k0_t4_loop.trips) (r : Fin 8), k0_off36 t u (BitVec.ofNat 32 (32 * r.val)) = ![(t.val + 28) % 31, 32 * ((8 * u.val + r.val) % 56), 0] := by decide +kernel
theorem off37_eq : ∀ (t : Fin k0_t3_loop.trips) (u : Fin k0_t4_loop.trips) (r : Fin 8), k0_off37 t u (BitVec.ofNat 32 (32 * r.val)) = ![(t.val + 28) % 31, 32 * ((8 * u.val + r.val) % 56), 128] := by decide +kernel
theorem off45_eq : ∀ (t : Fin k0_t3_loop.trips) (h : Fin 2), k0_off45 t (BitVec.ofNat 32 (128 * h.val)) = ![1792 * ((t.val) % 28), 128 * ((2 * ((t.val) / 28) + h.val) % 16)] := by decide +kernel
theorem off48_eq : ∀ (t : Fin k0_t3_loop.trips) (j : Fin 2), k0_off48 t (BitVec.ofNat 32 j.val) = ![(2 * (t.val / 28 + 1) + j.val) % 16, 0] := by decide +kernel
theorem off20_eq : ∀ (j : Fin 2), k0_off20 (BitVec.ofNat 32 j.val) = ![j.val, 0] := by decide +kernel
theorem off49_eq : ∀ t : Fin k0_t5_loop.trips, k0_off49 t = ![(t.val + 196) % 2] := by decide +kernel
theorem off51_eq : ∀ t : Fin k0_t5_loop.trips, k0_off51 t = ![(t.val + 196) % 2, 0, 0, 0] := by decide +kernel
theorem off52_eq : ∀ t : Fin k0_t5_loop.trips, k0_off52 t = ![(t.val + 196) % 2, 1, 0, 0] := by decide +kernel
theorem off50_eq : ∀ (t : Fin k0_t5_loop.trips) (h : Fin 2), k0_off50 t (BitVec.ofNat 32 (128 * h.val)) = ![1792 * ((t.val + 196) % 28), 128 * ((2 * ((t.val + 196) / 28) + h.val) % 16)] := by decide +kernel
theorem off53_eq : ∀ (t : Fin k0_t5_loop.trips) (u : Fin k0_t6_loop.trips) (r : Fin 8), k0_off53 t u (BitVec.ofNat 32 (32 * r.val)) = ![(t.val + 196) % 31, 32 * ((8 * u.val + r.val) % 56), 0] := by decide +kernel
theorem off54_eq : ∀ (t : Fin k0_t5_loop.trips) (u : Fin k0_t6_loop.trips) (r : Fin 8), k0_off54 t u (BitVec.ofNat 32 (32 * r.val)) = ![(t.val + 196) % 2, 0, 32 * ((8 * u.val + r.val) % 56), 0] := by decide +kernel
theorem off55_eq : ∀ (t : Fin k0_t5_loop.trips) (u : Fin k0_t6_loop.trips) (r : Fin 8), k0_off55 t u (BitVec.ofNat 32 (32 * r.val)) = ![(t.val + 196) % 31, 32 * ((8 * u.val + r.val) % 56), 128] := by decide +kernel
theorem off56_eq : ∀ (t : Fin k0_t5_loop.trips) (u : Fin k0_t6_loop.trips) (r : Fin 8), k0_off56 t u (BitVec.ofNat 32 (32 * r.val)) = ![(t.val + 196) % 2, 1, 32 * ((8 * u.val + r.val) % 56), 0] := by decide +kernel

end Cert.KernelIdeal.Hand
-- ==== Proof.IdealState.lean ====
/-
  What the kernel's buffers hold, step by step, as functions; and the kernel's two inner loops over a ring slot.
-/
module

public import proofs.«01_k».proof.Proof.IdealFlight
public import proofs.«01_k».proof.Proof.IdealOffs

@[expose] public section

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-- What the buffers hold. -/
structure St (F : FTy → Type) where
  X : BufX F
  D : BufD F
  M : BufM F
  O : BufO F
  s1 : BufS F
  s2 : BufS F
  cf : S6x8x128.Idx → Elt F .f32
  dg : S16x128.Idx → Elt F .f32
  db : S16x128.Idx → Elt F .f32
  dx : S50176x2048.Idx → Elt F .bf16

/-- One group of rows summed: mask chunk `i`, ring slot `t`, group `u`, both column halves. -/
def redSt (v2 la lb : IVec S8x128 32) (i t u : ℕ) (σ : St F) : St F :=
  { σ with
    D := grpD v2 lb σ.M i t u 1 (grpD v2 la σ.M i t u 0 σ.D 8) 8
    s1 := grpS1 v2 lb σ.M i t u 1 (grpD v2 la σ.M i t u 0 σ.D 8) (grpS1 v2 la σ.M i t u 0 σ.D σ.s1)
    s2 := grpS2 v2 lb σ.M σ.X i t u 1 (grpD v2 la σ.M i t u 0 σ.D 8) (grpS2 v2 la σ.M σ.X i t u 0 σ.D σ.s2) }

/-- The first `n` groups summed. -/
def redN (v2 la lb : IVec S8x128 32) (i t : ℕ) (σ : St F) : ℕ → St F
  | 0 => σ
  | u + 1 => redSt v2 la lb i t u (redN v2 la lb i t σ u)

/-- The six broadcast coefficients of a step. -/
structure Co (F : FTy → Type) where
  a : FVec F S32x128 .f32
  b : FVec F S32x128 .f32
  e : FVec F S32x128 .f32
  a' : FVec F S32x128 .f32
  b' : FVec F S32x128 .f32
  e' : FVec F S32x128 .f32

/-- One group of rows of the result computed: ring slot `t`, group `u`. -/
def outSt (k : Co F) (t u : ℕ) (σ : St F) : St F :=
  { σ with O := grpO k.a' k.b' k.e' σ.D σ.X t t u 1 (grpO k.a k.b k.e σ.D σ.X t t u 0 σ.O 8) 8 }

/-- The first `n` groups computed, and those of the next block summed. -/
def outRedN (k : Co F) (v2 la lb : IVec S8x128 32) (t : ℕ) (σ : St F) : ℕ → St F
  | 0 => σ
  | u + 1 => redSt v2 la lb t (t + 28) u (outSt k t u (outRedN k v2 la lb t σ u))

/-- The first `n` groups of the last block computed; `t` counts from the whole kernel's first output step. -/
def outN (k : Co F) (t : ℕ) (σ : St F) : ℕ → St F
  | 0 => σ
  | u + 1 => outSt k t u (outN k t σ u)

theorem WP_unfold {α : Type} {c : Dev nD} {p q : Prog (TpuEff nD τ sig (Elt F) Λ₀ .tc) α} (h : p = q) {Q : α → sProp 𝕄} : WP c p Q = WP c q Q := by
  rw [h]

theorem WP_seq (c : Dev nD) {α β : Type} (p : Prog (TpuEff nD τ sig (Elt F) Λ₀ .tc) α) (k : α → Prog (TpuEff nD τ sig (Elt F) Λ₀ .tc) β)
    (Q : β → sProp 𝕄) : WP c p (fun a => WP c (k a) Q) ⊢ WP c (p >>= k) Q := by rw [WP_bind]

theorem wp_ldu (c : Dev nD) {s : Shape} {e : EltTy} {cs : CoreSpace} (m : Memref sig .tc cs s e) (off off' size) (inb) (inb')
    (h : off = off') (hl : m.view.LoadsAt (Rect.unit (s := s) off size inb).toLoadRect) (w : s.Idx → Elt F e)
    {Q : ((Rect.unit (s := s) off size inb).shape.Idx → Elt F e) → sProp 𝕄} :
    own c m Finset.univ w ⊢ iprop((own c m Finset.univ w -∗ Q (at' (Rect.unit (s := s) off' size inb') w))
      -∗ WP c (Prog.lift (.load m (Rect.unit (s := s) off size inb).toLoadRect hl)) Q) := by
  subst h
  exact wp_ld c m _ hl w (Finset.subset_univ _)

theorem wp_stu (c : Dev nD) {s : Shape} {e : EltTy} {cs : CoreSpace} (m : Memref sig .tc cs s e) (off off' size) (inb) (inb')
    (h : off = off') (v : (Rect.unit (s := s) off size inb).shape.Idx → Elt F e)
    (hx : (m.access (Rect.unit (s := s) off size inb)).Stores Finset.univ) (hm) (w : s.Idx → Elt F e)
    {Q : PUnit → sProp 𝕄} :
    own c m Finset.univ w ⊢ iprop((own c m Finset.univ (upd (Rect.unit (s := s) off' size inb') v w) -∗ Q ⟨⟩)
      -∗ WP c (Prog.lift (.store m (Rect.unit (s := s) off size inb) v Finset.univ hx hm)) Q) := by
  subst h
  exact wp_st c m _ v hx hm w (Finset.subset_univ _)

attribute [local irreducible] grpD grpO grpS1 grpS2

variable (A : Args) (I : Ins F) (c : Dev nD)

/-- The buffers an inner loop works on. -/
abbrev Buf5 (TM : Finset S28x1792x128.Idx) (TD TX : Finset S31x1792x256.Idx) (σ : St F) : sProp 𝕄 :=
  iprop(own c A.a13 TM σ.M ∗ own c A.a12 TD σ.D ∗ own c A.a11 TX σ.X ∗ own c A.a15 Finset.univ σ.s1 ∗ own c A.a16 Finset.univ σ.s2)

theorem redN_M (v2 la lb : IVec S8x128 32) (i t : ℕ) (σ : St F) (n : ℕ) : (redN v2 la lb i t σ n).M = σ.M := by
  induction n with
  | zero => rfl
  | succ n ih => exact ih
theorem redN_X (v2 la lb : IVec S8x128 32) (i t : ℕ) (σ : St F) (n : ℕ) : (redN v2 la lb i t σ n).X = σ.X := by
  induction n with
  | zero => rfl
  | succ n ih => exact ih

theorem wp_t2 (v2 v4 : IVec S8x128 32) (t : Fin k0_t1_loop.trips) (b : BitVec 32) {TM : Finset S28x1792x128.Idx} {TD TX : Finset S31x1792x256.Idx} (σ : St F)
    (sM : ∀ q, (rM t.val q).set ⊆ TM) (sD : ∀ q j, (rT t.val q j).set ⊆ TD) (sX : ∀ q j, (rT t.val q j).set ⊆ TX) {Q : Unit → sProp 𝕄} :
    Buf5 A c TM TD TX σ ⊢ iprop((Buf5 A c TM TD TX (redN v2 (k0_pay114 v4) (k0_pay115 v4) t.val t.val σ 7) -∗ Q ⟨⟩)
      -∗ WP c (Scf.Loop.for k0_t2_loop k0_t2_ok ⟨⟩ (k0_t2_body (F := F) A.a0 A.h0 A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.a19 A.a20 v2 v4 t b)) Q) := by
  iintro H Hk
  iapply (Scf.wp_for frame (wpE (defs₀ (F := F)) Variants.none (c : Thread nD τ) none) Set.univ _ _ _ k0_t2_ok () _
    (fun k _ => Buf5 A c TM TD TX (redN v2 (k0_pay114 v4) (k0_pay115 v4) t.val t.val σ k)) ?_)
  · intro u _
    rw [show redN v2 (k0_pay114 v4) (k0_pay115 v4) t.val t.val σ (u.val + 1) = redSt v2 (k0_pay114 v4) (k0_pay115 v4) t.val t.val u.val (redN v2 (k0_pay114 v4) (k0_pay115 v4) t.val t.val σ u.val) from rfl]
    generalize redN v2 (k0_pay114 v4) (k0_pay115 v4) t.val t.val σ u.val = ρ
    rw [k0_t2_body_eq]
    iintro ⟨HM, HD, HX, HA, HB⟩
    iapply (WP_seq c)
    iapply (wp_redCol c A.a13 A.a12 A.a11 A.a15 A.a16 v2 (k0_pay114 v4) _ _ _ _ _ _ _ t.val t.val u.val 0 (off11_eq t u) (off12_eq t u) rfl
      ρ.M ρ.D ρ.X ρ.s1 ρ.s2 sM (fun q => sD q 0) (fun q => sX q 0)) $$ [HM HD HX HA HB]
    · isplitl [HM]; · iexact HM
      isplitl [HD]; · iexact HD
      isplitl [HX]; · iexact HX
      isplitl [HA]; · iexact HA
      iexact HB
    iintro ⟨HM, HD, HX, HA, HB⟩
    iapply (wp_redCol c A.a13 A.a12 A.a11 A.a15 A.a16 v2 (k0_pay115 v4) _ _ _ _ _ _ _ t.val t.val u.val 1 (off11_eq t u) (off13_eq t u) rfl
      ρ.M _ ρ.X _ _ sM (fun q => sD q 1) (fun q => sX q 1)) $$ [HM HD HX HA HB]
    · isplitl [HM]; · iexact HM
      isplitl [HD]; · iexact HD
      isplitl [HX]; · iexact HX
      isplitl [HA]; · iexact HA
      iexact HB
    iintro ⟨HM, HD, HX, HA, HB⟩
    isplitl [HM]; · iexact HM
    isplitl [HD]; · iexact HD
    isplitl [HX]; · iexact HX
    isplitl [HA]; · iexact HA
    iexact HB
  isplitl [H]; · iexact H
  iintro %_ H
  iapply Hk
  iexact H

/-- The buffers of an inner loop that also computes the result. -/
abbrev Buf6 (TM : Finset S28x1792x128.Idx) (TD TX : Finset S31x1792x256.Idx) (TO : Finset S2x2x1792x128.Idx) (σ : St F) : sProp 𝕄 :=
  iprop(own c A.a13 TM σ.M ∗ own c A.a12 TD σ.D ∗ own c A.a11 TX σ.X ∗ own c A.a15 Finset.univ σ.s1 ∗ own c A.a16 Finset.univ σ.s2 ∗ own c A.a14 TO σ.O)

set_option maxHeartbeats 1000000 in
theorem wp_t4 (v2 la lb : IVec S8x128 32) (t : Fin k0_t3_loop.trips) (b0 b1 b2 b3 b4 b5 b6 b7 : BitVec 32) (v411 v415 v419 v423 v427 : FVec F S32x128 .f32) (v428 : Vec F S1x1x128 .f32)
    {TM : Finset S28x1792x128.Idx} {TD TX : Finset S31x1792x256.Idx} {TO : Finset S2x2x1792x128.Idx} (σ : St F)
    (sM : ∀ q, (rM t.val q).set ⊆ TM) (sD : ∀ q j, (rT t.val q j).set ⊆ TD) (sX : ∀ q j, (rT t.val q j).set ⊆ TX)
    (sD' : ∀ q j, (rT (t.val + 28) q j).set ⊆ TD) (sX' : ∀ q j, (rT (t.val + 28) q j).set ⊆ TX) (sO : ∀ q j, (rO t.val q j).set ⊆ TO) {Q : Unit → sProp 𝕄} :
    Buf6 A c TM TD TX TO σ ⊢ iprop((Buf6 A c TM TD TX TO (outRedN ⟨v411, v415, v419, v423, v427, k0_pay281 v428⟩ v2 la lb t.val σ 7) -∗ Q ⟨⟩)
      -∗ WP c (Scf.Loop.for k0_t4_loop k0_t4_ok ⟨⟩ (k0_t4_body (F := F) A.a0 A.h0 A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.a19 A.a20 v2 t b0 b1 b2 b3 b4 b5 b6 b7 la lb v411 v415 v419 v423 v427 v428)) Q) := by
  generalize hk : (⟨v411, v415, v419, v423, v427, k0_pay281 v428⟩ : Co F) = kk
  iintro H Hk
  iapply (Scf.wp_for frame (wpE (defs₀ (F := F)) Variants.none (c : Thread nD τ) none) Set.univ _ _ _ k0_t4_ok () _
    (fun k _ => Buf6 A c TM TD TX TO (outRedN kk v2 la lb t.val σ k)) ?_)
  · intro u _
    rw [show outRedN kk v2 la lb t.val σ (u.val + 1) = redSt v2 la lb t.val (t.val + 28) u.val (outSt kk t.val u.val (outRedN kk v2 la lb t.val σ u.val)) from rfl]
    generalize outRedN kk v2 la lb t.val σ u.val = ρ
    subst hk
    rw [k0_t4_body_eq]
    iintro ⟨HM, HD, HX, HA, HB, HO⟩
    iapply (WP_seq c)
    iapply (wp_dxCol c A.a12 A.a11 A.a14 v411 v415 v419 _ _ _ _ _ t.val t.val u.val 0 (off31_eq t u) (off32_eq t u)
      ρ.D ρ.X ρ.O (fun q => sD q 0) (fun q => sX q 0) (fun q => sO q 0)) $$ [HD HX HO]
    · isplitl [HD]; · iexact HD
      isplitl [HX]; · iexact HX
      iexact HO
    iintro ⟨HD, HX, HO⟩
    iapply (WP_seq c)
    iapply (wp_dxCol c A.a12 A.a11 A.a14 v423 v427 (k0_pay281 v428) _ _ _ _ _ t.val t.val u.val 1 (off33_eq t u) (off34_eq t u)
      ρ.D ρ.X _ (fun q => sD q 1) (fun q => sX q 1) (fun q => sO q 1)) $$ [HD HX HO]
    · isplitl [HD]; · iexact HD
      isplitl [HX]; · iexact HX
      iexact HO
    iintro ⟨HD, HX, HO⟩
    iapply (WP_seq c)
    iapply (wp_redCol c A.a13 A.a12 A.a11 A.a15 A.a16 v2 la _ _ _ _ _ _ _ t.val (t.val + 28) u.val 0 (off35_eq t u) (off36_eq t u) rfl
      ρ.M ρ.D ρ.X ρ.s1 ρ.s2 sM (fun q => sD' q 0) (fun q => sX' q 0)) $$ [HM HD HX HA HB]
    · isplitl [HM]; · iexact HM
      isplitl [HD]; · iexact HD
      isplitl [HX]; · iexact HX
      isplitl [HA]; · iexact HA
      iexact HB
    iintro ⟨HM, HD, HX, HA, HB⟩
    iapply (wp_redCol c A.a13 A.a12 A.a11 A.a15 A.a16 v2 lb _ _ _ _ _ _ _ t.val (t.val + 28) u.val 1 (off35_eq t u) (off37_eq t u) rfl
      ρ.M _ ρ.X _ _ sM (fun q => sD' q 1) (fun q => sX' q 1)) $$ [HM HD HX HA HB]
    · isplitl [HM]; · iexact HM
      isplitl [HD]; · iexact HD
      isplitl [HX]; · iexact HX
      isplitl [HA]; · iexact HA
      iexact HB
    iintro ⟨HM, HD, HX, HA, HB⟩
    isplitl [HM]; · iexact HM
    isplitl [HD]; · iexact HD
    isplitl [HX]; · iexact HX
    isplitl [HA]; · iexact HA
    isplitl [HB]; · iexact HB
    iexact HO
  isplitl [H]; · iexact H
  iintro %_ H
  iapply Hk
  iexact H

/-- The buffers of the last block's inner loop. -/
abbrev Buf3 (TD TX : Finset S31x1792x256.Idx) (TO : Finset S2x2x1792x128.Idx) (σ : St F) : sProp 𝕄 :=
  iprop(own c A.a12 TD σ.D ∗ own c A.a11 TX σ.X ∗ own c A.a14 TO σ.O)

theorem wp_t6 (z o : BitVec 32) (t : Fin k0_t5_loop.trips) (b0 b1 : BitVec 32) (v341 v345 v349 : FVec F S32x128 .f32) (v350 v354 v358 : Vec F S1x1x128 .f32)
    {TD TX : Finset S31x1792x256.Idx} {TO : Finset S2x2x1792x128.Idx} (σ : St F)
    (sD : ∀ q j, (rT (t.val + 196) q j).set ⊆ TD) (sX : ∀ q j, (rT (t.val + 196) q j).set ⊆ TX) (sO : ∀ q j, (rO (t.val + 196) q j).set ⊆ TO) {Q : Unit → sProp 𝕄} :
    Buf3 A c TD TX TO σ ⊢ iprop((Buf3 A c TD TX TO (outN ⟨v341, v345, v349, k0_pay308 v350, k0_pay309 v354, k0_pay310 v358⟩ (t.val + 196) σ 7) -∗ Q ⟨⟩)
      -∗ WP c (Scf.Loop.for k0_t6_loop k0_t6_ok ⟨⟩ (k0_t6_body (F := F) A.a0 A.h0 A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.a19 A.a20 z o t b0 b1 v341 v345 v349 v350 v354 v358)) Q) := by
  generalize hk : (⟨v341, v345, v349, k0_pay308 v350, k0_pay309 v354, k0_pay310 v358⟩ : Co F) = kk
  iintro H Hk
  iapply (Scf.wp_for frame (wpE (defs₀ (F := F)) Variants.none (c : Thread nD τ) none) Set.univ _ _ _ k0_t6_ok () _
    (fun k _ => Buf3 A c TD TX TO (outN kk (t.val + 196) σ k)) ?_)
  · intro u _
    rw [show outN kk (t.val + 196) σ (u.val + 1) = outSt kk (t.val + 196) u.val (outN kk (t.val + 196) σ u.val) from rfl]
    generalize outN kk (t.val + 196) σ u.val = ρ
    subst hk
    rw [k0_t6_body_eq]
    iintro ⟨HD, HX, HO⟩
    iapply (WP_seq c)
    iapply (wp_dxCol c A.a12 A.a11 A.a14 v341 v345 v349 _ _ _ _ _ (t.val + 196) (t.val + 196) u.val 0 (off53_eq t u) (off54_eq t u)
      ρ.D ρ.X ρ.O (fun q => sD q 0) (fun q => sX q 0) (fun q => sO q 0)) $$ [HD HX HO]
    · isplitl [HD]; · iexact HD
      isplitl [HX]; · iexact HX
      iexact HO
    iintro ⟨HD, HX, HO⟩
    iapply (wp_dxCol c A.a12 A.a11 A.a14 (k0_pay308 v350) (k0_pay309 v354) (k0_pay310 v358) _ _ _ _ _ (t.val + 196) (t.val + 196) u.val 1 (off55_eq t u) (off56_eq t u)
      ρ.D ρ.X _ (fun q => sD q 1) (fun q => sX q 1) (fun q => sO q 1)) $$ [HD HX HO]
    · isplitl [HD]; · iexact HD
      isplitl [HX]; · iexact HX
      iexact HO
    iintro ⟨HD, HX, HO⟩
    isplitl [HD]; · iexact HD
    isplitl [HX]; · iexact HX
    iexact HO
  isplitl [H]; · iexact H
  iintro %_ H
  iapply Hk
  iexact H

end Cert.KernelIdeal.Hand

end
-- ==== Proof.IdealBody1.lean ====
/-
  The kernel's first loop: the sums of block 0, with three reads kept in flight.
-/
module

public import proofs.«01_k».proof.Proof.IdealState

@[expose] public section

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

variable (A : Args) (I : Ins F) (c : Dev nD)

theorem rsem_congr {t t' : ℕ} (h : t % 3 = t' % 3) : rsem A t = rsem A t' := by
  have e : ∀ (k k' : ℕ) (hk hk'), k = k' → ((A.a18.slice (Rect.unit (s := S3) ![k] S1.size hk)).squeeze S_ squeezes_S1_S_).sem
      = ((A.a18.slice (Rect.unit (s := S3) ![k'] S1.size hk')).squeeze S_ squeezes_S1_S_).sem := by
    rintro k k' hk hk' rfl; rfl
  exact e _ _ _ _ h
theorem msem_congr {t t' : ℕ} (h : t % 28 = t' % 28) : msem A t = msem A t' := by
  have e : ∀ (k k' : ℕ) (hk hk'), k = k' → ((A.a19.slice (Rect.unit (s := S28) ![k] S1.size hk)).squeeze S_ squeezes_S1_S_).sem
      = ((A.a19.slice (Rect.unit (s := S28) ![k'] S1.size hk')).squeeze S_ squeezes_S1_S_).sem := by
    rintro k k' hk hk' rfl; rfl
  exact e _ _ _ _ h
theorem wsem_congr {t t' : ℕ} (h : t % 2 = t' % 2) : wsem A t = wsem A t' := by
  have e : ∀ (k k' : ℕ) (hk hk'), k = k' → ((A.a20.slice (Rect.unit (s := S2) ![k] S1.size hk)).squeeze S_ squeezes_S1_S_).sem
      = ((A.a20.slice (Rect.unit (s := S2) ![k'] S1.size hk')).squeeze S_ squeezes_S1_S_).sem := by
    rintro k k' hk hk' rfl; rfl
  exact e _ _ _ _ h

/-- The cell of the reads of step `t`. -/
def rcell (t : ℕ) : sProp 𝕄 := if t < 224 then FlyR A I c t 2 0 else iprop(semVal ((c : Thread nD τ), .dma (rsem A t)) 0)

/-- The cell of mask copy `m` while the copies `a ≤ m < b` are in flight. -/
def mcell (a b m : ℕ) : sProp 𝕄 := if a ≤ m ∧ m < b then FlyM A I c m 1 0 else iprop(semVal ((c : Thread nD τ), .dma (msem A m)) 0)

/-- The 28 mask cells, for the mask copies from `g` on. -/
def MC (g a b : ℕ) : sProp 𝕄 := bigSep Finset.univ fun j : Fin 28 => mcell A I c a b (g + j.val)

theorem MC_issue {g a b : ℕ} (h1 : a ≤ b) (h2 : g ≤ b) (h3 : b < g + 28) :
    MC A I c g a b ⊢ iprop(semVal ((c : Thread nD τ), .dma (msem A b)) 0 ∗ (FlyM A I c b 1 0 -∗ MC A I c g a (b + 1))) := by
  unfold MC
  have e0 : mcell A I c a b (g + (⟨b - g, by omega⟩ : Fin 28).val) = iprop(semVal ((c : Thread nD τ), .dma (msem A b)) 0) := by
    have : g + (b - g) = b := by omega
    simp only [mcell, this]
    rw [if_neg (by omega)]
  have e1 : mcell A I c a (b + 1) (g + (⟨b - g, by omega⟩ : Fin 28).val) = FlyM A I c b 1 0 := by
    have : g + (b - g) = b := by omega
    simp only [mcell, this]
    rw [if_pos (by omega)]
  refine BIBase.Entails.trans (bigSep_univ_update (Φ := fun j : Fin 28 => mcell A I c a b (g + j.val)) (Ψ := fun j : Fin 28 => mcell A I c a (b + 1) (g + j.val)) ⟨b - g, by omega⟩ ?_) ?_
  · intro j hj
    have : g + j.val ≠ b := fun h => hj (Fin.ext (by simp; omega))
    simp only [mcell]
    congr 1
    simp only [eq_iff_iff]; omega
  · simp only [e0, e1]
    exact .rfl

theorem MC_wait {g a b : ℕ} (h1 : a < b) (h2 : g ≤ a) (h3 : a < g + 28) :
    MC A I c g a b ⊢ iprop(FlyM A I c a 1 0 ∗ (semVal ((c : Thread nD τ), .dma (msem A a)) 0 -∗ MC A I c g (a + 1) b)) := by
  unfold MC
  have e0 : mcell A I c a b (g + (⟨a - g, by omega⟩ : Fin 28).val) = FlyM A I c a 1 0 := by
    have : g + (a - g) = a := by omega
    simp only [mcell, this]
    rw [if_pos (by omega)]
  have e1 : mcell A I c (a + 1) b (g + (⟨a - g, by omega⟩ : Fin 28).val) = iprop(semVal ((c : Thread nD τ), .dma (msem A a)) 0) := by
    have : g + (a - g) = a := by omega
    simp only [mcell, this]
    rw [if_neg (by omega)]
  refine BIBase.Entails.trans (bigSep_univ_update (Φ := fun j : Fin 28 => mcell A I c a b (g + j.val)) (Ψ := fun j : Fin 28 => mcell A I c (a + 1) b (g + j.val)) ⟨a - g, by omega⟩ ?_) ?_
  · intro j hj
    have : g + j.val ≠ a := fun h => hj (Fin.ext (by simp; omega))
    simp only [mcell]
    congr 1
    simp only [eq_iff_iff]; omega
  · simp only [e0, e1]
    exact .rfl

/-- The reads of step `T` have arrived. -/
def waitSt (T : ℕ) (σ : St F) : St F :=
  { σ with X := (RX T).piecewise (XG I T) σ.X, D := (RX T).piecewise (DG I T) σ.D }
/-- Mask copy `m` has arrived. -/
def maskSt (m : ℕ) (σ : St F) : St F := { σ with M := (RK m).piecewise (MG I m) σ.M }

/-- The state of the reads after `T` of them: the next three in flight, and the mask copies `a ≤ m < b` of those from `g` on. -/
def J (T g a b : ℕ) (σ : St F) : sProp 𝕄 :=
  iprop(owing (F := F) c ∗ Rd A I c T (min (T + 3) 224) σ.X σ.D ∗ rcell A I c T ∗ rcell A I c (T + 1) ∗ rcell A I c (T + 2)
    ∗ Mk A I c a b σ.M ∗ MC A I c g a b ∗ own c A.a15 Finset.univ σ.s1 ∗ own c A.a16 Finset.univ σ.s2)

/-- One step of the first loop. -/
def step1 (v2 v4 : IVec S8x128 32) (t : ℕ) (σ : St F) : St F :=
  redN v2 (k0_pay114 v4) (k0_pay115 v4) t t (maskSt I t (waitSt I t σ)) 7

theorem wp_part21 (z o : BitVec 32) (t : Fin k0_t1_loop.trips) {b : ℕ} (h : t.val < b) (hb : b ≤ t.val + 3) (X : BufX F) (D : BufD F) {Q : BitVec 32 → sProp 𝕄} :
    iprop(owing (F := F) c ∗ Rd A I c t.val b X D ∗ FlyR A I c t.val 2 0)
      ⊢ iprop((∀ r, iprop(Rd A I c (t.val + 1) b ((RX t.val).piecewise (XG I t.val) X) ((RX t.val).piecewise (DG I t.val) D)
            ∗ semVal ((c : Thread nD τ), .dma (rsem A t.val)) 0 ∗ owing (F := F) c) -∗ Q r)
        -∗ WP c (k0_part21 (F := F) A.a0 A.h0 A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.a19 A.a20 z o t) Q) := by
  rw [k0_part21_eq_skeleton]
  unfold k0_part21_skel
  dsimp only
  iintro ⟨HO, HR, HF⟩ Hk
  iapply (WP_seq c)
  iapply (wp_waitX A I c t.val _ _ _ _ _ _ (off5_eq t)) $$ [HF HO]
  · isplitl [HF]; · iexact HF
    iexact HO
  iintro ⟨HF, HO⟩
  iapply (WP_seq c)
  iapply (wp_waitD A I c h hb X D _ _ _ _ _ _ (off5_eq t)) $$ [HF HO HR]
  · isplitl [HF]; · iexact HF
    isplitl [HO]; · iexact HO
    iexact HR
  iintro H
  iapply (WP_pure c)
  iapply Hk
  iexact H

theorem wp_part22 (v2 v4 : IVec S8x128 32) (t : Fin k0_t1_loop.trips) (x : BitVec 32) {b : ℕ} (h : t.val < b) (hb : b ≤ t.val + 28) {TD TX : Finset S31x1792x256.Idx} (σ : St F)
    (sD : ∀ q j, (rT t.val q j).set ⊆ TD) (sX : ∀ q j, (rT t.val q j).set ⊆ TX) {Q : BitVec 32 → sProp 𝕄} :
    iprop(owing (F := F) c ∗ Mk A I c t.val b σ.M ∗ FlyM A I c t.val 1 0
        ∗ own c A.a12 TD σ.D ∗ own c A.a11 TX σ.X ∗ own c A.a15 Finset.univ σ.s1 ∗ own c A.a16 Finset.univ σ.s2)
      ⊢ iprop((∀ r, iprop(owing (F := F) c ∗ own c A.a4 (out RL (t.val + 1) b) I.km ∗ semVal ((c : Thread nD τ), .dma (msem A t.val)) 0
          ∗ Buf5 A c (out RK (t.val + 1) b) TD TX (redN v2 (k0_pay114 v4) (k0_pay115 v4) t.val t.val (maskSt I t.val σ) 7)) -∗ Q r)
        -∗ WP c (k0_part22 (F := F) A.a0 A.h0 A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.a19 A.a20 v2 v4 t x) Q) := by
  rw [k0_part22_eq_skeleton]
  unfold k0_part22_skel
  dsimp only
  iintro ⟨HO, HM, HF, HD, HX, HA, HB⟩ Hk
  iapply (WP_seq c)
  iapply (wp_waitM A I c h hb σ.M _ _ _ _ _ _ (off8_eq t)) $$ [HF HO HM]
  · isplitl [HF]; · iexact HF
    isplitl [HO]; · iexact HO
    iexact HM
  unfold Mk
  iintro ⟨⟨H4, H13⟩, HS, HO⟩
  iapply (WP_seq c)
  iapply (wp_t2 A c v2 v4 t x (TM := out RK (t.val + 1) b) (maskSt I t.val σ) (fun q => rM_sub fun t' h1 h2 => by omega) sD sX) $$ [H13 HD HX HA HB]
  · isplitl [H13]; · iexact H13
    isplitl [HD]; · iexact HD
    isplitl [HX]; · iexact HX
    isplitl [HA]; · iexact HA
    iexact HB
  iintro H
  iapply (WP_pure c)
  iapply Hk
  isplitl [HO]; · iexact HO
  isplitl [H4]; · iexact H4
  isplitl [HS]; · iexact HS
  iexact H

set_option maxHeartbeats 1000000 in
theorem wp_t1body (v2 v4 : IVec S8x128 32) (t : Fin k0_t1_loop.trips) (σ : St F) :
    J A I c t.val 0 t.val (min (t.val + 3) 28) σ
      ⊢ WP c (k0_t1_body (F := F) A.a0 A.h0 A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.a19 A.a20 v2 v4 t ()) (fun _ => J A I c (t.val + 1) 0 (t.val + 1) (min (t.val + 1 + 3) 28) (step1 I v2 v4 t.val σ)) := by
  have ht : t.val < 28 := lt_of_lt_of_eq t.isLt trips1
  unfold k0_t1_body J
  dsimp only
  rw [show min (t.val + 3) 224 = t.val + 3 by omega, show min (t.val + 1 + 3) 224 = t.val + 3 + 1 by omega]
  iintro ⟨HO, HR, HC0, HC1, HC2, HM, HMC, HA, HB⟩
  iapply (WP_seq c)
  ihave HF := (show rcell A I c t.val ⊢ FlyR A I c t.val 2 0 from by rw [rcell, if_pos (by omega)]) $$ HC0
  iapply (wp_part21 A I c _ _ t (b := t.val + 3) (by omega) le_rfl σ.X σ.D) $$ [HO HR HF]
  · isplitl [HO]; · iexact HO
    isplitl [HR]; · iexact HR
    iexact HF
  iintro %x ⟨HR, HS, HO⟩
  unfold Rd
  icases HR with ⟨H2, H11, H3, H12⟩
  ihave HMC' := (MC_wait A I c (a := t.val) (b := min (t.val + 3) 28) (by omega) (by omega) (by omega)) $$ HMC
  icases HMC' with ⟨HMF, HMC⟩
  iapply (WP_seq c)
  iapply (wp_part22 A I c v2 v4 t x (b := min (t.val + 3) 28) (by omega) (by omega) (TD := out RX (t.val + 1) (t.val + 3)) (TX := out RX (t.val + 1) (t.val + 3)) (waitSt I t.val σ)
    (fun q j => rT_sub fun t' h1 h2 => by omega) (fun q j => rT_sub fun t' h1 h2 => by omega)) $$ [HO HM HMF H12 H11 HA HB]
  · isplitl [HO]; · iexact HO
    isplitl [HM]; · iexact HM
    isplitl [HMF]; · iexact HMF
    isplitl [H12]; · iexact H12
    isplitl [H11]; · iexact H11
    isplitl [HA]; · iexact HA
    iexact HB
  iintro %y ⟨HO, H4, HMS, H13, H12, H11, HA, HB⟩
  ihave HMC' := HMC $$ HMS
  ihave HS' := (show semVal ((c : Thread nD τ), .dma (rsem A t.val)) 0 ⊢ (semVal ((c : Thread nD τ), .dma (rsem A (t.val + 3))) 0 : sProp 𝕄) from by
    rw [rsem_congr A (show t.val % 3 = (t.val + 3) % 3 by omega)]) $$ HS
  rw [← step1]
  generalize hρ : step1 I v2 v4 t.val σ = ρ
  iapply (WP_seq c)
  iapply (wp_readX A I c (a := t.val + 1) (t := t.val + 3) (by omega) (by omega) _ ρ.D _ _ _ _ _ _ (off14_eq t) (off15_eq t) (off16_eq t)) $$ [H2 H11 HS']
  · isplitl [H2]; · iexact H2
    isplitl [H11]; · iexact H11
    iexact HS'
  iintro ⟨H2, H11, HF⟩
  iapply (WP_seq c)
  iapply (wp_readD A I c (a := t.val + 1) (t := t.val + 3) (by omega) (by omega) ρ.X _ _ _ _ _ _ _ (off14_eq t) (off15_eq t) (off16_eq t)) $$ [H3 H12 HF]
  · isplitl [H3]; · iexact H3
    isplitl [H12]; · iexact H12
    iexact HF
  iintro ⟨H3, H12, HF⟩
  by_cases h1 : k0_cond1 t = 1#1
  · have hlt := (cond1_eq t).mp h1
    rw [dif_pos h1]
    rw [show min (t.val + 3) 28 = t.val + 3 by omega, show min (t.val + 1 + 3) 28 = t.val + 3 + 1 by omega]
    ihave HMC'' := (MC_issue A I c (a := t.val + 1) (b := t.val + 3) (by omega) (by omega) (by omega)) $$ HMC'
    icases HMC'' with ⟨HMS, HMC⟩
    iapply (WP_seq c)
    iapply (wp_readM A I c (a := t.val + 1) (m := t.val + 3) (by omega) (by omega) ρ.M _ _ _ _ _ _ (off17_eq t h1) (off18_eq t h1) (off19_eq t h1)) $$ [H4 H13 HMS]
    · unfold Mk
      isplitr [HMS]
      · isplitl [H4]; · iexact H4
        iexact H13
      iexact HMS
    iintro ⟨HM, HF2⟩
    ihave HMC := HMC $$ HF2
    iapply (WP_pure c)
    isplitl [HO]; · iexact HO
    isplitl [H2 H11 H3 H12]
    · isplitl [H2]; · iexact H2
      isplitl [H11]; · iexact H11
      isplitl [H3]; · iexact H3
      iexact H12
    isplitl [HC1]; · iexact HC1
    isplitl [HC2]; · iexact HC2
    isplitl [HF]
    · rw [rcell, if_pos (by omega)]; iexact HF
    isplitl [HM]; · iexact HM
    isplitl [HMC]; · iexact HMC
    isplitl [HA]; · iexact HA
    iexact HB
  · have hlt := mt (cond1_eq t).mpr h1
    rw [dif_neg h1]
    rw [show min (t.val + 3) 28 = min (t.val + 1 + 3) 28 by omega]
    iapply (WP_pure c)
    isplitl [HO]; · iexact HO
    isplitl [H2 H11 H3 H12]
    · isplitl [H2]; · iexact H2
      isplitl [H11]; · iexact H11
      isplitl [H3]; · iexact H3
      iexact H12
    isplitl [HC1]; · iexact HC1
    isplitl [HC2]; · iexact HC2
    isplitl [HF]
    · rw [rcell, if_pos (by omega)]; iexact HF
    isplitl [H4 H13]
    · unfold Mk
      isplitl [H4]; · iexact H4
      iexact H13
    isplitl [HMC']; · iexact HMC'
    isplitl [HA]; · iexact HA
    iexact HB

end Cert.KernelIdeal.Hand

end
-- ==== Proof.IdealFinal.lean ====
/-
  The end of a block's sums: its gradients and coefficients.
-/
module

public import proofs.«01_k».proof.Proof.IdealBody1

@[expose] public section

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

variable (A : Args) (I : Ins F) (c : Dev nD)

theorem rR_inb (n : ℕ) : ∀ a, (![n % 16, 0] : Fin 2 → ℕ) a + S1x128.size a ≤ S16x128.size a := by intro a; fin_cases a <;> simp; omega
theorem rC_inb (n : ℕ) : ∀ a, (![n % 6, 0, 0] : Fin 3 → ℕ) a + S1x8x128.size a ≤ S6x8x128.size a := by intro a; fin_cases a <;> simp; omega
theorem rC1_inb (n : ℕ) : ∀ a, (![n % 6, 0, 0] : Fin 3 → ℕ) a + S1x1x128.size a ≤ S6x8x128.size a := by intro a; fin_cases a <;> simp; omega
theorem rS_inb (n : ℕ) : ∀ a, (![n % 2, 0, 0] : Fin 3 → ℕ) a + S1x8x128.size a ≤ S2x8x128.size a := by intro a; fin_cases a <;> simp; omega

/-- Row `n` of a vector of channels. -/
abbrev rR (n : ℕ) : Rect S16x128 := Rect.unit (s := S16x128) ![n % 16, 0] S1x128.size (rR_inb n)
/-- Coefficient `n`. -/
abbrev rC (n : ℕ) : Rect S6x8x128 := Rect.unit (s := S6x8x128) ![n % 6, 0, 0] S1x8x128.size (rC_inb n)
/-- The first sublane of coefficient `n`. -/
abbrev rC1 (n : ℕ) : Rect S6x8x128 := Rect.unit (s := S6x8x128) ![n % 6, 0, 0] S1x1x128.size (rC1_inb n)
/-- Column half `n` of a running array of sums. -/
abbrev rS' (n : ℕ) : Rect S2x8x128 := Rect.unit (s := S2x8x128) ![n % 2, 0, 0] S1x8x128.size (rS_inb n)
/-- A running array of sums, whole. -/
abbrev rSA : Rect S2x8x128 := Rect.unit (s := S2x8x128) ![0, 0, 0] S2x8x128.size inb_S2x8x128_S2x8x128_0_0_0

/-- The one element of a scalar operand. -/
abbrev sc (w : S1.Idx → Elt F .f32) : Elt F .f32 :=
  w ((Rect.unit (s := S1) ![0] S1.size inb_S1_S1_0).emb (Shape.Idx.first (numel1_S1.symm ▸ Nat.one_pos)))

/-- The coefficients of block `k`, from the sums `a` and `b` of the two column halves. -/
def finCf (k : ℕ) (s1 s2 : BufS F) (cf : S6x8x128.Idx → Elt F .f32) : S6x8x128.Idx → Elt F .f32 :=
  let xs := sc I.xs; let ys := sc I.ys
  let m := at' (rR (2 * k + 0)) I.mean; let r := at' (rR (2 * k + 0)) I.rstd; let g := at' (rR (2 * k + 0)) I.gam
  let m' := at' (rR (2 * k + 1)) I.mean; let r' := at' (rR (2 * k + 1)) I.rstd; let g' := at' (rR (2 * k + 1)) I.gam
  let a := at' (rS' 0) s1; let b := at' (rS' 0) s2; let a' := at' (rS' 1) s1; let b' := at' (rS' 1) s2
  upd (rC 5) (k0_pay338 (k0_pay265 m') (k0_pay268 ys a') (k0_pay270 (k0_pay266 r') (k0_pay267 g')) (k0_pay271 xs ys (k0_pay265 m') (k0_pay266 r') (k0_pay267 g') a' b'))
    (upd (rC 4) (k0_pay337 (k0_pay273 xs ys (k0_pay265 m') (k0_pay266 r') (k0_pay267 g') a' b'))
    (upd (rC 3) (k0_pay272 ys (k0_pay266 r') (k0_pay267 g'))
    (upd (rC 2) (k0_pay264 (k0_pay254 m) (k0_pay256 ys a) (k0_pay257 xs ys m r a b) (k0_pay258 r g) (k0_pay259 r g) k0_pay260)
    (upd (rC 1) (k0_pay263 xs (k0_pay257 xs ys m r a b) (k0_pay259 r g) k0_pay260)
    (upd (rC 0) (k0_pay262 ys (k0_pay258 r g)) cf)))))

/-- A vector of channels after block `k`'s two rows of `dgamma` were written. -/
def finDg (k : ℕ) (s1 s2 : BufS F) (dg : S16x128.Idx → Elt F .f32) : S16x128.Idx → Elt F .f32 :=
  upd (rR (2 * k + 1)) (k0_pay269 (sc I.xs) (sc I.ys) (k0_pay265 (at' (rR (2 * k + 1)) I.mean)) (k0_pay266 (at' (rR (2 * k + 1)) I.rstd)) (at' (rS' 1) s1) (at' (rS' 1) s2))
    (upd (rR (2 * k + 0)) (k0_pay257 (sc I.xs) (sc I.ys) (at' (rR (2 * k + 0)) I.mean) (at' (rR (2 * k + 0)) I.rstd) (at' (rS' 0) s1) (at' (rS' 0) s2)) dg)

/-- A vector of channels after block `k`'s two rows of `dbeta` were written. -/
def finDb (k : ℕ) (s1 : BufS F) (db : S16x128.Idx → Elt F .f32) : S16x128.Idx → Elt F .f32 :=
  upd (rR (2 * k + 1)) (k0_pay268 (sc I.ys) (at' (rS' 1) s1)) (upd (rR (2 * k + 0)) (k0_pay256 (sc I.ys) (at' (rS' 0) s1)) db)

/-- Block `k`'s sums are done: its gradients and coefficients written, the sums zeroed. -/
def fin (k : ℕ) (σ : St F) : St F :=
  { σ with
    cf := finCf I k σ.s1 σ.s2 σ.cf
    dg := finDg I k σ.s1 σ.s2 σ.dg
    db := finDb I k σ.s1 σ.db
    s1 := upd rSA k0_pay339 σ.s1
    s2 := upd rSA k0_pay340 σ.s2 }

/-- The operands that stay whole. -/
def Inp : sProp 𝕄 :=
  iprop(own c A.a0 Finset.univ I.xs ∗ own c A.a1 Finset.univ I.ys ∗ own c A.a5 Finset.univ I.mean ∗ own c A.a6 Finset.univ I.rstd ∗ own c A.a7 Finset.univ I.gam)

/-- What a block's end works on. -/
def Fs (s1 s2 : BufS F) (cf : S6x8x128.Idx → Elt F .f32) (dg db : S16x128.Idx → Elt F .f32) : sProp 𝕄 :=
  iprop(own c A.a15 Finset.univ s1 ∗ own c A.a16 Finset.univ s2 ∗ own c A.a17 Finset.univ cf ∗ own c A.a9 Finset.univ dg ∗ own c A.a10 Finset.univ db)

/-- A program by what it leaves. -/
theorem wp_cut {α : Type} (p : Prog (TpuEff nD τ sig (Elt F) Λ₀ .tc) α) (P : sProp 𝕄) {Q : α → sProp 𝕄} :
    WP c p (fun _ => P) ⊢ iprop((∀ r, P -∗ Q r) -∗ WP c p Q) := by
  iintro H Hk
  iapply wp_wand $$ H
  iintro %r HP
  iapply Hk $$ HP

theorem wp_part50 (t : Fin k0_t3_loop.trips) (x : BitVec 32) (h6 : k0_cond6 t = 1#1) (s1 s2 : BufS F) (cf : S6x8x128.Idx → Elt F .f32) (dg db : S16x128.Idx → Elt F .f32)
    {Q} :
    iprop(Inp A I c ∗ Fs A c s1 s2 cf dg db)
      ⊢ iprop((iprop(Inp A I c ∗ Fs A c s1 s2 cf
            (upd (rR (2 * (t.val / 28 + 1) + 0)) (k0_pay257 (sc I.xs) (sc I.ys) (at' (rR (2 * (t.val / 28 + 1) + 0)) I.mean) (at' (rR (2 * (t.val / 28 + 1) + 0)) I.rstd) (at' (rS' 0) s1) (at' (rS' 0) s2)) dg)
            (upd (rR (2 * (t.val / 28 + 1) + 0)) (k0_pay256 (sc I.ys) (at' (rS' 0) s1)) db)) -∗
          Q ⟨sc I.xs, sc I.ys, k0_pay254 (at' (rR (2 * (t.val / 28 + 1) + 0)) I.mean), k0_pay256 (sc I.ys) (at' (rS' 0) s1),
            k0_pay257 (sc I.xs) (sc I.ys) (at' (rR (2 * (t.val / 28 + 1) + 0)) I.mean) (at' (rR (2 * (t.val / 28 + 1) + 0)) I.rstd) (at' (rS' 0) s1) (at' (rS' 0) s2),
            k0_pay258 (at' (rR (2 * (t.val / 28 + 1) + 0)) I.rstd) (at' (rR (2 * (t.val / 28 + 1) + 0)) I.gam), k0_pay259 (at' (rR (2 * (t.val / 28 + 1) + 0)) I.rstd) (at' (rR (2 * (t.val / 28 + 1) + 0)) I.gam), k0_pay260⟩)
        -∗ WP c (k0_part50 (F := F) A.a0 A.h0 A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.a19 A.a20 t x h6) Q) := by
  rw [k0_part50_eq_skeleton]
  unfold k0_part50_skel
  dsimp only
  unfold Inp Fs
  iintro ⟨⟨H0, H1, H5, H6, H7⟩, HA, HB, HC, HG, HE⟩ Hk
  iapply (WP_seq c)
  iapply (wp_smem c A.a0 _ _ _ I.xs (Finset.subset_univ _)) $$ H0
  iintro H0
  iapply (WP_seq c)
  iapply (wp_smem c A.a1 _ _ _ I.ys (Finset.subset_univ _)) $$ H1
  iintro H1
  iapply (WP_seq c)
  iapply (wp_ldu c A.a5 _ ![(2 * (t.val / 28 + 1) + 0) % 16, 0] _ _ (rR_inb _) (off48_eq t 0) _ I.mean) $$ H5
  iintro H5
  iapply (WP_seq c)
  iapply (wp_ldu c A.a6 _ ![(2 * (t.val / 28 + 1) + 0) % 16, 0] _ _ (rR_inb _) (off48_eq t 0) _ I.rstd) $$ H6
  iintro H6
  iapply (WP_seq c)
  iapply (wp_ldu c A.a7 _ ![(2 * (t.val / 28 + 1) + 0) % 16, 0] _ _ (rR_inb _) (off48_eq t 0) _ I.gam) $$ H7
  iintro H7
  iapply (WP_seq c)
  iapply (wp_ldu c A.a15 _ ![0 % 2, 0, 0] _ _ (rS_inb 0) rfl _ s1) $$ HA
  iintro HA
  iapply (WP_seq c)
  iapply (wp_ldu c A.a16 _ ![0 % 2, 0, 0] _ _ (rS_inb 0) rfl _ s2) $$ HB
  iintro HB
  iapply (WP_seq c)
  iapply (wp_ldu c A.a10 _ ![(2 * (t.val / 28 + 1) + 0) % 16, 0] _ _ (rR_inb _) (off48_eq t 0) _ _) $$ HE
  iintro HE
  iapply (WP_seq c)
  iapply (wp_stu c A.a10 _ ![(2 * (t.val / 28 + 1) + 0) % 16, 0] _ _ (rR_inb _) (off48_eq t 0) _ _ _ _) $$ HE
  iintro HE
  iapply (WP_seq c)
  iapply (wp_ldu c A.a9 _ ![(2 * (t.val / 28 + 1) + 0) % 16, 0] _ _ (rR_inb _) (off48_eq t 0) _ _) $$ HG
  iintro HG
  iapply (WP_seq c)
  iapply (wp_stu c A.a9 _ ![(2 * (t.val / 28 + 1) + 0) % 16, 0] _ _ (rR_inb _) (off48_eq t 0) _ _ _ _) $$ HG
  iintro HG
  iapply (WP_pure c)
  iapply Hk
  isplitl [H0 H1 H5 H6 H7]
  · isplitl [H0]; · iexact H0
    isplitl [H1]; · iexact H1
    isplitl [H5]; · iexact H5
    isplitl [H6]; · iexact H6
    iexact H7
  isplitl [HA]; · iexact HA
  isplitl [HB]; · iexact HB
  isplitl [HC]; · iexact HC
  isplitl [HG]; · iexact HG
  iexact HE

theorem wp_part51 (t : Fin k0_t3_loop.trips) (x : BitVec 32) (h6 : k0_cond6 t = 1#1) (v467 v468 : Elt F .f32) (v473 v485 v496 v501 v504 v505 : FVec F S1x128 .f32)
    (s1 s2 : BufS F) (cf : S6x8x128.Idx → Elt F .f32) (dg db : S16x128.Idx → Elt F .f32) {Q} :
    iprop(Inp A I c ∗ Fs A c s1 s2 cf dg db)
      ⊢ iprop((∀ y, iprop(Inp A I c ∗ Fs A c s1 s2
            (upd (rC 2) (k0_pay264 v473 v485 v496 v501 v504 v505) (upd (rC 1) (k0_pay263 v467 v496 v504 v505) (upd (rC 0) (k0_pay262 v468 v501) cf))) dg db) -∗
          Q ⟨y, k0_pay265 (at' (rR (2 * (t.val / 28 + 1) + 1)) I.mean), k0_pay266 (at' (rR (2 * (t.val / 28 + 1) + 1)) I.rstd), k0_pay267 (at' (rR (2 * (t.val / 28 + 1) + 1)) I.gam)⟩)
        -∗ WP c (k0_part51 (F := F) A.a0 A.h0 A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.a19 A.a20 t x h6 v467 v468 v473 v485 v496 v501 v504 v505) Q) := by
  rw [k0_part51_eq_skeleton]
  unfold k0_part51_skel
  dsimp only
  unfold Inp Fs
  iintro ⟨⟨H0, H1, H5, H6, H7⟩, HA, HB, HC, HG, HE⟩ Hk
  iapply (WP_seq c)
  iapply (wp_ldu c A.a17 _ ![0 % 6, 0, 0] _ _ (rC_inb 0) rfl _ _) $$ HC
  iintro HC
  iapply (WP_seq c)
  iapply (wp_stu c A.a17 _ ![0 % 6, 0, 0] _ _ (rC_inb 0) rfl _ _ _ _) $$ HC
  iintro HC
  iapply (WP_seq c)
  iapply (wp_ldu c A.a17 _ ![1 % 6, 0, 0] _ _ (rC_inb 1) rfl _ _) $$ HC
  iintro HC
  iapply (WP_seq c)
  iapply (wp_stu c A.a17 _ ![1 % 6, 0, 0] _ _ (rC_inb 1) rfl _ _ _ _) $$ HC
  iintro HC
  iapply (WP_seq c)
  iapply (wp_ldu c A.a17 _ ![2 % 6, 0, 0] _ _ (rC_inb 2) rfl _ _) $$ HC
  iintro HC
  iapply (WP_seq c)
  iapply (wp_stu c A.a17 _ ![2 % 6, 0, 0] _ _ (rC_inb 2) rfl _ _ _ _) $$ HC
  iintro HC
  iapply (WP_seq c)
  iapply (wp_ldu c A.a5 _ ![(2 * (t.val / 28 + 1) + 1) % 16, 0] _ _ (rR_inb _) (off48_eq t 1) _ I.mean) $$ H5
  iintro H5
  iapply (WP_seq c)
  iapply (wp_ldu c A.a6 _ ![(2 * (t.val / 28 + 1) + 1) % 16, 0] _ _ (rR_inb _) (off48_eq t 1) _ I.rstd) $$ H6
  iintro H6
  iapply (WP_seq c)
  iapply (wp_ldu c A.a7 _ ![(2 * (t.val / 28 + 1) + 1) % 16, 0] _ _ (rR_inb _) (off48_eq t 1) _ I.gam) $$ H7
  iintro H7
  iapply (WP_pure c)
  iapply Hk
  isplitl [H0 H1 H5 H6 H7]
  · isplitl [H0]; · iexact H0
    isplitl [H1]; · iexact H1
    isplitl [H5]; · iexact H5
    isplitl [H6]; · iexact H6
    iexact H7
  isplitl [HA]; · iexact HA
  isplitl [HB]; · iexact HB
  isplitl [HC]; · iexact HC
  isplitl [HG]; · iexact HG
  iexact HE

theorem wp_part52 (t : Fin k0_t3_loop.trips) (h6 : k0_cond6 t = 1#1) (v467 v468 : Elt F .f32) (y : BitVec 32) (v538 v541 v544 : FVec F S1x128 .f32)
    (s1 s2 : BufS F) (cf : S6x8x128.Idx → Elt F .f32) (dg db : S16x128.Idx → Elt F .f32) {Q} :
    iprop(Inp A I c ∗ Fs A c s1 s2 cf dg db)
      ⊢ iprop((iprop(Inp A I c ∗ Fs A c s1 s2 (upd (rC 3) (k0_pay272 v468 v541 v544) cf)
            (upd (rR (2 * (t.val / 28 + 1) + 1)) (k0_pay269 v467 v468 v538 v541 (at' (rS' 1) s1) (at' (rS' 1) s2)) dg)
            (upd (rR (2 * (t.val / 28 + 1) + 1)) (k0_pay268 v468 (at' (rS' 1) s1)) db)) -∗
          Q ⟨k0_pay268 v468 (at' (rS' 1) s1), k0_pay270 v541 v544, k0_pay271 v467 v468 v538 v541 v544 (at' (rS' 1) s1) (at' (rS' 1) s2),
            k0_pay273 v467 v468 v538 v541 v544 (at' (rS' 1) s1) (at' (rS' 1) s2)⟩)
        -∗ WP c (k0_part52 (F := F) A.a0 A.h0 A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.a19 A.a20 t h6 v467 v468 y v538 v541 v544) Q) := by
  rw [k0_part52_eq_skeleton]
  unfold k0_part52_skel
  dsimp only
  unfold Inp Fs
  iintro ⟨⟨H0, H1, H5, H6, H7⟩, HA, HB, HC, HG, HE⟩ Hk
  iapply (WP_seq c)
  iapply (wp_ldu c A.a15 _ ![1 % 2, 0, 0] _ _ (rS_inb 1) rfl _ s1) $$ HA
  iintro HA
  iapply (WP_seq c)
  iapply (wp_ldu c A.a16 _ ![1 % 2, 0, 0] _ _ (rS_inb 1) rfl _ s2) $$ HB
  iintro HB
  iapply (WP_seq c)
  iapply (wp_ldu c A.a10 _ ![(2 * (t.val / 28 + 1) + 1) % 16, 0] _ _ (rR_inb _) (off48_eq t 1) _ _) $$ HE
  iintro HE
  iapply (WP_seq c)
  iapply (wp_stu c A.a10 _ ![(2 * (t.val / 28 + 1) + 1) % 16, 0] _ _ (rR_inb _) (off48_eq t 1) _ _ _ _) $$ HE
  iintro HE
  iapply (WP_seq c)
  iapply (wp_ldu c A.a9 _ ![(2 * (t.val / 28 + 1) + 1) % 16, 0] _ _ (rR_inb _) (off48_eq t 1) _ _) $$ HG
  iintro HG
  iapply (WP_seq c)
  iapply (wp_stu c A.a9 _ ![(2 * (t.val / 28 + 1) + 1) % 16, 0] _ _ (rR_inb _) (off48_eq t 1) _ _ _ _) $$ HG
  iintro HG
  iapply (WP_seq c)
  iapply (wp_ldu c A.a17 _ ![3 % 6, 0, 0] _ _ (rC_inb 3) rfl _ _) $$ HC
  iintro HC
  iapply (WP_seq c)
  iapply (wp_stu c A.a17 _ ![3 % 6, 0, 0] _ _ (rC_inb 3) rfl _ _ _ _) $$ HC
  iintro HC
  iapply (WP_seq c)
  iapply (wp_ldu c A.a17 _ ![4 % 6, 0, 0] _ _ (rC_inb 4) rfl _ _) $$ HC
  iintro HC
  iapply (WP_pure c)
  iapply Hk
  isplitl [H0 H1 H5 H6 H7]
  · isplitl [H0]; · iexact H0
    isplitl [H1]; · iexact H1
    isplitl [H5]; · iexact H5
    isplitl [H6]; · iexact H6
    iexact H7
  isplitl [HA]; · iexact HA
  isplitl [HB]; · iexact HB
  isplitl [HC]; · iexact HC
  isplitl [HG]; · iexact HG
  iexact HE

end Cert.KernelIdeal.Hand

end
-- ==== Proof.IdealBody3.lean ====
/-
  The kernel's middle loop: each block's result while the next block is summed.
-/
module

public import proofs.«01_k».proof.Proof.IdealFinal

@[expose] public section

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

variable (A : Args) (I : Ins F) (c : Dev nD)

/-- A conditional effect before the rest of a program. -/
theorem wp_dite1 {cnd : Prop} [Decidable cnd] {β : Type} (a : cnd → Prog (TpuEff nD τ sig (Elt F) Λ₀ .tc) PUnit) (k : Prog (TpuEff nD τ sig (Elt F) Λ₀ .tc) β)
    (R P : sProp 𝕄) (h1 : ∀ h, R ⊢ WP c (a h) (fun _ => P)) (h2 : ¬cnd → R ⊢ P) {Q : β → sProp 𝕄} :
    R ⊢ iprop((P -∗ WP c k Q) -∗ WP c (if h : cnd then a h >>= fun _ => k else k) Q) := by
  iintro H Hk
  by_cases h : cnd
  · rw [dif_pos h]
    iapply (WP_seq c)
    ihave H := (h1 h) $$ H
    iapply (wp_cut c _ P) $$ H
    iintro %_ H
    iapply Hk $$ H
  · rw [dif_neg h]
    ihave H := (h2 h) $$ H
    iapply Hk $$ H

/-- Two conditional effects before the rest of a program. -/
theorem wp_dite2 {cnd : Prop} [Decidable cnd] {β : Type} (a b : cnd → Prog (TpuEff nD τ sig (Elt F) Λ₀ .tc) PUnit) (k : Prog (TpuEff nD τ sig (Elt F) Λ₀ .tc) β)
    (R P : sProp 𝕄) (h1 : ∀ h, R ⊢ WP c (a h) (fun _ => WP c (b h) (fun _ => P))) (h2 : ¬cnd → R ⊢ P) {Q : β → sProp 𝕄} :
    R ⊢ iprop((P -∗ WP c k Q) -∗ WP c (if h : cnd then a h >>= fun _ => b h >>= fun _ => k else k) Q) := by
  have h1' : ∀ h, R ⊢ WP c (a h >>= fun _ => b h) (fun _ => P) := fun h => (h1 h).trans (WP_seq c _ _ _)
  have e : (if h : cnd then a h >>= fun _ => b h >>= fun _ => k else k) = (if h : cnd then (a h >>= fun _ => b h) >>= fun _ => k else k) := by
    split
    · rw [bind_assoc]
    · rfl
  rw [e]
  exact wp_dite1 c _ k R P h1' h2

attribute [local irreducible] grpD grpO grpS1 grpS2

/-- The number of the block summed at step `t`. -/
def cnE (t : Fin k0_t3_loop.trips) : BitVec 32 :=
  let arg21 : BitVec 32 := Scf.iv 0#32 1#32 t
  let v318 := Scalar.divsi arg21 28#32
  let v323 := Scalar.subi (Scalar.extui (Scalar.cmpi .sgt arg21 0#32)) (Scalar.extui (Scalar.cmpi .slt arg21 0#32))
  let v328 := Scalar.subi (Scalar.extui (Scalar.cmpi .sgt 28#32 0#32)) (Scalar.extui (Scalar.cmpi .slt 28#32 0#32))
  let v332 := Scalar.andi (Scalar.cmpi .ne v323 v328) (Scalar.cmpi .ne (Scalar.remsi arg21 28#32) 0#32)
  Scalar.addi (Scalar.select v332 (Scalar.subi v318 1#32) v318) 1#32
/-- The number of the block summed at step `t`. -/
def cnOf (t : ℕ) : BitVec 32 := BitVec.ofNat 32 (t / 28 + 1)
theorem cnE_eq : ∀ t : Fin k0_t3_loop.trips, cnE t = cnOf t.val := by decide +kernel

theorem wp_part53 (t : Fin k0_t3_loop.trips) {Q} :
    iprop(∀ x0 x1 x2 x3 x4 x5 x6 x7 x8, Q ⟨x0, x1, x2, cnOf t.val, x3, x4, x5, x6, x7, x8⟩) ⊢ WP c (k0_part53 (F := F) A.a0 A.h0 A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.a19 A.a20 0#32 1#32 t) Q := by
  rw [k0_part53_eq_skeleton]
  unfold k0_part53_skel
  dsimp only
  rw [← cnE_eq]
  unfold cnE
  dsimp only
  iintro Hk
  iapply (WP_pure c)
  iapply Hk

theorem wp_part54 (t : Fin k0_t3_loop.trips) (x0 x1 x2 : BitVec 32) (x3 : BitVec 1) (x4 : BitVec 32) {b : ℕ} (h : t.val + 28 < b) (hb : b ≤ t.val + 28 + 3) (X : BufX F) (D : BufD F) {Q} :
    iprop(owing (F := F) c ∗ Rd A I c (t.val + 28) b X D ∗ FlyR A I c (t.val + 28) 2 0)
      ⊢ iprop((∀ y0 y1, iprop(Rd A I c (t.val + 28 + 1) b ((RX (t.val + 28)).piecewise (XG I (t.val + 28)) X) ((RX (t.val + 28)).piecewise (DG I (t.val + 28)) D)
            ∗ semVal ((c : Thread nD τ), .dma (rsem A (t.val + 28))) 0 ∗ owing (F := F) c) -∗ Q ⟨y0, y1⟩)
        -∗ WP c (k0_part54 (F := F) A.a0 A.h0 A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.a19 A.a20 t x0 x1 x2 x3 x4) Q) := by
  rw [k0_part54_eq_skeleton]
  unfold k0_part54_skel
  dsimp only
  iintro ⟨HO, HR, HF⟩ Hk
  iapply (WP_seq c)
  iapply (wp_waitX A I c (t.val + 28) _ _ _ _ _ _ (off21_eq t)) $$ [HF HO]
  · isplitl [HF]; · iexact HF
    iexact HO
  iintro ⟨HF, HO⟩
  iapply (WP_seq c)
  iapply (wp_waitD A I c h hb X D _ _ _ _ _ _ (off21_eq t)) $$ [HF HO HR]
  · isplitl [HF]; · iexact HF
    isplitl [HO]; · iexact HO
    iexact HR
  iintro H
  iapply (WP_pure c)
  iapply Hk
  iexact H

/-- The coefficients a step of the middle loop reads. -/
def co3 (cf : S6x8x128.Idx → Elt F .f32) : Co F :=
  ⟨k0_pay276 (at' (rC1 0) cf), k0_pay277 (at' (rC1 1) cf), k0_pay278 (at' (rC1 2) cf), k0_pay279 (at' (rC1 3) cf), k0_pay280 (at' (rC1 4) cf), k0_pay281 (at' (rC1 5) cf)⟩

/-- The cell of the writes of step `t - 2`, awaited at step `t`. -/
def WC (t : ℕ) (w : S50176x2048.Idx → Elt F .bf16) (O : BufO F) : sProp 𝕄 :=
  if 2 ≤ t then FlyW A c (t - 2) w O 2 0 else iprop(semVal ((c : Thread nD τ), .dma (wsem A t)) 0)

/-- Step `t` of the middle loop after the reads it awaits. -/
def mst (t : ℕ) (σ : St F) : St F := if 84 ≤ t ∧ t < 112 then maskSt I (t - 56) σ else σ

theorem WC_step {t : ℕ} (w w' : S50176x2048.Idx → Elt F .bf16) (O O' : BufO F) (hw : ∀ i ∉ RW t, w' i = w i) (hO : ∀ i ∉ RY t, O' i = O i) :
    WC A c (t + 1) w O = WC A c (t + 1) w' O' := by
  unfold WC
  split
  · unfold FlyW
    rw [DW_congr A c (fun i hi => (hw i ?_).symm) (fun i hi => (hO i ?_).symm)]
    · exact fun h => Finset.disjoint_left.mp (disj_RW (t := t + 1 - 2) (t' := t) (by omega)) hi h
    · exact fun h => Finset.disjoint_left.mp (disj_RY (t := t + 1 - 2) (t' := t) (by omega)) hi h
  · rfl

set_option maxHeartbeats 1000000 in
theorem wp_part55 (v4 : IVec S8x128 32) (t : Fin k0_t3_loop.trips) (x0 x1 x2 x4 x5 : BitVec 32) (σ : St F) {Q} :
    iprop(owing (F := F) c ∗ Mk A I c (28 + min (t.val - 84) 28) (28 + min (t.val - 56) 28) σ.M ∗ MC A I c 28 (28 + min (t.val - 84) 28) (28 + min (t.val - 56) 28)
        ∗ Wr A c (t.val - 2) t.val σ.dx σ.O ∗ WC A c t.val σ.dx σ.O ∗ own c A.a17 Finset.univ σ.cf)
      ⊢ iprop((iprop(owing (F := F) c ∗ Mk A I c (28 + min (t.val + 1 - 84) 28) (28 + min (t.val - 56) 28) (mst I t.val σ).M ∗ MC A I c 28 (28 + min (t.val + 1 - 84) 28) (28 + min (t.val - 56) 28)
            ∗ Wr A c (t.val - 1) t.val σ.dx σ.O ∗ semVal ((c : Thread nD τ), .dma (wsem A t.val)) 0 ∗ own c A.a17 Finset.univ σ.cf) -∗
          Q ⟨k0_pay274 v4 (cnOf t.val), k0_pay275 v4 (cnOf t.val), (co3 σ.cf).a, (co3 σ.cf).b, (co3 σ.cf).e, (co3 σ.cf).a', (co3 σ.cf).b', at' (rC1 5) σ.cf⟩)
        -∗ WP c (k0_part55 (F := F) A.a0 A.h0 A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.a19 A.a20 v4 t x0 x1 x2 (cnOf t.val) x4 x5) Q) := by
  rw [k0_part55_eq_skeleton]
  unfold k0_part55_skel
  dsimp only [co3]
  iintro ⟨HO, HM, HMC, HW, HC, HA⟩ Hk
  iapply (wp_dite1 c _ _ iprop(owing (F := F) c ∗ Mk A I c (28 + min (t.val - 84) 28) (28 + min (t.val - 56) 28) σ.M ∗ MC A I c 28 (28 + min (t.val - 84) 28) (28 + min (t.val - 56) 28))
    iprop(owing (F := F) c ∗ Mk A I c (28 + min (t.val + 1 - 84) 28) (28 + min (t.val - 56) 28) (mst I t.val σ).M
      ∗ MC A I c 28 (28 + min (t.val + 1 - 84) 28) (28 + min (t.val - 56) 28)) ?_ ?_) $$ [HO HM HMC]
  · intro h2
    have h := (cond2_eq t).mp h2
    rw [mst, if_pos h, show 28 + min (t.val - 84) 28 = t.val - 56 by omega, show 28 + min (t.val + 1 - 84) 28 = t.val - 56 + 1 by omega]
    iintro ⟨HO, HM, HMC⟩
    ihave HMC' := (MC_wait A I c (a := t.val - 56) (b := 28 + min (t.val - 56) 28) (by omega) (by omega) (by omega)) $$ HMC
    icases HMC' with ⟨HMF, HMC⟩
    iapply (wp_waitM A I c (a := t.val - 56) (b := 28 + min (t.val - 56) 28) (by omega) (by omega) σ.M _ _ _ _ _ _ (off24_eq t h2)) $$ [HMF HO HM]
    · isplitl [HMF]; · iexact HMF
      isplitl [HO]; · iexact HO
      iexact HM
    iintro ⟨HM, HS, HO⟩
    ihave HMC := HMC $$ HS
    isplitl [HO]; · iexact HO
    isplitl [HM]; · iexact HM
    iexact HMC
  · intro h2
    have h := mt (cond2_eq t).mpr h2
    rw [mst, if_neg h, show 28 + min (t.val + 1 - 84) 28 = 28 + min (t.val - 84) 28 by omega]
  · isplitl [HO]; · iexact HO
    isplitl [HM]; · iexact HM
    iexact HMC
  iintro ⟨HO, HM, HMC⟩
  iapply (wp_dite2 c _ _ _ iprop(owing (F := F) c ∗ Wr A c (t.val - 2) t.val σ.dx σ.O ∗ WC A c t.val σ.dx σ.O)
    iprop(owing (F := F) c ∗ Wr A c (t.val - 1) t.val σ.dx σ.O ∗ semVal ((c : Thread nD τ), .dma (wsem A t.val)) 0) ?_ ?_) $$ [HO HW HC]
  · intro h3
    have h := (cond3_eq t).mp h3
    rw [WC, if_pos h, show t.val - 1 = t.val - 2 + 1 by omega, wsem_congr A (show t.val % 2 = (t.val - 2) % 2 by omega)]
    have hs : k0_off27 t = ![(t.val - 2) % 2] := (off27_eq t).trans (by rw [show t.val % 2 = (t.val - 2) % 2 by omega])
    iintro ⟨HO, HW, HC⟩
    iapply (wp_waitW0 A c (t.val - 2) σ.dx σ.O _ _ _ _ _ _ hs) $$ [HC HO]
    · isplitl [HC]; · iexact HC
      iexact HO
    iintro ⟨HC, HO⟩
    iapply (wp_waitW1 A c (a := t.val - 2) (b := t.val) (by omega) (by omega) σ.dx σ.O _ _ _ _ _ _ hs) $$ [HC HO HW]
    · isplitl [HC]; · iexact HC
      isplitl [HO]; · iexact HO
      iexact HW
    iintro ⟨HW, HC, HO⟩
    isplitl [HO]; · iexact HO
    isplitl [HW]; · iexact HW
    iexact HC
  · intro h3
    have h := mt (cond3_eq t).mpr h3
    rw [WC, if_neg h, show t.val - 2 = t.val - 1 by omega]
  · isplitl [HO]; · iexact HO
    isplitl [HW]; · iexact HW
    iexact HC
  iintro ⟨HO, HW, HC⟩
  iapply (WP_seq c)
  iapply (wp_ldu c A.a17 _ ![0 % 6, 0, 0] _ _ (rC1_inb 0) rfl _ σ.cf) $$ HA
  iintro HA
  iapply (WP_seq c)
  iapply (wp_ldu c A.a17 _ ![1 % 6, 0, 0] _ _ (rC1_inb 1) rfl _ σ.cf) $$ HA
  iintro HA
  iapply (WP_seq c)
  iapply (wp_ldu c A.a17 _ ![2 % 6, 0, 0] _ _ (rC1_inb 2) rfl _ σ.cf) $$ HA
  iintro HA
  iapply (WP_seq c)
  iapply (wp_ldu c A.a17 _ ![3 % 6, 0, 0] _ _ (rC1_inb 3) rfl _ σ.cf) $$ HA
  iintro HA
  iapply (WP_seq c)
  iapply (wp_ldu c A.a17 _ ![4 % 6, 0, 0] _ _ (rC1_inb 4) rfl _ σ.cf) $$ HA
  iintro HA
  iapply (WP_seq c)
  iapply (wp_ldu c A.a17 _ ![5 % 6, 0, 0] _ _ (rC1_inb 5) rfl _ σ.cf) $$ HA
  iintro HA
  iapply (WP_pure c)
  iapply Hk
  isplitl [HO]; · iexact HO
  isplitl [HM]; · iexact HM
  isplitl [HMC]; · iexact HMC
  isplitl [HW]; · iexact HW
  isplitl [HC]; · iexact HC
  iexact HA

set_option maxHeartbeats 1000000 in
theorem wp_part56 (v2 la lb : IVec S8x128 32) (t : Fin k0_t3_loop.trips) (x0 x1 x2 x3 x4 x5 x6 x7 : BitVec 32) (v411 v415 v419 v423 v427 : FVec F S32x128 .f32) (v428 : Vec F S1x1x128 .f32) (σ : St F)
    {Q : PUnit → sProp 𝕄} :
    iprop(Rd A I c (t.val + 28 + 1) (min (t.val + 28 + 3) 224) σ.X σ.D ∗ semVal ((c : Thread nD τ), .dma (rsem A (t.val + 28))) 0
        ∗ Mk A I c (28 + min (t.val + 1 - 84) 28) (28 + min (t.val - 56) 28) σ.M ∗ MC A I c 28 (28 + min (t.val + 1 - 84) 28) (28 + min (t.val - 56) 28)
        ∗ own c A.a15 Finset.univ σ.s1 ∗ own c A.a16 Finset.univ σ.s2
        ∗ Wr A c (t.val - 1) t.val σ.dx σ.O ∗ semVal ((c : Thread nD τ), .dma (wsem A t.val)) 0)
      ⊢ iprop((∀ ρ, ⌜ρ = outRedN ⟨v411, v415, v419, v423, v427, k0_pay281 v428⟩ v2 la lb t.val σ 7⌝ -∗
          iprop(Rd A I c (t.val + 28 + 1) (min (t.val + 28 + 1 + 3) 224) ρ.X ρ.D ∗ rcell A I c (t.val + 28 + 3)
            ∗ Mk A I c (28 + min (t.val + 1 - 84) 28) (28 + min (t.val + 1 - 56) 28) ρ.M ∗ MC A I c 28 (28 + min (t.val + 1 - 84) 28) (28 + min (t.val + 1 - 56) 28)
            ∗ own c A.a15 Finset.univ ρ.s1 ∗ own c A.a16 Finset.univ ρ.s2
            ∗ Wr A c (t.val - 1) (t.val + 1) (dxW t.val ρ.O σ.dx) ρ.O ∗ own c A.a8 (rW t.val 1).set σ.dx ∗ own c A.a14 (rY t.val 1).set ρ.O
            ∗ FlyW A c t.val (dxW t.val ρ.O σ.dx) ρ.O 1 0) -∗ Q ⟨⟩)
        -∗ WP c (k0_part56 (F := F) A.a0 A.h0 A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.a19 A.a20 v2 t x0 x1 x2 (x3) x4 x5 x6 x7 la lb v411 v415 v419 v423 v427 v428) Q) := by
  rw [k0_part56_eq_skeleton]
  unfold k0_part56_skel
  dsimp only
  have ht : t.val < 196 := lt_of_lt_of_eq t.isLt trips3
  iintro ⟨HR, HRS, HM, HMC, HA, HB, HW, HWS⟩ Hk
  unfold Rd Mk Wr
  icases HR with ⟨H2, H11, H3, H12⟩
  icases HM with ⟨H4, H13⟩
  icases HW with ⟨H8, H14⟩
  iapply (WP_seq c)
  iapply (wp_t4 A c v2 la lb t _ _ _ _ _ _ _ _ v411 v415 v419 v423 v427 v428 (TM := out RK (28 + min (t.val + 1 - 84) 28) (28 + min (t.val - 56) 28)) (TD := out RX (t.val + 28 + 1) (min (t.val + 28 + 3) 224)) (TX := out RX (t.val + 28 + 1) (min (t.val + 28 + 3) 224)) (TO := out RY (t.val - 1) t.val) σ
    (fun q => rM_sub fun t' h1 h2 => by omega) (fun q j => rT_sub fun t' h1 h2 => by omega) (fun q j => rT_sub fun t' h1 h2 => by omega)
    (fun q j => rT_sub fun t' h1 h2 => by omega) (fun q j => rT_sub fun t' h1 h2 => by omega) (fun q j => rO_sub fun t' h1 h2 => by omega)) $$ [H13 H12 H11 HA HB H14]
  · isplitl [H13]; · iexact H13
    isplitl [H12]; · iexact H12
    isplitl [H11]; · iexact H11
    isplitl [HA]; · iexact HA
    isplitl [HB]; · iexact HB
    iexact H14
  iintro ⟨H13, H12, H11, HA, HB, H14⟩
  generalize hρ : outRedN ⟨v411, v415, v419, v423, v427, k0_pay281 v428⟩ v2 la lb t.val σ 7 = ρ
  iapply (wp_dite2 c _ _ _ iprop((own c A.a2 (out RH (t.val + 28 + 1) (min (t.val + 28 + 3) 224)) I.x ∗ own c A.a11 (out RX (t.val + 28 + 1) (min (t.val + 28 + 3) 224)) ρ.X ∗ own c A.a3 (out RH (t.val + 28 + 1) (min (t.val + 28 + 3) 224)) I.y ∗ own c A.a12 (out RX (t.val + 28 + 1) (min (t.val + 28 + 3) 224)) ρ.D) ∗ semVal ((c : Thread nD τ), .dma (rsem A (t.val + 28))) 0)
    iprop((own c A.a2 (out RH (t.val + 28 + 1) (min (t.val + 28 + 1 + 3) 224)) I.x ∗ own c A.a11 (out RX (t.val + 28 + 1) (min (t.val + 28 + 1 + 3) 224)) ρ.X ∗ own c A.a3 (out RH (t.val + 28 + 1) (min (t.val + 28 + 1 + 3) 224)) I.y ∗ own c A.a12 (out RX (t.val + 28 + 1) (min (t.val + 28 + 1 + 3) 224)) ρ.D) ∗ rcell A I c (t.val + 28 + 3)) ?_ ?_) $$ [H2 H11 H3 H12 HRS]
  · intro h4
    rw [rsem_congr A (show (t.val + 28) % 3 = (t.val + 28 + 3) % 3 by omega)]
    have h := (cond4_eq t).mp h4
    rw [rcell, if_pos (by omega), show min (t.val + 28 + 3) 224 = t.val + 28 + 3 by omega, show min (t.val + 28 + 1 + 3) 224 = t.val + 28 + 3 + 1 by omega]
    iintro ⟨⟨H2, H11, H3, H12⟩, HRS⟩
    iapply (wp_readX A I c (a := t.val + 28 + 1) (t := t.val + 28 + 3) (by omega) (by omega) ρ.X ρ.D _ _ _ _ _ _ (off38_eq t h4) (off39_eq t h4) (off40_eq t h4)) $$ [H2 H11 HRS]
    · isplitl [H2]; · iexact H2
      isplitl [H11]; · iexact H11
      iexact HRS
    iintro ⟨H2, H11, HF⟩
    iapply (wp_readD A I c (a := t.val + 28 + 1) (t := t.val + 28 + 3) (by omega) (by omega) ρ.X ρ.D _ _ _ _ _ _ (off38_eq t h4) (off39_eq t h4) (off40_eq t h4)) $$ [H3 H12 HF]
    · isplitl [H3]; · iexact H3
      isplitl [H12]; · iexact H12
      iexact HF
    iintro ⟨H3, H12, HF⟩
    isplitr [HF]
    · isplitl [H2]; · iexact H2
      isplitl [H11]; · iexact H11
      isplitl [H3]; · iexact H3
      iexact H12
    iexact HF
  · intro h4
    rw [rsem_congr A (show (t.val + 28) % 3 = (t.val + 28 + 3) % 3 by omega)]
    have h := mt (cond4_eq t).mpr h4
    rw [rcell, if_neg (by omega), show min (t.val + 28 + 1 + 3) 224 = min (t.val + 28 + 3) 224 by omega]
  · isplitr [HRS]
    · isplitl [H2]; · iexact H2
      isplitl [H11]; · iexact H11
      isplitl [H3]; · iexact H3
      iexact H12
    iexact HRS
  iintro ⟨HR, HRC⟩
  iapply (wp_dite1 c _ _ iprop(Mk A I c (28 + min (t.val + 1 - 84) 28) (28 + min (t.val - 56) 28) ρ.M ∗ MC A I c 28 (28 + min (t.val + 1 - 84) 28) (28 + min (t.val - 56) 28))
    iprop(Mk A I c (28 + min (t.val + 1 - 84) 28) (28 + min (t.val + 1 - 56) 28) ρ.M ∗ MC A I c 28 (28 + min (t.val + 1 - 84) 28) (28 + min (t.val + 1 - 56) 28)) ?_ ?_) $$ [H4 H13 HMC]
  · intro h5
    have h := (cond5_eq t).mp h5
    rw [show 28 + min (t.val - 56) 28 = t.val - 28 by omega, show 28 + min (t.val + 1 - 56) 28 = t.val - 28 + 1 by omega]
    iintro ⟨HM, HMC⟩
    ihave HMC' := (MC_issue A I c (a := (28 + min (t.val + 1 - 84) 28)) (b := t.val - 28) (by omega) (by omega) (by omega)) $$ HMC
    icases HMC' with ⟨HMS, HMC⟩
    iapply (wp_readM A I c (a := (28 + min (t.val + 1 - 84) 28)) (m := t.val - 28) (by omega) (by omega) ρ.M _ _ _ _ _ _ (off41_eq t h5) (off42_eq t h5) (off43_eq t h5)) $$ [HM HMS]
    · isplitl [HM]; · iexact HM
      iexact HMS
    iintro ⟨HM, HF2⟩
    ihave HMC := HMC $$ HF2
    isplitl [HM]; · iexact HM
    iexact HMC
  · intro h5
    have h := mt (cond5_eq t).mpr h5
    rw [show 28 + min (t.val + 1 - 56) 28 = 28 + min (t.val - 56) 28 by omega]
  · unfold Mk
    isplitr [HMC]
    · isplitl [H4]; · iexact H4
      iexact H13
    iexact HMC
  unfold Mk
  iintro ⟨HM, HMC⟩
  ihave HW := (wr_split A c (a := t.val - 1) (t := t.val) (by omega) (by omega) σ.dx ρ.O) $$ [H8 H14]
  · unfold Wr
    isplitl [H8]; · iexact H8
    iexact H14
  unfold Wr
  icases HW with ⟨⟨H80, H140⟩, ⟨H81, H141⟩, HW⟩
  imod (fly_start c (wsem A t.val) (NW A) (DW A c t.val (dxW t.val ρ.O σ.dx) ρ.O)) $$ HWS with HWF
  iapply (WP_seq c)
  iapply (wp_write A c t.val 0 σ.dx ρ.O _ _ _ _ _ _ (off44_eq t) (off46_eq t) (off45_eq t 0)) $$ [H80 H140 HWF]
  · isplitl [H80]; · iexact H80
    isplitl [H140]; · iexact H140
    iexact HWF
  iintro HWF
  iapply (WP_pure c)
  iapply Hk $$ %ρ %rfl
  isplitl [HR]; · iexact HR
  isplitl [HRC]; · iexact HRC
  isplitl [HM]; · iexact HM
  isplitl [HMC]; · iexact HMC
  isplitl [HA]; · iexact HA
  isplitl [HB]; · iexact HB
  isplitl [HW]; · iexact HW
  isplitl [H81]; · iexact H81
  isplitl [H141]; · iexact H141
  iexact HWF

end Cert.KernelIdeal.Hand

end
-- ==== Proof.IdealLoop3.lean ====
/-
  One step of the kernel's middle loop.
-/
module

public import proofs.«01_k».proof.Proof.IdealBody3

@[expose] public section

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

variable (A : Args) (I : Ins F) (c : Dev nD)

theorem grpO_out (a b e : FVec F S32x128 .f32) (D : BufD F) (X : BufX F) (t o u j : ℕ) (O : BufO F) (n : ℕ) {i : S2x2x1792x128.Idx} (h : i ∉ RY o) :
    grpO a b e D X t o u j O n i = O i := by
  induction n with
  | zero => rfl
  | succ n ih =>
    refine (upd_of_not_mem (rO o (8 * u + n) j) _ _ ?_).trans ih
    intro hi
    have h1 := mem_rO.mp hi
    apply h
    simp only [Finset.mem_union, mem_rY]
    omega

attribute [local irreducible] grpD grpO grpS1 grpS2

theorem outSt_O (k : Co F) (t u : ℕ) (σ : St F) {i : S2x2x1792x128.Idx} (h : i ∉ RY t) : (outSt k t u σ).O i = σ.O i := by
  rw [outSt]
  dsimp only
  rw [grpO_out _ _ _ _ _ _ _ _ _ _ _ h, grpO_out _ _ _ _ _ _ _ _ _ _ _ h]

theorem outRedN_O (k : Co F) (v2 la lb : IVec S8x128 32) (t : ℕ) (σ : St F) (n : ℕ) {i : S2x2x1792x128.Idx} (h : i ∉ RY t) :
    (outRedN k v2 la lb t σ n).O i = σ.O i := by
  induction n with
  | zero => rfl
  | succ n ih => exact (outSt_O k t n (outRedN k v2 la lb t σ n) h).trans ih
theorem outN_O (k : Co F) (t : ℕ) (σ : St F) (n : ℕ) {i : S2x2x1792x128.Idx} (h : i ∉ RY t) : (outN k t σ n).O i = σ.O i := by
  induction n with
  | zero => rfl
  | succ n ih => exact (outSt_O k t n (outN k t σ n) h).trans ih
theorem outRedN_cf (k : Co F) (v2 la lb : IVec S8x128 32) (t : ℕ) (σ : St F) (n : ℕ) : (outRedN k v2 la lb t σ n).cf = σ.cf := by
  induction n with
  | zero => rfl
  | succ n ih => exact ih
theorem outRedN_dg (k : Co F) (v2 la lb : IVec S8x128 32) (t : ℕ) (σ : St F) (n : ℕ) : (outRedN k v2 la lb t σ n).dg = σ.dg := by
  induction n with
  | zero => rfl
  | succ n ih => exact ih
theorem outRedN_db (k : Co F) (v2 la lb : IVec S8x128 32) (t : ℕ) (σ : St F) (n : ℕ) : (outRedN k v2 la lb t σ n).db = σ.db := by
  induction n with
  | zero => rfl
  | succ n ih => exact ih
theorem outRedN_dx (k : Co F) (v2 la lb : IVec S8x128 32) (t : ℕ) (σ : St F) (n : ℕ) : (outRedN k v2 la lb t σ n).dx = σ.dx := by
  induction n with
  | zero => rfl
  | succ n ih => exact ih
theorem mst_X (t : ℕ) (σ : St F) : (mst I t σ).X = σ.X := by unfold mst; split <;> rfl
theorem mst_D (t : ℕ) (σ : St F) : (mst I t σ).D = σ.D := by unfold mst; split <;> rfl
theorem mst_cf (t : ℕ) (σ : St F) : (mst I t σ).cf = σ.cf := by unfold mst; split <;> rfl
theorem mst_dg (t : ℕ) (σ : St F) : (mst I t σ).dg = σ.dg := by unfold mst; split <;> rfl
theorem mst_db (t : ℕ) (σ : St F) : (mst I t σ).db = σ.db := by unfold mst; split <;> rfl
theorem mst_dx (t : ℕ) (σ : St F) : (mst I t σ).dx = σ.dx := by unfold mst; split <;> rfl
theorem mst_O (t : ℕ) (σ : St F) : (mst I t σ).O = σ.O := by unfold mst; split <;> rfl
theorem mst_s1 (t : ℕ) (σ : St F) : (mst I t σ).s1 = σ.s1 := by unfold mst; split <;> rfl
theorem mst_s2 (t : ℕ) (σ : St F) : (mst I t σ).s2 = σ.s2 := by unfold mst; split <;> rfl

/-- The result of step `t` in the buffer, and the sums of step `t + 28`. -/
def mid3 (v2 v4 : IVec S8x128 32) (t : ℕ) (σ : St F) : St F :=
  outRedN (co3 σ.cf) v2 (k0_pay274 v4 (cnOf t)) (k0_pay275 v4 (cnOf t)) t (mst I t (waitSt I (t + 28) σ)) 7
/-- The result of step `t` written. -/
def wr3 (v2 v4 : IVec S8x128 32) (t : ℕ) (σ : St F) : St F :=
  { mid3 I v2 v4 t σ with dx := dxW t (mid3 I v2 v4 t σ).O σ.dx }
/-- One step of the middle loop. -/
def step3 (v2 v4 : IVec S8x128 32) (t : ℕ) (σ : St F) : St F :=
  if t % 28 = 27 then fin I (t / 28 + 1) (wr3 I v2 v4 t σ) else wr3 I v2 v4 t σ

/-- The state before step `t` of the middle loop. -/
def J3 (t : ℕ) (σ : St F) : sProp 𝕄 :=
  iprop(J A I c (t + 28) 28 (28 + min (t - 84) 28) (28 + min (t - 56) 28) σ ∗ Wr A c (t - 2) t σ.dx σ.O ∗ WC A c t σ.dx σ.O ∗ WC A c (t + 1) σ.dx σ.O
    ∗ own c A.a17 Finset.univ σ.cf ∗ own c A.a9 Finset.univ σ.dg ∗ own c A.a10 Finset.univ σ.db ∗ Inp A I c)

set_option maxHeartbeats 1000000 in
theorem wp_t3body (v2 v4 : IVec S8x128 32) (z0 : Elt F .f32) (z1 z2 z3 z4 : FVec F S1x128 .f32) (t : Fin k0_t3_loop.trips) (σ : St F) :
    J3 A I c t.val σ
      ⊢ WP c (k0_t3_body (F := F) A.a0 A.h0 A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.a19 A.a20 v2 v4 z0 z1 z2 z3 z4 t ()) (fun _ => J3 A I c (t.val + 1) (step3 I v2 v4 t.val σ)) := by
  have ht : t.val < 196 := lt_of_lt_of_eq t.isLt trips3
  unfold k0_t3_body J3 J
  dsimp only
  rw [show t.val + 1 + 28 = t.val + 28 + 1 by omega, show t.val + 1 - 2 = t.val - 1 by omega]
  iintro ⟨⟨HO, HR, HC0, HC1, HC2, HM, HMC, HA, HB⟩, HW, HWC, HWD, HK, HG, HE, HI⟩
  ihave HF := (show rcell A I c (t.val + 28) ⊢ FlyR A I c (t.val + 28) 2 0 from by rw [rcell, if_pos (by omega)]) $$ HC0
  iapply (WP_seq c)
  iapply (wp_part53 A c t)
  iintro %x0 %x1 %x2 %x3 %x4 %x5 %x6 %x7 %x8
  dsimp only
  iapply (WP_seq c)
  iapply (wp_part54 A I c t _ _ _ _ _ (b := min (t.val + 28 + 3) 224) (by omega) (by omega) σ.X σ.D) $$ [HO HR HF]
  · isplitl [HO]; · iexact HO
    isplitl [HR]; · iexact HR
    iexact HF
  iintro %y0 %y1 ⟨HR, HS, HO⟩
  dsimp only
  iapply (WP_seq c)
  iapply (wp_part55 A I c v4 t _ _ _ _ _ (waitSt I (t.val + 28) σ)) $$ [HO HM HMC HW HWC HK]
  · isplitl [HO]; · iexact HO
    isplitl [HM]; · iexact HM
    isplitl [HMC]; · iexact HMC
    isplitl [HW]; · iexact HW
    isplitl [HWC]; · iexact HWC
    iexact HK
  iintro ⟨HO, HM, HMC, HW, HWS, HK⟩
  dsimp only
  iapply (WP_seq c)
  iapply (wp_part56 A I c v2 _ _ t _ _ _ _ _ _ _ _ _ _ _ _ _ _ (mst I t.val (waitSt I (t.val + 28) σ))) $$ [HR HS HM HMC HA HB HW HWS]
  · isplitl [HR]
    · rw [mst_X, mst_D]; iexact HR
    isplitl [HS]; · iexact HS
    isplitl [HM]; · iexact HM
    isplitl [HMC]; · iexact HMC
    isplitl [HA]
    · rw [mst_s1]; iexact HA
    isplitl [HB]
    · rw [mst_s2]; iexact HB
    isplitl [HW]
    · rw [mst_dx, mst_O]; iexact HW
    iexact HWS
  iintro %ρ %hρ ⟨HR, HRC, HM, HMC, HA, HB, HW, H8, H14, HWF⟩
  have hm : ρ = mid3 I v2 v4 t.val σ := hρ
  have hcf : ρ.cf = σ.cf := by rw [hm, mid3, outRedN_cf, mst_cf]; rfl
  have hdg : ρ.dg = σ.dg := by rw [hm, mid3, outRedN_dg, mst_dg]; rfl
  have hdb : ρ.db = σ.db := by rw [hm, mid3, outRedN_db, mst_db]; rfl
  have hdx : (mst I t.val (waitSt I (t.val + 28) σ)).dx = σ.dx := by rw [mst_dx]; rfl
  have hO : ∀ i ∉ RY t.val, ρ.O i = σ.O i := fun i hi => by rw [hm, mid3, outRedN_O _ _ _ _ _ _ _ hi, mst_O]; rfl
  rw [hdx]
  have hs : step3 I v2 v4 t.val σ = if t.val % 28 = 27 then fin I (t.val / 28 + 1) { ρ with dx := dxW t.val ρ.O σ.dx } else { ρ with dx := dxW t.val ρ.O σ.dx } := by
    rw [hm]; rfl
  rw [hs]
  clear hs hm
  clear hρ
  iapply (WP_seq c)
  iapply (wp_write A c t.val 1 σ.dx ρ.O _ _ _ _ _ _ (off44_eq t) (off47_eq t) (off45_eq t 1)) $$ [H8 H14 HWF]
  · isplitl [H8]; · iexact H8
    isplitl [H14]; · iexact H14
    iexact HWF
  iintro HWF
  ihave HWD' := (show WC A c (t.val + 1) σ.dx σ.O ⊢ WC A c (t.val + 1) (dxW t.val ρ.O σ.dx) ρ.O from by
    rw [WC_step A c σ.dx (dxW t.val ρ.O σ.dx) σ.O ρ.O (fun i hi => dxW_out _ _ hi) hO]) $$ HWD
  ihave HWF' := (show FlyW A c t.val (dxW t.val ρ.O σ.dx) ρ.O ((1 : Fin 2).val + 1) 0 ⊢ WC A c (t.val + 1 + 1) (dxW t.val ρ.O σ.dx) ρ.O from by
    rw [WC, if_pos (by omega)]; rfl) $$ HWF
  by_cases h6 : k0_cond6 t = 1#1
  · have h := (cond6_eq t).mp h6
    rw [dif_pos h6, if_pos h]
    iapply (WP_seq c)
    iapply (wp_part50 A I c t _ h6 ρ.s1 ρ.s2 σ.cf σ.dg σ.db) $$ [HI HA HB HK HG HE]
    · isplitl [HI]; · iexact HI
      unfold Fs
      isplitl [HA]; · iexact HA
      isplitl [HB]; · iexact HB
      isplitl [HK]; · iexact HK
      isplitl [HG]; · iexact HG
      iexact HE
    iintro ⟨HI, HF⟩
    dsimp only
    iapply (WP_seq c)
    iapply (wp_part51 A I c t _ h6 _ _ _ _ _ _ _ _ ρ.s1 ρ.s2 σ.cf _ _) $$ [HI HF]
    · isplitl [HI]; · iexact HI
      iexact HF
    iintro %y2 ⟨HI, HF⟩
    dsimp only
    iapply (WP_seq c)
    iapply (wp_part52 A I c t h6 _ _ _ _ _ _ ρ.s1 ρ.s2 _ _ _) $$ [HI HF]
    · isplitl [HI]; · iexact HI
      iexact HF
    iintro ⟨HI, HF⟩
    dsimp only
    unfold Fs
    icases HF with ⟨HA, HB, HK, HG, HE⟩
    iapply (WP_seq c)
    iapply (wp_stu c A.a17 _ ![4 % 6, 0, 0] _ _ (rC_inb 4) rfl _ _ _ _) $$ HK
    iintro HK
    iapply (WP_seq c)
    iapply (wp_ldu c A.a17 _ ![5 % 6, 0, 0] _ _ (rC_inb 5) rfl _ _) $$ HK
    iintro HK
    iapply (WP_seq c)
    iapply (wp_stu c A.a17 _ ![5 % 6, 0, 0] _ _ (rC_inb 5) rfl _ _ _ _) $$ HK
    iintro HK
    iapply (WP_seq c)
    iapply (wp_ldu c A.a15 _ ![0, 0, 0] _ _ inb_S2x8x128_S2x8x128_0_0_0 rfl _ _) $$ HA
    iintro HA
    iapply (WP_seq c)
    iapply (wp_stu c A.a15 _ ![0, 0, 0] _ _ inb_S2x8x128_S2x8x128_0_0_0 rfl _ _ _ _) $$ HA
    iintro HA
    iapply (WP_seq c)
    iapply (wp_ldu c A.a16 _ ![0, 0, 0] _ _ inb_S2x8x128_S2x8x128_0_0_0 rfl _ _) $$ HB
    iintro HB
    iapply (WP_seq c)
    iapply (wp_stu c A.a16 _ ![0, 0, 0] _ _ inb_S2x8x128_S2x8x128_0_0_0 rfl _ _ _ _) $$ HB
    iintro HB
    dsimp only [fin]
    iapply (WP_pure c)
    isplitl [HO HR HC1 HC2 HRC HM HMC HA HB]
    · isplitl [HO]; · iexact HO
      isplitl [HR]; · iexact HR
      isplitl [HC1]; · iexact HC1
      isplitl [HC2]; · iexact HC2
      isplitl [HRC]; · iexact HRC
      isplitl [HM]; · iexact HM
      isplitl [HMC]; · iexact HMC
      isplitl [HA]; · iexact HA
      iexact HB
    isplitl [HW]; · iexact HW
    isplitl [HWD']; · iexact HWD'
    isplitl [HWF']; · iexact HWF'
    isplitl [HK]
    · dsimp only [finCf]; rw [hcf]; iexact HK
    isplitl [HG]
    · dsimp only [finDg]; rw [hdg]; iexact HG
    isplitl [HE]
    · dsimp only [finDb]; rw [hdb]; iexact HE
    iexact HI
  · have h := mt (cond6_eq t).mpr h6
    rw [dif_neg h6, if_neg h]
    iapply (WP_pure c)
    isplitl [HO HR HC1 HC2 HRC HM HMC HA HB]
    · isplitl [HO]; · iexact HO
      isplitl [HR]; · iexact HR
      isplitl [HC1]; · iexact HC1
      isplitl [HC2]; · iexact HC2
      isplitl [HRC]; · iexact HRC
      isplitl [HM]; · iexact HM
      isplitl [HMC]; · iexact HMC
      isplitl [HA]; · iexact HA
      iexact HB
    isplitl [HW]; · iexact HW
    isplitl [HWD']; · iexact HWD'
    isplitl [HWF']; · iexact HWF'
    isplitl [HK]
    · dsimp only; rw [hcf]; iexact HK
    isplitl [HG]
    · dsimp only; rw [hdg]; iexact HG
    isplitl [HE]
    · dsimp only; rw [hdb]; iexact HE
    iexact HI

end Cert.KernelIdeal.Hand

end
-- ==== Proof.IdealLoop5.lean ====
/-
  One step of the kernel's last loop.
-/
module

public import proofs.«01_k».proof.Proof.IdealLoop3

@[expose] public section

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

variable (A : Args) (I : Ins F) (c : Dev nD)

attribute [local irreducible] grpD grpO grpS1 grpS2

theorem outN_cf (k : Co F) (t : ℕ) (σ : St F) (n : ℕ) : (outN k t σ n).cf = σ.cf := by
  induction n with
  | zero => rfl
  | succ n ih => exact ih
theorem outN_dg (k : Co F) (t : ℕ) (σ : St F) (n : ℕ) : (outN k t σ n).dg = σ.dg := by
  induction n with
  | zero => rfl
  | succ n ih => exact ih
theorem outN_db (k : Co F) (t : ℕ) (σ : St F) (n : ℕ) : (outN k t σ n).db = σ.db := by
  induction n with
  | zero => rfl
  | succ n ih => exact ih
theorem outN_dx (k : Co F) (t : ℕ) (σ : St F) (n : ℕ) : (outN k t σ n).dx = σ.dx := by
  induction n with
  | zero => rfl
  | succ n ih => exact ih
theorem outN_D (k : Co F) (t : ℕ) (σ : St F) (n : ℕ) : (outN k t σ n).D = σ.D := by
  induction n with
  | zero => rfl
  | succ n ih => exact ih
theorem outN_X (k : Co F) (t : ℕ) (σ : St F) (n : ℕ) : (outN k t σ n).X = σ.X := by
  induction n with
  | zero => rfl
  | succ n ih => exact ih

/-- The coefficients a step of the last loop reads. -/
def co5 (cf : S6x8x128.Idx → Elt F .f32) : Co F :=
  ⟨k0_pay305 (at' (rC1 0) cf), k0_pay306 (at' (rC1 1) cf), k0_pay307 (at' (rC1 2) cf), k0_pay308 (at' (rC1 3) cf), k0_pay309 (at' (rC1 4) cf), k0_pay310 (at' (rC1 5) cf)⟩

/-- One step of the last loop; `t` counts from the first result step of the kernel. -/
def step5 (t : ℕ) (σ : St F) : St F :=
  { outN (co5 σ.cf) t σ 7 with dx := dxW t (outN (co5 σ.cf) t σ 7).O σ.dx }

/-- The state before step `t` of the last loop; `t` counts from the first result step of the kernel. -/
def J5 (t : ℕ) (σ : St F) : sProp 𝕄 :=
  iprop(owing (F := F) c ∗ own c A.a12 Finset.univ σ.D ∗ own c A.a11 Finset.univ σ.X ∗ Wr A c (t - 2) t σ.dx σ.O ∗ FlyW A c (t - 2) σ.dx σ.O 2 0
    ∗ FlyW A c (t - 1) σ.dx σ.O 2 0 ∗ own c A.a17 Finset.univ σ.cf)

set_option maxHeartbeats 1000000 in
theorem wp_part64 (z o : BitVec 32) (t : Fin k0_t5_loop.trips) (σ : St F) {Q} :
    iprop(owing (F := F) c ∗ Wr A c (t.val + 196 - 2) (t.val + 196) σ.dx σ.O ∗ FlyW A c (t.val + 196 - 2) σ.dx σ.O 2 0 ∗ own c A.a17 Finset.univ σ.cf)
      ⊢ iprop((∀ x0 x1 x2, iprop(owing (F := F) c ∗ Wr A c (t.val + 196 - 1) (t.val + 196) σ.dx σ.O ∗ semVal ((c : Thread nD τ), .dma (wsem A (t.val + 196))) 0 ∗ own c A.a17 Finset.univ σ.cf) -∗
          Q ⟨x0, x1, x2, (co5 σ.cf).a, (co5 σ.cf).b, (co5 σ.cf).e⟩)
        -∗ WP c (k0_part64 (F := F) A.a0 A.h0 A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.a19 A.a20 z o t) Q) := by
  rw [k0_part64_eq_skeleton]
  unfold k0_part64_skel
  dsimp only [co5]
  have hs : k0_off49 t = ![(t.val + 196 - 2) % 2] := (off49_eq t).trans (by rw [show (t.val + 196) % 2 = (t.val + 196 - 2) % 2 by omega])
  rw [show t.val + 196 - 1 = t.val + 196 - 2 + 1 by omega, wsem_congr A (show (t.val + 196) % 2 = (t.val + 196 - 2) % 2 by omega)]
  iintro ⟨HO, HW, HC, HK⟩ Hk
  iapply (WP_seq c)
  iapply (wp_waitW0 A c (t.val + 196 - 2) σ.dx σ.O _ _ _ _ _ _ hs) $$ [HC HO]
  · isplitl [HC]; · iexact HC
    iexact HO
  iintro ⟨HC, HO⟩
  iapply (WP_seq c)
  iapply (wp_waitW1 A c (a := t.val + 196 - 2) (b := t.val + 196) (by omega) (by omega) σ.dx σ.O _ _ _ _ _ _ hs) $$ [HC HO HW]
  · isplitl [HC]; · iexact HC
    isplitl [HO]; · iexact HO
    iexact HW
  iintro ⟨HW, HC, HO⟩
  iapply (WP_seq c)
  iapply (wp_ldu c A.a17 _ ![0 % 6, 0, 0] _ _ (rC1_inb 0) rfl _ σ.cf) $$ HK
  iintro HK
  iapply (WP_seq c)
  iapply (wp_ldu c A.a17 _ ![1 % 6, 0, 0] _ _ (rC1_inb 1) rfl _ σ.cf) $$ HK
  iintro HK
  iapply (WP_seq c)
  iapply (wp_ldu c A.a17 _ ![2 % 6, 0, 0] _ _ (rC1_inb 2) rfl _ σ.cf) $$ HK
  iintro HK
  iapply (WP_pure c)
  iapply Hk
  isplitl [HO]; · iexact HO
  isplitl [HW]; · iexact HW
  isplitl [HC]; · iexact HC
  iexact HK

set_option maxHeartbeats 1000000 in
theorem wp_t5body (v2 v4 : IVec S8x128 32) (z0 : Elt F .f32) (z1 z2 z3 z4 : FVec F S1x128 .f32) (t : Fin k0_t5_loop.trips) (σ : St F) :
    J5 A c (t.val + 196) σ
      ⊢ WP c (k0_t5_body (F := F) A.a0 A.h0 A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.a19 A.a20 v2 v4 z0 z1 z2 z3 z4 t ()) (fun _ => J5 A c (t.val + 1 + 196) (step5 (t.val + 196) σ)) := by
  have ht : t.val < 28 := lt_of_lt_of_eq t.isLt trips5
  unfold k0_t5_body
  rw [k0_part65_eq_skeleton]
  unfold k0_part65_skel J5
  dsimp only
  rw [show t.val + 1 + 196 - 2 = t.val + 196 - 1 by omega, show t.val + 1 + 196 - 1 = t.val + 196 by omega, show t.val + 1 + 196 = t.val + 196 + 1 by omega]
  iintro ⟨HO, HD, HX, HW, HC, HC1, HK⟩
  iapply (WP_seq c)
  iapply (WP_seq c)
  iapply (wp_part64 A c _ _ t σ) $$ [HO HW HC HK]
  · isplitl [HO]; · iexact HO
    isplitl [HW]; · iexact HW
    isplitl [HC]; · iexact HC
    iexact HK
  iintro %x0 %x1 %x2 ⟨HO, HW, HS, HK⟩
  dsimp only
  iapply (WP_seq c)
  iapply (wp_ldu c A.a17 _ ![3 % 6, 0, 0] _ _ (rC1_inb 3) rfl _ σ.cf) $$ HK
  iintro HK
  iapply (WP_seq c)
  iapply (wp_ldu c A.a17 _ ![4 % 6, 0, 0] _ _ (rC1_inb 4) rfl _ σ.cf) $$ HK
  iintro HK
  iapply (WP_seq c)
  iapply (wp_ldu c A.a17 _ ![5 % 6, 0, 0] _ _ (rC1_inb 5) rfl _ σ.cf) $$ HK
  iintro HK
  unfold Wr
  icases HW with ⟨H8, H14⟩
  iapply (WP_seq c)
  iapply (wp_t6 A c _ _ t _ _ (co5 σ.cf).a (co5 σ.cf).b (co5 σ.cf).e _ _ _ (TD := Finset.univ) (TX := Finset.univ) (TO := out RY (t.val + 196 - 1) (t.val + 196)) σ
    (fun q j => Finset.subset_univ _) (fun q j => Finset.subset_univ _) (fun q j => rO_sub fun t' h1 h2 => by omega)) $$ [HD HX H14]
  · isplitl [HD]; · iexact HD
    isplitl [HX]; · iexact HX
    iexact H14
  iintro ⟨HD, HX, H14⟩
  have hO : ∀ i ∉ RY (t.val + 196), (outN (co5 σ.cf) (t.val + 196) σ 7).O i = σ.O i := fun i hi => outN_O _ _ _ _ hi
  have hcf : (outN (co5 σ.cf) (t.val + 196) σ 7).cf = σ.cf := outN_cf _ _ _ _
  have hs : step5 (t.val + 196) σ = { outN (co5 σ.cf) (t.val + 196) σ 7 with dx := dxW (t.val + 196) (outN (co5 σ.cf) (t.val + 196) σ 7).O σ.dx } := rfl
  rw [hs]
  clear hs
  have hρ : outN ⟨(co5 σ.cf).a, (co5 σ.cf).b, (co5 σ.cf).e, k0_pay308 (at' (rC1 3) σ.cf), k0_pay309 (at' (rC1 4) σ.cf), k0_pay310 (at' (rC1 5) σ.cf)⟩ (t.val + 196) σ 7 = outN (co5 σ.cf) (t.val + 196) σ 7 := rfl
  rw [hρ]
  clear hρ
  generalize outN (co5 σ.cf) (t.val + 196) σ 7 = ρ at hO hcf ⊢
  ihave HW := (wr_split A c (a := t.val + 196 - 1) (t := t.val + 196) (by omega) (by omega) σ.dx ρ.O) $$ [H8 H14]
  · unfold Wr
    isplitl [H8]; · iexact H8
    iexact H14
  unfold Wr
  icases HW with ⟨⟨H80, H140⟩, ⟨H81, H141⟩, HW⟩
  imod (fly_start c (wsem A (t.val + 196)) (NW A) (DW A c (t.val + 196) (dxW (t.val + 196) ρ.O σ.dx) ρ.O)) $$ HS with HWF
  iapply (WP_seq c)
  iapply (wp_write A c (t.val + 196) 0 σ.dx ρ.O _ _ _ _ _ _ (off49_eq t) (off51_eq t) (off50_eq t 0)) $$ [H80 H140 HWF]
  · isplitl [H80]; · iexact H80
    isplitl [H140]; · iexact H140
    iexact HWF
  iintro HWF
  iapply (WP_seq c)
  iapply (wp_write A c (t.val + 196) 1 σ.dx ρ.O _ _ _ _ _ _ (off49_eq t) (off52_eq t) (off50_eq t 1)) $$ [H81 H141 HWF]
  · isplitl [H81]; · iexact H81
    isplitl [H141]; · iexact H141
    iexact HWF
  iintro HWF
  ihave HC1' := (show FlyW A c (t.val + 196 - 1) σ.dx σ.O 2 0 ⊢ FlyW A c (t.val + 196 - 1) (dxW (t.val + 196) ρ.O σ.dx) ρ.O 2 0 from by
    unfold FlyW
    rw [DW_congr A c (fun i hi => (dxW_out (t := t.val + 196) ρ.O σ.dx ?_).symm) (fun i hi => (hO i ?_).symm)]
    · exact fun h => Finset.disjoint_left.mp (disj_RW (t := t.val + 196 - 1) (t' := t.val + 196) (by omega)) hi h
    · exact fun h => Finset.disjoint_left.mp (disj_RY (t := t.val + 196 - 1) (t' := t.val + 196) (by omega)) hi h) $$ HC1
  iapply (WP_pure c)
  iapply (WP_pure c)
  dsimp only
  isplitl [HO]; · iexact HO
  isplitl [HD]; · iexact HD
  isplitl [HX]; · iexact HX
  isplitl [HW]; · iexact HW
  isplitl [HC1']; · iexact HC1'
  isplitl [HWF]; · iexact HWF
  rw [hcf]
  iexact HK

end Cert.KernelIdeal.Hand

end
-- ==== Proof.IdealPays.lean ====
/-
  The two spellings of the kernel's block end are the same arithmetic.
-/
module

public import proofs.«01_k».proof.Proof.IdealFinal

@[expose] public section

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

variable (A : Args) (I : Ins F) (c : Dev nD)

theorem pz1 : (k0_pay314 : FVec F S2x8x128 .f32) = k0_pay339 := rfl
theorem pz2 : (k0_pay315 : FVec F S2x8x128 .f32) = k0_pay340 := rfl
theorem pz3 : (k0_pay335 : FVec F S2x8x128 .f32) = k0_pay339 := rfl
theorem pz4 : (k0_pay336 : FVec F S2x8x128 .f32) = k0_pay340 := rfl
theorem pf1 : @k0_pay319 F _ = k0_pay256 := rfl
theorem pf2 : @k0_pay320 F _ = k0_pay257 := rfl
theorem pf3 (ys : Elt F .f32) (r g : FVec F S1x128 .f32) : k0_pay323 ys (k0_pay317 r) (k0_pay318 g) = k0_pay262 ys (k0_pay258 r g) := rfl
theorem pf4 (xs : Elt F .f32) (r g d : FVec F S1x128 .f32) : k0_pay324 xs (k0_pay317 r) (k0_pay318 g) d = k0_pay263 xs d (k0_pay259 r g) k0_pay260 := rfl
theorem pf5 (m b r g d : FVec F S1x128 .f32) : k0_pay325 (k0_pay316 m) (k0_pay317 r) (k0_pay318 g) b d = k0_pay264 (k0_pay254 m) b d (k0_pay258 r g) (k0_pay259 r g) k0_pay260 := rfl
theorem pf6 : @k0_pay328 F _ = k0_pay268 := rfl
theorem pf7 (xs ys : Elt F .f32) (m r : FVec F S1x128 .f32) (a b : FVec F S1x8x128 .f32) : k0_pay329 xs ys (k0_pay326 m) r a b = k0_pay269 xs ys (k0_pay265 m) (k0_pay266 r) a b := rfl
theorem pf8 (ys : Elt F .f32) (r g : FVec F S1x128 .f32) : k0_pay332 ys r g = k0_pay272 ys (k0_pay266 r) (k0_pay267 g) := rfl
theorem pf9 (xs ys : Elt F .f32) (m r g : FVec F S1x128 .f32) (a b : FVec F S1x8x128 .f32) :
    k0_pay333 xs (k0_pay331 xs ys (k0_pay326 m) r g a b) = k0_pay337 (k0_pay273 xs ys (k0_pay265 m) (k0_pay266 r) (k0_pay267 g) a b) := rfl
theorem pf10 (xs ys : Elt F .f32) (m r g : FVec F S1x128 .f32) (a b : FVec F S1x8x128 .f32) :
    k0_pay334 (k0_pay326 m) (k0_pay328 ys a) (k0_pay330 r g) (k0_pay331 xs ys (k0_pay326 m) r g a b)
      = k0_pay338 (k0_pay265 m) (k0_pay268 ys a) (k0_pay270 (k0_pay266 r) (k0_pay267 g)) (k0_pay271 xs ys (k0_pay265 m) (k0_pay266 r) (k0_pay267 g) a b) := rfl

end Cert.KernelIdeal.Hand

end
-- ==== Proof.IdealPrologue.lean ====
/-
  The kernel's start, and its three outer loops.
-/
module

public import proofs.«01_k».proof.Proof.IdealLoop5
public import proofs.«01_k».proof.Proof.IdealPays

@[expose] public section

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

variable (A : Args) (I : Ins F) (c : Dev nD)

attribute [local irreducible] grpD grpO grpS1 grpS2

theorem wp_part66 (s1 s2 : BufS F) {Q} :
    iprop(own c A.a15 Finset.univ s1 ∗ own c A.a16 Finset.univ s2)
      ⊢ iprop((∀ x0 x1 x2, iprop(own c A.a15 Finset.univ (upd rSA k0_pay339 s1) ∗ own c A.a16 Finset.univ (upd rSA k0_pay340 s2)) -∗ Q ⟨k0_pay312, k0_pay313, x0, x1, x2⟩)
        -∗ WP c (k0_part66 (F := F) A.a0 A.h0 A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.a19 A.a20) Q) := by
  rw [k0_part66_eq_skeleton]
  unfold k0_part66_skel
  dsimp only
  rw [← pz1, ← pz2]
  iintro ⟨HA, HB⟩ Hk
  iapply (WP_seq c)
  iapply (wp_ldu c A.a15 _ ![0, 0, 0] _ _ inb_S2x8x128_S2x8x128_0_0_0 rfl _ _) $$ HA
  iintro HA
  iapply (WP_seq c)
  iapply (wp_stu c A.a15 _ ![0, 0, 0] _ _ inb_S2x8x128_S2x8x128_0_0_0 rfl _ _ _ _) $$ HA
  iintro HA
  iapply (WP_seq c)
  iapply (wp_ldu c A.a16 _ ![0, 0, 0] _ _ inb_S2x8x128_S2x8x128_0_0_0 rfl _ _) $$ HB
  iintro HB
  iapply (WP_seq c)
  iapply (wp_stu c A.a16 _ ![0, 0, 0] _ _ inb_S2x8x128_S2x8x128_0_0_0 rfl _ _ _ _) $$ HB
  iintro HB
  iapply (WP_pure c)
  iapply Hk
  isplitl [HA]; · iexact HA
  iexact HB

theorem wp_part67 (x0 x1 x2 : BitVec 32) (X : BufX F) (D : BufD F) (M : BufM F) {Q} :
    iprop(Rd A I c 0 0 X D ∗ semVal ((c : Thread nD τ), .dma (rsem A 0)) 0 ∗ Mk A I c 0 0 M ∗ semVal ((c : Thread nD τ), .dma (msem A 0)) 0)
      ⊢ iprop((∀ y0 y1 y2, iprop(Rd A I c 0 (0 + 1) X D ∗ FlyR A I c 0 2 0 ∗ Mk A I c 0 (0 + 1) M ∗ FlyM A I c 0 1 0) -∗ Q ⟨y0, y1, y2⟩)
        -∗ WP c (k0_part67 (F := F) A.a0 A.h0 A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.a19 A.a20 x0 x1 x2) Q) := by
  rw [k0_part67_eq_skeleton]
  unfold k0_part67_skel Rd
  dsimp only
  iintro ⟨⟨H2, H11, H3, H12⟩, HS, HM, HMS⟩ Hk
  iapply (WP_seq c)
  iapply (wp_readX A I c (a := 0) (t := 0) (by omega) (by omega) X D _ _ _ _ _ _ (off1_eq 0) (off2_eq 0) (off3_eq 0)) $$ [H2 H11 HS]
  · isplitl [H2]; · iexact H2
    isplitl [H11]; · iexact H11
    iexact HS
  iintro ⟨H2, H11, HF⟩
  iapply (WP_seq c)
  iapply (wp_readD A I c (a := 0) (t := 0) (by omega) (by omega) X D _ _ _ _ _ _ (off1_eq 0) (off2_eq 0) (off3_eq 0)) $$ [H3 H12 HF]
  · isplitl [H3]; · iexact H3
    isplitl [H12]; · iexact H12
    iexact HF
  iintro ⟨H3, H12, HF⟩
  iapply (WP_seq c)
  iapply (wp_readM A I c (a := 0) (m := 0) (by omega) (by omega) M _ _ _ _ _ _ rfl rfl (off4_eq 0)) $$ [HM HMS]
  · isplitl [HM]; · iexact HM
    iexact HMS
  iintro ⟨HM, HG⟩
  iapply (WP_pure c)
  iapply Hk
  isplitl [H2 H11 H3 H12]
  · isplitl [H2]; · iexact H2
    isplitl [H11]; · iexact H11
    isplitl [H3]; · iexact H3
    iexact H12
  isplitl [HF]; · iexact HF
  isplitl [HM]; · iexact HM
  iexact HG

theorem wp_part68 (x0 : BitVec 32) (x1 : BitVec 1) (x2 : BitVec 32) (X : BufX F) (D : BufD F) (M : BufM F) {Q} :
    iprop(Rd A I c 0 1 X D ∗ semVal ((c : Thread nD τ), .dma (rsem A 1)) 0 ∗ Mk A I c 0 1 M ∗ semVal ((c : Thread nD τ), .dma (msem A 1)) 0)
      ⊢ iprop((∀ y0 y1 y2 y3 y4, iprop(Rd A I c 0 (1 + 1) X D ∗ FlyR A I c 1 2 0 ∗ Mk A I c 0 (1 + 1) M ∗ FlyM A I c 1 1 0) -∗ Q ⟨y0, y1, y2, y3, y4⟩)
        -∗ WP c (k0_part68 (F := F) A.a0 A.h0 A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.a19 A.a20 x0 x1 x2) Q) := by
  rw [k0_part68_eq_skeleton]
  unfold k0_part68_skel Rd
  dsimp only
  iintro ⟨⟨H2, H11, H3, H12⟩, HS, HM, HMS⟩ Hk
  iapply (WP_seq c)
  iapply (wp_readX A I c (a := 0) (t := 1) (by omega) (by omega) X D _ _ _ _ _ _ (off1_eq 1) (off2_eq 1) (off3_eq 1)) $$ [H2 H11 HS]
  · isplitl [H2]; · iexact H2
    isplitl [H11]; · iexact H11
    iexact HS
  iintro ⟨H2, H11, HF⟩
  iapply (WP_seq c)
  iapply (wp_readD A I c (a := 0) (t := 1) (by omega) (by omega) X D _ _ _ _ _ _ (off1_eq 1) (off2_eq 1) (off3_eq 1)) $$ [H3 H12 HF]
  · isplitl [H3]; · iexact H3
    isplitl [H12]; · iexact H12
    iexact HF
  iintro ⟨H3, H12, HF⟩
  iapply (WP_seq c)
  iapply (wp_readM A I c (a := 0) (m := 1) (by omega) (by omega) M _ _ _ _ _ _ rfl rfl (off4_eq 1)) $$ [HM HMS]
  · isplitl [HM]; · iexact HM
    iexact HMS
  iintro ⟨HM, HG⟩
  iapply (WP_pure c)
  iapply Hk
  isplitl [H2 H11 H3 H12]
  · isplitl [H2]; · iexact H2
    isplitl [H11]; · iexact H11
    isplitl [H3]; · iexact H3
    iexact H12
  isplitl [HF]; · iexact HF
  isplitl [HM]; · iexact HM
  iexact HG

theorem wp_part69 (x0 x1 x2 x3 x4 : BitVec 32) (X : BufX F) (D : BufD F) {Q : PUnit → sProp 𝕄} :
    iprop(Rd A I c 0 2 X D ∗ semVal ((c : Thread nD τ), .dma (rsem A 2)) 0)
      ⊢ iprop((iprop(Rd A I c 0 (2 + 1) X D ∗ FlyR A I c 2 2 0) -∗ Q ⟨⟩) -∗ WP c (k0_part69 (F := F) A.a0 A.h0 A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.a19 A.a20 x0 x1 x2 x3 x4) Q) := by
  rw [k0_part69_eq_skeleton]
  unfold k0_part69_skel Rd
  dsimp only
  iintro ⟨⟨H2, H11, H3, H12⟩, HS⟩ Hk
  iapply (WP_seq c)
  iapply (wp_readX A I c (a := 0) (t := 2) (by omega) (by omega) X D _ _ _ _ _ _ (off1_eq 2) (off2_eq 2) (off3_eq 2)) $$ [H2 H11 HS]
  · isplitl [H2]; · iexact H2
    isplitl [H11]; · iexact H11
    iexact HS
  iintro ⟨H2, H11, HF⟩
  iapply (WP_seq c)
  iapply (wp_readD A I c (a := 0) (t := 2) (by omega) (by omega) X D _ _ _ _ _ _ (off1_eq 2) (off2_eq 2) (off3_eq 2)) $$ [H3 H12 HF]
  · isplitl [H3]; · iexact H3
    isplitl [H12]; · iexact H12
    iexact HF
  iintro ⟨H3, H12, HF⟩
  iapply (WP_pure c)
  iapply Hk
  isplitl [H2 H11 H3 H12]
  · isplitl [H2]; · iexact H2
    isplitl [H11]; · iexact H11
    isplitl [H3]; · iexact H3
    iexact H12
  iexact HF

/-- The states of the first loop. -/
def it1 (v2 v4 : IVec S8x128 32) (σ : St F) : ℕ → St F
  | 0 => σ
  | n + 1 => step1 I v2 v4 n (it1 v2 v4 σ n)
/-- The states of the middle loop. -/
def it3 (v2 v4 : IVec S8x128 32) (σ : St F) : ℕ → St F
  | 0 => σ
  | n + 1 => step3 I v2 v4 n (it3 v2 v4 σ n)
/-- The states of the last loop. -/
def it5 (σ : St F) : ℕ → St F
  | 0 => σ
  | n + 1 => step5 (n + 196) (it5 σ n)

theorem wp_loop1 (v2 v4 : IVec S8x128 32) (σ : St F) {Q : Unit → sProp 𝕄} :
    J A I c 0 0 0 3 σ
      ⊢ iprop((J A I c 28 0 28 28 (it1 I v2 v4 σ 28) -∗ Q ⟨⟩) -∗ WP c (Scf.Loop.for k0_t1_loop k0_t1_ok ⟨⟩ (k0_t1_body (F := F) A.a0 A.h0 A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.a19 A.a20 v2 v4)) Q) := by
  iintro H Hk
  iapply (Scf.wp_for frame (wpE (defs₀ (F := F)) Variants.none (c : Thread nD τ) none) Set.univ _ _ _ k0_t1_ok () _
    (fun k _ => J A I c k 0 k (min (k + 3) 28) (it1 I v2 v4 σ k)) ?_)
  · intro t _
    exact wp_t1body A I c v2 v4 t (it1 I v2 v4 σ t.val)
  isplitl [H]; · iexact H
  iintro %_ H
  iapply Hk
  ihave H' := (show (J A I c k0_t1_loop.trips 0 k0_t1_loop.trips (min (k0_t1_loop.trips + 3) 28) (it1 I v2 v4 σ k0_t1_loop.trips)) ⊢ J A I c 28 0 28 28 (it1 I v2 v4 σ 28) from by
    rw [trips1]; exact .rfl) $$ H
  iexact H'

theorem wp_loop3 (v2 v4 : IVec S8x128 32) (z0 : Elt F .f32) (z1 z2 z3 z4 : FVec F S1x128 .f32) (σ : St F) {Q : Unit → sProp 𝕄} :
    J3 A I c 0 σ
      ⊢ iprop((J3 A I c 196 (it3 I v2 v4 σ 196) -∗ Q ⟨⟩) -∗ WP c (Scf.Loop.for k0_t3_loop k0_t3_ok ⟨⟩ (k0_t3_body (F := F) A.a0 A.h0 A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.a19 A.a20 v2 v4 z0 z1 z2 z3 z4)) Q) := by
  iintro H Hk
  iapply (Scf.wp_for frame (wpE (defs₀ (F := F)) Variants.none (c : Thread nD τ) none) Set.univ _ _ _ k0_t3_ok () _
    (fun k _ => J3 A I c k (it3 I v2 v4 σ k)) ?_)
  · intro t _
    exact wp_t3body A I c v2 v4 z0 z1 z2 z3 z4 t (it3 I v2 v4 σ t.val)
  isplitl [H]; · iexact H
  iintro %_ H
  iapply Hk
  ihave H' := (show J3 A I c k0_t3_loop.trips (it3 I v2 v4 σ k0_t3_loop.trips) ⊢ J3 A I c 196 (it3 I v2 v4 σ 196) from by
    rw [trips3]) $$ H
  iexact H'

theorem wp_loop5 (v2 v4 : IVec S8x128 32) (z0 : Elt F .f32) (z1 z2 z3 z4 : FVec F S1x128 .f32) (σ : St F) {Q : Unit → sProp 𝕄} :
    J5 A c 196 σ
      ⊢ iprop((J5 A c 224 (it5 σ 28) -∗ Q ⟨⟩) -∗ WP c (Scf.Loop.for k0_t5_loop k0_t5_ok ⟨⟩ (k0_t5_body (F := F) A.a0 A.h0 A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.a19 A.a20 v2 v4 z0 z1 z2 z3 z4)) Q) := by
  iintro H Hk
  iapply (Scf.wp_for frame (wpE (defs₀ (F := F)) Variants.none (c : Thread nD τ) none) Set.univ _ _ _ k0_t5_ok () _
    (fun k _ => J5 A c (k + 196) (it5 σ k)) ?_)
  · intro t _
    exact wp_t5body A c v2 v4 z0 z1 z2 z3 z4 t (it5 σ t.val)
  isplitl [H]; · iexact H
  iintro %_ H
  iapply Hk
  ihave H' := (show J5 A c (k0_t5_loop.trips + 196) (it5 σ k0_t5_loop.trips) ⊢ J5 A c 224 (it5 σ 28) from by
    rw [trips5]) $$ H
  iexact H'

end Cert.KernelIdeal.Hand

end
-- ==== Proof.IdealWhole.lean ====
/-
  The kernel's body, whole.
-/
module

public import proofs.«01_k».proof.Proof.IdealPrologue

@[expose] public section

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

variable (A : Args) (I : Ins F) (c : Dev nD)

attribute [local irreducible] grpD grpO grpS1 grpS2

theorem outN_M (k : Co F) (t : ℕ) (σ : St F) (n : ℕ) : (outN k t σ n).M = σ.M := by
  induction n with
  | zero => rfl
  | succ n ih => exact ih
theorem outN_s1 (k : Co F) (t : ℕ) (σ : St F) (n : ℕ) : (outN k t σ n).s1 = σ.s1 := by
  induction n with
  | zero => rfl
  | succ n ih => exact ih
theorem outN_s2 (k : Co F) (t : ℕ) (σ : St F) (n : ℕ) : (outN k t σ n).s2 = σ.s2 := by
  induction n with
  | zero => rfl
  | succ n ih => exact ih
attribute [local irreducible] outN

theorem step5_M (t : ℕ) (σ : St F) : (step5 t σ).M = σ.M := by
  unfold step5
  dsimp only
  rw [outN_M]
theorem it5_M (σ : St F) (n : ℕ) : (it5 σ n).M = σ.M := by
  induction n with
  | zero => rfl
  | succ n ih => rw [it5, step5_M, ih]
theorem step5_s1 (t : ℕ) (σ : St F) : (step5 t σ).s1 = σ.s1 := by
  unfold step5
  dsimp only
  rw [outN_s1]
theorem it5_s1 (σ : St F) (n : ℕ) : (it5 σ n).s1 = σ.s1 := by
  induction n with
  | zero => rfl
  | succ n ih => rw [it5, step5_s1, ih]
theorem step5_s2 (t : ℕ) (σ : St F) : (step5 t σ).s2 = σ.s2 := by
  unfold step5
  dsimp only
  rw [outN_s2]
theorem it5_s2 (σ : St F) (n : ℕ) : (it5 σ n).s2 = σ.s2 := by
  induction n with
  | zero => rfl
  | succ n ih => rw [it5, step5_s2, ih]
theorem step5_cf (t : ℕ) (σ : St F) : (step5 t σ).cf = σ.cf := by
  unfold step5
  dsimp only
  rw [outN_cf]
theorem it5_cf (σ : St F) (n : ℕ) : (it5 σ n).cf = σ.cf := by
  induction n with
  | zero => rfl
  | succ n ih => rw [it5, step5_cf, ih]
theorem step5_dg (t : ℕ) (σ : St F) : (step5 t σ).dg = σ.dg := by
  unfold step5
  dsimp only
  rw [outN_dg]
theorem it5_dg (σ : St F) (n : ℕ) : (it5 σ n).dg = σ.dg := by
  induction n with
  | zero => rfl
  | succ n ih => rw [it5, step5_dg, ih]
theorem step5_db (t : ℕ) (σ : St F) : (step5 t σ).db = σ.db := by
  unfold step5
  dsimp only
  rw [outN_db]
theorem it5_db (σ : St F) (n : ℕ) : (it5 σ n).db = σ.db := by
  induction n with
  | zero => rfl
  | succ n ih => rw [it5, step5_db, ih]
theorem redN_O (v2 la lb : IVec S8x128 32) (i t : ℕ) (σ : St F) (n : ℕ) : (redN v2 la lb i t σ n).O = σ.O := by
  induction n with
  | zero => rfl
  | succ n ih => exact ih
theorem redN_cf (v2 la lb : IVec S8x128 32) (i t : ℕ) (σ : St F) (n : ℕ) : (redN v2 la lb i t σ n).cf = σ.cf := by
  induction n with
  | zero => rfl
  | succ n ih => exact ih
theorem redN_dg (v2 la lb : IVec S8x128 32) (i t : ℕ) (σ : St F) (n : ℕ) : (redN v2 la lb i t σ n).dg = σ.dg := by
  induction n with
  | zero => rfl
  | succ n ih => exact ih
theorem redN_db (v2 la lb : IVec S8x128 32) (i t : ℕ) (σ : St F) (n : ℕ) : (redN v2 la lb i t σ n).db = σ.db := by
  induction n with
  | zero => rfl
  | succ n ih => exact ih
theorem redN_dx (v2 la lb : IVec S8x128 32) (i t : ℕ) (σ : St F) (n : ℕ) : (redN v2 la lb i t σ n).dx = σ.dx := by
  induction n with
  | zero => rfl
  | succ n ih => exact ih
attribute [local irreducible] redN

theorem step1_O (v2 v4 : IVec S8x128 32) (t : ℕ) (σ : St F) : (step1 I v2 v4 t σ).O = σ.O := by
  unfold step1
  rw [redN_O]
  rfl
theorem it1_O (v2 v4 : IVec S8x128 32) (σ : St F) (n : ℕ) : (it1 I v2 v4 σ n).O = σ.O := by
  induction n with
  | zero => rfl
  | succ n ih => rw [it1, step1_O, ih]
theorem step1_cf (v2 v4 : IVec S8x128 32) (t : ℕ) (σ : St F) : (step1 I v2 v4 t σ).cf = σ.cf := by
  unfold step1
  rw [redN_cf]
  rfl
theorem it1_cf (v2 v4 : IVec S8x128 32) (σ : St F) (n : ℕ) : (it1 I v2 v4 σ n).cf = σ.cf := by
  induction n with
  | zero => rfl
  | succ n ih => rw [it1, step1_cf, ih]
theorem step1_dg (v2 v4 : IVec S8x128 32) (t : ℕ) (σ : St F) : (step1 I v2 v4 t σ).dg = σ.dg := by
  unfold step1
  rw [redN_dg]
  rfl
theorem it1_dg (v2 v4 : IVec S8x128 32) (σ : St F) (n : ℕ) : (it1 I v2 v4 σ n).dg = σ.dg := by
  induction n with
  | zero => rfl
  | succ n ih => rw [it1, step1_dg, ih]
theorem step1_db (v2 v4 : IVec S8x128 32) (t : ℕ) (σ : St F) : (step1 I v2 v4 t σ).db = σ.db := by
  unfold step1
  rw [redN_db]
  rfl
theorem it1_db (v2 v4 : IVec S8x128 32) (σ : St F) (n : ℕ) : (it1 I v2 v4 σ n).db = σ.db := by
  induction n with
  | zero => rfl
  | succ n ih => rw [it1, step1_db, ih]
theorem step1_dx (v2 v4 : IVec S8x128 32) (t : ℕ) (σ : St F) : (step1 I v2 v4 t σ).dx = σ.dx := by
  unfold step1
  rw [redN_dx]
  rfl
theorem it1_dx (v2 v4 : IVec S8x128 32) (σ : St F) (n : ℕ) : (it1 I v2 v4 σ n).dx = σ.dx := by
  induction n with
  | zero => rfl
  | succ n ih => rw [it1, step1_dx, ih]

attribute [local irreducible] it1 it3 it5 outRedN fin

theorem MC_idle {g a g' a' : ℕ} (h : g % 28 = g' % 28) : MC A I c g a a = MC A I c g' a' a' := by
  unfold MC
  congr 1
  funext j
  unfold mcell
  rw [if_neg (by omega), if_neg (by omega), msem_congr A (show (g + j.val) % 28 = (g' + j.val) % 28 by omega)]

/-- The gradients of block 0's first row, from the sums. -/
theorem wp_part70 (v2 v4 : IVec S8x128 32) (σ : St F) (dg db : S16x128.Idx → Elt F .f32) {Q} :
    iprop(owing (F := F) c ∗ Rd A I c 0 3 σ.X σ.D ∗ FlyR A I c 0 2 0 ∗ FlyR A I c 1 2 0 ∗ FlyR A I c 2 2 0 ∗ Mk A I c 0 2 σ.M ∗ MC A I c 0 0 2
        ∗ own c A.a15 Finset.univ σ.s1 ∗ own c A.a16 Finset.univ σ.s2 ∗ Inp A I c ∗ own c A.a9 Finset.univ dg ∗ own c A.a10 Finset.univ db)
      ⊢ iprop((∀ τ, ⌜τ = it1 I v2 v4 σ 28⌝ -∗ iprop(J A I c 28 0 28 28 τ ∗ Inp A I c ∗ own c A.a9 Finset.univ dg
            ∗ own c A.a10 Finset.univ (upd (rR (2 * 0 + 0)) (k0_pay319 (sc I.ys) (at' (rS' 0) τ.s1)) db)) -∗
          Q ⟨sc I.xs, sc I.ys, k0_pay316 (at' (rR (2 * 0 + 0)) I.mean), k0_pay317 (at' (rR (2 * 0 + 0)) I.rstd), k0_pay318 (at' (rR (2 * 0 + 0)) I.gam),
            k0_pay319 (sc I.ys) (at' (rS' 0) τ.s1), k0_pay320 (sc I.xs) (sc I.ys) (at' (rR (2 * 0 + 0)) I.mean) (at' (rR (2 * 0 + 0)) I.rstd) (at' (rS' 0) τ.s1) (at' (rS' 0) τ.s2)⟩)
        -∗ WP c (k0_part70 (F := F) A.a0 A.h0 A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.a19 A.a20 v2 v4) Q) := by
  rw [k0_part70_eq_skeleton]
  unfold k0_part70_skel
  dsimp only
  iintro ⟨HO, HR, HF0, HF1, HF2, HM, HMC, HA, HB, HI, HG, HE⟩ Hk
  ihave HMC' := (MC_issue A I c (g := 0) (a := 0) (b := 2) (by omega) (by omega) (by omega)) $$ HMC
  icases HMC' with ⟨HMS, HMC⟩
  iapply (WP_seq c)
  iapply (wp_readM A I c (a := 0) (m := 2) (by omega) (by omega) σ.M _ _ _ _ _ _ rfl rfl (off4_eq 2)) $$ [HM HMS]
  · isplitl [HM]; · iexact HM
    iexact HMS
  iintro ⟨HM, HMF⟩
  ihave HMC := HMC $$ HMF
  iapply (WP_seq c)
  iapply (wp_loop1 A I c v2 v4 σ) $$ [HO HR HF0 HF1 HF2 HM HMC HA HB]
  · unfold J
    isplitl [HO]; · iexact HO
    isplitl [HR]; · iexact HR
    isplitl [HF0]
    · rw [rcell, if_pos (by omega)]; iexact HF0
    isplitl [HF1]
    · rw [rcell, if_pos (by omega)]; iexact HF1
    isplitl [HF2]
    · rw [rcell, if_pos (by omega)]; iexact HF2
    isplitl [HM]; · iexact HM
    isplitl [HMC]; · iexact HMC
    isplitl [HA]; · iexact HA
    iexact HB
  iintro HJ
  generalize hτ : it1 I v2 v4 σ 28 = τ
  unfold J Inp
  icases HJ with ⟨HO, HR, HC0, HC1, HC2, HM, HMC, HA, HB⟩
  icases HI with ⟨H0, H1, H5, H6, H7⟩
  iapply (WP_seq c)
  iapply (wp_smem c A.a0 _ _ _ I.xs (Finset.subset_univ _)) $$ H0
  iintro H0
  iapply (WP_seq c)
  iapply (wp_smem c A.a1 _ _ _ I.ys (Finset.subset_univ _)) $$ H1
  iintro H1
  iapply (WP_seq c)
  iapply (wp_ldu c A.a5 _ ![(2 * 0 + 0) % 16, 0] _ _ (rR_inb (2 * 0 + 0)) (off20_eq 0) _ _) $$ H5
  iintro H5
  iapply (WP_seq c)
  iapply (wp_ldu c A.a6 _ ![(2 * 0 + 0) % 16, 0] _ _ (rR_inb (2 * 0 + 0)) (off20_eq 0) _ _) $$ H6
  iintro H6
  iapply (WP_seq c)
  iapply (wp_ldu c A.a7 _ ![(2 * 0 + 0) % 16, 0] _ _ (rR_inb (2 * 0 + 0)) (off20_eq 0) _ _) $$ H7
  iintro H7
  iapply (WP_seq c)
  iapply (wp_ldu c A.a15 _ ![0 % 2, 0, 0] _ _ (rS_inb 0) rfl _ _) $$ HA
  iintro HA
  iapply (WP_seq c)
  iapply (wp_ldu c A.a16 _ ![0 % 2, 0, 0] _ _ (rS_inb 0) rfl _ _) $$ HB
  iintro HB
  iapply (WP_seq c)
  iapply (wp_ldu c A.a10 _ ![(2 * 0 + 0) % 16, 0] _ _ (rR_inb (2 * 0 + 0)) (off20_eq 0) _ _) $$ HE
  iintro HE
  iapply (WP_seq c)
  iapply (wp_stu c A.a10 _ ![(2 * 0 + 0) % 16, 0] _ _ (rR_inb (2 * 0 + 0)) (off20_eq 0) _ _ _ _) $$ HE
  iintro HE
  iapply (WP_seq c)
  iapply (wp_ldu c A.a9 _ ![(2 * 0 + 0) % 16, 0] _ _ (rR_inb (2 * 0 + 0)) (off20_eq 0) _ _) $$ HG
  iintro HG
  iapply (WP_pure c)
  iapply Hk $$ %τ %rfl
  isplitl [HO HR HC0 HC1 HC2 HM HMC HA HB]
  · isplitl [HO]; · iexact HO
    isplitl [HR]; · iexact HR
    isplitl [HC0]; · iexact HC0
    isplitl [HC1]; · iexact HC1
    isplitl [HC2]; · iexact HC2
    isplitl [HM]; · iexact HM
    isplitl [HMC]; · iexact HMC
    isplitl [HA]; · iexact HA
    iexact HB
  isplitl [H0 H1 H5 H6 H7]
  · isplitl [H0]; · iexact H0
    isplitl [H1]; · iexact H1
    isplitl [H5]; · iexact H5
    isplitl [H6]; · iexact H6
    iexact H7
  isplitl [HG]; · iexact HG
  iexact HE

theorem wp_part71 (v140 v141 : Elt F .f32) (v146 v149 v152 v158 v169 : FVec F S1x128 .f32) (dg : S16x128.Idx → Elt F .f32) (cf : S6x8x128.Idx → Elt F .f32) {Q} :
    iprop(own c A.a9 Finset.univ dg ∗ own c A.a17 Finset.univ cf ∗ Inp A I c)
      ⊢ iprop((∀ y, iprop(own c A.a9 Finset.univ (upd (rR (2 * 0 + 0)) v169 dg)
            ∗ own c A.a17 Finset.univ (upd (rC 2) (k0_pay325 v146 v149 v152 v158 v169) (upd (rC 1) (k0_pay324 v140 v149 v152 v169) (upd (rC 0) (k0_pay323 v141 v149 v152) cf))) ∗ Inp A I c) -∗
          Q ⟨y, k0_pay326 (at' (rR (2 * 0 + 1)) I.mean)⟩)
        -∗ WP c (k0_part71 (F := F) A.a0 A.h0 A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.a19 A.a20 v140 v141 v146 v149 v152 v158 v169) Q) := by
  rw [k0_part71_eq_skeleton]
  unfold k0_part71_skel Inp
  dsimp only
  iintro ⟨HG, HK, ⟨H0, H1, H5, H6, H7⟩⟩ Hk
  iapply (WP_seq c)
  iapply (wp_stu c A.a9 _ ![(2 * 0 + 0) % 16, 0] _ _ (rR_inb (2 * 0 + 0)) (off20_eq 0) _ _ _ _) $$ HG
  iintro HG
  iapply (WP_seq c)
  iapply (wp_ldu c A.a17 _ ![0 % 6, 0, 0] _ _ (rC_inb 0) rfl _ _) $$ HK
  iintro HK
  iapply (WP_seq c)
  iapply (wp_stu c A.a17 _ ![0 % 6, 0, 0] _ _ (rC_inb 0) rfl _ _ _ _) $$ HK
  iintro HK
  iapply (WP_seq c)
  iapply (wp_ldu c A.a17 _ ![1 % 6, 0, 0] _ _ (rC_inb 1) rfl _ _) $$ HK
  iintro HK
  iapply (WP_seq c)
  iapply (wp_stu c A.a17 _ ![1 % 6, 0, 0] _ _ (rC_inb 1) rfl _ _ _ _) $$ HK
  iintro HK
  iapply (WP_seq c)
  iapply (wp_ldu c A.a17 _ ![2 % 6, 0, 0] _ _ (rC_inb 2) rfl _ _) $$ HK
  iintro HK
  iapply (WP_seq c)
  iapply (wp_stu c A.a17 _ ![2 % 6, 0, 0] _ _ (rC_inb 2) rfl _ _ _ _) $$ HK
  iintro HK
  iapply (WP_seq c)
  iapply (wp_ldu c A.a5 _ ![(2 * 0 + 1) % 16, 0] _ _ (rR_inb (2 * 0 + 1)) (off20_eq 1) _ _) $$ H5
  iintro H5
  iapply (WP_pure c)
  iapply Hk
  isplitl [HG]; · iexact HG
  isplitl [HK]; · iexact HK
  isplitl [H0]; · iexact H0
  isplitl [H1]; · iexact H1
  isplitl [H5]; · iexact H5
  isplitl [H6]; · iexact H6
  iexact H7

theorem wp_part72 (v140 v141 : Elt F .f32) (x : BitVec 32) (v211 : FVec F S1x128 .f32) (s1 s2 : BufS F) (dg db : S16x128.Idx → Elt F .f32) (cf : S6x8x128.Idx → Elt F .f32) {Q} :
    iprop(Fs A c s1 s2 cf dg db ∗ Inp A I c)
      ⊢ iprop((iprop(Fs A c s1 s2 (upd (rC 3) (k0_pay332 v141 (at' (rR (2 * 0 + 1)) I.rstd) (at' (rR (2 * 0 + 1)) I.gam)) cf)
            (upd (rR (2 * 0 + 1)) (k0_pay329 v140 v141 v211 (at' (rR (2 * 0 + 1)) I.rstd) (at' (rS' 1) s1) (at' (rS' 1) s2)) dg)
            (upd (rR (2 * 0 + 1)) (k0_pay328 v141 (at' (rS' 1) s1)) db) ∗ Inp A I c) -∗
          Q ⟨k0_pay328 v141 (at' (rS' 1) s1), k0_pay330 (at' (rR (2 * 0 + 1)) I.rstd) (at' (rR (2 * 0 + 1)) I.gam),
            k0_pay331 v140 v141 v211 (at' (rR (2 * 0 + 1)) I.rstd) (at' (rR (2 * 0 + 1)) I.gam) (at' (rS' 1) s1) (at' (rS' 1) s2)⟩)
        -∗ WP c (k0_part72 (F := F) A.a0 A.h0 A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.a19 A.a20 v140 v141 x v211) Q) := by
  rw [k0_part72_eq_skeleton]
  unfold k0_part72_skel Inp Fs
  dsimp only
  iintro ⟨⟨HA, HB, HK, HG, HE⟩, ⟨H0, H1, H5, H6, H7⟩⟩ Hk
  iapply (WP_seq c)
  iapply (wp_ldu c A.a6 _ ![(2 * 0 + 1) % 16, 0] _ _ (rR_inb (2 * 0 + 1)) (off20_eq 1) _ _) $$ H6
  iintro H6
  iapply (WP_seq c)
  iapply (wp_ldu c A.a7 _ ![(2 * 0 + 1) % 16, 0] _ _ (rR_inb (2 * 0 + 1)) (off20_eq 1) _ _) $$ H7
  iintro H7
  iapply (WP_seq c)
  iapply (wp_ldu c A.a15 _ ![1 % 2, 0, 0] _ _ (rS_inb 1) rfl _ _) $$ HA
  iintro HA
  iapply (WP_seq c)
  iapply (wp_ldu c A.a16 _ ![1 % 2, 0, 0] _ _ (rS_inb 1) rfl _ _) $$ HB
  iintro HB
  iapply (WP_seq c)
  iapply (wp_ldu c A.a10 _ ![(2 * 0 + 1) % 16, 0] _ _ (rR_inb (2 * 0 + 1)) (off20_eq 1) _ _) $$ HE
  iintro HE
  iapply (WP_seq c)
  iapply (wp_stu c A.a10 _ ![(2 * 0 + 1) % 16, 0] _ _ (rR_inb (2 * 0 + 1)) (off20_eq 1) _ _ _ _) $$ HE
  iintro HE
  iapply (WP_seq c)
  iapply (wp_ldu c A.a9 _ ![(2 * 0 + 1) % 16, 0] _ _ (rR_inb (2 * 0 + 1)) (off20_eq 1) _ _) $$ HG
  iintro HG
  iapply (WP_seq c)
  iapply (wp_stu c A.a9 _ ![(2 * 0 + 1) % 16, 0] _ _ (rR_inb (2 * 0 + 1)) (off20_eq 1) _ _ _ _) $$ HG
  iintro HG
  iapply (WP_seq c)
  iapply (wp_ldu c A.a17 _ ![3 % 6, 0, 0] _ _ (rC_inb 3) rfl _ _) $$ HK
  iintro HK
  iapply (WP_seq c)
  iapply (wp_stu c A.a17 _ ![3 % 6, 0, 0] _ _ (rC_inb 3) rfl _ _ _ _) $$ HK
  iintro HK
  iapply (WP_pure c)
  iapply Hk
  isplitl [HA HB HK HG HE]
  · isplitl [HA]; · iexact HA
    isplitl [HB]; · iexact HB
    isplitl [HK]; · iexact HK
    isplitl [HG]; · iexact HG
    iexact HE
  isplitl [H0]; · iexact H0
  isplitl [H1]; · iexact H1
  isplitl [H5]; · iexact H5
  isplitl [H6]; · iexact H6
  iexact H7

/-- Everything but the writes in flight, between the loops. -/
def Idle (σ : St F) : sProp 𝕄 :=
  iprop(own c A.a2 Finset.univ I.x ∗ own c A.a3 Finset.univ I.y ∗ own c A.a4 Finset.univ I.km ∗ own c A.a13 Finset.univ σ.M
    ∗ semVal ((c : Thread nD τ), .dma (rsem A 0)) 0 ∗ semVal ((c : Thread nD τ), .dma (rsem A 1)) 0 ∗ semVal ((c : Thread nD τ), .dma (rsem A 2)) 0 ∗ MC A I c 0 0 0
    ∗ own c A.a15 Finset.univ σ.s1 ∗ own c A.a16 Finset.univ σ.s2 ∗ own c A.a9 Finset.univ σ.dg ∗ own c A.a10 Finset.univ σ.db ∗ Inp A I c)

set_option maxHeartbeats 1000000 in
theorem wp_part73 (v2 v4 : IVec S8x128 32) (v140 : Elt F .f32) (v211 v223 v239 v245 : FVec F S1x128 .f32) (σ : St F) {Q} :
    iprop(J A I c 28 0 28 28 σ ∗ own c A.a17 Finset.univ σ.cf ∗ own c A.a9 Finset.univ σ.dg ∗ own c A.a10 Finset.univ σ.db ∗ Inp A I c
        ∗ own c A.a8 Finset.univ σ.dx ∗ own c A.a14 Finset.univ σ.O ∗ semVal ((c : Thread nD τ), .dma (wsem A 0)) 0 ∗ semVal ((c : Thread nD τ), .dma (wsem A 1)) 0)
      ⊢ iprop((∀ τ, ⌜τ = it5 (it3 I v2 v4 { σ with cf := upd (rC 5) (k0_pay334 v211 v223 v239 v245) (upd (rC 4) (k0_pay333 v140 v245) σ.cf), s1 := upd rSA k0_pay339 σ.s1, s2 := upd rSA k0_pay340 σ.s2 } 196) 28⌝ -∗
          iprop(J5 A c 224 τ ∗ Idle A I c τ) -∗ Q 26#32)
        -∗ WP c (k0_part73 (F := F) A.a0 A.h0 A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.a19 A.a20 v2 v4 v140 v211 v223 v239 v245) Q) := by
  rw [k0_part73_eq_skeleton]
  unfold k0_part73_skel J
  dsimp only
  rw [← pz3, ← pz4]
  iintro ⟨⟨HO, HR, HC0, HC1, HC2, HM, HMC, HA, HB⟩, HK, HG, HE, HI, H8, H14, HW0, HW1⟩ Hk
  iapply (WP_seq c)
  iapply (wp_ldu c A.a17 _ ![4 % 6, 0, 0] _ _ (rC_inb 4) rfl _ _) $$ HK
  iintro HK
  iapply (WP_seq c)
  iapply (wp_stu c A.a17 _ ![4 % 6, 0, 0] _ _ (rC_inb 4) rfl _ _ _ _) $$ HK
  iintro HK
  iapply (WP_seq c)
  iapply (wp_ldu c A.a17 _ ![5 % 6, 0, 0] _ _ (rC_inb 5) rfl _ _) $$ HK
  iintro HK
  iapply (WP_seq c)
  iapply (wp_stu c A.a17 _ ![5 % 6, 0, 0] _ _ (rC_inb 5) rfl _ _ _ _) $$ HK
  iintro HK
  iapply (WP_seq c)
  iapply (wp_ldu c A.a15 _ ![0, 0, 0] _ _ inb_S2x8x128_S2x8x128_0_0_0 rfl _ _) $$ HA
  iintro HA
  iapply (WP_seq c)
  iapply (wp_stu c A.a15 _ ![0, 0, 0] _ _ inb_S2x8x128_S2x8x128_0_0_0 rfl _ _ _ _) $$ HA
  iintro HA
  iapply (WP_seq c)
  iapply (wp_ldu c A.a16 _ ![0, 0, 0] _ _ inb_S2x8x128_S2x8x128_0_0_0 rfl _ _) $$ HB
  iintro HB
  iapply (WP_seq c)
  iapply (wp_stu c A.a16 _ ![0, 0, 0] _ _ inb_S2x8x128_S2x8x128_0_0_0 rfl _ _ _ _) $$ HB
  iintro HB
  ihave HMC' := (show MC A I c 0 28 28 ⊢ MC A I c 28 28 28 from by rw [MC_idle A I c (g := 0) (g' := 28) (a := 28) (a' := 28) (by omega)]) $$ HMC
  iapply (WP_seq c)
  iapply (wp_loop3 A I c v2 v4 v140 v211 v223 v239 v245 { σ with cf := upd (rC 5) (k0_pay334 v211 v223 v239 v245) (upd (rC 4) (k0_pay333 v140 v245) σ.cf), s1 := upd rSA k0_pay335 σ.s1, s2 := upd rSA k0_pay336 σ.s2 })
    $$ [HO HR HC0 HC1 HC2 HM HMC' HA HB HK HG HE HI H8 H14 HW0 HW1]
  · unfold J3 J
    dsimp only
    isplitl [HO HR HC0 HC1 HC2 HM HMC' HA HB]
    · isplitl [HO]; · iexact HO
      isplitl [HR]; · iexact HR
      isplitl [HC0]; · iexact HC0
      isplitl [HC1]; · iexact HC1
      isplitl [HC2]; · iexact HC2
      isplitl [HM]; · iexact HM
      isplitl [HMC']; · iexact HMC'
      isplitl [HA]; · iexact HA
      iexact HB
    isplitl [H8 H14]
    · unfold Wr
      rw [out_self, out_self]
      isplitl [H8]; · iexact H8
      iexact H14
    isplitl [HW0]
    · rw [WC, if_neg (by omega)]; iexact HW0
    isplitl [HW1]
    · rw [WC, if_neg (by omega)]; iexact HW1
    isplitl [HK]; · iexact HK
    isplitl [HG]; · iexact HG
    isplitl [HE]; · iexact HE
    iexact HI
  iintro HJ
  generalize it3 I v2 v4 { σ with cf := upd (rC 5) (k0_pay334 v211 v223 v239 v245) (upd (rC 4) (k0_pay333 v140 v245) σ.cf), s1 := upd rSA k0_pay335 σ.s1, s2 := upd rSA k0_pay336 σ.s2 } 196 = ρ
  unfold J3 J Rd Mk
  icases HJ with ⟨⟨HO, ⟨H2, H11, H3, H12⟩, HC0, HC1, HC2, ⟨H4, H13⟩, HMC, HA, HB⟩, HW, HW0, HW1, HK, HG, HE, HI⟩
  iapply (WP_seq c)
  iapply (wp_loop5 A c v2 v4 v140 v211 v223 v239 v245 ρ) $$ [HO H12 H11 HW HW0 HW1 HK]
  · unfold J5
    isplitl [HO]; · iexact HO
    isplitl [H12]
    · ihave H12' := (show own c A.a12 (out RX (196 + 28) (min (196 + 28 + 3) 224)) ρ.D ⊢ own c A.a12 Finset.univ ρ.D from by
        rw [show min (196 + 28 + 3) 224 = 196 + 28 by omega, out_self]) $$ H12
      iexact H12'
    isplitl [H11]
    · ihave H11' := (show own c A.a11 (out RX (196 + 28) (min (196 + 28 + 3) 224)) ρ.X ⊢ own c A.a11 Finset.univ ρ.X from by
        rw [show min (196 + 28 + 3) 224 = 196 + 28 by omega, out_self]) $$ H11
      iexact H11'
    isplitl [HW]; · iexact HW
    isplitl [HW0]
    · ihave HW0' := (show WC A c 196 ρ.dx ρ.O ⊢ FlyW A c (196 - 2) ρ.dx ρ.O 2 0 from by rw [WC, if_pos (by omega)]) $$ HW0
      iexact HW0'
    isplitl [HW1]
    · ihave HW1' := (show WC A c (196 + 1) ρ.dx ρ.O ⊢ FlyW A c (196 - 1) ρ.dx ρ.O 2 0 from by rw [WC, if_pos (by omega)]) $$ HW1
      iexact HW1'
    iexact HK
  iintro HJ
  iapply (WP_pure c)
  iapply Hk $$ %_ %rfl
  isplitl [HJ]; · iexact HJ
  unfold Idle
  rw [it5_M, it5_s1, it5_s2, it5_dg, it5_db]
  isplitl [H2]
  · ihave H2' := (show own c A.a2 (out RH (196 + 28) (min (196 + 28 + 3) 224)) I.x ⊢ own c A.a2 Finset.univ I.x from by
      rw [show min (196 + 28 + 3) 224 = 196 + 28 by omega, out_self]) $$ H2
    iexact H2'
  isplitl [H3]
  · ihave H3' := (show own c A.a3 (out RH (196 + 28) (min (196 + 28 + 3) 224)) I.y ⊢ own c A.a3 Finset.univ I.y from by
      rw [show min (196 + 28 + 3) 224 = 196 + 28 by omega, out_self]) $$ H3
    iexact H3'
  isplitl [H4]
  · ihave H4' := (show own c A.a4 (out RL (28 + min (196 - 84) 28) (28 + min (196 - 56) 28)) I.km ⊢ own c A.a4 Finset.univ I.km from by
      rw [show 28 + min (196 - 84) 28 = 28 + min (196 - 56) 28 by omega, out_self]) $$ H4
    iexact H4'
  isplitl [H13]
  · ihave H13' := (show own c A.a13 (out RK (28 + min (196 - 84) 28) (28 + min (196 - 56) 28)) ρ.M ⊢ own c A.a13 Finset.univ ρ.M from by
      rw [show 28 + min (196 - 84) 28 = 28 + min (196 - 56) 28 by omega, out_self]) $$ H13
    iexact H13'
  isplitl [HC1]
  · ihave H := (show rcell A I c (196 + 28 + 1) ⊢ iprop(semVal ((c : Thread nD τ), .dma (rsem A 0)) 0) from by
      rw [rcell, if_neg (by omega), rsem_congr A (show (196 + 28 + 1) % 3 = 0 % 3 by omega)]) $$ HC1
    iexact H
  isplitl [HC2]
  · ihave H := (show rcell A I c (196 + 28 + 2) ⊢ iprop(semVal ((c : Thread nD τ), .dma (rsem A 1)) 0) from by
      rw [rcell, if_neg (by omega), rsem_congr A (show (196 + 28 + 2) % 3 = 1 % 3 by omega)]) $$ HC2
    iexact H
  isplitl [HC0]
  · ihave H := (show rcell A I c (196 + 28) ⊢ iprop(semVal ((c : Thread nD τ), .dma (rsem A 2)) 0) from by
      rw [rcell, if_neg (by omega), rsem_congr A (show (196 + 28) % 3 = 2 % 3 by omega)]) $$ HC0
    iexact H
  isplitl [HMC]
  · ihave H := (show MC A I c 28 (28 + min (196 - 84) 28) (28 + min (196 - 56) 28) ⊢ MC A I c 0 0 0 from by
      rw [show 28 + min (196 - 84) 28 = 28 + min (196 - 56) 28 by omega, MC_idle A I c (g := 28) (g' := 0) (a' := 0) (by omega)]) $$ HMC
    iexact H
  isplitl [HA]; · iexact HA
  isplitl [HB]; · iexact HB
  isplitl [HG]; · iexact HG
  isplitl [HE]; · iexact HE
  iexact HI

/-- Everything the kernel holds while no copy is in flight. -/
def Res (σ : St F) : sProp 𝕄 :=
  iprop(owing (F := F) c ∗ Idle A I c σ ∗ own c A.a12 Finset.univ σ.D ∗ own c A.a11 Finset.univ σ.X ∗ own c A.a8 Finset.univ σ.dx ∗ own c A.a14 Finset.univ σ.O
    ∗ semVal ((c : Thread nD τ), .dma (wsem A 0)) 0 ∗ semVal ((c : Thread nD τ), .dma (wsem A 1)) 0 ∗ own c A.a17 Finset.univ σ.cf)

/-- The kernel, from the buffers' first contents. -/
def run (σ : St F) : St F :=
  it5 (it3 I k0_pay312 k0_pay313 (fin I 0 (it1 I k0_pay312 k0_pay313 { σ with s1 := upd rSA k0_pay339 σ.s1, s2 := upd rSA k0_pay340 σ.s2 } 28)) 196) 28

theorem fin_start (σ : St F) :
    ({ σ with
      cf := upd (rC 5) (k0_pay334 (k0_pay326 (at' (rR (2 * 0 + 1)) I.mean)) (k0_pay328 (sc I.ys) (at' (rS' 1) σ.s1)) (k0_pay330 (at' (rR (2 * 0 + 1)) I.rstd) (at' (rR (2 * 0 + 1)) I.gam))
            (k0_pay331 (sc I.xs) (sc I.ys) (k0_pay326 (at' (rR (2 * 0 + 1)) I.mean)) (at' (rR (2 * 0 + 1)) I.rstd) (at' (rR (2 * 0 + 1)) I.gam) (at' (rS' 1) σ.s1) (at' (rS' 1) σ.s2)))
          (upd (rC 4) (k0_pay333 (sc I.xs) (k0_pay331 (sc I.xs) (sc I.ys) (k0_pay326 (at' (rR (2 * 0 + 1)) I.mean)) (at' (rR (2 * 0 + 1)) I.rstd) (at' (rR (2 * 0 + 1)) I.gam) (at' (rS' 1) σ.s1) (at' (rS' 1) σ.s2)))
          (upd (rC 3) (k0_pay332 (sc I.ys) (at' (rR (2 * 0 + 1)) I.rstd) (at' (rR (2 * 0 + 1)) I.gam))
          (upd (rC 2) (k0_pay325 (k0_pay316 (at' (rR (2 * 0 + 0)) I.mean)) (k0_pay317 (at' (rR (2 * 0 + 0)) I.rstd)) (k0_pay318 (at' (rR (2 * 0 + 0)) I.gam)) (k0_pay319 (sc I.ys) (at' (rS' 0) σ.s1))
            (k0_pay320 (sc I.xs) (sc I.ys) (at' (rR (2 * 0 + 0)) I.mean) (at' (rR (2 * 0 + 0)) I.rstd) (at' (rS' 0) σ.s1) (at' (rS' 0) σ.s2)))
          (upd (rC 1) (k0_pay324 (sc I.xs) (k0_pay317 (at' (rR (2 * 0 + 0)) I.rstd)) (k0_pay318 (at' (rR (2 * 0 + 0)) I.gam))
            (k0_pay320 (sc I.xs) (sc I.ys) (at' (rR (2 * 0 + 0)) I.mean) (at' (rR (2 * 0 + 0)) I.rstd) (at' (rS' 0) σ.s1) (at' (rS' 0) σ.s2)))
          (upd (rC 0) (k0_pay323 (sc I.ys) (k0_pay317 (at' (rR (2 * 0 + 0)) I.rstd)) (k0_pay318 (at' (rR (2 * 0 + 0)) I.gam))) σ.cf)))))
      dg := upd (rR (2 * 0 + 1)) (k0_pay329 (sc I.xs) (sc I.ys) (k0_pay326 (at' (rR (2 * 0 + 1)) I.mean)) (at' (rR (2 * 0 + 1)) I.rstd) (at' (rS' 1) σ.s1) (at' (rS' 1) σ.s2))
        (upd (rR (2 * 0 + 0)) (k0_pay320 (sc I.xs) (sc I.ys) (at' (rR (2 * 0 + 0)) I.mean) (at' (rR (2 * 0 + 0)) I.rstd) (at' (rS' 0) σ.s1) (at' (rS' 0) σ.s2)) σ.dg)
      db := upd (rR (2 * 0 + 1)) (k0_pay328 (sc I.ys) (at' (rS' 1) σ.s1)) (upd (rR (2 * 0 + 0)) (k0_pay319 (sc I.ys) (at' (rS' 0) σ.s1)) σ.db)
      s1 := upd rSA k0_pay339 σ.s1
      s2 := upd rSA k0_pay340 σ.s2 } : St F) = fin I 0 σ := by
  delta fin finCf finDg finDb
  rw [pf10, pf9, pf8, pf5, pf4, pf3, pf7, pf1, pf2, pf6]

set_option maxHeartbeats 2000000 in
theorem wp_kernel (σ : St F) :
    Res A I c σ ⊢ WP c (cc0_bn_relu_bwd (F := F) A.a0 A.h0 A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.a19 A.a20) (fun _ => Res A I c (run I σ)) := by
  rw [cc0_bn_relu_bwd_eq_skeleton]
  unfold cc0_bn_relu_bwd_skel Res Idle
  dsimp only
  iintro ⟨HO, ⟨H2, H3, H4, H13, HR0, HR1, HR2, HMC, HA, HB, HG, HE, HI⟩, H12, H11, H8, H14, HW0, HW1, HK⟩
  iapply (WP_seq c)
  iapply (wp_part66 A c σ.s1 σ.s2) $$ [HA HB]
  · isplitl [HA]; · iexact HA
    iexact HB
  iintro %a0 %a1 %a2 ⟨HA, HB⟩
  dsimp only
  ihave HMC' := (MC_issue A I c (g := 0) (a := 0) (b := 0) (by omega) (by omega) (by omega)) $$ HMC
  icases HMC' with ⟨HMS, HMC⟩
  iapply (WP_seq c)
  iapply (wp_part67 A I c _ _ _ σ.X σ.D σ.M) $$ [H2 H11 H3 H12 HR0 H4 H13 HMS]
  · isplitl [H2 H11 H3 H12]
    · unfold Rd
      rw [out_self, out_self]
      isplitl [H2]; · iexact H2
      isplitl [H11]; · iexact H11
      isplitl [H3]; · iexact H3
      iexact H12
    isplitl [HR0]; · iexact HR0
    isplitl [H4 H13]
    · unfold Mk
      rw [out_self, out_self]
      isplitl [H4]; · iexact H4
      iexact H13
    iexact HMS
  iintro %b0 %b1 %b2 ⟨HR, HF0, HM, HMF⟩
  dsimp only
  ihave HMC := HMC $$ HMF
  ihave HMC' := (MC_issue A I c (g := 0) (a := 0) (b := 0 + 1) (by omega) (by omega) (by omega)) $$ HMC
  icases HMC' with ⟨HMS, HMC⟩
  iapply (WP_seq c)
  iapply (wp_part68 A I c _ _ _ σ.X σ.D σ.M) $$ [HR HR1 HM HMS]
  · isplitl [HR]; · iexact HR
    isplitl [HR1]; · iexact HR1
    isplitl [HM]; · iexact HM
    iexact HMS
  iintro %c0 %c1 %c2 %c3 %c4 ⟨HR, HF1, HM, HMF⟩
  dsimp only
  ihave HMC := HMC $$ HMF
  iapply (WP_seq c)
  iapply (wp_part69 A I c _ _ _ _ _ σ.X σ.D) $$ [HR HR2]
  · isplitl [HR]; · iexact HR
    iexact HR2
  iintro ⟨HR, HF2⟩
  iapply (WP_seq c)
  iapply (wp_part70 A I c k0_pay312 k0_pay313 { σ with s1 := upd rSA k0_pay339 σ.s1, s2 := upd rSA k0_pay340 σ.s2 } σ.dg σ.db) $$ [HO HR HF0 HF1 HF2 HM HMC HA HB HI HG HE]
  · isplitl [HO]; · iexact HO
    isplitl [HR]; · iexact HR
    isplitl [HF0]; · iexact HF0
    isplitl [HF1]; · iexact HF1
    isplitl [HF2]; · iexact HF2
    isplitl [HM]; · iexact HM
    isplitl [HMC]; · iexact HMC
    isplitl [HA]; · iexact HA
    isplitl [HB]; · iexact HB
    isplitl [HI]; · iexact HI
    isplitl [HG]; · iexact HG
    iexact HE
  iintro %τ %hτ ⟨HJ, HI, HG, HE⟩
  dsimp only
  iapply (WP_seq c)
  iapply (wp_part71 A I c _ _ _ _ _ _ _ σ.dg σ.cf) $$ [HG HK HI]
  · isplitl [HG]; · iexact HG
    isplitl [HK]; · iexact HK
    iexact HI
  iintro %d0 ⟨HG, HK, HI⟩
  dsimp only
  unfold J
  icases HJ with ⟨HO, HR, HC0, HC1, HC2, HM, HMC, HA, HB⟩
  iapply (WP_seq c)
  iapply (wp_part72 A I c _ _ _ _ τ.s1 τ.s2 _ _ _) $$ [HA HB HK HG HE HI]
  · unfold Fs
    isplitr [HI]
    · isplitl [HA]; · iexact HA
      isplitl [HB]; · iexact HB
      isplitl [HK]; · iexact HK
      isplitl [HG]; · iexact HG
      iexact HE
    iexact HI
  iintro ⟨HF, HI⟩
  dsimp only
  unfold Fs
  icases HF with ⟨HA, HB, HK, HG, HE⟩
  have ecf : σ.cf = τ.cf := by rw [hτ, it1_cf]
  have edg : σ.dg = τ.dg := by rw [hτ, it1_dg]
  have edb : σ.db = τ.db := by rw [hτ, it1_db]
  have edx : σ.dx = τ.dx := by rw [hτ, it1_dx]
  have eO : σ.O = τ.O := by rw [hτ, it1_O]
  generalize hz : run I σ = ζ
  rw [run, ← hτ] at hz
  rw [ecf, edg, edb, edx, eO]
  iapply (WP_seq c)
  iapply (wp_part73 A I c _ _ _ _ _ _ _ { τ with
      cf := upd (rC 3) (k0_pay332 (sc I.ys) (at' (rR (2 * 0 + 1)) I.rstd) (at' (rR (2 * 0 + 1)) I.gam))
          (upd (rC 2) (k0_pay325 (k0_pay316 (at' (rR (2 * 0 + 0)) I.mean)) (k0_pay317 (at' (rR (2 * 0 + 0)) I.rstd)) (k0_pay318 (at' (rR (2 * 0 + 0)) I.gam)) (k0_pay319 (sc I.ys) (at' (rS' 0) τ.s1))
            (k0_pay320 (sc I.xs) (sc I.ys) (at' (rR (2 * 0 + 0)) I.mean) (at' (rR (2 * 0 + 0)) I.rstd) (at' (rS' 0) τ.s1) (at' (rS' 0) τ.s2)))
          (upd (rC 1) (k0_pay324 (sc I.xs) (k0_pay317 (at' (rR (2 * 0 + 0)) I.rstd)) (k0_pay318 (at' (rR (2 * 0 + 0)) I.gam))
            (k0_pay320 (sc I.xs) (sc I.ys) (at' (rR (2 * 0 + 0)) I.mean) (at' (rR (2 * 0 + 0)) I.rstd) (at' (rS' 0) τ.s1) (at' (rS' 0) τ.s2)))
          (upd (rC 0) (k0_pay323 (sc I.ys) (k0_pay317 (at' (rR (2 * 0 + 0)) I.rstd)) (k0_pay318 (at' (rR (2 * 0 + 0)) I.gam))) τ.cf)))
      dg := upd (rR (2 * 0 + 1)) (k0_pay329 (sc I.xs) (sc I.ys) (k0_pay326 (at' (rR (2 * 0 + 1)) I.mean)) (at' (rR (2 * 0 + 1)) I.rstd) (at' (rS' 1) τ.s1) (at' (rS' 1) τ.s2))
        (upd (rR (2 * 0 + 0)) (k0_pay320 (sc I.xs) (sc I.ys) (at' (rR (2 * 0 + 0)) I.mean) (at' (rR (2 * 0 + 0)) I.rstd) (at' (rS' 0) τ.s1) (at' (rS' 0) τ.s2)) τ.dg)
      db := upd (rR (2 * 0 + 1)) (k0_pay328 (sc I.ys) (at' (rS' 1) τ.s1)) (upd (rR (2 * 0 + 0)) (k0_pay319 (sc I.ys) (at' (rS' 0) τ.s1)) τ.db) })
    $$ [HO HR HC0 HC1 HC2 HM HMC HA HB HK HG HE HI H8 H14 HW0 HW1]
  · dsimp only
    isplitl [HO HR HC0 HC1 HC2 HM HMC HA HB]
    · unfold J
      dsimp only
      isplitl [HO]; · iexact HO
      isplitl [HR]; · iexact HR
      isplitl [HC0]; · iexact HC0
      isplitl [HC1]; · iexact HC1
      isplitl [HC2]; · iexact HC2
      isplitl [HM]; · iexact HM
      isplitl [HMC]; · iexact HMC
      isplitl [HA]; · iexact HA
      iexact HB
    isplitl [HK]; · iexact HK
    isplitl [HG]; · iexact HG
    isplitl [HE]; · iexact HE
    isplitl [HI]; · iexact HI
    isplitl [H8]; · iexact H8
    isplitl [H14]; · iexact H14
    isplitl [HW0]; · iexact HW0
    iexact HW1
  iintro %ρ %hρ ⟨HJ, HI⟩
  dsimp only at hρ
  rw [fin_start I τ] at hρ
  obtain rfl : ρ = ζ := hρ.trans hz
  unfold J5
  icases HJ with ⟨HO, H12, H11, HW, HC0, HC1, HK⟩
  rw [k0_part74_eq_skeleton]
  unfold k0_part74_skel
  dsimp only
  iapply (WP_seq c)
  iapply (WP_seq c)
  iapply (wp_waitW0 A c 222 ρ.dx ρ.O _ _ _ _ _ _ rfl) $$ [HC0 HO]
  · isplitl [HC0]; · iexact HC0
    iexact HO
  iintro ⟨HC0, HO⟩
  iapply (WP_seq c)
  iapply (wp_waitW1 A c (a := 222) (b := 224) (by omega) (by omega) ρ.dx ρ.O _ _ _ _ _ _ rfl) $$ [HC0 HO HW]
  · isplitl [HC0]; · iexact HC0
    isplitl [HO]; · iexact HO
    iexact HW
  iintro ⟨HW, HC0, HO⟩
  iapply (WP_pure c)
  iapply (WP_seq c)
  iapply (wp_waitW0 A c 223 ρ.dx ρ.O _ _ _ _ _ _ rfl) $$ [HC1 HO]
  · isplitl [HC1]; · iexact HC1
    iexact HO
  iintro ⟨HC1, HO⟩
  iapply (WP_seq c)
  iapply (wp_waitW1 A c (a := 222 + 1) (b := 224) (by omega) (by omega) ρ.dx ρ.O _ _ _ _ _ _ rfl) $$ [HC1 HO HW]
  · isplitl [HC1]; · iexact HC1
    isplitl [HO]; · iexact HO
    iexact HW
  iintro ⟨HW, HC1, HO⟩
  iapply (WP_pure c)
  unfold Idle Wr
  icases HW with ⟨H8, H14⟩
  isplitl [HO]; · iexact HO
  isplitl [HI]; · iexact HI
  isplitl [H12]; · iexact H12
  isplitl [H11]; · iexact H11
  isplitl [H8]
  · ihave H := (show own c A.a8 (out RW (222 + 1 + 1) 224) ρ.dx ⊢ own c A.a8 Finset.univ ρ.dx from by rw [out_self]) $$ H8
    iexact H
  isplitl [H14]
  · ihave H := (show own c A.a14 (out RY (222 + 1 + 1) 224) ρ.O ⊢ own c A.a14 Finset.univ ρ.O from by rw [out_self]) $$ H14
    iexact H
  isplitl [HC0]
  · rw [wsem_congr A (show 0 % 2 = 222 % 2 by omega)]
    iexact HC0
  isplitl [HC1]
  · rw [wsem_congr A (show 1 % 2 = (222 + 1) % 2 by omega)]
    iexact HC1
  iexact HK

end Cert.KernelIdeal.Hand

end
-- ==== Proof.IdealAgree.lean ====
/-
  What the kernel leaves does not depend on what its scratch held before.
-/
module

public import proofs.«01_k».proof.Proof.IdealWhole

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx

variable {F : FTy → Type} [FloatOps F]

variable (I : Ins F)

theorem upd_ag {α : Type} {s : Shape} (r : Rect s) (v : r.shape.Idx → α) {w w' : s.Idx → α} {i : s.Idx}
    (h : i ∉ r.set → w i = w' i) : upd r v w i = upd r v w' i := by
  by_cases hi : i ∈ r.set
  · rw [← Rect.map_emb_univ] at hi
    obtain ⟨x, -, rfl⟩ := Finset.mem_map.mp hi
    rw [upd_emb, upd_emb]
  · rw [upd_of_not_mem _ _ _ hi, upd_of_not_mem _ _ _ hi, h hi]

theorem at_ag {α : Type} {s : Shape} (r : Rect s) {w w' : s.Idx → α} (h : ∀ i ∈ r.set, w i = w' i) : at' r w = at' r w' :=
  funext fun x => h _ (by rw [← Rect.map_emb_univ]; exact Finset.mem_map_of_mem _ (Finset.mem_univ _))

theorem pw_ag {ι α : Type} [DecidableEq ι] (T : Finset ι) (v : ι → α) {w w' : ι → α} {i : ι} (h : i ∉ T → w i = w' i) :
    T.piecewise v w i = T.piecewise v w' i := by
  by_cases hi : i ∈ T
  · rw [Finset.piecewise_eq_of_mem _ _ _ hi, Finset.piecewise_eq_of_mem _ _ _ hi]
  · rw [Finset.piecewise_eq_of_notMem _ _ _ hi, Finset.piecewise_eq_of_notMem _ _ _ hi, h hi]

/-- The first `n` ring slots and `m` mask chunks, and the sums, are the same in both states. -/
structure Ag (n m : ℕ) (σ σ' : St F) : Prop where
  X : ∀ i, (i 0).val < n → σ.X i = σ'.X i
  D : ∀ i, (i 0).val < n → σ.D i = σ'.D i
  M : ∀ i, (i 0).val < m → σ.M i = σ'.M i
  s1 : σ.s1 = σ'.s1
  s2 : σ.s2 = σ'.s2

section Red

variable {n m i t u j : ℕ} (v2 lb : IVec S8x128 32) {M M' : BufM F} {D D' : BufD F} {X X' : BufX F}
  (ht : t % 31 < n) (hi : i % 28 < m) (hM : ∀ i, (i 0).val < m → M i = M' i) (hX : ∀ i, (i 0).val < n → X i = X' i)
include ht

theorem atT_ag {α : Type} {D D' : S31x1792x256.Idx → α} (hD : ∀ i, (i 0).val < n → D i = D' i) (q : ℕ) : at' (rT t q j) D = at' (rT t q j) D' :=
  at_ag _ fun x hx => hD x ((mem_rT.mp hx).1 ▸ ht)

include hi hM

theorem tile_ag (hD : ∀ i, (i 0).val < n → D i = D' i) (q : ℕ) : mdT v2 lb M i t q j D = mdT v2 lb M' i t q j D' := by
  have e1 := atT_ag (j := j) ht hD q
  have e2 : at' (rM i q) M = at' (rM i q) M' := at_ag _ fun x hx => hM x ((mem_rM.mp hx).1 ▸ hi)
  unfold mdT
  rw [e1, e2]

theorem tileD_ag (hD : ∀ i, (i 0).val < n → D i = D' i) (q : ℕ) :
    ∀ x, (x 0).val < n → tileD v2 lb M i t q j D x = tileD v2 lb M' i t q j D' x := by
  intro x hx
  have e1 := atT_ag (j := j) ht hD q
  have e2 : at' (rM i q) M = at' (rM i q) M' := at_ag _ fun x hx => hM x ((mem_rM.mp hx).1 ▸ hi)
  unfold tileD
  rw [e1, e2]
  exact upd_ag _ _ fun _ => hD x hx

theorem grpD_ag (hD : ∀ i, (i 0).val < n → D i = D' i) (k : ℕ) :
    ∀ x, (x 0).val < n → grpD v2 lb M i t u j D k x = grpD v2 lb M' i t u j D' k x := by
  induction k with
  | zero => exact hD
  | succ k ih => exact tileD_ag v2 lb ht hi hM ih _

theorem mdK_ag (hD : ∀ i, (i 0).val < n → D i = D' i) : mdK v2 lb M i t u j D = mdK v2 lb M' i t u j D' :=
  funext fun k => tile_ag v2 lb ht hi hM (grpD_ag v2 lb ht hi hM hD k) _

theorem grpS1_ag (hD : ∀ i, (i 0).val < n → D i = D' i) (S : BufS F) :
    grpS1 v2 lb M i t u j D S = grpS1 v2 lb M' i t u j D' S := by
  unfold grpS1
  rw [mdK_ag v2 lb ht hi hM hD]

include hX
theorem grpS2_ag (hD : ∀ i, (i 0).val < n → D i = D' i) (S : BufS F) :
    grpS2 v2 lb M X i t u j D S = grpS2 v2 lb M' X' i t u j D' S := by
  have e : (fun k : ℕ => at' (rT t (8 * u + k) j) X) = fun k : ℕ => at' (rT t (8 * u + k) j) X' :=
    funext fun k => atT_ag (j := j) ht hX _
  unfold grpS2
  rw [mdK_ag v2 lb ht hi hM hD, e]

end Red

section Red2

attribute [local irreducible] grpD grpO grpS1 grpS2

variable {n m : ℕ} {σ σ' : St F}

theorem redSt_ag (v2 la lb : IVec S8x128 32) {i t : ℕ} (u : ℕ) (ht : t % 31 < n) (hi : i % 28 < m) (h : Ag n m σ σ') :
    Ag n m (redSt v2 la lb i t u σ) (redSt v2 la lb i t u σ') := by
  have hD := grpD_ag (u := u) (j := 0) v2 la ht hi h.M h.D 8
  refine ⟨h.X, grpD_ag v2 lb ht hi h.M hD 8, h.M, ?_, ?_⟩
  · unfold redSt
    dsimp only
    rw [grpS1_ag v2 lb ht hi h.M hD, grpS1_ag v2 la ht hi h.M h.D, h.s1]
  · unfold redSt
    dsimp only
    rw [grpS2_ag v2 lb ht hi h.M h.X hD, grpS2_ag v2 la ht hi h.M h.X h.D, h.s2]

theorem redN_ag (v2 la lb : IVec S8x128 32) {i t : ℕ} (ht : t % 31 < n) (hi : i % 28 < m) (h : Ag n m σ σ') (k : ℕ) :
    Ag n m (redN v2 la lb i t σ k) (redN v2 la lb i t σ' k) := by
  induction k with
  | zero => exact h
  | succ k ih => exact redSt_ag v2 la lb k ht hi ih

theorem waitSt_ag {T : ℕ} (h : Ag (min T 31) m σ σ') : Ag (min (T + 1) 31) m (waitSt I T σ) (waitSt I T σ') := by
  refine ⟨fun i hi => pw_ag _ _ fun hn => h.X i ?_, fun i hi => pw_ag _ _ fun hn => h.D i ?_, h.M, h.s1, h.s2⟩ <;>
  · rw [mem_rX] at hn
    have := (i 0).isLt
    omega

theorem maskSt_ag {T : ℕ} (h : Ag n T σ σ') (hT : T < 28) : Ag n (T + 1) (maskSt I T σ) (maskSt I T σ') := by
  refine ⟨h.X, h.D, fun i hi => pw_ag _ _ fun hn => h.M i ?_, h.s1, h.s2⟩
  rw [mem_rK] at hn
  omega

theorem maskSt_ag' {T : ℕ} (h : Ag n 28 σ σ') : Ag n 28 (maskSt I T σ) (maskSt I T σ') :=
  ⟨h.X, h.D, fun i hi => pw_ag _ _ fun hn => h.M i hi, h.s1, h.s2⟩

attribute [local irreducible] redN

theorem it1_ag (v2 v4 : IVec S8x128 32) (h : Ag 0 0 σ σ') : ∀ k, k ≤ 28 → Ag (min k 31) k (it1 I v2 v4 σ k) (it1 I v2 v4 σ' k) := by
  intro k
  induction k with
  | zero => exact fun _ => h
  | succ k ih =>
    intro hk
    have a := maskSt_ag I (waitSt_ag I (ih (by omega))) (by omega)
    rw [it1, it1]
    unfold step1
    exact redN_ag v2 _ _ (by omega) (by omega) a 7

/-- The gradients' rows below `g`, the result's steps below `w`, and the output slots' elements `P` are the same in both states, and so are the coefficients. -/
structure Bg (g w : ℕ) (P : S2x2x1792x128.Idx → Prop) (σ σ' : St F) : Prop where
  cf : σ.cf = σ'.cf
  O : ∀ i, P i → σ.O i = σ'.O i
  dg : ∀ i, (i 0).val < g → σ.dg i = σ'.dg i
  db : ∀ i, (i 0).val < g → σ.db i = σ'.db i
  dx : ∀ t i, t < w → i ∈ RW t → σ.dx i = σ'.dx i

theorem grpO_ag {P : S2x2x1792x128.Idx → Prop} (a b e : FVec F S32x128 .f32) {D D' : BufD F} {X X' : BufX F} {t o u j : ℕ} {O O' : BufO F} (ht : t % 31 < n)
    (hD : ∀ i, (i 0).val < n → D i = D' i) (hX : ∀ i, (i 0).val < n → X i = X' i) (hO : ∀ i, P i → O i = O' i) (k : ℕ) :
    ∀ i, (P i ∨ ((i 0).val = o % 2 ∧ (i 1).val = j % 2 ∧ ∃ q, q < k ∧ (i 2).val / 32 = (8 * u + q) % 56)) →
      grpO a b e D X t o u j O k i = grpO a b e D' X' t o u j O' k i := by
  induction k with
  | zero =>
    rintro i (hi | ⟨_, _, q, hq, _⟩)
    · unfold grpO; exact hO i hi
    · omega
  | succ k ih =>
    intro i hi
    rw [grpO, grpO, atT_ag (j := j) ht hD, atT_ag (j := j) ht hX]
    refine upd_ag _ _ fun hn => ih i ?_
    rcases hi with hi | ⟨h0, h1, q, hq, h2⟩
    · exact Or.inl hi
    · refine Or.inr ⟨h0, h1, q, ?_, h2⟩
      rw [mem_rO] at hn
      rcases Nat.lt_succ_iff_lt_or_eq.mp hq with hq | rfl
      · exact hq
      · exact absurd ⟨h0, h1, h2⟩ hn

/-- The rows of the first `u` groups of output slot `t`. -/
abbrev Rows (t u : ℕ) (i : S2x2x1792x128.Idx) : Prop := (i 0).val = t % 2 ∧ (i 2).val / 32 < 8 * u

theorem outSt_ag {g w : ℕ} (k : Co F) {t u : ℕ} (ht : t % 31 < n) (hu : u < 7) (h : Ag n m σ σ') (hb : Bg g w (Rows t u) σ σ') :
    Bg g w (Rows t (u + 1)) (outSt k t u σ) (outSt k t u σ') := by
  refine ⟨hb.cf, ?_, hb.dg, hb.db, hb.dx⟩
  intro i hi
  unfold outSt
  dsimp only
  refine grpO_ag (n := n) k.a' k.b' k.e' ht h.D h.X (grpO_ag (n := n) k.a k.b k.e ht h.D h.X hb.O 8) 8 i ?_
  have h1 : (i 1).val < 2 := (i 1).isLt
  by_cases hl : (i 2).val / 32 < 8 * u
  · exact Or.inl (Or.inl ⟨hi.1, hl⟩)
  · have hi2 := hi.2
    have hq : ∃ q, q < 8 ∧ (i 2).val / 32 = (8 * u + q) % 56 := ⟨(i 2).val / 32 - 8 * u, by omega, by omega⟩
    rcases (by omega : (i 1).val = 0 ∨ (i 1).val = 1) with e | e
    · exact Or.inl (Or.inr ⟨hi.1, by omega, hq⟩)
    · exact Or.inr ⟨hi.1, by omega, hq⟩

theorem outSt_ag' (k : Co F) (t u : ℕ) (h : Ag n m σ σ') : Ag n m (outSt k t u σ) (outSt k t u σ') := ⟨h.X, h.D, h.M, h.s1, h.s2⟩
theorem redSt_ag' {g w : ℕ} {P : S2x2x1792x128.Idx → Prop} (v2 la lb : IVec S8x128 32) (i t u : ℕ) (h : Bg g w P σ σ') :
    Bg g w P (redSt v2 la lb i t u σ) (redSt v2 la lb i t u σ') := ⟨h.cf, h.O, h.dg, h.db, h.dx⟩

theorem Bg.weaken {g w : ℕ} {P P' : S2x2x1792x128.Idx → Prop} (h : Bg g w P σ σ') (hp : ∀ i, P' i → P i) : Bg g w P' σ σ' :=
  ⟨h.cf, fun i hi => h.O i (hp i hi), h.dg, h.db, h.dx⟩

theorem outRedN_ag {g w : ℕ} (k : Co F) (v2 la lb : IVec S8x128 32) {t : ℕ} (ht : t % 31 < n) (ht' : (t + 28) % 31 < n) (h : Ag n 28 σ σ')
    (hb : Bg g w (fun _ => False) σ σ') (u : ℕ) (hu : u ≤ 7) :
    Ag n 28 (outRedN k v2 la lb t σ u) (outRedN k v2 la lb t σ' u) ∧ Bg g w (Rows t u) (outRedN k v2 la lb t σ u) (outRedN k v2 la lb t σ' u) := by
  induction u with
  | zero => exact ⟨h, hb.weaken fun i hi => by have := hi.2; omega⟩
  | succ u ih =>
    obtain ⟨a, b⟩ := ih (by omega)
    exact ⟨redSt_ag v2 la lb u ht' (by omega) (outSt_ag' k t u a), redSt_ag' v2 la lb _ _ _ (outSt_ag k ht (by omega) a b)⟩

theorem outN_ag {g w : ℕ} (k : Co F) {t : ℕ} (ht : t % 31 < n) (h : Ag n m σ σ') (hb : Bg g w (fun _ => False) σ σ') (u : ℕ) (hu : u ≤ 7) :
    Ag n m (outN k t σ u) (outN k t σ' u) ∧ Bg g w (Rows t u) (outN k t σ u) (outN k t σ' u) := by
  induction u with
  | zero => exact ⟨h, hb.weaken fun i hi => by have := hi.2; omega⟩
  | succ u ih =>
    obtain ⟨a, b⟩ := ih (by omega)
    exact ⟨outSt_ag' k t u a, outSt_ag k ht (by omega) a b⟩

theorem dxW_ag {t : ℕ} {O O' : BufO F} (hO : ∀ i, Rows t 7 i → O i = O' i) {w w' : S50176x2048.Idx → Elt F .bf16} {i : S50176x2048.Idx}
    (h : i ∉ RW t → w i = w' i) : dxW t O w i = dxW t O' w' i := by
  have hs : ∀ h, O (srcW t h i) = O' (srcW t h i) := fun h => hO _ ⟨rfl, by show (i 0).val % 1792 / 32 < _; omega⟩
  by_cases h1 : i ∈ (rW t 1).set
  · rw [dxW, dxW, dxStep_in _ _ h1, dxStep_in _ _ h1, hs]
  · rw [dxW, dxW, dxStep_out _ _ h1, dxStep_out _ _ h1]
    by_cases h0 : i ∈ (rW t 0).set
    · rw [dxStep_in _ _ h0, dxStep_in _ _ h0, hs]
    · rw [dxStep_out _ _ h0, dxStep_out _ _ h0]
      exact h fun hu => (Finset.mem_union.mp hu).elim h0 h1

attribute [local irreducible] outN outRedN

theorem dx_ag' {O O' : BufO F} {w w' : S50176x2048.Idx → Elt F .bf16} {t t' : ℕ} (hO : ∀ i, Rows t 7 i → O i = O' i)
    (hw : ∀ t' i, t' < t → i ∈ RW t' → w i = w' i) (i : S50176x2048.Idx) (ht' : t' < t + 1) (hi : i ∈ RW t') :
    dxW t O w i = dxW t O' w' i := by
  by_cases hc : t' < t
  · exact dxW_ag hO fun _ => hw t' i hc hi
  · have e : t' = t := by omega
    rw [e] at hi
    exact dxW_ag hO fun hn => absurd hi hn

attribute [local irreducible] dxW

theorem dx_ag {g t : ℕ} (h : Bg g t (Rows t 7) σ σ') :
    Bg g (t + 1) (fun _ => False) { σ with dx := dxW t σ.O σ.dx } { σ' with dx := dxW t σ'.O σ'.dx } := by
  constructor
  · exact h.cf
  · exact fun _ hf => hf.elim
  · exact h.dg
  · exact h.db
  · have a := h.O
    have b := h.dx
    clear h
    intro t' i ht' hi
    have := dx_ag' (t' := t') a b i ht' hi
    dsimp only
    exact this

theorem mem_rR {k : ℕ} {i : S16x128.Idx} : i ∈ (rR k).set ↔ (i 0).val = k % 16 := by
  rw [Rect.mem_set_unit]
  constructor
  · intro h; have := h 0; simp at this; omega
  · intro h a
    have h1 : (i 1).val < 128 := (i 1).isLt
    fin_cases a <;> simp <;> omega
theorem mem_rC {k : ℕ} {i : S6x8x128.Idx} : i ∈ (rC k).set ↔ (i 0).val = k % 6 := by
  rw [Rect.mem_set_unit]
  constructor
  · intro h; have := h 0; simp at this; omega
  · intro h a
    have h1 : (i 1).val < 8 := (i 1).isLt
    have h2 : (i 2).val < 128 := (i 2).isLt
    fin_cases a <;> simp <;> omega
theorem mem_rSA {i : S2x8x128.Idx} : i ∈ rSA.set := by
  rw [Rect.mem_set_unit]
  intro a
  have h0 : (i 0).val < 2 := (i 0).isLt
  have h1 : (i 1).val < 8 := (i 1).isLt
  have h2 : (i 2).val < 128 := (i 2).isLt
  fin_cases a <;> simp <;> omega

theorem finCf_ag (k : ℕ) (s1 s2 : BufS F) (cf cf' : S6x8x128.Idx → Elt F .f32) : finCf I k s1 s2 cf = finCf I k s1 s2 cf' := by
  funext i
  unfold finCf
  refine upd_ag _ _ fun h5 => upd_ag _ _ fun h4 => upd_ag _ _ fun h3 => upd_ag _ _ fun h2 => upd_ag _ _ fun h1 => upd_ag _ _ fun h0 => ?_
  rw [mem_rC] at h0 h1 h2 h3 h4 h5
  have h : (i 0).val < 6 := (i 0).isLt
  omega

theorem fin_ag {w k : ℕ} {P : S2x2x1792x128.Idx → Prop} (h : Ag n m σ σ') (hO : ∀ i, P i → σ.O i = σ'.O i)
    (hg : ∀ i, (i 0).val < 2 * k → σ.dg i = σ'.dg i) (hb : ∀ i, (i 0).val < 2 * k → σ.db i = σ'.db i)
    (hx : ∀ t i, t < w → i ∈ RW t → σ.dx i = σ'.dx i) :
    Ag n m (fin I k σ) (fin I k σ') ∧ Bg (2 * (k + 1)) w P (fin I k σ) (fin I k σ') := by
  refine ⟨⟨h.X, h.D, h.M, funext fun i => upd_ag _ _ fun hn => absurd mem_rSA hn, funext fun i => upd_ag _ _ fun hn => absurd mem_rSA hn⟩, ?_, hO, ?_, ?_, hx⟩
  · show finCf I k σ.s1 σ.s2 σ.cf = finCf I k σ'.s1 σ'.s2 σ'.cf
    rw [h.s1, h.s2]
    exact finCf_ag ..
  · intro i hi
    show finDg I k σ.s1 σ.s2 σ.dg i = finDg I k σ'.s1 σ'.s2 σ'.dg i
    rw [h.s1, h.s2]
    unfold finDg
    refine upd_ag _ _ fun h1 => upd_ag _ _ fun h0 => hg i ?_
    rw [mem_rR] at h0 h1
    have h : (i 0).val < 16 := (i 0).isLt
    omega
  · intro i hi
    show finDb I k σ.s1 σ.db i = finDb I k σ'.s1 σ'.db i
    rw [h.s1]
    unfold finDb
    refine upd_ag _ _ fun h1 => upd_ag _ _ fun h0 => hb i ?_
    rw [mem_rR] at h0 h1
    have h : (i 0).val < 16 := (i 0).isLt
    omega

attribute [local irreducible] fin it1

theorem mst_ag (t : ℕ) (h : Ag n 28 σ σ') : Ag n 28 (mst I t σ) (mst I t σ') := by
  unfold mst
  split
  · exact maskSt_ag' I h
  · exact h
theorem mst_ag' {g w : ℕ} {P : S2x2x1792x128.Idx → Prop} (t : ℕ) (h : Bg g w P σ σ') : Bg g w P (mst I t σ) (mst I t σ') := by
  unfold mst
  split
  · exact ⟨h.cf, h.O, h.dg, h.db, h.dx⟩
  · exact h

theorem step3_ag (v2 v4 : IVec S8x128 32) {t : ℕ} (h : Ag (min (t + 28) 31) 28 σ σ') (hb : Bg (2 * (t / 28 + 1)) t (fun _ => False) σ σ') :
    Ag (min (t + 1 + 28) 31) 28 (step3 I v2 v4 t σ) (step3 I v2 v4 t σ')
      ∧ Bg (2 * ((t + 1) / 28 + 1)) (t + 1) (fun _ => False) (step3 I v2 v4 t σ) (step3 I v2 v4 t σ') := by
  have a := mst_ag I t (waitSt_ag I h)
  have b : Bg (2 * (t / 28 + 1)) t (fun _ => False) (mst I t (waitSt I (t + 28) σ)) (mst I t (waitSt I (t + 28) σ')) :=
    mst_ag' I t ⟨hb.cf, hb.O, hb.dg, hb.db, hb.dx⟩
  have r := outRedN_ag (co3 σ.cf) v2 (k0_pay274 v4 (cnOf t)) (k0_pay275 v4 (cnOf t)) (t := t) (by omega) (by omega) a b 7 le_rfl
  have r1 : Ag (min (t + 1 + 28) 31) 28 (mid3 I v2 v4 t σ) (mid3 I v2 v4 t σ') := by
    unfold mid3; rw [← hb.cf, show t + 1 + 28 = t + 28 + 1 by omega]; exact r.1
  have r2 : Bg (2 * (t / 28 + 1)) t (Rows t 7) (mid3 I v2 v4 t σ) (mid3 I v2 v4 t σ') := by
    unfold mid3; rw [← hb.cf]; exact r.2
  have x : Bg (2 * (t / 28 + 1)) (t + 1) (fun _ => False) (wr3 I v2 v4 t σ) (wr3 I v2 v4 t σ') := by
    have y := dx_ag r2
    unfold wr3
    rw [show σ.dx = (mid3 I v2 v4 t σ).dx by unfold mid3; rw [outRedN_dx, mst_dx]; rfl,
      show σ'.dx = (mid3 I v2 v4 t σ').dx by unfold mid3; rw [outRedN_dx, mst_dx]; rfl]
    exact y
  have x1 : Ag (min (t + 1 + 28) 31) 28 (wr3 I v2 v4 t σ) (wr3 I v2 v4 t σ') := by
    unfold wr3
    generalize mid3 I v2 v4 t σ = p at r1 ⊢
    generalize mid3 I v2 v4 t σ' = p' at r1 ⊢
    exact ⟨r1.X, r1.D, r1.M, r1.s1, r1.s2⟩
  unfold step3
  split
  · have f := fin_ag I (k := t / 28 + 1) x1 x.O x.dg x.db x.dx
    rw [show (t + 1) / 28 + 1 = t / 28 + 1 + 1 by omega]
    exact f
  · rw [show (t + 1) / 28 + 1 = t / 28 + 1 by omega]
    exact ⟨x1, x⟩

theorem it3_ag (v2 v4 : IVec S8x128 32) (h : Ag 28 28 σ σ') (hb : Bg 2 0 (fun _ => False) σ σ') (t : ℕ) :
    Ag (min (t + 28) 31) 28 (it3 I v2 v4 σ t) (it3 I v2 v4 σ' t) ∧ Bg (2 * (t / 28 + 1)) t (fun _ => False) (it3 I v2 v4 σ t) (it3 I v2 v4 σ' t) := by
  induction t with
  | zero => exact ⟨h, hb⟩
  | succ t ih => rw [it3, it3]; exact step3_ag I v2 v4 ih.1 ih.2

theorem it5_ag {g : ℕ} (h : Ag 31 28 σ σ') (hb : Bg g 196 (fun _ => False) σ σ') (t : ℕ) :
    Ag 31 28 (it5 σ t) (it5 σ' t) ∧ Bg g (t + 196) (fun _ => False) (it5 σ t) (it5 σ' t) := by
  induction t with
  | zero => exact ⟨h, hb⟩
  | succ t ih =>
    obtain ⟨a, b⟩ := ih
    rw [it5, it5]
    generalize it5 σ t = τ at a b ⊢
    generalize it5 σ' t = τ' at a b ⊢
    have r := outN_ag (co5 τ.cf) (t := t + 196) (by omega) a b 7 le_rfl
    have y := dx_ag r.2
    unfold step5
    rw [← b.cf]
    refine ⟨⟨r.1.X, r.1.D, r.1.M, r.1.s1, r.1.s2⟩, ?_⟩
    rw [outN_dx, outN_dx] at y
    rw [show t + 1 + 196 = t + 196 + 1 by omega]
    exact y

attribute [local irreducible] it3 it5

/-- The kernel's results from any scratch are those from any other. -/
theorem run_ag (σ σ' : St F) : (run I σ).dg = (run I σ').dg ∧ (run I σ).db = (run I σ').db ∧ (run I σ).dx = (run I σ').dx := by
  unfold run
  have a0 : Ag 0 0 { σ with s1 := upd rSA k0_pay339 σ.s1, s2 := upd rSA k0_pay340 σ.s2 } { σ' with s1 := upd rSA k0_pay339 σ'.s1, s2 := upd rSA k0_pay340 σ'.s2 } :=
    ⟨fun i hi => absurd hi (Nat.not_lt_zero _), fun i hi => absurd hi (Nat.not_lt_zero _), fun i hi => absurd hi (Nat.not_lt_zero _),
      funext fun i => upd_ag _ _ fun hn => absurd mem_rSA hn, funext fun i => upd_ag _ _ fun hn => absurd mem_rSA hn⟩
  have a1 := it1_ag I k0_pay312 k0_pay313 a0 28 le_rfl
  have a2 := fin_ag (w := 0) (k := 0) (P := fun _ => False) I a1 (fun _ h => h.elim) (fun _ h => absurd h (Nat.not_lt_zero _)) (fun _ h => absurd h (Nat.not_lt_zero _))
    (fun _ _ h => absurd h (Nat.not_lt_zero _))
  have a3 := it3_ag I k0_pay312 k0_pay313 a2.1 a2.2 196
  have a4 := (it5_ag a3.1 a3.2 28).2
  refine ⟨funext fun i => a4.dg i (i 0).isLt, funext fun i => a4.db i (i 0).isLt, funext fun i => ?_⟩
  have h0 : (i 0).val < 50176 := (i 0).isLt
  have h1 : (i 1).val < 2048 := (i 1).isLt
  refine a4.dx (28 * ((i 1).val / 256) + (i 0).val / 1792) i (by omega) ?_
  simp only [Finset.mem_union, mem_rW]
  omega

end Red2

end Cert.KernelIdeal.Hand
-- ==== Proof.IdealRun.lean ====
/-
  The whole program: what its run leaves, and that its arguments end as they were.
-/
module

public import proofs.«01_k».proof.Proof.IdealAgree
public import proofs.«01_k».proof.Proof.Gen.KernelIdeal.Frame
public import Idealize.ShloMosaic.Lib.Pipeline.FrameSuffixV

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg) (c : Dev nD)

attribute [local irreducible] run it1 it3 it5 fin redN outN outRedN grpD grpO grpS1 grpS2

/-! ## Ownership of whole operands -/

theorem own_of_owns {sp : Space} {s : Shape} {e : EltTy} (M : Memref sig .tc sp s e) (w : s.Idx → Elt F e) :
    (owns (c : Thread nD τ) M fullShare w : sProp 𝕄) ⊢ own c M Finset.univ w := by
  unfold owns own
  iintro ⟨%f, %hf, H⟩
  iexists f; isplitr
  · ipureintro; exact fun x _ => congrFun hf x
  iexact H
theorem owns_of_own {sp : Space} {s : Shape} {e : EltTy} (M : Memref sig .tc sp s e) (w : s.Idx → Elt F e) :
    (own c M Finset.univ w : sProp 𝕄) ⊢ owns (c : Thread nD τ) M fullShare w := by
  unfold owns own
  iintro ⟨%f, %hf, H⟩
  iexists f; isplitr
  · ipureintro; exact funext fun x => hf x (Finset.mem_univ x)
  iexact H
theorem own_of_pt (b : Ref sig .tc) (w : b.ty.Contents (Elt F)) :
    (((c : Thread nD τ).loc b) ↦{fullShare} w : sProp 𝕄) ⊢ own c (Memref.whole b) Finset.univ w := by
  rw [← owns_whole]; exact own_of_owns c _ _
theorem pt_of_own (b : Ref sig .tc) (w : b.ty.Contents (Elt F)) :
    (own c (Memref.whole b) Finset.univ w : sProp 𝕄) ⊢ ((c : Thread nD τ).loc b) ↦{fullShare} w := by
  rw [← owns_whole]; exact owns_of_own c _ _

/-! ## The kernel's operands and cells -/

/-- The operands the pipeline calls the kernel with. -/
def AA (t : Fin cfg0.N) : Args where
  a0 := win0_0.stage (cfg0.slots t 0)
  h0 := hstage0_0 0
  a1 := win0_1.stage (cfg0.slots t 1)
  h1 := hstage0_1 0
  a2 := Memref.whole main_v5
  h2 := Memref.isWhole_whole _
  a3 := Memref.whole main_v7
  h3 := Memref.isWhole_whole _
  a4 := Memref.whole main_v9
  h4 := Memref.isWhole_whole _
  a5 := win0_2.stage (cfg0.slots t 2)
  h5 := hstage0_2 0
  a6 := win0_3.stage (cfg0.slots t 3)
  h6 := hstage0_3 0
  a7 := win0_4.stage (cfg0.slots t 4)
  h7 := hstage0_4 0
  a8 := Memref.whole main_v13_0
  h8 := Memref.isWhole_whole _
  a9 := win0_5.stage (cfg0.slots t 5)
  h9 := hstage0_5 0
  a10 := win0_6.stage (cfg0.slots t 6)
  h10 := hstage0_6 0
  a11 := Memref.whole cc0_scratch0
  h11 := Memref.isWhole_whole _
  a12 := Memref.whole cc0_scratch1
  h12 := Memref.isWhole_whole _
  a13 := Memref.whole cc0_scratch2
  h13 := Memref.isWhole_whole _
  a14 := Memref.whole cc0_scratch3
  h14 := Memref.isWhole_whole _
  a15 := Memref.whole cc0_scratch4
  h15 := Memref.isWhole_whole _
  a16 := Memref.whole cc0_scratch5
  h16 := Memref.isWhole_whole _
  a17 := Memref.whole cc0_scratch6
  h17 := Memref.isWhole_whole _
  a18 := cc0_scratch7
  a19 := cc0_scratch8
  a20 := cc0_scratch9
  credit := by decide

/-- The kernel's cells: of the reads, of the mask's reads, of the writes. -/
abbrev osem0 : Fin 3 ⊕ (Fin 28 ⊕ Fin 2) → SemLoc sig :=
  Sum.elim (fun j => .dma ⟨7 + j.val, by have := j.isLt; show _ < 40; omega⟩)
    (Sum.elim (fun j => .dma ⟨10 + j.val, by have := j.isLt; show _ < 40; omega⟩) (fun j => .dma ⟨38 + j.val, by have := j.isLt; show _ < 40; omega⟩))
theorem ownSemFacts0 : Pipeline.OwnSemFacts spec0 osem0 := by decide +kernel

theorem rsem_eq (t : Fin cfg0.N) : ∀ j : Fin 3, rsem (AA t) j.val = ⟨7 + j.val, by have := j.isLt; show _ < 40; omega⟩ := fun j => by fin_cases j <;> rfl
theorem msem_eq (t : Fin cfg0.N) : ∀ j : Fin 28, msem (AA t) (0 + j.val) = ⟨10 + j.val, by have := j.isLt; show _ < 40; omega⟩ := fun j => by fin_cases j <;> rfl
theorem wsem_eq (t : Fin cfg0.N) : ∀ j : Fin 2, wsem (AA t) j.val = ⟨38 + j.val, by have := j.isLt; show _ < 40; omega⟩ := fun j => by fin_cases j <;> rfl

theorem ownSems0_eq (I : Ins F) (t : Fin cfg0.N) :
    (Pipeline.ownSems0 (Ix := Unit) (Name := ℕ) (U := Pipeline.UD sig nD τ) (Lvl := ℕ) (Val := Elt F) (τ := τ) osem0 c : sProp 𝕄)
      = iprop((semVal ((c : Thread nD τ), .dma (rsem (AA t) 0)) 0 ∗ semVal ((c : Thread nD τ), .dma (rsem (AA t) 1)) 0 ∗ semVal ((c : Thread nD τ), .dma (rsem (AA t) 2)) 0)
          ∗ MC (AA t) I c 0 0 0 ∗ semVal ((c : Thread nD τ), .dma (wsem (AA t) 0)) 0 ∗ semVal ((c : Thread nD τ), .dma (wsem (AA t) 1)) 0) := by
  unfold Pipeline.ownSems0 MC
  rw [bigSep_univ_sum, bigSep_univ_sum]
  have e1 : (fun j : Fin 28 => mcell (AA t) I c 0 0 (0 + j.val)) = fun j : Fin 28 => semVal ((c : Thread nD τ), .dma (⟨10 + j.val, by have := j.isLt; show _ < 40; omega⟩ : DmaSem sig)) 0 := by
    funext j
    unfold mcell
    rw [if_neg (by omega), msem_eq]
  have e2 := rsem_eq t 0
  have e3 := rsem_eq t 1
  have e4 := rsem_eq t 2
  have e5 := wsem_eq t 0
  have e6 := wsem_eq t 1
  rw [e1, show rsem (AA t) 0 = _ from e2, show rsem (AA t) 1 = _ from e3, show rsem (AA t) 2 = _ from e4, show wsem (AA t) 0 = _ from e5, show wsem (AA t) 1 = _ from e6]
  rw [bigSep_univ_eq_bigSepL [(0 : Fin 3), 1, 2] (by decide) (by decide), bigSep_univ_eq_bigSepL [(0 : Fin 2), 1] (by decide) (by decide)]
  rfl

/-! ## What the kernel is given and leaves -/

/-- What the kernel's operands hold. -/
def II : Ins F where
  xs := iblk m c 0 t0_0
  ys := iblk m c 1 t0_0
  x := V m c main_v5
  y := V m c main_v7
  km := V m c main_v9
  mean := iblk m c 2 t0_0
  rstd := iblk m c 3 t0_0
  gam := iblk m c 4 t0_0

/-- Some contents of the scratch and the results. -/
def σ₀ : St F where
  X := V m c cc0_scratch0
  D := V m c cc0_scratch1
  M := V m c cc0_scratch2
  O := V m c cc0_scratch3
  s1 := V m c cc0_scratch4
  s2 := V m c cc0_scratch5
  cf := V m c cc0_scratch6
  dg := V m c main_v13_1
  db := V m c main_v13_2
  dx := V m c main_v13_0

/-- What the kernel leaves, from that scratch. -/
def fs : St F := run (II m c) (σ₀ m c)

/-- The operands the kernel reads itself. -/
def H0 : Finset (Ref sig .tc) := {main_v5, main_v7, main_v9}
/-- The result the kernel writes itself. -/
def R0 : Finset (Ref sig .tc) := {main_v13_0}
theorem H0_sub : H0 ⊆ Pipeline.restRefs sig spec0 := by decide
theorem R0_sub : R0 ⊆ Pipeline.restRefs sig spec0 \ H0 := by decide

/-- The arrays after the kernel. -/
def GG (c : Dev nD) : (b : Ref sig .tc) → Buf (Elt F) ((c : Thread nD τ).loc b) := Function.update (V m c) main_v13_0 (fs m c).dx

theorem hmain (𝒱₀ : Variants) : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- What is held between the kernel's start and its end. -/
abbrev PhiV (G : (c : Dev nD) → (b : Ref sig .tc) → Buf (Elt F) ((c : Thread nD τ).loc b)) : sProp 𝕄 :=
  Pipeline.ΦDRV osem0 spec0 H0 R0 (V m) G c

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (fs m c).dg
    | ⟨6, _⟩ => (fs m c).db
  Φ k := if k.val = 0 then PhiV m c (V m) else PhiV m c (GG m)
  q _ := fullShare
  owed _ := 0

theorem A_eq (c : Dev nD) (w : Fin cfg0.W) : (dats m 0 c).A w = V m c (Pipeline.arrRef spec0 w) := by
  dsimp only [dats]

theorem PhiV_eq (G : (c : Dev nD) → (b : Ref sig .tc) → Buf (Elt F) ((c : Thread nD τ).loc b)) (I : Ins F) (t : Fin cfg0.N) :
    PhiV m c G = iprop(((∃ f : BufX F, ((c : Thread nD τ).loc cc0_scratch0) ↦{fullShare} f) ∗ (∃ f : BufD F, ((c : Thread nD τ).loc cc0_scratch1) ↦{fullShare} f)
        ∗ (∃ f : BufM F, ((c : Thread nD τ).loc cc0_scratch2) ↦{fullShare} f) ∗ (∃ f : BufO F, ((c : Thread nD τ).loc cc0_scratch3) ↦{fullShare} f)
        ∗ (∃ f : BufS F, ((c : Thread nD τ).loc cc0_scratch4) ↦{fullShare} f) ∗ (∃ f : BufS F, ((c : Thread nD τ).loc cc0_scratch5) ↦{fullShare} f)
        ∗ (∃ f : S6x8x128.Idx → Elt F .f32, ((c : Thread nD τ).loc cc0_scratch6) ↦{fullShare} f))
      ∗ ((semVal ((c : Thread nD τ), .dma (rsem (AA t) 0)) 0 ∗ semVal ((c : Thread nD τ), .dma (rsem (AA t) 1)) 0 ∗ semVal ((c : Thread nD τ), .dma (rsem (AA t) 2)) 0)
          ∗ MC (AA t) I c 0 0 0 ∗ semVal ((c : Thread nD τ), .dma (wsem (AA t) 0)) 0 ∗ semVal ((c : Thread nD τ), .dma (wsem (AA t) 1)) 0)
      ∗ ((((c : Thread nD τ).loc main_v5) ↦{fullShare} V m c main_v5) ∗ (((c : Thread nD τ).loc main_v7) ↦{fullShare} V m c main_v7) ∗ (((c : Thread nD τ).loc main_v9) ↦{fullShare} V m c main_v9))
      ∗ (((c : Thread nD τ).loc main_v13_0) ↦{fullShare} G c main_v13_0)) := by
  unfold PhiV Pipeline.ΦDRV
  rw [scopedRest0_eq, ownSems0_eq c I t, show H0 = {main_v5, main_v7, main_v9} from rfl, show R0 = {main_v13_0} from rfl, bigSep_singleton,
    BI.bigSep_eq_bigSepL_of_eq [main_v5, main_v7, main_v9] (by decide) (by decide)]
  rfl

abbrev ms0 (t : Fin cfg0.N) := win0_0.stage (cfg0.slots t 0)
abbrev ms1 (t : Fin cfg0.N) := win0_1.stage (cfg0.slots t 1)
abbrev ms2 (t : Fin cfg0.N) := win0_2.stage (cfg0.slots t 2)
abbrev ms3 (t : Fin cfg0.N) := win0_3.stage (cfg0.slots t 3)
abbrev ms4 (t : Fin cfg0.N) := win0_4.stage (cfg0.slots t 4)
abbrev ms5 (t : Fin cfg0.N) := win0_5.stage (cfg0.slots t 5)
abbrev ms6 (t : Fin cfg0.N) := win0_6.stage (cfg0.slots t 6)

theorem before_0 (t : Fin cfg0.N) (d) : (dats m 0 c).before 0 t d = iblk m c 0 t :=
  ((dats m 0 c).before_in_eq_fetched 0 rfl (fun _ => rfl) (fun _ _ _ => rfl) (fun t => rfl) t d).trans rfl
theorem before_1 (t : Fin cfg0.N) (d) : (dats m 0 c).before 1 t d = iblk m c 1 t :=
  ((dats m 0 c).before_in_eq_fetched 1 rfl (fun _ => rfl) (fun _ _ _ => rfl) (fun t => rfl) t d).trans rfl
theorem before_2 (t : Fin cfg0.N) (d) : (dats m 0 c).before 2 t d = iblk m c 2 t :=
  ((dats m 0 c).before_in_eq_fetched 2 rfl (fun _ => rfl) (fun _ _ _ => rfl) (fun t => rfl) t d).trans rfl
theorem before_3 (t : Fin cfg0.N) (d) : (dats m 0 c).before 3 t d = iblk m c 3 t :=
  ((dats m 0 c).before_in_eq_fetched 3 rfl (fun _ => rfl) (fun _ _ _ => rfl) (fun t => rfl) t d).trans rfl
theorem before_4 (t : Fin cfg0.N) (d) : (dats m 0 c).before 4 t d = iblk m c 4 t :=
  ((dats m 0 c).before_in_eq_fetched 4 rfl (fun _ => rfl) (fun _ _ _ => rfl) (fun t => rfl) t d).trans rfl

def bodyPre (t : Fin cfg0.N) : sProp 𝕄 :=
  iprop((dats m 0 c).Φ t.castSucc ∗ (dats m 0 c).owesAt () t.castSucc
    ∗ (∃ d, owns (c : Thread nD τ) (ms0 t) fullShare ((dats m 0 c).before 0 t d)) ∗ (∃ d, owns (c : Thread nD τ) (ms1 t) fullShare ((dats m 0 c).before 1 t d))
    ∗ (∃ d, owns (c : Thread nD τ) (ms2 t) fullShare ((dats m 0 c).before 2 t d)) ∗ (∃ d, owns (c : Thread nD τ) (ms3 t) fullShare ((dats m 0 c).before 3 t d))
    ∗ (∃ d, owns (c : Thread nD τ) (ms4 t) fullShare ((dats m 0 c).before 4 t d)) ∗ (∃ d, owns (c : Thread nD τ) (ms5 t) fullShare ((dats m 0 c).before 5 t d))
    ∗ (∃ d, owns (c : Thread nD τ) (ms6 t) fullShare ((dats m 0 c).before 6 t d)))
def bodyPost (t : Fin cfg0.N) : sProp 𝕄 :=
  iprop((dats m 0 c).Φ t.succ ∗ (dats m 0 c).owesAt () t.succ
    ∗ owns (c : Thread nD τ) (ms0 t) fullShare ((dats m 0 c).after 0 t) ∗ owns (c : Thread nD τ) (ms1 t) fullShare ((dats m 0 c).after 1 t)
    ∗ owns (c : Thread nD τ) (ms2 t) fullShare ((dats m 0 c).after 2 t) ∗ owns (c : Thread nD τ) (ms3 t) fullShare ((dats m 0 c).after 3 t)
    ∗ owns (c : Thread nD τ) (ms4 t) fullShare ((dats m 0 c).after 4 t) ∗ owns (c : Thread nD τ) (ms5 t) fullShare ((dats m 0 c).after 5 t)
    ∗ owns (c : Thread nD τ) (ms6 t) fullShare ((dats m 0 c).after 6 t))

theorem sound_body (t : Fin cfg0.N) :
    bodyPre m c t ⊢ wp frame (wpE (defs₀ (F := F)) Variants.none c none) Set.univ (bodyAt0 t) (fun _ => bodyPost m c t) := by
  obtain rfl := fin_N0 t
  unfold bodyPre bodyPost bodyAt0
  rw [show (dats m 0 c).Φ t0_0.castSucc = PhiV m c (V m) from rfl, show (dats m 0 c).Φ t0_0.succ = PhiV m c (GG m) from rfl,
    PhiV_eq m c (V m) (II m c) t0_0, PhiV_eq m c (GG m) (II m c) t0_0]
  unfold Dat.owesAt Pipeline.owesWithin
  rw [show (dats m 0 c).owed t0_0.castSucc = 0 from rfl, show (dats m 0 c).owed t0_0.succ = 0 from rfl]
  simp only [before_0, before_1, before_2, before_3, before_4]
  iintro ⟨⟨⟨⟨%X, H11⟩, ⟨%D, H12⟩, ⟨%M, H13⟩, ⟨%O, H14⟩, ⟨%s1, H15⟩, ⟨%s2, H16⟩, ⟨%cf, H17⟩⟩, ⟨⟨R0, R1, R2⟩, HM, W0, W1⟩, ⟨H2, H3, H4⟩, H8⟩, ⟨%W, -, HW⟩,
    ⟨%d0, H0⟩, ⟨%d1, H1⟩, ⟨%d2, H5⟩, ⟨%d3, H6⟩, ⟨%d4, H7⟩, ⟨%d5, H9⟩, ⟨%d6, H10⟩⟩
  have ag := run_ag (II m c) ⟨X, D, M, O, s1, s2, cf, (dats m 0 c).before 5 t0_0 d5, (dats m 0 c).before 6 t0_0 d6, V m c main_v13_0⟩ (σ₀ m c)
  iapply (wp_cut c _ _) $$ [H11 H12 H13 H14 H15 H16 H17 R0 R1 R2 HM W0 W1 H2 H3 H4 H8 HW H0 H1 H5 H6 H7 H9 H10]
  · iapply (wp_kernel (AA t0_0) (II m c) c ⟨X, D, M, O, s1, s2, cf, (dats m 0 c).before 5 t0_0 d5, (dats m 0 c).before 6 t0_0 d6, V m c main_v13_0⟩)
    unfold Res Idle Inp owing
    dsimp only
    isplitl [HW]; · iexists W; iexact HW
    isplitl [H2 H3 H4 H13 R0 R1 R2 HM H15 H16 H9 H10 H0 H1 H5 H6 H7]
    · isplitl [H2]; · iapply (own_of_pt c main_v5 _); iexact H2
      isplitl [H3]; · iapply (own_of_pt c main_v7 _); iexact H3
      isplitl [H4]; · iapply (own_of_pt c main_v9 _); iexact H4
      isplitl [H13]; · iapply (own_of_pt c cc0_scratch2 _); iexact H13
      isplitl [R0]; · iexact R0
      isplitl [R1]; · iexact R1
      isplitl [R2]; · iexact R2
      isplitl [HM]; · iexact HM
      isplitl [H15]; · iapply (own_of_pt c cc0_scratch4 _); iexact H15
      isplitl [H16]; · iapply (own_of_pt c cc0_scratch5 _); iexact H16
      isplitl [H9]; · iapply (own_of_owns c (ms5 t0_0) _); iexact H9
      isplitl [H10]; · iapply (own_of_owns c (ms6 t0_0) _); iexact H10
      isplitl [H0]; · iapply (own_of_owns c (ms0 t0_0) _); iexact H0
      isplitl [H1]; · iapply (own_of_owns c (ms1 t0_0) _); iexact H1
      isplitl [H5]; · iapply (own_of_owns c (ms2 t0_0) _); iexact H5
      isplitl [H6]; · iapply (own_of_owns c (ms3 t0_0) _); iexact H6
      iapply (own_of_owns c (ms4 t0_0) _); iexact H7
    isplitl [H12]; · iapply (own_of_pt c cc0_scratch1 _); iexact H12
    isplitl [H11]; · iapply (own_of_pt c cc0_scratch0 _); iexact H11
    isplitl [H8]; · iapply (own_of_pt c main_v13_0 _); iexact H8
    isplitl [H14]; · iapply (own_of_pt c cc0_scratch3 _); iexact H14
    isplitl [W0]; · iexact W0
    isplitl [W1]; · iexact W1
    iapply (own_of_pt c cc0_scratch6 _); iexact H17
  iintro %r HR
  have eg : (dats m 0 c).after 5 t0_0 = (fs m c).dg := rfl
  have eb : (dats m 0 c).after 6 t0_0 = (fs m c).db := rfl
  have ex : GG m c main_v13_0 = (fs m c).dx := by unfold GG; exact Function.update_self ..
  rw [eg, eb, ex]
  unfold fs
  rw [← ag.1, ← ag.2.1, ← ag.2.2]
  generalize run (II m c) ⟨X, D, M, O, s1, s2, cf, (dats m 0 c).before 5 t0_0 d5, (dats m 0 c).before 6 t0_0 d6, V m c main_v13_0⟩ = σ
  unfold Res Idle Inp owing
  icases HR with ⟨⟨%W', HW⟩, ⟨H2, H3, H4, H13, R0, R1, R2, HM, H15, H16, H9, H10, H0, H1, H5, H6, H7⟩, H12, H11, H8, H14, W0, W1, H17⟩
  isplitl [H2 H3 H4 H13 R0 R1 R2 HM H15 H16 H12 H11 H8 H14 W0 W1 H17]
  · isplitl [H11 H12 H13 H14 H15 H16 H17]
    · isplitl [H11]; · iexists _; iapply (pt_of_own c cc0_scratch0 _); iexact H11
      isplitl [H12]; · iexists _; iapply (pt_of_own c cc0_scratch1 _); iexact H12
      isplitl [H13]; · iexists _; iapply (pt_of_own c cc0_scratch2 _); iexact H13
      isplitl [H14]; · iexists _; iapply (pt_of_own c cc0_scratch3 _); iexact H14
      isplitl [H15]; · iexists _; iapply (pt_of_own c cc0_scratch4 _); iexact H15
      isplitl [H16]; · iexists _; iapply (pt_of_own c cc0_scratch5 _); iexact H16
      iexists _; iapply (pt_of_own c cc0_scratch6 _); iexact H17
    isplitl [R0 R1 R2 HM W0 W1]
    · isplitl [R0 R1 R2]
      · isplitl [R0]; · iexact R0
        isplitl [R1]; · iexact R1
        iexact R2
      isplitl [HM]; · iexact HM
      isplitl [W0]; · iexact W0
      iexact W1
    isplitl [H2 H3 H4]
    · isplitl [H2]; · iapply (pt_of_own c main_v5 _); iexact H2
      isplitl [H3]; · iapply (pt_of_own c main_v7 _); iexact H3
      iapply (pt_of_own c main_v9 _); iexact H4
    iapply (pt_of_own c main_v13_0 _); iexact H8
  isplitl [HW]
  · iexists W'; isplitr; · ipureintro; exact fun _ _ => Or.inl trivial
    iexact HW
  isplitl [H0]; · iapply (owns_of_own c (ms0 t0_0) _); iexact H0
  isplitl [H1]; · iapply (owns_of_own c (ms1 t0_0) _); iexact H1
  isplitl [H5]; · iapply (owns_of_own c (ms2 t0_0) _); iexact H5
  isplitl [H6]; · iapply (owns_of_own c (ms3 t0_0) _); iexact H6
  isplitl [H7]; · iapply (owns_of_own c (ms4 t0_0) _); iexact H7
  isplitl [H9]; · iapply (owns_of_own c (ms5 t0_0) _); iexact H9
  iapply (owns_of_own c (ms6 t0_0) _); iexact H10

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- The arrays after the whole program. -/
def WW (c : Dev nD) : Valuation τ sig (Elt F) :=
  StableHlo.after (List.flatten [hostOps1]) (Pipeline.withArrays spec0 c (Pipeline.withR (V0 m c) R0 c (GG m c)) fun w => (dats m 0 c).arrAt w cfg0.N)

set_option maxHeartbeats 800000 in
set_option backward.isDefEq.respectTransparency.types false in
/-- What the run leaves in every array that is no window's, and in every cell. -/
theorem run_main : θ_run defs (onTc (τ := τ) (main (F := F))) (s₀ m ρ) (fun r =>
    (∀ c : Dev nD, ∀ b ∈ Pipeline.restRefs sig spec0, r.2.mem ((c.tc : Thread nD τ).loc b) = WW m c (Proc.devRef .tc b)) ∧ r.2.sem = fun _ => 0) :=
  Pipeline.θ_run_frame_dmaR_aroundV (Q' := _) cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps) (G := GG m)
    (hmain := hmain m Variants.none) (hA := A_eq m)
    (hin := fun _ => .rfl) (hout := fun c => .rfl) (hQ' := fun r h => ⟨fun c => (h.1 c).2, h.2⟩)

theorem WW_of {b : Ref sig .tc} (h0 : (hostOps0 : List (HloOp τ sig (Elt F))).Forall fun op => Proc.devRef .tc b ∉ op.writes)
    (h1 : (hostOps1 : List (HloOp τ sig (Elt F))).Forall fun op => Proc.devRef .tc b ∉ op.writes)
    (hw : ∀ w, Pipeline.arrRef spec0 w ≠ b) (hr : b ∉ R0) (c : Dev nD) :
    WW m c (Proc.devRef .tc b) = m ((c : Thread nD τ).loc b) := by
  unfold WW
  rw [StableHlo.after_of_forall_not_mem (b := Proc.devRef .tc b) _ _ (List.forall_iff_forall_mem.mp (by
      simpa only [List.flatten_cons, List.flatten_nil, List.append_nil] using h1)),
    Pipeline.withArrays_of_ne _ c _ _ b hw, Pipeline.withR_of_not_mem _ _ _ _ b hr]
  exact StableHlo.after_of_forall_not_mem (b := Proc.devRef .tc b) _ _ (List.forall_iff_forall_mem.mp (by
      simpa only [List.flatten_cons, List.flatten_nil, List.append_nil] using h0))

theorem WW_arg {b : Ref sig .tc} (hb : b ∈ [main_arg0, main_arg1, main_arg2, main_arg3, main_arg4, main_arg5, main_arg6, main_arg7]) (c : Dev nD) :
    WW m c (Proc.devRef .tc b) = m ((c : Thread nD τ).loc b) := by
  simp only [List.mem_cons, List.mem_nil_iff, or_false] at hb
  rcases hb with rfl | rfl | rfl | rfl | rfl | rfl | rfl | rfl
  all_goals
    refine WW_of m ?_ ?_ (by decide) (by decide) c
    all_goals
      simp only [hostOps0, hostOps1, List.Forall, StableHlo.unary_writes, StableHlo.reshape_writes, Finset.mem_singleton]
      repeat' apply And.intro
      all_goals exact StableHlo.devRef_ne_of_ne (by decide)

/-- The program ends, its arguments as they were, and every counter zero. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun _ h => ⟨fun c =>
      ⟨(h.1 c main_arg0 (Pipeline.mem_restRefs_of main_arg0 (by decide) (by decide))).trans (WW_arg m (by decide) c),
      (h.1 c main_arg1 (Pipeline.mem_restRefs_of main_arg1 (by decide) (by decide))).trans (WW_arg m (by decide) c),
      (h.1 c main_arg2 (Pipeline.mem_restRefs_of main_arg2 (by decide) (by decide))).trans (WW_arg m (by decide) c),
      (h.1 c main_arg3 (Pipeline.mem_restRefs_of main_arg3 (by decide) (by decide))).trans (WW_arg m (by decide) c),
      (h.1 c main_arg4 (Pipeline.mem_restRefs_of main_arg4 (by decide) (by decide))).trans (WW_arg m (by decide) c),
      (h.1 c main_arg5 (Pipeline.mem_restRefs_of main_arg5 (by decide) (by decide))).trans (WW_arg m (by decide) c),
      (h.1 c main_arg6 (Pipeline.mem_restRefs_of main_arg6 (by decide) (by decide))).trans (WW_arg m (by decide) c),
      (h.1 c main_arg7 (Pipeline.mem_restRefs_of main_arg7 (by decide) (by decide))).trans (WW_arg m (by decide) c)⟩, h.2⟩) (run_main m ρ)

end Cert.KernelIdeal.Hand
-- ==== Proof.IdealMask.lean ====
/-
  The mask of one tile: a lane of the masked cotangents is the cotangent where its bit of the mask is set, else zero.
-/
module

public import proofs.«01_k».proof.Proof.IdealGhost
public import Idealize.ShloMosaic.Lib.BitcastFour
public import Idealize.ShloMosaic.Lib.Pointwise

@[expose] public section

noncomputable section

namespace Cert.KernelIdeal.Hand

open Cert.KernelIdeal Cert.KernelIdeal.Gen
open Idealize.ShloMosaic hiding ix2 ix3
open Idealize.ShloMosaic.ValueIdx

variable {F : FTy → Type} [FloatOps F]

/-- The word with bits 0, 8, 16 and 24 as given. -/
def four (b0 b1 b2 b3 : Bool) : BitVec 32 :=
  (if b0 then 1#32 else 0#32) ||| (if b1 then 256#32 else 0#32) ||| (if b2 then 65536#32 else 0#32) ||| (if b3 then 16777216#32 else 0#32)

theorem and_four (g : BitVec 32) : g &&& 16843009#32 = four (g.getLsbD 0) (g.getLsbD 8) (g.getLsbD 16) (g.getLsbD 24) := by
  unfold four
  apply BitVec.eq_of_getLsbD_eq
  intro i hi
  rw [BitVec.getLsbD_and]
  generalize h0 : g.getLsbD 0 = b0
  generalize h1 : g.getLsbD 8 = b1
  generalize h2 : g.getLsbD 16 = b2
  generalize h3 : g.getLsbD 24 = b3
  interval_cases i <;> cases b0 <;> cases b1 <;> cases b2 <;> cases b3 <;> simp_all

/-- Bits `8k` to `8k + 7` of a word. -/
def byteOf (w : BitVec 32) (k : ℕ) : BitVec 8 := (w >>> (8 * k)).setWidth 8

theorem four_byte : ∀ (b0 b1 b2 b3 : Bool) (k : Fin 4),
    (byteOf ((four b0 b1 b2 b3 <<< (8#32 : BitVec 32)) - four b0 b1 b2 b3) k.val != 0#8) = ![b0, b1, b2, b3] k := by decide

/-- Byte `k` of the spread bits of a word is nonzero when the word's bit `8k + s` is set. -/
theorem spread_byte (g : BitVec 32) (s : BitVec 32) (hs : s.toNat < 8) (k : Fin 4) :
    (byteOf ((((g >>> s) &&& 16843009#32) <<< (8#32 : BitVec 32)) - ((g >>> s) &&& 16843009#32)) k.val != 0#8) = g.getLsbD (8 * k.val + s.toNat) := by
  rw [and_four, four_byte]
  have e : ∀ j : ℕ, (g >>> s).getLsbD j = g.getLsbD (s.toNat + j) := fun j => by
    rw [BitVec.ushiftRight_eq', BitVec.getLsbD_ushiftRight]
  rw [e, e, e, e]
  fin_cases k <;> simp [Nat.add_comm]

theorem pay312_toNat (a : Fin 8) (l : Fin 128) : (k0_pay312 (ix2 a l)).toNat = l.val % 8 := by
  have : k0_pay312 (ix2 a l) = IntOp.andi (BitVec.ofNat 32 (0 * 128 + l.val)) 7#32 := rfl
  rw [this]
  have h := l.isLt
  show (BitVec.ofNat 32 (0 * 128 + l.val) &&& 7#32).toNat = _
  rw [BitVec.toNat_and, BitVec.toNat_ofNat, show (7#32 : BitVec 32).toNat = 2 ^ 3 - 1 from rfl, Nat.and_two_pow_sub_one_eq_mod]
  omega

/-- The gathered lane. -/
theorem lane_idx (x : BitVec 32) (hx : x.toNat < 128) :
    (Scalar.select (IntOp.cmpi .slt x 0#32) (IntOp.addi x 128#32) x).toNat % 128 = x.toNat := by
  have : x.slt 0#32 = false := by
    rw [BitVec.slt_eq_decide, decide_eq_false_iff_not, BitVec.toInt_eq_toNat_of_lt (by omega)]
    simp
  unfold Scalar.select IntOp.cmpi
  simp only [this]
  rw [if_neg (by decide)]
  omega

/-- The words the mask's bytes make, spread: what the kernel compares with zero byte by byte. -/
theorem keep_byte (r : IVec S8x128 32) (p : Fin 32) (l : Fin 128) :
    bitcast S32x128 8 r bitcasts_S8x128_w32_S32x128_w8 (ix2 p l)
      = byteOf (r (ix2 (⟨p.val / 4, by omega⟩ : Fin 8) l)) (p.val % 4) := by
  apply BitVec.eq_of_getLsbD_eq
  intro q hq
  rw [bitcast_getLsbD r _ _ q hq (by decide)]
  have hr : S32x128.row (ix2 p l) = p.val := rfl
  unfold byteOf
  rw [BitVec.getLsbD_setWidth, BitVec.getLsbD_ushiftRight]
  have e : (S32x128.row (ix2 p l) * 8 + q) % 32 = 8 * (p.val % 4) + q := by rw [hr]; omega
  rw [e, decide_eq_true hq, Bool.true_and]
  congr 2
  funext c
  match c with
  | ⟨0, _⟩ => exact Fin.ext ((Shape.Bitcasts.srcIdx_row _ _ _ _ ⟨0, Nat.zero_lt_two⟩ rfl).trans (by rw [hr]; show _ = p.val / 4; omega))
  | ⟨1, _⟩ => exact Fin.ext (Shape.Bitcasts.srcIdx_other _ _ _ _ ⟨1, Nat.one_lt_two⟩ (by show ¬ 1 + 2 = 2; omega))

/-- A lane of a masked tile: the cotangent where bit `l % 8` of mask byte `lb` of its row is set, else zero. -/
theorem pay1_apply (lb : IVec S8x128 32) (m : Vec F S1x32x128 .i8) (d : Vec F S1x32x128 .fp8e5m2) (p : Fin 32) (l : Fin 128) (n : Fin 128)
    (hn : (lb (ix2 (⟨p.val / 4, by omega⟩ : Fin 8) l)).toNat = n.val) :
    k0_pay1 k0_pay312 lb m d (ix2 p l)
      = if (m (ix3 (0 : Fin 1) p n)).getLsbD (l.val % 8) then d (ix3 (0 : Fin 1) p l) else Scalar.ofBits .fp8e5m2 0x00#8 := by
  set a : Fin 8 := ⟨p.val / 4, by omega⟩ with ha
  set g : BitVec 32 := bitcast S8x128 32 (shapeCast S32x128 m shapeCasts_S1x32x128_S32x128) bitcasts_S32x128_w8_S8x128_w32 (ix2 a n) with hg
  set s : BitVec 32 := k0_pay312 (ix2 a l) with hs
  have hs8 : s.toNat = l.val % 8 := pay312_toNat a l
  have hd : shapeCast S32x128 d shapeCasts_S1x32x128_S32x128 (ix2 p l) = d (ix3 (0 : Fin 1) p l) := by
    pointwise
    exact congrArg d (by funext c; match c with | ⟨0, _⟩ => rfl | ⟨1, _⟩ => rfl | ⟨2, _⟩ => rfl)
  have hm : shapeCast S32x128 m shapeCasts_S1x32x128_S32x128 (ix2 p n) = m (ix3 (0 : Fin 1) p n) := by
    pointwise
    exact congrArg m (by funext c; match c with | ⟨0, _⟩ => rfl | ⟨1, _⟩ => rfl | ⟨2, _⟩ => rfl)
  have key : (bitcast S32x128 8 (fun j : S8x128.Idx => IntOp.subi (IntOp.shli .vector (IntOp.andi (IntOp.shrui .vector
        (dynamicGather 1 (bitcast S8x128 32 (shapeCast S32x128 m shapeCasts_S1x32x128_S32x128) bitcasts_S32x128_w8_S8x128_w32)
          (shapeCast S8x128 (shapeCast S8x128x1 (fun j : S8x128.Idx => Scalar.select (IntOp.cmpi .slt (lb j) 0#32) (IntOp.addi (lb j) 128#32) (lb j)) shapeCasts_S8x128_S8x128x1) shapeCasts_S8x128x1_S8x128) j)
        (k0_pay312 j)) 16843009#32) 8#32)
        (IntOp.andi (IntOp.shrui .vector
        (dynamicGather 1 (bitcast S8x128 32 (shapeCast S32x128 m shapeCasts_S1x32x128_S32x128) bitcasts_S32x128_w8_S8x128_w32)
          (shapeCast S8x128 (shapeCast S8x128x1 (fun j : S8x128.Idx => Scalar.select (IntOp.cmpi .slt (lb j) 0#32) (IntOp.addi (lb j) 128#32) (lb j)) shapeCasts_S8x128_S8x128x1) shapeCasts_S8x128x1_S8x128) j)
        (k0_pay312 j)) 16843009#32))
        bitcasts_S8x128_w32_S32x128_w8 (ix2 p l) != 0#8) = (m (ix3 (0 : Fin 1) p n)).getLsbD (l.val % 8) := by
    rw [keep_byte]
    have hga : dynamicGather 1 (bitcast S8x128 32 (shapeCast S32x128 m shapeCasts_S1x32x128_S32x128) bitcasts_S32x128_w8_S8x128_w32)
          (shapeCast S8x128 (shapeCast S8x128x1 (fun j : S8x128.Idx => Scalar.select (IntOp.cmpi .slt (lb j) 0#32) (IntOp.addi (lb j) 128#32) (lb j)) shapeCasts_S8x128_S8x128x1) shapeCasts_S8x128x1_S8x128) (ix2 a l) = g := by
      rw [hg]
      unfold dynamicGather
      congr 1
      funext b
      match b with
      | ⟨0, _⟩ => rfl
      | ⟨1, _⟩ =>
        refine Fin.ext ?_
        have : shapeCast S8x128 (shapeCast S8x128x1 (fun j : S8x128.Idx => Scalar.select (IntOp.cmpi .slt (lb j) 0#32) (IntOp.addi (lb j) 128#32) (lb j)) shapeCasts_S8x128_S8x128x1) shapeCasts_S8x128x1_S8x128 (ix2 a l)
            = Scalar.select (IntOp.cmpi .slt (lb (ix2 a l)) 0#32) (IntOp.addi (lb (ix2 a l)) 128#32) (lb (ix2 a l)) := by
          rw [shapeCast_shapeCast]
        refine (congrArg (fun v : BitVec 32 => v.toNat % 128) this).trans ?_
        dsimp only
        rw [lane_idx _ (by rw [hn]; exact n.isLt), hn]
    rw [hga]
    have e1 : IntOp.shrui .vector g s = g >>> s := by unfold IntOp.shrui; rw [if_pos (by omega)]
    rw [← hs, e1]
    have e2 : ∀ w : BitVec 32, IntOp.shli .vector w 8#32 = w <<< (8#32 : BitVec 32) := fun w => by unfold IntOp.shli; rw [if_pos (by decide)]
    rw [e2]
    unfold IntOp.subi IntOp.andi
    rw [spread_byte g s (by omega) ⟨p.val % 4, by omega⟩, hg,
      bitcast_8_32_getLsbD_ix2 _ _ a n _ (by show 8 * (p.val % 4) + s.toNat < 32; omega) p (by show p.val = 4 * (p.val / 4) + (8 * (p.val % 4) + s.toNat) / 8; omega), hm]
    congr 1
    show (8 * (p.val % 4) + s.toNat) % 8 = l.val % 8
    omega
  have hk : k0_pay1 k0_pay312 lb m d (ix2 p l)
      = Scalar.select (BitVec.ofBool (bitcast S32x128 8 _ bitcasts_S8x128_w32_S32x128_w8 (ix2 p l) != 0#8))
          (shapeCast S32x128 d shapeCasts_S1x32x128_S32x128 (ix2 p l)) (Scalar.ofBits .fp8e5m2 0x00#8) := rfl
  rw [hk, hd]
  unfold Scalar.select
  refine (congrArg (fun b : Bool => if BitVec.ofBool b = 1 then d (ix3 (0 : Fin 1) p l) else Scalar.ofBits .fp8e5m2 0x00#8) key).trans ?_
  cases (m (ix3 (0 : Fin 1) p n)).getLsbD (l.val % 8) <;> rfl

end Cert.KernelIdeal.Hand

end
-- ==== Proof.IdealSums.lean ====
/-
  What a group of rows adds to the first running sum: the masked cotangents of its rows, each row to the sublane of its remainder by eight.
-/
module

public import proofs.«01_k».proof.Proof.IdealMask
public import proofs.«01_k».proof.Proof.IdealAgree

@[expose] public section

set_option maxRecDepth 16384

noncomputable section

namespace Cert.KernelIdeal.Hand

open Cert.KernelIdeal Cert.KernelIdeal.Gen
open Idealize.ShloMosaic hiding ix2 ix3
open Idealize.ShloMosaic.ValueIdx
open scoped BigOperators

/-- The rows of group `u` whose remainder by eight is `a`, summed. -/
def grp (f : ℕ → EReal) (u a : ℕ) : EReal := ∑ k ∈ Finset.range 8, ∑ h ∈ Finset.range 4, f (32 * (8 * u + k) + (8 * h + a))

theorem slice_apply (d : FVec Ideal S32x128 .f32) (o : ℕ) (hs : S32x128.Slices ![o, 0] S8x128) (a : Fin 8) (l : Fin 128) (ho : o + a.val < 32) :
    extractStridedSlice S8x128 ![o, 0] d hs (ix2 a l) = d (ix2 ⟨o + a.val, ho⟩ l) := by
  refine congrArg d ?_
  funext c
  match c with
  | ⟨0, _⟩ => exact Fin.ext rfl
  | ⟨1, _⟩ => exact Fin.ext (by show 0 + l.val = l.val; omega)

/-- The four rows of a tile whose remainder by eight is `a`, summed. -/
theorem pay6_sum (d : FVec Ideal S32x128 .fp8e5m2) (l : Fin 128) (f : ℕ → EReal) (hd : ∀ p : Fin 32, (d (ix2 p l) : EReal) = f p.val) (a : Fin 8) :
    (k0_pay6 (k0_pay9 d) (ix2 a l) : EReal) = ∑ h ∈ Finset.range 4, f (8 * h + a.val) := by
  have ha := a.isLt
  have e : (k0_pay6 (k0_pay9 d) (ix2 a l) : EReal)
      = extractStridedSlice S8x128 ![0, 0] (d : FVec Ideal S32x128 .f32) slices_S32x128_o0_0_S8x128 (ix2 a l)
        + extractStridedSlice S8x128 ![8, 0] (d : FVec Ideal S32x128 .f32) slices_S32x128_o8_0_S8x128 (ix2 a l)
        + extractStridedSlice S8x128 ![16, 0] (d : FVec Ideal S32x128 .f32) slices_S32x128_o16_0_S8x128 (ix2 a l)
        + extractStridedSlice S8x128 ![24, 0] (d : FVec Ideal S32x128 .f32) slices_S32x128_o24_0_S8x128 (ix2 a l) := rfl
  rw [e, slice_apply _ 0 _ a l (by omega), slice_apply _ 8 _ a l (by omega), slice_apply _ 16 _ a l (by omega), slice_apply _ 24 _ a l (by omega)]
  simp only [Finset.sum_range_succ, Finset.sum_range_zero, zero_add, Nat.mul_zero, Nat.mul_one, Nat.reduceMul]
  exact congrArg₂ (fun x y : EReal => x + y) (congrArg₂ (fun x y : EReal => x + y) (congrArg₂ (fun x y : EReal => x + y)
    (hd _) (hd _)) (hd _)) (hd _)

theorem pay11_sum (q : FVec Ideal S8x128 .f32) (d : FVec Ideal S32x128 .fp8e5m2) (l : Fin 128) (f : ℕ → EReal)
    (hd : ∀ p : Fin 32, (d (ix2 p l) : EReal) = f p.val) (a : Fin 8) :
    (k0_pay11 q d (ix2 a l) : EReal) = q (ix2 a l) + ∑ h ∈ Finset.range 4, f (8 * h + a.val) := by
  rw [← pay6_sum d l f hd a]
  have e : (k0_pay11 q d (ix2 a l) : EReal)
      = (((q (ix2 a l) : EReal) + extractStridedSlice S8x128 ![0, 0] (d : FVec Ideal S32x128 .f32) slices_S32x128_o0_0_S8x128 (ix2 a l))
        + extractStridedSlice S8x128 ![8, 0] (d : FVec Ideal S32x128 .f32) slices_S32x128_o8_0_S8x128 (ix2 a l))
        + extractStridedSlice S8x128 ![16, 0] (d : FVec Ideal S32x128 .f32) slices_S32x128_o16_0_S8x128 (ix2 a l)
        + extractStridedSlice S8x128 ![24, 0] (d : FVec Ideal S32x128 .f32) slices_S32x128_o24_0_S8x128 (ix2 a l) := rfl
  have e' : (k0_pay6 (k0_pay9 d) (ix2 a l) : EReal)
      = extractStridedSlice S8x128 ![0, 0] (d : FVec Ideal S32x128 .f32) slices_S32x128_o0_0_S8x128 (ix2 a l)
        + extractStridedSlice S8x128 ![8, 0] (d : FVec Ideal S32x128 .f32) slices_S32x128_o8_0_S8x128 (ix2 a l)
        + extractStridedSlice S8x128 ![16, 0] (d : FVec Ideal S32x128 .f32) slices_S32x128_o16_0_S8x128 (ix2 a l)
        + extractStridedSlice S8x128 ![24, 0] (d : FVec Ideal S32x128 .f32) slices_S32x128_o24_0_S8x128 (ix2 a l) := rfl
  rw [e, e']
  generalize extractStridedSlice S8x128 ![0, 0] (d : FVec Ideal S32x128 .f32) slices_S32x128_o0_0_S8x128 (ix2 a l) = x0
  generalize extractStridedSlice S8x128 ![8, 0] (d : FVec Ideal S32x128 .f32) slices_S32x128_o8_0_S8x128 (ix2 a l) = x1
  generalize extractStridedSlice S8x128 ![16, 0] (d : FVec Ideal S32x128 .f32) slices_S32x128_o16_0_S8x128 (ix2 a l) = x2
  generalize extractStridedSlice S8x128 ![24, 0] (d : FVec Ideal S32x128 .f32) slices_S32x128_o24_0_S8x128 (ix2 a l) = x3
  exact (show ∀ y x0 x1 x2 x3 : EReal, y + x0 + x1 + x2 + x3 = y + (x0 + x1 + x2 + x3) from fun y x0 x1 x2 x3 => by simp only [add_assoc]) _ _ _ _ _

/-- A masked cotangent of ring slot `t` under mask chunk `i`: row `r`, lane `l` of column half `j`, mask byte `n`. -/
def mv (M : BufM Ideal) (D : BufD Ideal) (i t j n l r : ℕ) : EReal :=
  if h : n < 128 ∧ l < 128 ∧ r < 1792 then
    (if (M (ix3 (⟨i % 28, Nat.mod_lt _ (by norm_num)⟩ : Fin 28) (⟨r, h.2.2⟩ : Fin 1792) (⟨n, h.1⟩ : Fin 128)) : BitVec 8).getLsbD (l % 8)
      then (D (ix3 (⟨t % 31, Nat.mod_lt _ (by norm_num)⟩ : Fin 31) (⟨r, h.2.2⟩ : Fin 1792) (⟨128 * (j % 2) + l, by omega⟩ : Fin 256)) : EReal) else 0)
  else 0

theorem mv_congr {M M' : BufM Ideal} {D D' : BufD Ideal} {i t j n l r : ℕ} (hM : M = M')
    (hD : ∀ x : S31x1792x256.Idx, (x 0).val = t % 31 → (x 1).val = r → (x 2).val / 128 = j % 2 → D x = D' x) : mv M D i t j n l r = mv M' D' i t j n l r := by
  subst hM
  unfold mv
  split
  · next h =>
    rw [hD (ix3 (⟨t % 31, Nat.mod_lt _ (by norm_num)⟩ : Fin 31) (⟨r, h.2.2⟩ : Fin 1792) (⟨128 * (j % 2) + l, by omega⟩ : Fin 256)) rfl rfl
      (by show (128 * (j % 2) + l) / 128 = j % 2; omega)]
  · rfl

theorem zero8 : (Scalar.ofBits (F := Ideal) .fp8e5m2 0x00#8 : EReal) = 0 := by
  show Ideal.ofBits .fp8e5m2 0x00#8 = 0
  simp [Ideal.ofBits, Ideal.ieee]

theorem ite_bit (a a' : BitVec 8) (x x' z : EReal) (s : ℕ) (ha : a = a') (hx : x = x') (hz : z = 0) :
    (if a.getLsbD s then x else z) = if a'.getLsbD s then x' else 0 := by
  subst ha hx hz
  rfl

theorem sum8 (g : ℕ → EReal) : ∑ k ∈ Finset.range 8, g k = g 0 + g 1 + g 2 + g 3 + g 4 + g 5 + g 6 + g 7 := by
  rw [Finset.sum_range_succ, Finset.sum_range_succ, Finset.sum_range_succ, Finset.sum_range_succ, Finset.sum_range_succ, Finset.sum_range_succ, Finset.sum_range_succ,
    Finset.sum_range_one]

theorem mdT_apply (lb : IVec S8x128 32) (M : BufM Ideal) (D : BufD Ideal) (i t q j : ℕ) (hq : q < 56) (p : Fin 32) (l n : Fin 128)
    (hn : ∀ a, (lb (ix2 a l)).toNat = n.val) :
    (mdT k0_pay312 lb M i t q j D (ix2 p l) : EReal) = mv M D i t j n.val l.val (32 * q + p.val) := by
  have hp := p.isLt
  have hl := l.isLt
  unfold mdT mv
  rw [dif_pos ⟨n.isLt, l.isLt, by omega⟩]
  refine (pay1_apply lb _ _ p l n (hn _)).trans ?_
  have e1 : (rM i q).emb (ix3 (0 : Fin 1) p n) = ix3 (⟨i % 28, Nat.mod_lt _ (by norm_num)⟩ : Fin 28) (⟨32 * q + p.val, by omega⟩ : Fin 1792) n := by
    have f0 : ((rM i q).emb (ix3 (0 : Fin 1) p n) 0).val = i % 28 + 0 := emb_val ..
    have f1 : ((rM i q).emb (ix3 (0 : Fin 1) p n) 1).val = 32 * (q % 56) + p.val := emb_val ..
    have f2 : ((rM i q).emb (ix3 (0 : Fin 1) p n) 2).val = 0 + n.val := emb_val ..
    funext a
    apply Fin.ext
    match a with
    | ⟨0, _⟩ => exact f0
    | ⟨1, _⟩ => refine f1.trans ?_; show 32 * (q % 56) + p.val = 32 * q + p.val; omega
    | ⟨2, _⟩ => refine f2.trans ?_; show 0 + n.val = n.val; omega
  have e2 : (rT t q j).emb (ix3 (0 : Fin 1) p l) = ix3 (⟨t % 31, Nat.mod_lt _ (by norm_num)⟩ : Fin 31) (⟨32 * q + p.val, by omega⟩ : Fin 1792) (⟨128 * (j % 2) + l.val, by omega⟩ : Fin 256) := by
    have f0 : ((rT t q j).emb (ix3 (0 : Fin 1) p l) 0).val = t % 31 + 0 := emb_val ..
    have f1 : ((rT t q j).emb (ix3 (0 : Fin 1) p l) 1).val = 32 * (q % 56) + p.val := emb_val ..
    have f2 : ((rT t q j).emb (ix3 (0 : Fin 1) p l) 2).val = 128 * (j % 2) + l.val := emb_val ..
    funext a
    apply Fin.ext
    match a with
    | ⟨0, _⟩ => exact f0
    | ⟨1, _⟩ => refine f1.trans ?_; show 32 * (q % 56) + p.val = 32 * q + p.val; omega
    | ⟨2, _⟩ => exact f2
  exact ite_bit _ _ _ _ _ _ (congrArg M e1) (congrArg D e2) zero8

/-- Where a group's masking leaves the cotangents as they were. -/
theorem grpD_out (v2 lb : IVec S8x128 32) (M : BufM Ideal) (i t u j : ℕ) (D : BufD Ideal) (k : ℕ) (x : S31x1792x256.Idx)
    (h : ¬ ((x 0).val = t % 31 ∧ (x 2).val / 128 = j % 2 ∧ ∃ q, q < k ∧ (x 1).val / 32 = (8 * u + q) % 56)) :
    grpD v2 lb M i t u j D k x = D x := by
  induction k with
  | zero => rfl
  | succ k ih =>
    rw [grpD]
    refine (upd_of_not_mem _ _ _ ?_).trans (ih ?_)
    · rw [mem_rT]
      rintro ⟨h0, h1, h2⟩
      exact h ⟨h0, h2, k, by omega, h1⟩
    · rintro ⟨h0, h1, q, hq, h2⟩
      exact h ⟨h0, h1, q, by omega, h2⟩

theorem mdK_apply (lb : IVec S8x128 32) (M : BufM Ideal) (D : BufD Ideal) (i t u j k : ℕ) (hk : k < 8) (hu : u < 7) (p : Fin 32) (l n : Fin 128)
    (hn : ∀ a, (lb (ix2 a l)).toNat = n.val) :
    (mdK k0_pay312 lb M i t u j D k (ix2 p l) : EReal) = mv M D i t j n.val l.val (32 * (8 * u + k) + p.val) := by
  have hp := p.isLt
  unfold mdK
  rw [mdT_apply lb M _ i t _ j (by omega) p l n hn]
  refine mv_congr rfl fun x h0 h1 h2 => grpD_out _ _ _ _ _ _ _ _ _ _ ?_
  rintro ⟨-, -, q, hq, h⟩
  omega

theorem addS_apply (q : FVec Ideal S8x128 .f32) (v : Vec Ideal S1x8x128 .f32) (a : Fin 8) (l : Fin 128) :
    (addS q v (ix3 (0 : Fin 1) a l) : EReal) = v (ix3 (0 : Fin 1) a l) + q (ix2 a l) := by
  unfold addS
  have e : ∀ w : FVec Ideal S8x128 .f32, shapeCast S1x8x128 w shapeCasts_S8x128_S1x8x128 (ix3 (0 : Fin 1) a l) = w (ix2 a l) := fun w => by
    pointwise
    exact congrArg w (by funext c; match c with | ⟨0, _⟩ => rfl | ⟨1, _⟩ => rfl)
  have e' : shapeCast S8x128 v shapeCasts_S1x8x128_S8x128 (ix2 a l) = v (ix3 (0 : Fin 1) a l) := by
    pointwise
    exact congrArg v (by funext c; match c with | ⟨0, _⟩ => rfl | ⟨1, _⟩ => rfl | ⟨2, _⟩ => rfl)
  rw [e, ← e']
  rfl

theorem rS_emb (j : ℕ) (a : Fin 8) (l : Fin 128) : (rS j).emb (ix3 (0 : Fin 1) a l) = ix3 (⟨j % 2, Nat.mod_lt _ (by norm_num)⟩ : Fin 2) a l := by
  have f0 : ((rS j).emb (ix3 (0 : Fin 1) a l) 0).val = j % 2 + 0 := emb_val ..
  have f1 : ((rS j).emb (ix3 (0 : Fin 1) a l) 1).val = 0 + a.val := emb_val ..
  have f2 : ((rS j).emb (ix3 (0 : Fin 1) a l) 2).val = 0 + l.val := emb_val ..
  funext c
  apply Fin.ext
  match c with
  | ⟨0, _⟩ => exact f0
  | ⟨1, _⟩ => exact f1.trans (Nat.zero_add _)
  | ⟨2, _⟩ => exact f2.trans (Nat.zero_add _)

theorem mem_rS {j : ℕ} {i : S2x8x128.Idx} (h : i ∈ (rS j).set) : (i 0).val = j % 2 := by
  unfold rS at h
  rw [Rect.mem_set_unit] at h
  have := h 0
  simp at this
  omega

attribute [local irreducible] mdK k0_pay6 k0_pay9 k0_pay11 addS

/-- What a group adds to its column half's running sum. -/
theorem grpS1_apply (lb : IVec S8x128 32) (M : BufM Ideal) (D : BufD Ideal) (i t u j : ℕ) (hu : u < 7) (S : BufS Ideal) (a : Fin 8) (l n : Fin 128)
    (hn : ∀ a, (lb (ix2 a l)).toNat = n.val) :
    (grpS1 k0_pay312 lb M i t u j D S (ix3 (⟨j % 2, Nat.mod_lt _ (by norm_num)⟩ : Fin 2) a l) : EReal)
      = S (ix3 (⟨j % 2, Nat.mod_lt _ (by norm_num)⟩ : Fin 2) a l) + grp (mv M D i t j n.val l.val) u a.val := by
  have hd : ∃ f : ℕ → ℕ → EReal, (f = fun k r => mv M D i t j n.val l.val (32 * (8 * u + k) + r))
      ∧ ∀ k, k < 8 → ∀ p : Fin 32, (mdK k0_pay312 lb M i t u j D k (ix2 p l) : EReal) = f k p.val :=
    ⟨_, rfl, fun k hk p => mdK_apply lb M D i t u j k hk hu p l n hn⟩
  obtain ⟨f, hf, hd⟩ := hd
  unfold grpS1
  refine (congrArg _ (rS_emb j a l).symm).trans ((upd_emb ..).trans ((addS_apply _ _ a l).trans (congrArg₂ (fun x y : EReal => x + y) (congrArg S (rS_emb j a l)) ?_)))
  rw [pay11_sum _ _ l (f 7) (hd 7 (by norm_num)), pay11_sum _ _ l (f 6) (hd 6 (by norm_num)), pay11_sum _ _ l (f 5) (hd 5 (by norm_num)), pay11_sum _ _ l (f 4) (hd 4 (by norm_num)),
    pay11_sum _ _ l (f 3) (hd 3 (by norm_num)), pay11_sum _ _ l (f 2) (hd 2 (by norm_num)), pay11_sum _ _ l (f 1) (hd 1 (by norm_num)), pay6_sum _ l (f 0) (hd 0 (by norm_num))]
  subst hf
  exact (sum8 fun k => ∑ h ∈ Finset.range 4, mv M D i t j n.val l.val (32 * (8 * u + k) + (8 * h + a.val))).symm

theorem grpS1_out (v2 lb : IVec S8x128 32) (M : BufM Ideal) (D : BufD Ideal) (i t u j : ℕ) (S : BufS Ideal) (x : S2x8x128.Idx) (h : (x 0).val ≠ j % 2) :
    grpS1 v2 lb M i t u j D S x = S x := by
  unfold grpS1
  exact upd_of_not_mem _ _ _ fun hx => h (mem_rS hx)

attribute [local irreducible] grpS1 grpS2 grpD grpO

/-- The first `n` groups of a chunk were added to the sums of `σ0`; `b0` and `b1` give the mask byte of a lane of each column half. -/
structure Red (i t : ℕ) (b : ℕ → ℕ → ℕ) (σ0 : St Ideal) (n : ℕ) (σ : St Ideal) : Prop where
  M : σ.M = σ0.M
  D : ∀ x : S31x1792x256.Idx, 256 * n ≤ (x 1).val → σ.D x = σ0.D x
  db : σ.db = σ0.db
  s1 : ∀ (j : Fin 2) (a : Fin 8) (l : Fin 128), (σ.s1 (ix3 j a l) : EReal) = σ0.s1 (ix3 j a l) + ∑ u ∈ Finset.range n, grp (mv σ0.M σ0.D i t j.val (b j.val l.val) l.val) u a.val

theorem Red.zero (i t : ℕ) (b : ℕ → ℕ → ℕ) (σ0 : St Ideal) : Red i t b σ0 0 σ0 :=
  ⟨rfl, fun _ _ => rfl, rfl, fun _ _ _ => by rw [Finset.sum_range_zero, add_zero]⟩

theorem Red.step {i t : ℕ} {b : ℕ → ℕ → ℕ} {la lb : IVec S8x128 32} {σ0 σ : St Ideal} {n : ℕ} (hn : n < 7) (h : Red i t b σ0 n σ)
    (ha : ∀ (a : Fin 8) (l : Fin 128), (la (ix2 a l)).toNat = b 0 l.val) (hb : ∀ (a : Fin 8) (l : Fin 128), (lb (ix2 a l)).toNat = b 1 l.val)
    (hlt : ∀ j l, j < 2 → l < 128 → b j l < 128) : Red i t b σ0 (n + 1) (redSt k0_pay312 la lb i t n σ) := by
  have hgrp : ∀ (D : BufD Ideal) (j l a : ℕ), (∀ x : S31x1792x256.Idx, 256 * n ≤ (x 1).val → (x 2).val / 128 = j % 2 → D x = σ0.D x) →
      grp (mv σ0.M D i t j (b j l) l) n a = grp (mv σ0.M σ0.D i t j (b j l) l) n a := fun D j l a hD => by
    unfold grp
    refine Finset.sum_congr rfl fun k hk => Finset.sum_congr rfl fun h hh => mv_congr rfl fun x h0 h1 h2 => hD x ?_ h2
    omega
  have hD1 : ∀ x : S31x1792x256.Idx, 256 * n ≤ (x 1).val → (x 2).val / 128 = 1 → grpD k0_pay312 la σ.M i t n 0 σ.D 8 x = σ0.D x := fun x h1 h2 =>
    (grpD_out _ _ _ _ _ _ _ _ _ x (by rintro ⟨-, h3, -⟩; omega)).trans (h.D x h1)
  refine ⟨h.M, ?_, h.db, ?_⟩
  · intro x hx
    show grpD k0_pay312 lb σ.M i t n 1 (grpD k0_pay312 la σ.M i t n 0 σ.D 8) 8 x = σ0.D x
    rw [grpD_out, grpD_out, h.D x (by omega)]
    · rintro ⟨-, -, q, hq, h3⟩; omega
    · rintro ⟨-, -, q, hq, h3⟩; omega
  · intro j a l
    have hj : j.val = 0 ∨ j.val = 1 := by have := j.isLt; omega
    show (grpS1 k0_pay312 lb σ.M i t n 1 (grpD k0_pay312 la σ.M i t n 0 σ.D 8) (grpS1 k0_pay312 la σ.M i t n 0 σ.D σ.s1) (ix3 j a l) : EReal) = _
    rw [Finset.sum_range_succ, ← add_assoc, ← h.s1 j a l]
    rcases hj with e | e
    · obtain rfl : j = (⟨0 % 2, Nat.mod_lt _ (by norm_num)⟩ : Fin 2) := Fin.ext e
      rw [grpS1_out _ _ _ _ _ _ _ _ _ _ (by show 0 % 2 ≠ 1 % 2; norm_num),
        grpS1_apply la σ.M σ.D i t n 0 hn σ.s1 a l ⟨b 0 l.val, hlt 0 l.val (by norm_num) l.isLt⟩ (fun a => ha a l), h.M]
      exact congrArg _ (hgrp σ.D 0 l.val a.val fun x h1 _ => h.D x h1)
    · obtain rfl : j = (⟨1 % 2, Nat.mod_lt _ (by norm_num)⟩ : Fin 2) := Fin.ext e
      rw [grpS1_apply lb σ.M _ i t n 1 hn _ a l ⟨b 1 l.val, hlt 1 l.val (by norm_num) l.isLt⟩ (fun a => hb a l),
        grpS1_out _ _ _ _ _ _ _ _ _ _ (by show 1 % 2 ≠ 0 % 2; norm_num), h.M]
      have h1 := hD1
      rw [h.M] at h1
      exact congrArg _ (hgrp _ 1 l.val a.val fun x hx h2 => h1 x hx h2)

theorem Red.out {i t : ℕ} {b : ℕ → ℕ → ℕ} {σ0 σ : St Ideal} {n : ℕ} (h : Red i t b σ0 n σ) (k : Co Ideal) (t' u : ℕ) :
    Red i t b σ0 n (outSt k t' u σ) := by
  obtain ⟨h1, h2, h3, h4⟩ := h
  unfold outSt
  exact ⟨h1, h2, h3, h4⟩

section Chunk
variable {i t : ℕ} {b : ℕ → ℕ → ℕ} {la lb : IVec S8x128 32} {σ0 : St Ideal}
    (ha : ∀ (a : Fin 8) (l : Fin 128), (la (ix2 a l)).toNat = b 0 l.val) (hb : ∀ (a : Fin 8) (l : Fin 128), (lb (ix2 a l)).toNat = b 1 l.val)
    (hlt : ∀ j l, j < 2 → l < 128 → b j l < 128)
include ha hb hlt
attribute [local irreducible] redSt

/-- A whole chunk's groups. -/
theorem redN_red (n : ℕ) (hn : n ≤ 7) : Red i t b σ0 n (redN k0_pay312 la lb i t σ0 n) := by
  induction n with
  | zero => exact Red.zero ..
  | succ n ih => rw [redN]; exact Red.step (by omega) (ih (by omega)) ha hb hlt

theorem outRedN_red (k : Co Ideal) (n : ℕ) (hn : n ≤ 7) : Red t (t + 28) b σ0 n (outRedN k k0_pay312 la lb t σ0 n) := by
  induction n with
  | zero => exact Red.zero ..
  | succ n ih =>
    rw [outRedN]
    exact Red.step (by omega) ((ih (by omega)).out k t n) ha hb hlt

end Chunk

end Cert.KernelIdeal.Hand

end
-- ==== Proof.IdealTotal.lean ====
/-
  What the kernel leaves in the gradient of the shift: every channel's masked cotangents summed over all rows, times their scale.
-/
module

public import proofs.«01_k».proof.Proof.IdealSums

@[expose] public section

set_option maxRecDepth 16384

noncomputable section

namespace Cert.KernelIdeal.Hand

open Cert.KernelIdeal Cert.KernelIdeal.Gen
open Idealize.ShloMosaic hiding ix1 ix2 ix3
open Idealize.ShloMosaic.ValueIdx
open scoped BigOperators

variable (I : Ins Ideal)

/-- The masked cotangent of row `R` and channel `ch`. -/
def gv (R ch : ℕ) : EReal :=
  if h : R < 50176 ∧ ch < 2048 then
    (if (I.km (ix2 (⟨R, h.1⟩ : Fin 50176) (⟨ch / 8, by omega⟩ : Fin 256)) : BitVec 8).getLsbD (ch % 8)
      then (I.y (ix2 (⟨R, h.1⟩ : Fin 50176) (⟨ch, h.2⟩ : Fin 2048)) : EReal) else 0)
  else 0

/-- The rows of chunk `c` whose remainder by eight is `a`, summed in channel `ch`. -/
def cs (c ch a : ℕ) : EReal := ∑ u ∈ Finset.range 7, grp (fun r => gv I (1792 * c + r) ch) u a

/-- The mask chunk that slot `s` holds before step `T`. -/
def mm (T s : ℕ) : ℕ := if 112 + s < T then 28 + s else s

/-- The byte of the mask's row that lane `l` of column half `j` of block `b` reads. -/
def bf (b j l : ℕ) : ℕ := l / 8 + (32 * (b % 4) + 16 * j)

/-- The state after `n` chunks of block `b`. -/
structure Inv (b n : ℕ) (σ : St Ideal) : Prop where
  M : ∀ x : S28x1792x128.Idx, (x 0).val < 28 * b + n → σ.M x = MG I (mm (28 * b + n) (x 0).val) x
  s1 : ∀ (j : Fin 2) (a : Fin 8) (l : Fin 128), (σ.s1 (ix3 j a l) : EReal) = ∑ c ∈ Finset.range n, cs I c (256 * b + 128 * j.val + l.val) a.val
  db : ∀ (k : Fin 16) (l : Fin 128), k.val < 2 * b →
    (σ.db (ix2 k l) : EReal) = (∑ a ∈ Finset.range 8, ∑ c ∈ Finset.range 28, cs I c (128 * k.val + l.val) a) * (sc I.ys : EReal)

theorem mv_eq {b n T : ℕ} (hb : b < 8) (hn : n < 28) (hT : T = 28 * b + n) {i : ℕ} (hi : i % 28 = n) {M : BufM Ideal} {D : BufD Ideal}
    (hM : ∀ x : S28x1792x128.Idx, (x 0).val < T + 1 → M x = MG I (mm (T + 1) (x 0).val) x)
    (hD : ∀ x : S31x1792x256.Idx, (x 0).val = T % 31 → D x = DG I T x) {j l r : ℕ} (hj : j < 2) (hl : l < 128) (hr : r < 1792) :
    mv M D i T j (bf b j l) l r = gv I (1792 * n + r) (256 * b + 128 * j + l) := by
  have hbf : bf b j l < 128 := by unfold bf; omega
  unfold mv gv
  rw [dif_pos ⟨hbf, hl, hr⟩, dif_pos ⟨by omega, by omega⟩]
  rw [show (256 * b + 128 * j + l) % 8 = l % 8 by omega]
  refine ite_bit _ _ _ _ _ _ ?_ ?_ rfl
  · rw [hM _ (by show i % 28 < T + 1; omega)]
    show I.km _ = I.km _
    refine congrArg I.km ?_
    have e : mm (T + 1) (i % 28) = if b < 4 then n else 28 + n := by
      unfold mm
      rw [hi]
      split <;> split <;> omega
    funext c
    apply Fin.ext
    match c with
    | ⟨0, _⟩ =>
      show 1792 * (mm (T + 1) (i % 28) % 28) + r = 1792 * n + r
      rw [e]; split <;> omega
    | ⟨1, _⟩ =>
      show 128 * (mm (T + 1) (i % 28) / 28 % 2) + bf b j l = (256 * b + 128 * j + l) / 8
      rw [e]; unfold bf; split <;> omega
  · rw [hD _ rfl]
    show I.y _ = I.y _
    refine congrArg I.y ?_
    funext c
    apply Fin.ext
    match c with
    | ⟨0, _⟩ => show 1792 * (T % 28) + r = 1792 * n + r; omega
    | ⟨1, _⟩ => show 256 * (T / 28 % 8) + (128 * (j % 2) + l) = 256 * b + 128 * j + l; omega

/-- One chunk more. -/
theorem Inv.next {b n T : ℕ} (hb : b < 8) (hn : n < 28) (hT : T = 28 * b + n) {i : ℕ} (hi : i % 28 = n) {σ σ1 σ' : St Ideal} (h : Inv I b n σ)
    (hM : ∀ x : S28x1792x128.Idx, (x 0).val < T + 1 → σ1.M x = MG I (mm (T + 1) (x 0).val) x)
    (hD : ∀ x : S31x1792x256.Idx, (x 0).val = T % 31 → σ1.D x = DG I T x) (hs : σ1.s1 = σ.s1) (hd : σ1.db = σ.db)
    (r : Red i T (bf b) σ1 7 σ') : Inv I b (n + 1) σ' := by
  refine ⟨?_, ?_, ?_⟩
  · rw [r.M, show 28 * b + (n + 1) = T + 1 by omega]
    exact hM
  · intro j a l
    rw [r.s1 j a l, hs, h.s1 j a l, Finset.sum_range_succ (fun c => cs I c (256 * b + 128 * j.val + l.val) a.val) n]
    refine congrArg _ ?_
    unfold cs grp
    refine Finset.sum_congr rfl fun u hu => Finset.sum_congr rfl fun k hk => Finset.sum_congr rfl fun g hg => ?_
    rw [Finset.mem_range] at hu hk hg
    have := a.isLt
    exact mv_eq I hb hn hT hi hM hD j.isLt l.isLt (by omega)
  · rw [r.db, hd]
    exact h.db

theorem pay256_apply (ys : EReal) (v : Vec Ideal S1x8x128 .f32) (l : Fin 128) :
    (k0_pay256 (F := Ideal) ys v (ix2 (0 : Fin 1) l) : EReal) = (∑ a : Fin 8, (v (ix3 (0 : Fin 1) a l) : EReal)) * ys := by
  have e1 : ∀ w : FVec Ideal S128 .f32, shapeCast S1x128 w shapeCasts_S128_S1x128 (ix2 (0 : Fin 1) l) = w (ix1 l) := fun w => by
    pointwise
    exact congrArg w (by funext c; match c with | ⟨0, _⟩ => rfl)
  have e2 : ∀ a : Fin 8, shapeCast S8x128 v shapeCasts_S1x8x128_S8x128 (ix2 a l) = v (ix3 (0 : Fin 1) a l) := fun a => by
    pointwise
    exact congrArg v (by funext c; match c with | ⟨0, _⟩ => rfl | ⟨1, _⟩ => rfl | ⟨2, _⟩ => rfl)
  have e3 : (multiReduction (F := Ideal) (φ := .f32) .add [0] S128 (shapeCast S8x128 v shapeCasts_S1x8x128_S8x128) 0x00000000#32 reduces_S8x128_S128 (.inl rfl) rfl (ix1 l) : EReal)
      = ∑ a : Fin 8, (v (ix3 (0 : Fin 1) a l) : EReal) := by
    refine (multiReduction_add_apply _ _ _ _ _ _).trans ?_
    rw [Ideal.reduceAdd_def, Ideal.reduceAdd_r2_a0]
    exact Finset.sum_congr rfl fun a _ => e2 a
  exact congrArg (fun z : EReal => z * ys) ((e1 _).trans e3)

theorem pay268_eq (ys : EReal) (v : Vec Ideal S1x8x128 .f32) : k0_pay268 (F := Ideal) ys v = k0_pay256 (F := Ideal) ys v := rfl

theorem rS'_emb (j : ℕ) (a : Fin 8) (l : Fin 128) : (rS' j).emb (ix3 (0 : Fin 1) a l) = ix3 (⟨j % 2, Nat.mod_lt _ (by norm_num)⟩ : Fin 2) a l := rS_emb j a l

theorem rR_emb (k : ℕ) (l : Fin 128) : (rR k).emb (ix2 (0 : Fin 1) l) = ix2 (⟨k % 16, Nat.mod_lt _ (by norm_num)⟩ : Fin 16) l := by
  have f0 : ((rR k).emb (ix2 (0 : Fin 1) l) 0).val = k % 16 + 0 := emb_val ..
  have f1 : ((rR k).emb (ix2 (0 : Fin 1) l) 1).val = 0 + l.val := emb_val ..
  funext c
  apply Fin.ext
  match c with
  | ⟨0, _⟩ => exact f0
  | ⟨1, _⟩ => exact f1.trans (Nat.zero_add _)

theorem finDb_row (k : ℕ) (s1 : BufS Ideal) (db : S16x128.Idx → Elt Ideal .f32) (j : Fin 2) (hk : k < 8) (l : Fin 128) :
    (finDb I k s1 db (ix2 (⟨2 * k + j.val, by omega⟩ : Fin 16) l) : EReal) = (∑ a : Fin 8, (s1 (ix3 j a l) : EReal)) * (sc I.ys : EReal) := by
  unfold finDb
  have hj : j.val = 0 ∨ j.val = 1 := by have := j.isLt; omega
  rcases hj with e | e
  · obtain rfl : j = 0 := Fin.ext e
    rw [upd_of_not_mem _ _ _ (by rw [mem_rR]; show ¬ 2 * k + 0 = (2 * k + 1) % 16; omega)]
    have e0 : (ix2 (⟨2 * k + (0 : Fin 2).val, by omega⟩ : Fin 16) l : S16x128.Idx) = (rR (2 * k + 0)).emb (ix2 (0 : Fin 1) l) := by
      rw [rR_emb]
      refine congrArg (fun x : Fin 16 => ix2 x l) (Fin.ext ?_)
      show 2 * k + 0 = (2 * k + 0) % 16
      omega
    refine (congrArg _ e0).trans ((upd_emb ..).trans ((pay256_apply _ _ l).trans ?_))
    exact congrArg (fun z : EReal => z * (sc I.ys : EReal)) (Finset.sum_congr rfl fun a _ => congrArg s1 (rS'_emb 0 a l))
  · obtain rfl : j = 1 := Fin.ext e
    have e0 : (ix2 (⟨2 * k + (1 : Fin 2).val, by show 2 * k + 1 < 16; omega⟩ : Fin 16) l : S16x128.Idx) = (rR (2 * k + 1)).emb (ix2 (0 : Fin 1) l) := by
      rw [rR_emb]
      refine congrArg (fun x : Fin 16 => ix2 x l) (Fin.ext ?_)
      show 2 * k + 1 = (2 * k + 1) % 16
      omega
    refine (congrArg _ e0).trans ((upd_emb ..).trans ((congrFun (pay268_eq _ _) _).trans ((pay256_apply _ _ l).trans ?_)))
    exact congrArg (fun z : EReal => z * (sc I.ys : EReal)) (Finset.sum_congr rfl fun a _ => congrArg s1 (rS'_emb 1 a l))

theorem pay339_zero (i : S2x8x128.Idx) : (k0_pay339 (F := Ideal) i : EReal) = 0 := by
  show Ideal.ofBits .f32 0x00000000#32 = 0
  simp [Ideal.ofBits, Ideal.ieee]

theorem updSA_zero (s1 : BufS Ideal) (i : S2x8x128.Idx) : upd rSA (k0_pay339 (F := Ideal)) s1 i = (0 : EReal) := by
  have hi := mem_rSA (i := i)
  rw [← Rect.map_emb_univ] at hi
  obtain ⟨x, -, rfl⟩ := Finset.mem_map.mp hi
  exact (upd_emb ..).trans (pay339_zero x)

/-- A block's end. -/
theorem Inv.fin {b : ℕ} (hb : b < 8) {σ : St Ideal} (h : Inv I b 28 σ) : Inv I (b + 1) 0 (fin I b σ) := by
  refine ⟨?_, ?_, ?_⟩
  · rw [show 28 * (b + 1) + 0 = 28 * b + 28 by omega]
    exact h.M
  · intro j a l
    rw [Finset.sum_range_zero]
    exact updSA_zero _ _
  · intro k l hk
    show (finDb I b σ.s1 σ.db (ix2 k l) : EReal) = _
    by_cases hc : k.val < 2 * b
    · rw [← h.db k l hc]
      unfold finDb
      rw [upd_of_not_mem _ _ _ (by rw [mem_rR]; show ¬ k.val = (2 * b + 1) % 16; omega), upd_of_not_mem _ _ _ (by rw [mem_rR]; show ¬ k.val = (2 * b + 0) % 16; omega)]
    · obtain ⟨j, hj⟩ : ∃ j : Fin 2, k.val = 2 * b + j.val := ⟨⟨k.val - 2 * b, by omega⟩, by show k.val = 2 * b + (k.val - 2 * b); omega⟩
      have hk' : k = (⟨2 * b + j.val, by omega⟩ : Fin 16) := Fin.ext hj
      rw [hk', finDb_row I b σ.s1 σ.db j hb l]
      refine congrArg (fun z : EReal => z * (sc I.ys : EReal)) ?_
      rw [Finset.sum_range]
      refine Finset.sum_congr rfl fun a _ => ?_
      rw [h.s1 j a l]
      refine Finset.sum_congr rfl fun c _ => ?_
      rw [show 128 * (2 * b + j.val) + l.val = 256 * b + 128 * j.val + l.val by omega]

theorem pay313_apply : ∀ (a : Fin 8) (l : Fin 128), k0_pay313 (ix2 a l) = BitVec.ofNat 32 (l.val / 8) := by
  intro a l
  have e : k0_pay313 (ix2 a l) = IntOp.shrsi .vector (BitVec.ofNat 32 (0 * 128 + l.val)) 3#32 := rfl
  rw [e]
  have : ∀ l : Fin 128, IntOp.shrsi .vector (BitVec.ofNat 32 (0 * 128 + l.val)) 3#32 = BitVec.ofNat 32 (l.val / 8) := by decide +kernel
  exact this l

theorem add_toNat (a : Fin 8) (l : Fin 128) (k : ℕ) (hk : k ≤ 112) (w : BitVec 32) (hw : w = BitVec.ofNat 32 k) :
    (IntOp.addi (k0_pay313 (ix2 a l)) w).toNat = l.val / 8 + k := by
  have := l.isLt
  rw [pay313_apply, hw]
  show (BitVec.ofNat 32 (l.val / 8) + BitVec.ofNat 32 k).toNat = _
  rw [BitVec.toNat_add, BitVec.toNat_ofNat, BitVec.toNat_ofNat]
  omega

theorem la1 (a : Fin 8) (l : Fin 128) : (k0_pay114 k0_pay313 (ix2 a l)).toNat = bf 0 0 l.val := add_toNat a l 0 (by omega) _ (show Scalar.addi (Scalar.muli (Scalar.remsi 0#32 4#32) 32#32) 0#32 = BitVec.ofNat 32 0 by decide)
theorem lb1 (a : Fin 8) (l : Fin 128) : (k0_pay115 k0_pay313 (ix2 a l)).toNat = bf 0 1 l.val := add_toNat a l 16 (by omega) _ (show Scalar.addi (Scalar.muli (Scalar.remsi 0#32 4#32) 32#32) 16#32 = BitVec.ofNat 32 16 by decide)
theorem la3 (b : ℕ) (hb : b < 8) (a : Fin 8) (l : Fin 128) : (k0_pay274 k0_pay313 (BitVec.ofNat 32 b) (ix2 a l)).toNat = bf b 0 l.val := by
  refine add_toNat a l (32 * (b % 4) + 16 * 0) (by omega) _ ?_
  have : ∀ b : Fin 8, Scalar.addi (Scalar.muli (Scalar.remsi (BitVec.ofNat 32 b.val) 4#32) 32#32) 0#32 = BitVec.ofNat 32 (32 * (b.val % 4) + 16 * 0) := by decide +kernel
  exact this ⟨b, hb⟩
theorem lb3 (b : ℕ) (hb : b < 8) (a : Fin 8) (l : Fin 128) : (k0_pay275 k0_pay313 (BitVec.ofNat 32 b) (ix2 a l)).toNat = bf b 1 l.val := by
  refine add_toNat a l (32 * (b % 4) + 16 * 1) (by omega) _ ?_
  have : ∀ b : Fin 8, Scalar.addi (Scalar.muli (Scalar.remsi (BitVec.ofNat 32 b.val) 4#32) 32#32) 16#32 = BitVec.ofNat 32 (32 * (b.val % 4) + 16 * 1) := by decide +kernel
  exact this ⟨b, hb⟩
theorem bf_lt (b j l : ℕ) (hj : j < 2) (hl : l < 128) : bf b j l < 128 := by unfold bf; omega

attribute [local irreducible] redN outRedN grpD grpO grpS1 grpS2 k0_pay312 k0_pay313

theorem waitD (T : ℕ) (σ : St Ideal) (x : S31x1792x256.Idx) (hx : (x 0).val = T % 31) : (waitSt I T σ).D x = DG I T x :=
  Finset.piecewise_eq_of_mem (RX T) (DG I T) σ.D (by rw [mem_rX]; omega)

/-- The first loop. -/
theorem it1_inv {σ : St Ideal} (h : Inv I 0 0 σ) (n : ℕ) (hn : n ≤ 28) : Inv I 0 n (it1 I k0_pay312 k0_pay313 σ n) := by
  induction n with
  | zero => exact h
  | succ n ih =>
    have h := ih (by omega)
    rw [it1]
    generalize it1 I k0_pay312 k0_pay313 σ n = τ at h ⊢
    unfold step1
    refine Inv.next I (b := 0) (n := n) (T := n) (i := n) (σ := τ) (σ1 := maskSt I n (waitSt I n τ)) (by omega) (by omega) (by omega) (by omega) h ?_ ?_ rfl rfl
      (redN_red la1 lb1 (bf_lt 0) 7 le_rfl)
    · intro x hx
      have e : mm (n + 1) (x 0).val = (x 0).val := by unfold mm; split <;> omega
      rw [e]
      by_cases hc : (x 0).val = n
      · rw [hc]
        exact Finset.piecewise_eq_of_mem (RK n) (MG I n) (waitSt I n τ).M (by rw [mem_rK]; omega)
      · refine (Finset.piecewise_eq_of_notMem (RK n) (MG I n) (waitSt I n τ).M (by rw [mem_rK]; omega)).trans ((h.M x (by omega)).trans ?_)
        rw [show mm (28 * 0 + n) (x 0).val = (x 0).val by unfold mm; split <;> omega]
    · exact fun x hx => waitD I n τ x hx

theorem mst_M {b n t : ℕ} (hn : n < 28) (ht : t + 28 = 28 * b + n) {σ : St Ideal}
    (h : ∀ x : S28x1792x128.Idx, (x 0).val < 28 * b + n → σ.M x = MG I (mm (28 * b + n) (x 0).val) x) (x : S28x1792x128.Idx) :
    (mst I t σ).M x = MG I (mm (t + 28 + 1) (x 0).val) x := by
  have hx : (x 0).val < 28 := (x 0).isLt
  unfold mst
  split
  · next hc =>
    by_cases hm : (x 0).val = n
    · rw [show mm (t + 28 + 1) (x 0).val = t - 56 by unfold mm; split <;> omega]
      exact Finset.piecewise_eq_of_mem (RK (t - 56)) (MG I (t - 56)) σ.M (by rw [mem_rK]; omega)
    · refine (Finset.piecewise_eq_of_notMem (RK (t - 56)) (MG I (t - 56)) σ.M (by rw [mem_rK]; omega)).trans ((h x (by omega)).trans ?_)
      rw [show mm (28 * b + n) (x 0).val = mm (t + 28 + 1) (x 0).val by unfold mm; split <;> split <;> omega]
  · next hc =>
    rw [h x (by omega), show mm (28 * b + n) (x 0).val = mm (t + 28 + 1) (x 0).val by unfold mm; split <;> split <;> omega]

/-- One step of the middle loop. -/
theorem step3_inv {b n t : ℕ} (hb : b < 8) (hn : n < 28) (ht : t + 28 = 28 * b + n) {σ : St Ideal} (h : Inv I b n σ) :
    Inv I b (n + 1) (wr3 I k0_pay312 k0_pay313 t σ) := by
  have hr : Inv I b (n + 1) (mid3 I k0_pay312 k0_pay313 t σ) := by
    unfold mid3
    have ec : cnOf t = BitVec.ofNat 32 b := by unfold cnOf; rw [show t / 28 + 1 = b by omega]
    rw [ec]
    refine Inv.next I (b := b) (n := n) (T := t + 28) (i := t) (σ := σ) (σ1 := mst I t (waitSt I (t + 28) σ)) hb hn ht (by omega) h ?_ ?_ ?_ ?_
      (outRedN_red (la3 b hb) (lb3 b hb) (bf_lt b) _ 7 le_rfl)
    · exact fun x _ => mst_M I hn ht (σ := waitSt I (t + 28) σ) h.M x
    · intro x hx
      rw [mst_D]
      exact waitD I (t + 28) σ x hx
    · rw [mst_s1]; rfl
    · rw [mst_db]; rfl
  unfold wr3
  generalize mid3 I k0_pay312 k0_pay313 t σ = τ at hr ⊢
  exact ⟨hr.M, hr.s1, hr.db⟩

attribute [local irreducible] wr3 fin it1 it5

/-- The middle loop. -/
theorem it3_inv {σ : St Ideal} (h : Inv I 1 0 σ) (t : ℕ) (ht : t ≤ 196) : Inv I (t / 28 + 1) (t % 28) (it3 I k0_pay312 k0_pay313 σ t) := by
  induction t with
  | zero => exact h
  | succ t ih =>
    have h := ih (by omega)
    rw [it3]
    generalize it3 I k0_pay312 k0_pay313 σ t = τ at h ⊢
    have s := step3_inv I (b := t / 28 + 1) (n := t % 28) (t := t) (by omega) (by omega) (by omega) h
    unfold step3
    split
    · next hc =>
      rw [hc] at s
      rw [show (t + 1) / 28 + 1 = t / 28 + 1 + 1 by omega, show (t + 1) % 28 = 0 by omega]
      exact Inv.fin I (by omega) s
    · next hc =>
      rw [show (t + 1) / 28 + 1 = t / 28 + 1 by omega, show (t + 1) % 28 = t % 28 + 1 by omega]
      exact s

/-- The gradient of the shift that the kernel leaves, row by row. -/
theorem run_db (σ : St Ideal) (k : Fin 16) (l : Fin 128) :
    ((run I σ).db (ix2 k l) : EReal) = (∑ a ∈ Finset.range 8, ∑ c ∈ Finset.range 28, cs I c (128 * k.val + l.val) a) * (sc I.ys : EReal) := by
  unfold run
  rw [it5_db]
  have h0 : Inv I 0 0 { σ with s1 := upd rSA (k0_pay339 (F := Ideal)) σ.s1, s2 := upd rSA (k0_pay340 (F := Ideal)) σ.s2 } :=
    ⟨fun x hx => absurd hx (by omega), fun j a l => by rw [Finset.sum_range_zero]; exact updSA_zero _ _, fun k l hk => absurd hk (by omega)⟩
  have h1 := Inv.fin I (by omega) (it1_inv I h0 28 le_rfl)
  exact (it3_inv I h1 196 le_rfl).db k l (by have := k.isLt; omega)

/-! ## The sum over all rows -/

theorem sum_mul (m n : ℕ) (f : ℕ → EReal) : ∑ q ∈ Finset.range m, ∑ r ∈ Finset.range n, f (n * q + r) = ∑ i ∈ Finset.range (n * m), f i := by
  induction m with
  | zero => simp
  | succ m ih => rw [Finset.sum_range_succ, ih, Nat.mul_succ, Finset.sum_range_add]

/-- All rows of a channel, in the order of the kernel's sums. -/
theorem rows_sum (f : ℕ → EReal) :
    ∑ a ∈ Finset.range 8, ∑ c ∈ Finset.range 28, ∑ u ∈ Finset.range 7, grp (fun r => f (1792 * c + r)) u a = ∑ R ∈ Finset.range 50176, f R := by
  unfold grp
  rw [Finset.sum_comm]
  rw [← sum_mul 28 1792 f]
  refine Finset.sum_congr rfl fun c _ => ?_
  rw [Finset.sum_comm]
  have e : ∀ g : ℕ → EReal, ∑ u ∈ Finset.range 7, ∑ a ∈ Finset.range 8, ∑ k ∈ Finset.range 8, ∑ h ∈ Finset.range 4, g (32 * (8 * u + k) + (8 * h + a))
      = ∑ r ∈ Finset.range 1792, g r := by
    intro g
    rw [← sum_mul 56 32 g, ← sum_mul 7 8 fun q => ∑ r ∈ Finset.range 32, g (32 * q + r)]
    refine Finset.sum_congr rfl fun u _ => ?_
    rw [Finset.sum_comm]
    refine Finset.sum_congr rfl fun k _ => ?_
    rw [Finset.sum_comm]
    exact sum_mul 4 8 fun r => g (32 * (8 * u + k) + r)
  exact e fun r => f (1792 * c + r)

/-- The gradient of the shift that the kernel leaves: its channel's masked cotangents summed over all rows, times their scale. -/
theorem run_db_rows (σ : St Ideal) (k : Fin 16) (l : Fin 128) :
    ((run I σ).db (ix2 k l) : EReal) = (∑ R ∈ Finset.range 50176, gv I R (128 * k.val + l.val)) * (sc I.ys : EReal) := by
  rw [run_db, ← rows_sum fun R => gv I R (128 * k.val + l.val)]
  rfl

end Cert.KernelIdeal.Hand

end
-- ==== Proof.IdealDbeta.lean ====
/-
  The shift's gradient that the kernel returns, as a sum over the program's own arguments.
-/
module

public import proofs.«01_k».proof.Proof.IdealTotal
public import proofs.«01_k».proof.Proof.IdealRun
public import Idealize.ShloMosaic.Lib.Pointwise
public import Idealize.ShloMosaic.Lib.StableHlo.ReadAt
public import Idealize.ShloMosaic.Lib.Pipeline.ValueKit

@[expose] public section

set_option maxRecDepth 16384

noncomputable section

namespace Cert.KernelIdeal.Hand

open Cert.KernelIdeal Cert.KernelIdeal.Gen Idealize.SL.Sem
open Idealize.ShloMosaic hiding ix1 ix2 ix3
open Idealize.ShloMosaic.ValueIdx
open scoped BigOperators

variable (m : (ℓ : Loc nD τ sig) → Buf (Elt Ideal) ℓ)

attribute [local irreducible] run

/-- The cotangent's codes. -/
abbrev A2 (c : Dev nD) : S1024x49x2048.Idx → BitVec 8 := m ((c.tc : Thread nD τ).loc main_arg2)
/-- The cotangent's scale. -/
abbrev A3 (c : Dev nD) : EReal := (m ((c.tc : Thread nD τ).loc main_arg3) : S_.Idx → EReal) (fun d => d.elim0)
/-- The mask's bytes. -/
abbrev A4 (c : Dev nD) : S1024x49x256.Idx → BitVec 8 := m ((c.tc : Thread nD τ).loc main_arg4)

/-- The whole result array of the shift's gradient is what the body left. -/
theorem arr_db (c : Dev nD) : (dats m 0 c).arrAt 6 cfg0.N = (fs m c).db := by
  refine (dats m 0 c).arrAt_eq_of_after_last 6 t0_0 (by decide +kernel) _ fun j => ?_
  blk_simp
  rfl

/-- The returned vector is that array, row after row. -/
theorem WW_v17 (c : Dev nD) (k : Fin 16) (l : Fin 128) :
    WW m c (Proc.devRef .tc main_v17) (ix1 (⟨128 * k.val + l.val, by omega⟩ : Fin 2048)) = (fs m c).db (ix2 k l) := by
  have e : WW m c (Proc.devRef .tc main_v17) = shapeCast S2048 ((fs m c).db) shapeCasts_S16x128_S2048 := by
    unfold WW
    simp only [List.flatten_cons, List.flatten_nil, List.append_nil]
    after_results
    refine congrArg (fun z => shapeCast S2048 z shapeCasts_S16x128_S2048) ?_
    exact (Pipeline.withArrays_arr spec0 (by decide) c _ _ 6).trans (arr_db m c)
  rw [e]
  pointwise
  refine congrArg (fs m c).db ?_
  funext d
  match d with
  | ⟨0, _⟩ => exact Fin.ext (show (128 * k.val + l.val) / 128 = k.val by omega)
  | ⟨1, _⟩ => exact Fin.ext (show (128 * k.val + l.val) % 128 = l.val by omega)

/-- The cotangent as the kernel reads it: row `1024 s + b` is row `s` of batch `b`. -/
theorem V_v7 (c : Dev nD) (s : Fin 49) (b : Fin 1024) (ch : Fin 2048) :
    V m c main_v7 (ix2 (⟨1024 * s.val + b.val, by omega⟩ : Fin 50176) ch) = Ideal.ofBits FTy.fp8e5m2 (A2 m c (ix3 b s ch)) := by
  unfold V V0
  simp only [List.flatten_cons, List.flatten_nil, List.append_nil]
  after_reads_at
  refine congrArg (fun i => Ideal.ofBits FTy.fp8e5m2 (A2 m c i)) ?_
  funext d
  match d with
  | ⟨0, _⟩ => exact Fin.ext (show (1024 * s.val + b.val) % 1024 = b.val by omega)
  | ⟨1, _⟩ => exact Fin.ext (show (1024 * s.val + b.val) / 1024 = s.val by omega)
  | ⟨2, _⟩ => rfl

/-- The mask as the kernel reads it. -/
theorem V_v9 (c : Dev nD) (s : Fin 49) (b : Fin 1024) (n : Fin 256) :
    V m c main_v9 (ix2 (⟨1024 * s.val + b.val, by omega⟩ : Fin 50176) n) = A4 m c (ix3 b s n) := by
  unfold V V0
  simp only [List.flatten_cons, List.flatten_nil, List.append_nil]
  after_reads_at
  refine congrArg (A4 m c) ?_
  funext d
  match d with
  | ⟨0, _⟩ => exact Fin.ext (show (1024 * s.val + b.val) % 1024 = b.val by omega)
  | ⟨1, _⟩ => exact Fin.ext (show (1024 * s.val + b.val) / 1024 = s.val by omega)
  | ⟨2, _⟩ => rfl

/-- The scale as the kernel reads it. -/
theorem V_v3 (c : Dev nD) (x : S1.Idx) : (V m c main_v3 x : EReal) = A3 m c := by
  unfold V V0
  simp only [List.flatten_cons, List.flatten_nil, List.append_nil]
  after_results
  exact congrArg (m ((c.tc : Thread nD τ).loc main_arg3) : S_.Idx → EReal) (funext fun d => d.elim0)

theorem II_ys (c : Dev nD) : (sc (II m c).ys : EReal) = A3 m c := V_v3 m c _

/-- The masked cotangent at batch `b`, row `s` and channel `ch`. -/
def tb (c : Dev nD) (b : Fin 1024) (s : Fin 49) (ch : Fin 2048) : EReal :=
  if (A4 m c (ix3 b s (⟨ch.val / 8, by omega⟩ : Fin 256))).getLsbD (ch.val % 8) then Ideal.ofBits FTy.fp8e5m2 (A2 m c (ix3 b s ch)) else 0

theorem gv_II (c : Dev nD) (s : Fin 49) (b : Fin 1024) (ch : Fin 2048) : gv (II m c) (1024 * s.val + b.val) ch.val = tb m c b s ch := by
  unfold gv tb
  rw [dif_pos ⟨by omega, ch.isLt⟩]
  have e1 : (II m c).y (ix2 (⟨1024 * s.val + b.val, by omega⟩ : Fin 50176) ch) = Ideal.ofBits FTy.fp8e5m2 (A2 m c (ix3 b s ch)) := V_v7 m c s b ch
  have e2 : (II m c).km (ix2 (⟨1024 * s.val + b.val, by omega⟩ : Fin 50176) (⟨ch.val / 8, by omega⟩ : Fin 256)) = A4 m c (ix3 b s (⟨ch.val / 8, by omega⟩ : Fin 256)) := V_v9 m c s b _
  exact congrArg₂ (fun (x : BitVec 8) (y : EReal) => if x.getLsbD (ch.val % 8) then y else 0) e2 e1

/-- The shift's gradient that the kernel returns: in every channel, the masked cotangents summed over all rows, times the scale. -/
theorem WW_dbeta (c : Dev nD) (ch : Fin 2048) :
    (WW m c (Proc.devRef .tc main_v17) (ix1 ch) : EReal) = (∑ b : Fin 1024, ∑ s : Fin 49, tb m c b s ch) * A3 m c := by
  have h := WW_v17 m c ⟨ch.val / 128, by omega⟩ ⟨ch.val % 128, by omega⟩
  have hc : (⟨128 * (ch.val / 128) + ch.val % 128, by omega⟩ : Fin 2048) = ch := Fin.ext (by show 128 * (ch.val / 128) + ch.val % 128 = ch.val; omega)
  have h2 := h.trans (run_db_rows (II m c) (σ₀ m c) ⟨ch.val / 128, by omega⟩ ⟨ch.val % 128, by omega⟩)
  have h3 := (congrArg (fun z => WW m c (Proc.devRef .tc main_v17) (ix1 z)) hc).symm.trans h2
  refine h3.trans ?_
  refine congrArg₂ (fun x y : EReal => x * y) ?_ (II_ys m c)
  rw [show 50176 = 1024 * 49 by norm_num, ← sum_mul 49 1024 (fun R => gv (II m c) R (128 * (ch.val / 128) + ch.val % 128)), Finset.sum_comm]
  rw [Finset.sum_range]
  refine Finset.sum_congr rfl fun b _ => ?_
  rw [Finset.sum_range]
  refine Finset.sum_congr rfl fun s _ => ?_
  rw [← gv_II m c s b ch]
  refine congrArg₂ (gv (II m c)) ?_ ?_
  · omega
  · show 128 * (ch.val / 128) + ch.val % 128 = ch.val; omega

end Cert.KernelIdeal.Hand

end
-- ==== Proof.RefDbeta.lean ====
/-
  The shift's gradient of the reference, as a sum over its own arguments.
-/
module

public import proofs.«01_k».proof.Proof.Gen.ReferenceIdeal.Frame
public import Idealize.ShloMosaic.Lib.Pointwise
public import Idealize.ShloMosaic.Lib.StableHlo.ReadAt
public import Idealize.ShloMosaic.Lib.Pipeline.ValueKit
public import Idealize.ShloMosaic.Lib.ValueIdx
public import Idealize.ShloMosaic.PureOps.Ideal

@[expose] public section

set_option maxRecDepth 16384

noncomputable section

namespace Cert.ReferenceIdeal.Hand

open Cert.ReferenceIdeal Cert.ReferenceIdeal.Gen Idealize.SL.Sem
open Idealize.ShloMosaic hiding ix1 ix2 ix3
open Idealize.ShloMosaic.ValueIdx
open scoped BigOperators

variable (m : (ℓ : Loc nD τ sig) → Buf (Elt Ideal) ℓ)

/-- A sum over the first two axes of an array of three. -/
theorem reduce_r3_a01 {n0 n1 n2 : ℕ} (h : (⟨3, ![n0, n1, n2]⟩ : Shape).ReducesTo [0, 1] (⟨1, ![n2]⟩ : Shape)) (v : (⟨3, ![n0, n1, n2]⟩ : Shape).Idx → EReal)
    (j : Fin n2) : ∑ i ∈ Finset.univ.filter (fun i => h.drop i = ix1 j), v i = ∑ b : Fin n0, ∑ s : Fin n1, v (ix3 b s j) := by
  refine (Finset.sum_filter_eq_sum_of_fiber _ (fun k : Fin n0 × Fin n1 => (ix3 k.1 k.2 j : (⟨3, ![n0, n1, n2]⟩ : Shape).Idx))
    (fun _ _ e => Prod.ext (congrFun e 0) (congrFun e 1)) (fun i => ?_) v).trans ?_
  · constructor
    · intro e
      refine ⟨(i 0, i 1), ?_⟩
      funext a; apply Fin.ext
      match a with
      | ⟨0, _⟩ => rfl
      | ⟨1, _⟩ => rfl
      | ⟨2, _⟩ => exact (congrArg Fin.val (congrFun e ⟨0, Nat.one_pos⟩)).symm
    · rintro ⟨k, rfl⟩
      funext b
      apply Fin.ext
      match b with
      | ⟨0, _⟩ => rfl
  · simp only [Fintype.sum_prod_type]

/-- What the widening call leaves of the cotangent's codes. -/
theorem arr_dy (c : Dev nD) : (dats m 0 c).arrAt 3 cfg0.N = k0_pay2 (F := Ideal) (V m c main_v1) := by
  refine (dats m 0 c).arrAt_eq_of_after_last 3 t0_0 (by decide +kernel) _ fun j => ?_
  blk_simp
  rw [after0_3]
  frame_out
  refine congrArg (fun z => k0_pay2 (F := Ideal) z j) ?_
  funext x
  have z : ∀ a, win0_1.index t0_0 a = 0 := fun a => rfl
  blk_ext [iblk, z]

/-- The cotangent's codes. -/
abbrev A2 (c : Dev nD) : S1024x49x2048.Idx → BitVec 8 := m ((c.tc : Thread nD τ).loc main_arg2)
/-- The cotangent's scale. -/
abbrev A3 (c : Dev nD) : EReal := (m ((c.tc : Thread nD τ).loc main_arg3) : S_.Idx → EReal) (fun d => d.elim0)
/-- The mask's bytes. -/
abbrev A4 (c : Dev nD) : S1024x49x256.Idx → BitVec 8 := m ((c.tc : Thread nD τ).loc main_arg4)

/-- The arrays after the widening call. -/
abbrev W1 (c : Dev nD) : Valuation τ sig (Elt Ideal) :=
  Pipeline.withArrays (cfgs 0).spec c (V0 m c) fun w => (dats m 0 c).arrAt w (cfgs 0).N

theorem W1_arg3 (c : Dev nD) : W1 m c (Proc.devRef .tc main_arg3) = m ((c.tc : Thread nD τ).loc main_arg3) :=
  (Pipeline.withArrays_of_ne _ c (V0 m c) _ main_arg3 (by exact (by decide : ∀ w, Pipeline.arrRef spec0 w ≠ main_arg3))).trans (V_main_arg3 m c)
theorem W1_arg4 (c : Dev nD) : W1 m c (Proc.devRef .tc main_arg4) = m ((c.tc : Thread nD τ).loc main_arg4) :=
  (Pipeline.withArrays_of_ne _ c (V0 m c) _ main_arg4 (by exact (by decide : ∀ w, Pipeline.arrRef spec0 w ≠ main_arg4))).trans (V_main_arg4 m c)
theorem W1_dy (c : Dev nD) (i : S1024x49x2048.Idx) : (W1 m c (Proc.devRef .tc main_v2_1) i : EReal) = Ideal.ofBits FTy.fp8e5m2 (A2 m c i) := by
  have e : W1 m c (Proc.devRef .tc main_v2_1) = k0_pay2 (F := Ideal) (V m c main_v1) :=
    (Pipeline.withArrays_arr spec0 (by decide) c _ _ 3).trans (arr_dy m c)
  rw [e]
  unfold k0_pay2
  unfold V V0
  simp only [List.flatten_cons, List.flatten_nil, List.append_nil]
  after_results
  pointwise

/-- The reference's test of a mask bit. -/
theorem bit_ne (B : BitVec 8) (k : ℕ) (hk : k < 8) :
    IntOp.cmpi CmpIPredicate.ne (IntOp.andi (IntOp.shrsi ArithUnit.host (BitVec.setWidth 32 B) (BitVec.ofNat 32 k)) 1#32) 0#32
      = if B.getLsbD k then 1#1 else 0#1 := by
  have : ∀ k : Fin 8, ∀ B : BitVec 8, IntOp.cmpi CmpIPredicate.ne (IntOp.andi (IntOp.shrsi ArithUnit.host (BitVec.setWidth 32 B) (BitVec.ofNat 32 k.val)) 1#32) 0#32
      = if B.getLsbD k.val then 1#1 else 0#1 := by decide +kernel
  exact this ⟨k, hk⟩ B

theorem tail_v26 (c : Dev nD) (j : Fin 2048) :
    (Pipeline.afterTail₀ cfgs (dats m) 0 (V0 m) [hostOps1, hostOps1_1, hostOps1_2] c main_v26 (ix1 j) : EReal)
      = ∑ b : Fin 1024, ∑ s : Fin 49, (if (A4 m c (ix3 b s (⟨j.val / 8, by omega⟩ : Fin 256))).getLsbD (j.val % 8)
        then Ideal.ofBits FTy.fp8e5m2 (A2 m c (ix3 b s j)) * A3 m c else 0) := by
  unfold Pipeline.afterTail₀
  simp only [List.flatten_cons, List.flatten_nil, List.append_nil, hostOps1, hostOps1_1, hostOps1_2, List.cons_append, List.nil_append]
  after_reads_at
  unfold Ideal.hostReduceAdd
  rw [zero_add]
  refine (reduce_r3_a01 _ _ j).trans ?_
  refine Finset.sum_congr rfl fun b _ => Finset.sum_congr rfl fun s _ => ?_
  pointwise
  have e2 : (id (constant (F := Ideal) S_ FTy.f32 0#32) Idealize.ShloMosaic.ix0 : EReal) = 0 := by
    show Ideal.ofBits .f32 0#32 = 0
    simp [Ideal.ofBits, Ideal.ieee]
  have e3 : (W1 m c (Proc.devRef .tc main_arg3) Idealize.ShloMosaic.ix0 : EReal) = A3 m c :=
    (congrFun (W1_arg3 m c) _).trans (congrArg (m ((c.tc : Thread nD τ).loc main_arg3) : S_.Idx → EReal) (funext fun d => d.elim0))
  have e4 : (W1 m c (Proc.devRef .tc main_arg4) (Idealize.ShloMosaic.ix3 b s (⟨j.val / 8, by omega⟩ : Fin 256)) : BitVec 8)
      = A4 m c (ix3 b s (⟨j.val / 8, by omega⟩ : Fin 256)) :=
    (congrFun (W1_arg4 m c) _).trans (congrArg (A4 m c) (by
      funext d
      match d with
      | ⟨0, _⟩ => rfl
      | ⟨1, _⟩ => rfl
      | ⟨2, _⟩ => rfl))
  refine (congrArg₂ (fun (x : BitVec 1) (y : EReal) => Scalar.select x y (id (constant (F := Ideal) S_ FTy.f32 0#32) Idealize.ShloMosaic.ix0 : EReal))
    ((congrArg (fun B : BitVec 8 => IntOp.cmpi CmpIPredicate.ne (IntOp.andi (IntOp.shrsi ArithUnit.host (BitVec.setWidth 32 B) (BitVec.ofNat 32 (j.val % 8))) 1#32) 0#32) e4).trans
      (bit_ne _ (j.val % 8) (Nat.mod_lt _ (by norm_num)))) (congrArg₂ (fun x y : EReal => x * y) (W1_dy m c _) e3)).trans ?_
  rw [e2]
  unfold Scalar.select
  split_ifs <;> first | rfl | simp_all

end Cert.ReferenceIdeal.Hand

end
-- ==== Proof.Equation.lean ====
/-
  The shift's gradient of the kernel is the reference's, for a scale that is neither negative nor infinite.
-/
module

public import proofs.«01_k».proof.Defs
public import proofs.«01_k».proof.Proof.Gen.Pre_scaled
public import proofs.«01_k».proof.Proof.Gen.On_only_dbeta
public import proofs.«01_k».proof.Proof.IdealDbeta
public import proofs.«01_k».proof.Proof.RefDbeta

@[expose] public section

set_option maxRecDepth 16384

noncomputable section

namespace Cert.Proof

open Idealize.SL.Sem
open Idealize.ShloMosaic hiding ix1 ix2 ix3
open Idealize.ShloMosaic.ValueIdx
open scoped BigOperators

/-- A factor that is neither negative nor infinite goes into a finite sum of extended reals. -/
theorem sum_scale {n : ℕ} (f : Fin n → EReal) {s : EReal} (h0 : 0 ≤ s) (h1 : s ≠ ⊤) : (∑ i, f i) * s = ∑ i, f i * s := by
  have h : ∀ t : Finset (Fin n), (∑ i ∈ t, f i) * s = ∑ i ∈ t, f i * s := by
    intro t
    induction t using Finset.induction_on with
    | empty => simp
    | insert a t ha ih => rw [Finset.sum_insert ha, Finset.sum_insert ha, EReal.right_distrib_of_nonneg_of_ne_top h0 h1, ih]
  exact h Finset.univ

/-- What the precondition says of the scale. -/
theorem scaled_spec {a0 : IVec Cert.Pre_scaled.S1024x49x2048 8} {a1 : FVec Ideal Cert.Pre_scaled.S_ .f32} {a2 : IVec Cert.Pre_scaled.S1024x49x2048 8}
    {a3 : FVec Ideal Cert.Pre_scaled.S_ .f32} {a4 : IVec Cert.Pre_scaled.S1024x49x256 8} {a5 a6 a7 : FVec Ideal Cert.Pre_scaled.S2048 .f32}
    (h : Cert.Pre_scaled.fn (F := Ideal) a0 a1 a2 a3 a4 a5 a6 a7 = fun _ => 1#1) (i : Cert.Pre_scaled.S_.Idx) :
    (0 : EReal) ≤ a3 i ∧ (a3 i : EReal) ≠ ⊤ := by
  have e := congrFun h i
  have z0 : Ideal.ofBits .f32 0x00000000#32 = 0 := by simp [Ideal.ofBits, Ideal.ieee]
  have z1 : Ideal.ofBits .f32 0x7F800000#32 = ⊤ := by simp [Ideal.ofBits, Ideal.ieee]
  have e' : IntOp.andi (Ideal.cmp .oge (a3 i : EReal) (Ideal.ofBits .f32 0x00000000#32)) (Ideal.cmp .olt (a3 i : EReal) (Ideal.ofBits .f32 0x7F800000#32)) = 1#1 := e
  rw [z0, z1] at e'
  unfold Ideal.cmp at e'
  by_cases h0 : (0 : EReal) ≤ a3 i <;> by_cases h1 : (a3 i : EReal) < ⊤
  · exact ⟨h0, h1.ne⟩
  all_goals simp [h0, h1, IntOp.andi] at e'

/-- The two results agree. -/
theorem dbeta_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD) (h2 : Cert.ReferenceIdeal.Hand.A2 m' c = Cert.KernelIdeal.Hand.A2 m c)
    (h3 : Cert.ReferenceIdeal.Hand.A3 m' c = Cert.KernelIdeal.Hand.A3 m c) (h4 : Cert.ReferenceIdeal.Hand.A4 m' c = Cert.KernelIdeal.Hand.A4 m c)
    (h0 : 0 ≤ Cert.KernelIdeal.Hand.A3 m c) (h1 : Cert.KernelIdeal.Hand.A3 m c ≠ ⊤) (j : Fin 2048) :
    (Pipeline.afterTail₀ Cert.ReferenceIdeal.cfgs (Cert.ReferenceIdeal.Gen.dats m') 0 (Cert.ReferenceIdeal.Gen.V0 m')
        [Cert.ReferenceIdeal.Gen.hostOps1, Cert.ReferenceIdeal.Gen.hostOps1_1, Cert.ReferenceIdeal.Gen.hostOps1_2] c Cert.ReferenceIdeal.main_v26 (ix1 j) : EReal)
      = Cert.KernelIdeal.Hand.WW m c (Proc.devRef .tc Cert.KernelIdeal.main_v17) (ix1 j) := by
  have key : (∑ b : Fin 1024, ∑ s : Fin 49, (if (Cert.ReferenceIdeal.Hand.A4 m' c (ix3 b s (⟨j.val / 8, by omega⟩ : Fin 256))).getLsbD (j.val % 8)
        then Ideal.ofBits FTy.fp8e5m2 (Cert.ReferenceIdeal.Hand.A2 m' c (ix3 b s j)) * Cert.ReferenceIdeal.Hand.A3 m' c else 0 : EReal))
      = (∑ b : Fin 1024, ∑ s : Fin 49, Cert.KernelIdeal.Hand.tb m c b s j) * Cert.KernelIdeal.Hand.A3 m c := by
    rw [h2, h3, h4, sum_scale _ h0 h1]
    refine Finset.sum_congr rfl fun b _ => ?_
    rw [sum_scale _ h0 h1]
    refine Finset.sum_congr rfl fun s _ => ?_
    unfold Cert.KernelIdeal.Hand.tb
    split_ifs
    · rfl
    · exact (zero_mul _).symm
  exact (Cert.ReferenceIdeal.Hand.tail_v26 m' c j).trans (key.trans (Cert.KernelIdeal.Hand.WW_dbeta m c j).symm)

end Cert.Proof

end
-- ==== Proof.IdealScale.lean ====
/-
  What the kernel leaves in the gradient of the scale: in every channel, the masked cotangents times the activations summed over all rows, times both scales,
  less the mean times the shift's gradient, times the reciprocal deviation.
-/
module

public import proofs.«01_k».proof.Proof.IdealTotal

@[expose] public section

set_option maxRecDepth 16384

noncomputable section

namespace Cert.KernelIdeal.Hand

open Cert.KernelIdeal Cert.KernelIdeal.Gen
open Idealize.ShloMosaic hiding ix1 ix2 ix3
open Idealize.ShloMosaic.ValueIdx
open scoped BigOperators

/-- A masked tile times the tile of activations at its place. -/
def pr (d : FVec Ideal S32x128 .fp8e5m2) (x : Vec Ideal S1x32x128 .fp8e4m3) : FVec Ideal S32x128 .fp8e5m2 :=
  fun i => (d i : EReal) * (shapeCast S32x128 x shapeCasts_S1x32x128_S32x128 i : EReal)

theorem pay10_eq (q : FVec Ideal S8x128 .f32) (d : FVec Ideal S32x128 .fp8e5m2) (x : Vec Ideal S1x32x128 .fp8e4m3) : k0_pay10 q d x = k0_pay11 q (pr d x) := rfl
theorem pay5_eq (d : FVec Ideal S32x128 .fp8e5m2) (x : Vec Ideal S1x32x128 .fp8e4m3) : k0_pay5 (prodT d x) = k0_pay6 (k0_pay9 (pr d x)) := rfl

/-- The activation of ring slot `t` in row `r`, lane `l` of column half `j`. -/
def xv (X : BufX Ideal) (t j l r : ℕ) : EReal :=
  if h : l < 128 ∧ r < 1792 then
    (X (ix3 (⟨t % 31, Nat.mod_lt _ (by norm_num)⟩ : Fin 31) (⟨r, h.2⟩ : Fin 1792) (⟨128 * (j % 2) + l, by omega⟩ : Fin 256)) : EReal) else 0

theorem pr_apply (d : FVec Ideal S32x128 .fp8e5m2) (X : BufX Ideal) (t q j : ℕ) (hq : q < 56) (p : Fin 32) (l : Fin 128) (y : EReal) (hy : (d (ix2 p l) : EReal) = y) :
    (pr d (at' (rT t q j) X) (ix2 p l) : EReal) = y * xv X t j l.val (32 * q + p.val) := by
  have hp := p.isLt
  have hl := l.isLt
  unfold xv
  rw [dif_pos ⟨l.isLt, by omega⟩]
  have e1 : ∀ w : Vec Ideal S1x32x128 .fp8e4m3, shapeCast S32x128 w shapeCasts_S1x32x128_S32x128 (ix2 p l) = w (ix3 (0 : Fin 1) p l) := fun w => by
    pointwise
    exact congrArg w (by funext c; match c with | ⟨0, _⟩ => rfl | ⟨1, _⟩ => rfl | ⟨2, _⟩ => rfl)
  have e2 : (rT t q j).emb (ix3 (0 : Fin 1) p l) = ix3 (⟨t % 31, Nat.mod_lt _ (by norm_num)⟩ : Fin 31) (⟨32 * q + p.val, by omega⟩ : Fin 1792) (⟨128 * (j % 2) + l.val, by omega⟩ : Fin 256) := by
    have f0 : ((rT t q j).emb (ix3 (0 : Fin 1) p l) 0).val = t % 31 + 0 := emb_val ..
    have f1 : ((rT t q j).emb (ix3 (0 : Fin 1) p l) 1).val = 32 * (q % 56) + p.val := emb_val ..
    have f2 : ((rT t q j).emb (ix3 (0 : Fin 1) p l) 2).val = 128 * (j % 2) + l.val := emb_val ..
    funext a
    apply Fin.ext
    match a with
    | ⟨0, _⟩ => exact f0
    | ⟨1, _⟩ => refine f1.trans ?_; show 32 * (q % 56) + p.val = 32 * q + p.val; omega
    | ⟨2, _⟩ => exact f2
  exact congrArg₂ (fun x y : EReal => x * y) hy ((e1 _).trans (congrArg X e2))

theorem pay10_sum (q : FVec Ideal S8x128 .f32) (d : FVec Ideal S32x128 .fp8e5m2) (x : Vec Ideal S1x32x128 .fp8e4m3) (l : Fin 128) (f : ℕ → EReal)
    (hd : ∀ p : Fin 32, (pr d x (ix2 p l) : EReal) = f p.val) (a : Fin 8) :
    (k0_pay10 q d x (ix2 a l) : EReal) = q (ix2 a l) + ∑ h ∈ Finset.range 4, f (8 * h + a.val) :=
  (congrFun (pay10_eq q d x) _).trans (pay11_sum q (pr d x) l f hd a)

theorem pay5_sum (d : FVec Ideal S32x128 .fp8e5m2) (x : Vec Ideal S1x32x128 .fp8e4m3) (l : Fin 128) (f : ℕ → EReal)
    (hd : ∀ p : Fin 32, (pr d x (ix2 p l) : EReal) = f p.val) (a : Fin 8) :
    (k0_pay5 (prodT d x) (ix2 a l) : EReal) = ∑ h ∈ Finset.range 4, f (8 * h + a.val) :=
  (congrFun (pay5_eq d x) _).trans (pay6_sum (pr d x) l f hd a)

/-- Eight tiles' products, summed. -/
theorem eight_sum (d : ℕ → FVec Ideal S32x128 .fp8e5m2) (x : ℕ → Vec Ideal S1x32x128 .fp8e4m3) (l : Fin 128) (f : ℕ → ℕ → EReal)
    (hd : ∀ k, k < 8 → ∀ p : Fin 32, (pr (d k) (x k) (ix2 p l) : EReal) = f k p.val) (a : Fin 8) :
    (k0_pay10 (k0_pay10 (k0_pay10 (k0_pay10 (k0_pay10 (k0_pay10 (k0_pay10 (k0_pay5 (prodT (d 0) (x 0))) (d 1) (x 1)) (d 2) (x 2)) (d 3) (x 3)) (d 4) (x 4)) (d 5) (x 5)) (d 6) (x 6)) (d 7) (x 7)
      (ix2 a l) : EReal) = ∑ k ∈ Finset.range 8, ∑ h ∈ Finset.range 4, f k (8 * h + a.val) := by
  rw [pay10_sum _ _ _ l (f 7) (hd 7 (by norm_num)), pay10_sum _ _ _ l (f 6) (hd 6 (by norm_num)), pay10_sum _ _ _ l (f 5) (hd 5 (by norm_num)), pay10_sum _ _ _ l (f 4) (hd 4 (by norm_num)),
    pay10_sum _ _ _ l (f 3) (hd 3 (by norm_num)), pay10_sum _ _ _ l (f 2) (hd 2 (by norm_num)), pay10_sum _ _ _ l (f 1) (hd 1 (by norm_num)), pay5_sum _ _ l (f 0) (hd 0 (by norm_num))]
  exact (sum8 fun k => ∑ h ∈ Finset.range 4, f k (8 * h + a.val)).symm

section Local
attribute [local irreducible] mdK k0_pay6 k0_pay9 k0_pay11 addS pr

/-- What a group adds to its column half's second running sum. -/
theorem grpS2_apply (lb : IVec S8x128 32) (M : BufM Ideal) (X : BufX Ideal) (D : BufD Ideal) (i t u j : ℕ) (hu : u < 7) (S : BufS Ideal) (a : Fin 8) (l n : Fin 128)
    (hn : ∀ a, (lb (ix2 a l)).toNat = n.val) :
    (grpS2 k0_pay312 lb M X i t u j D S (ix3 (⟨j % 2, Nat.mod_lt _ (by norm_num)⟩ : Fin 2) a l) : EReal)
      = S (ix3 (⟨j % 2, Nat.mod_lt _ (by norm_num)⟩ : Fin 2) a l) + grp (fun r => mv M D i t j n.val l.val r * xv X t j l.val r) u a.val := by
  have hd : ∃ f : ℕ → ℕ → EReal, (f = fun k r => mv M D i t j n.val l.val (32 * (8 * u + k) + r) * xv X t j l.val (32 * (8 * u + k) + r))
      ∧ ∀ k, k < 8 → ∀ p : Fin 32, (pr (mdK k0_pay312 lb M i t u j D k) (at' (rT t (8 * u + k) j) X) (ix2 p l) : EReal) = f k p.val :=
    ⟨_, rfl, fun k hk p => pr_apply _ X t (8 * u + k) j (by omega) p l _ (mdK_apply lb M D i t u j k hk hu p l n hn)⟩
  obtain ⟨f, hf, hd⟩ := hd
  unfold grpS2
  refine (congrArg _ (rS_emb j a l).symm).trans ((upd_emb ..).trans ((addS_apply _ _ a l).trans (congrArg₂ (fun x y : EReal => x + y) (congrArg S (rS_emb j a l)) ?_)))
  refine (eight_sum (mdK k0_pay312 lb M i t u j D) (fun k => at' (rT t (8 * u + k) j) X) l f hd a).trans ?_
  subst hf
  rfl

theorem grpS2_out (v2 lb : IVec S8x128 32) (M : BufM Ideal) (X : BufX Ideal) (D : BufD Ideal) (i t u j : ℕ) (S : BufS Ideal) (x : S2x8x128.Idx) (h : (x 0).val ≠ j % 2) :
    grpS2 v2 lb M X i t u j D S x = S x := by
  unfold grpS2
  exact upd_of_not_mem _ _ _ fun hx => h (mem_rS hx)

attribute [local irreducible] grpS1 grpS2 grpD grpO

/-- The first `n` groups of a chunk were added to both sums of `σ0`. -/
structure Red2 (i t : ℕ) (b : ℕ → ℕ → ℕ) (σ0 : St Ideal) (n : ℕ) (σ : St Ideal) : Prop where
  red : Red i t b σ0 n σ
  X : σ.X = σ0.X
  dg : σ.dg = σ0.dg
  s2 : ∀ (j : Fin 2) (a : Fin 8) (l : Fin 128), (σ.s2 (ix3 j a l) : EReal)
    = σ0.s2 (ix3 j a l) + ∑ u ∈ Finset.range n, grp (fun r => mv σ0.M σ0.D i t j.val (b j.val l.val) l.val r * xv σ0.X t j.val l.val r) u a.val

theorem Red2.zero (i t : ℕ) (b : ℕ → ℕ → ℕ) (σ0 : St Ideal) : Red2 i t b σ0 0 σ0 :=
  ⟨Red.zero .., rfl, rfl, fun _ _ _ => by rw [Finset.sum_range_zero, add_zero]⟩

theorem Red2.step {i t : ℕ} {b : ℕ → ℕ → ℕ} {la lb : IVec S8x128 32} {σ0 σ : St Ideal} {n : ℕ} (hn : n < 7) (h : Red2 i t b σ0 n σ)
    (ha : ∀ (a : Fin 8) (l : Fin 128), (la (ix2 a l)).toNat = b 0 l.val) (hb : ∀ (a : Fin 8) (l : Fin 128), (lb (ix2 a l)).toNat = b 1 l.val)
    (hlt : ∀ j l, j < 2 → l < 128 → b j l < 128) : Red2 i t b σ0 (n + 1) (redSt k0_pay312 la lb i t n σ) := by
  have hgrp : ∀ (D : BufD Ideal) (j l a : ℕ), (∀ x : S31x1792x256.Idx, 256 * n ≤ (x 1).val → (x 2).val / 128 = j % 2 → D x = σ0.D x) →
      grp (fun r => mv σ0.M D i t j (b j l) l r * xv σ0.X t j l r) n a = grp (fun r => mv σ0.M σ0.D i t j (b j l) l r * xv σ0.X t j l r) n a := fun D j l a hD => by
    unfold grp
    refine Finset.sum_congr rfl fun k hk => Finset.sum_congr rfl fun g hg => congrArg (fun z : EReal => z * _) (mv_congr rfl fun x h0 h1 h2 => hD x ?_ h2)
    omega
  have hD1 : ∀ x : S31x1792x256.Idx, 256 * n ≤ (x 1).val → (x 2).val / 128 = 1 → grpD k0_pay312 la σ.M i t n 0 σ.D 8 x = σ0.D x := fun x h1 h2 =>
    (grpD_out _ _ _ _ _ _ _ _ _ x (by rintro ⟨-, h3, -⟩; omega)).trans (h.red.D x h1)
  refine ⟨Red.step hn h.red ha hb hlt, h.X, h.dg, ?_⟩
  intro j a l
  have hj : j.val = 0 ∨ j.val = 1 := by have := j.isLt; omega
  show (grpS2 k0_pay312 lb σ.M σ.X i t n 1 (grpD k0_pay312 la σ.M i t n 0 σ.D 8) (grpS2 k0_pay312 la σ.M σ.X i t n 0 σ.D σ.s2) (ix3 j a l) : EReal) = _
  rw [Finset.sum_range_succ, ← add_assoc, ← h.s2 j a l]
  rcases hj with e | e
  · obtain rfl : j = (⟨0 % 2, Nat.mod_lt _ (by norm_num)⟩ : Fin 2) := Fin.ext e
    rw [grpS2_out _ _ _ _ _ _ _ _ _ _ _ (by show 0 % 2 ≠ 1 % 2; norm_num),
      grpS2_apply la σ.M σ.X σ.D i t n 0 hn σ.s2 a l ⟨b 0 l.val, hlt 0 l.val (by norm_num) l.isLt⟩ (fun a => ha a l), h.red.M, h.X]
    exact congrArg _ (hgrp σ.D 0 l.val a.val fun x h1 _ => h.red.D x h1)
  · obtain rfl : j = (⟨1 % 2, Nat.mod_lt _ (by norm_num)⟩ : Fin 2) := Fin.ext e
    rw [grpS2_apply lb σ.M σ.X _ i t n 1 hn _ a l ⟨b 1 l.val, hlt 1 l.val (by norm_num) l.isLt⟩ (fun a => hb a l),
      grpS2_out _ _ _ _ _ _ _ _ _ _ _ (by show 1 % 2 ≠ 0 % 2; norm_num), h.red.M, h.X]
    have h1 := hD1
    rw [h.red.M] at h1
    exact congrArg _ (hgrp _ 1 l.val a.val fun x hx h2 => h1 x hx h2)

theorem Red2.out {i t : ℕ} {b : ℕ → ℕ → ℕ} {σ0 σ : St Ideal} {n : ℕ} (h : Red2 i t b σ0 n σ) (k : Co Ideal) (t' u : ℕ) :
    Red2 i t b σ0 n (outSt k t' u σ) := by
  obtain ⟨h1, h2, h3, h4⟩ := h
  refine ⟨h1.out k t' u, ?_, ?_, ?_⟩ <;> unfold outSt
  exacts [h2, h3, h4]

section Chunk
variable {i t : ℕ} {b : ℕ → ℕ → ℕ} {la lb : IVec S8x128 32} {σ0 : St Ideal}
    (ha : ∀ (a : Fin 8) (l : Fin 128), (la (ix2 a l)).toNat = b 0 l.val) (hb : ∀ (a : Fin 8) (l : Fin 128), (lb (ix2 a l)).toNat = b 1 l.val)
    (hlt : ∀ j l, j < 2 → l < 128 → b j l < 128)
include ha hb hlt
attribute [local irreducible] redSt

theorem redN_red2 (n : ℕ) (hn : n ≤ 7) : Red2 i t b σ0 n (redN k0_pay312 la lb i t σ0 n) := by
  induction n with
  | zero => exact Red2.zero ..
  | succ n ih => rw [redN]; exact Red2.step (by omega) (ih (by omega)) ha hb hlt

theorem outRedN_red2 (k : Co Ideal) (n : ℕ) (hn : n ≤ 7) : Red2 t (t + 28) b σ0 n (outRedN k k0_pay312 la lb t σ0 n) := by
  induction n with
  | zero => exact Red2.zero ..
  | succ n ih =>
    rw [outRedN]
    exact Red2.step (by omega) ((ih (by omega)).out k t n) ha hb hlt

end Chunk
end Local

variable (I : Ins Ideal)

/-- The activation of row `R` and channel `ch`. -/
def xr (R ch : ℕ) : EReal :=
  if h : R < 50176 ∧ ch < 2048 then (I.x (ix2 (⟨R, h.1⟩ : Fin 50176) (⟨ch, h.2⟩ : Fin 2048)) : EReal) else 0

/-- The rows of chunk `c` whose remainder by eight is `a`, their products summed in channel `ch`. -/
def cs2 (c ch a : ℕ) : EReal := ∑ u ∈ Finset.range 7, grp (fun r => gv I (1792 * c + r) ch * xr I (1792 * c + r) ch) u a

/-- The gradient of the scale from the two sums. -/
def dgOf (k : Fin 16) (l : Fin 128) (S1 S2 : EReal) : EReal :=
  (S2 * (sc I.ys : EReal) * (sc I.xs : EReal) - (I.mean (ix2 k l) : EReal) * (S1 * (sc I.ys : EReal))) * (I.rstd (ix2 k l) : EReal)

/-- The state after `n` chunks of block `b`, with the second sum. -/
structure Inv2 (b n : ℕ) (σ : St Ideal) : Prop where
  inv : Inv I b n σ
  s2 : ∀ (j : Fin 2) (a : Fin 8) (l : Fin 128), (σ.s2 (ix3 j a l) : EReal) = ∑ c ∈ Finset.range n, cs2 I c (256 * b + 128 * j.val + l.val) a.val
  dg : ∀ (k : Fin 16) (l : Fin 128), k.val < 2 * b → (σ.dg (ix2 k l) : EReal)
    = dgOf I k l (∑ a ∈ Finset.range 8, ∑ c ∈ Finset.range 28, cs I c (128 * k.val + l.val) a) (∑ a ∈ Finset.range 8, ∑ c ∈ Finset.range 28, cs2 I c (128 * k.val + l.val) a)

theorem xv_eq {b n T : ℕ} (hb : b < 8) (hn : n < 28) (hT : T = 28 * b + n) {X : BufX Ideal}
    (hX : ∀ x : S31x1792x256.Idx, (x 0).val = T % 31 → X x = XG I T x) {j l r : ℕ} (hj : j < 2) (hl : l < 128) (hr : r < 1792) :
    xv X T j l r = xr I (1792 * n + r) (256 * b + 128 * j + l) := by
  unfold xv xr
  rw [dif_pos ⟨hl, hr⟩, dif_pos ⟨by omega, by omega⟩, hX _ rfl]
  show I.x _ = I.x _
  refine congrArg I.x ?_
  funext c
  apply Fin.ext
  match c with
  | ⟨0, _⟩ => show 1792 * (T % 28) + r = 1792 * n + r; omega
  | ⟨1, _⟩ => show 256 * (T / 28 % 8) + (128 * (j % 2) + l) = 256 * b + 128 * j + l; omega

theorem Inv2.next {b n T : ℕ} (hb : b < 8) (hn : n < 28) (hT : T = 28 * b + n) {i : ℕ} (hi : i % 28 = n) {σ σ1 σ' : St Ideal} (h : Inv2 I b n σ)
    (hM : ∀ x : S28x1792x128.Idx, (x 0).val < T + 1 → σ1.M x = MG I (mm (T + 1) (x 0).val) x)
    (hD : ∀ x : S31x1792x256.Idx, (x 0).val = T % 31 → σ1.D x = DG I T x)
    (hX : ∀ x : S31x1792x256.Idx, (x 0).val = T % 31 → σ1.X x = XG I T x) (hs2 : σ1.s2 = σ.s2) (hd2 : σ1.dg = σ.dg)
    (r : Red2 i T (bf b) σ1 7 σ') (hi' : Inv I b (n + 1) σ') : Inv2 I b (n + 1) σ' := by
  refine ⟨hi', ?_, ?_⟩
  · intro j a l
    rw [r.s2 j a l, hs2, h.s2 j a l, Finset.sum_range_succ (fun c => cs2 I c (256 * b + 128 * j.val + l.val) a.val) n]
    refine congrArg _ ?_
    unfold cs2 grp
    refine Finset.sum_congr rfl fun u hu => Finset.sum_congr rfl fun k hk => Finset.sum_congr rfl fun g hg => ?_
    rw [Finset.mem_range] at hu hk hg
    have := a.isLt
    exact congrArg₂ (fun x y : EReal => x * y) (mv_eq I hb hn hT hi hM hD j.isLt l.isLt (by omega)) (xv_eq I hb hn hT hX j.isLt l.isLt (by omega))
  · rw [r.dg, hd2]
    exact h.dg

theorem pay257_apply (xs ys : EReal) (mean rstd : Vec Ideal S1x128 .f32) (v w : Vec Ideal S1x8x128 .f32) (l : Fin 128) :
    (k0_pay257 (F := Ideal) xs ys mean rstd v w (ix2 (0 : Fin 1) l) : EReal)
      = ((∑ a : Fin 8, (w (ix3 (0 : Fin 1) a l) : EReal)) * ys * xs - (mean (ix2 (0 : Fin 1) l) : EReal) * ((∑ a : Fin 8, (v (ix3 (0 : Fin 1) a l) : EReal)) * ys))
        * (rstd (ix2 (0 : Fin 1) l) : EReal) := by
  have e : (k0_pay257 (F := Ideal) xs ys mean rstd v w (ix2 (0 : Fin 1) l) : EReal)
      = ((k0_pay256 (F := Ideal) ys w (ix2 (0 : Fin 1) l) : EReal) * xs
          - (shapeCast S1x128 mean shapeCasts_S1x128_S1x128 (ix2 (0 : Fin 1) l) : EReal) * (k0_pay256 (F := Ideal) ys v (ix2 (0 : Fin 1) l) : EReal))
        * (shapeCast S1x128 rstd shapeCasts_S1x128_S1x128 (ix2 (0 : Fin 1) l) : EReal) := rfl
  have e1 : ∀ u : Vec Ideal S1x128 .f32, shapeCast S1x128 u shapeCasts_S1x128_S1x128 (ix2 (0 : Fin 1) l) = u (ix2 (0 : Fin 1) l) := fun u => by
    pointwise
  rw [e, e1, e1, pay256_apply, pay256_apply]

theorem pay269_eq (xs ys : EReal) (mean rstd : Vec Ideal S1x128 .f32) (v w : Vec Ideal S1x8x128 .f32) :
    k0_pay269 (F := Ideal) xs ys (k0_pay265 mean) (k0_pay266 rstd) v w = k0_pay257 (F := Ideal) xs ys mean rstd v w := rfl

theorem finDg_row (k : ℕ) (s1 s2 : BufS Ideal) (dg : S16x128.Idx → Elt Ideal .f32) (j : Fin 2) (hk : k < 8) (l : Fin 128) :
    (finDg I k s1 s2 dg (ix2 (⟨2 * k + j.val, by omega⟩ : Fin 16) l) : EReal)
      = dgOf I (⟨2 * k + j.val, by omega⟩ : Fin 16) l (∑ a : Fin 8, (s1 (ix3 j a l) : EReal)) (∑ a : Fin 8, (s2 (ix3 j a l) : EReal)) := by
  unfold finDg
  have hj : j.val = 0 ∨ j.val = 1 := by have := j.isLt; omega
  have key : ∀ (k' : Fin 16) (x : S16x128.Idx) (S1 S2 S1' S2' mu mu' rs rs' : EReal), S1 = S1' → S2 = S2' → mu = mu' → rs = rs' →
      (S2 * (sc I.ys : EReal) * (sc I.xs : EReal) - mu * (S1 * (sc I.ys : EReal))) * rs = (S2' * (sc I.ys : EReal) * (sc I.xs : EReal) - mu' * (S1' * (sc I.ys : EReal))) * rs' := by
    intro k' x S1 S2 S1' S2' mu mu' rs rs' h1 h2 h3 h4
    rw [h1, h2, h3, h4]
  rcases hj with e | e
  · obtain rfl : j = 0 := Fin.ext e
    rw [upd_of_not_mem _ _ _ (by rw [mem_rR]; show ¬ 2 * k + 0 = (2 * k + 1) % 16; omega)]
    have e0 : (ix2 (⟨2 * k + (0 : Fin 2).val, by omega⟩ : Fin 16) l : S16x128.Idx) = (rR (2 * k + 0)).emb (ix2 (0 : Fin 1) l) := by
      rw [rR_emb]
      refine congrArg (fun x : Fin 16 => ix2 x l) (Fin.ext ?_)
      show 2 * k + 0 = (2 * k + 0) % 16
      omega
    refine (congrArg _ e0).trans ((upd_emb ..).trans ((pay257_apply _ _ _ _ _ _ l).trans ?_))
    exact key 0 (ix2 0 l) _ _ _ _ _ _ _ _ (Finset.sum_congr rfl fun a _ => congrArg s1 (rS'_emb 0 a l)) (Finset.sum_congr rfl fun a _ => congrArg s2 (rS'_emb 0 a l))
      (congrArg I.mean e0.symm) (congrArg I.rstd e0.symm)
  · obtain rfl : j = 1 := Fin.ext e
    have e0 : (ix2 (⟨2 * k + (1 : Fin 2).val, by show 2 * k + 1 < 16; omega⟩ : Fin 16) l : S16x128.Idx) = (rR (2 * k + 1)).emb (ix2 (0 : Fin 1) l) := by
      rw [rR_emb]
      refine congrArg (fun x : Fin 16 => ix2 x l) (Fin.ext ?_)
      show 2 * k + 1 = (2 * k + 1) % 16
      omega
    refine (congrArg _ e0).trans ((upd_emb ..).trans ((congrFun (pay269_eq _ _ _ _ _ _) _).trans ((pay257_apply _ _ _ _ _ _ l).trans ?_)))
    exact key 0 (ix2 0 l) _ _ _ _ _ _ _ _ (Finset.sum_congr rfl fun a _ => congrArg s1 (rS'_emb 1 a l)) (Finset.sum_congr rfl fun a _ => congrArg s2 (rS'_emb 1 a l))
      (congrArg I.mean e0.symm) (congrArg I.rstd e0.symm)

theorem pay340_zero (i : S2x8x128.Idx) : (k0_pay340 (F := Ideal) i : EReal) = 0 := by
  show Ideal.ofBits .f32 0x00000000#32 = 0
  simp [Ideal.ofBits, Ideal.ieee]

theorem updSA_zero2 (s2 : BufS Ideal) (i : S2x8x128.Idx) : upd rSA (k0_pay340 (F := Ideal)) s2 i = (0 : EReal) := by
  have hi := mem_rSA (i := i)
  rw [← Rect.map_emb_univ] at hi
  obtain ⟨x, -, rfl⟩ := Finset.mem_map.mp hi
  exact (upd_emb ..).trans (pay340_zero x)

/-- A block's end. -/
theorem Inv2.fin {b : ℕ} (hb : b < 8) {σ : St Ideal} (h : Inv2 I b 28 σ) : Inv2 I (b + 1) 0 (fin I b σ) := by
  refine ⟨Inv.fin I hb h.inv, ?_, ?_⟩
  · intro j a l
    rw [Finset.sum_range_zero]
    exact updSA_zero2 _ _
  · intro k l hk
    show (finDg I b σ.s1 σ.s2 σ.dg (ix2 k l) : EReal) = _
    by_cases hc : k.val < 2 * b
    · rw [← h.dg k l hc]
      unfold finDg
      rw [upd_of_not_mem _ _ _ (by rw [mem_rR]; show ¬ k.val = (2 * b + 1) % 16; omega), upd_of_not_mem _ _ _ (by rw [mem_rR]; show ¬ k.val = (2 * b + 0) % 16; omega)]
    · obtain ⟨j, hj⟩ : ∃ j : Fin 2, k.val = 2 * b + j.val := ⟨⟨k.val - 2 * b, by omega⟩, by show k.val = 2 * b + (k.val - 2 * b); omega⟩
      have hk' : k = (⟨2 * b + j.val, by omega⟩ : Fin 16) := Fin.ext hj
      rw [hk', finDg_row I b σ.s1 σ.s2 σ.dg j hb l]
      refine congrArg₂ (dgOf I _ l) ?_ ?_
      · rw [Finset.sum_range]
        refine Finset.sum_congr rfl fun a _ => ?_
        rw [h.inv.s1 j a l]
        refine Finset.sum_congr rfl fun c _ => ?_
        rw [show 128 * (2 * b + j.val) + l.val = 256 * b + 128 * j.val + l.val by omega]
      · rw [Finset.sum_range]
        refine Finset.sum_congr rfl fun a _ => ?_
        rw [h.s2 j a l]
        refine Finset.sum_congr rfl fun c _ => ?_
        rw [show 128 * (2 * b + j.val) + l.val = 256 * b + 128 * j.val + l.val by omega]

attribute [local irreducible] redN outRedN grpD grpO grpS1 grpS2 k0_pay312 k0_pay313

theorem waitX (T : ℕ) (σ : St Ideal) (x : S31x1792x256.Idx) (hx : (x 0).val = T % 31) : (waitSt I T σ).X x = XG I T x :=
  Finset.piecewise_eq_of_mem (RX T) (XG I T) σ.X (by rw [mem_rX]; omega)

/-- The first loop. -/
theorem it1_inv2 {σ : St Ideal} (h : Inv2 I 0 0 σ) (n : ℕ) (hn : n ≤ 28) : Inv2 I 0 n (it1 I k0_pay312 k0_pay313 σ n) := by
  induction n with
  | zero => exact h
  | succ n ih =>
    have hfull := it1_inv I h.inv (n + 1) hn
    have h := ih (by omega)
    rw [it1] at hfull ⊢
    generalize it1 I k0_pay312 k0_pay313 σ n = τ at h hfull ⊢
    unfold step1 at hfull ⊢
    refine Inv2.next I (b := 0) (n := n) (T := n) (i := n) (σ := τ) (σ1 := maskSt I n (waitSt I n τ)) (by omega) (by omega) (by omega) (by omega) h ?_ ?_ ?_ rfl rfl
      (redN_red2 la1 lb1 (bf_lt 0) 7 le_rfl) hfull
    · intro x hx
      have e : mm (n + 1) (x 0).val = (x 0).val := by unfold mm; split <;> omega
      rw [e]
      by_cases hc : (x 0).val = n
      · rw [hc]
        exact Finset.piecewise_eq_of_mem (RK n) (MG I n) (waitSt I n τ).M (by rw [mem_rK]; omega)
      · refine (Finset.piecewise_eq_of_notMem (RK n) (MG I n) (waitSt I n τ).M (by rw [mem_rK]; omega)).trans ((h.inv.M x (by omega)).trans ?_)
        rw [show mm (28 * 0 + n) (x 0).val = (x 0).val by unfold mm; split <;> omega]
    · exact fun x hx => waitD I n τ x hx
    · exact fun x hx => waitX I n τ x hx

/-- One step of the middle loop. -/
theorem step3_inv2 {b n t : ℕ} (hb : b < 8) (hn : n < 28) (ht : t + 28 = 28 * b + n) {σ : St Ideal} (h : Inv2 I b n σ) :
    Inv2 I b (n + 1) (wr3 I k0_pay312 k0_pay313 t σ) := by
  have hw := step3_inv I hb hn ht h.inv
  have hr : Inv2 I b (n + 1) (mid3 I k0_pay312 k0_pay313 t σ) := by
    have hm : Inv I b (n + 1) (mid3 I k0_pay312 k0_pay313 t σ) := by
      unfold wr3 at hw
      generalize mid3 I k0_pay312 k0_pay313 t σ = τ at hw ⊢
      exact ⟨hw.M, hw.s1, hw.db⟩
    unfold mid3 at hm ⊢
    have ec : cnOf t = BitVec.ofNat 32 b := by unfold cnOf; rw [show t / 28 + 1 = b by omega]
    rw [ec] at hm ⊢
    refine Inv2.next I (b := b) (n := n) (T := t + 28) (i := t) (σ := σ) (σ1 := mst I t (waitSt I (t + 28) σ)) hb hn ht (by omega) h ?_ ?_ ?_ ?_ ?_
      (outRedN_red2 (la3 b hb) (lb3 b hb) (bf_lt b) _ 7 le_rfl) hm
    · exact fun x _ => mst_M I hn ht (σ := waitSt I (t + 28) σ) h.inv.M x
    · intro x hx
      rw [mst_D]
      exact waitD I (t + 28) σ x hx
    · intro x hx
      rw [mst_X]
      exact waitX I (t + 28) σ x hx
    · rw [mst_s2]; rfl
    · rw [mst_dg]; rfl
  unfold wr3 at hw ⊢
  generalize mid3 I k0_pay312 k0_pay313 t σ = τ at hr hw ⊢
  exact ⟨hw, hr.s2, hr.dg⟩

attribute [local irreducible] wr3 fin it1 it5

/-- The middle loop. -/
theorem it3_inv2 {σ : St Ideal} (h : Inv2 I 1 0 σ) (t : ℕ) (ht : t ≤ 196) : Inv2 I (t / 28 + 1) (t % 28) (it3 I k0_pay312 k0_pay313 σ t) := by
  induction t with
  | zero => exact h
  | succ t ih =>
    have h := ih (by omega)
    rw [it3]
    generalize it3 I k0_pay312 k0_pay313 σ t = τ at h ⊢
    have s := step3_inv2 I (b := t / 28 + 1) (n := t % 28) (t := t) (by omega) (by omega) (by omega) h
    unfold step3
    split
    · next hc =>
      rw [hc] at s
      rw [show (t + 1) / 28 + 1 = t / 28 + 1 + 1 by omega, show (t + 1) % 28 = 0 by omega]
      exact Inv2.fin I (by omega) s
    · next hc =>
      rw [show (t + 1) / 28 + 1 = t / 28 + 1 by omega, show (t + 1) % 28 = t % 28 + 1 by omega]
      exact s

/-- The gradient of the scale that the kernel leaves, row by row. -/
theorem run_dg (σ : St Ideal) (k : Fin 16) (l : Fin 128) :
    ((run I σ).dg (ix2 k l) : EReal) = dgOf I k l (∑ a ∈ Finset.range 8, ∑ c ∈ Finset.range 28, cs I c (128 * k.val + l.val) a)
      (∑ a ∈ Finset.range 8, ∑ c ∈ Finset.range 28, cs2 I c (128 * k.val + l.val) a) := by
  unfold run
  rw [it5_dg]
  have h0 : Inv2 I 0 0 { σ with s1 := upd rSA (k0_pay339 (F := Ideal)) σ.s1, s2 := upd rSA (k0_pay340 (F := Ideal)) σ.s2 } :=
    ⟨⟨fun x hx => absurd hx (by omega), fun j a l => by rw [Finset.sum_range_zero]; exact updSA_zero _ _, fun k l hk => absurd hk (by omega)⟩,
      fun j a l => by rw [Finset.sum_range_zero]; exact updSA_zero2 _ _, fun k l hk => absurd hk (by omega)⟩
  have h1 := Inv2.fin I (by omega) (it1_inv2 I h0 28 le_rfl)
  exact (it3_inv2 I h1 196 le_rfl).dg k l (by have := k.isLt; omega)

/-- The gradient of the scale that the kernel leaves, from sums over all rows. -/
theorem run_dg_rows (σ : St Ideal) (k : Fin 16) (l : Fin 128) :
    ((run I σ).dg (ix2 k l) : EReal) = dgOf I k l (∑ R ∈ Finset.range 50176, gv I R (128 * k.val + l.val))
      (∑ R ∈ Finset.range 50176, gv I R (128 * k.val + l.val) * xr I R (128 * k.val + l.val)) := by
  rw [run_dg, ← rows_sum fun R => gv I R (128 * k.val + l.val), ← rows_sum fun R => gv I R (128 * k.val + l.val) * xr I R (128 * k.val + l.val)]
  rfl

end Cert.KernelIdeal.Hand

end
-- ==== Proof.IdealDgamma.lean ====
/-
  The scale's gradient that the kernel returns, from sums over the program's own arguments.
-/
module

public import proofs.«01_k».proof.Proof.IdealScale
public import proofs.«01_k».proof.Proof.IdealDbeta

@[expose] public section

set_option maxRecDepth 16384

noncomputable section

namespace Cert.KernelIdeal.Hand

open Cert.KernelIdeal Cert.KernelIdeal.Gen Idealize.SL.Sem
open Idealize.ShloMosaic hiding ix1 ix2 ix3
open Idealize.ShloMosaic.ValueIdx
open scoped BigOperators

variable (m : (ℓ : Loc nD τ sig) → Buf (Elt Ideal) ℓ)

attribute [local irreducible] run

/-- The activations' codes. -/
abbrev A0 (c : Dev nD) : S1024x49x2048.Idx → BitVec 8 := m ((c.tc : Thread nD τ).loc main_arg0)
/-- The activations' scale. -/
abbrev A1 (c : Dev nD) : EReal := (m ((c.tc : Thread nD τ).loc main_arg1) : S_.Idx → EReal) (fun d => d.elim0)
/-- The means. -/
abbrev A5 (c : Dev nD) : S2048.Idx → EReal := m ((c.tc : Thread nD τ).loc main_arg5)
/-- The reciprocal deviations. -/
abbrev A6 (c : Dev nD) : S2048.Idx → EReal := m ((c.tc : Thread nD τ).loc main_arg6)

theorem arr_dg (c : Dev nD) : (dats m 0 c).arrAt 5 cfg0.N = (fs m c).dg := by
  refine (dats m 0 c).arrAt_eq_of_after_last 5 t0_0 (by decide +kernel) _ fun j => ?_
  blk_simp
  rfl

theorem WW_v16 (c : Dev nD) (k : Fin 16) (l : Fin 128) :
    WW m c (Proc.devRef .tc main_v16) (ix1 (⟨128 * k.val + l.val, by omega⟩ : Fin 2048)) = (fs m c).dg (ix2 k l) := by
  have e : WW m c (Proc.devRef .tc main_v16) = shapeCast S2048 ((fs m c).dg) shapeCasts_S16x128_S2048 := by
    unfold WW
    simp only [List.flatten_cons, List.flatten_nil, List.append_nil]
    after_results
    refine congrArg (fun z => shapeCast S2048 z shapeCasts_S16x128_S2048) ?_
    exact (Pipeline.withArrays_arr spec0 (by decide) c _ _ 5).trans (arr_dg m c)
  rw [e]
  pointwise
  refine congrArg (fs m c).dg ?_
  funext d
  match d with
  | ⟨0, _⟩ => exact Fin.ext (show (128 * k.val + l.val) / 128 = k.val by omega)
  | ⟨1, _⟩ => exact Fin.ext (show (128 * k.val + l.val) % 128 = l.val by omega)

/-- The activations as the kernel reads them. -/
theorem V_v5 (c : Dev nD) (s : Fin 49) (b : Fin 1024) (ch : Fin 2048) :
    V m c main_v5 (ix2 (⟨1024 * s.val + b.val, by omega⟩ : Fin 50176) ch) = Ideal.ofBits FTy.fp8e4m3 (A0 m c (ix3 b s ch)) := by
  unfold V V0
  simp only [List.flatten_cons, List.flatten_nil, List.append_nil]
  after_reads_at
  refine congrArg (fun i => Ideal.ofBits FTy.fp8e4m3 (A0 m c i)) ?_
  funext d
  match d with
  | ⟨0, _⟩ => exact Fin.ext (show (1024 * s.val + b.val) % 1024 = b.val by omega)
  | ⟨1, _⟩ => exact Fin.ext (show (1024 * s.val + b.val) / 1024 = s.val by omega)
  | ⟨2, _⟩ => rfl

theorem V_v2 (c : Dev nD) (x : S1.Idx) : (V m c main_v2 x : EReal) = A1 m c := by
  unfold V V0
  simp only [List.flatten_cons, List.flatten_nil, List.append_nil]
  after_results
  exact congrArg (m ((c.tc : Thread nD τ).loc main_arg1) : S_.Idx → EReal) (funext fun d => d.elim0)

theorem II_xs (c : Dev nD) : (sc (II m c).xs : EReal) = A1 m c := V_v2 m c _

theorem V_v10 (c : Dev nD) (k : Fin 16) (l : Fin 128) : (V m c main_v10 (ix2 k l) : EReal) = A5 m c (ix1 (⟨128 * k.val + l.val, by omega⟩ : Fin 2048)) := by
  unfold V V0
  simp only [List.flatten_cons, List.flatten_nil, List.append_nil]
  after_results
  pointwise
  refine congrArg (A5 m c) ?_
  funext d
  match d with
  | ⟨0, _⟩ => exact Fin.ext (show k.val * 128 + l.val = 128 * k.val + l.val by omega)

theorem V_v11 (c : Dev nD) (k : Fin 16) (l : Fin 128) : (V m c main_v11 (ix2 k l) : EReal) = A6 m c (ix1 (⟨128 * k.val + l.val, by omega⟩ : Fin 2048)) := by
  unfold V V0
  simp only [List.flatten_cons, List.flatten_nil, List.append_nil]
  after_results
  pointwise
  refine congrArg (A6 m c) ?_
  funext d
  match d with
  | ⟨0, _⟩ => exact Fin.ext (show k.val * 128 + l.val = 128 * k.val + l.val by omega)

theorem II_mean (c : Dev nD) (k : Fin 16) (l : Fin 128) : ((II m c).mean (ix2 k l) : EReal) = A5 m c (ix1 (⟨128 * k.val + l.val, by omega⟩ : Fin 2048)) := by
  refine Eq.trans ?_ (V_v10 m c k l)
  show iblk m c 2 t0_0 (ix2 k l) = _
  have z : ∀ a, win0_2.index t0_0 a = 0 := fun a => rfl
  blk_ext [iblk, z]

theorem II_rstd (c : Dev nD) (k : Fin 16) (l : Fin 128) : ((II m c).rstd (ix2 k l) : EReal) = A6 m c (ix1 (⟨128 * k.val + l.val, by omega⟩ : Fin 2048)) := by
  refine Eq.trans ?_ (V_v11 m c k l)
  show iblk m c 3 t0_0 (ix2 k l) = _
  have z : ∀ a, win0_3.index t0_0 a = 0 := fun a => rfl
  blk_ext [iblk, z]

/-- The activation at batch `b`, row `s` and channel `ch`. -/
def xb (c : Dev nD) (b : Fin 1024) (s : Fin 49) (ch : Fin 2048) : EReal := Ideal.ofBits FTy.fp8e4m3 (A0 m c (ix3 b s ch))

theorem xr_II (c : Dev nD) (s : Fin 49) (b : Fin 1024) (ch : Fin 2048) : xr (II m c) (1024 * s.val + b.val) ch.val = xb m c b s ch := by
  unfold xr xb
  rw [dif_pos ⟨by omega, ch.isLt⟩]
  exact V_v5 m c s b ch

/-- A sum over all rows is one over batches and rows of a batch. -/
theorem rows_bs (f : ℕ → EReal) (g : Fin 1024 → Fin 49 → EReal) (h : ∀ b s, f (1024 * s.val + b.val) = g b s) :
    ∑ R ∈ Finset.range 50176, f R = ∑ b : Fin 1024, ∑ s : Fin 49, g b s := by
  rw [show 50176 = 1024 * 49 by norm_num, ← sum_mul 49 1024 f, Finset.sum_comm, Finset.sum_range]
  refine Finset.sum_congr rfl fun b _ => ?_
  rw [Finset.sum_range]
  exact Finset.sum_congr rfl fun s _ => h b s

/-- The scale's gradient that the kernel returns. -/
theorem WW_dgamma (c : Dev nD) (ch : Fin 2048) :
    (WW m c (Proc.devRef .tc main_v16) (ix1 ch) : EReal)
      = ((∑ b : Fin 1024, ∑ s : Fin 49, tb m c b s ch * xb m c b s ch) * A3 m c * A1 m c - A5 m c (ix1 ch) * ((∑ b : Fin 1024, ∑ s : Fin 49, tb m c b s ch) * A3 m c))
        * A6 m c (ix1 ch) := by
  have h := WW_v16 m c ⟨ch.val / 128, by omega⟩ ⟨ch.val % 128, by omega⟩
  have hc : (⟨128 * (ch.val / 128) + ch.val % 128, by omega⟩ : Fin 2048) = ch := Fin.ext (by show 128 * (ch.val / 128) + ch.val % 128 = ch.val; omega)
  have hn : 128 * (ch.val / 128) + ch.val % 128 = ch.val := by omega
  have h2 := h.trans (run_dg_rows (II m c) (σ₀ m c) ⟨ch.val / 128, by omega⟩ ⟨ch.val % 128, by omega⟩)
  have h3 := (congrArg (fun z => WW m c (Proc.devRef .tc main_v16) (ix1 z)) hc).symm.trans h2
  refine h3.trans ?_
  unfold dgOf
  have a5 := (II_mean m c ⟨ch.val / 128, by omega⟩ ⟨ch.val % 128, by omega⟩).trans (congrArg (fun z => A5 m c (ix1 z)) hc)
  have a6 := (II_rstd m c ⟨ch.val / 128, by omega⟩ ⟨ch.val % 128, by omega⟩).trans (congrArg (fun z => A6 m c (ix1 z)) hc)
  have s1 := rows_bs (fun R => gv (II m c) R (128 * (ch.val / 128) + ch.val % 128)) (fun b s => tb m c b s ch) (fun b s => by rw [hn]; exact gv_II m c s b ch)
  have s2 := rows_bs (fun R => gv (II m c) R (128 * (ch.val / 128) + ch.val % 128) * xr (II m c) R (128 * (ch.val / 128) + ch.val % 128))
    (fun b s => tb m c b s ch * xb m c b s ch) (fun b s => by rw [hn]; exact congrArg₂ (fun x y : EReal => x * y) (gv_II m c s b ch) (xr_II m c s b ch))
  rw [II_ys, II_xs, a5, a6, s1, s2]

end Cert.KernelIdeal.Hand

end
-- ==== Proof.RefDgamma.lean ====
/-
  The scale's gradient of the reference, as a sum over its own arguments.
-/
module

public import proofs.«01_k».proof.Proof.RefDbeta

@[expose] public section

set_option maxRecDepth 16384

noncomputable section

namespace Cert.ReferenceIdeal.Hand

open Cert.ReferenceIdeal Cert.ReferenceIdeal.Gen Idealize.SL.Sem
open Idealize.ShloMosaic hiding ix1 ix2 ix3
open Idealize.ShloMosaic.ValueIdx
open scoped BigOperators

variable (m : (ℓ : Loc nD τ sig) → Buf (Elt Ideal) ℓ)

/-- What the widening call leaves of the activations' codes. -/
theorem arr_x (c : Dev nD) : (dats m 0 c).arrAt 2 cfg0.N = k0_pay1 (F := Ideal) (V m c main_v0) := by
  refine (dats m 0 c).arrAt_eq_of_after_last 2 t0_0 (by decide +kernel) _ fun j => ?_
  blk_simp
  rw [after0_2]
  frame_out
  refine congrArg (fun z => k0_pay1 (F := Ideal) z j) ?_
  funext x
  have z : ∀ a, win0_0.index t0_0 a = 0 := fun a => rfl
  blk_ext [iblk, z]

/-- The activations' codes. -/
abbrev A0 (c : Dev nD) : S1024x49x2048.Idx → BitVec 8 := m ((c.tc : Thread nD τ).loc main_arg0)
/-- The activations' scale. -/
abbrev A1 (c : Dev nD) : EReal := (m ((c.tc : Thread nD τ).loc main_arg1) : S_.Idx → EReal) (fun d => d.elim0)
/-- The means. -/
abbrev A5 (c : Dev nD) : S2048.Idx → EReal := m ((c.tc : Thread nD τ).loc main_arg5)
/-- The reciprocal deviations. -/
abbrev A6 (c : Dev nD) : S2048.Idx → EReal := m ((c.tc : Thread nD τ).loc main_arg6)

theorem W1_arg1 (c : Dev nD) : W1 m c (Proc.devRef .tc main_arg1) = m ((c.tc : Thread nD τ).loc main_arg1) :=
  (Pipeline.withArrays_of_ne _ c (V0 m c) _ main_arg1 (by exact (by decide : ∀ w, Pipeline.arrRef spec0 w ≠ main_arg1))).trans (V_main_arg1 m c)
theorem W1_arg5 (c : Dev nD) : W1 m c (Proc.devRef .tc main_arg5) = m ((c.tc : Thread nD τ).loc main_arg5) :=
  (Pipeline.withArrays_of_ne _ c (V0 m c) _ main_arg5 (by exact (by decide : ∀ w, Pipeline.arrRef spec0 w ≠ main_arg5))).trans (V_main_arg5 m c)
theorem W1_arg6 (c : Dev nD) : W1 m c (Proc.devRef .tc main_arg6) = m ((c.tc : Thread nD τ).loc main_arg6) :=
  (Pipeline.withArrays_of_ne _ c (V0 m c) _ main_arg6 (by exact (by decide : ∀ w, Pipeline.arrRef spec0 w ≠ main_arg6))).trans (V_main_arg6 m c)
theorem W1_x (c : Dev nD) (i : S1024x49x2048.Idx) : (W1 m c (Proc.devRef .tc main_v2_0) i : EReal) = Ideal.ofBits FTy.fp8e4m3 (A0 m c i) := by
  have e : W1 m c (Proc.devRef .tc main_v2_0) = k0_pay1 (F := Ideal) (V m c main_v0) :=
    (Pipeline.withArrays_arr spec0 (by decide) c _ _ 2).trans (arr_x m c)
  rw [e]
  unfold k0_pay1
  unfold V V0
  simp only [List.flatten_cons, List.flatten_nil, List.append_nil]
  after_results
  pointwise

theorem tail_v28 (c : Dev nD) (j : Fin 2048) :
    (Pipeline.afterTail₀ cfgs (dats m) 0 (V0 m) [hostOps1, hostOps1_1, hostOps1_2] c main_v28 (ix1 j) : EReal)
      = ∑ b : Fin 1024, ∑ s : Fin 49, (if (A4 m c (ix3 b s (⟨j.val / 8, by omega⟩ : Fin 256))).getLsbD (j.val % 8)
        then Ideal.ofBits FTy.fp8e5m2 (A2 m c (ix3 b s j)) * A3 m c else 0)
          * ((Ideal.ofBits FTy.fp8e4m3 (A0 m c (ix3 b s j)) * A1 m c - A5 m c (ix1 j)) * A6 m c (ix1 j)) := by
  unfold Pipeline.afterTail₀
  simp only [List.flatten_cons, List.flatten_nil, List.append_nil, hostOps1, hostOps1_1, hostOps1_2, List.cons_append, List.nil_append]
  after_reads_at
  unfold Ideal.hostReduceAdd
  rw [zero_add]
  refine (reduce_r3_a01 _ _ j).trans ?_
  refine Finset.sum_congr rfl fun b _ => Finset.sum_congr rfl fun s _ => ?_
  pointwise
  have e2 : (id (constant (F := Ideal) S_ FTy.f32 0#32) Idealize.ShloMosaic.ix0 : EReal) = 0 := by
    show Ideal.ofBits .f32 0#32 = 0
    simp [Ideal.ofBits, Ideal.ieee]
  have e3 : (W1 m c (Proc.devRef .tc main_arg3) Idealize.ShloMosaic.ix0 : EReal) = A3 m c :=
    (congrFun (W1_arg3 m c) _).trans (congrArg (m ((c.tc : Thread nD τ).loc main_arg3) : S_.Idx → EReal) (funext fun d => d.elim0))
  have e4 : (W1 m c (Proc.devRef .tc main_arg4) (Idealize.ShloMosaic.ix3 b s (⟨j.val / 8, by omega⟩ : Fin 256)) : BitVec 8)
      = A4 m c (ix3 b s (⟨j.val / 8, by omega⟩ : Fin 256)) :=
    (congrFun (W1_arg4 m c) _).trans (congrArg (A4 m c) (by
      funext d
      match d with
      | ⟨0, _⟩ => rfl
      | ⟨1, _⟩ => rfl
      | ⟨2, _⟩ => rfl))
  have e1 : (W1 m c (Proc.devRef .tc main_arg1) Idealize.ShloMosaic.ix0 : EReal) = A1 m c :=
    (congrFun (W1_arg1 m c) _).trans (congrArg (m ((c.tc : Thread nD τ).loc main_arg1) : S_.Idx → EReal) (funext fun d => d.elim0))
  have e5 : (W1 m c (Proc.devRef .tc main_arg5) (Idealize.ShloMosaic.ix1 j) : EReal) = A5 m c (ix1 j) :=
    (congrFun (W1_arg5 m c) _).trans (congrArg (A5 m c) (by
      funext d
      match d with
      | ⟨0, _⟩ => rfl))
  have e6 : (W1 m c (Proc.devRef .tc main_arg6) (Idealize.ShloMosaic.ix1 j) : EReal) = A6 m c (ix1 j) :=
    (congrFun (W1_arg6 m c) _).trans (congrArg (A6 m c) (by
      funext d
      match d with
      | ⟨0, _⟩ => rfl))
  refine congrArg₂ (fun x y : EReal => x * y) ?_ (congrArg₂ (fun x y : EReal => x * y) (congrArg₂ (fun x y : EReal => x - y) (congrArg₂ (fun x y : EReal => x * y) (W1_x m c _) e1) e5) e6)
  refine (congrArg₂ (fun (x : BitVec 1) (y : EReal) => Scalar.select x y (id (constant (F := Ideal) S_ FTy.f32 0#32) Idealize.ShloMosaic.ix0 : EReal))
    ((congrArg (fun B : BitVec 8 => IntOp.cmpi CmpIPredicate.ne (IntOp.andi (IntOp.shrsi ArithUnit.host (BitVec.setWidth 32 B) (BitVec.ofNat 32 (j.val % 8))) 1#32) 0#32) e4).trans
      (bit_ne _ (j.val % 8) (Nat.mod_lt _ (by norm_num)))) (congrArg₂ (fun x y : EReal => x * y) (W1_dy m c _) e3)).trans ?_
  rw [e2]
  unfold Scalar.select
  split_ifs <;> first | rfl | simp_all

end Cert.ReferenceIdeal.Hand

end
-- ==== Proof.ScaleEquation.lean ====
/-
  The scale's gradient of the kernel is the reference's, where every argument it takes is finite.
-/
module

public import proofs.«01_k».proof.Defs
public import proofs.«01_k».proof.Proof.Gen.Pre_finite
public import proofs.«01_k».proof.Proof.IdealDgamma
public import proofs.«01_k».proof.Proof.RefDgamma
public import Idealize.ShloMosaic.Lib.ReduceAll
public import Idealize.ShloMosaic.Lib.WordCmp
public import Idealize.ShloMosaic.Lib.Affine

@[expose] public section

set_option maxRecDepth 16384

noncomputable section

namespace Cert.Proof

open Idealize.SL.Sem
open Idealize.ShloMosaic hiding ix1 ix2 ix3
open Idealize.ShloMosaic.ValueIdx
open scoped BigOperators

/-- An activation's code other than the two that are no number is a real number. -/
theorem e4m3_real (b : BitVec 8) (h : IntOp.andi (BitVec.setWidth 32 b) 127#32 ≠ 127#32) : ∃ r : ℝ, (Ideal.ofBits FTy.fp8e4m3 b : EReal) = r := by
  have hn : ¬ ((b.extractLsb' 3 4).toNat = 15 ∧ (b.extractLsb' 0 3).toNat = 7) := by
    have : ∀ b : BitVec 8, (b.extractLsb' 3 4).toNat = 15 ∧ (b.extractLsb' 0 3).toNat = 7 → IntOp.andi (BitVec.setWidth 32 b) 127#32 = 127#32 := by decide +kernel
    exact fun hc => h (this b hc)
  show ∃ r : ℝ, Ideal.e4m3fn b = r
  unfold Ideal.e4m3fn
  dsimp only
  rw [if_neg hn]
  split_ifs
  all_goals exact ⟨_, rfl⟩

/-- A cotangent's code whose exponent bits are not all set is a real number. -/
theorem e5m2_real (b : BitVec 8) (h : IntOp.andi (BitVec.setWidth 32 b) 124#32 ≠ 124#32) : ∃ r : ℝ, (Ideal.ofBits FTy.fp8e5m2 b : EReal) = r := by
  have hn : ¬ (b.extractLsb' 2 5).toNat = 2 ^ 5 - 1 := by
    have : ∀ b : BitVec 8, (b.extractLsb' 2 5).toNat = 2 ^ 5 - 1 → IntOp.andi (BitVec.setWidth 32 b) 124#32 = 124#32 := by decide +kernel
    exact fun hc => h (this b hc)
  show ∃ r : ℝ, Ideal.ieee 5 2 b = r
  unfold Ideal.ieee
  dsimp only
  rw [if_neg hn]
  split_ifs
  all_goals exact ⟨_, rfl⟩

theorem abs_real (x : EReal) (h : Ideal.cmp .olt (max x (-x)) (Ideal.ofBits .f32 0x7F800000#32) = 1#1) : ∃ r : ℝ, x = r := by
  have z1 : Ideal.ofBits .f32 0x7F800000#32 = ⊤ := by simp [Ideal.ofBits, Ideal.ieee]
  rw [z1] at h
  induction x using EReal.rec with
  | bot => simp [Ideal.cmp] at h
  | top => simp [Ideal.cmp] at h
  | coe r => exact ⟨r, rfl⟩

theorem ne_of_cmpi (x y : BitVec 32) (h : IntOp.cmpi .ne x y = 1#1) : x ≠ y := by
  rintro rfl
  simp [IntOp.cmpi] at h

/-- What the precondition says. -/
theorem finite_spec {a0 : IVec Cert.Pre_finite.S1024x49x2048 8} {a1 : FVec Ideal Cert.Pre_finite.S_ .f32} {a2 : IVec Cert.Pre_finite.S1024x49x2048 8}
    {a3 : FVec Ideal Cert.Pre_finite.S_ .f32} {a4 : IVec Cert.Pre_finite.S1024x49x256 8} {a5 a6 a7 : FVec Ideal Cert.Pre_finite.S2048 .f32}
    (h : Cert.Pre_finite.fn (F := Ideal) a0 a1 a2 a3 a4 a5 a6 a7 = fun _ => 1#1) (i : Cert.Pre_finite.S_.Idx) :
    (∀ j, ∃ r : ℝ, (Ideal.ofBits FTy.fp8e4m3 (a0 j) : EReal) = r) ∧ (∀ j, ∃ r : ℝ, (Ideal.ofBits FTy.fp8e5m2 (a2 j) : EReal) = r)
      ∧ (∃ r : ℝ, (a1 i : EReal) = r) ∧ (∃ r : ℝ, (a3 i : EReal) = r) ∧ (∀ j, ∃ r : ℝ, (a5 j : EReal) = r) ∧ (∀ j, ∃ r : ℝ, (a6 j : EReal) = r) := by
  have e := congrFun h i
  have sub : Subsingleton Cert.Pre_finite.S_.Idx := ⟨fun x y => funext fun d => d.elim0⟩
  unfold Cert.Pre_finite.fn Cert.Pre_finite.fn_part1 at e
  dsimp only at e
  obtain ⟨e, h6⟩ := IntOp.andi_eq_one.1 e
  obtain ⟨e, h5⟩ := IntOp.andi_eq_one.1 e
  obtain ⟨e, h3⟩ := IntOp.andi_eq_one.1 e
  obtain ⟨e, h1⟩ := IntOp.andi_eq_one.1 e
  obtain ⟨h0, h2⟩ := IntOp.andi_eq_one.1 e
  refine ⟨fun j => ?_, fun j => ?_, abs_real _ h1, abs_real _ h3, fun j => ?_, fun j => ?_⟩
  · exact e4m3_real _ (ne_of_cmpi _ _ (Host.reduce_andi_all _ _ _ _ i h0 j))
  · exact e5m2_real _ (ne_of_cmpi _ _ (Host.reduce_andi_all _ _ _ _ i h2 j))
  · exact abs_real _ (Host.reduce_andi_all _ _ _ _ i h5 j)
  · exact abs_real _ (Host.reduce_andi_all _ _ _ _ i h6 j)

theorem coe_sum {ι : Type} (t : Finset ι) (f : ι → ℝ) : ∑ i ∈ t, ((f i : ℝ) : EReal) = ((∑ i ∈ t, f i : ℝ) : EReal) := by
  classical
  induction t using Finset.induction_on with
  | empty => simp
  | insert a t ha ih => rw [Finset.sum_insert ha, Finset.sum_insert ha, ih, EReal.coe_add]

/-- The two forms of the scale's gradient, over real numbers. -/
theorem dgamma_real (t x : Fin 1024 → Fin 49 → ℝ) (ys xs mu rs : ℝ) :
    (∑ b, ∑ s, ((t b s : EReal) * (ys : EReal)) * (((x b s : EReal) * (xs : EReal) - (mu : EReal)) * (rs : EReal)))
      = ((∑ b, ∑ s, (t b s : EReal) * (x b s : EReal)) * (ys : EReal) * (xs : EReal) - (mu : EReal) * ((∑ b, ∑ s, (t b s : EReal)) * (ys : EReal))) * (rs : EReal) := by
  simp only [← EReal.coe_mul, ← EReal.coe_sub, coe_sum]
  refine congrArg _ ?_
  have e : ∀ b s, t b s * ys * ((x b s * xs - mu) * rs) = (ys * xs * rs) * (t b s * x b s) - (mu * ys * rs) * t b s := fun b s => by ring
  simp only [e, Finset.sum_sub_distrib, ← Finset.mul_sum]
  ring

/-- The two results agree. -/
theorem dgamma_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD) (h0 : Cert.ReferenceIdeal.Hand.A0 m' c = Cert.KernelIdeal.Hand.A0 m c)
    (h1 : Cert.ReferenceIdeal.Hand.A1 m' c = Cert.KernelIdeal.Hand.A1 m c) (h2 : Cert.ReferenceIdeal.Hand.A2 m' c = Cert.KernelIdeal.Hand.A2 m c)
    (h3 : Cert.ReferenceIdeal.Hand.A3 m' c = Cert.KernelIdeal.Hand.A3 m c) (h4 : Cert.ReferenceIdeal.Hand.A4 m' c = Cert.KernelIdeal.Hand.A4 m c)
    (h5 : Cert.ReferenceIdeal.Hand.A5 m' c = Cert.KernelIdeal.Hand.A5 m c) (h6 : Cert.ReferenceIdeal.Hand.A6 m' c = Cert.KernelIdeal.Hand.A6 m c)
    (f0 : ∀ j, ∃ r : ℝ, (Ideal.ofBits FTy.fp8e4m3 (Cert.KernelIdeal.Hand.A0 m c j) : EReal) = r)
    (f2 : ∀ j, ∃ r : ℝ, (Ideal.ofBits FTy.fp8e5m2 (Cert.KernelIdeal.Hand.A2 m c j) : EReal) = r)
    (f1 : ∃ r : ℝ, Cert.KernelIdeal.Hand.A1 m c = r) (f3 : ∃ r : ℝ, Cert.KernelIdeal.Hand.A3 m c = r)
    (f5 : ∀ j, ∃ r : ℝ, Cert.KernelIdeal.Hand.A5 m c j = r) (f6 : ∀ j, ∃ r : ℝ, Cert.KernelIdeal.Hand.A6 m c j = r) (j : Fin 2048) :
    (Pipeline.afterTail₀ Cert.ReferenceIdeal.cfgs (Cert.ReferenceIdeal.Gen.dats m') 0 (Cert.ReferenceIdeal.Gen.V0 m')
        [Cert.ReferenceIdeal.Gen.hostOps1, Cert.ReferenceIdeal.Gen.hostOps1_1, Cert.ReferenceIdeal.Gen.hostOps1_2] c Cert.ReferenceIdeal.main_v28 (ix1 j) : EReal)
      = Cert.KernelIdeal.Hand.WW m c (Proc.devRef .tc Cert.KernelIdeal.main_v16) (ix1 j) := by
  obtain ⟨xs, f1⟩ := f1
  obtain ⟨ys, f3⟩ := f3
  obtain ⟨mu, f5⟩ := f5 (ix1 j)
  obtain ⟨rs, f6⟩ := f6 (ix1 j)
  choose xf f0 using f0
  choose yf f2 using f2
  have key : (∑ b : Fin 1024, ∑ s : Fin 49, (if (Cert.ReferenceIdeal.Hand.A4 m' c (ix3 b s (⟨j.val / 8, by omega⟩ : Fin 256))).getLsbD (j.val % 8)
        then Ideal.ofBits FTy.fp8e5m2 (Cert.ReferenceIdeal.Hand.A2 m' c (ix3 b s j)) * Cert.ReferenceIdeal.Hand.A3 m' c else 0 : EReal)
          * ((Ideal.ofBits FTy.fp8e4m3 (Cert.ReferenceIdeal.Hand.A0 m' c (ix3 b s j)) * Cert.ReferenceIdeal.Hand.A1 m' c - Cert.ReferenceIdeal.Hand.A5 m' c (ix1 j))
            * Cert.ReferenceIdeal.Hand.A6 m' c (ix1 j)))
      = ((∑ b : Fin 1024, ∑ s : Fin 49, Cert.KernelIdeal.Hand.tb m c b s j * Cert.KernelIdeal.Hand.xb m c b s j) * Cert.KernelIdeal.Hand.A3 m c * Cert.KernelIdeal.Hand.A1 m c
          - Cert.KernelIdeal.Hand.A5 m c (ix1 j) * ((∑ b : Fin 1024, ∑ s : Fin 49, Cert.KernelIdeal.Hand.tb m c b s j) * Cert.KernelIdeal.Hand.A3 m c))
        * Cert.KernelIdeal.Hand.A6 m c (ix1 j) := by
    have ht : ∀ b s, Cert.KernelIdeal.Hand.tb m c b s j
        = ((if (Cert.KernelIdeal.Hand.A4 m c (ix3 b s (⟨j.val / 8, by omega⟩ : Fin 256))).getLsbD (j.val % 8) then yf (ix3 b s j) else 0 : ℝ) : EReal) := fun b s => by
      unfold Cert.KernelIdeal.Hand.tb
      split_ifs
      · exact f2 _
      · exact EReal.coe_zero.symm
    have hx : ∀ b s, Cert.KernelIdeal.Hand.xb m c b s j = ((xf (ix3 b s j) : ℝ) : EReal) := fun b s => f0 _
    simp only [ht, hx]
    rw [h0, h1, h2, h3, h4, h5, h6, f1, f3, f5, f6, ← dgamma_real]
    refine Finset.sum_congr rfl fun b _ => Finset.sum_congr rfl fun s _ => congrArg₂ (fun x y : EReal => x * y) ?_ ?_
    · split_ifs
      · rw [f2]
      · rw [EReal.coe_zero, zero_mul]
    · rw [f0]
  exact (Cert.ReferenceIdeal.Hand.tail_v28 m' c j).trans (key.trans (Cert.KernelIdeal.Hand.WW_dgamma m c j).symm)

end Cert.Proof

end
-- ==== Proof.IdealOut.lean ====
/-
  What a chunk's groups leave in the ring and in the output buffer: the masked cotangents of the summed chunk, and the result's tiles of the chunk of the block before.
-/
module

public import proofs.«01_k».proof.Proof.IdealScale

@[expose] public section

set_option maxRecDepth 16384

noncomputable section

namespace Cert.KernelIdeal.Hand

open Cert.KernelIdeal Cert.KernelIdeal.Gen
open Idealize.ShloMosaic hiding ix1 ix2 ix3 ix4
open Idealize.ShloMosaic.ValueIdx
open scoped BigOperators

/-- Row `r`, lane `l` of column half `j` of ring slot `t`. -/
def rg (t j r : ℕ) (hr : r < 1792) (l : Fin 128) : S31x1792x256.Idx :=
  ix3 (⟨t % 31, Nat.mod_lt _ (by norm_num)⟩ : Fin 31) (⟨r, hr⟩ : Fin 1792) (⟨128 * (j % 2) + l.val, by omega⟩ : Fin 256)

/-- Row `r`, lane `l` of column half `j` of output slot `o`. -/
def og (o j r : ℕ) (hr : r < 1792) (l : Fin 128) : S2x2x1792x128.Idx :=
  ix4 (⟨o % 2, Nat.mod_lt _ (by norm_num)⟩ : Fin 2) (⟨j % 2, Nat.mod_lt _ (by norm_num)⟩ : Fin 2) (⟨r, hr⟩ : Fin 1792) l

theorem rT_emb (t q j : ℕ) (hq : q < 56) (p : Fin 32) (l : Fin 128) : (rT t q j).emb (ix3 (0 : Fin 1) p l) = rg t j (32 * q + p.val) (by omega) l := by
  have f0 : ((rT t q j).emb (ix3 (0 : Fin 1) p l) 0).val = t % 31 + 0 := emb_val ..
  have f1 : ((rT t q j).emb (ix3 (0 : Fin 1) p l) 1).val = 32 * (q % 56) + p.val := emb_val ..
  have f2 : ((rT t q j).emb (ix3 (0 : Fin 1) p l) 2).val = 128 * (j % 2) + l.val := emb_val ..
  funext a
  apply Fin.ext
  match a with
  | ⟨0, _⟩ => exact f0
  | ⟨1, _⟩ => refine f1.trans ?_; show 32 * (q % 56) + p.val = 32 * q + p.val; omega
  | ⟨2, _⟩ => exact f2

theorem rO_emb (t q j : ℕ) (hq : q < 56) (p : Fin 32) (l : Fin 128) : (rO t q j).emb (ix4 (0 : Fin 1) (0 : Fin 1) p l) = og t j (32 * q + p.val) (by omega) l := by
  have f0 : ((rO t q j).emb (ix4 (0 : Fin 1) (0 : Fin 1) p l) 0).val = t % 2 + 0 := emb_val ..
  have f1 : ((rO t q j).emb (ix4 (0 : Fin 1) (0 : Fin 1) p l) 1).val = j % 2 + 0 := emb_val ..
  have f2 : ((rO t q j).emb (ix4 (0 : Fin 1) (0 : Fin 1) p l) 2).val = 32 * (q % 56) + p.val := emb_val ..
  have f3 : ((rO t q j).emb (ix4 (0 : Fin 1) (0 : Fin 1) p l) 3).val = 0 + l.val := emb_val ..
  funext a
  apply Fin.ext
  match a with
  | ⟨0, _⟩ => exact f0
  | ⟨1, _⟩ => exact f1
  | ⟨2, _⟩ => refine f2.trans ?_; show 32 * (q % 56) + p.val = 32 * q + p.val; omega
  | ⟨3, _⟩ => exact f3.trans (Nat.zero_add _)

theorem pay2_apply (v2 lb : IVec S8x128 32) (M : Vec Ideal S1x32x128 .i8) (D : Vec Ideal S1x32x128 .fp8e5m2) (p : Fin 32) (l : Fin 128) :
    (k0_pay2 (F := Ideal) v2 lb M D (ix3 (0 : Fin 1) p l) : EReal) = k0_pay1 (F := Ideal) v2 lb M D (ix2 p l) := by
  unfold k0_pay2
  generalize k0_pay1 (F := Ideal) v2 lb M D = w
  show shapeCast S1x32x128 w shapeCasts_S32x128_S1x32x128 (ix3 (0 : Fin 1) p l) = w (ix2 p l)
  pointwise
  exact congrArg w (by funext c; match c with | ⟨0, _⟩ => rfl | ⟨1, _⟩ => rfl)

/-- The masked cotangents of a group. -/
theorem grpD_in (lb : IVec S8x128 32) (M : BufM Ideal) (D : BufD Ideal) (i t u j : ℕ) (hu : u < 7) (l n : Fin 128)
    (hn : ∀ a, (lb (ix2 a l)).toNat = n.val) (k : ℕ) (hk : k ≤ 8) (r : ℕ) (hr : r < 1792) (h1 : 256 * u ≤ r) (h2 : r < 256 * u + 32 * k) :
    (grpD k0_pay312 lb M i t u j D k (rg t j r hr l) : EReal) = mv M D i t j n.val l.val r := by
  induction k with
  | zero => omega
  | succ k ih =>
    rw [grpD]
    by_cases hc : r < 256 * u + 32 * k
    · refine (upd_of_not_mem _ _ _ ?_).trans (ih (by omega) hc)
      rw [mem_rT]
      rintro ⟨-, h, -⟩
      have h : r / 32 = (8 * u + k) % 56 := h
      omega
    · have e : rg t j r hr l = (rT t (8 * u + k) j).emb (ix3 (0 : Fin 1) (⟨r - 32 * (8 * u + k), by omega⟩ : Fin 32) l) := by
        rw [rT_emb t (8 * u + k) j (by omega)]
        unfold rg
        refine congrArg (fun z : Fin 1792 => ix3 (⟨t % 31, Nat.mod_lt _ (by norm_num)⟩ : Fin 31) z (⟨128 * (j % 2) + l.val, by omega⟩ : Fin 256)) (Fin.ext ?_)
        show r = 32 * (8 * u + k) + (r - 32 * (8 * u + k))
        omega
      refine (congrArg _ e).trans ((upd_emb ..).trans ((pay2_apply ..).trans ((mdK_apply lb M D i t u j k (by omega) hu _ l n hn).trans ?_)))
      refine congrArg (mv M D i t j n.val l.val) ?_
      show 32 * (8 * u + k) + (r - 32 * (8 * u + k)) = r
      omega

/-- Where a group leaves the output buffer as it was. -/
theorem grpO_out' (a b e : FVec Ideal S32x128 .f32) (D : BufD Ideal) (X : BufX Ideal) (t o u j : ℕ) (O : BufO Ideal) (k : ℕ) (x : S2x2x1792x128.Idx)
    (h : ¬ ((x 1).val = j % 2 ∧ ∃ q, q < k ∧ (x 2).val / 32 = (8 * u + q) % 56)) : grpO a b e D X t o u j O k x = O x := by
  induction k with
  | zero => rfl
  | succ k ih =>
    rw [grpO]
    refine (upd_of_not_mem _ _ _ ?_).trans (ih ?_)
    · rw [mem_rO]
      rintro ⟨h0, h1, h2⟩
      exact h ⟨h1, k, by omega, h2⟩
    · rintro ⟨h0, q, hq, h1⟩
      exact h ⟨h0, q, by omega, h1⟩

theorem pay284_apply (a b e : FVec Ideal S32x128 .f32) (D : Vec Ideal S1x32x128 .fp8e5m2) (X : Vec Ideal S1x32x128 .fp8e4m3) (p : Fin 32) (l : Fin 128) :
    (k0_pay284 (F := Ideal) a b e D X (ix4 (0 : Fin 1) (0 : Fin 1) p l) : EReal)
      = (a (ix2 p l) : EReal) * (D (ix3 (0 : Fin 1) p l) : EReal) + ((b (ix2 p l) : EReal) * (X (ix3 (0 : Fin 1) p l) : EReal) + (e (ix2 p l) : EReal)) := by
  have e1 : ∀ w : Vec Ideal S1x32x128 .fp8e4m3, shapeCast S32x128 w shapeCasts_S1x32x128_S32x128 (ix2 p l) = w (ix3 (0 : Fin 1) p l) := fun w => by
    pointwise
    exact congrArg w (by funext c; match c with | ⟨0, _⟩ => rfl | ⟨1, _⟩ => rfl | ⟨2, _⟩ => rfl)
  have e2 : ∀ w : Vec Ideal S1x32x128 .fp8e5m2, shapeCast S32x128 w shapeCasts_S1x32x128_S32x128 (ix2 p l) = w (ix3 (0 : Fin 1) p l) := fun w => by
    pointwise
    exact congrArg w (by funext c; match c with | ⟨0, _⟩ => rfl | ⟨1, _⟩ => rfl | ⟨2, _⟩ => rfl)
  have e3 : ∀ w : FVec Ideal S32x128 .bf16, shapeCast S1x1x32x128 w shapeCasts_S32x128_S1x1x32x128 (ix4 (0 : Fin 1) (0 : Fin 1) p l) = w (ix2 p l) := fun w => by
    pointwise
    exact congrArg w (by funext c; match c with | ⟨0, _⟩ => rfl | ⟨1, _⟩ => rfl)
  unfold k0_pay284
  refine (e3 _).trans ?_
  exact (congrArg₂ (fun x y : EReal => (a (ix2 p l) : EReal) * x + ((b (ix2 p l) : EReal) * y + (e (ix2 p l) : EReal))) (e2 D) (e1 X))

/-- The result's rows of a group. -/
theorem grpO_in (a b e : FVec Ideal S32x128 .f32) (D : BufD Ideal) (X : BufX Ideal) (t o u j : ℕ) (hu : u < 7) (O : BufO Ideal) (l : Fin 128) (ca cb ce : EReal)
    (ha : ∀ p, (a (ix2 p l) : EReal) = ca) (hb : ∀ p, (b (ix2 p l) : EReal) = cb) (he : ∀ p, (e (ix2 p l) : EReal) = ce)
    (k : ℕ) (hk : k ≤ 8) (r : ℕ) (hr : r < 1792) (h1 : 256 * u ≤ r) (h2 : r < 256 * u + 32 * k) :
    (grpO a b e D X t o u j O k (og o j r hr l) : EReal) = ca * (D (rg t j r hr l) : EReal) + (cb * (X (rg t j r hr l) : EReal) + ce) := by
  induction k with
  | zero => omega
  | succ k ih =>
    rw [grpO]
    by_cases hc : r < 256 * u + 32 * k
    · refine (upd_of_not_mem _ _ _ ?_).trans (ih (by omega) hc)
      rw [mem_rO]
      rintro ⟨-, -, h⟩
      have h : r / 32 = (8 * u + k) % 56 := h
      omega
    · have hv : 32 * (8 * u + k) + (r - 32 * (8 * u + k)) = r := by omega
      have e0 : og o j r hr l = (rO o (8 * u + k) j).emb (ix4 (0 : Fin 1) (0 : Fin 1) (⟨r - 32 * (8 * u + k), by omega⟩ : Fin 32) l) := by
        rw [rO_emb o (8 * u + k) j (by omega)]
        unfold og
        exact congrArg (fun z : Fin 1792 => ix4 (⟨o % 2, Nat.mod_lt _ (by norm_num)⟩ : Fin 2) (⟨j % 2, Nat.mod_lt _ (by norm_num)⟩ : Fin 2) z l) (Fin.ext hv.symm)
      have e1 : (rT t (8 * u + k) j).emb (ix3 (0 : Fin 1) (⟨r - 32 * (8 * u + k), by omega⟩ : Fin 32) l) = rg t j r hr l := by
        rw [rT_emb t (8 * u + k) j (by omega)]
        unfold rg
        exact congrArg (fun z : Fin 1792 => ix3 (⟨t % 31, Nat.mod_lt _ (by norm_num)⟩ : Fin 31) z (⟨128 * (j % 2) + l.val, by omega⟩ : Fin 256)) (Fin.ext hv)
      refine (congrArg _ e0).trans ((upd_emb ..).trans ((pay284_apply ..).trans ?_))
      rw [ha, hb, he]
      exact congrArg (fun z => ca * (D z : EReal) + (cb * (X z : EReal) + ce)) e1

attribute [local irreducible] grpS1 grpS2 grpD grpO

/-- The coefficients of a step in both column halves. -/
structure CoV (k : Co Ideal) (ca cb ce : ℕ → Fin 128 → EReal) : Prop where
  a : ∀ p l, (k.a (ix2 p l) : EReal) = ca 0 l
  b : ∀ p l, (k.b (ix2 p l) : EReal) = cb 0 l
  e : ∀ p l, (k.e (ix2 p l) : EReal) = ce 0 l
  a' : ∀ p l, (k.a' (ix2 p l) : EReal) = ca 1 l
  b' : ∀ p l, (k.b' (ix2 p l) : EReal) = cb 1 l
  e' : ∀ p l, (k.e' (ix2 p l) : EReal) = ce 1 l

/-- The first `n` groups of step `t`'s result are in the buffer, and those of the chunk of ring slot `T` were masked, under mask chunk `i`. -/
structure Made (ca cb ce : ℕ → Fin 128 → EReal) (t i T : ℕ) (b : ℕ → ℕ → ℕ) (σ0 : St Ideal) (n : ℕ) (σ : St Ideal) : Prop where
  M : σ.M = σ0.M
  X : σ.X = σ0.X
  hi : ∀ x : S31x1792x256.Idx, 256 * n ≤ (x 1).val → σ.D x = σ0.D x
  other : ∀ x : S31x1792x256.Idx, (x 0).val ≠ T % 31 → σ.D x = σ0.D x
  lo : ∀ (j : ℕ) (hj : j < 2) (r : ℕ) (hr : r < 1792) (l : Fin 128), r < 256 * n → (σ.D (rg T j r hr l) : EReal) = mv σ0.M σ0.D i T j (b j l.val) l.val r
  out : ∀ (j : ℕ) (hj : j < 2) (r : ℕ) (hr : r < 1792) (l : Fin 128), r < 256 * n →
    (σ.O (og t j r hr l) : EReal) = ca j l * (σ0.D (rg t j r hr l) : EReal) + (cb j l * (σ0.X (rg t j r hr l) : EReal) + ce j l)

theorem Made.zero (ca cb ce : ℕ → Fin 128 → EReal) (t i T : ℕ) (b : ℕ → ℕ → ℕ) (σ0 : St Ideal) : Made ca cb ce t i T b σ0 0 σ0 :=
  ⟨rfl, rfl, fun _ _ => rfl, fun _ _ => rfl, fun _ _ _ _ _ h => absurd h (by omega), fun _ _ _ _ _ h => absurd h (by omega)⟩

/-- One group's result in the buffer. -/
theorem outSt_out {ca cb ce : ℕ → Fin 128 → EReal} {k : Co Ideal} (hc : CoV k ca cb ce) {t n : ℕ} (hn : n < 7) {σ : St Ideal} {D : BufD Ideal} {X : BufX Ideal}
    (hD : ∀ x : S31x1792x256.Idx, (x 0).val = t % 31 → σ.D x = D x) (hX : σ.X = X)
    (h : ∀ (j : ℕ) (hj : j < 2) (r : ℕ) (hr : r < 1792) (l : Fin 128), r < 256 * n →
      (σ.O (og t j r hr l) : EReal) = ca j l * (D (rg t j r hr l) : EReal) + (cb j l * (X (rg t j r hr l) : EReal) + ce j l))
    (j : ℕ) (hj : j < 2) (r : ℕ) (hr : r < 1792) (l : Fin 128) (hrn : r < 256 * (n + 1)) :
    ((outSt k t n σ).O (og t j r hr l) : EReal) = ca j l * (D (rg t j r hr l) : EReal) + (cb j l * (X (rg t j r hr l) : EReal) + ce j l) := by
  unfold outSt
  dsimp only
  by_cases hlo : r < 256 * n
  · refine (grpO_out' _ _ _ _ _ _ _ _ _ _ _ _ ?_).trans ((grpO_out' _ _ _ _ _ _ _ _ _ _ _ _ ?_).trans (h j hj r hr l hlo))
    · rintro ⟨-, q, hq, h⟩
      have h : r / 32 = (8 * n + q) % 56 := h
      omega
    · rintro ⟨-, q, hq, h⟩
      have h : r / 32 = (8 * n + q) % 56 := h
      omega
  · have hj' : j = 0 ∨ j = 1 := by omega
    rcases hj' with rfl | rfl
    · refine (grpO_out' _ _ _ _ _ _ _ _ _ _ _ _ ?_).trans ((grpO_in _ _ _ _ _ t t n 0 hn _ l _ _ _ (fun p => hc.a p l) (fun p => hc.b p l) (fun p => hc.e p l) 8 le_rfl r hr (by omega) (by omega)).trans ?_)
      · rintro ⟨h, -⟩
        exact absurd (show 0 % 2 = 1 % 2 from h) (by norm_num)
      · rw [hD _ rfl, hX]
    · refine (grpO_in _ _ _ _ _ t t n 1 hn _ l _ _ _ (fun p => hc.a' p l) (fun p => hc.b' p l) (fun p => hc.e' p l) 8 le_rfl r hr (by omega) (by omega)).trans ?_
      rw [hD _ rfl, hX]

/-- One group of cotangents masked. -/
theorem Made.red {ca cb ce : ℕ → Fin 128 → EReal} {t i T : ℕ} {b : ℕ → ℕ → ℕ} {la lb : IVec S8x128 32} {σ0 σ σ1 : St Ideal} {n : ℕ} (hn : n < 7)
    (h : Made ca cb ce t i T b σ0 n σ) (hM : σ1.M = σ.M) (hX : σ1.X = σ.X) (hD : σ1.D = σ.D)
    (hO : ∀ (j : ℕ) (hj : j < 2) (r : ℕ) (hr : r < 1792) (l : Fin 128), r < 256 * (n + 1) →
      (σ1.O (og t j r hr l) : EReal) = ca j l * (σ0.D (rg t j r hr l) : EReal) + (cb j l * (σ0.X (rg t j r hr l) : EReal) + ce j l))
    (ha : ∀ (a : Fin 8) (l : Fin 128), (la (ix2 a l)).toNat = b 0 l.val) (hb : ∀ (a : Fin 8) (l : Fin 128), (lb (ix2 a l)).toNat = b 1 l.val)
    (hlt : ∀ j l, j < 2 → l < 128 → b j l < 128) : Made ca cb ce t i T b σ0 (n + 1) (redSt k0_pay312 la lb i T n σ1) := by
  refine ⟨hM.trans h.M, hX.trans h.X, ?_, ?_, ?_, hO⟩
  · intro x hx
    show grpD k0_pay312 lb σ1.M i T n 1 (grpD k0_pay312 la σ1.M i T n 0 σ1.D 8) 8 x = _
    rw [hD]
    refine (grpD_out _ _ _ _ _ _ _ _ _ _ ?_).trans ((grpD_out _ _ _ _ _ _ _ _ _ _ ?_).trans (h.hi x (by omega)))
    · rintro ⟨-, -, q, hq, h⟩
      have : (x 1).val < 1792 := (x 1).isLt
      omega
    · rintro ⟨-, -, q, hq, h⟩
      have : (x 1).val < 1792 := (x 1).isLt
      omega
  · intro x hx
    show grpD k0_pay312 lb σ1.M i T n 1 (grpD k0_pay312 la σ1.M i T n 0 σ1.D 8) 8 x = _
    rw [hD]
    exact (grpD_out _ _ _ _ _ _ _ _ _ _ (fun h => hx h.1)).trans ((grpD_out _ _ _ _ _ _ _ _ _ _ (fun h => hx h.1)).trans (h.other x hx))
  · intro j hj r hr l hrn
    show grpD k0_pay312 lb σ1.M i T n 1 (grpD k0_pay312 la σ1.M i T n 0 σ1.D 8) 8 (rg T j r hr l) = _
    rw [hD, hM, h.M]
    by_cases hlo : r < 256 * n
    · refine (grpD_out _ _ _ _ _ _ _ _ _ _ ?_).trans ((grpD_out _ _ _ _ _ _ _ _ _ _ ?_).trans (h.lo j hj r hr l hlo))
      · rintro ⟨-, -, q, hq, h⟩
        have h : r / 32 = (8 * n + q) % 56 := h
        omega
      · rintro ⟨-, -, q, hq, h⟩
        have h : r / 32 = (8 * n + q) % 56 := h
        omega
    · have hj' : j = 0 ∨ j = 1 := by omega
      rcases hj' with rfl | rfl
      · refine (grpD_out _ _ _ _ _ _ _ _ _ _ ?_).trans ((grpD_in la σ0.M σ.D i T n 0 hn l ⟨b 0 l.val, hlt 0 l.val (by norm_num) l.isLt⟩ (fun a => ha a l) 8 le_rfl r hr (by omega) (by omega)).trans ?_)
        · rintro ⟨-, h, -⟩
          have h : (128 * (0 % 2) + l.val) / 128 = 1 % 2 := h
          omega
        · exact mv_congr rfl fun x _ h1 _ => h.hi x (by omega)
      · refine (grpD_in lb σ0.M _ i T n 1 hn l ⟨b 1 l.val, hlt 1 l.val (by norm_num) l.isLt⟩ (fun a => hb a l) 8 le_rfl r hr (by omega) (by omega)).trans ?_
        refine mv_congr rfl fun x _ h1 h2 => (grpD_out _ _ _ _ _ _ _ _ _ _ ?_).trans (h.hi x (by omega))
        rintro ⟨-, h3, -⟩
        omega

section Chunk
variable {ca cb ce : ℕ → Fin 128 → EReal} {t : ℕ} {b : ℕ → ℕ → ℕ} {la lb : IVec S8x128 32} {σ0 : St Ideal}
    (ha : ∀ (a : Fin 8) (l : Fin 128), (la (ix2 a l)).toNat = b 0 l.val) (hb : ∀ (a : Fin 8) (l : Fin 128), (lb (ix2 a l)).toNat = b 1 l.val)
    (hlt : ∀ j l, j < 2 → l < 128 → b j l < 128)
include ha hb hlt

theorem outRedN_made {k : Co Ideal} (hc : CoV k ca cb ce) (n : ℕ) (hn : n ≤ 7) : Made ca cb ce t t (t + 28) b σ0 n (outRedN k k0_pay312 la lb t σ0 n) := by
  induction n with
  | zero => exact Made.zero ..
  | succ n ih =>
    have h := ih (by omega)
    rw [outRedN]
    exact Made.red (by omega) h rfl rfl rfl (outSt_out hc (by omega) (fun x hx => h.other x (by omega)) h.X h.out) ha hb hlt

/-- A chunk's cotangents masked by the first loop. -/
theorem redN_made {i T : ℕ} (n : ℕ) (hn : n ≤ 7) :
    (∀ x : S31x1792x256.Idx, (x 0).val ≠ T % 31 → (redN k0_pay312 la lb i T σ0 n).D x = σ0.D x)
      ∧ (∀ x : S31x1792x256.Idx, 256 * n ≤ (x 1).val → (redN k0_pay312 la lb i T σ0 n).D x = σ0.D x)
      ∧ (∀ (j : ℕ) (hj : j < 2) (r : ℕ) (hr : r < 1792) (l : Fin 128), r < 256 * n →
          ((redN k0_pay312 la lb i T σ0 n).D (rg T j r hr l) : EReal) = mv σ0.M σ0.D i T j (b j l.val) l.val r)
      ∧ (redN k0_pay312 la lb i T σ0 n).M = σ0.M ∧ (redN k0_pay312 la lb i T σ0 n).X = σ0.X := by
  induction n with
  | zero => exact ⟨fun _ _ => rfl, fun _ _ => rfl, fun _ _ _ _ _ h => absurd h (by omega), rfl, rfl⟩
  | succ n ih =>
    obtain ⟨h1, h2, h3, h4, h5⟩ := ih (by omega)
    rw [redN]
    generalize redN k0_pay312 la lb i T σ0 n = σ at h1 h2 h3 h4 h5 ⊢
    have m : Made (fun j l => 0) (fun j l => 0) (fun j l => (σ0.O (og 0 0 0 (by norm_num) 0) : EReal)) 0 i T b σ0 n
        { σ with O := fun _ => σ0.O (og 0 0 0 (by norm_num) 0) } :=
      ⟨h4, h5, h2, h1, h3, fun j hj r hr l _ => by rw [zero_mul, zero_mul, zero_add, zero_add]⟩
    have m' := Made.red (σ1 := { σ with O := fun _ => σ0.O (og 0 0 0 (by norm_num) 0) }) (by omega) m rfl rfl rfl
      (fun j hj r hr l _ => by rw [zero_mul, zero_mul, zero_add, zero_add]) ha hb hlt
    exact ⟨m'.other, m'.hi, m'.lo, m'.M, m'.X⟩

end Chunk

/-- A chunk of the last block. -/
theorem outN_made {ca cb ce : ℕ → Fin 128 → EReal} {k : Co Ideal} (hc : CoV k ca cb ce) {t : ℕ} {σ0 : St Ideal} (n : ℕ) (hn : n ≤ 7) :
    (outN k t σ0 n).D = σ0.D ∧ (outN k t σ0 n).X = σ0.X ∧ ∀ (j : ℕ) (hj : j < 2) (r : ℕ) (hr : r < 1792) (l : Fin 128), r < 256 * n →
      ((outN k t σ0 n).O (og t j r hr l) : EReal) = ca j l * (σ0.D (rg t j r hr l) : EReal) + (cb j l * (σ0.X (rg t j r hr l) : EReal) + ce j l) := by
  induction n with
  | zero => exact ⟨rfl, rfl, fun _ _ _ _ _ h => absurd h (by omega)⟩
  | succ n ih =>
    obtain ⟨h1, h2, h3⟩ := ih (by omega)
    rw [outN]
    exact ⟨h1, h2, outSt_out hc (by omega) (fun x _ => congrFun h1 x) h2 h3⟩

end Cert.KernelIdeal.Hand

end
-- ==== Proof.IdealCoef.lean ====
/-
  The coefficients that a block's end leaves for the result of that block.
-/
module

public import proofs.«01_k».proof.Proof.IdealOut

@[expose] public section

set_option maxRecDepth 16384

noncomputable section

namespace Cert.KernelIdeal.Hand

open Cert.KernelIdeal Cert.KernelIdeal.Gen
open Idealize.ShloMosaic hiding ix1 ix2 ix3 ix4
open Idealize.ShloMosaic.ValueIdx
open scoped BigOperators

variable (I : Ins Ideal)

/-- The program's constant zero. -/
abbrev zz : EReal := Ideal.ofBits .f32 0x00000000#32
/-- The program's constant for one over the number of rows. -/
abbrev im : EReal := Ideal.ofBits .f32 0x37A72F05#32

theorem cast1 (u : Vec Ideal S1x128 .f32) (l : Fin 128) : shapeCast S1x128 u shapeCasts_S1x128_S1x128 (ix2 (0 : Fin 1) l) = u (ix2 (0 : Fin 1) l) := by
  pointwise

theorem bc8 (u : FVec Ideal S1x128 .f32) (a : Fin 8) (l : Fin 128) :
    shapeCast S1x8x128 (broadcastTo S8x128 (shapeCast S1x128 u shapeCasts_S1x128_S1x128) broadcasts_S1x128_S8x128) shapeCasts_S8x128_S1x8x128 (ix3 (0 : Fin 1) a l)
      = u (ix2 (0 : Fin 1) l) := by
  pointwise
  exact congrArg u (by funext c; match c with | ⟨0, _⟩ => rfl | ⟨1, _⟩ => rfl)

/-- A coefficient's first sublane, for every row of a tile. -/
theorem bc32 (v : Vec Ideal S1x1x128 .f32) (p : Fin 32) (l : Fin 128) : (k0_pay276 (F := Ideal) v (ix2 p l) : EReal) = v (ix3 (0 : Fin 1) (0 : Fin 1) l) := by
  unfold k0_pay276
  pointwise
  exact congrArg v (by funext c; match c with | ⟨0, _⟩ => rfl | ⟨1, _⟩ => rfl | ⟨2, _⟩ => rfl)

theorem coef0 (ys : EReal) (r g : Vec Ideal S1x128 .f32) (a : Fin 8) (l : Fin 128) :
    (k0_pay262 (F := Ideal) ys (k0_pay258 r g) (ix3 (0 : Fin 1) a l) : EReal) = (r (ix2 (0 : Fin 1) l) : EReal) * (g (ix2 (0 : Fin 1) l) : EReal) * ys := by
  refine (bc8 _ a l).trans ?_
  exact congrArg₂ (fun x y : EReal => x * y * ys) (cast1 r l) (cast1 g l)

theorem coef1 (xs : EReal) (d r g : FVec Ideal S1x128 .f32) (a : Fin 8) (l : Fin 128) :
    (k0_pay263 (F := Ideal) xs d (k0_pay259 r g) k0_pay260 (ix3 (0 : Fin 1) a l) : EReal)
      = (zz - (r (ix2 (0 : Fin 1) l) : EReal) * (g (ix2 (0 : Fin 1) l) : EReal) * (r (ix2 (0 : Fin 1) l) : EReal)) * ((d (ix2 (0 : Fin 1) l) : EReal) * im) * xs := by
  refine (bc8 _ a l).trans ?_
  exact congrArg₂ (fun x y : EReal => (zz - x * y * x) * ((d (ix2 (0 : Fin 1) l) : EReal) * im) * xs) (cast1 r l) (cast1 g l)

theorem coef2 (m b d r g : FVec Ideal S1x128 .f32) (a : Fin 8) (l : Fin 128) :
    (k0_pay264 (F := Ideal) (k0_pay254 m) b d (k0_pay258 r g) (k0_pay259 r g) k0_pay260 (ix3 (0 : Fin 1) a l) : EReal)
      = (zz - (r (ix2 (0 : Fin 1) l) : EReal) * (g (ix2 (0 : Fin 1) l) : EReal)) * ((b (ix2 (0 : Fin 1) l) : EReal) * im)
        - (zz - (r (ix2 (0 : Fin 1) l) : EReal) * (g (ix2 (0 : Fin 1) l) : EReal) * (r (ix2 (0 : Fin 1) l) : EReal)) * ((d (ix2 (0 : Fin 1) l) : EReal) * im) * (m (ix2 (0 : Fin 1) l) : EReal) := by
  refine (bc8 _ a l).trans ?_
  have e : ∀ r r' g g' m m' : EReal, r = r' → g = g' → m = m' →
      (zz - r * g) * ((b (ix2 (0 : Fin 1) l) : EReal) * im) - (zz - r * g * r) * ((d (ix2 (0 : Fin 1) l) : EReal) * im) * m
        = (zz - r' * g') * ((b (ix2 (0 : Fin 1) l) : EReal) * im) - (zz - r' * g' * r') * ((d (ix2 (0 : Fin 1) l) : EReal) * im) * m' := by
    rintro _ _ _ _ _ _ rfl rfl rfl
    rfl
  exact e _ _ _ _ _ _ (cast1 r l) (cast1 g l) (cast1 m l)

theorem coef0' (ys : EReal) (r g : Vec Ideal S1x128 .f32) : k0_pay272 (F := Ideal) ys (k0_pay266 r) (k0_pay267 g) = k0_pay262 ys (k0_pay258 r g) := rfl
theorem coef1' (xs ys : EReal) (m r g : Vec Ideal S1x128 .f32) (v w : Vec Ideal S1x8x128 .f32) :
    k0_pay337 (F := Ideal) (k0_pay273 xs ys (k0_pay265 m) (k0_pay266 r) (k0_pay267 g) v w) = k0_pay263 xs (k0_pay257 xs ys m r v w) (k0_pay259 r g) k0_pay260 := rfl
theorem coef2' (xs ys : EReal) (m r g : Vec Ideal S1x128 .f32) (v w : Vec Ideal S1x8x128 .f32) :
    k0_pay338 (F := Ideal) (k0_pay265 m) (k0_pay268 ys v) (k0_pay270 (k0_pay266 r) (k0_pay267 g)) (k0_pay271 xs ys (k0_pay265 m) (k0_pay266 r) (k0_pay267 g) v w)
      = k0_pay264 (k0_pay254 m) (k0_pay256 ys v) (k0_pay257 xs ys m r v w) (k0_pay258 r g) (k0_pay259 r g) k0_pay260 := rfl

/-- The coefficient of the masked cotangent. -/
def cA (k : Fin 16) (l : Fin 128) : EReal := (I.rstd (ix2 k l) : EReal) * (I.gam (ix2 k l) : EReal) * (sc I.ys : EReal)
/-- The coefficient of the activation over its scale. -/
def cQ (k : Fin 16) (l : Fin 128) (S1 S2 : EReal) : EReal :=
  (zz - (I.rstd (ix2 k l) : EReal) * (I.gam (ix2 k l) : EReal) * (I.rstd (ix2 k l) : EReal)) * (dgOf I k l S1 S2 * im)
/-- The coefficient of the activation. -/
def cB (k : Fin 16) (l : Fin 128) (S1 S2 : EReal) : EReal := cQ I k l S1 S2 * (sc I.xs : EReal)
/-- The constant term. -/
def cE (k : Fin 16) (l : Fin 128) (S1 S2 : EReal) : EReal :=
  (zz - (I.rstd (ix2 k l) : EReal) * (I.gam (ix2 k l) : EReal)) * (S1 * (sc I.ys : EReal) * im) - cQ I k l S1 S2 * (I.mean (ix2 k l) : EReal)

theorem rC_emb (n : ℕ) (a : Fin 8) (l : Fin 128) : (rC n).emb (ix3 (0 : Fin 1) a l) = ix3 (⟨n % 6, Nat.mod_lt _ (by norm_num)⟩ : Fin 6) a l := by
  have f0 : ((rC n).emb (ix3 (0 : Fin 1) a l) 0).val = n % 6 + 0 := emb_val ..
  have f1 : ((rC n).emb (ix3 (0 : Fin 1) a l) 1).val = 0 + a.val := emb_val ..
  have f2 : ((rC n).emb (ix3 (0 : Fin 1) a l) 2).val = 0 + l.val := emb_val ..
  funext c
  apply Fin.ext
  match c with
  | ⟨0, _⟩ => exact f0
  | ⟨1, _⟩ => exact f1.trans (Nat.zero_add _)
  | ⟨2, _⟩ => exact f2.trans (Nat.zero_add _)

theorem rC1_emb (n : ℕ) (l : Fin 128) : (rC1 n).emb (ix3 (0 : Fin 1) (0 : Fin 1) l) = ix3 (⟨n % 6, Nat.mod_lt _ (by norm_num)⟩ : Fin 6) (0 : Fin 8) l := by
  have f0 : ((rC1 n).emb (ix3 (0 : Fin 1) (0 : Fin 1) l) 0).val = n % 6 + 0 := emb_val ..
  have f1 : ((rC1 n).emb (ix3 (0 : Fin 1) (0 : Fin 1) l) 1).val = 0 + 0 := emb_val ..
  have f2 : ((rC1 n).emb (ix3 (0 : Fin 1) (0 : Fin 1) l) 2).val = 0 + l.val := emb_val ..
  funext c
  apply Fin.ext
  match c with
  | ⟨0, _⟩ => exact f0
  | ⟨1, _⟩ => exact f1
  | ⟨2, _⟩ => exact f2.trans (Nat.zero_add _)

/-- The coefficients are those of block `b` whose sums are `S1` and `S2`. -/
structure CfV (b : ℕ) (S1 S2 : ℕ → Fin 128 → EReal) (cf : S6x8x128.Idx → Elt Ideal .f32) : Prop where
  fa : ∀ (j : Fin 2) (l : Fin 128) (k : Fin 16), k.val = 2 * b + j.val → (cf (ix3 (⟨3 * j.val, by omega⟩ : Fin 6) (0 : Fin 8) l) : EReal) = cA I k l
  fb : ∀ (j : Fin 2) (l : Fin 128) (k : Fin 16), k.val = 2 * b + j.val → (cf (ix3 (⟨3 * j.val + 1, by omega⟩ : Fin 6) (0 : Fin 8) l) : EReal) = cB I k l (S1 j l) (S2 j l)
  fe : ∀ (j : Fin 2) (l : Fin 128) (k : Fin 16), k.val = 2 * b + j.val → (cf (ix3 (⟨3 * j.val + 2, by omega⟩ : Fin 6) (0 : Fin 8) l) : EReal) = cE I k l (S1 j l) (S2 j l)

theorem rR_at (k : Fin 16) (l : Fin 128) (n : ℕ) (h : k.val = n) (w : S16x128.Idx → Elt Ideal .f32) : at' (rR n) w (ix2 (0 : Fin 1) l) = w (ix2 k l) := by
  refine (congrArg w (rR_emb n l)).trans ?_
  have : (⟨n % 16, Nat.mod_lt _ (by norm_num)⟩ : Fin 16) = k := Fin.ext (by show n % 16 = k.val; omega)
  rw [this]

theorem sum_at (j : Fin 2) (s : BufS Ideal) (l : Fin 128) : ∑ a : Fin 8, (at' (rS' j.val) s (ix3 (0 : Fin 1) a l) : EReal) = ∑ a : Fin 8, (s (ix3 j a l) : EReal) := by
  refine Finset.sum_congr rfl fun a _ => (congrArg s (rS'_emb j.val a l)).trans ?_
  have : (⟨j.val % 2, Nat.mod_lt _ (by norm_num)⟩ : Fin 2) = j := Fin.ext (by show j.val % 2 = j.val; omega)
  rw [this]

/-- The three coefficients of one column half. -/
theorem half (k : Fin 16) (j : Fin 2) (n : ℕ) (hk : k.val = n) (s1 s2 : BufS Ideal) (a : Fin 8) (l : Fin 128) :
    (k0_pay262 (F := Ideal) (sc I.ys) (k0_pay258 (at' (rR n) I.rstd) (at' (rR n) I.gam)) (ix3 (0 : Fin 1) a l) : EReal) = cA I k l
    ∧ (k0_pay263 (F := Ideal) (sc I.xs) (k0_pay257 (sc I.xs) (sc I.ys) (at' (rR n) I.mean) (at' (rR n) I.rstd) (at' (rS' j.val) s1) (at' (rS' j.val) s2))
        (k0_pay259 (at' (rR n) I.rstd) (at' (rR n) I.gam)) k0_pay260 (ix3 (0 : Fin 1) a l) : EReal)
      = cB I k l (∑ a : Fin 8, (s1 (ix3 j a l) : EReal)) (∑ a : Fin 8, (s2 (ix3 j a l) : EReal))
    ∧ (k0_pay264 (F := Ideal) (k0_pay254 (at' (rR n) I.mean)) (k0_pay256 (sc I.ys) (at' (rS' j.val) s1))
        (k0_pay257 (sc I.xs) (sc I.ys) (at' (rR n) I.mean) (at' (rR n) I.rstd) (at' (rS' j.val) s1) (at' (rS' j.val) s2))
        (k0_pay258 (at' (rR n) I.rstd) (at' (rR n) I.gam)) (k0_pay259 (at' (rR n) I.rstd) (at' (rR n) I.gam)) k0_pay260 (ix3 (0 : Fin 1) a l) : EReal)
      = cE I k l (∑ a : Fin 8, (s1 (ix3 j a l) : EReal)) (∑ a : Fin 8, (s2 (ix3 j a l) : EReal)) := by
  have er := rR_at k l n hk I.rstd
  have eg := rR_at k l n hk I.gam
  have em := rR_at k l n hk I.mean
  have ed : (k0_pay257 (F := Ideal) (sc I.xs) (sc I.ys) (at' (rR n) I.mean) (at' (rR n) I.rstd) (at' (rS' j.val) s1) (at' (rS' j.val) s2) (ix2 (0 : Fin 1) l) : EReal)
      = dgOf I k l (∑ a : Fin 8, (s1 (ix3 j a l) : EReal)) (∑ a : Fin 8, (s2 (ix3 j a l) : EReal)) := by
    refine (pay257_apply _ _ _ _ _ _ l).trans ?_
    unfold dgOf
    rw [sum_at, sum_at, er, em]
  have eb : (k0_pay256 (F := Ideal) (sc I.ys) (at' (rS' j.val) s1) (ix2 (0 : Fin 1) l) : EReal) = (∑ a : Fin 8, (s1 (ix3 j a l) : EReal)) * (sc I.ys : EReal) := by
    refine (pay256_apply _ _ l).trans ?_
    rw [sum_at]
  refine ⟨?_, ?_, ?_⟩
  · refine (coef0 _ _ _ a l).trans ?_
    unfold cA
    rw [er, eg]
  · refine (coef1 _ _ _ _ a l).trans ?_
    unfold cB cQ
    rw [er, eg, ed]
  · refine (coef2 _ _ _ _ _ a l).trans ?_
    unfold cE cQ
    rw [er, eg, ed, em, eb]

/-- A coefficient after the later ones were written. -/
theorem upd_rC {n : ℕ} (q : Fin 6) (a : Fin 8) (l : Fin 128) (v : Vec Ideal S1x8x128 .f32) (w : S6x8x128.Idx → Elt Ideal .f32) (h : q.val ≠ n % 6) :
    upd (rC n) v w (ix3 q a l) = w (ix3 q a l) :=
  upd_of_not_mem _ _ _ (by rw [mem_rC]; exact h)
theorem upd_rC_in (n : ℕ) (hn : n < 6) (a : Fin 8) (l : Fin 128) (v : Vec Ideal S1x8x128 .f32) (w : S6x8x128.Idx → Elt Ideal .f32) (q : Fin 6) (h : q.val = n) :
    upd (rC n) v w (ix3 q a l) = v (ix3 (0 : Fin 1) a l) := by
  have e : (ix3 q a l : S6x8x128.Idx) = (rC n).emb (ix3 (0 : Fin 1) a l) := by
    rw [rC_emb]
    exact congrArg (fun z : Fin 6 => ix3 z a l) (Fin.ext (by show q.val = n % 6; omega))
  exact (congrArg _ e).trans (upd_emb ..)

theorem finCf_row (b : ℕ) (hb : b < 8) (s1 s2 : BufS Ideal) (cf : S6x8x128.Idx → Elt Ideal .f32) :
    CfV I b (fun j l => ∑ a : Fin 8, (s1 (ix3 (⟨j % 2, Nat.mod_lt _ (by norm_num)⟩ : Fin 2) a l) : EReal)) (fun j l => ∑ a : Fin 8, (s2 (ix3 (⟨j % 2, Nat.mod_lt _ (by norm_num)⟩ : Fin 2) a l) : EReal))
      (finCf I b s1 s2 cf) := by
  have h0 := fun (k : Fin 16) (hk : k.val = 2 * b + 0) (l : Fin 128) => half I k 0 _ hk s1 s2 0 l
  have h1 := fun (k : Fin 16) (hk : k.val = 2 * b + 1) (l : Fin 128) => half I k 1 _ hk s1 s2 0 l
  constructor
  · intro j l k hk
    unfold finCf
    rcases (by have := j.isLt; omega : j.val = 0 ∨ j.val = 1) with e | e
    · obtain rfl : j = 0 := Fin.ext e
      rw [upd_rC _ _ _ _ _ (by decide), upd_rC _ _ _ _ _ (by decide), upd_rC _ _ _ _ _ (by decide), upd_rC _ _ _ _ _ (by decide), upd_rC _ _ _ _ _ (by decide)]
      exact (upd_rC_in 0 (by norm_num) _ _ _ _ _ rfl).trans (h0 k hk l).1
    · obtain rfl : j = 1 := Fin.ext e
      rw [upd_rC _ _ _ _ _ (by decide), upd_rC _ _ _ _ _ (by decide)]
      exact (upd_rC_in 3 (by norm_num) _ _ _ _ _ rfl).trans ((congrFun (coef0' _ _ _) _).trans (h1 k hk l).1)
  · intro j l k hk
    unfold finCf
    rcases (by have := j.isLt; omega : j.val = 0 ∨ j.val = 1) with e | e
    · obtain rfl : j = 0 := Fin.ext e
      rw [upd_rC _ _ _ _ _ (by decide), upd_rC _ _ _ _ _ (by decide), upd_rC _ _ _ _ _ (by decide), upd_rC _ _ _ _ _ (by decide)]
      exact (upd_rC_in 1 (by norm_num) _ _ _ _ _ rfl).trans (h0 k hk l).2.1
    · obtain rfl : j = 1 := Fin.ext e
      rw [upd_rC _ _ _ _ _ (by decide)]
      exact (upd_rC_in 4 (by norm_num) _ _ _ _ _ rfl).trans ((congrFun (coef1' _ _ _ _ _ _ _) _).trans (h1 k hk l).2.1)
  · intro j l k hk
    unfold finCf
    rcases (by have := j.isLt; omega : j.val = 0 ∨ j.val = 1) with e | e
    · obtain rfl : j = 0 := Fin.ext e
      rw [upd_rC _ _ _ _ _ (by decide), upd_rC _ _ _ _ _ (by decide), upd_rC _ _ _ _ _ (by decide)]
      exact (upd_rC_in 2 (by norm_num) _ _ _ _ _ rfl).trans (h0 k hk l).2.2
    · obtain rfl : j = 1 := Fin.ext e
      exact (upd_rC_in 5 (by norm_num) _ _ _ _ _ rfl).trans ((congrFun (coef2' _ _ _ _ _ _ _) _).trans (h1 k hk l).2.2)

/-- The coefficients as a step of the result reads them. -/
theorem co3_val {b : ℕ} (hb : b < 8) {S1 S2 : ℕ → Fin 128 → EReal} {cf : S6x8x128.Idx → Elt Ideal .f32} (h : CfV I b S1 S2 cf) :
    CoV (co3 cf) (fun j l => cA I (⟨(2 * b + j) % 16, Nat.mod_lt _ (by norm_num)⟩ : Fin 16) l)
      (fun j l => cB I (⟨(2 * b + j) % 16, Nat.mod_lt _ (by norm_num)⟩ : Fin 16) l (S1 j l) (S2 j l))
      (fun j l => cE I (⟨(2 * b + j) % 16, Nat.mod_lt _ (by norm_num)⟩ : Fin 16) l (S1 j l) (S2 j l)) := by
  have k0 : (2 * b + 0) % 16 = 2 * b + (0 : Fin 2).val := by show (2 * b + 0) % 16 = 2 * b + 0; omega
  have k1 : (2 * b + 1) % 16 = 2 * b + (1 : Fin 2).val := by show (2 * b + 1) % 16 = 2 * b + 1; omega
  refine ⟨fun p l => ?_, fun p l => ?_, fun p l => ?_, fun p l => ?_, fun p l => ?_, fun p l => ?_⟩
  · exact (bc32 (at' (rC1 0) cf) p l).trans ((congrArg cf (rC1_emb 0 l)).trans (h.fa 0 l _ k0))
  · exact (bc32 (at' (rC1 1) cf) p l).trans ((congrArg cf (rC1_emb 1 l)).trans (h.fb 0 l _ k0))
  · exact (bc32 (at' (rC1 2) cf) p l).trans ((congrArg cf (rC1_emb 2 l)).trans (h.fe 0 l _ k0))
  · exact (bc32 (at' (rC1 3) cf) p l).trans ((congrArg cf (rC1_emb 3 l)).trans (h.fa 1 l _ k1))
  · exact (bc32 (at' (rC1 4) cf) p l).trans ((congrArg cf (rC1_emb 4 l)).trans (h.fb 1 l _ k1))
  · exact (bc32 (at' (rC1 5) cf) p l).trans ((congrArg cf (rC1_emb 5 l)).trans (h.fe 1 l _ k1))

theorem co5_eq (cf : S6x8x128.Idx → Elt Ideal .f32) : co5 cf = co3 cf := rfl

end Cert.KernelIdeal.Hand

end
-- ==== Proof.IdealDx.lean ====
/-
  The gradient of the activation that the kernel leaves.
-/
module

public import proofs.«01_k».proof.Proof.IdealCoef

@[expose] public section

set_option maxRecDepth 16384

noncomputable section

namespace Cert.KernelIdeal.Hand

open Cert.KernelIdeal Cert.KernelIdeal.Gen
open Idealize.ShloMosaic hiding ix1 ix2 ix3 ix4
open Idealize.ShloMosaic.ValueIdx
open scoped BigOperators

variable (I : Ins Ideal)

/-- The masked cotangents of a channel, summed in the kernel's order. -/
def T1 (ch : ℕ) : EReal := ∑ a ∈ Finset.range 8, ∑ c ∈ Finset.range 28, cs I c ch a
/-- The products of a channel, summed in the kernel's order. -/
def T2 (ch : ℕ) : EReal := ∑ a ∈ Finset.range 8, ∑ c ∈ Finset.range 28, cs2 I c ch a

/-- The gradient of the activation in row `R` and channel `ch`, which is lane `l` of column block `k`. -/
def dxV (k : Fin 16) (l : Fin 128) (ch R : ℕ) : EReal :=
  cA I k l * gv I R ch + (cB I k l (T1 I ch) (T2 I ch) * xr I R ch + cE I k l (T1 I ch) (T2 I ch))

/-- The step that writes an element. -/
def key (i : S50176x2048.Idx) : ℕ := 28 * ((i 1).val / 256) + (i 0).val / 1792
/-- An element's column block. -/
def ik (i : S50176x2048.Idx) : Fin 16 := ⟨(i 1).val / 128, by have : (i 1).val < 2048 := (i 1).isLt; omega⟩
/-- An element's lane. -/
def il (i : S50176x2048.Idx) : Fin 128 := ⟨(i 1).val % 128, by omega⟩

/-- The coefficients are block `b`'s. -/
abbrev Cf (b : ℕ) (cf : S6x8x128.Idx → Elt Ideal .f32) : Prop :=
  CfV I b (fun j l => T1 I (256 * b + 128 * j + l.val)) (fun j l => T2 I (256 * b + 128 * j + l.val)) cf

/-- The ring holds the chunks from `a` on, before `b`, and the result's steps before `a` are written. -/
structure Rg (a b : ℕ) (σ : St Ideal) : Prop where
  D : ∀ T, a ≤ T → T < b → ∀ (j : ℕ) (hj : j < 2) (r : ℕ) (hr : r < 1792) (l : Fin 128),
    (σ.D (rg T j r hr l) : EReal) = gv I (1792 * (T % 28) + r) (256 * (T / 28) + 128 * j + l.val)
  X : ∀ T, a ≤ T → T < b → ∀ (j : ℕ) (hj : j < 2) (r : ℕ) (hr : r < 1792) (l : Fin 128),
    (σ.X (rg T j r hr l) : EReal) = xr I (1792 * (T % 28) + r) (256 * (T / 28) + 128 * j + l.val)
  dx : ∀ i : S50176x2048.Idx, key i < a → (σ.dx i : EReal) = dxV I (ik i) (il i) (i 1).val (i 0).val

theorem dx_next {t : ℕ} (ht : t < 224) {O : BufO Ideal} {w : S50176x2048.Idx → Elt Ideal .bf16}
    (hO : ∀ (j : ℕ) (hj : j < 2) (r : ℕ) (hr : r < 1792) (l : Fin 128), (O (og t j r hr l) : EReal)
      = dxV I ⟨(2 * (t / 28) + j) % 16, Nat.mod_lt _ (by norm_num)⟩ l (256 * (t / 28) + 128 * j + l.val) (1792 * (t % 28) + r))
    (hw : ∀ i : S50176x2048.Idx, key i < t → (w i : EReal) = dxV I (ik i) (il i) (i 1).val (i 0).val)
    (i : S50176x2048.Idx) (hi : key i < t + 1) : (dxW t O w i : EReal) = dxV I (ik i) (il i) (i 1).val (i 0).val := by
  have i0 : (i 0).val < 50176 := (i 0).isLt
  have i1 : (i 1).val < 2048 := (i 1).isLt
  by_cases hc : key i < t
  · unfold key at hc
    refine (dxStep_out _ _ ?_).trans ((dxStep_out _ _ ?_).trans (hw i hc))
    · rw [mem_rW]; omega
    · rw [mem_rW]; omega
  · unfold key at hc hi
    have main : ∀ h, h < 2 → (i 1).val / 128 = 2 * (t / 28) + h → (O (srcW t h i) : EReal) = dxV I (ik i) (il i) (i 1).val (i 0).val := by
      intro h hh hk
      refine (hO h hh ((i 0).val % 1792) (by omega) (il i)).trans ?_
      have e1 : (⟨(2 * (t / 28) + h) % 16, Nat.mod_lt _ (by norm_num)⟩ : Fin 16) = ik i := Fin.ext (by show (2 * (t / 28) + h) % 16 = (i 1).val / 128; omega)
      have e2 : 256 * (t / 28) + 128 * h + (il i).val = (i 1).val := by show 256 * (t / 28) + 128 * h + (i 1).val % 128 = (i 1).val; omega
      have e3 : 1792 * (t % 28) + (i 0).val % 1792 = (i 0).val := by omega
      rw [e1, e2, e3]
    rcases (by omega : (i 1).val / 128 = 2 * (t / 28) + 0 ∨ (i 1).val / 128 = 2 * (t / 28) + 1) with h | h
    · refine (dxStep_out _ _ ?_).trans ((dxStep_in _ _ ?_).trans (main 0 (by norm_num) h))
      · rw [mem_rW]; omega
      · rw [mem_rW]; omega
    · refine (dxStep_in _ _ ?_).trans (main 1 (by norm_num) h)
      rw [mem_rW]; omega

theorem rg_ne {T T' j r : ℕ} (hr : r < 1792) (l : Fin 128) (h : T' % 31 ≠ T % 31) : ((rg T' j r hr l) 0).val ≠ T % 31 := h

theorem waitD_out (T : ℕ) (σ : St Ideal) (x : S31x1792x256.Idx) (hx : (x 0).val ≠ T % 31) : (waitSt I T σ).D x = σ.D x :=
  Finset.piecewise_eq_of_notMem (RX T) (DG I T) σ.D (by rw [mem_rX]; exact hx)
theorem waitX_out (T : ℕ) (σ : St Ideal) (x : S31x1792x256.Idx) (hx : (x 0).val ≠ T % 31) : (waitSt I T σ).X x = σ.X x :=
  Finset.piecewise_eq_of_notMem (RX T) (XG I T) σ.X (by rw [mem_rX]; exact hx)

attribute [local irreducible] redN outRedN outN grpD grpO grpS1 grpS2 k0_pay312 k0_pay313 finCf dxW

theorem X_val {T : ℕ} (hT : T < 224) {X : BufX Ideal} (hX : ∀ x : S31x1792x256.Idx, (x 0).val = T % 31 → X x = XG I T x) (j : ℕ) (hj : j < 2) (r : ℕ) (hr : r < 1792) (l : Fin 128) :
    (X (rg T j r hr l) : EReal) = xr I (1792 * (T % 28) + r) (256 * (T / 28) + 128 * j + l.val) := by
  refine Eq.trans ?_ (xv_eq I (b := T / 28) (n := T % 28) (T := T) (by omega) (by omega) (by omega) hX hj l.isLt hr)
  unfold xv
  rw [dif_pos ⟨l.isLt, hr⟩]
  rfl

/-- A block's end leaves that block's coefficients. -/
theorem fin_cf {b : ℕ} (hb : b < 8) {σ : St Ideal} (h : Inv2 I b 28 σ) : Cf I b (fin I b σ).cf := by
  have r := finCf_row I b hb σ.s1 σ.s2 σ.cf
  show Cf I b (finCf I b σ.s1 σ.s2 σ.cf)
  have e1 : ∀ (j : Fin 2) (l : Fin 128), ∑ a : Fin 8, (σ.s1 (ix3 (⟨j.val % 2, Nat.mod_lt _ (by norm_num)⟩ : Fin 2) a l) : EReal) = T1 I (256 * b + 128 * j.val + l.val) := by
    intro j l
    have ej : (⟨j.val % 2, Nat.mod_lt _ (by norm_num)⟩ : Fin 2) = j := Fin.ext (by show j.val % 2 = j.val; omega)
    rw [ej]
    unfold T1
    rw [Finset.sum_range]
    exact Finset.sum_congr rfl fun a _ => h.inv.s1 j a l
  have e2 : ∀ (j : Fin 2) (l : Fin 128), ∑ a : Fin 8, (σ.s2 (ix3 (⟨j.val % 2, Nat.mod_lt _ (by norm_num)⟩ : Fin 2) a l) : EReal) = T2 I (256 * b + 128 * j.val + l.val) := by
    intro j l
    have ej : (⟨j.val % 2, Nat.mod_lt _ (by norm_num)⟩ : Fin 2) = j := Fin.ext (by show j.val % 2 = j.val; omega)
    rw [ej]
    unfold T2
    rw [Finset.sum_range]
    exact Finset.sum_congr rfl fun a _ => h.s2 j a l
  refine ⟨r.fa, fun j l k hk => (r.fb j l k hk).trans ?_, fun j l k hk => (r.fe j l k hk).trans ?_⟩
  · exact congrArg₂ (cB I k l) (e1 j l) (e2 j l)
  · exact congrArg₂ (cE I k l) (e1 j l) (e2 j l)

theorem Rg.fin {a b c : ℕ} {σ : St Ideal} (h : Rg I a b σ) : Rg I a b (fin I c σ) := ⟨h.D, h.X, h.dx⟩

/-- The first loop. -/
theorem it1_rg {σ : St Ideal} (h : Inv2 I 0 0 σ) (n : ℕ) (hn : n ≤ 28) : Rg I 0 n (it1 I k0_pay312 k0_pay313 σ n) := by
  induction n with
  | zero => exact ⟨fun T _ h => absurd h (by omega), fun T _ h => absurd h (by omega), fun i h => absurd h (by omega)⟩
  | succ n ih =>
    have hv := it1_inv2 I h n (by omega)
    have h := ih (by omega)
    rw [it1]
    generalize it1 I k0_pay312 k0_pay313 σ n = τ at h hv ⊢
    unfold step1
    obtain ⟨m1, -, m3, -, m5⟩ := redN_made (i := n) (T := n) (σ0 := maskSt I n (waitSt I n τ)) la1 lb1 (bf_lt 0) 7 le_rfl
    have hM : ∀ x : S28x1792x128.Idx, (x 0).val < n + 1 → (maskSt I n (waitSt I n τ)).M x = MG I (mm (n + 1) (x 0).val) x := by
      intro x hx
      have e : mm (n + 1) (x 0).val = (x 0).val := by unfold mm; split <;> omega
      rw [e]
      by_cases hc : (x 0).val = n
      · rw [hc]
        exact Finset.piecewise_eq_of_mem (RK n) (MG I n) (waitSt I n τ).M (by rw [mem_rK]; omega)
      · refine (Finset.piecewise_eq_of_notMem (RK n) (MG I n) (waitSt I n τ).M (by rw [mem_rK]; omega)).trans ((hv.inv.M x (by omega)).trans ?_)
        rw [show mm (28 * 0 + n) (x 0).val = (x 0).val by unfold mm; split <;> omega]
    generalize redN k0_pay312 (k0_pay114 k0_pay313) (k0_pay115 k0_pay313) n n (maskSt I n (waitSt I n τ)) 7 = ρ at m1 m3 m5 ⊢
    refine ⟨?_, ?_, fun i h => absurd h (by omega)⟩
    · intro T h0 hT j hj r hr l
      rcases (by omega : T < n ∨ T = n) with hc | rfl
      · exact (m1 _ (rg_ne hr l (by omega))).trans ((waitD_out I n τ _ (rg_ne hr l (by omega))).trans (h.D T h0 hc j hj r hr l))
      · refine (m3 j hj r hr l (by omega)).trans ?_
        rw [show T % 28 = T by omega, show T / 28 = 0 by omega]
        exact mv_eq I (b := 0) (n := T) (T := T) (by omega) (by omega) (by omega) (by omega) hM (fun x hx => waitD I T τ x hx) hj l.isLt hr
    · intro T h0 hT j hj r hr l
      rw [m5]
      rcases (by omega : T < n ∨ T = n) with hc | rfl
      · exact (waitX_out I n τ _ (rg_ne hr l (by omega))).trans (h.X T h0 hc j hj r hr l)
      · exact X_val I (by omega) (fun x hx => waitX I T τ x hx) j hj r hr l

/-- One step of the middle loop. -/
theorem wr3_rg {t : ℕ} (ht : t < 196) {σ : St Ideal} (hv : Inv2 I (t / 28 + 1) (t % 28) σ) (hc : Cf I (t / 28) σ.cf) (h : Rg I t (t + 28) σ) :
    Rg I (t + 1) (t + 1 + 28) (wr3 I k0_pay312 k0_pay313 t σ) ∧ (wr3 I k0_pay312 k0_pay313 t σ).cf = σ.cf := by
  have hcf : (mid3 I k0_pay312 k0_pay313 t σ).cf = σ.cf := by
    unfold mid3
    rw [outRedN_cf, mst_cf]
    rfl
  have m : Made (fun j l => cA I (⟨(2 * (t / 28) + j) % 16, Nat.mod_lt _ (by norm_num)⟩ : Fin 16) l)
      (fun j l => cB I (⟨(2 * (t / 28) + j) % 16, Nat.mod_lt _ (by norm_num)⟩ : Fin 16) l (T1 I (256 * (t / 28) + 128 * j + l.val)) (T2 I (256 * (t / 28) + 128 * j + l.val)))
      (fun j l => cE I (⟨(2 * (t / 28) + j) % 16, Nat.mod_lt _ (by norm_num)⟩ : Fin 16) l (T1 I (256 * (t / 28) + 128 * j + l.val)) (T2 I (256 * (t / 28) + 128 * j + l.val)))
      t t (t + 28) (bf (t / 28 + 1)) (mst I t (waitSt I (t + 28) σ)) 7 (mid3 I k0_pay312 k0_pay313 t σ) := by
    unfold mid3 cnOf
    exact outRedN_made (la3 (t / 28 + 1) (by omega)) (lb3 (t / 28 + 1) (by omega)) (bf_lt (t / 28 + 1)) (co3_val I (b := t / 28) (by omega) hc) 7 le_rfl
  have hM : ∀ x : S28x1792x128.Idx, (x 0).val < t + 28 + 1 → (mst I t (waitSt I (t + 28) σ)).M x = MG I (mm (t + 28 + 1) (x 0).val) x :=
    fun x _ => mst_M I (b := t / 28 + 1) (n := t % 28) (by omega) (by omega) (σ := waitSt I (t + 28) σ) hv.inv.M x
  have hD : ∀ x : S31x1792x256.Idx, (x 0).val = (t + 28) % 31 → (mst I t (waitSt I (t + 28) σ)).D x = DG I (t + 28) x := by
    intro x hx
    rw [mst_D]
    exact waitD I (t + 28) σ x hx
  have hX : ∀ x : S31x1792x256.Idx, (x 0).val = (t + 28) % 31 → (mst I t (waitSt I (t + 28) σ)).X x = XG I (t + 28) x := by
    intro x hx
    rw [mst_X]
    exact waitX I (t + 28) σ x hx
  have hD' : ∀ x : S31x1792x256.Idx, (x 0).val ≠ (t + 28) % 31 → (mst I t (waitSt I (t + 28) σ)).D x = σ.D x := by
    intro x hx
    rw [mst_D]
    exact waitD_out I (t + 28) σ x hx
  have hX' : ∀ x : S31x1792x256.Idx, (x 0).val ≠ (t + 28) % 31 → (mst I t (waitSt I (t + 28) σ)).X x = σ.X x := by
    intro x hx
    rw [mst_X]
    exact waitX_out I (t + 28) σ x hx
  unfold wr3
  generalize mst I t (waitSt I (t + 28) σ) = σ1 at m hM hD hX hD' hX'
  generalize mid3 I k0_pay312 k0_pay313 t σ = τ at m hcf ⊢
  refine ⟨⟨?_, ?_, ?_⟩, hcf⟩
  · intro T h0 hT j hj r hr l
    show (τ.D (rg T j r hr l) : EReal) = _
    rcases (by omega : T < t + 28 ∨ T = t + 28) with hc | rfl
    · exact (m.other _ (rg_ne hr l (by omega))).trans ((hD' _ (rg_ne hr l (by omega))).trans (h.D T (by omega) hc j hj r hr l))
    · refine (m.lo j hj r hr l (by omega)).trans ?_
      rw [show (t + 28) % 28 = t % 28 by omega, show (t + 28) / 28 = t / 28 + 1 by omega]
      exact mv_eq I (b := t / 28 + 1) (n := t % 28) (T := t + 28) (by omega) (by omega) (by omega) rfl hM hD hj l.isLt hr
  · intro T h0 hT j hj r hr l
    show (τ.X (rg T j r hr l) : EReal) = _
    rw [m.X]
    rcases (by omega : T < t + 28 ∨ T = t + 28) with hc | rfl
    · exact (hX' _ (rg_ne hr l (by omega))).trans (h.X T (by omega) hc j hj r hr l)
    · exact X_val I (by omega) hX j hj r hr l
  · refine dx_next I (by omega) ?_ h.dx
    intro j hj r hr l
    refine (m.out j hj r hr l (by omega)).trans ?_
    rw [hD' _ (rg_ne hr l (by omega)), hX' _ (rg_ne hr l (by omega)), h.D t le_rfl (by omega) j hj r hr l, h.X t le_rfl (by omega) j hj r hr l]
    rfl

attribute [local irreducible] wr3 fin it1

/-- The middle loop. -/
theorem it3_rg {σ : St Ideal} (hv : Inv2 I 1 0 σ) (hc : Cf I 0 σ.cf) (h : Rg I 0 28 σ) (t : ℕ) (ht : t ≤ 196) :
    Rg I t (t + 28) (it3 I k0_pay312 k0_pay313 σ t) ∧ Cf I (t / 28) (it3 I k0_pay312 k0_pay313 σ t).cf := by
  induction t with
  | zero => exact ⟨h, hc⟩
  | succ t ih =>
    obtain ⟨g, c⟩ := ih (by omega)
    have v := it3_inv2 I hv t (by omega)
    rw [it3]
    generalize it3 I k0_pay312 k0_pay313 σ t = τ at g c v ⊢
    obtain ⟨g', c'⟩ := wr3_rg I (by omega) v c g
    have s := step3_inv2 I (b := t / 28 + 1) (n := t % 28) (t := t) (by omega) (by omega) (by omega) v
    unfold step3
    split
    · next hc =>
      rw [hc] at s
      rw [show (t + 1) / 28 = t / 28 + 1 by omega]
      exact ⟨Rg.fin I g', fin_cf I (by omega) s⟩
    · next hc =>
      rw [show (t + 1) / 28 = t / 28 by omega, c']
      exact ⟨g', c⟩

/-- The last loop. -/
theorem it5_rg {σ : St Ideal} (hc : Cf I 7 σ.cf) (h : Rg I 196 224 σ) (n : ℕ) (hn : n ≤ 28) : Rg I (n + 196) 224 (it5 σ n) := by
  induction n with
  | zero => exact h
  | succ n ih =>
    have g := ih (by omega)
    have c : Cf I ((n + 196) / 28) (it5 σ n).cf := by
      rw [it5_cf, show (n + 196) / 28 = 7 by omega]
      exact hc
    rw [it5]
    generalize it5 σ n = τ at g c ⊢
    obtain ⟨o1, o2, o3⟩ := outN_made (t := n + 196) (σ0 := τ) (co3_val I (b := (n + 196) / 28) (by omega) c) 7 le_rfl
    unfold step5
    rw [co5_eq]
    generalize outN (co3 τ.cf) (n + 196) τ 7 = ρ at o1 o2 o3 ⊢
    refine ⟨?_, ?_, ?_⟩
    · intro T h0 hT j hj r hr l
      show (ρ.D (rg T j r hr l) : EReal) = _
      rw [o1]
      exact g.D T (by omega) hT j hj r hr l
    · intro T h0 hT j hj r hr l
      show (ρ.X (rg T j r hr l) : EReal) = _
      rw [o2]
      exact g.X T (by omega) hT j hj r hr l
    · have e : n + 1 + 196 = n + 196 + 1 := by omega
      rw [e]
      refine dx_next I (by omega) ?_ g.dx
      intro j hj r hr l
      refine (o3 j hj r hr l (by omega)).trans ?_
      rw [g.D (n + 196) le_rfl (by omega) j hj r hr l, g.X (n + 196) le_rfl (by omega) j hj r hr l]
      rfl

/-- The gradient of the activation that the kernel leaves. -/
theorem run_dx (σ : St Ideal) (i : S50176x2048.Idx) : ((run I σ).dx i : EReal) = dxV I (ik i) (il i) (i 1).val (i 0).val := by
  unfold run
  have h0 : Inv2 I 0 0 { σ with s1 := upd rSA (k0_pay339 (F := Ideal)) σ.s1, s2 := upd rSA (k0_pay340 (F := Ideal)) σ.s2 } :=
    ⟨⟨fun x hx => absurd hx (by omega), fun j a l => by rw [Finset.sum_range_zero]; exact updSA_zero _ _, fun k l hk => absurd hk (by omega)⟩,
      fun j a l => by rw [Finset.sum_range_zero]; exact updSA_zero2 _ _, fun k l hk => absurd hk (by omega)⟩
  have hv := it1_inv2 I h0 28 le_rfl
  have g := it1_rg I h0 28 le_rfl
  obtain ⟨g3, c3⟩ := it3_rg I (Inv2.fin I (by omega) hv) (fin_cf I (by omega) hv) (Rg.fin I g) 196 le_rfl
  have g5 := it5_rg I c3 g3 28 le_rfl
  refine g5.dx i ?_
  have i0 : (i 0).val < 50176 := (i 0).isLt
  have i1 : (i 1).val < 2048 := (i 1).isLt
  unfold key
  omega

theorem T1_rows (ch : ℕ) : T1 I ch = ∑ R ∈ Finset.range 50176, gv I R ch := by
  rw [← rows_sum fun R => gv I R ch]
  rfl
theorem T2_rows (ch : ℕ) : T2 I ch = ∑ R ∈ Finset.range 50176, gv I R ch * xr I R ch := by
  rw [← rows_sum fun R => gv I R ch * xr I R ch]
  rfl

end Cert.KernelIdeal.Hand

end
-- ==== Proof.IdealDxOut.lean ====
/-
  The activation's gradient that the kernel returns, from sums over the program's own arguments.
-/
module

public import proofs.«01_k».proof.Proof.IdealDx
public import proofs.«01_k».proof.Proof.IdealDgamma

@[expose] public section

set_option maxRecDepth 16384

noncomputable section

namespace Cert.KernelIdeal.Hand

open Cert.KernelIdeal Cert.KernelIdeal.Gen Idealize.SL.Sem
open Idealize.ShloMosaic hiding ix1 ix2 ix3
open Idealize.ShloMosaic.ValueIdx
open scoped BigOperators

variable (m : (ℓ : Loc nD τ sig) → Buf (Elt Ideal) ℓ)

attribute [local irreducible] run

/-- The multipliers of the scale. -/
abbrev A7 (c : Dev nD) : S2048.Idx → EReal := m ((c.tc : Thread nD τ).loc main_arg7)

theorem V_v12 (c : Dev nD) (k : Fin 16) (l : Fin 128) : (V m c main_v12 (ix2 k l) : EReal) = A7 m c (ix1 (⟨128 * k.val + l.val, by omega⟩ : Fin 2048)) := by
  unfold V V0
  simp only [List.flatten_cons, List.flatten_nil, List.append_nil]
  after_results
  pointwise
  refine congrArg (A7 m c) ?_
  funext d
  match d with
  | ⟨0, _⟩ => exact Fin.ext (show k.val * 128 + l.val = 128 * k.val + l.val by omega)

theorem II_gam (c : Dev nD) (k : Fin 16) (l : Fin 128) : ((II m c).gam (ix2 k l) : EReal) = A7 m c (ix1 (⟨128 * k.val + l.val, by omega⟩ : Fin 2048)) := by
  refine Eq.trans ?_ (V_v12 m c k l)
  show iblk m c 4 t0_0 (ix2 k l) = _
  have z : ∀ a, win0_4.index t0_0 a = 0 := fun a => rfl
  blk_ext [iblk, z]

theorem WW_v15 (c : Dev nD) (b : Fin 1024) (s : Fin 49) (ch : Fin 2048) :
    WW m c (Proc.devRef .tc main_v15) (ix3 b s ch) = (fs m c).dx (ix2 (⟨1024 * s.val + b.val, by omega⟩ : Fin 50176) ch) := by
  have e : WW m c (Proc.devRef .tc main_v15) = transpose S1024x49x2048 [1, 0, 2] (shapeCast S49x1024x2048 ((fs m c).dx) shapeCasts_S50176x2048_S49x1024x2048)
      transposes_S49x1024x2048_S1024x49x2048_1_0_2 := by
    unfold WW
    simp only [List.flatten_cons, List.flatten_nil, List.append_nil]
    after_results
    refine congrArg (fun z => transpose S1024x49x2048 [1, 0, 2] (shapeCast S49x1024x2048 z shapeCasts_S50176x2048_S49x1024x2048) transposes_S49x1024x2048_S1024x49x2048_1_0_2) ?_
    refine (Pipeline.withArrays_of_ne _ c _ _ main_v13_0 (by decide)).trans ?_
    refine (Pipeline.withR_of_mem _ _ _ _ main_v13_0 (by decide)).trans ?_
    unfold GG
    exact Function.update_self ..
  rw [e]
  pointwise
  refine congrArg (fs m c).dx ?_
  funext d
  match d with
  | ⟨0, _⟩ => exact Fin.ext (show s.val * 1024 + b.val = 1024 * s.val + b.val by omega)
  | ⟨1, _⟩ => rfl

/-- The gradient of the activation that the kernel returns. -/
theorem WW_dx (c : Dev nD) (b : Fin 1024) (s : Fin 49) (ch : Fin 2048) :
    (WW m c (Proc.devRef .tc main_v15) (ix3 b s ch) : EReal)
      = A6 m c (ix1 ch) * A7 m c (ix1 ch) * A3 m c * tb m c b s ch
        + ((zz - A6 m c (ix1 ch) * A7 m c (ix1 ch) * A6 m c (ix1 ch))
              * (((∑ b : Fin 1024, ∑ s : Fin 49, tb m c b s ch * xb m c b s ch) * A3 m c * A1 m c - A5 m c (ix1 ch) * ((∑ b : Fin 1024, ∑ s : Fin 49, tb m c b s ch) * A3 m c)) * A6 m c (ix1 ch) * im) * A1 m c
            * xb m c b s ch
          + ((zz - A6 m c (ix1 ch) * A7 m c (ix1 ch)) * ((∑ b : Fin 1024, ∑ s : Fin 49, tb m c b s ch) * A3 m c * im)
            - (zz - A6 m c (ix1 ch) * A7 m c (ix1 ch) * A6 m c (ix1 ch))
              * (((∑ b : Fin 1024, ∑ s : Fin 49, tb m c b s ch * xb m c b s ch) * A3 m c * A1 m c - A5 m c (ix1 ch) * ((∑ b : Fin 1024, ∑ s : Fin 49, tb m c b s ch) * A3 m c)) * A6 m c (ix1 ch) * im)
              * A5 m c (ix1 ch))) := by
  have hc : (⟨128 * (ch.val / 128) + ch.val % 128, by omega⟩ : Fin 2048) = ch := Fin.ext (by show 128 * (ch.val / 128) + ch.val % 128 = ch.val; omega)
  refine (WW_v15 m c b s ch).trans ((run_dx (II m c) (σ₀ m c) (ix2 (⟨1024 * s.val + b.val, by omega⟩ : Fin 50176) ch)).trans ?_)
  show dxV (II m c) (⟨ch.val / 128, by omega⟩ : Fin 16) (⟨ch.val % 128, by omega⟩ : Fin 128) ch.val (1024 * s.val + b.val) = _
  unfold dxV cE cB cQ cA dgOf
  have a5 := (II_mean m c ⟨ch.val / 128, by omega⟩ ⟨ch.val % 128, by omega⟩).trans (congrArg (fun z => A5 m c (ix1 z)) hc)
  have a6 := (II_rstd m c ⟨ch.val / 128, by omega⟩ ⟨ch.val % 128, by omega⟩).trans (congrArg (fun z => A6 m c (ix1 z)) hc)
  have a7 := (II_gam m c ⟨ch.val / 128, by omega⟩ ⟨ch.val % 128, by omega⟩).trans (congrArg (fun z => A7 m c (ix1 z)) hc)
  have s1 := (T1_rows (II m c) ch.val).trans (rows_bs (fun R => gv (II m c) R ch.val) (fun b s => tb m c b s ch) (fun b s => gv_II m c s b ch))
  have s2 := (T2_rows (II m c) ch.val).trans (rows_bs (fun R => gv (II m c) R ch.val * xr (II m c) R ch.val)
    (fun b s => tb m c b s ch * xb m c b s ch) (fun b s => congrArg₂ (fun x y : EReal => x * y) (gv_II m c s b ch) (xr_II m c s b ch)))
  rw [II_ys, II_xs, a5, a6, a7, s1, s2, gv_II, xr_II]

end Cert.KernelIdeal.Hand

end
-- ==== Proof.RefDx.lean ====
/-
  The activation's gradient of the reference, from sums over its own arguments.
-/
module

public import proofs.«01_k».proof.Proof.RefDgamma

@[expose] public section

set_option maxRecDepth 16384

noncomputable section

namespace Cert.ReferenceIdeal.Hand

open Cert.ReferenceIdeal Cert.ReferenceIdeal.Gen Idealize.SL.Sem
open Idealize.ShloMosaic hiding ix1 ix2 ix3
open Idealize.ShloMosaic.ValueIdx
open scoped BigOperators

variable (m : (ℓ : Loc nD τ sig) → Buf (Elt Ideal) ℓ)

/-- The multipliers of the scale. -/
abbrev A7 (c : Dev nD) : S2048.Idx → EReal := m ((c.tc : Thread nD τ).loc main_arg7)

theorem W1_arg7 (c : Dev nD) : W1 m c (Proc.devRef .tc main_arg7) = m ((c.tc : Thread nD τ).loc main_arg7) :=
  (Pipeline.withArrays_of_ne _ c (V0 m c) _ main_arg7 (by exact (by decide : ∀ w, Pipeline.arrRef spec0 w ≠ main_arg7))).trans (V_main_arg7 m c)

/-- The masked cotangent at batch `b`, row `s` and channel `j`. -/
def gR (c : Dev nD) (b : Fin 1024) (s : Fin 49) (j : Fin 2048) : EReal :=
  if (A4 m c (ix3 b s (⟨j.val / 8, by omega⟩ : Fin 256))).getLsbD (j.val % 8) then Ideal.ofBits FTy.fp8e5m2 (A2 m c (ix3 b s j)) * A3 m c else 0

/-- The normalized activation. -/
def xh (c : Dev nD) (b : Fin 1024) (s : Fin 49) (j : Fin 2048) : EReal :=
  (Ideal.ofBits FTy.fp8e4m3 (A0 m c (ix3 b s j)) * A1 m c - A5 m c (ix1 j)) * A6 m c (ix1 j)

theorem g_at (c : Dev nD) (b : Fin 1024) (s : Fin 49) (j : Fin 2048) :
    (Scalar.select (IntOp.cmpi CmpIPredicate.ne (IntOp.andi (IntOp.shrsi ArithUnit.host
        (BitVec.setWidth 32 (W1 m c (Proc.devRef .tc main_arg4) (Idealize.ShloMosaic.ix3 b s (⟨j.val / 8, by omega⟩ : Fin 256)) : BitVec 8)) (BitVec.ofNat 32 (j.val % 8))) 1#32) 0#32)
      ((fun x y : EReal => x * y) (W1 m c (Proc.devRef .tc main_v2_1) (ix3 b s j)) (W1 m c (Proc.devRef .tc main_arg3) Idealize.ShloMosaic.ix0))
      (id (constant (F := Ideal) S_ FTy.f32 0#32) Idealize.ShloMosaic.ix0 : EReal) : EReal) = gR m c b s j := by
  have e2 : (id (constant (F := Ideal) S_ FTy.f32 0#32) Idealize.ShloMosaic.ix0 : EReal) = 0 := by
    show Ideal.ofBits .f32 0#32 = 0
    simp [Ideal.ofBits, Ideal.ieee]
  have e3 : (W1 m c (Proc.devRef .tc main_arg3) Idealize.ShloMosaic.ix0 : EReal) = A3 m c :=
    (congrFun (W1_arg3 m c) _).trans (congrArg (m ((c.tc : Thread nD τ).loc main_arg3) : S_.Idx → EReal) (funext fun d => d.elim0))
  have e4 : (W1 m c (Proc.devRef .tc main_arg4) (Idealize.ShloMosaic.ix3 b s (⟨j.val / 8, by omega⟩ : Fin 256)) : BitVec 8)
      = A4 m c (ix3 b s (⟨j.val / 8, by omega⟩ : Fin 256)) :=
    (congrFun (W1_arg4 m c) _).trans (congrArg (A4 m c) (by
      funext d
      match d with
      | ⟨0, _⟩ => rfl
      | ⟨1, _⟩ => rfl
      | ⟨2, _⟩ => rfl))
  refine (congrArg₂ (fun (x : BitVec 1) (y : EReal) => Scalar.select x y (id (constant (F := Ideal) S_ FTy.f32 0#32) Idealize.ShloMosaic.ix0 : EReal))
    ((congrArg (fun B : BitVec 8 => IntOp.cmpi CmpIPredicate.ne (IntOp.andi (IntOp.shrsi ArithUnit.host (BitVec.setWidth 32 B) (BitVec.ofNat 32 (j.val % 8))) 1#32) 0#32) e4).trans
      (bit_ne _ (j.val % 8) (Nat.mod_lt _ (by norm_num)))) (congrArg₂ (fun x y : EReal => x * y) (W1_dy m c _) e3)).trans ?_
  rw [e2]
  unfold Scalar.select gR
  split_ifs <;> first | rfl | simp_all

theorem W1_a5 (c : Dev nD) (j : Fin 2048) : (W1 m c (Proc.devRef .tc main_arg5) (Idealize.ShloMosaic.ix1 j) : EReal) = A5 m c (ix1 j) :=
  (congrFun (W1_arg5 m c) _).trans (congrArg (A5 m c) (by
    funext d
    match d with
    | ⟨0, _⟩ => rfl))
theorem W1_a6 (c : Dev nD) (j : Fin 2048) : (W1 m c (Proc.devRef .tc main_arg6) (Idealize.ShloMosaic.ix1 j) : EReal) = A6 m c (ix1 j) :=
  (congrFun (W1_arg6 m c) _).trans (congrArg (A6 m c) (by
    funext d
    match d with
    | ⟨0, _⟩ => rfl))
theorem W1_a7 (c : Dev nD) (j : Fin 2048) : (W1 m c (Proc.devRef .tc main_arg7) (Idealize.ShloMosaic.ix1 j) : EReal) = A7 m c (ix1 j) :=
  (congrFun (W1_arg7 m c) _).trans (congrArg (A7 m c) (by
    funext d
    match d with
    | ⟨0, _⟩ => rfl))

theorem xh_at (c : Dev nD) (b : Fin 1024) (s : Fin 49) (j : Fin 2048) :
    (fun x y z w : EReal => (x * y - z) * w) (W1 m c (Proc.devRef .tc main_v2_0) (ix3 b s j)) (W1 m c (Proc.devRef .tc main_arg1) Idealize.ShloMosaic.ix0)
      (W1 m c (Proc.devRef .tc main_arg5) (Idealize.ShloMosaic.ix1 j)) (W1 m c (Proc.devRef .tc main_arg6) (Idealize.ShloMosaic.ix1 j)) = xh m c b s j := by
  have e1 : (W1 m c (Proc.devRef .tc main_arg1) Idealize.ShloMosaic.ix0 : EReal) = A1 m c :=
    (congrFun (W1_arg1 m c) _).trans (congrArg (m ((c.tc : Thread nD τ).loc main_arg1) : S_.Idx → EReal) (funext fun d => d.elim0))
  exact congrArg₂ (fun x y : EReal => x * y) (congrArg₂ (fun x y : EReal => x - y) (congrArg₂ (fun x y : EReal => x * y) (W1_x m c _) e1) (W1_a5 m c j)) (W1_a6 m c j)

/-- The gradient of the activation. -/
theorem tail_v44 (c : Dev nD) (b : Fin 1024) (s : Fin 49) (j : Fin 2048) :
    (Pipeline.afterTail₀ cfgs (dats m) 0 (V0 m) [hostOps1, hostOps1_1, hostOps1_2] c main_v44 (ix3 b s j) : EReal)
      = A6 m c (ix1 j) * A7 m c (ix1 j) * (gR m c b s j - (∑ b : Fin 1024, ∑ s : Fin 49, gR m c b s j) * Ideal.ofBits .f32 0x37A72F05#32
        - xh m c b s j * ((∑ b : Fin 1024, ∑ s : Fin 49, gR m c b s j * xh m c b s j) * Ideal.ofBits .f32 0x37A72F05#32)) := by
  unfold Pipeline.afterTail₀
  simp only [List.flatten_cons, List.flatten_nil, List.append_nil, hostOps1, hostOps1_1, hostOps1_2, List.cons_append, List.nil_append]
  after_reads_at
  refine congrArg₂ (fun x y : EReal => x * y) (congrArg₂ (fun x y : EReal => x * y) (W1_a6 m c j) (W1_a7 m c j))
    (congrArg₂ (fun x y : EReal => x - y) (congrArg₂ (fun x y : EReal => x - y) (g_at m c b s j) (congrArg (fun x : EReal => x * Ideal.ofBits .f32 0x37A72F05#32) ?_))
      (congrArg₂ (fun x y : EReal => x * y) (xh_at m c b s j) (congrArg (fun x : EReal => x * Ideal.ofBits .f32 0x37A72F05#32) ?_)))
  · unfold Ideal.hostReduceAdd
    rw [zero_add]
    refine (reduce_r3_a01 _ _ j).trans ?_
    refine Finset.sum_congr rfl fun b _ => Finset.sum_congr rfl fun s _ => ?_
    pointwise
    exact g_at m c b s j
  · unfold Ideal.hostReduceAdd
    rw [zero_add]
    refine (reduce_r3_a01 _ _ j).trans ?_
    refine Finset.sum_congr rfl fun b _ => Finset.sum_congr rfl fun s _ => ?_
    pointwise
    exact congrArg₂ (fun x y : EReal => x * y) (g_at m c b s j) (xh_at m c b s j)

end Cert.ReferenceIdeal.Hand

end
-- ==== Proof.DxEquation.lean ====
/-
  The activation's gradient of the kernel is the reference's, where every argument is finite.
-/
module

public import proofs.«01_k».proof.Proof.Gen.Pre_bounded
public import proofs.«01_k».proof.Proof.ScaleEquation
public import proofs.«01_k».proof.Proof.IdealDxOut
public import proofs.«01_k».proof.Proof.RefDx

@[expose] public section

set_option maxRecDepth 16384

noncomputable section

namespace Cert.Proof

open Idealize.SL.Sem
open Idealize.ShloMosaic hiding ix1 ix2 ix3
open Idealize.ShloMosaic.ValueIdx
open scoped BigOperators

/-- What the precondition says. -/
theorem bounded_spec {a0 : IVec Cert.Pre_bounded.S1024x49x2048 8} {a1 : FVec Ideal Cert.Pre_bounded.S_ .f32} {a2 : IVec Cert.Pre_bounded.S1024x49x2048 8}
    {a3 : FVec Ideal Cert.Pre_bounded.S_ .f32} {a4 : IVec Cert.Pre_bounded.S1024x49x256 8} {a5 a6 a7 : FVec Ideal Cert.Pre_bounded.S2048 .f32}
    (h : Cert.Pre_bounded.fn (F := Ideal) a0 a1 a2 a3 a4 a5 a6 a7 = fun _ => 1#1) (i : Cert.Pre_bounded.S_.Idx) :
    (∀ j, ∃ r : ℝ, (Ideal.ofBits FTy.fp8e4m3 (a0 j) : EReal) = r) ∧ (∀ j, ∃ r : ℝ, (Ideal.ofBits FTy.fp8e5m2 (a2 j) : EReal) = r)
      ∧ (∃ r : ℝ, (a1 i : EReal) = r) ∧ (∃ r : ℝ, (a3 i : EReal) = r) ∧ (∀ j, ∃ r : ℝ, (a5 j : EReal) = r) ∧ (∀ j, ∃ r : ℝ, (a6 j : EReal) = r)
      ∧ (∀ j, ∃ r : ℝ, (a7 j : EReal) = r) := by
  have e := congrFun h i
  have sub : Subsingleton Cert.Pre_bounded.S_.Idx := ⟨fun x y => funext fun d => d.elim0⟩
  unfold Cert.Pre_bounded.fn Cert.Pre_bounded.fn_part1 at e
  dsimp only at e
  obtain ⟨e, h7⟩ := IntOp.andi_eq_one.1 e
  obtain ⟨e, h6⟩ := IntOp.andi_eq_one.1 e
  obtain ⟨e, h5⟩ := IntOp.andi_eq_one.1 e
  obtain ⟨e, h3⟩ := IntOp.andi_eq_one.1 e
  obtain ⟨e, h1⟩ := IntOp.andi_eq_one.1 e
  obtain ⟨h0, h2⟩ := IntOp.andi_eq_one.1 e
  refine ⟨fun j => ?_, fun j => ?_, abs_real _ h1, abs_real _ h3, fun j => ?_, fun j => ?_, fun j => ?_⟩
  · exact e4m3_real _ (ne_of_cmpi _ _ (Host.reduce_andi_all _ _ _ _ i h0 j))
  · exact e5m2_real _ (ne_of_cmpi _ _ (Host.reduce_andi_all _ _ _ _ i h2 j))
  · exact abs_real _ (Host.reduce_andi_all _ _ _ _ i h5 j)
  · exact abs_real _ (Host.reduce_andi_all _ _ _ _ i h6 j)
  · exact abs_real _ (Host.reduce_andi_all _ _ _ _ i h7 j)

/-- The constant for one over the number of rows is a real number. -/
theorem im_real : ∃ r : ℝ, Cert.KernelIdeal.Hand.im = r := by
  show ∃ r : ℝ, Ideal.ieee 8 23 (0x37A72F05#32 : BitVec 32) = r
  have hn : ¬ ((0x37A72F05#32 : BitVec 32).extractLsb' 23 8).toNat = 2 ^ 8 - 1 := by decide
  unfold Ideal.ieee
  dsimp only
  rw [if_neg hn]
  split_ifs
  all_goals exact ⟨_, rfl⟩

theorem zz_zero : Cert.KernelIdeal.Hand.zz = 0 := by
  show Ideal.ofBits .f32 0#32 = 0
  simp [Ideal.ofBits, Ideal.ieee]

/-- The two forms of the activation's gradient, over real numbers. -/
theorem dx_real (t x : Fin 1024 → Fin 49 → ℝ) (ys xs mu rs ga n : ℝ) (b : Fin 1024) (s : Fin 49) :
    (rs : EReal) * (ga : EReal) * ((t b s : EReal) * (ys : EReal) - (∑ b, ∑ s, (t b s : EReal) * (ys : EReal)) * (n : EReal)
        - ((x b s : EReal) * (xs : EReal) - (mu : EReal)) * (rs : EReal)
          * ((∑ b, ∑ s, ((t b s : EReal) * (ys : EReal)) * (((x b s : EReal) * (xs : EReal) - (mu : EReal)) * (rs : EReal))) * (n : EReal)))
      = (rs : EReal) * (ga : EReal) * (ys : EReal) * (t b s : EReal)
        + ((0 - (rs : EReal) * (ga : EReal) * (rs : EReal))
              * (((∑ b, ∑ s, (t b s : EReal) * (x b s : EReal)) * (ys : EReal) * (xs : EReal) - (mu : EReal) * ((∑ b, ∑ s, (t b s : EReal)) * (ys : EReal))) * (rs : EReal) * (n : EReal)) * (xs : EReal)
            * (x b s : EReal)
          + ((0 - (rs : EReal) * (ga : EReal)) * ((∑ b, ∑ s, (t b s : EReal)) * (ys : EReal) * (n : EReal))
            - (0 - (rs : EReal) * (ga : EReal) * (rs : EReal))
              * (((∑ b, ∑ s, (t b s : EReal) * (x b s : EReal)) * (ys : EReal) * (xs : EReal) - (mu : EReal) * ((∑ b, ∑ s, (t b s : EReal)) * (ys : EReal))) * (rs : EReal) * (n : EReal))
              * (mu : EReal))) := by
  rw [dgamma_real, ← EReal.coe_zero]
  simp only [← EReal.coe_mul, ← EReal.coe_sub, ← EReal.coe_add, coe_sum]
  refine congrArg _ ?_
  simp only [← Finset.sum_mul]
  ring

/-- The same, over values that are these real numbers. -/
theorem dx_gen (T X G H : Fin 1024 → Fin 49 → EReal) (a1 a3 a5 a6 a7 r6 r7 k z : EReal) (t x : Fin 1024 → Fin 49 → ℝ) (ys xs mu rs ga n : ℝ)
    (hT : ∀ b s, T b s = t b s) (hX : ∀ b s, X b s = x b s) (hG : ∀ b s, G b s = (t b s : EReal) * (ys : EReal))
    (hH : ∀ b s, H b s = ((x b s : EReal) * (xs : EReal) - (mu : EReal)) * (rs : EReal)) (h1 : a1 = xs) (h3 : a3 = ys) (h5 : a5 = mu) (h6 : a6 = rs) (h7 : a7 = ga)
    (g6 : r6 = a6) (g7 : r7 = a7) (hk : k = n) (hz : z = 0) (b : Fin 1024) (s : Fin 49) :
    r6 * r7 * (G b s - (∑ b, ∑ s, G b s) * k - H b s * ((∑ b, ∑ s, G b s * H b s) * k))
      = a6 * a7 * a3 * T b s
        + ((z - a6 * a7 * a6) * (((∑ b, ∑ s, T b s * X b s) * a3 * a1 - a5 * ((∑ b, ∑ s, T b s) * a3)) * a6 * k) * a1 * X b s
          + ((z - a6 * a7) * ((∑ b, ∑ s, T b s) * a3 * k)
            - (z - a6 * a7 * a6) * (((∑ b, ∑ s, T b s * X b s) * a3 * a1 - a5 * ((∑ b, ∑ s, T b s) * a3)) * a6 * k) * a5)) := by
  subst g6 g7
  rw [h1, h3, h5, h6, h7, hk, hz]
  simp only [hT, hX, hG, hH]
  exact dx_real t x ys xs mu rs ga n b s

/-- The two results agree. -/
theorem dx_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD) (h0 : Cert.ReferenceIdeal.Hand.A0 m' c = Cert.KernelIdeal.Hand.A0 m c)
    (h1 : Cert.ReferenceIdeal.Hand.A1 m' c = Cert.KernelIdeal.Hand.A1 m c) (h2 : Cert.ReferenceIdeal.Hand.A2 m' c = Cert.KernelIdeal.Hand.A2 m c)
    (h3 : Cert.ReferenceIdeal.Hand.A3 m' c = Cert.KernelIdeal.Hand.A3 m c) (h4 : Cert.ReferenceIdeal.Hand.A4 m' c = Cert.KernelIdeal.Hand.A4 m c)
    (h5 : Cert.ReferenceIdeal.Hand.A5 m' c = Cert.KernelIdeal.Hand.A5 m c) (h6 : Cert.ReferenceIdeal.Hand.A6 m' c = Cert.KernelIdeal.Hand.A6 m c)
    (h7 : Cert.ReferenceIdeal.Hand.A7 m' c = Cert.KernelIdeal.Hand.A7 m c)
    (f0 : ∀ j, ∃ r : ℝ, (Ideal.ofBits FTy.fp8e4m3 (Cert.KernelIdeal.Hand.A0 m c j) : EReal) = r)
    (f2 : ∀ j, ∃ r : ℝ, (Ideal.ofBits FTy.fp8e5m2 (Cert.KernelIdeal.Hand.A2 m c j) : EReal) = r)
    (f1 : ∃ r : ℝ, Cert.KernelIdeal.Hand.A1 m c = r) (f3 : ∃ r : ℝ, Cert.KernelIdeal.Hand.A3 m c = r)
    (f5 : ∀ j, ∃ r : ℝ, Cert.KernelIdeal.Hand.A5 m c j = r) (f6 : ∀ j, ∃ r : ℝ, Cert.KernelIdeal.Hand.A6 m c j = r)
    (f7 : ∀ j, ∃ r : ℝ, Cert.KernelIdeal.Hand.A7 m c j = r) (b : Fin 1024) (s : Fin 49) (j : Fin 2048) :
    (Pipeline.afterTail₀ Cert.ReferenceIdeal.cfgs (Cert.ReferenceIdeal.Gen.dats m') 0 (Cert.ReferenceIdeal.Gen.V0 m')
        [Cert.ReferenceIdeal.Gen.hostOps1, Cert.ReferenceIdeal.Gen.hostOps1_1, Cert.ReferenceIdeal.Gen.hostOps1_2] c Cert.ReferenceIdeal.main_v44 (ix3 b s j) : EReal)
      = (Cert.KernelIdeal.Hand.WW m c (Proc.devRef .tc Cert.KernelIdeal.main_v15) (ix3 b s j) : EReal) := by
  obtain ⟨xs, f1⟩ := f1
  obtain ⟨ys, f3⟩ := f3
  obtain ⟨mu, f5⟩ := f5 (ix1 j)
  obtain ⟨rs, f6⟩ := f6 (ix1 j)
  obtain ⟨ga, f7⟩ := f7 (ix1 j)
  obtain ⟨n, fn⟩ := im_real
  choose xf f0 using f0
  choose yf f2 using f2
  have ht : ∀ b s, Cert.KernelIdeal.Hand.tb m c b s j
      = ((if (Cert.KernelIdeal.Hand.A4 m c (ix3 b s (⟨j.val / 8, by omega⟩ : Fin 256))).getLsbD (j.val % 8) then yf (ix3 b s j) else 0 : ℝ) : EReal) := fun b s => by
    unfold Cert.KernelIdeal.Hand.tb
    split_ifs
    · exact f2 _
    · exact EReal.coe_zero.symm
  have hx : ∀ b s, Cert.KernelIdeal.Hand.xb m c b s j = ((xf (ix3 b s j) : ℝ) : EReal) := fun b s => f0 _
  have hg : ∀ b s, Cert.ReferenceIdeal.Hand.gR m' c b s j
      = ((if (Cert.KernelIdeal.Hand.A4 m c (ix3 b s (⟨j.val / 8, by omega⟩ : Fin 256))).getLsbD (j.val % 8) then yf (ix3 b s j) else 0 : ℝ) : EReal) * (ys : EReal) := fun b s => by
    unfold Cert.ReferenceIdeal.Hand.gR
    rw [h2, h3, h4, f3]
    split_ifs
    · rw [f2]
    · rw [EReal.coe_zero, zero_mul]
  have hh : ∀ b s, Cert.ReferenceIdeal.Hand.xh m' c b s j = (((xf (ix3 b s j) : ℝ) : EReal) * (xs : EReal) - (mu : EReal)) * (rs : EReal) := fun b s => by
    unfold Cert.ReferenceIdeal.Hand.xh
    rw [h0, h1, h5, h6, f0, f1, f5, f6]
  exact (Cert.ReferenceIdeal.Hand.tail_v44 m' c b s j).trans ((dx_gen (Cert.KernelIdeal.Hand.tb m c · · j) (Cert.KernelIdeal.Hand.xb m c · · j)
    (Cert.ReferenceIdeal.Hand.gR m' c · · j) (Cert.ReferenceIdeal.Hand.xh m' c · · j) _ _ _ _ _ _ _ _ _ _ _ ys xs mu rs ga n ht hx hg hh f1 f3 f5 f6 f7
    (congrFun h6 _) (congrFun h7 _) fn zz_zero b s).trans (Cert.KernelIdeal.Hand.WW_dx m c b s j).symm)

end Cert.Proof

end
-- ==== Proof.lean ====
/-
  The claims about the fused batch-norm and rectifier backward kernel: the kernel, its reading over the extended reals
  and the reference each run to the end without a fault, leave every argument as it was and every semaphore at zero;
  the ideal program is the kernel's own; and the kernel's three results, the gradients of the activation, of the scale and of the shift, are the reference's.
-/
module

public import proofs.«01_k».proof.Defs
public import proofs.«01_k».proof.Proof.Gen.Kernel
public import proofs.«01_k».proof.Proof.Gen.KernelIdeal
public import proofs.«01_k».proof.Proof.Gen.Pre_scaled
public import proofs.«01_k».proof.Proof.Gen.Pre_finite
public import proofs.«01_k».proof.Proof.Gen.Pre_bounded
public import proofs.«01_k».proof.Proof.Gen.On_only_dbeta
public import proofs.«01_k».proof.Proof.Gen.On_only_dgamma
public import proofs.«01_k».proof.Proof.Gen.On_only_dx
public import proofs.«01_k».proof.Proof.Gen.ReferenceIdeal
public import proofs.«01_k».proof.Proof.Gen.ReferenceIdeal.Frame
public import proofs.«01_k».proof.Proof.Run
public import proofs.«01_k».proof.Proof.IdealRun
public import proofs.«01_k».proof.Proof.Equation
public import proofs.«01_k».proof.Proof.ScaleEquation
public import proofs.«01_k».proof.Proof.DxEquation

@[expose] public section

noncomputable section

namespace Cert.Proof

open Idealize.ShloMosaic Idealize.SL.Sem

set_option maxHeartbeats 1600000 in
/-- The gradient of the shift is the reference's; the mask names no element of the other two results. -/
theorem dbeta : Cert.algebraic_KernelIdeal_ReferenceIdeal_on_only_dbeta_pre_scaled (hKernelIdeal := Cert.KernelIdeal.Gen.facts)
    (hReferenceIdeal := Cert.ReferenceIdeal.Gen.facts) (hPre_scaled := Cert.Pre_scaled.Gen.facts) (hOn_only_dbeta := Cert.On_only_dbeta.Gen.facts) := by
  intro m g m' g' hpre hargs
  refine ⟨fun c => m _, fun c => m _, fun c => Cert.KernelIdeal.Hand.WW m c (Proc.devRef .tc Cert.KernelIdeal.main_v17), ?_, ?_⟩
  · refine (θ_run _ _ _).mono ?_ (θ_run_and (Cert.KernelIdeal.Hand.frame_main m g) (Cert.KernelIdeal.Hand.run_main m g))
    intro r h c
    refine ⟨fun i hi => ?_, fun i hi => ?_, fun i hi => ?_, h.1.1 c⟩
    · exact absurd (show (0#1 : BitVec 1) = 1#1 from hi) (by decide)
    · exact absurd (show (0#1 : BitVec 1) = 1#1 from hi) (by decide)
    · exact congrFun (h.2.1 c Cert.KernelIdeal.main_v17 (Pipeline.mem_restRefs_of Cert.KernelIdeal.main_v17 (by decide) (by decide))) i
  · refine (θ_run _ _ _).mono ?_ (θ_run_and (Cert.ReferenceIdeal.Gen.unchanged m' g') (Cert.ReferenceIdeal.Gen.run_main m' g'))
    intro r h c
    refine ⟨fun i hi => ?_, fun i hi => ?_, fun i hi => ?_, h.1 c⟩
    · exact absurd (show (0#1 : BitVec 1) = 1#1 from hi) (by decide)
    · exact absurd (show (0#1 : BitVec 1) = 1#1 from hi) (by decide)
    · have hs := scaled_spec (hpre c) (fun d => d.elim0)
      have ha := hargs c
      have e := congrFun ((h.2 c).2 Cert.ReferenceIdeal.main_v26 (Pipeline.mem_restRefs_of Cert.ReferenceIdeal.main_v26 (by decide) (by decide))) i
      have hi1 : i = ValueIdx.ix1 (i 0) := by
        funext d
        match d with
        | ⟨0, _⟩ => rfl
      refine e.trans ?_
      rw [hi1]
      exact dbeta_eq m m' c ha.2.2.1 (congrFun ha.2.2.2.1 _) ha.2.2.2.2.1 hs.1 hs.2 (i 0)

set_option maxHeartbeats 1600000 in
/-- The gradient of the scale is the reference's; the mask names no element of the other two results. -/
theorem dgamma : Cert.algebraic_KernelIdeal_ReferenceIdeal_on_only_dgamma_pre_finite (hKernelIdeal := Cert.KernelIdeal.Gen.facts)
    (hReferenceIdeal := Cert.ReferenceIdeal.Gen.facts) (hPre_finite := Cert.Pre_finite.Gen.facts) (hOn_only_dgamma := Cert.On_only_dgamma.Gen.facts) := by
  intro m g m' g' hpre hargs
  refine ⟨fun c => m _, fun c => Cert.KernelIdeal.Hand.WW m c (Proc.devRef .tc Cert.KernelIdeal.main_v16), fun c => m _, ?_, ?_⟩
  · refine (θ_run _ _ _).mono ?_ (θ_run_and (Cert.KernelIdeal.Hand.frame_main m g) (Cert.KernelIdeal.Hand.run_main m g))
    intro r h c
    refine ⟨fun i hi => ?_, fun i hi => ?_, fun i hi => ?_, h.1.1 c⟩
    · exact absurd (show (0#1 : BitVec 1) = 1#1 from hi) (by decide)
    · exact congrFun (h.2.1 c Cert.KernelIdeal.main_v16 (Pipeline.mem_restRefs_of Cert.KernelIdeal.main_v16 (by decide) (by decide))) i
    · exact absurd (show (0#1 : BitVec 1) = 1#1 from hi) (by decide)
  · refine (θ_run _ _ _).mono ?_ (θ_run_and (Cert.ReferenceIdeal.Gen.unchanged m' g') (Cert.ReferenceIdeal.Gen.run_main m' g'))
    intro r h c
    refine ⟨fun i hi => ?_, fun i hi => ?_, fun i hi => ?_, h.1 c⟩
    · exact absurd (show (0#1 : BitVec 1) = 1#1 from hi) (by decide)
    · have hf := finite_spec (hpre c) (fun d => d.elim0)
      have ha := hargs c
      have e := congrFun ((h.2 c).2 Cert.ReferenceIdeal.main_v28 (Pipeline.mem_restRefs_of Cert.ReferenceIdeal.main_v28 (by decide) (by decide))) i
      have hi1 : i = ValueIdx.ix1 (i 0) := by
        funext d
        match d with
        | ⟨0, _⟩ => rfl
      refine e.trans ?_
      rw [hi1]
      exact dgamma_eq m m' c ha.1 (congrFun ha.2.1 _) ha.2.2.1 (congrFun ha.2.2.2.1 _) ha.2.2.2.2.1 ha.2.2.2.2.2.1 ha.2.2.2.2.2.2.1
        hf.1 hf.2.1 hf.2.2.1 hf.2.2.2.1 hf.2.2.2.2.1 hf.2.2.2.2.2 (i 0)
    · exact absurd (show (0#1 : BitVec 1) = 1#1 from hi) (by decide)

set_option maxHeartbeats 1600000 in
/-- The gradient of the activation is the reference's; the mask names no element of the other two results. -/
theorem dx : Cert.algebraic_KernelIdeal_ReferenceIdeal_on_only_dx_pre_bounded (hKernelIdeal := Cert.KernelIdeal.Gen.facts)
    (hReferenceIdeal := Cert.ReferenceIdeal.Gen.facts) (hPre_bounded := Cert.Pre_bounded.Gen.facts) (hOn_only_dx := Cert.On_only_dx.Gen.facts) := by
  intro m g m' g' hpre hargs
  refine ⟨fun c => Cert.KernelIdeal.Hand.WW m c (Proc.devRef .tc Cert.KernelIdeal.main_v15), fun c => m _, fun c => m _, ?_, ?_⟩
  · refine (θ_run _ _ _).mono ?_ (θ_run_and (Cert.KernelIdeal.Hand.frame_main m g) (Cert.KernelIdeal.Hand.run_main m g))
    intro r h c
    refine ⟨fun i hi => ?_, fun i hi => ?_, fun i hi => ?_, h.1.1 c⟩
    · exact congrFun (h.2.1 c Cert.KernelIdeal.main_v15 (Pipeline.mem_restRefs_of Cert.KernelIdeal.main_v15 (by decide) (by decide))) i
    · exact absurd (show (0#1 : BitVec 1) = 1#1 from hi) (by decide)
    · exact absurd (show (0#1 : BitVec 1) = 1#1 from hi) (by decide)
  · refine (θ_run _ _ _).mono ?_ (θ_run_and (Cert.ReferenceIdeal.Gen.unchanged m' g') (Cert.ReferenceIdeal.Gen.run_main m' g'))
    intro r h c
    refine ⟨fun i hi => ?_, fun i hi => ?_, fun i hi => ?_, h.1 c⟩
    · have hf := bounded_spec (hpre c) (fun d => d.elim0)
      have ha := hargs c
      have e := congrFun ((h.2 c).2 Cert.ReferenceIdeal.main_v44 (Pipeline.mem_restRefs_of Cert.ReferenceIdeal.main_v44 (by decide) (by decide))) i
      have hi1 : i = ValueIdx.ix3 (i 0) (i 1) (i 2) := by
        funext d
        match d with
        | ⟨0, _⟩ => rfl
        | ⟨1, _⟩ => rfl
        | ⟨2, _⟩ => rfl
      refine e.trans ?_
      rw [hi1]
      exact dx_eq m m' c ha.1 (congrFun ha.2.1 _) ha.2.2.1 (congrFun ha.2.2.2.1 _) ha.2.2.2.2.1 ha.2.2.2.2.2.1 ha.2.2.2.2.2.2.1 ha.2.2.2.2.2.2.2
        hf.1 hf.2.1 hf.2.2.1 hf.2.2.2.1 hf.2.2.2.2.1 hf.2.2.2.2.2.1 hf.2.2.2.2.2.2 (i 0) (i 1) (i 2)
    · exact absurd (show (0#1 : BitVec 1) = 1#1 from hi) (by decide)
    · exact absurd (show (0#1 : BitVec 1) = 1#1 from hi) (by decide)

/-- Every claim of the certificate. -/
theorem claim : Cert.Claim := ⟨Cert.Kernel.Gen.facts, Cert.KernelIdeal.Gen.facts, Cert.ReferenceIdeal.Gen.facts, Cert.Pre_scaled.Gen.facts, Cert.Pre_finite.Gen.facts,
  Cert.Pre_bounded.Gen.facts, Cert.On_only_dbeta.Gen.facts, Cert.On_only_dgamma.Gen.facts, Cert.On_only_dx.Gen.facts,
  fun m g _ => Cert.Kernel.Hand.frame_main m g, fun m g _ => Cert.KernelIdeal.Hand.frame_main m g, fun m g _ => Cert.KernelIdeal.Hand.frame_main m g, fun m g _ => Cert.KernelIdeal.Hand.frame_main m g,
  fun m g _ => Cert.KernelIdeal.Hand.frame_main m g,
  fun m g _ => Cert.ReferenceIdeal.Gen.frame m g, fun m g _ => Cert.ReferenceIdeal.Gen.frame m g, fun m g _ => Cert.ReferenceIdeal.Gen.frame m g, fun m g _ => Cert.ReferenceIdeal.Gen.frame m g,
  trivial, dbeta, dgamma, dx⟩

end Cert.Proof

end
